-- ==== Defs.lean ====
def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsReferenceIdeal (m : (ℓ : Loc Cert.WeightsReferenceIdeal.nD Cert.WeightsReferenceIdeal.τ Cert.WeightsReferenceIdeal.sig) → Buf (Elt Ideal) ℓ) : Prop :=
  True

def Pre_WeightsReference (m : (ℓ : Loc Cert.WeightsReference.nD Cert.WeightsReference.τ Cert.WeightsReference.sig) → Buf (Elt Bits) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_ConvReference (m : (ℓ : Loc Cert.ConvReference.nD Cert.ConvReference.τ Cert.ConvReference.sig) → Buf (Elt Bits) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_SmallReference (m : (ℓ : Loc Cert.SmallReference.nD Cert.SmallReference.τ Cert.SmallReference.sig) → Buf (Elt Bits) ℓ) : Prop :=
  True

def Pre_Sibling (m : (ℓ : Loc Cert.Sibling.nD Cert.Sibling.τ Cert.Sibling.sig) → Buf (Elt Bits) ℓ) : Prop :=
  True

def Pre_SiblingIdeal (m : (ℓ : Loc Cert.SiblingIdeal.nD Cert.SiblingIdeal.τ Cert.SiblingIdeal.sig) → Buf (Elt Ideal) ℓ) : Prop :=
  True

def Pre_SiblingReferenceIdeal (m : (ℓ : Loc Cert.SiblingReferenceIdeal.nD Cert.SiblingReferenceIdeal.τ Cert.SiblingReferenceIdeal.sig) → Buf (Elt Ideal) ℓ) : Prop :=
  True

def Pre_SiblingReference (m : (ℓ : Loc Cert.SiblingReference.nD Cert.SiblingReference.τ Cert.SiblingReference.sig) → Buf (Elt Bits) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsReferenceIdeal (m : (ℓ : Loc Cert.ChipsReferenceIdeal.nD Cert.ChipsReferenceIdeal.τ Cert.ChipsReferenceIdeal.sig) → Buf (Elt Ideal) ℓ) : Prop :=
  True

def Pre_ChipsReference (m : (ℓ : Loc Cert.ChipsReference.nD Cert.ChipsReference.τ Cert.ChipsReference.sig) → Buf (Elt Bits) ℓ) : Prop :=
  True

def Pre_Pieces (m : (ℓ : Loc Cert.Pieces.nD Cert.Pieces.τ Cert.Pieces.sig) → Buf (Elt Bits) ℓ) : Prop :=
  True

def Pre_PiecesIdeal (m : (ℓ : Loc Cert.PiecesIdeal.nD Cert.PiecesIdeal.τ Cert.PiecesIdeal.sig) → Buf (Elt Ideal) ℓ) : Prop :=
  True

def Pre_PiecesReferenceIdeal (m : (ℓ : Loc Cert.PiecesReferenceIdeal.nD Cert.PiecesReferenceIdeal.τ Cert.PiecesReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamConvA (m : (ℓ : Loc Cert.AdamConvA.nD Cert.AdamConvA.τ Cert.AdamConvA.sig) → Buf (Elt Bits) ℓ) : Prop :=
  True

def Pre_AdamConvAIdeal (m : (ℓ : Loc Cert.AdamConvAIdeal.nD Cert.AdamConvAIdeal.τ Cert.AdamConvAIdeal.sig) → Buf (Elt Ideal) ℓ) : Prop :=
  True

def Pre_AdamConvAReferenceIdeal (m : (ℓ : Loc Cert.AdamConvAReferenceIdeal.nD Cert.AdamConvAReferenceIdeal.τ Cert.AdamConvAReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamSsmConv (m : (ℓ : Loc Cert.AdamSsmConv.nD Cert.AdamSsmConv.τ Cert.AdamSsmConv.sig) → Buf (Elt Bits) ℓ) : Prop :=
  True

def Pre_AdamSsmConvIdeal (m : (ℓ : Loc Cert.AdamSsmConvIdeal.nD Cert.AdamSsmConvIdeal.τ Cert.AdamSsmConvIdeal.sig) → Buf (Elt Ideal) ℓ) : Prop :=
  True

def Pre_AdamSsmConvReferenceIdeal (m : (ℓ : Loc Cert.AdamSsmConvReferenceIdeal.nD Cert.AdamSsmConvReferenceIdeal.τ Cert.AdamSsmConvReferenceIdeal.sig) → Buf (Elt Ideal) ℓ) : Prop :=
  True

def Pre_AdamBOut (m : (ℓ : Loc Cert.AdamBOut.nD Cert.AdamBOut.τ Cert.AdamBOut.sig) → Buf (Elt Bits) ℓ) : Prop :=
  True

def Pre_AdamBOutIdeal (m : (ℓ : Loc Cert.AdamBOutIdeal.nD Cert.AdamBOutIdeal.τ Cert.AdamBOutIdeal.sig) → Buf (Elt Ideal) ℓ) : Prop :=
  True

def Pre_AdamBOutReferenceIdeal (m : (ℓ : Loc Cert.AdamBOutReferenceIdeal.nD Cert.AdamBOutReferenceIdeal.τ Cert.AdamBOutReferenceIdeal.sig) → Buf (Elt Ideal) ℓ) : Prop :=
  True

def Pre_AdamGateUp (m : (ℓ : Loc Cert.AdamGateUp.nD Cert.AdamGateUp.τ Cert.AdamGateUp.sig) → Buf (Elt Bits) ℓ) : Prop :=
  True

def Pre_AdamGateUpIdeal (m : (ℓ : Loc Cert.AdamGateUpIdeal.nD Cert.AdamGateUpIdeal.τ Cert.AdamGateUpIdeal.sig) → Buf (Elt Ideal) ℓ) : Prop :=
  True

def Pre_AdamGateUpReferenceIdeal (m : (ℓ : Loc Cert.AdamGateUpReferenceIdeal.nD Cert.AdamGateUpReferenceIdeal.τ Cert.AdamGateUpReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamPle (m : (ℓ : Loc Cert.AdamPle.nD Cert.AdamPle.τ Cert.AdamPle.sig) → Buf (Elt Bits) ℓ) : Prop :=
  True

def Pre_AdamPleIdeal (m : (ℓ : Loc Cert.AdamPleIdeal.nD Cert.AdamPleIdeal.τ Cert.AdamPleIdeal.sig) → Buf (Elt Ideal) ℓ) : Prop :=
  True

def Pre_AdamPleReferenceIdeal (m : (ℓ : Loc Cert.AdamPleReferenceIdeal.nD Cert.AdamPleReferenceIdeal.τ Cert.AdamPleReferenceIdeal.sig) → Buf (Elt Ideal) ℓ) : Prop :=
  True

def Pre_AdamSmalls (m : (ℓ : Loc Cert.AdamSmalls.nD Cert.AdamSmalls.τ Cert.AdamSmalls.sig) → Buf (Elt Bits) ℓ) : Prop :=
  True

def Pre_AdamSmallsIdeal (m : (ℓ : Loc Cert.AdamSmallsIdeal.nD Cert.AdamSmallsIdeal.τ Cert.AdamSmallsIdeal.sig) → Buf (Elt Ideal) ℓ) : Prop :=
  True

def Pre_AdamSmallsReferenceIdeal (m : (ℓ : Loc Cert.AdamSmallsReferenceIdeal.nD Cert.AdamSmallsReferenceIdeal.τ Cert.AdamSmallsReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXReferenceIdeal (m : (ℓ : Loc Cert.GradXReferenceIdeal.nD Cert.GradXReferenceIdeal.τ Cert.GradXReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_DtProj (m : (ℓ : Loc Cert.DtProj.nD Cert.DtProj.τ Cert.DtProj.sig) → Buf (Elt Bits) ℓ) : Prop :=
  True

def Pre_DtProjIdeal (m : (ℓ : Loc Cert.DtProjIdeal.nD Cert.DtProjIdeal.τ Cert.DtProjIdeal.sig) → Buf (Elt Ideal) ℓ) : Prop :=
  True

def Pre_DtProjReferenceIdeal (m : (ℓ : Loc Cert.DtProjReferenceIdeal.nD Cert.DtProjReferenceIdeal.τ Cert.DtProjReferenceIdeal.sig) → Buf (Elt Ideal) ℓ) : Prop :=
  True

def Pre_AOut (m : (ℓ : Loc Cert.AOut.nD Cert.AOut.τ Cert.AOut.sig) → Buf (Elt Bits) ℓ) : Prop :=
  True

def Pre_AOutIdeal (m : (ℓ : Loc Cert.AOutIdeal.nD Cert.AOutIdeal.τ Cert.AOutIdeal.sig) → Buf (Elt Ideal) ℓ) : Prop :=
  True

def Pre_AOutReferenceIdeal (m : (ℓ : Loc Cert.AOutReferenceIdeal.nD Cert.AOutReferenceIdeal.τ Cert.AOutReferenceIdeal.sig) → Buf (Elt Ideal) ℓ) : Prop :=
  True

def Pre_BOut (m : (ℓ : Loc Cert.BOut.nD Cert.BOut.τ Cert.BOut.sig) → Buf (Elt Bits) ℓ) : Prop :=
  True

def Pre_BOutIdeal (m : (ℓ : Loc Cert.BOutIdeal.nD Cert.BOutIdeal.τ Cert.BOutIdeal.sig) → Buf (Elt Ideal) ℓ) : Prop :=
  True

def Pre_BOutReferenceIdeal (m : (ℓ : Loc Cert.BOutReferenceIdeal.nD Cert.BOutReferenceIdeal.τ Cert.BOutReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_GateX (m : (ℓ : Loc Cert.GateX.nD Cert.GateX.τ Cert.GateX.sig) → Buf (Elt Bits) ℓ) : Prop :=
  True

def Pre_GateXIdeal (m : (ℓ : Loc Cert.GateXIdeal.nD Cert.GateXIdeal.τ Cert.GateXIdeal.sig) → Buf (Elt Ideal) ℓ) : Prop :=
  True

def Pre_GateXReferenceIdeal (m : (ℓ : Loc Cert.GateXReferenceIdeal.nD Cert.GateXReferenceIdeal.τ Cert.GateXReferenceIdeal.sig) → Buf (Elt Ideal) ℓ) : Prop :=
  True

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXReferenceIdeal (m : (ℓ : Loc Cert.DownXReferenceIdeal.nD Cert.DownXReferenceIdeal.τ Cert.DownXReferenceIdeal.sig) → Buf (Elt Ideal) ℓ) : Prop :=
  True

def Pre_GateUpX (m : (ℓ : Loc Cert.GateUpX.nD Cert.GateUpX.τ Cert.GateUpX.sig) → Buf (Elt Bits) ℓ) : Prop :=
  True

def Pre_GateUpXIdeal (m : (ℓ : Loc Cert.GateUpXIdeal.nD Cert.GateUpXIdeal.τ Cert.GateUpXIdeal.sig) → Buf (Elt Ideal) ℓ) : Prop :=
  True

def Pre_GateUpXReferenceIdeal (m : (ℓ : Loc Cert.GateUpXReferenceIdeal.nD Cert.GateUpXReferenceIdeal.τ Cert.GateUpXReferenceIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXReferenceIdeal (m : (ℓ : Loc Cert.OutXReferenceIdeal.nD Cert.OutXReferenceIdeal.τ Cert.OutXReferenceIdeal.sig) → Buf (Elt Ideal) ℓ) : Prop :=
  True

def Pre_BOutX (m : (ℓ : Loc Cert.BOutX.nD Cert.BOutX.τ Cert.BOutX.sig) → Buf (Elt Bits) ℓ) : Prop :=
  True

def Pre_BOutXIdeal (m : (ℓ : Loc Cert.BOutXIdeal.nD Cert.BOutXIdeal.τ Cert.BOutXIdeal.sig) → Buf (Elt Ideal) ℓ) : Prop :=
  True

def Pre_BOutXReferenceIdeal (m : (ℓ : Loc Cert.BOutXReferenceIdeal.nD Cert.BOutXReferenceIdeal.τ Cert.BOutXReferenceIdeal.sig) → Buf (Elt Ideal) ℓ) : Prop :=
  True

def Pre_GateW (m : (ℓ : Loc Cert.GateW.nD Cert.GateW.τ Cert.GateW.sig) → Buf (Elt Bits) ℓ) : Prop :=
  True

def Pre_GateWIdeal (m : (ℓ : Loc Cert.GateWIdeal.nD Cert.GateWIdeal.τ Cert.GateWIdeal.sig) → Buf (Elt Ideal) ℓ) : Prop :=
  True

def Pre_GateWReferenceIdeal (m : (ℓ : Loc Cert.GateWReferenceIdeal.nD Cert.GateWReferenceIdeal.τ Cert.GateWReferenceIdeal.sig) → Buf (Elt Ideal) ℓ) : Prop :=
  True

def Pre_PleW (m : (ℓ : Loc Cert.PleW.nD Cert.PleW.τ Cert.PleW.sig) → Buf (Elt Bits) ℓ) : Prop :=
  True

def Pre_PleWIdeal (m : (ℓ : Loc Cert.PleWIdeal.nD Cert.PleWIdeal.τ Cert.PleWIdeal.sig) → Buf (Elt Ideal) ℓ) : Prop :=
  True

def Pre_PleWReferenceIdeal (m : (ℓ : Loc Cert.PleWReferenceIdeal.nD Cert.PleWReferenceIdeal.τ Cert.PleWReferenceIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWReferenceIdeal (m : (ℓ : Loc Cert.DownWReferenceIdeal.nD Cert.DownWReferenceIdeal.τ Cert.DownWReferenceIdeal.sig) → Buf (Elt Ideal) ℓ) : Prop :=
  True

def Pre_GateUpW (m : (ℓ : Loc Cert.GateUpW.nD Cert.GateUpW.τ Cert.GateUpW.sig) → Buf (Elt Bits) ℓ) : Prop :=
  True

def Pre_GateUpWIdeal (m : (ℓ : Loc Cert.GateUpWIdeal.nD Cert.GateUpWIdeal.τ Cert.GateUpWIdeal.sig) → Buf (Elt Ideal) ℓ) : Prop :=
  True

def Pre_GateUpWReferenceIdeal (m : (ℓ : Loc Cert.GateUpWReferenceIdeal.nD Cert.GateUpWReferenceIdeal.τ Cert.GateUpWReferenceIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWReferenceIdeal (m : (ℓ : Loc Cert.OutWReferenceIdeal.nD Cert.OutWReferenceIdeal.τ Cert.OutWReferenceIdeal.sig) → Buf (Elt Ideal) ℓ) : Prop :=
  True

def Pre_BOutW (m : (ℓ : Loc Cert.BOutW.nD Cert.BOutW.τ Cert.BOutW.sig) → Buf (Elt Bits) ℓ) : Prop :=
  True

def Pre_BOutWIdeal (m : (ℓ : Loc Cert.BOutWIdeal.nD Cert.BOutWIdeal.τ Cert.BOutWIdeal.sig) → Buf (Elt Ideal) ℓ) : Prop :=
  True

def Pre_BOutWReferenceIdeal (m : (ℓ : Loc Cert.BOutWReferenceIdeal.nD Cert.BOutWReferenceIdeal.τ Cert.BOutWReferenceIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWReferenceIdeal (m : (ℓ : Loc Cert.InWReferenceIdeal.nD Cert.InWReferenceIdeal.τ Cert.InWReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_LnSilu (m : (ℓ : Loc Cert.LnSilu.nD Cert.LnSilu.τ Cert.LnSilu.sig) → Buf (Elt Bits) ℓ) : Prop :=
  True

def Pre_LnSiluIdeal (m : (ℓ : Loc Cert.LnSiluIdeal.nD Cert.LnSiluIdeal.τ Cert.LnSiluIdeal.sig) → Buf (Elt Ideal) ℓ) : Prop :=
  True

def Pre_LnSiluReferenceIdeal (m : (ℓ : Loc Cert.LnSiluReferenceIdeal.nD Cert.LnSiluReferenceIdeal.τ Cert.LnSiluReferenceIdeal.sig) → Buf (Elt Ideal) ℓ) : Prop :=
  True

def Pre_GNorm (m : (ℓ : Loc Cert.GNorm.nD Cert.GNorm.τ Cert.GNorm.sig) → Buf (Elt Bits) ℓ) : Prop :=
  True

def Pre_GNormIdeal (m : (ℓ : Loc Cert.GNormIdeal.nD Cert.GNormIdeal.τ Cert.GNormIdeal.sig) → Buf (Elt Ideal) ℓ) : Prop :=
  True

def Pre_GNormReferenceIdeal (m : (ℓ : Loc Cert.GNormReferenceIdeal.nD Cert.GNormReferenceIdeal.τ Cert.GNormReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_ResLn (m : (ℓ : Loc Cert.ResLn.nD Cert.ResLn.τ Cert.ResLn.sig) → Buf (Elt Bits) ℓ) : Prop :=
  True

def Pre_ResLnIdeal (m : (ℓ : Loc Cert.ResLnIdeal.nD Cert.ResLnIdeal.τ Cert.ResLnIdeal.sig) → Buf (Elt Ideal) ℓ) : Prop :=
  True

def Pre_ResLnReferenceIdeal (m : (ℓ : Loc Cert.ResLnReferenceIdeal.nD Cert.ResLnReferenceIdeal.τ Cert.ResLnReferenceIdeal.sig) → Buf (Elt Ideal) ℓ) : Prop :=
  True

def Pre_SwiGlu (m : (ℓ : Loc Cert.SwiGlu.nD Cert.SwiGlu.τ Cert.SwiGlu.sig) → Buf (Elt Bits) ℓ) : Prop :=
  True

def Pre_SwiGluIdeal (m : (ℓ : Loc Cert.SwiGluIdeal.nD Cert.SwiGluIdeal.τ Cert.SwiGluIdeal.sig) → Buf (Elt Ideal) ℓ) : Prop :=
  True

def Pre_SwiGluReferenceIdeal (m : (ℓ : Loc Cert.SwiGluReferenceIdeal.nD Cert.SwiGluReferenceIdeal.τ Cert.SwiGluReferenceIdeal.sig) → Buf (Elt Ideal) ℓ) : Prop :=
  True

def Pre_PleOut (m : (ℓ : Loc Cert.PleOut.nD Cert.PleOut.τ Cert.PleOut.sig) → Buf (Elt Bits) ℓ) : Prop :=
  True

def Pre_PleOutIdeal (m : (ℓ : Loc Cert.PleOutIdeal.nD Cert.PleOutIdeal.τ Cert.PleOutIdeal.sig) → Buf (Elt Ideal) ℓ) : Prop :=
  True

def Pre_PleOutReferenceIdeal (m : (ℓ : Loc Cert.PleOutReferenceIdeal.nD Cert.PleOutReferenceIdeal.τ Cert.PleOutReferenceIdeal.sig) → Buf (Elt Ideal) ℓ) : Prop :=
  True

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0))
      ∧ r.2.sem = fun _ => 0)

def quiescent_WeightsReferenceIdeal [hWeightsReferenceIdeal : Cert.WeightsReferenceIdeal.Facts] : Prop :=
  ∀ (m : (ℓ : Loc Cert.WeightsReferenceIdeal.nD Cert.WeightsReferenceIdeal.τ Cert.WeightsReferenceIdeal.sig) → Buf (Elt Ideal) ℓ) (g : Dev Cert.WeightsReferenceIdeal.nD → PrngReg), Pre_WeightsReferenceIdeal m →
    θ_run (Cert.WeightsReferenceIdeal.defs (F := Ideal)) (onTc (τ := Cert.WeightsReferenceIdeal.τ) (Cert.WeightsReferenceIdeal.main (F := Ideal))) ⟨m, fun _ => 0, g⟩ (fun r => (∀ c : Dev Cert.WeightsReferenceIdeal.nD,
      r.2.mem ((c.tc : Thread Cert.WeightsReferenceIdeal.nD Cert.WeightsReferenceIdeal.τ).loc Cert.WeightsReferenceIdeal.main_arg0) = m ((c.tc : Thread Cert.WeightsReferenceIdeal.nD Cert.WeightsReferenceIdeal.τ).loc Cert.WeightsReferenceIdeal.main_arg0))
      ∧ r.2.sem = fun _ => 0)

def quiescent_WeightsReference [hWeightsReference : Cert.WeightsReference.Facts] : Prop :=
  ∀ (m : (ℓ : Loc Cert.WeightsReference.nD Cert.WeightsReference.τ Cert.WeightsReference.sig) → Buf (Elt Bits) ℓ) (g : Dev Cert.WeightsReference.nD → PrngReg), Pre_WeightsReference m →
    θ_run (Cert.WeightsReference.defs (F := Bits)) (onTc (τ := Cert.WeightsReference.τ) (Cert.WeightsReference.main (F := Bits))) ⟨m, fun _ => 0, g⟩ (fun r => (∀ c : Dev Cert.WeightsReference.nD,
      r.2.mem ((c.tc : Thread Cert.WeightsReference.nD Cert.WeightsReference.τ).loc Cert.WeightsReference.main_arg0) = m ((c.tc : Thread Cert.WeightsReference.nD Cert.WeightsReference.τ).loc Cert.WeightsReference.main_arg0))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0))
      ∧ r.2.sem = fun _ => 0)

def quiescent_ConvReference [hConvReference : Cert.ConvReference.Facts] : Prop :=
  ∀ (m : (ℓ : Loc Cert.ConvReference.nD Cert.ConvReference.τ Cert.ConvReference.sig) → Buf (Elt Bits) ℓ) (g : Dev Cert.ConvReference.nD → PrngReg), Pre_ConvReference m →
    θ_run (Cert.ConvReference.defs (F := Bits)) (onTc (τ := Cert.ConvReference.τ) (Cert.ConvReference.main (F := Bits))) ⟨m, fun _ => 0, g⟩ (fun r => (∀ c : Dev Cert.ConvReference.nD,
      r.2.mem ((c.tc : Thread Cert.ConvReference.nD Cert.ConvReference.τ).loc Cert.ConvReference.main_arg0) = m ((c.tc : Thread Cert.ConvReference.nD Cert.ConvReference.τ).loc Cert.ConvReference.main_arg0))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0))
      ∧ r.2.sem = fun _ => 0)

def quiescent_SmallReference [hSmallReference : Cert.SmallReference.Facts] : Prop :=
  ∀ (m : (ℓ : Loc Cert.SmallReference.nD Cert.SmallReference.τ Cert.SmallReference.sig) → Buf (Elt Bits) ℓ) (g : Dev Cert.SmallReference.nD → PrngReg), Pre_SmallReference m →
    θ_run (Cert.SmallReference.defs (F := Bits)) (onTc (τ := Cert.SmallReference.τ) (Cert.SmallReference.main (F := Bits))) ⟨m, fun _ => 0, g⟩ (fun r => (∀ c : Dev Cert.SmallReference.nD,
      r.2.mem ((c.tc : Thread Cert.SmallReference.nD Cert.SmallReference.τ).loc Cert.SmallReference.main_arg0) = m ((c.tc : Thread Cert.SmallReference.nD Cert.SmallReference.τ).loc Cert.SmallReference.main_arg0))
      ∧ r.2.sem = fun _ => 0)

def quiescent_Sibling [hSibling : Cert.Sibling.Facts] : Prop :=
  ∀ (m : (ℓ : Loc Cert.Sibling.nD Cert.Sibling.τ Cert.Sibling.sig) → Buf (Elt Bits) ℓ) (g : Dev Cert.Sibling.nD → PrngReg), Pre_Sibling m →
    θ_run (Cert.Sibling.defs (F := Bits)) (onTc (τ := Cert.Sibling.τ) (Cert.Sibling.main (F := Bits))) ⟨m, fun _ => 0, g⟩ (fun r => (∀ c : Dev Cert.Sibling.nD,
      r.2.mem ((c.tc : Thread Cert.Sibling.nD Cert.Sibling.τ).loc Cert.Sibling.main_arg0) = m ((c.tc : Thread Cert.Sibling.nD Cert.Sibling.τ).loc Cert.Sibling.main_arg0))
      ∧ r.2.sem = fun _ => 0)

def quiescent_SiblingIdeal [hSiblingIdeal : Cert.SiblingIdeal.Facts] : Prop :=
  ∀ (m : (ℓ : Loc Cert.SiblingIdeal.nD Cert.SiblingIdeal.τ Cert.SiblingIdeal.sig) → Buf (Elt Ideal) ℓ) (g : Dev Cert.SiblingIdeal.nD → PrngReg), Pre_SiblingIdeal m →
    θ_run (Cert.SiblingIdeal.defs (F := Ideal)) (onTc (τ := Cert.SiblingIdeal.τ) (Cert.SiblingIdeal.main (F := Ideal))) ⟨m, fun _ => 0, g⟩ (fun r => (∀ c : Dev Cert.SiblingIdeal.nD,
      r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0))
      ∧ r.2.sem = fun _ => 0)

def quiescent_SiblingReferenceIdeal [hSiblingReferenceIdeal : Cert.SiblingReferenceIdeal.Facts] : Prop :=
  ∀ (m : (ℓ : Loc Cert.SiblingReferenceIdeal.nD Cert.SiblingReferenceIdeal.τ Cert.SiblingReferenceIdeal.sig) → Buf (Elt Ideal) ℓ) (g : Dev Cert.SiblingReferenceIdeal.nD → PrngReg), Pre_SiblingReferenceIdeal m →
    θ_run (Cert.SiblingReferenceIdeal.defs (F := Ideal)) (onTc (τ := Cert.SiblingReferenceIdeal.τ) (Cert.SiblingReferenceIdeal.main (F := Ideal))) ⟨m, fun _ => 0, g⟩ (fun r => (∀ c : Dev Cert.SiblingReferenceIdeal.nD,
      r.2.mem ((c.tc : Thread Cert.SiblingReferenceIdeal.nD Cert.SiblingReferenceIdeal.τ).loc Cert.SiblingReferenceIdeal.main_arg0) = m ((c.tc : Thread Cert.SiblingReferenceIdeal.nD Cert.SiblingReferenceIdeal.τ).loc Cert.SiblingReferenceIdeal.main_arg0))
      ∧ r.2.sem = fun _ => 0)

def quiescent_SiblingReference [hSiblingReference : Cert.SiblingReference.Facts] : Prop :=
  ∀ (m : (ℓ : Loc Cert.SiblingReference.nD Cert.SiblingReference.τ Cert.SiblingReference.sig) → Buf (Elt Bits) ℓ) (g : Dev Cert.SiblingReference.nD → PrngReg), Pre_SiblingReference m →
    θ_run (Cert.SiblingReference.defs (F := Bits)) (onTc (τ := Cert.SiblingReference.τ) (Cert.SiblingReference.main (F := Bits))) ⟨m, fun _ => 0, g⟩ (fun r => (∀ c : Dev Cert.SiblingReference.nD,
      r.2.mem ((c.tc : Thread Cert.SiblingReference.nD Cert.SiblingReference.τ).loc Cert.SiblingReference.main_arg0) = m ((c.tc : Thread Cert.SiblingReference.nD Cert.SiblingReference.τ).loc Cert.SiblingReference.main_arg0))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ r.2.sem = fun _ => 0)

def quiescent_ChipsReferenceIdeal [hChipsReferenceIdeal : Cert.ChipsReferenceIdeal.Facts] : Prop :=
  ∀ (m : (ℓ : Loc Cert.ChipsReferenceIdeal.nD Cert.ChipsReferenceIdeal.τ Cert.ChipsReferenceIdeal.sig) → Buf (Elt Ideal) ℓ) (g : Dev Cert.ChipsReferenceIdeal.nD → PrngReg), Pre_ChipsReferenceIdeal m →
    θ_run (Cert.ChipsReferenceIdeal.defs (F := Ideal)) (onTc (τ := Cert.ChipsReferenceIdeal.τ) (Cert.ChipsReferenceIdeal.main (F := Ideal))) ⟨m, fun _ => 0, g⟩ (fun r => (∀ c : Dev Cert.ChipsReferenceIdeal.nD,
      r.2.mem ((c.tc : Thread Cert.ChipsReferenceIdeal.nD Cert.ChipsReferenceIdeal.τ).loc Cert.ChipsReferenceIdeal.main_arg0) = m ((c.tc : Thread Cert.ChipsReferenceIdeal.nD Cert.ChipsReferenceIdeal.τ).loc Cert.ChipsReferenceIdeal.main_arg0))
      ∧ r.2.sem = fun _ => 0)

def quiescent_ChipsReference [hChipsReference : Cert.ChipsReference.Facts] : Prop :=
  ∀ (m : (ℓ : Loc Cert.ChipsReference.nD Cert.ChipsReference.τ Cert.ChipsReference.sig) → Buf (Elt Bits) ℓ) (g : Dev Cert.ChipsReference.nD → PrngReg), Pre_ChipsReference m →
    θ_run (Cert.ChipsReference.defs (F := Bits)) (onTc (τ := Cert.ChipsReference.τ) (Cert.ChipsReference.main (F := Bits))) ⟨m, fun _ => 0, g⟩ (fun r => (∀ c : Dev Cert.ChipsReference.nD,
      r.2.mem ((c.tc : Thread Cert.ChipsReference.nD Cert.ChipsReference.τ).loc Cert.ChipsReference.main_arg0) = m ((c.tc : Thread Cert.ChipsReference.nD Cert.ChipsReference.τ).loc Cert.ChipsReference.main_arg0))
      ∧ r.2.sem = fun _ => 0)

def quiescent_Pieces [hPieces : Cert.Pieces.Facts] : Prop :=
  ∀ (m : (ℓ : Loc Cert.Pieces.nD Cert.Pieces.τ Cert.Pieces.sig) → Buf (Elt Bits) ℓ) (g : Dev Cert.Pieces.nD → PrngReg), Pre_Pieces m →
    θ_run (Cert.Pieces.defs (F := Bits)) (onTc (τ := Cert.Pieces.τ) (Cert.Pieces.main (F := Bits))) ⟨m, fun _ => 0, g⟩ (fun r => (∀ c : Dev Cert.Pieces.nD,
      r.2.mem ((c.tc : Thread Cert.Pieces.nD Cert.Pieces.τ).loc Cert.Pieces.main_arg0) = m ((c.tc : Thread Cert.Pieces.nD Cert.Pieces.τ).loc Cert.Pieces.main_arg0))
      ∧ r.2.sem = fun _ => 0)

def quiescent_PiecesIdeal [hPiecesIdeal : Cert.PiecesIdeal.Facts] : Prop :=
  ∀ (m : (ℓ : Loc Cert.PiecesIdeal.nD Cert.PiecesIdeal.τ Cert.PiecesIdeal.sig) → Buf (Elt Ideal) ℓ) (g : Dev Cert.PiecesIdeal.nD → PrngReg), Pre_PiecesIdeal m →
    θ_run (Cert.PiecesIdeal.defs (F := Ideal)) (onTc (τ := Cert.PiecesIdeal.τ) (Cert.PiecesIdeal.main (F := Ideal))) ⟨m, fun _ => 0, g⟩ (fun r => (∀ c : Dev Cert.PiecesIdeal.nD,
      r.2.mem ((c.tc : Thread Cert.PiecesIdeal.nD Cert.PiecesIdeal.τ).loc Cert.PiecesIdeal.main_arg0) = m ((c.tc : Thread Cert.PiecesIdeal.nD Cert.PiecesIdeal.τ).loc Cert.PiecesIdeal.main_arg0))
      ∧ r.2.sem = fun _ => 0)

def quiescent_PiecesReferenceIdeal [hPiecesReferenceIdeal : Cert.PiecesReferenceIdeal.Facts] : Prop :=
  ∀ (m : (ℓ : Loc Cert.PiecesReferenceIdeal.nD Cert.PiecesReferenceIdeal.τ Cert.PiecesReferenceIdeal.sig) → Buf (Elt Ideal) ℓ) (g : Dev Cert.PiecesReferenceIdeal.nD → PrngReg), Pre_PiecesReferenceIdeal m →
    θ_run (Cert.PiecesReferenceIdeal.defs (F := Ideal)) (onTc (τ := Cert.PiecesReferenceIdeal.τ) (Cert.PiecesReferenceIdeal.main (F := Ideal))) ⟨m, fun _ => 0, g⟩ (fun r => (∀ c : Dev Cert.PiecesReferenceIdeal.nD,
      r.2.mem ((c.tc : Thread Cert.PiecesReferenceIdeal.nD Cert.PiecesReferenceIdeal.τ).loc Cert.PiecesReferenceIdeal.main_arg0) = m ((c.tc : Thread Cert.PiecesReferenceIdeal.nD Cert.PiecesReferenceIdeal.τ).loc Cert.PiecesReferenceIdeal.main_arg0))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamConvA [hAdamConvA : Cert.AdamConvA.Facts] : Prop :=
  ∀ (m : (ℓ : Loc Cert.AdamConvA.nD Cert.AdamConvA.τ Cert.AdamConvA.sig) → Buf (Elt Bits) ℓ) (g : Dev Cert.AdamConvA.nD → PrngReg), Pre_AdamConvA m →
    θ_run (Cert.AdamConvA.defs (F := Bits)) (onTc (τ := Cert.AdamConvA.τ) (Cert.AdamConvA.main (F := Bits))) ⟨m, fun _ => 0, g⟩ (fun r => (∀ c : Dev Cert.AdamConvA.nD,
      r.2.mem ((c.tc : Thread Cert.AdamConvA.nD Cert.AdamConvA.τ).loc Cert.AdamConvA.main_arg0) = m ((c.tc : Thread Cert.AdamConvA.nD Cert.AdamConvA.τ).loc Cert.AdamConvA.main_arg0)
      ∧ r.2.mem ((c.tc : Thread Cert.AdamConvA.nD Cert.AdamConvA.τ).loc Cert.AdamConvA.main_arg1) = m ((c.tc : Thread Cert.AdamConvA.nD Cert.AdamConvA.τ).loc Cert.AdamConvA.main_arg1)
      ∧ r.2.mem ((c.tc : Thread Cert.AdamConvA.nD Cert.AdamConvA.τ).loc Cert.AdamConvA.main_arg2) = m ((c.tc : Thread Cert.AdamConvA.nD Cert.AdamConvA.τ).loc Cert.AdamConvA.main_arg2)
      ∧ r.2.mem ((c.tc : Thread Cert.AdamConvA.nD Cert.AdamConvA.τ).loc Cert.AdamConvA.main_arg3) = m ((c.tc : Thread Cert.AdamConvA.nD Cert.AdamConvA.τ).loc Cert.AdamConvA.main_arg3))
      ∧ r.2.sem = fun _ => 0)

def quiescent_AdamConvAIdeal [hAdamConvAIdeal : Cert.AdamConvAIdeal.Facts] : Prop :=
  ∀ (m : (ℓ : Loc Cert.AdamConvAIdeal.nD Cert.AdamConvAIdeal.τ Cert.AdamConvAIdeal.sig) → Buf (Elt Ideal) ℓ) (g : Dev Cert.AdamConvAIdeal.nD → PrngReg), Pre_AdamConvAIdeal m →
    θ_run (Cert.AdamConvAIdeal.defs (F := Ideal)) (onTc (τ := Cert.AdamConvAIdeal.τ) (Cert.AdamConvAIdeal.main (F := Ideal))) ⟨m, fun _ => 0, g⟩ (fun r => (∀ c : Dev Cert.AdamConvAIdeal.nD,
      r.2.mem ((c.tc : Thread Cert.AdamConvAIdeal.nD Cert.AdamConvAIdeal.τ).loc Cert.AdamConvAIdeal.main_arg0) = m ((c.tc : Thread Cert.AdamConvAIdeal.nD Cert.AdamConvAIdeal.τ).loc Cert.AdamConvAIdeal.main_arg0)
      ∧ r.2.mem ((c.tc : Thread Cert.AdamConvAIdeal.nD Cert.AdamConvAIdeal.τ).loc Cert.AdamConvAIdeal.main_arg1) = m ((c.tc : Thread Cert.AdamConvAIdeal.nD Cert.AdamConvAIdeal.τ).loc Cert.AdamConvAIdeal.main_arg1)
      ∧ r.2.mem ((c.tc : Thread Cert.AdamConvAIdeal.nD Cert.AdamConvAIdeal.τ).loc Cert.AdamConvAIdeal.main_arg2) = m ((c.tc : Thread Cert.AdamConvAIdeal.nD Cert.AdamConvAIdeal.τ).loc Cert.AdamConvAIdeal.main_arg2)
      ∧ r.2.mem ((c.tc : Thread Cert.AdamConvAIdeal.nD Cert.AdamConvAIdeal.τ).loc Cert.AdamConvAIdeal.main_arg3) = m ((c.tc : Thread Cert.AdamConvAIdeal.nD Cert.AdamConvAIdeal.τ).loc Cert.AdamConvAIdeal.main_arg3))
      ∧ r.2.sem = fun _ => 0)

def quiescent_AdamConvAReferenceIdeal [hAdamConvAReferenceIdeal : Cert.AdamConvAReferenceIdeal.Facts] : Prop :=
  ∀ (m : (ℓ : Loc Cert.AdamConvAReferenceIdeal.nD Cert.AdamConvAReferenceIdeal.τ Cert.AdamConvAReferenceIdeal.sig) → Buf (Elt Ideal) ℓ) (g : Dev Cert.AdamConvAReferenceIdeal.nD → PrngReg), Pre_AdamConvAReferenceIdeal m →
    θ_run (Cert.AdamConvAReferenceIdeal.defs (F := Ideal)) (onTc (τ := Cert.AdamConvAReferenceIdeal.τ) (Cert.AdamConvAReferenceIdeal.main (F := Ideal))) ⟨m, fun _ => 0, g⟩ (fun r => (∀ c : Dev Cert.AdamConvAReferenceIdeal.nD,
      r.2.mem ((c.tc : Thread Cert.AdamConvAReferenceIdeal.nD Cert.AdamConvAReferenceIdeal.τ).loc Cert.AdamConvAReferenceIdeal.main_arg0) = m ((c.tc : Thread Cert.AdamConvAReferenceIdeal.nD Cert.AdamConvAReferenceIdeal.τ).loc Cert.AdamConvAReferenceIdeal.main_arg0)
      ∧ r.2.mem ((c.tc : Thread Cert.AdamConvAReferenceIdeal.nD Cert.AdamConvAReferenceIdeal.τ).loc Cert.AdamConvAReferenceIdeal.main_arg1) = m ((c.tc : Thread Cert.AdamConvAReferenceIdeal.nD Cert.AdamConvAReferenceIdeal.τ).loc Cert.AdamConvAReferenceIdeal.main_arg1)
      ∧ r.2.mem ((c.tc : Thread Cert.AdamConvAReferenceIdeal.nD Cert.AdamConvAReferenceIdeal.τ).loc Cert.AdamConvAReferenceIdeal.main_arg2) = m ((c.tc : Thread Cert.AdamConvAReferenceIdeal.nD Cert.AdamConvAReferenceIdeal.τ).loc Cert.AdamConvAReferenceIdeal.main_arg2)
      ∧ r.2.mem ((c.tc : Thread Cert.AdamConvAReferenceIdeal.nD Cert.AdamConvAReferenceIdeal.τ).loc Cert.AdamConvAReferenceIdeal.main_arg3) = m ((c.tc : Thread Cert.AdamConvAReferenceIdeal.nD Cert.AdamConvAReferenceIdeal.τ).loc Cert.AdamConvAReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamSsmConv [hAdamSsmConv : Cert.AdamSsmConv.Facts] : Prop :=
  ∀ (m : (ℓ : Loc Cert.AdamSsmConv.nD Cert.AdamSsmConv.τ Cert.AdamSsmConv.sig) → Buf (Elt Bits) ℓ) (g : Dev Cert.AdamSsmConv.nD → PrngReg), Pre_AdamSsmConv m →
    θ_run (Cert.AdamSsmConv.defs (F := Bits)) (onTc (τ := Cert.AdamSsmConv.τ) (Cert.AdamSsmConv.main (F := Bits))) ⟨m, fun _ => 0, g⟩ (fun r => (∀ c : Dev Cert.AdamSsmConv.nD,
      r.2.mem ((c.tc : Thread Cert.AdamSsmConv.nD Cert.AdamSsmConv.τ).loc Cert.AdamSsmConv.main_arg0) = m ((c.tc : Thread Cert.AdamSsmConv.nD Cert.AdamSsmConv.τ).loc Cert.AdamSsmConv.main_arg0)
      ∧ r.2.mem ((c.tc : Thread Cert.AdamSsmConv.nD Cert.AdamSsmConv.τ).loc Cert.AdamSsmConv.main_arg1) = m ((c.tc : Thread Cert.AdamSsmConv.nD Cert.AdamSsmConv.τ).loc Cert.AdamSsmConv.main_arg1)
      ∧ r.2.mem ((c.tc : Thread Cert.AdamSsmConv.nD Cert.AdamSsmConv.τ).loc Cert.AdamSsmConv.main_arg2) = m ((c.tc : Thread Cert.AdamSsmConv.nD Cert.AdamSsmConv.τ).loc Cert.AdamSsmConv.main_arg2)
      ∧ r.2.mem ((c.tc : Thread Cert.AdamSsmConv.nD Cert.AdamSsmConv.τ).loc Cert.AdamSsmConv.main_arg3) = m ((c.tc : Thread Cert.AdamSsmConv.nD Cert.AdamSsmConv.τ).loc Cert.AdamSsmConv.main_arg3))
      ∧ r.2.sem = fun _ => 0)

def quiescent_AdamSsmConvIdeal [hAdamSsmConvIdeal : Cert.AdamSsmConvIdeal.Facts] : Prop :=
  ∀ (m : (ℓ : Loc Cert.AdamSsmConvIdeal.nD Cert.AdamSsmConvIdeal.τ Cert.AdamSsmConvIdeal.sig) → Buf (Elt Ideal) ℓ) (g : Dev Cert.AdamSsmConvIdeal.nD → PrngReg), Pre_AdamSsmConvIdeal m →
    θ_run (Cert.AdamSsmConvIdeal.defs (F := Ideal)) (onTc (τ := Cert.AdamSsmConvIdeal.τ) (Cert.AdamSsmConvIdeal.main (F := Ideal))) ⟨m, fun _ => 0, g⟩ (fun r => (∀ c : Dev Cert.AdamSsmConvIdeal.nD,
      r.2.mem ((c.tc : Thread Cert.AdamSsmConvIdeal.nD Cert.AdamSsmConvIdeal.τ).loc Cert.AdamSsmConvIdeal.main_arg0) = m ((c.tc : Thread Cert.AdamSsmConvIdeal.nD Cert.AdamSsmConvIdeal.τ).loc Cert.AdamSsmConvIdeal.main_arg0)
      ∧ r.2.mem ((c.tc : Thread Cert.AdamSsmConvIdeal.nD Cert.AdamSsmConvIdeal.τ).loc Cert.AdamSsmConvIdeal.main_arg1) = m ((c.tc : Thread Cert.AdamSsmConvIdeal.nD Cert.AdamSsmConvIdeal.τ).loc Cert.AdamSsmConvIdeal.main_arg1)
      ∧ r.2.mem ((c.tc : Thread Cert.AdamSsmConvIdeal.nD Cert.AdamSsmConvIdeal.τ).loc Cert.AdamSsmConvIdeal.main_arg2) = m ((c.tc : Thread Cert.AdamSsmConvIdeal.nD Cert.AdamSsmConvIdeal.τ).loc Cert.AdamSsmConvIdeal.main_arg2)
      ∧ r.2.mem ((c.tc : Thread Cert.AdamSsmConvIdeal.nD Cert.AdamSsmConvIdeal.τ).loc Cert.AdamSsmConvIdeal.main_arg3) = m ((c.tc : Thread Cert.AdamSsmConvIdeal.nD Cert.AdamSsmConvIdeal.τ).loc Cert.AdamSsmConvIdeal.main_arg3))
      ∧ r.2.sem = fun _ => 0)

def quiescent_AdamSsmConvReferenceIdeal [hAdamSsmConvReferenceIdeal : Cert.AdamSsmConvReferenceIdeal.Facts] : Prop :=
  ∀ (m : (ℓ : Loc Cert.AdamSsmConvReferenceIdeal.nD Cert.AdamSsmConvReferenceIdeal.τ Cert.AdamSsmConvReferenceIdeal.sig) → Buf (Elt Ideal) ℓ) (g : Dev Cert.AdamSsmConvReferenceIdeal.nD → PrngReg), Pre_AdamSsmConvReferenceIdeal m →
    θ_run (Cert.AdamSsmConvReferenceIdeal.defs (F := Ideal)) (onTc (τ := Cert.AdamSsmConvReferenceIdeal.τ) (Cert.AdamSsmConvReferenceIdeal.main (F := Ideal))) ⟨m, fun _ => 0, g⟩ (fun r => (∀ c : Dev Cert.AdamSsmConvReferenceIdeal.nD,
      r.2.mem ((c.tc : Thread Cert.AdamSsmConvReferenceIdeal.nD Cert.AdamSsmConvReferenceIdeal.τ).loc Cert.AdamSsmConvReferenceIdeal.main_arg0) = m ((c.tc : Thread Cert.AdamSsmConvReferenceIdeal.nD Cert.AdamSsmConvReferenceIdeal.τ).loc Cert.AdamSsmConvReferenceIdeal.main_arg0)
      ∧ r.2.mem ((c.tc : Thread Cert.AdamSsmConvReferenceIdeal.nD Cert.AdamSsmConvReferenceIdeal.τ).loc Cert.AdamSsmConvReferenceIdeal.main_arg1) = m ((c.tc : Thread Cert.AdamSsmConvReferenceIdeal.nD Cert.AdamSsmConvReferenceIdeal.τ).loc Cert.AdamSsmConvReferenceIdeal.main_arg1)
      ∧ r.2.mem ((c.tc : Thread Cert.AdamSsmConvReferenceIdeal.nD Cert.AdamSsmConvReferenceIdeal.τ).loc Cert.AdamSsmConvReferenceIdeal.main_arg2) = m ((c.tc : Thread Cert.AdamSsmConvReferenceIdeal.nD Cert.AdamSsmConvReferenceIdeal.τ).loc Cert.AdamSsmConvReferenceIdeal.main_arg2)
      ∧ r.2.mem ((c.tc : Thread Cert.AdamSsmConvReferenceIdeal.nD Cert.AdamSsmConvReferenceIdeal.τ).loc Cert.AdamSsmConvReferenceIdeal.main_arg3) = m ((c.tc : Thread Cert.AdamSsmConvReferenceIdeal.nD Cert.AdamSsmConvReferenceIdeal.τ).loc Cert.AdamSsmConvReferenceIdeal.main_arg3))
      ∧ r.2.sem = fun _ => 0)

def quiescent_AdamBOut [hAdamBOut : Cert.AdamBOut.Facts] : Prop :=
  ∀ (m : (ℓ : Loc Cert.AdamBOut.nD Cert.AdamBOut.τ Cert.AdamBOut.sig) → Buf (Elt Bits) ℓ) (g : Dev Cert.AdamBOut.nD → PrngReg), Pre_AdamBOut m →
    θ_run (Cert.AdamBOut.defs (F := Bits)) (onTc (τ := Cert.AdamBOut.τ) (Cert.AdamBOut.main (F := Bits))) ⟨m, fun _ => 0, g⟩ (fun r => (∀ c : Dev Cert.AdamBOut.nD,
      r.2.mem ((c.tc : Thread Cert.AdamBOut.nD Cert.AdamBOut.τ).loc Cert.AdamBOut.main_arg0) = m ((c.tc : Thread Cert.AdamBOut.nD Cert.AdamBOut.τ).loc Cert.AdamBOut.main_arg0)
      ∧ r.2.mem ((c.tc : Thread Cert.AdamBOut.nD Cert.AdamBOut.τ).loc Cert.AdamBOut.main_arg1) = m ((c.tc : Thread Cert.AdamBOut.nD Cert.AdamBOut.τ).loc Cert.AdamBOut.main_arg1)
      ∧ r.2.mem ((c.tc : Thread Cert.AdamBOut.nD Cert.AdamBOut.τ).loc Cert.AdamBOut.main_arg2) = m ((c.tc : Thread Cert.AdamBOut.nD Cert.AdamBOut.τ).loc Cert.AdamBOut.main_arg2)
      ∧ r.2.mem ((c.tc : Thread Cert.AdamBOut.nD Cert.AdamBOut.τ).loc Cert.AdamBOut.main_arg3) = m ((c.tc : Thread Cert.AdamBOut.nD Cert.AdamBOut.τ).loc Cert.AdamBOut.main_arg3))
      ∧ r.2.sem = fun _ => 0)

def quiescent_AdamBOutIdeal [hAdamBOutIdeal : Cert.AdamBOutIdeal.Facts] : Prop :=
  ∀ (m : (ℓ : Loc Cert.AdamBOutIdeal.nD Cert.AdamBOutIdeal.τ Cert.AdamBOutIdeal.sig) → Buf (Elt Ideal) ℓ) (g : Dev Cert.AdamBOutIdeal.nD → PrngReg), Pre_AdamBOutIdeal m →
    θ_run (Cert.AdamBOutIdeal.defs (F := Ideal)) (onTc (τ := Cert.AdamBOutIdeal.τ) (Cert.AdamBOutIdeal.main (F := Ideal))) ⟨m, fun _ => 0, g⟩ (fun r => (∀ c : Dev Cert.AdamBOutIdeal.nD,
      r.2.mem ((c.tc : Thread Cert.AdamBOutIdeal.nD Cert.AdamBOutIdeal.τ).loc Cert.AdamBOutIdeal.main_arg0) = m ((c.tc : Thread Cert.AdamBOutIdeal.nD Cert.AdamBOutIdeal.τ).loc Cert.AdamBOutIdeal.main_arg0)
      ∧ r.2.mem ((c.tc : Thread Cert.AdamBOutIdeal.nD Cert.AdamBOutIdeal.τ).loc Cert.AdamBOutIdeal.main_arg1) = m ((c.tc : Thread Cert.AdamBOutIdeal.nD Cert.AdamBOutIdeal.τ).loc Cert.AdamBOutIdeal.main_arg1)
      ∧ r.2.mem ((c.tc : Thread Cert.AdamBOutIdeal.nD Cert.AdamBOutIdeal.τ).loc Cert.AdamBOutIdeal.main_arg2) = m ((c.tc : Thread Cert.AdamBOutIdeal.nD Cert.AdamBOutIdeal.τ).loc Cert.AdamBOutIdeal.main_arg2)
      ∧ r.2.mem ((c.tc : Thread Cert.AdamBOutIdeal.nD Cert.AdamBOutIdeal.τ).loc Cert.AdamBOutIdeal.main_arg3) = m ((c.tc : Thread Cert.AdamBOutIdeal.nD Cert.AdamBOutIdeal.τ).loc Cert.AdamBOutIdeal.main_arg3))
      ∧ r.2.sem = fun _ => 0)

def quiescent_AdamBOutReferenceIdeal [hAdamBOutReferenceIdeal : Cert.AdamBOutReferenceIdeal.Facts] : Prop :=
  ∀ (m : (ℓ : Loc Cert.AdamBOutReferenceIdeal.nD Cert.AdamBOutReferenceIdeal.τ Cert.AdamBOutReferenceIdeal.sig) → Buf (Elt Ideal) ℓ) (g : Dev Cert.AdamBOutReferenceIdeal.nD → PrngReg), Pre_AdamBOutReferenceIdeal m →
    θ_run (Cert.AdamBOutReferenceIdeal.defs (F := Ideal)) (onTc (τ := Cert.AdamBOutReferenceIdeal.τ) (Cert.AdamBOutReferenceIdeal.main (F := Ideal))) ⟨m, fun _ => 0, g⟩ (fun r => (∀ c : Dev Cert.AdamBOutReferenceIdeal.nD,
      r.2.mem ((c.tc : Thread Cert.AdamBOutReferenceIdeal.nD Cert.AdamBOutReferenceIdeal.τ).loc Cert.AdamBOutReferenceIdeal.main_arg0) = m ((c.tc : Thread Cert.AdamBOutReferenceIdeal.nD Cert.AdamBOutReferenceIdeal.τ).loc Cert.AdamBOutReferenceIdeal.main_arg0)
      ∧ r.2.mem ((c.tc : Thread Cert.AdamBOutReferenceIdeal.nD Cert.AdamBOutReferenceIdeal.τ).loc Cert.AdamBOutReferenceIdeal.main_arg1) = m ((c.tc : Thread Cert.AdamBOutReferenceIdeal.nD Cert.AdamBOutReferenceIdeal.τ).loc Cert.AdamBOutReferenceIdeal.main_arg1)
      ∧ r.2.mem ((c.tc : Thread Cert.AdamBOutReferenceIdeal.nD Cert.AdamBOutReferenceIdeal.τ).loc Cert.AdamBOutReferenceIdeal.main_arg2) = m ((c.tc : Thread Cert.AdamBOutReferenceIdeal.nD Cert.AdamBOutReferenceIdeal.τ).loc Cert.AdamBOutReferenceIdeal.main_arg2)
      ∧ r.2.mem ((c.tc : Thread Cert.AdamBOutReferenceIdeal.nD Cert.AdamBOutReferenceIdeal.τ).loc Cert.AdamBOutReferenceIdeal.main_arg3) = m ((c.tc : Thread Cert.AdamBOutReferenceIdeal.nD Cert.AdamBOutReferenceIdeal.τ).loc Cert.AdamBOutReferenceIdeal.main_arg3))
      ∧ r.2.sem = fun _ => 0)

def quiescent_AdamGateUp [hAdamGateUp : Cert.AdamGateUp.Facts] : Prop :=
  ∀ (m : (ℓ : Loc Cert.AdamGateUp.nD Cert.AdamGateUp.τ Cert.AdamGateUp.sig) → Buf (Elt Bits) ℓ) (g : Dev Cert.AdamGateUp.nD → PrngReg), Pre_AdamGateUp m →
    θ_run (Cert.AdamGateUp.defs (F := Bits)) (onTc (τ := Cert.AdamGateUp.τ) (Cert.AdamGateUp.main (F := Bits))) ⟨m, fun _ => 0, g⟩ (fun r => (∀ c : Dev Cert.AdamGateUp.nD,
      r.2.mem ((c.tc : Thread Cert.AdamGateUp.nD Cert.AdamGateUp.τ).loc Cert.AdamGateUp.main_arg0) = m ((c.tc : Thread Cert.AdamGateUp.nD Cert.AdamGateUp.τ).loc Cert.AdamGateUp.main_arg0)
      ∧ r.2.mem ((c.tc : Thread Cert.AdamGateUp.nD Cert.AdamGateUp.τ).loc Cert.AdamGateUp.main_arg1) = m ((c.tc : Thread Cert.AdamGateUp.nD Cert.AdamGateUp.τ).loc Cert.AdamGateUp.main_arg1)
      ∧ r.2.mem ((c.tc : Thread Cert.AdamGateUp.nD Cert.AdamGateUp.τ).loc Cert.AdamGateUp.main_arg2) = m ((c.tc : Thread Cert.AdamGateUp.nD Cert.AdamGateUp.τ).loc Cert.AdamGateUp.main_arg2)
      ∧ r.2.mem ((c.tc : Thread Cert.AdamGateUp.nD Cert.AdamGateUp.τ).loc Cert.AdamGateUp.main_arg3) = m ((c.tc : Thread Cert.AdamGateUp.nD Cert.AdamGateUp.τ).loc Cert.AdamGateUp.main_arg3))
      ∧ r.2.sem = fun _ => 0)

def quiescent_AdamGateUpIdeal [hAdamGateUpIdeal : Cert.AdamGateUpIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg), Pre_AdamGateUpIdeal m →
    θ_run (Cert.AdamGateUpIdeal.defs (F := Ideal)) (onTc (τ := Cert.AdamGateUpIdeal.τ) (Cert.AdamGateUpIdeal.main (F := Ideal))) ⟨m, fun _ => 0, g⟩ (fun r => (∀ c : Dev Cert.AdamGateUpIdeal.nD,
      r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
      ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
      ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
      ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3))
      ∧ r.2.sem = fun _ => 0)

def quiescent_AdamGateUpReferenceIdeal [hAdamGateUpReferenceIdeal : Cert.AdamGateUpReferenceIdeal.Facts] : Prop :=
  ∀ (m : (ℓ : Loc Cert.AdamGateUpReferenceIdeal.nD Cert.AdamGateUpReferenceIdeal.τ Cert.AdamGateUpReferenceIdeal.sig) → Buf (Elt Ideal) ℓ) (g : Dev Cert.AdamGateUpReferenceIdeal.nD → PrngReg), Pre_AdamGateUpReferenceIdeal m →
    θ_run (Cert.AdamGateUpReferenceIdeal.defs (F := Ideal)) (onTc (τ := Cert.AdamGateUpReferenceIdeal.τ) (Cert.AdamGateUpReferenceIdeal.main (F := Ideal))) ⟨m, fun _ => 0, g⟩ (fun r => (∀ c : Dev Cert.AdamGateUpReferenceIdeal.nD,
      r.2.mem ((c.tc : Thread Cert.AdamGateUpReferenceIdeal.nD Cert.AdamGateUpReferenceIdeal.τ).loc Cert.AdamGateUpReferenceIdeal.main_arg0) = m ((c.tc : Thread Cert.AdamGateUpReferenceIdeal.nD Cert.AdamGateUpReferenceIdeal.τ).loc Cert.AdamGateUpReferenceIdeal.main_arg0)
      ∧ r.2.mem ((c.tc : Thread Cert.AdamGateUpReferenceIdeal.nD Cert.AdamGateUpReferenceIdeal.τ).loc Cert.AdamGateUpReferenceIdeal.main_arg1) = m ((c.tc : Thread Cert.AdamGateUpReferenceIdeal.nD Cert.AdamGateUpReferenceIdeal.τ).loc Cert.AdamGateUpReferenceIdeal.main_arg1)
      ∧ r.2.mem ((c.tc : Thread Cert.AdamGateUpReferenceIdeal.nD Cert.AdamGateUpReferenceIdeal.τ).loc Cert.AdamGateUpReferenceIdeal.main_arg2) = m ((c.tc : Thread Cert.AdamGateUpReferenceIdeal.nD Cert.AdamGateUpReferenceIdeal.τ).loc Cert.AdamGateUpReferenceIdeal.main_arg2)
      ∧ r.2.mem ((c.tc : Thread Cert.AdamGateUpReferenceIdeal.nD Cert.AdamGateUpReferenceIdeal.τ).loc Cert.AdamGateUpReferenceIdeal.main_arg3) = m ((c.tc : Thread Cert.AdamGateUpReferenceIdeal.nD Cert.AdamGateUpReferenceIdeal.τ).loc Cert.AdamGateUpReferenceIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_AdamPle [hAdamPle : Cert.AdamPle.Facts] : Prop :=
  ∀ (m : (ℓ : Loc Cert.AdamPle.nD Cert.AdamPle.τ Cert.AdamPle.sig) → Buf (Elt Bits) ℓ) (g : Dev Cert.AdamPle.nD → PrngReg), Pre_AdamPle m →
    θ_run (Cert.AdamPle.defs (F := Bits)) (onTc (τ := Cert.AdamPle.τ) (Cert.AdamPle.main (F := Bits))) ⟨m, fun _ => 0, g⟩ (fun r => (∀ c : Dev Cert.AdamPle.nD,
      r.2.mem ((c.tc : Thread Cert.AdamPle.nD Cert.AdamPle.τ).loc Cert.AdamPle.main_arg0) = m ((c.tc : Thread Cert.AdamPle.nD Cert.AdamPle.τ).loc Cert.AdamPle.main_arg0)
      ∧ r.2.mem ((c.tc : Thread Cert.AdamPle.nD Cert.AdamPle.τ).loc Cert.AdamPle.main_arg1) = m ((c.tc : Thread Cert.AdamPle.nD Cert.AdamPle.τ).loc Cert.AdamPle.main_arg1)
      ∧ r.2.mem ((c.tc : Thread Cert.AdamPle.nD Cert.AdamPle.τ).loc Cert.AdamPle.main_arg2) = m ((c.tc : Thread Cert.AdamPle.nD Cert.AdamPle.τ).loc Cert.AdamPle.main_arg2)
      ∧ r.2.mem ((c.tc : Thread Cert.AdamPle.nD Cert.AdamPle.τ).loc Cert.AdamPle.main_arg3) = m ((c.tc : Thread Cert.AdamPle.nD Cert.AdamPle.τ).loc Cert.AdamPle.main_arg3))
      ∧ r.2.sem = fun _ => 0)

def quiescent_AdamPleIdeal [hAdamPleIdeal : Cert.AdamPleIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg), Pre_AdamPleIdeal m →
    θ_run (Cert.AdamPleIdeal.defs (F := Ideal)) (onTc (τ := Cert.AdamPleIdeal.τ) (Cert.AdamPleIdeal.main (F := Ideal))) ⟨m, fun _ => 0, g⟩ (fun r => (∀ c : Dev Cert.AdamPleIdeal.nD,
      r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
      ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
      ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
      ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3))
      ∧ r.2.sem = fun _ => 0)

def quiescent_AdamPleReferenceIdeal [hAdamPleReferenceIdeal : Cert.AdamPleReferenceIdeal.Facts] : Prop :=
  ∀ (m : (ℓ : Loc Cert.AdamPleReferenceIdeal.nD Cert.AdamPleReferenceIdeal.τ Cert.AdamPleReferenceIdeal.sig) → Buf (Elt Ideal) ℓ) (g : Dev Cert.AdamPleReferenceIdeal.nD → PrngReg), Pre_AdamPleReferenceIdeal m →
    θ_run (Cert.AdamPleReferenceIdeal.defs (F := Ideal)) (onTc (τ := Cert.AdamPleReferenceIdeal.τ) (Cert.AdamPleReferenceIdeal.main (F := Ideal))) ⟨m, fun _ => 0, g⟩ (fun r => (∀ c : Dev Cert.AdamPleReferenceIdeal.nD,
      r.2.mem ((c.tc : Thread Cert.AdamPleReferenceIdeal.nD Cert.AdamPleReferenceIdeal.τ).loc Cert.AdamPleReferenceIdeal.main_arg0) = m ((c.tc : Thread Cert.AdamPleReferenceIdeal.nD Cert.AdamPleReferenceIdeal.τ).loc Cert.AdamPleReferenceIdeal.main_arg0)
      ∧ r.2.mem ((c.tc : Thread Cert.AdamPleReferenceIdeal.nD Cert.AdamPleReferenceIdeal.τ).loc Cert.AdamPleReferenceIdeal.main_arg1) = m ((c.tc : Thread Cert.AdamPleReferenceIdeal.nD Cert.AdamPleReferenceIdeal.τ).loc Cert.AdamPleReferenceIdeal.main_arg1)
      ∧ r.2.mem ((c.tc : Thread Cert.AdamPleReferenceIdeal.nD Cert.AdamPleReferenceIdeal.τ).loc Cert.AdamPleReferenceIdeal.main_arg2) = m ((c.tc : Thread Cert.AdamPleReferenceIdeal.nD Cert.AdamPleReferenceIdeal.τ).loc Cert.AdamPleReferenceIdeal.main_arg2)
      ∧ r.2.mem ((c.tc : Thread Cert.AdamPleReferenceIdeal.nD Cert.AdamPleReferenceIdeal.τ).loc Cert.AdamPleReferenceIdeal.main_arg3) = m ((c.tc : Thread Cert.AdamPleReferenceIdeal.nD Cert.AdamPleReferenceIdeal.τ).loc Cert.AdamPleReferenceIdeal.main_arg3))
      ∧ r.2.sem = fun _ => 0)

def quiescent_AdamSmalls [hAdamSmalls : Cert.AdamSmalls.Facts] : Prop :=
  ∀ (m : (ℓ : Loc Cert.AdamSmalls.nD Cert.AdamSmalls.τ Cert.AdamSmalls.sig) → Buf (Elt Bits) ℓ) (g : Dev Cert.AdamSmalls.nD → PrngReg), Pre_AdamSmalls m →
    θ_run (Cert.AdamSmalls.defs (F := Bits)) (onTc (τ := Cert.AdamSmalls.τ) (Cert.AdamSmalls.main (F := Bits))) ⟨m, fun _ => 0, g⟩ (fun r => (∀ c : Dev Cert.AdamSmalls.nD,
      r.2.mem ((c.tc : Thread Cert.AdamSmalls.nD Cert.AdamSmalls.τ).loc Cert.AdamSmalls.main_arg0) = m ((c.tc : Thread Cert.AdamSmalls.nD Cert.AdamSmalls.τ).loc Cert.AdamSmalls.main_arg0)
      ∧ r.2.mem ((c.tc : Thread Cert.AdamSmalls.nD Cert.AdamSmalls.τ).loc Cert.AdamSmalls.main_arg1) = m ((c.tc : Thread Cert.AdamSmalls.nD Cert.AdamSmalls.τ).loc Cert.AdamSmalls.main_arg1)
      ∧ r.2.mem ((c.tc : Thread Cert.AdamSmalls.nD Cert.AdamSmalls.τ).loc Cert.AdamSmalls.main_arg2) = m ((c.tc : Thread Cert.AdamSmalls.nD Cert.AdamSmalls.τ).loc Cert.AdamSmalls.main_arg2)
      ∧ r.2.mem ((c.tc : Thread Cert.AdamSmalls.nD Cert.AdamSmalls.τ).loc Cert.AdamSmalls.main_arg3) = m ((c.tc : Thread Cert.AdamSmalls.nD Cert.AdamSmalls.τ).loc Cert.AdamSmalls.main_arg3))
      ∧ r.2.sem = fun _ => 0)

def quiescent_AdamSmallsIdeal [hAdamSmallsIdeal : Cert.AdamSmallsIdeal.Facts] : Prop :=
  ∀ (m : (ℓ : Loc Cert.AdamSmallsIdeal.nD Cert.AdamSmallsIdeal.τ Cert.AdamSmallsIdeal.sig) → Buf (Elt Ideal) ℓ) (g : Dev Cert.AdamSmallsIdeal.nD → PrngReg), Pre_AdamSmallsIdeal m →
    θ_run (Cert.AdamSmallsIdeal.defs (F := Ideal)) (onTc (τ := Cert.AdamSmallsIdeal.τ) (Cert.AdamSmallsIdeal.main (F := Ideal))) ⟨m, fun _ => 0, g⟩ (fun r => (∀ c : Dev Cert.AdamSmallsIdeal.nD,
      r.2.mem ((c.tc : Thread Cert.AdamSmallsIdeal.nD Cert.AdamSmallsIdeal.τ).loc Cert.AdamSmallsIdeal.main_arg0) = m ((c.tc : Thread Cert.AdamSmallsIdeal.nD Cert.AdamSmallsIdeal.τ).loc Cert.AdamSmallsIdeal.main_arg0)
      ∧ r.2.mem ((c.tc : Thread Cert.AdamSmallsIdeal.nD Cert.AdamSmallsIdeal.τ).loc Cert.AdamSmallsIdeal.main_arg1) = m ((c.tc : Thread Cert.AdamSmallsIdeal.nD Cert.AdamSmallsIdeal.τ).loc Cert.AdamSmallsIdeal.main_arg1)
      ∧ r.2.mem ((c.tc : Thread Cert.AdamSmallsIdeal.nD Cert.AdamSmallsIdeal.τ).loc Cert.AdamSmallsIdeal.main_arg2) = m ((c.tc : Thread Cert.AdamSmallsIdeal.nD Cert.AdamSmallsIdeal.τ).loc Cert.AdamSmallsIdeal.main_arg2)
      ∧ r.2.mem ((c.tc : Thread Cert.AdamSmallsIdeal.nD Cert.AdamSmallsIdeal.τ).loc Cert.AdamSmallsIdeal.main_arg3) = m ((c.tc : Thread Cert.AdamSmallsIdeal.nD Cert.AdamSmallsIdeal.τ).loc Cert.AdamSmallsIdeal.main_arg3))
      ∧ r.2.sem = fun _ => 0)

def quiescent_AdamSmallsReferenceIdeal [hAdamSmallsReferenceIdeal : Cert.AdamSmallsReferenceIdeal.Facts] : Prop :=
  ∀ (m : (ℓ : Loc Cert.AdamSmallsReferenceIdeal.nD Cert.AdamSmallsReferenceIdeal.τ Cert.AdamSmallsReferenceIdeal.sig) → Buf (Elt Ideal) ℓ) (g : Dev Cert.AdamSmallsReferenceIdeal.nD → PrngReg), Pre_AdamSmallsReferenceIdeal m →
    θ_run (Cert.AdamSmallsReferenceIdeal.defs (F := Ideal)) (onTc (τ := Cert.AdamSmallsReferenceIdeal.τ) (Cert.AdamSmallsReferenceIdeal.main (F := Ideal))) ⟨m, fun _ => 0, g⟩ (fun r => (∀ c : Dev Cert.AdamSmallsReferenceIdeal.nD,
      r.2.mem ((c.tc : Thread Cert.AdamSmallsReferenceIdeal.nD Cert.AdamSmallsReferenceIdeal.τ).loc Cert.AdamSmallsReferenceIdeal.main_arg0) = m ((c.tc : Thread Cert.AdamSmallsReferenceIdeal.nD Cert.AdamSmallsReferenceIdeal.τ).loc Cert.AdamSmallsReferenceIdeal.main_arg0)
      ∧ r.2.mem ((c.tc : Thread Cert.AdamSmallsReferenceIdeal.nD Cert.AdamSmallsReferenceIdeal.τ).loc Cert.AdamSmallsReferenceIdeal.main_arg1) = m ((c.tc : Thread Cert.AdamSmallsReferenceIdeal.nD Cert.AdamSmallsReferenceIdeal.τ).loc Cert.AdamSmallsReferenceIdeal.main_arg1)
      ∧ r.2.mem ((c.tc : Thread Cert.AdamSmallsReferenceIdeal.nD Cert.AdamSmallsReferenceIdeal.τ).loc Cert.AdamSmallsReferenceIdeal.main_arg2) = m ((c.tc : Thread Cert.AdamSmallsReferenceIdeal.nD Cert.AdamSmallsReferenceIdeal.τ).loc Cert.AdamSmallsReferenceIdeal.main_arg2)
      ∧ r.2.mem ((c.tc : Thread Cert.AdamSmallsReferenceIdeal.nD Cert.AdamSmallsReferenceIdeal.τ).loc Cert.AdamSmallsReferenceIdeal.main_arg3) = m ((c.tc : Thread Cert.AdamSmallsReferenceIdeal.nD Cert.AdamSmallsReferenceIdeal.τ).loc Cert.AdamSmallsReferenceIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2))
      ∧ r.2.sem = fun _ => 0)

def quiescent_GradXReferenceIdeal [hGradXReferenceIdeal : Cert.GradXReferenceIdeal.Facts] : Prop :=
  ∀ (m : (ℓ : Loc Cert.GradXReferenceIdeal.nD Cert.GradXReferenceIdeal.τ Cert.GradXReferenceIdeal.sig) → Buf (Elt Ideal) ℓ) (g : Dev Cert.GradXReferenceIdeal.nD → PrngReg), Pre_GradXReferenceIdeal m →
    θ_run (Cert.GradXReferenceIdeal.defs (F := Ideal)) (onTc (τ := Cert.GradXReferenceIdeal.τ) (Cert.GradXReferenceIdeal.main (F := Ideal))) ⟨m, fun _ => 0, g⟩ (fun r => (∀ c : Dev Cert.GradXReferenceIdeal.nD,
      r.2.mem ((c.tc : Thread Cert.GradXReferenceIdeal.nD Cert.GradXReferenceIdeal.τ).loc Cert.GradXReferenceIdeal.main_arg0) = m ((c.tc : Thread Cert.GradXReferenceIdeal.nD Cert.GradXReferenceIdeal.τ).loc Cert.GradXReferenceIdeal.main_arg0)
      ∧ r.2.mem ((c.tc : Thread Cert.GradXReferenceIdeal.nD Cert.GradXReferenceIdeal.τ).loc Cert.GradXReferenceIdeal.main_arg1) = m ((c.tc : Thread Cert.GradXReferenceIdeal.nD Cert.GradXReferenceIdeal.τ).loc Cert.GradXReferenceIdeal.main_arg1)
      ∧ r.2.mem ((c.tc : Thread Cert.GradXReferenceIdeal.nD Cert.GradXReferenceIdeal.τ).loc Cert.GradXReferenceIdeal.main_arg2) = m ((c.tc : Thread Cert.GradXReferenceIdeal.nD Cert.GradXReferenceIdeal.τ).loc Cert.GradXReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_DtProj [hDtProj : Cert.DtProj.Facts] : Prop :=
  ∀ (m : (ℓ : Loc Cert.DtProj.nD Cert.DtProj.τ Cert.DtProj.sig) → Buf (Elt Bits) ℓ) (g : Dev Cert.DtProj.nD → PrngReg), Pre_DtProj m →
    θ_run (Cert.DtProj.defs (F := Bits)) (onTc (τ := Cert.DtProj.τ) (Cert.DtProj.main (F := Bits))) ⟨m, fun _ => 0, g⟩ (fun r => (∀ c : Dev Cert.DtProj.nD,
      r.2.mem ((c.tc : Thread Cert.DtProj.nD Cert.DtProj.τ).loc Cert.DtProj.main_arg0) = m ((c.tc : Thread Cert.DtProj.nD Cert.DtProj.τ).loc Cert.DtProj.main_arg0)
      ∧ r.2.mem ((c.tc : Thread Cert.DtProj.nD Cert.DtProj.τ).loc Cert.DtProj.main_arg1) = m ((c.tc : Thread Cert.DtProj.nD Cert.DtProj.τ).loc Cert.DtProj.main_arg1))
      ∧ r.2.sem = fun _ => 0)

def quiescent_DtProjIdeal [hDtProjIdeal : Cert.DtProjIdeal.Facts] : Prop :=
  ∀ (m : (ℓ : Loc Cert.DtProjIdeal.nD Cert.DtProjIdeal.τ Cert.DtProjIdeal.sig) → Buf (Elt Ideal) ℓ) (g : Dev Cert.DtProjIdeal.nD → PrngReg), Pre_DtProjIdeal m →
    θ_run (Cert.DtProjIdeal.defs (F := Ideal)) (onTc (τ := Cert.DtProjIdeal.τ) (Cert.DtProjIdeal.main (F := Ideal))) ⟨m, fun _ => 0, g⟩ (fun r => (∀ c : Dev Cert.DtProjIdeal.nD,
      r.2.mem ((c.tc : Thread Cert.DtProjIdeal.nD Cert.DtProjIdeal.τ).loc Cert.DtProjIdeal.main_arg0) = m ((c.tc : Thread Cert.DtProjIdeal.nD Cert.DtProjIdeal.τ).loc Cert.DtProjIdeal.main_arg0)
      ∧ r.2.mem ((c.tc : Thread Cert.DtProjIdeal.nD Cert.DtProjIdeal.τ).loc Cert.DtProjIdeal.main_arg1) = m ((c.tc : Thread Cert.DtProjIdeal.nD Cert.DtProjIdeal.τ).loc Cert.DtProjIdeal.main_arg1))
      ∧ r.2.sem = fun _ => 0)

def quiescent_DtProjReferenceIdeal [hDtProjReferenceIdeal : Cert.DtProjReferenceIdeal.Facts] : Prop :=
  ∀ (m : (ℓ : Loc Cert.DtProjReferenceIdeal.nD Cert.DtProjReferenceIdeal.τ Cert.DtProjReferenceIdeal.sig) → Buf (Elt Ideal) ℓ) (g : Dev Cert.DtProjReferenceIdeal.nD → PrngReg), Pre_DtProjReferenceIdeal m →
    θ_run (Cert.DtProjReferenceIdeal.defs (F := Ideal)) (onTc (τ := Cert.DtProjReferenceIdeal.τ) (Cert.DtProjReferenceIdeal.main (F := Ideal))) ⟨m, fun _ => 0, g⟩ (fun r => (∀ c : Dev Cert.DtProjReferenceIdeal.nD,
      r.2.mem ((c.tc : Thread Cert.DtProjReferenceIdeal.nD Cert.DtProjReferenceIdeal.τ).loc Cert.DtProjReferenceIdeal.main_arg0) = m ((c.tc : Thread Cert.DtProjReferenceIdeal.nD Cert.DtProjReferenceIdeal.τ).loc Cert.DtProjReferenceIdeal.main_arg0)
      ∧ r.2.mem ((c.tc : Thread Cert.DtProjReferenceIdeal.nD Cert.DtProjReferenceIdeal.τ).loc Cert.DtProjReferenceIdeal.main_arg1) = m ((c.tc : Thread Cert.DtProjReferenceIdeal.nD Cert.DtProjReferenceIdeal.τ).loc Cert.DtProjReferenceIdeal.main_arg1))
      ∧ r.2.sem = fun _ => 0)

def quiescent_AOut [hAOut : Cert.AOut.Facts] : Prop :=
  ∀ (m : (ℓ : Loc Cert.AOut.nD Cert.AOut.τ Cert.AOut.sig) → Buf (Elt Bits) ℓ) (g : Dev Cert.AOut.nD → PrngReg), Pre_AOut m →
    θ_run (Cert.AOut.defs (F := Bits)) (onTc (τ := Cert.AOut.τ) (Cert.AOut.main (F := Bits))) ⟨m, fun _ => 0, g⟩ (fun r => (∀ c : Dev Cert.AOut.nD,
      r.2.mem ((c.tc : Thread Cert.AOut.nD Cert.AOut.τ).loc Cert.AOut.main_arg0) = m ((c.tc : Thread Cert.AOut.nD Cert.AOut.τ).loc Cert.AOut.main_arg0)
      ∧ r.2.mem ((c.tc : Thread Cert.AOut.nD Cert.AOut.τ).loc Cert.AOut.main_arg1) = m ((c.tc : Thread Cert.AOut.nD Cert.AOut.τ).loc Cert.AOut.main_arg1))
      ∧ r.2.sem = fun _ => 0)

def quiescent_AOutIdeal [hAOutIdeal : Cert.AOutIdeal.Facts] : Prop :=
  ∀ (m : (ℓ : Loc Cert.AOutIdeal.nD Cert.AOutIdeal.τ Cert.AOutIdeal.sig) → Buf (Elt Ideal) ℓ) (g : Dev Cert.AOutIdeal.nD → PrngReg), Pre_AOutIdeal m →
    θ_run (Cert.AOutIdeal.defs (F := Ideal)) (onTc (τ := Cert.AOutIdeal.τ) (Cert.AOutIdeal.main (F := Ideal))) ⟨m, fun _ => 0, g⟩ (fun r => (∀ c : Dev Cert.AOutIdeal.nD,
      r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
      ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1))
      ∧ r.2.sem = fun _ => 0)

def quiescent_AOutReferenceIdeal [hAOutReferenceIdeal : Cert.AOutReferenceIdeal.Facts] : Prop :=
  ∀ (m : (ℓ : Loc Cert.AOutReferenceIdeal.nD Cert.AOutReferenceIdeal.τ Cert.AOutReferenceIdeal.sig) → Buf (Elt Ideal) ℓ) (g : Dev Cert.AOutReferenceIdeal.nD → PrngReg), Pre_AOutReferenceIdeal m →
    θ_run (Cert.AOutReferenceIdeal.defs (F := Ideal)) (onTc (τ := Cert.AOutReferenceIdeal.τ) (Cert.AOutReferenceIdeal.main (F := Ideal))) ⟨m, fun _ => 0, g⟩ (fun r => (∀ c : Dev Cert.AOutReferenceIdeal.nD,
      r.2.mem ((c.tc : Thread Cert.AOutReferenceIdeal.nD Cert.AOutReferenceIdeal.τ).loc Cert.AOutReferenceIdeal.main_arg0) = m ((c.tc : Thread Cert.AOutReferenceIdeal.nD Cert.AOutReferenceIdeal.τ).loc Cert.AOutReferenceIdeal.main_arg0)
      ∧ r.2.mem ((c.tc : Thread Cert.AOutReferenceIdeal.nD Cert.AOutReferenceIdeal.τ).loc Cert.AOutReferenceIdeal.main_arg1) = m ((c.tc : Thread Cert.AOutReferenceIdeal.nD Cert.AOutReferenceIdeal.τ).loc Cert.AOutReferenceIdeal.main_arg1))
      ∧ r.2.sem = fun _ => 0)

def quiescent_BOut [hBOut : Cert.BOut.Facts] : Prop :=
  ∀ (m : (ℓ : Loc Cert.BOut.nD Cert.BOut.τ Cert.BOut.sig) → Buf (Elt Bits) ℓ) (g : Dev Cert.BOut.nD → PrngReg), Pre_BOut m →
    θ_run (Cert.BOut.defs (F := Bits)) (onTc (τ := Cert.BOut.τ) (Cert.BOut.main (F := Bits))) ⟨m, fun _ => 0, g⟩ (fun r => (∀ c : Dev Cert.BOut.nD,
      r.2.mem ((c.tc : Thread Cert.BOut.nD Cert.BOut.τ).loc Cert.BOut.main_arg0) = m ((c.tc : Thread Cert.BOut.nD Cert.BOut.τ).loc Cert.BOut.main_arg0)
      ∧ r.2.mem ((c.tc : Thread Cert.BOut.nD Cert.BOut.τ).loc Cert.BOut.main_arg1) = m ((c.tc : Thread Cert.BOut.nD Cert.BOut.τ).loc Cert.BOut.main_arg1))
      ∧ r.2.sem = fun _ => 0)

def quiescent_BOutIdeal [hBOutIdeal : Cert.BOutIdeal.Facts] : Prop :=
  ∀ (m : (ℓ : Loc Cert.BOutIdeal.nD Cert.BOutIdeal.τ Cert.BOutIdeal.sig) → Buf (Elt Ideal) ℓ) (g : Dev Cert.BOutIdeal.nD → PrngReg), Pre_BOutIdeal m →
    θ_run (Cert.BOutIdeal.defs (F := Ideal)) (onTc (τ := Cert.BOutIdeal.τ) (Cert.BOutIdeal.main (F := Ideal))) ⟨m, fun _ => 0, g⟩ (fun r => (∀ c : Dev Cert.BOutIdeal.nD,
      r.2.mem ((c.tc : Thread Cert.BOutIdeal.nD Cert.BOutIdeal.τ).loc Cert.BOutIdeal.main_arg0) = m ((c.tc : Thread Cert.BOutIdeal.nD Cert.BOutIdeal.τ).loc Cert.BOutIdeal.main_arg0)
      ∧ r.2.mem ((c.tc : Thread Cert.BOutIdeal.nD Cert.BOutIdeal.τ).loc Cert.BOutIdeal.main_arg1) = m ((c.tc : Thread Cert.BOutIdeal.nD Cert.BOutIdeal.τ).loc Cert.BOutIdeal.main_arg1))
      ∧ r.2.sem = fun _ => 0)

def quiescent_BOutReferenceIdeal [hBOutReferenceIdeal : Cert.BOutReferenceIdeal.Facts] : Prop :=
  ∀ (m : (ℓ : Loc Cert.BOutReferenceIdeal.nD Cert.BOutReferenceIdeal.τ Cert.BOutReferenceIdeal.sig) → Buf (Elt Ideal) ℓ) (g : Dev Cert.BOutReferenceIdeal.nD → PrngReg), Pre_BOutReferenceIdeal m →
    θ_run (Cert.BOutReferenceIdeal.defs (F := Ideal)) (onTc (τ := Cert.BOutReferenceIdeal.τ) (Cert.BOutReferenceIdeal.main (F := Ideal))) ⟨m, fun _ => 0, g⟩ (fun r => (∀ c : Dev Cert.BOutReferenceIdeal.nD,
      r.2.mem ((c.tc : Thread Cert.BOutReferenceIdeal.nD Cert.BOutReferenceIdeal.τ).loc Cert.BOutReferenceIdeal.main_arg0) = m ((c.tc : Thread Cert.BOutReferenceIdeal.nD Cert.BOutReferenceIdeal.τ).loc Cert.BOutReferenceIdeal.main_arg0)
      ∧ r.2.mem ((c.tc : Thread Cert.BOutReferenceIdeal.nD Cert.BOutReferenceIdeal.τ).loc Cert.BOutReferenceIdeal.main_arg1) = m ((c.tc : Thread Cert.BOutReferenceIdeal.nD Cert.BOutReferenceIdeal.τ).loc Cert.BOutReferenceIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_GateX [hGateX : Cert.GateX.Facts] : Prop :=
  ∀ (m : (ℓ : Loc Cert.GateX.nD Cert.GateX.τ Cert.GateX.sig) → Buf (Elt Bits) ℓ) (g : Dev Cert.GateX.nD → PrngReg), Pre_GateX m →
    θ_run (Cert.GateX.defs (F := Bits)) (onTc (τ := Cert.GateX.τ) (Cert.GateX.main (F := Bits))) ⟨m, fun _ => 0, g⟩ (fun r => (∀ c : Dev Cert.GateX.nD,
      r.2.mem ((c.tc : Thread Cert.GateX.nD Cert.GateX.τ).loc Cert.GateX.main_arg0) = m ((c.tc : Thread Cert.GateX.nD Cert.GateX.τ).loc Cert.GateX.main_arg0)
      ∧ r.2.mem ((c.tc : Thread Cert.GateX.nD Cert.GateX.τ).loc Cert.GateX.main_arg1) = m ((c.tc : Thread Cert.GateX.nD Cert.GateX.τ).loc Cert.GateX.main_arg1)
      ∧ r.2.mem ((c.tc : Thread Cert.GateX.nD Cert.GateX.τ).loc Cert.GateX.main_arg2) = m ((c.tc : Thread Cert.GateX.nD Cert.GateX.τ).loc Cert.GateX.main_arg2))
      ∧ r.2.sem = fun _ => 0)

def quiescent_GateXIdeal [hGateXIdeal : Cert.GateXIdeal.Facts] : Prop :=
  ∀ (m : (ℓ : Loc Cert.GateXIdeal.nD Cert.GateXIdeal.τ Cert.GateXIdeal.sig) → Buf (Elt Ideal) ℓ) (g : Dev Cert.GateXIdeal.nD → PrngReg), Pre_GateXIdeal m →
    θ_run (Cert.GateXIdeal.defs (F := Ideal)) (onTc (τ := Cert.GateXIdeal.τ) (Cert.GateXIdeal.main (F := Ideal))) ⟨m, fun _ => 0, g⟩ (fun r => (∀ c : Dev Cert.GateXIdeal.nD,
      r.2.mem ((c.tc : Thread Cert.GateXIdeal.nD Cert.GateXIdeal.τ).loc Cert.GateXIdeal.main_arg0) = m ((c.tc : Thread Cert.GateXIdeal.nD Cert.GateXIdeal.τ).loc Cert.GateXIdeal.main_arg0)
      ∧ r.2.mem ((c.tc : Thread Cert.GateXIdeal.nD Cert.GateXIdeal.τ).loc Cert.GateXIdeal.main_arg1) = m ((c.tc : Thread Cert.GateXIdeal.nD Cert.GateXIdeal.τ).loc Cert.GateXIdeal.main_arg1)
      ∧ r.2.mem ((c.tc : Thread Cert.GateXIdeal.nD Cert.GateXIdeal.τ).loc Cert.GateXIdeal.main_arg2) = m ((c.tc : Thread Cert.GateXIdeal.nD Cert.GateXIdeal.τ).loc Cert.GateXIdeal.main_arg2))
      ∧ r.2.sem = fun _ => 0)

def quiescent_GateXReferenceIdeal [hGateXReferenceIdeal : Cert.GateXReferenceIdeal.Facts] : Prop :=
  ∀ (m : (ℓ : Loc Cert.GateXReferenceIdeal.nD Cert.GateXReferenceIdeal.τ Cert.GateXReferenceIdeal.sig) → Buf (Elt Ideal) ℓ) (g : Dev Cert.GateXReferenceIdeal.nD → PrngReg), Pre_GateXReferenceIdeal m →
    θ_run (Cert.GateXReferenceIdeal.defs (F := Ideal)) (onTc (τ := Cert.GateXReferenceIdeal.τ) (Cert.GateXReferenceIdeal.main (F := Ideal))) ⟨m, fun _ => 0, g⟩ (fun r => (∀ c : Dev Cert.GateXReferenceIdeal.nD,
      r.2.mem ((c.tc : Thread Cert.GateXReferenceIdeal.nD Cert.GateXReferenceIdeal.τ).loc Cert.GateXReferenceIdeal.main_arg0) = m ((c.tc : Thread Cert.GateXReferenceIdeal.nD Cert.GateXReferenceIdeal.τ).loc Cert.GateXReferenceIdeal.main_arg0)
      ∧ r.2.mem ((c.tc : Thread Cert.GateXReferenceIdeal.nD Cert.GateXReferenceIdeal.τ).loc Cert.GateXReferenceIdeal.main_arg1) = m ((c.tc : Thread Cert.GateXReferenceIdeal.nD Cert.GateXReferenceIdeal.τ).loc Cert.GateXReferenceIdeal.main_arg1)
      ∧ r.2.mem ((c.tc : Thread Cert.GateXReferenceIdeal.nD Cert.GateXReferenceIdeal.τ).loc Cert.GateXReferenceIdeal.main_arg2) = m ((c.tc : Thread Cert.GateXReferenceIdeal.nD Cert.GateXReferenceIdeal.τ).loc Cert.GateXReferenceIdeal.main_arg2))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ r.2.sem = fun _ => 0)

def quiescent_DownXReferenceIdeal [hDownXReferenceIdeal : Cert.DownXReferenceIdeal.Facts] : Prop :=
  ∀ (m : (ℓ : Loc Cert.DownXReferenceIdeal.nD Cert.DownXReferenceIdeal.τ Cert.DownXReferenceIdeal.sig) → Buf (Elt Ideal) ℓ) (g : Dev Cert.DownXReferenceIdeal.nD → PrngReg), Pre_DownXReferenceIdeal m →
    θ_run (Cert.DownXReferenceIdeal.defs (F := Ideal)) (onTc (τ := Cert.DownXReferenceIdeal.τ) (Cert.DownXReferenceIdeal.main (F := Ideal))) ⟨m, fun _ => 0, g⟩ (fun r => (∀ c : Dev Cert.DownXReferenceIdeal.nD,
      r.2.mem ((c.tc : Thread Cert.DownXReferenceIdeal.nD Cert.DownXReferenceIdeal.τ).loc Cert.DownXReferenceIdeal.main_arg0) = m ((c.tc : Thread Cert.DownXReferenceIdeal.nD Cert.DownXReferenceIdeal.τ).loc Cert.DownXReferenceIdeal.main_arg0)
      ∧ r.2.mem ((c.tc : Thread Cert.DownXReferenceIdeal.nD Cert.DownXReferenceIdeal.τ).loc Cert.DownXReferenceIdeal.main_arg1) = m ((c.tc : Thread Cert.DownXReferenceIdeal.nD Cert.DownXReferenceIdeal.τ).loc Cert.DownXReferenceIdeal.main_arg1))
      ∧ r.2.sem = fun _ => 0)

def quiescent_GateUpX [hGateUpX : Cert.GateUpX.Facts] : Prop :=
  ∀ (m : (ℓ : Loc Cert.GateUpX.nD Cert.GateUpX.τ Cert.GateUpX.sig) → Buf (Elt Bits) ℓ) (g : Dev Cert.GateUpX.nD → PrngReg), Pre_GateUpX m →
    θ_run (Cert.GateUpX.defs (F := Bits)) (onTc (τ := Cert.GateUpX.τ) (Cert.GateUpX.main (F := Bits))) ⟨m, fun _ => 0, g⟩ (fun r => (∀ c : Dev Cert.GateUpX.nD,
      r.2.mem ((c.tc : Thread Cert.GateUpX.nD Cert.GateUpX.τ).loc Cert.GateUpX.main_arg0) = m ((c.tc : Thread Cert.GateUpX.nD Cert.GateUpX.τ).loc Cert.GateUpX.main_arg0)
      ∧ r.2.mem ((c.tc : Thread Cert.GateUpX.nD Cert.GateUpX.τ).loc Cert.GateUpX.main_arg1) = m ((c.tc : Thread Cert.GateUpX.nD Cert.GateUpX.τ).loc Cert.GateUpX.main_arg1)
      ∧ r.2.mem ((c.tc : Thread Cert.GateUpX.nD Cert.GateUpX.τ).loc Cert.GateUpX.main_arg2) = m ((c.tc : Thread Cert.GateUpX.nD Cert.GateUpX.τ).loc Cert.GateUpX.main_arg2))
      ∧ r.2.sem = fun _ => 0)

def quiescent_GateUpXIdeal [hGateUpXIdeal : Cert.GateUpXIdeal.Facts] : Prop :=
  ∀ (m : (ℓ : Loc Cert.GateUpXIdeal.nD Cert.GateUpXIdeal.τ Cert.GateUpXIdeal.sig) → Buf (Elt Ideal) ℓ) (g : Dev Cert.GateUpXIdeal.nD → PrngReg), Pre_GateUpXIdeal m →
    θ_run (Cert.GateUpXIdeal.defs (F := Ideal)) (onTc (τ := Cert.GateUpXIdeal.τ) (Cert.GateUpXIdeal.main (F := Ideal))) ⟨m, fun _ => 0, g⟩ (fun r => (∀ c : Dev Cert.GateUpXIdeal.nD,
      r.2.mem ((c.tc : Thread Cert.GateUpXIdeal.nD Cert.GateUpXIdeal.τ).loc Cert.GateUpXIdeal.main_arg0) = m ((c.tc : Thread Cert.GateUpXIdeal.nD Cert.GateUpXIdeal.τ).loc Cert.GateUpXIdeal.main_arg0)
      ∧ r.2.mem ((c.tc : Thread Cert.GateUpXIdeal.nD Cert.GateUpXIdeal.τ).loc Cert.GateUpXIdeal.main_arg1) = m ((c.tc : Thread Cert.GateUpXIdeal.nD Cert.GateUpXIdeal.τ).loc Cert.GateUpXIdeal.main_arg1)
      ∧ r.2.mem ((c.tc : Thread Cert.GateUpXIdeal.nD Cert.GateUpXIdeal.τ).loc Cert.GateUpXIdeal.main_arg2) = m ((c.tc : Thread Cert.GateUpXIdeal.nD Cert.GateUpXIdeal.τ).loc Cert.GateUpXIdeal.main_arg2))
      ∧ r.2.sem = fun _ => 0)

def quiescent_GateUpXReferenceIdeal [hGateUpXReferenceIdeal : Cert.GateUpXReferenceIdeal.Facts] : Prop :=
  ∀ (m : (ℓ : Loc Cert.GateUpXReferenceIdeal.nD Cert.GateUpXReferenceIdeal.τ Cert.GateUpXReferenceIdeal.sig) → Buf (Elt Ideal) ℓ) (g : Dev Cert.GateUpXReferenceIdeal.nD → PrngReg), Pre_GateUpXReferenceIdeal m →
    θ_run (Cert.GateUpXReferenceIdeal.defs (F := Ideal)) (onTc (τ := Cert.GateUpXReferenceIdeal.τ) (Cert.GateUpXReferenceIdeal.main (F := Ideal))) ⟨m, fun _ => 0, g⟩ (fun r => (∀ c : Dev Cert.GateUpXReferenceIdeal.nD,
      r.2.mem ((c.tc : Thread Cert.GateUpXReferenceIdeal.nD Cert.GateUpXReferenceIdeal.τ).loc Cert.GateUpXReferenceIdeal.main_arg0) = m ((c.tc : Thread Cert.GateUpXReferenceIdeal.nD Cert.GateUpXReferenceIdeal.τ).loc Cert.GateUpXReferenceIdeal.main_arg0)
      ∧ r.2.mem ((c.tc : Thread Cert.GateUpXReferenceIdeal.nD Cert.GateUpXReferenceIdeal.τ).loc Cert.GateUpXReferenceIdeal.main_arg1) = m ((c.tc : Thread Cert.GateUpXReferenceIdeal.nD Cert.GateUpXReferenceIdeal.τ).loc Cert.GateUpXReferenceIdeal.main_arg1)
      ∧ r.2.mem ((c.tc : Thread Cert.GateUpXReferenceIdeal.nD Cert.GateUpXReferenceIdeal.τ).loc Cert.GateUpXReferenceIdeal.main_arg2) = m ((c.tc : Thread Cert.GateUpXReferenceIdeal.nD Cert.GateUpXReferenceIdeal.τ).loc Cert.GateUpXReferenceIdeal.main_arg2))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ r.2.sem = fun _ => 0)

def quiescent_OutXReferenceIdeal [hOutXReferenceIdeal : Cert.OutXReferenceIdeal.Facts] : Prop :=
  ∀ (m : (ℓ : Loc Cert.OutXReferenceIdeal.nD Cert.OutXReferenceIdeal.τ Cert.OutXReferenceIdeal.sig) → Buf (Elt Ideal) ℓ) (g : Dev Cert.OutXReferenceIdeal.nD → PrngReg), Pre_OutXReferenceIdeal m →
    θ_run (Cert.OutXReferenceIdeal.defs (F := Ideal)) (onTc (τ := Cert.OutXReferenceIdeal.τ) (Cert.OutXReferenceIdeal.main (F := Ideal))) ⟨m, fun _ => 0, g⟩ (fun r => (∀ c : Dev Cert.OutXReferenceIdeal.nD,
      r.2.mem ((c.tc : Thread Cert.OutXReferenceIdeal.nD Cert.OutXReferenceIdeal.τ).loc Cert.OutXReferenceIdeal.main_arg0) = m ((c.tc : Thread Cert.OutXReferenceIdeal.nD Cert.OutXReferenceIdeal.τ).loc Cert.OutXReferenceIdeal.main_arg0)
      ∧ r.2.mem ((c.tc : Thread Cert.OutXReferenceIdeal.nD Cert.OutXReferenceIdeal.τ).loc Cert.OutXReferenceIdeal.main_arg1) = m ((c.tc : Thread Cert.OutXReferenceIdeal.nD Cert.OutXReferenceIdeal.τ).loc Cert.OutXReferenceIdeal.main_arg1))
      ∧ r.2.sem = fun _ => 0)

def quiescent_BOutX [hBOutX : Cert.BOutX.Facts] : Prop :=
  ∀ (m : (ℓ : Loc Cert.BOutX.nD Cert.BOutX.τ Cert.BOutX.sig) → Buf (Elt Bits) ℓ) (g : Dev Cert.BOutX.nD → PrngReg), Pre_BOutX m →
    θ_run (Cert.BOutX.defs (F := Bits)) (onTc (τ := Cert.BOutX.τ) (Cert.BOutX.main (F := Bits))) ⟨m, fun _ => 0, g⟩ (fun r => (∀ c : Dev Cert.BOutX.nD,
      r.2.mem ((c.tc : Thread Cert.BOutX.nD Cert.BOutX.τ).loc Cert.BOutX.main_arg0) = m ((c.tc : Thread Cert.BOutX.nD Cert.BOutX.τ).loc Cert.BOutX.main_arg0)
      ∧ r.2.mem ((c.tc : Thread Cert.BOutX.nD Cert.BOutX.τ).loc Cert.BOutX.main_arg1) = m ((c.tc : Thread Cert.BOutX.nD Cert.BOutX.τ).loc Cert.BOutX.main_arg1))
      ∧ r.2.sem = fun _ => 0)

def quiescent_BOutXIdeal [hBOutXIdeal : Cert.BOutXIdeal.Facts] : Prop :=
  ∀ (m : (ℓ : Loc Cert.BOutXIdeal.nD Cert.BOutXIdeal.τ Cert.BOutXIdeal.sig) → Buf (Elt Ideal) ℓ) (g : Dev Cert.BOutXIdeal.nD → PrngReg), Pre_BOutXIdeal m →
    θ_run (Cert.BOutXIdeal.defs (F := Ideal)) (onTc (τ := Cert.BOutXIdeal.τ) (Cert.BOutXIdeal.main (F := Ideal))) ⟨m, fun _ => 0, g⟩ (fun r => (∀ c : Dev Cert.BOutXIdeal.nD,
      r.2.mem ((c.tc : Thread Cert.BOutXIdeal.nD Cert.BOutXIdeal.τ).loc Cert.BOutXIdeal.main_arg0) = m ((c.tc : Thread Cert.BOutXIdeal.nD Cert.BOutXIdeal.τ).loc Cert.BOutXIdeal.main_arg0)
      ∧ r.2.mem ((c.tc : Thread Cert.BOutXIdeal.nD Cert.BOutXIdeal.τ).loc Cert.BOutXIdeal.main_arg1) = m ((c.tc : Thread Cert.BOutXIdeal.nD Cert.BOutXIdeal.τ).loc Cert.BOutXIdeal.main_arg1))
      ∧ r.2.sem = fun _ => 0)

def quiescent_BOutXReferenceIdeal [hBOutXReferenceIdeal : Cert.BOutXReferenceIdeal.Facts] : Prop :=
  ∀ (m : (ℓ : Loc Cert.BOutXReferenceIdeal.nD Cert.BOutXReferenceIdeal.τ Cert.BOutXReferenceIdeal.sig) → Buf (Elt Ideal) ℓ) (g : Dev Cert.BOutXReferenceIdeal.nD → PrngReg), Pre_BOutXReferenceIdeal m →
    θ_run (Cert.BOutXReferenceIdeal.defs (F := Ideal)) (onTc (τ := Cert.BOutXReferenceIdeal.τ) (Cert.BOutXReferenceIdeal.main (F := Ideal))) ⟨m, fun _ => 0, g⟩ (fun r => (∀ c : Dev Cert.BOutXReferenceIdeal.nD,
      r.2.mem ((c.tc : Thread Cert.BOutXReferenceIdeal.nD Cert.BOutXReferenceIdeal.τ).loc Cert.BOutXReferenceIdeal.main_arg0) = m ((c.tc : Thread Cert.BOutXReferenceIdeal.nD Cert.BOutXReferenceIdeal.τ).loc Cert.BOutXReferenceIdeal.main_arg0)
      ∧ r.2.mem ((c.tc : Thread Cert.BOutXReferenceIdeal.nD Cert.BOutXReferenceIdeal.τ).loc Cert.BOutXReferenceIdeal.main_arg1) = m ((c.tc : Thread Cert.BOutXReferenceIdeal.nD Cert.BOutXReferenceIdeal.τ).loc Cert.BOutXReferenceIdeal.main_arg1))
      ∧ r.2.sem = fun _ => 0)

def quiescent_GateW [hGateW : Cert.GateW.Facts] : Prop :=
  ∀ (m : (ℓ : Loc Cert.GateW.nD Cert.GateW.τ Cert.GateW.sig) → Buf (Elt Bits) ℓ) (g : Dev Cert.GateW.nD → PrngReg), Pre_GateW m →
    θ_run (Cert.GateW.defs (F := Bits)) (onTc (τ := Cert.GateW.τ) (Cert.GateW.main (F := Bits))) ⟨m, fun _ => 0, g⟩ (fun r => (∀ c : Dev Cert.GateW.nD,
      r.2.mem ((c.tc : Thread Cert.GateW.nD Cert.GateW.τ).loc Cert.GateW.main_arg0) = m ((c.tc : Thread Cert.GateW.nD Cert.GateW.τ).loc Cert.GateW.main_arg0)
      ∧ r.2.mem ((c.tc : Thread Cert.GateW.nD Cert.GateW.τ).loc Cert.GateW.main_arg1) = m ((c.tc : Thread Cert.GateW.nD Cert.GateW.τ).loc Cert.GateW.main_arg1))
      ∧ r.2.sem = fun _ => 0)

def quiescent_GateWIdeal [hGateWIdeal : Cert.GateWIdeal.Facts] : Prop :=
  ∀ (m : (ℓ : Loc Cert.GateWIdeal.nD Cert.GateWIdeal.τ Cert.GateWIdeal.sig) → Buf (Elt Ideal) ℓ) (g : Dev Cert.GateWIdeal.nD → PrngReg), Pre_GateWIdeal m →
    θ_run (Cert.GateWIdeal.defs (F := Ideal)) (onTc (τ := Cert.GateWIdeal.τ) (Cert.GateWIdeal.main (F := Ideal))) ⟨m, fun _ => 0, g⟩ (fun r => (∀ c : Dev Cert.GateWIdeal.nD,
      r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
      ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ r.2.sem = fun _ => 0)

def quiescent_GateWReferenceIdeal [hGateWReferenceIdeal : Cert.GateWReferenceIdeal.Facts] : Prop :=
  ∀ (m : (ℓ : Loc Cert.GateWReferenceIdeal.nD Cert.GateWReferenceIdeal.τ Cert.GateWReferenceIdeal.sig) → Buf (Elt Ideal) ℓ) (g : Dev Cert.GateWReferenceIdeal.nD → PrngReg), Pre_GateWReferenceIdeal m →
    θ_run (Cert.GateWReferenceIdeal.defs (F := Ideal)) (onTc (τ := Cert.GateWReferenceIdeal.τ) (Cert.GateWReferenceIdeal.main (F := Ideal))) ⟨m, fun _ => 0, g⟩ (fun r => (∀ c : Dev Cert.GateWReferenceIdeal.nD,
      r.2.mem ((c.tc : Thread Cert.GateWReferenceIdeal.nD Cert.GateWReferenceIdeal.τ).loc Cert.GateWReferenceIdeal.main_arg0) = m ((c.tc : Thread Cert.GateWReferenceIdeal.nD Cert.GateWReferenceIdeal.τ).loc Cert.GateWReferenceIdeal.main_arg0)
      ∧ r.2.mem ((c.tc : Thread Cert.GateWReferenceIdeal.nD Cert.GateWReferenceIdeal.τ).loc Cert.GateWReferenceIdeal.main_arg1) = m ((c.tc : Thread Cert.GateWReferenceIdeal.nD Cert.GateWReferenceIdeal.τ).loc Cert.GateWReferenceIdeal.main_arg1))
      ∧ r.2.sem = fun _ => 0)

def quiescent_PleW [hPleW : Cert.PleW.Facts] : Prop :=
  ∀ (m : (ℓ : Loc Cert.PleW.nD Cert.PleW.τ Cert.PleW.sig) → Buf (Elt Bits) ℓ) (g : Dev Cert.PleW.nD → PrngReg), Pre_PleW m →
    θ_run (Cert.PleW.defs (F := Bits)) (onTc (τ := Cert.PleW.τ) (Cert.PleW.main (F := Bits))) ⟨m, fun _ => 0, g⟩ (fun r => (∀ c : Dev Cert.PleW.nD,
      r.2.mem ((c.tc : Thread Cert.PleW.nD Cert.PleW.τ).loc Cert.PleW.main_arg0) = m ((c.tc : Thread Cert.PleW.nD Cert.PleW.τ).loc Cert.PleW.main_arg0)
      ∧ r.2.mem ((c.tc : Thread Cert.PleW.nD Cert.PleW.τ).loc Cert.PleW.main_arg1) = m ((c.tc : Thread Cert.PleW.nD Cert.PleW.τ).loc Cert.PleW.main_arg1))
      ∧ r.2.sem = fun _ => 0)

def quiescent_PleWIdeal [hPleWIdeal : Cert.PleWIdeal.Facts] : Prop :=
  ∀ (m : (ℓ : Loc Cert.PleWIdeal.nD Cert.PleWIdeal.τ Cert.PleWIdeal.sig) → Buf (Elt Ideal) ℓ) (g : Dev Cert.PleWIdeal.nD → PrngReg), Pre_PleWIdeal m →
    θ_run (Cert.PleWIdeal.defs (F := Ideal)) (onTc (τ := Cert.PleWIdeal.τ) (Cert.PleWIdeal.main (F := Ideal))) ⟨m, fun _ => 0, g⟩ (fun r => (∀ c : Dev Cert.PleWIdeal.nD,
      r.2.mem ((c.tc : Thread Cert.PleWIdeal.nD Cert.PleWIdeal.τ).loc Cert.PleWIdeal.main_arg0) = m ((c.tc : Thread Cert.PleWIdeal.nD Cert.PleWIdeal.τ).loc Cert.PleWIdeal.main_arg0)
      ∧ r.2.mem ((c.tc : Thread Cert.PleWIdeal.nD Cert.PleWIdeal.τ).loc Cert.PleWIdeal.main_arg1) = m ((c.tc : Thread Cert.PleWIdeal.nD Cert.PleWIdeal.τ).loc Cert.PleWIdeal.main_arg1))
      ∧ r.2.sem = fun _ => 0)

def quiescent_PleWReferenceIdeal [hPleWReferenceIdeal : Cert.PleWReferenceIdeal.Facts] : Prop :=
  ∀ (m : (ℓ : Loc Cert.PleWReferenceIdeal.nD Cert.PleWReferenceIdeal.τ Cert.PleWReferenceIdeal.sig) → Buf (Elt Ideal) ℓ) (g : Dev Cert.PleWReferenceIdeal.nD → PrngReg), Pre_PleWReferenceIdeal m →
    θ_run (Cert.PleWReferenceIdeal.defs (F := Ideal)) (onTc (τ := Cert.PleWReferenceIdeal.τ) (Cert.PleWReferenceIdeal.main (F := Ideal))) ⟨m, fun _ => 0, g⟩ (fun r => (∀ c : Dev Cert.PleWReferenceIdeal.nD,
      r.2.mem ((c.tc : Thread Cert.PleWReferenceIdeal.nD Cert.PleWReferenceIdeal.τ).loc Cert.PleWReferenceIdeal.main_arg0) = m ((c.tc : Thread Cert.PleWReferenceIdeal.nD Cert.PleWReferenceIdeal.τ).loc Cert.PleWReferenceIdeal.main_arg0)
      ∧ r.2.mem ((c.tc : Thread Cert.PleWReferenceIdeal.nD Cert.PleWReferenceIdeal.τ).loc Cert.PleWReferenceIdeal.main_arg1) = m ((c.tc : Thread Cert.PleWReferenceIdeal.nD Cert.PleWReferenceIdeal.τ).loc Cert.PleWReferenceIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWReferenceIdeal [hDownWReferenceIdeal : Cert.DownWReferenceIdeal.Facts] : Prop :=
  ∀ (m : (ℓ : Loc Cert.DownWReferenceIdeal.nD Cert.DownWReferenceIdeal.τ Cert.DownWReferenceIdeal.sig) → Buf (Elt Ideal) ℓ) (g : Dev Cert.DownWReferenceIdeal.nD → PrngReg), Pre_DownWReferenceIdeal m →
    θ_run (Cert.DownWReferenceIdeal.defs (F := Ideal)) (onTc (τ := Cert.DownWReferenceIdeal.τ) (Cert.DownWReferenceIdeal.main (F := Ideal))) ⟨m, fun _ => 0, g⟩ (fun r => (∀ c : Dev Cert.DownWReferenceIdeal.nD,
      r.2.mem ((c.tc : Thread Cert.DownWReferenceIdeal.nD Cert.DownWReferenceIdeal.τ).loc Cert.DownWReferenceIdeal.main_arg0) = m ((c.tc : Thread Cert.DownWReferenceIdeal.nD Cert.DownWReferenceIdeal.τ).loc Cert.DownWReferenceIdeal.main_arg0)
      ∧ r.2.mem ((c.tc : Thread Cert.DownWReferenceIdeal.nD Cert.DownWReferenceIdeal.τ).loc Cert.DownWReferenceIdeal.main_arg1) = m ((c.tc : Thread Cert.DownWReferenceIdeal.nD Cert.DownWReferenceIdeal.τ).loc Cert.DownWReferenceIdeal.main_arg1))
      ∧ r.2.sem = fun _ => 0)

def quiescent_GateUpW [hGateUpW : Cert.GateUpW.Facts] : Prop :=
  ∀ (m : (ℓ : Loc Cert.GateUpW.nD Cert.GateUpW.τ Cert.GateUpW.sig) → Buf (Elt Bits) ℓ) (g : Dev Cert.GateUpW.nD → PrngReg), Pre_GateUpW m →
    θ_run (Cert.GateUpW.defs (F := Bits)) (onTc (τ := Cert.GateUpW.τ) (Cert.GateUpW.main (F := Bits))) ⟨m, fun _ => 0, g⟩ (fun r => (∀ c : Dev Cert.GateUpW.nD,
      r.2.mem ((c.tc : Thread Cert.GateUpW.nD Cert.GateUpW.τ).loc Cert.GateUpW.main_arg0) = m ((c.tc : Thread Cert.GateUpW.nD Cert.GateUpW.τ).loc Cert.GateUpW.main_arg0)
      ∧ r.2.mem ((c.tc : Thread Cert.GateUpW.nD Cert.GateUpW.τ).loc Cert.GateUpW.main_arg1) = m ((c.tc : Thread Cert.GateUpW.nD Cert.GateUpW.τ).loc Cert.GateUpW.main_arg1))
      ∧ r.2.sem = fun _ => 0)

def quiescent_GateUpWIdeal [hGateUpWIdeal : Cert.GateUpWIdeal.Facts] : Prop :=
  ∀ (m : (ℓ : Loc Cert.GateUpWIdeal.nD Cert.GateUpWIdeal.τ Cert.GateUpWIdeal.sig) → Buf (Elt Ideal) ℓ) (g : Dev Cert.GateUpWIdeal.nD → PrngReg), Pre_GateUpWIdeal m →
    θ_run (Cert.GateUpWIdeal.defs (F := Ideal)) (onTc (τ := Cert.GateUpWIdeal.τ) (Cert.GateUpWIdeal.main (F := Ideal))) ⟨m, fun _ => 0, g⟩ (fun r => (∀ c : Dev Cert.GateUpWIdeal.nD,
      r.2.mem ((c.tc : Thread Cert.GateUpWIdeal.nD Cert.GateUpWIdeal.τ).loc Cert.GateUpWIdeal.main_arg0) = m ((c.tc : Thread Cert.GateUpWIdeal.nD Cert.GateUpWIdeal.τ).loc Cert.GateUpWIdeal.main_arg0)
      ∧ r.2.mem ((c.tc : Thread Cert.GateUpWIdeal.nD Cert.GateUpWIdeal.τ).loc Cert.GateUpWIdeal.main_arg1) = m ((c.tc : Thread Cert.GateUpWIdeal.nD Cert.GateUpWIdeal.τ).loc Cert.GateUpWIdeal.main_arg1))
      ∧ r.2.sem = fun _ => 0)

def quiescent_GateUpWReferenceIdeal [hGateUpWReferenceIdeal : Cert.GateUpWReferenceIdeal.Facts] : Prop :=
  ∀ (m : (ℓ : Loc Cert.GateUpWReferenceIdeal.nD Cert.GateUpWReferenceIdeal.τ Cert.GateUpWReferenceIdeal.sig) → Buf (Elt Ideal) ℓ) (g : Dev Cert.GateUpWReferenceIdeal.nD → PrngReg), Pre_GateUpWReferenceIdeal m →
    θ_run (Cert.GateUpWReferenceIdeal.defs (F := Ideal)) (onTc (τ := Cert.GateUpWReferenceIdeal.τ) (Cert.GateUpWReferenceIdeal.main (F := Ideal))) ⟨m, fun _ => 0, g⟩ (fun r => (∀ c : Dev Cert.GateUpWReferenceIdeal.nD,
      r.2.mem ((c.tc : Thread Cert.GateUpWReferenceIdeal.nD Cert.GateUpWReferenceIdeal.τ).loc Cert.GateUpWReferenceIdeal.main_arg0) = m ((c.tc : Thread Cert.GateUpWReferenceIdeal.nD Cert.GateUpWReferenceIdeal.τ).loc Cert.GateUpWReferenceIdeal.main_arg0)
      ∧ r.2.mem ((c.tc : Thread Cert.GateUpWReferenceIdeal.nD Cert.GateUpWReferenceIdeal.τ).loc Cert.GateUpWReferenceIdeal.main_arg1) = m ((c.tc : Thread Cert.GateUpWReferenceIdeal.nD Cert.GateUpWReferenceIdeal.τ).loc Cert.GateUpWReferenceIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWReferenceIdeal [hOutWReferenceIdeal : Cert.OutWReferenceIdeal.Facts] : Prop :=
  ∀ (m : (ℓ : Loc Cert.OutWReferenceIdeal.nD Cert.OutWReferenceIdeal.τ Cert.OutWReferenceIdeal.sig) → Buf (Elt Ideal) ℓ) (g : Dev Cert.OutWReferenceIdeal.nD → PrngReg), Pre_OutWReferenceIdeal m →
    θ_run (Cert.OutWReferenceIdeal.defs (F := Ideal)) (onTc (τ := Cert.OutWReferenceIdeal.τ) (Cert.OutWReferenceIdeal.main (F := Ideal))) ⟨m, fun _ => 0, g⟩ (fun r => (∀ c : Dev Cert.OutWReferenceIdeal.nD,
      r.2.mem ((c.tc : Thread Cert.OutWReferenceIdeal.nD Cert.OutWReferenceIdeal.τ).loc Cert.OutWReferenceIdeal.main_arg0) = m ((c.tc : Thread Cert.OutWReferenceIdeal.nD Cert.OutWReferenceIdeal.τ).loc Cert.OutWReferenceIdeal.main_arg0)
      ∧ r.2.mem ((c.tc : Thread Cert.OutWReferenceIdeal.nD Cert.OutWReferenceIdeal.τ).loc Cert.OutWReferenceIdeal.main_arg1) = m ((c.tc : Thread Cert.OutWReferenceIdeal.nD Cert.OutWReferenceIdeal.τ).loc Cert.OutWReferenceIdeal.main_arg1))
      ∧ r.2.sem = fun _ => 0)

def quiescent_BOutW [hBOutW : Cert.BOutW.Facts] : Prop :=
  ∀ (m : (ℓ : Loc Cert.BOutW.nD Cert.BOutW.τ Cert.BOutW.sig) → Buf (Elt Bits) ℓ) (g : Dev Cert.BOutW.nD → PrngReg), Pre_BOutW m →
    θ_run (Cert.BOutW.defs (F := Bits)) (onTc (τ := Cert.BOutW.τ) (Cert.BOutW.main (F := Bits))) ⟨m, fun _ => 0, g⟩ (fun r => (∀ c : Dev Cert.BOutW.nD,
      r.2.mem ((c.tc : Thread Cert.BOutW.nD Cert.BOutW.τ).loc Cert.BOutW.main_arg0) = m ((c.tc : Thread Cert.BOutW.nD Cert.BOutW.τ).loc Cert.BOutW.main_arg0)
      ∧ r.2.mem ((c.tc : Thread Cert.BOutW.nD Cert.BOutW.τ).loc Cert.BOutW.main_arg1) = m ((c.tc : Thread Cert.BOutW.nD Cert.BOutW.τ).loc Cert.BOutW.main_arg1))
      ∧ r.2.sem = fun _ => 0)

def quiescent_BOutWIdeal [hBOutWIdeal : Cert.BOutWIdeal.Facts] : Prop :=
  ∀ (m : (ℓ : Loc Cert.BOutWIdeal.nD Cert.BOutWIdeal.τ Cert.BOutWIdeal.sig) → Buf (Elt Ideal) ℓ) (g : Dev Cert.BOutWIdeal.nD → PrngReg), Pre_BOutWIdeal m →
    θ_run (Cert.BOutWIdeal.defs (F := Ideal)) (onTc (τ := Cert.BOutWIdeal.τ) (Cert.BOutWIdeal.main (F := Ideal))) ⟨m, fun _ => 0, g⟩ (fun r => (∀ c : Dev Cert.BOutWIdeal.nD,
      r.2.mem ((c.tc : Thread Cert.BOutWIdeal.nD Cert.BOutWIdeal.τ).loc Cert.BOutWIdeal.main_arg0) = m ((c.tc : Thread Cert.BOutWIdeal.nD Cert.BOutWIdeal.τ).loc Cert.BOutWIdeal.main_arg0)
      ∧ r.2.mem ((c.tc : Thread Cert.BOutWIdeal.nD Cert.BOutWIdeal.τ).loc Cert.BOutWIdeal.main_arg1) = m ((c.tc : Thread Cert.BOutWIdeal.nD Cert.BOutWIdeal.τ).loc Cert.BOutWIdeal.main_arg1))
      ∧ r.2.sem = fun _ => 0)

def quiescent_BOutWReferenceIdeal [hBOutWReferenceIdeal : Cert.BOutWReferenceIdeal.Facts] : Prop :=
  ∀ (m : (ℓ : Loc Cert.BOutWReferenceIdeal.nD Cert.BOutWReferenceIdeal.τ Cert.BOutWReferenceIdeal.sig) → Buf (Elt Ideal) ℓ) (g : Dev Cert.BOutWReferenceIdeal.nD → PrngReg), Pre_BOutWReferenceIdeal m →
    θ_run (Cert.BOutWReferenceIdeal.defs (F := Ideal)) (onTc (τ := Cert.BOutWReferenceIdeal.τ) (Cert.BOutWReferenceIdeal.main (F := Ideal))) ⟨m, fun _ => 0, g⟩ (fun r => (∀ c : Dev Cert.BOutWReferenceIdeal.nD,
      r.2.mem ((c.tc : Thread Cert.BOutWReferenceIdeal.nD Cert.BOutWReferenceIdeal.τ).loc Cert.BOutWReferenceIdeal.main_arg0) = m ((c.tc : Thread Cert.BOutWReferenceIdeal.nD Cert.BOutWReferenceIdeal.τ).loc Cert.BOutWReferenceIdeal.main_arg0)
      ∧ r.2.mem ((c.tc : Thread Cert.BOutWReferenceIdeal.nD Cert.BOutWReferenceIdeal.τ).loc Cert.BOutWReferenceIdeal.main_arg1) = m ((c.tc : Thread Cert.BOutWReferenceIdeal.nD Cert.BOutWReferenceIdeal.τ).loc Cert.BOutWReferenceIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWReferenceIdeal [hInWReferenceIdeal : Cert.InWReferenceIdeal.Facts] : Prop :=
  ∀ (m : (ℓ : Loc Cert.InWReferenceIdeal.nD Cert.InWReferenceIdeal.τ Cert.InWReferenceIdeal.sig) → Buf (Elt Ideal) ℓ) (g : Dev Cert.InWReferenceIdeal.nD → PrngReg), Pre_InWReferenceIdeal m →
    θ_run (Cert.InWReferenceIdeal.defs (F := Ideal)) (onTc (τ := Cert.InWReferenceIdeal.τ) (Cert.InWReferenceIdeal.main (F := Ideal))) ⟨m, fun _ => 0, g⟩ (fun r => (∀ c : Dev Cert.InWReferenceIdeal.nD,
      r.2.mem ((c.tc : Thread Cert.InWReferenceIdeal.nD Cert.InWReferenceIdeal.τ).loc Cert.InWReferenceIdeal.main_arg0) = m ((c.tc : Thread Cert.InWReferenceIdeal.nD Cert.InWReferenceIdeal.τ).loc Cert.InWReferenceIdeal.main_arg0)
      ∧ r.2.mem ((c.tc : Thread Cert.InWReferenceIdeal.nD Cert.InWReferenceIdeal.τ).loc Cert.InWReferenceIdeal.main_arg1) = m ((c.tc : Thread Cert.InWReferenceIdeal.nD Cert.InWReferenceIdeal.τ).loc Cert.InWReferenceIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0))
      ∧ r.2.sem = fun _ => 0)

def quiescent_LnSilu [hLnSilu : Cert.LnSilu.Facts] : Prop :=
  ∀ (m : (ℓ : Loc Cert.LnSilu.nD Cert.LnSilu.τ Cert.LnSilu.sig) → Buf (Elt Bits) ℓ) (g : Dev Cert.LnSilu.nD → PrngReg), Pre_LnSilu m →
    θ_run (Cert.LnSilu.defs (F := Bits)) (onTc (τ := Cert.LnSilu.τ) (Cert.LnSilu.main (F := Bits))) ⟨m, fun _ => 0, g⟩ (fun r => (∀ c : Dev Cert.LnSilu.nD,
      r.2.mem ((c.tc : Thread Cert.LnSilu.nD Cert.LnSilu.τ).loc Cert.LnSilu.main_arg0) = m ((c.tc : Thread Cert.LnSilu.nD Cert.LnSilu.τ).loc Cert.LnSilu.main_arg0)
      ∧ r.2.mem ((c.tc : Thread Cert.LnSilu.nD Cert.LnSilu.τ).loc Cert.LnSilu.main_arg1) = m ((c.tc : Thread Cert.LnSilu.nD Cert.LnSilu.τ).loc Cert.LnSilu.main_arg1)
      ∧ r.2.mem ((c.tc : Thread Cert.LnSilu.nD Cert.LnSilu.τ).loc Cert.LnSilu.main_arg2) = m ((c.tc : Thread Cert.LnSilu.nD Cert.LnSilu.τ).loc Cert.LnSilu.main_arg2))
      ∧ r.2.sem = fun _ => 0)

def quiescent_LnSiluIdeal [hLnSiluIdeal : Cert.LnSiluIdeal.Facts] : Prop :=
  ∀ (m : (ℓ : Loc Cert.LnSiluIdeal.nD Cert.LnSiluIdeal.τ Cert.LnSiluIdeal.sig) → Buf (Elt Ideal) ℓ) (g : Dev Cert.LnSiluIdeal.nD → PrngReg), Pre_LnSiluIdeal m →
    θ_run (Cert.LnSiluIdeal.defs (F := Ideal)) (onTc (τ := Cert.LnSiluIdeal.τ) (Cert.LnSiluIdeal.main (F := Ideal))) ⟨m, fun _ => 0, g⟩ (fun r => (∀ c : Dev Cert.LnSiluIdeal.nD,
      r.2.mem ((c.tc : Thread Cert.LnSiluIdeal.nD Cert.LnSiluIdeal.τ).loc Cert.LnSiluIdeal.main_arg0) = m ((c.tc : Thread Cert.LnSiluIdeal.nD Cert.LnSiluIdeal.τ).loc Cert.LnSiluIdeal.main_arg0)
      ∧ r.2.mem ((c.tc : Thread Cert.LnSiluIdeal.nD Cert.LnSiluIdeal.τ).loc Cert.LnSiluIdeal.main_arg1) = m ((c.tc : Thread Cert.LnSiluIdeal.nD Cert.LnSiluIdeal.τ).loc Cert.LnSiluIdeal.main_arg1)
      ∧ r.2.mem ((c.tc : Thread Cert.LnSiluIdeal.nD Cert.LnSiluIdeal.τ).loc Cert.LnSiluIdeal.main_arg2) = m ((c.tc : Thread Cert.LnSiluIdeal.nD Cert.LnSiluIdeal.τ).loc Cert.LnSiluIdeal.main_arg2))
      ∧ r.2.sem = fun _ => 0)

def quiescent_LnSiluReferenceIdeal [hLnSiluReferenceIdeal : Cert.LnSiluReferenceIdeal.Facts] : Prop :=
  ∀ (m : (ℓ : Loc Cert.LnSiluReferenceIdeal.nD Cert.LnSiluReferenceIdeal.τ Cert.LnSiluReferenceIdeal.sig) → Buf (Elt Ideal) ℓ) (g : Dev Cert.LnSiluReferenceIdeal.nD → PrngReg), Pre_LnSiluReferenceIdeal m →
    θ_run (Cert.LnSiluReferenceIdeal.defs (F := Ideal)) (onTc (τ := Cert.LnSiluReferenceIdeal.τ) (Cert.LnSiluReferenceIdeal.main (F := Ideal))) ⟨m, fun _ => 0, g⟩ (fun r => (∀ c : Dev Cert.LnSiluReferenceIdeal.nD,
      r.2.mem ((c.tc : Thread Cert.LnSiluReferenceIdeal.nD Cert.LnSiluReferenceIdeal.τ).loc Cert.LnSiluReferenceIdeal.main_arg0) = m ((c.tc : Thread Cert.LnSiluReferenceIdeal.nD Cert.LnSiluReferenceIdeal.τ).loc Cert.LnSiluReferenceIdeal.main_arg0)
      ∧ r.2.mem ((c.tc : Thread Cert.LnSiluReferenceIdeal.nD Cert.LnSiluReferenceIdeal.τ).loc Cert.LnSiluReferenceIdeal.main_arg1) = m ((c.tc : Thread Cert.LnSiluReferenceIdeal.nD Cert.LnSiluReferenceIdeal.τ).loc Cert.LnSiluReferenceIdeal.main_arg1)
      ∧ r.2.mem ((c.tc : Thread Cert.LnSiluReferenceIdeal.nD Cert.LnSiluReferenceIdeal.τ).loc Cert.LnSiluReferenceIdeal.main_arg2) = m ((c.tc : Thread Cert.LnSiluReferenceIdeal.nD Cert.LnSiluReferenceIdeal.τ).loc Cert.LnSiluReferenceIdeal.main_arg2))
      ∧ r.2.sem = fun _ => 0)

def quiescent_GNorm [hGNorm : Cert.GNorm.Facts] : Prop :=
  ∀ (m : (ℓ : Loc Cert.GNorm.nD Cert.GNorm.τ Cert.GNorm.sig) → Buf (Elt Bits) ℓ) (g : Dev Cert.GNorm.nD → PrngReg), Pre_GNorm m →
    θ_run (Cert.GNorm.defs (F := Bits)) (onTc (τ := Cert.GNorm.τ) (Cert.GNorm.main (F := Bits))) ⟨m, fun _ => 0, g⟩ (fun r => (∀ c : Dev Cert.GNorm.nD,
      r.2.mem ((c.tc : Thread Cert.GNorm.nD Cert.GNorm.τ).loc Cert.GNorm.main_arg0) = m ((c.tc : Thread Cert.GNorm.nD Cert.GNorm.τ).loc Cert.GNorm.main_arg0)
      ∧ r.2.mem ((c.tc : Thread Cert.GNorm.nD Cert.GNorm.τ).loc Cert.GNorm.main_arg1) = m ((c.tc : Thread Cert.GNorm.nD Cert.GNorm.τ).loc Cert.GNorm.main_arg1)
      ∧ r.2.mem ((c.tc : Thread Cert.GNorm.nD Cert.GNorm.τ).loc Cert.GNorm.main_arg2) = m ((c.tc : Thread Cert.GNorm.nD Cert.GNorm.τ).loc Cert.GNorm.main_arg2)
      ∧ r.2.mem ((c.tc : Thread Cert.GNorm.nD Cert.GNorm.τ).loc Cert.GNorm.main_arg3) = m ((c.tc : Thread Cert.GNorm.nD Cert.GNorm.τ).loc Cert.GNorm.main_arg3)
      ∧ r.2.mem ((c.tc : Thread Cert.GNorm.nD Cert.GNorm.τ).loc Cert.GNorm.main_arg4) = m ((c.tc : Thread Cert.GNorm.nD Cert.GNorm.τ).loc Cert.GNorm.main_arg4)
      ∧ r.2.mem ((c.tc : Thread Cert.GNorm.nD Cert.GNorm.τ).loc Cert.GNorm.main_arg5) = m ((c.tc : Thread Cert.GNorm.nD Cert.GNorm.τ).loc Cert.GNorm.main_arg5))
      ∧ r.2.sem = fun _ => 0)

def quiescent_GNormIdeal [hGNormIdeal : Cert.GNormIdeal.Facts] : Prop :=
  ∀ (m : (ℓ : Loc Cert.GNormIdeal.nD Cert.GNormIdeal.τ Cert.GNormIdeal.sig) → Buf (Elt Ideal) ℓ) (g : Dev Cert.GNormIdeal.nD → PrngReg), Pre_GNormIdeal m →
    θ_run (Cert.GNormIdeal.defs (F := Ideal)) (onTc (τ := Cert.GNormIdeal.τ) (Cert.GNormIdeal.main (F := Ideal))) ⟨m, fun _ => 0, g⟩ (fun r => (∀ c : Dev Cert.GNormIdeal.nD,
      r.2.mem ((c.tc : Thread Cert.GNormIdeal.nD Cert.GNormIdeal.τ).loc Cert.GNormIdeal.main_arg0) = m ((c.tc : Thread Cert.GNormIdeal.nD Cert.GNormIdeal.τ).loc Cert.GNormIdeal.main_arg0)
      ∧ r.2.mem ((c.tc : Thread Cert.GNormIdeal.nD Cert.GNormIdeal.τ).loc Cert.GNormIdeal.main_arg1) = m ((c.tc : Thread Cert.GNormIdeal.nD Cert.GNormIdeal.τ).loc Cert.GNormIdeal.main_arg1)
      ∧ r.2.mem ((c.tc : Thread Cert.GNormIdeal.nD Cert.GNormIdeal.τ).loc Cert.GNormIdeal.main_arg2) = m ((c.tc : Thread Cert.GNormIdeal.nD Cert.GNormIdeal.τ).loc Cert.GNormIdeal.main_arg2)
      ∧ r.2.mem ((c.tc : Thread Cert.GNormIdeal.nD Cert.GNormIdeal.τ).loc Cert.GNormIdeal.main_arg3) = m ((c.tc : Thread Cert.GNormIdeal.nD Cert.GNormIdeal.τ).loc Cert.GNormIdeal.main_arg3)
      ∧ r.2.mem ((c.tc : Thread Cert.GNormIdeal.nD Cert.GNormIdeal.τ).loc Cert.GNormIdeal.main_arg4) = m ((c.tc : Thread Cert.GNormIdeal.nD Cert.GNormIdeal.τ).loc Cert.GNormIdeal.main_arg4)
      ∧ r.2.mem ((c.tc : Thread Cert.GNormIdeal.nD Cert.GNormIdeal.τ).loc Cert.GNormIdeal.main_arg5) = m ((c.tc : Thread Cert.GNormIdeal.nD Cert.GNormIdeal.τ).loc Cert.GNormIdeal.main_arg5))
      ∧ r.2.sem = fun _ => 0)

def quiescent_GNormReferenceIdeal [hGNormReferenceIdeal : Cert.GNormReferenceIdeal.Facts] : Prop :=
  ∀ (m : (ℓ : Loc Cert.GNormReferenceIdeal.nD Cert.GNormReferenceIdeal.τ Cert.GNormReferenceIdeal.sig) → Buf (Elt Ideal) ℓ) (g : Dev Cert.GNormReferenceIdeal.nD → PrngReg), Pre_GNormReferenceIdeal m →
    θ_run (Cert.GNormReferenceIdeal.defs (F := Ideal)) (onTc (τ := Cert.GNormReferenceIdeal.τ) (Cert.GNormReferenceIdeal.main (F := Ideal))) ⟨m, fun _ => 0, g⟩ (fun r => (∀ c : Dev Cert.GNormReferenceIdeal.nD,
      r.2.mem ((c.tc : Thread Cert.GNormReferenceIdeal.nD Cert.GNormReferenceIdeal.τ).loc Cert.GNormReferenceIdeal.main_arg0) = m ((c.tc : Thread Cert.GNormReferenceIdeal.nD Cert.GNormReferenceIdeal.τ).loc Cert.GNormReferenceIdeal.main_arg0)
      ∧ r.2.mem ((c.tc : Thread Cert.GNormReferenceIdeal.nD Cert.GNormReferenceIdeal.τ).loc Cert.GNormReferenceIdeal.main_arg1) = m ((c.tc : Thread Cert.GNormReferenceIdeal.nD Cert.GNormReferenceIdeal.τ).loc Cert.GNormReferenceIdeal.main_arg1)
      ∧ r.2.mem ((c.tc : Thread Cert.GNormReferenceIdeal.nD Cert.GNormReferenceIdeal.τ).loc Cert.GNormReferenceIdeal.main_arg2) = m ((c.tc : Thread Cert.GNormReferenceIdeal.nD Cert.GNormReferenceIdeal.τ).loc Cert.GNormReferenceIdeal.main_arg2)
      ∧ r.2.mem ((c.tc : Thread Cert.GNormReferenceIdeal.nD Cert.GNormReferenceIdeal.τ).loc Cert.GNormReferenceIdeal.main_arg3) = m ((c.tc : Thread Cert.GNormReferenceIdeal.nD Cert.GNormReferenceIdeal.τ).loc Cert.GNormReferenceIdeal.main_arg3)
      ∧ r.2.mem ((c.tc : Thread Cert.GNormReferenceIdeal.nD Cert.GNormReferenceIdeal.τ).loc Cert.GNormReferenceIdeal.main_arg4) = m ((c.tc : Thread Cert.GNormReferenceIdeal.nD Cert.GNormReferenceIdeal.τ).loc Cert.GNormReferenceIdeal.main_arg4)
      ∧ r.2.mem ((c.tc : Thread Cert.GNormReferenceIdeal.nD Cert.GNormReferenceIdeal.τ).loc Cert.GNormReferenceIdeal.main_arg5) = m ((c.tc : Thread Cert.GNormReferenceIdeal.nD Cert.GNormReferenceIdeal.τ).loc Cert.GNormReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2))
      ∧ r.2.sem = fun _ => 0)

def quiescent_ResLn [hResLn : Cert.ResLn.Facts] : Prop :=
  ∀ (m : (ℓ : Loc Cert.ResLn.nD Cert.ResLn.τ Cert.ResLn.sig) → Buf (Elt Bits) ℓ) (g : Dev Cert.ResLn.nD → PrngReg), Pre_ResLn m →
    θ_run (Cert.ResLn.defs (F := Bits)) (onTc (τ := Cert.ResLn.τ) (Cert.ResLn.main (F := Bits))) ⟨m, fun _ => 0, g⟩ (fun r => (∀ c : Dev Cert.ResLn.nD,
      r.2.mem ((c.tc : Thread Cert.ResLn.nD Cert.ResLn.τ).loc Cert.ResLn.main_arg0) = m ((c.tc : Thread Cert.ResLn.nD Cert.ResLn.τ).loc Cert.ResLn.main_arg0)
      ∧ r.2.mem ((c.tc : Thread Cert.ResLn.nD Cert.ResLn.τ).loc Cert.ResLn.main_arg1) = m ((c.tc : Thread Cert.ResLn.nD Cert.ResLn.τ).loc Cert.ResLn.main_arg1)
      ∧ r.2.mem ((c.tc : Thread Cert.ResLn.nD Cert.ResLn.τ).loc Cert.ResLn.main_arg2) = m ((c.tc : Thread Cert.ResLn.nD Cert.ResLn.τ).loc Cert.ResLn.main_arg2)
      ∧ r.2.mem ((c.tc : Thread Cert.ResLn.nD Cert.ResLn.τ).loc Cert.ResLn.main_arg3) = m ((c.tc : Thread Cert.ResLn.nD Cert.ResLn.τ).loc Cert.ResLn.main_arg3))
      ∧ r.2.sem = fun _ => 0)

def quiescent_ResLnIdeal [hResLnIdeal : Cert.ResLnIdeal.Facts] : Prop :=
  ∀ (m : (ℓ : Loc Cert.ResLnIdeal.nD Cert.ResLnIdeal.τ Cert.ResLnIdeal.sig) → Buf (Elt Ideal) ℓ) (g : Dev Cert.ResLnIdeal.nD → PrngReg), Pre_ResLnIdeal m →
    θ_run (Cert.ResLnIdeal.defs (F := Ideal)) (onTc (τ := Cert.ResLnIdeal.τ) (Cert.ResLnIdeal.main (F := Ideal))) ⟨m, fun _ => 0, g⟩ (fun r => (∀ c : Dev Cert.ResLnIdeal.nD,
      r.2.mem ((c.tc : Thread Cert.ResLnIdeal.nD Cert.ResLnIdeal.τ).loc Cert.ResLnIdeal.main_arg0) = m ((c.tc : Thread Cert.ResLnIdeal.nD Cert.ResLnIdeal.τ).loc Cert.ResLnIdeal.main_arg0)
      ∧ r.2.mem ((c.tc : Thread Cert.ResLnIdeal.nD Cert.ResLnIdeal.τ).loc Cert.ResLnIdeal.main_arg1) = m ((c.tc : Thread Cert.ResLnIdeal.nD Cert.ResLnIdeal.τ).loc Cert.ResLnIdeal.main_arg1)
      ∧ r.2.mem ((c.tc : Thread Cert.ResLnIdeal.nD Cert.ResLnIdeal.τ).loc Cert.ResLnIdeal.main_arg2) = m ((c.tc : Thread Cert.ResLnIdeal.nD Cert.ResLnIdeal.τ).loc Cert.ResLnIdeal.main_arg2)
      ∧ r.2.mem ((c.tc : Thread Cert.ResLnIdeal.nD Cert.ResLnIdeal.τ).loc Cert.ResLnIdeal.main_arg3) = m ((c.tc : Thread Cert.ResLnIdeal.nD Cert.ResLnIdeal.τ).loc Cert.ResLnIdeal.main_arg3))
      ∧ r.2.sem = fun _ => 0)

def quiescent_ResLnReferenceIdeal [hResLnReferenceIdeal : Cert.ResLnReferenceIdeal.Facts] : Prop :=
  ∀ (m : (ℓ : Loc Cert.ResLnReferenceIdeal.nD Cert.ResLnReferenceIdeal.τ Cert.ResLnReferenceIdeal.sig) → Buf (Elt Ideal) ℓ) (g : Dev Cert.ResLnReferenceIdeal.nD → PrngReg), Pre_ResLnReferenceIdeal m →
    θ_run (Cert.ResLnReferenceIdeal.defs (F := Ideal)) (onTc (τ := Cert.ResLnReferenceIdeal.τ) (Cert.ResLnReferenceIdeal.main (F := Ideal))) ⟨m, fun _ => 0, g⟩ (fun r => (∀ c : Dev Cert.ResLnReferenceIdeal.nD,
      r.2.mem ((c.tc : Thread Cert.ResLnReferenceIdeal.nD Cert.ResLnReferenceIdeal.τ).loc Cert.ResLnReferenceIdeal.main_arg0) = m ((c.tc : Thread Cert.ResLnReferenceIdeal.nD Cert.ResLnReferenceIdeal.τ).loc Cert.ResLnReferenceIdeal.main_arg0)
      ∧ r.2.mem ((c.tc : Thread Cert.ResLnReferenceIdeal.nD Cert.ResLnReferenceIdeal.τ).loc Cert.ResLnReferenceIdeal.main_arg1) = m ((c.tc : Thread Cert.ResLnReferenceIdeal.nD Cert.ResLnReferenceIdeal.τ).loc Cert.ResLnReferenceIdeal.main_arg1)
      ∧ r.2.mem ((c.tc : Thread Cert.ResLnReferenceIdeal.nD Cert.ResLnReferenceIdeal.τ).loc Cert.ResLnReferenceIdeal.main_arg2) = m ((c.tc : Thread Cert.ResLnReferenceIdeal.nD Cert.ResLnReferenceIdeal.τ).loc Cert.ResLnReferenceIdeal.main_arg2)
      ∧ r.2.mem ((c.tc : Thread Cert.ResLnReferenceIdeal.nD Cert.ResLnReferenceIdeal.τ).loc Cert.ResLnReferenceIdeal.main_arg3) = m ((c.tc : Thread Cert.ResLnReferenceIdeal.nD Cert.ResLnReferenceIdeal.τ).loc Cert.ResLnReferenceIdeal.main_arg3))
      ∧ r.2.sem = fun _ => 0)

def quiescent_SwiGlu [hSwiGlu : Cert.SwiGlu.Facts] : Prop :=
  ∀ (m : (ℓ : Loc Cert.SwiGlu.nD Cert.SwiGlu.τ Cert.SwiGlu.sig) → Buf (Elt Bits) ℓ) (g : Dev Cert.SwiGlu.nD → PrngReg), Pre_SwiGlu m →
    θ_run (Cert.SwiGlu.defs (F := Bits)) (onTc (τ := Cert.SwiGlu.τ) (Cert.SwiGlu.main (F := Bits))) ⟨m, fun _ => 0, g⟩ (fun r => (∀ c : Dev Cert.SwiGlu.nD,
      r.2.mem ((c.tc : Thread Cert.SwiGlu.nD Cert.SwiGlu.τ).loc Cert.SwiGlu.main_arg0) = m ((c.tc : Thread Cert.SwiGlu.nD Cert.SwiGlu.τ).loc Cert.SwiGlu.main_arg0))
      ∧ r.2.sem = fun _ => 0)

def quiescent_SwiGluIdeal [hSwiGluIdeal : Cert.SwiGluIdeal.Facts] : Prop :=
  ∀ (m : (ℓ : Loc Cert.SwiGluIdeal.nD Cert.SwiGluIdeal.τ Cert.SwiGluIdeal.sig) → Buf (Elt Ideal) ℓ) (g : Dev Cert.SwiGluIdeal.nD → PrngReg), Pre_SwiGluIdeal m →
    θ_run (Cert.SwiGluIdeal.defs (F := Ideal)) (onTc (τ := Cert.SwiGluIdeal.τ) (Cert.SwiGluIdeal.main (F := Ideal))) ⟨m, fun _ => 0, g⟩ (fun r => (∀ c : Dev Cert.SwiGluIdeal.nD,
      r.2.mem ((c.tc : Thread Cert.SwiGluIdeal.nD Cert.SwiGluIdeal.τ).loc Cert.SwiGluIdeal.main_arg0) = m ((c.tc : Thread Cert.SwiGluIdeal.nD Cert.SwiGluIdeal.τ).loc Cert.SwiGluIdeal.main_arg0))
      ∧ r.2.sem = fun _ => 0)

def quiescent_SwiGluReferenceIdeal [hSwiGluReferenceIdeal : Cert.SwiGluReferenceIdeal.Facts] : Prop :=
  ∀ (m : (ℓ : Loc Cert.SwiGluReferenceIdeal.nD Cert.SwiGluReferenceIdeal.τ Cert.SwiGluReferenceIdeal.sig) → Buf (Elt Ideal) ℓ) (g : Dev Cert.SwiGluReferenceIdeal.nD → PrngReg), Pre_SwiGluReferenceIdeal m →
    θ_run (Cert.SwiGluReferenceIdeal.defs (F := Ideal)) (onTc (τ := Cert.SwiGluReferenceIdeal.τ) (Cert.SwiGluReferenceIdeal.main (F := Ideal))) ⟨m, fun _ => 0, g⟩ (fun r => (∀ c : Dev Cert.SwiGluReferenceIdeal.nD,
      r.2.mem ((c.tc : Thread Cert.SwiGluReferenceIdeal.nD Cert.SwiGluReferenceIdeal.τ).loc Cert.SwiGluReferenceIdeal.main_arg0) = m ((c.tc : Thread Cert.SwiGluReferenceIdeal.nD Cert.SwiGluReferenceIdeal.τ).loc Cert.SwiGluReferenceIdeal.main_arg0))
      ∧ r.2.sem = fun _ => 0)

def quiescent_PleOut [hPleOut : Cert.PleOut.Facts] : Prop :=
  ∀ (m : (ℓ : Loc Cert.PleOut.nD Cert.PleOut.τ Cert.PleOut.sig) → Buf (Elt Bits) ℓ) (g : Dev Cert.PleOut.nD → PrngReg), Pre_PleOut m →
    θ_run (Cert.PleOut.defs (F := Bits)) (onTc (τ := Cert.PleOut.τ) (Cert.PleOut.main (F := Bits))) ⟨m, fun _ => 0, g⟩ (fun r => (∀ c : Dev Cert.PleOut.nD,
      r.2.mem ((c.tc : Thread Cert.PleOut.nD Cert.PleOut.τ).loc Cert.PleOut.main_arg0) = m ((c.tc : Thread Cert.PleOut.nD Cert.PleOut.τ).loc Cert.PleOut.main_arg0)
      ∧ r.2.mem ((c.tc : Thread Cert.PleOut.nD Cert.PleOut.τ).loc Cert.PleOut.main_arg1) = m ((c.tc : Thread Cert.PleOut.nD Cert.PleOut.τ).loc Cert.PleOut.main_arg1)
      ∧ r.2.mem ((c.tc : Thread Cert.PleOut.nD Cert.PleOut.τ).loc Cert.PleOut.main_arg2) = m ((c.tc : Thread Cert.PleOut.nD Cert.PleOut.τ).loc Cert.PleOut.main_arg2)
      ∧ r.2.mem ((c.tc : Thread Cert.PleOut.nD Cert.PleOut.τ).loc Cert.PleOut.main_arg3) = m ((c.tc : Thread Cert.PleOut.nD Cert.PleOut.τ).loc Cert.PleOut.main_arg3))
      ∧ r.2.sem = fun _ => 0)

def quiescent_PleOutIdeal [hPleOutIdeal : Cert.PleOutIdeal.Facts] : Prop :=
  ∀ (m : (ℓ : Loc Cert.PleOutIdeal.nD Cert.PleOutIdeal.τ Cert.PleOutIdeal.sig) → Buf (Elt Ideal) ℓ) (g : Dev Cert.PleOutIdeal.nD → PrngReg), Pre_PleOutIdeal m →
    θ_run (Cert.PleOutIdeal.defs (F := Ideal)) (onTc (τ := Cert.PleOutIdeal.τ) (Cert.PleOutIdeal.main (F := Ideal))) ⟨m, fun _ => 0, g⟩ (fun r => (∀ c : Dev Cert.PleOutIdeal.nD,
      r.2.mem ((c.tc : Thread Cert.PleOutIdeal.nD Cert.PleOutIdeal.τ).loc Cert.PleOutIdeal.main_arg0) = m ((c.tc : Thread Cert.PleOutIdeal.nD Cert.PleOutIdeal.τ).loc Cert.PleOutIdeal.main_arg0)
      ∧ r.2.mem ((c.tc : Thread Cert.PleOutIdeal.nD Cert.PleOutIdeal.τ).loc Cert.PleOutIdeal.main_arg1) = m ((c.tc : Thread Cert.PleOutIdeal.nD Cert.PleOutIdeal.τ).loc Cert.PleOutIdeal.main_arg1)
      ∧ r.2.mem ((c.tc : Thread Cert.PleOutIdeal.nD Cert.PleOutIdeal.τ).loc Cert.PleOutIdeal.main_arg2) = m ((c.tc : Thread Cert.PleOutIdeal.nD Cert.PleOutIdeal.τ).loc Cert.PleOutIdeal.main_arg2)
      ∧ r.2.mem ((c.tc : Thread Cert.PleOutIdeal.nD Cert.PleOutIdeal.τ).loc Cert.PleOutIdeal.main_arg3) = m ((c.tc : Thread Cert.PleOutIdeal.nD Cert.PleOutIdeal.τ).loc Cert.PleOutIdeal.main_arg3))
      ∧ r.2.sem = fun _ => 0)

def quiescent_PleOutReferenceIdeal [hPleOutReferenceIdeal : Cert.PleOutReferenceIdeal.Facts] : Prop :=
  ∀ (m : (ℓ : Loc Cert.PleOutReferenceIdeal.nD Cert.PleOutReferenceIdeal.τ Cert.PleOutReferenceIdeal.sig) → Buf (Elt Ideal) ℓ) (g : Dev Cert.PleOutReferenceIdeal.nD → PrngReg), Pre_PleOutReferenceIdeal m →
    θ_run (Cert.PleOutReferenceIdeal.defs (F := Ideal)) (onTc (τ := Cert.PleOutReferenceIdeal.τ) (Cert.PleOutReferenceIdeal.main (F := Ideal))) ⟨m, fun _ => 0, g⟩ (fun r => (∀ c : Dev Cert.PleOutReferenceIdeal.nD,
      r.2.mem ((c.tc : Thread Cert.PleOutReferenceIdeal.nD Cert.PleOutReferenceIdeal.τ).loc Cert.PleOutReferenceIdeal.main_arg0) = m ((c.tc : Thread Cert.PleOutReferenceIdeal.nD Cert.PleOutReferenceIdeal.τ).loc Cert.PleOutReferenceIdeal.main_arg0)
      ∧ r.2.mem ((c.tc : Thread Cert.PleOutReferenceIdeal.nD Cert.PleOutReferenceIdeal.τ).loc Cert.PleOutReferenceIdeal.main_arg1) = m ((c.tc : Thread Cert.PleOutReferenceIdeal.nD Cert.PleOutReferenceIdeal.τ).loc Cert.PleOutReferenceIdeal.main_arg1)
      ∧ r.2.mem ((c.tc : Thread Cert.PleOutReferenceIdeal.nD Cert.PleOutReferenceIdeal.τ).loc Cert.PleOutReferenceIdeal.main_arg2) = m ((c.tc : Thread Cert.PleOutReferenceIdeal.nD Cert.PleOutReferenceIdeal.τ).loc Cert.PleOutReferenceIdeal.main_arg2)
      ∧ r.2.mem ((c.tc : Thread Cert.PleOutReferenceIdeal.nD Cert.PleOutReferenceIdeal.τ).loc Cert.PleOutReferenceIdeal.main_arg3) = m ((c.tc : Thread Cert.PleOutReferenceIdeal.nD Cert.PleOutReferenceIdeal.τ).loc Cert.PleOutReferenceIdeal.main_arg3))
      ∧ r.2.sem = fun _ => 0)

def preserves_Weights_WeightsIdeal : Prop :=
  True

def algebraic_WeightsIdeal_WeightsReferenceIdeal [hWeightsIdeal : Cert.WeightsIdeal.Facts] [hWeightsReferenceIdeal : Cert.WeightsReferenceIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsReferenceIdeal.nD Cert.WeightsReferenceIdeal.τ Cert.WeightsReferenceIdeal.sig) → Buf (Elt Ideal) ℓ) (g' : Dev Cert.WeightsReferenceIdeal.nD → PrngReg), Pre_WeightsIdeal m →
    (∀ c : Dev Cert.WeightsIdeal.nD,
      m ((c.tc : Thread Cert.WeightsIdeal.nD Cert.WeightsIdeal.τ).loc Cert.WeightsIdeal.main_arg0) = Layout.block ⟨2, ![48256, 128]⟩ ⟨2, ![386048, 128]⟩ 0 8 c (m' (((0 : Dev Cert.WeightsReferenceIdeal.nD).tc : Thread Cert.WeightsReferenceIdeal.nD Cert.WeightsReferenceIdeal.τ).loc Cert.WeightsReferenceIdeal.main_arg0))) →
    ∃ (v0 : Buf (Elt Ideal) (((0 : Dev Cert.WeightsReferenceIdeal.nD).tc : Thread Cert.WeightsReferenceIdeal.nD Cert.WeightsReferenceIdeal.τ).loc Cert.WeightsReferenceIdeal.main_v0)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v1) = v0
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0))
      ∧ θ_run (Cert.WeightsReferenceIdeal.defs (F := Ideal)) (onTc (τ := Cert.WeightsReferenceIdeal.τ) (Cert.WeightsReferenceIdeal.main (F := Ideal))) ⟨m', fun _ => 0, g'⟩ (fun r =>
          r.2.mem (((0 : Dev Cert.WeightsReferenceIdeal.nD).tc : Thread Cert.WeightsReferenceIdeal.nD Cert.WeightsReferenceIdeal.τ).loc Cert.WeightsReferenceIdeal.main_v0) = v0
          ∧ r.2.mem (((0 : Dev Cert.WeightsReferenceIdeal.nD).tc : Thread Cert.WeightsReferenceIdeal.nD Cert.WeightsReferenceIdeal.τ).loc Cert.WeightsReferenceIdeal.main_arg0) = m' (((0 : Dev Cert.WeightsReferenceIdeal.nD).tc : Thread Cert.WeightsReferenceIdeal.nD Cert.WeightsReferenceIdeal.τ).loc Cert.WeightsReferenceIdeal.main_arg0))

def bitexact_Weights_WeightsReference [hWeights : Cert.Weights.Facts] [hWeightsReference : Cert.WeightsReference.Facts] : Prop :=
  ∀ (m : (ℓ : Loc Cert.Weights.nD Cert.Weights.τ Cert.Weights.sig) → Buf (Elt Bits) ℓ) (g : Dev Cert.Weights.nD → PrngReg)
    (m' : (ℓ : Loc Cert.WeightsReference.nD Cert.WeightsReference.τ Cert.WeightsReference.sig) → Buf (Elt Bits) ℓ) (g' : Dev Cert.WeightsReference.nD → PrngReg), Pre_Weights m →
    (∀ c : Dev Cert.Weights.nD,
      m ((c.tc : Thread Cert.Weights.nD Cert.Weights.τ).loc Cert.Weights.main_arg0) = Layout.block ⟨2, ![48256, 128]⟩ ⟨2, ![386048, 128]⟩ 0 8 c (m' (((0 : Dev Cert.WeightsReference.nD).tc : Thread Cert.WeightsReference.nD Cert.WeightsReference.τ).loc Cert.WeightsReference.main_arg0))) →
    ∃ (v0 : Buf (Elt Bits) (((0 : Dev Cert.WeightsReference.nD).tc : Thread Cert.WeightsReference.nD Cert.WeightsReference.τ).loc Cert.WeightsReference.main_v0)),
      θ_run (Cert.Weights.defs (F := Bits)) (onTc (τ := Cert.Weights.τ) (Cert.Weights.main (F := Bits))) ⟨m, fun _ => 0, g⟩ (fun r => ∀ c : Dev Cert.Weights.nD,
          r.2.mem ((c.tc : Thread Cert.Weights.nD Cert.Weights.τ).loc Cert.Weights.main_v1) = v0
          ∧ r.2.mem ((c.tc : Thread Cert.Weights.nD Cert.Weights.τ).loc Cert.Weights.main_arg0) = m ((c.tc : Thread Cert.Weights.nD Cert.Weights.τ).loc Cert.Weights.main_arg0))
      ∧ θ_run (Cert.WeightsReference.defs (F := Bits)) (onTc (τ := Cert.WeightsReference.τ) (Cert.WeightsReference.main (F := Bits))) ⟨m', fun _ => 0, g'⟩ (fun r =>
          r.2.mem (((0 : Dev Cert.WeightsReference.nD).tc : Thread Cert.WeightsReference.nD Cert.WeightsReference.τ).loc Cert.WeightsReference.main_v0) = v0
          ∧ r.2.mem (((0 : Dev Cert.WeightsReference.nD).tc : Thread Cert.WeightsReference.nD Cert.WeightsReference.τ).loc Cert.WeightsReference.main_arg0) = m' (((0 : Dev Cert.WeightsReference.nD).tc : Thread Cert.WeightsReference.nD Cert.WeightsReference.τ).loc Cert.WeightsReference.main_arg0))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m ((c.tc : Thread Cert.ConvIdeal.nD Cert.ConvIdeal.τ).loc Cert.ConvIdeal.main_arg0) = Layout.block ⟨2, ![104, 128]⟩ ⟨2, ![832, 128]⟩ 0 8 c (m' (((0 : Dev Cert.ConvReferenceIdeal.nD).tc : Thread Cert.ConvReferenceIdeal.nD Cert.ConvReferenceIdeal.τ).loc Cert.ConvReferenceIdeal.main_arg0))) →
    ∃ (v0 : Buf (Elt Ideal) (((0 : Dev Cert.ConvReferenceIdeal.nD).tc : Thread Cert.ConvReferenceIdeal.nD Cert.ConvReferenceIdeal.τ).loc Cert.ConvReferenceIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0))
      ∧ θ_run (Cert.ConvReferenceIdeal.defs (F := Ideal)) (onTc (τ := Cert.ConvReferenceIdeal.τ) (Cert.ConvReferenceIdeal.main (F := Ideal))) ⟨m', fun _ => 0, g'⟩ (fun r =>
          r.2.mem (((0 : Dev Cert.ConvReferenceIdeal.nD).tc : Thread Cert.ConvReferenceIdeal.nD Cert.ConvReferenceIdeal.τ).loc Cert.ConvReferenceIdeal.main_v0) = v0
          ∧ r.2.mem (((0 : Dev Cert.ConvReferenceIdeal.nD).tc : Thread Cert.ConvReferenceIdeal.nD Cert.ConvReferenceIdeal.τ).loc Cert.ConvReferenceIdeal.main_arg0) = m' (((0 : Dev Cert.ConvReferenceIdeal.nD).tc : Thread Cert.ConvReferenceIdeal.nD Cert.ConvReferenceIdeal.τ).loc Cert.ConvReferenceIdeal.main_arg0))

def bitexact_Conv_ConvReference [hConv : Cert.Conv.Facts] [hConvReference : Cert.ConvReference.Facts] : Prop :=
  ∀ (m : (ℓ : Loc Cert.Conv.nD Cert.Conv.τ Cert.Conv.sig) → Buf (Elt Bits) ℓ) (g : Dev Cert.Conv.nD → PrngReg)
    (m' : (ℓ : Loc Cert.ConvReference.nD Cert.ConvReference.τ Cert.ConvReference.sig) → Buf (Elt Bits) ℓ) (g' : Dev Cert.ConvReference.nD → PrngReg), Pre_Conv m →
    (∀ c : Dev Cert.Conv.nD,
      m ((c.tc : Thread Cert.Conv.nD Cert.Conv.τ).loc Cert.Conv.main_arg0) = Layout.block ⟨2, ![104, 128]⟩ ⟨2, ![832, 128]⟩ 0 8 c (m' (((0 : Dev Cert.ConvReference.nD).tc : Thread Cert.ConvReference.nD Cert.ConvReference.τ).loc Cert.ConvReference.main_arg0))) →
    ∃ (v0 : Buf (Elt Bits) (((0 : Dev Cert.ConvReference.nD).tc : Thread Cert.ConvReference.nD Cert.ConvReference.τ).loc Cert.ConvReference.main_v0)),
      θ_run (Cert.Conv.defs (F := Bits)) (onTc (τ := Cert.Conv.τ) (Cert.Conv.main (F := Bits))) ⟨m, fun _ => 0, g⟩ (fun r => ∀ c : Dev Cert.Conv.nD,
          r.2.mem ((c.tc : Thread Cert.Conv.nD Cert.Conv.τ).loc Cert.Conv.main_v1) = v0
          ∧ r.2.mem ((c.tc : Thread Cert.Conv.nD Cert.Conv.τ).loc Cert.Conv.main_arg0) = m ((c.tc : Thread Cert.Conv.nD Cert.Conv.τ).loc Cert.Conv.main_arg0))
      ∧ θ_run (Cert.ConvReference.defs (F := Bits)) (onTc (τ := Cert.ConvReference.τ) (Cert.ConvReference.main (F := Bits))) ⟨m', fun _ => 0, g'⟩ (fun r =>
          r.2.mem (((0 : Dev Cert.ConvReference.nD).tc : Thread Cert.ConvReference.nD Cert.ConvReference.τ).loc Cert.ConvReference.main_v0) = v0
          ∧ r.2.mem (((0 : Dev Cert.ConvReference.nD).tc : Thread Cert.ConvReference.nD Cert.ConvReference.τ).loc Cert.ConvReference.main_arg0) = m' (((0 : Dev Cert.ConvReference.nD).tc : Thread Cert.ConvReference.nD Cert.ConvReference.τ).loc Cert.ConvReference.main_arg0))

def preserves_Small_SmallIdeal : Prop :=
  True

def algebraic_SmallIdeal_SmallReferenceIdeal [hSmallIdeal : Cert.SmallIdeal.Facts] [hSmallReferenceIdeal : Cert.SmallReferenceIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallIdeal m →
    (∀ c : Dev Cert.SmallIdeal.nD,
      m ((c.tc : Thread Cert.SmallIdeal.nD Cert.SmallIdeal.τ).loc Cert.SmallIdeal.main_arg0) = Layout.block ⟨2, ![232, 128]⟩ ⟨2, ![1856, 128]⟩ 0 8 c (m' (((0 : Dev Cert.SmallReferenceIdeal.nD).tc : Thread Cert.SmallReferenceIdeal.nD Cert.SmallReferenceIdeal.τ).loc Cert.SmallReferenceIdeal.main_arg0))) →
    ∃ (v0 : Buf (Elt Ideal) (((0 : Dev Cert.SmallReferenceIdeal.nD).tc : Thread Cert.SmallReferenceIdeal.nD Cert.SmallReferenceIdeal.τ).loc Cert.SmallReferenceIdeal.main_v0)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v1) = v0
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ θ_run (Cert.SmallReferenceIdeal.defs (F := Ideal)) (onTc (τ := Cert.SmallReferenceIdeal.τ) (Cert.SmallReferenceIdeal.main (F := Ideal))) ⟨m', fun _ => 0, g'⟩ (fun r =>
          r.2.mem (((0 : Dev Cert.SmallReferenceIdeal.nD).tc : Thread Cert.SmallReferenceIdeal.nD Cert.SmallReferenceIdeal.τ).loc Cert.SmallReferenceIdeal.main_v0) = v0
          ∧ r.2.mem (((0 : Dev Cert.SmallReferenceIdeal.nD).tc : Thread Cert.SmallReferenceIdeal.nD Cert.SmallReferenceIdeal.τ).loc Cert.SmallReferenceIdeal.main_arg0) = m' (((0 : Dev Cert.SmallReferenceIdeal.nD).tc : Thread Cert.SmallReferenceIdeal.nD Cert.SmallReferenceIdeal.τ).loc Cert.SmallReferenceIdeal.main_arg0))

def bitexact_Small_SmallReference [hSmall : Cert.Small.Facts] [hSmallReference : Cert.SmallReference.Facts] : Prop :=
  ∀ (m : (ℓ : Loc Cert.Small.nD Cert.Small.τ Cert.Small.sig) → Buf (Elt Bits) ℓ) (g : Dev Cert.Small.nD → PrngReg)
    (m' : (ℓ : Loc Cert.SmallReference.nD Cert.SmallReference.τ Cert.SmallReference.sig) → Buf (Elt Bits) ℓ) (g' : Dev Cert.SmallReference.nD → PrngReg), Pre_Small m →
    (∀ c : Dev Cert.Small.nD,
      m ((c.tc : Thread Cert.Small.nD Cert.Small.τ).loc Cert.Small.main_arg0) = Layout.block ⟨2, ![232, 128]⟩ ⟨2, ![1856, 128]⟩ 0 8 c (m' (((0 : Dev Cert.SmallReference.nD).tc : Thread Cert.SmallReference.nD Cert.SmallReference.τ).loc Cert.SmallReference.main_arg0))) →
    ∃ (v0 : Buf (Elt Bits) (((0 : Dev Cert.SmallReference.nD).tc : Thread Cert.SmallReference.nD Cert.SmallReference.τ).loc Cert.SmallReference.main_v0)),
      θ_run (Cert.Small.defs (F := Bits)) (onTc (τ := Cert.Small.τ) (Cert.Small.main (F := Bits))) ⟨m, fun _ => 0, g⟩ (fun r => ∀ c : Dev Cert.Small.nD,
          r.2.mem ((c.tc : Thread Cert.Small.nD Cert.Small.τ).loc Cert.Small.main_v1) = v0
          ∧ r.2.mem ((c.tc : Thread Cert.Small.nD Cert.Small.τ).loc Cert.Small.main_arg0) = m ((c.tc : Thread Cert.Small.nD Cert.Small.τ).loc Cert.Small.main_arg0))
      ∧ θ_run (Cert.SmallReference.defs (F := Bits)) (onTc (τ := Cert.SmallReference.τ) (Cert.SmallReference.main (F := Bits))) ⟨m', fun _ => 0, g'⟩ (fun r =>
          r.2.mem (((0 : Dev Cert.SmallReference.nD).tc : Thread Cert.SmallReference.nD Cert.SmallReference.τ).loc Cert.SmallReference.main_v0) = v0
          ∧ r.2.mem (((0 : Dev Cert.SmallReference.nD).tc : Thread Cert.SmallReference.nD Cert.SmallReference.τ).loc Cert.SmallReference.main_arg0) = m' (((0 : Dev Cert.SmallReference.nD).tc : Thread Cert.SmallReference.nD Cert.SmallReference.τ).loc Cert.SmallReference.main_arg0))

def preserves_Sibling_SiblingIdeal : Prop :=
  True

def algebraic_SiblingIdeal_SiblingReferenceIdeal [hSiblingIdeal : Cert.SiblingIdeal.Facts] [hSiblingReferenceIdeal : Cert.SiblingReferenceIdeal.Facts] : Prop :=
  ∀ (m : (ℓ : Loc Cert.SiblingIdeal.nD Cert.SiblingIdeal.τ Cert.SiblingIdeal.sig) → Buf (Elt Ideal) ℓ) (g : Dev Cert.SiblingIdeal.nD → PrngReg)
    (m' : (ℓ : Loc Cert.SiblingReferenceIdeal.nD Cert.SiblingReferenceIdeal.τ Cert.SiblingReferenceIdeal.sig) → Buf (Elt Ideal) ℓ) (g' : Dev Cert.SiblingReferenceIdeal.nD → PrngReg), Pre_SiblingIdeal m →
    (∀ c : Dev Cert.SiblingIdeal.nD,
      m ((c.tc : Thread Cert.SiblingIdeal.nD Cert.SiblingIdeal.τ).loc Cert.SiblingIdeal.main_arg0) = Layout.block ⟨3, ![8, 48640, 128]⟩ ⟨3, ![64, 48640, 128]⟩ 0 8 c (m' (((0 : Dev Cert.SiblingReferenceIdeal.nD).tc : Thread Cert.SiblingReferenceIdeal.nD Cert.SiblingReferenceIdeal.τ).loc Cert.SiblingReferenceIdeal.main_arg0))) →
    ∃ (v0 : Buf (Elt Ideal) (((0 : Dev Cert.SiblingReferenceIdeal.nD).tc : Thread Cert.SiblingReferenceIdeal.nD Cert.SiblingReferenceIdeal.τ).loc Cert.SiblingReferenceIdeal.main_v8)),
      θ_run (Cert.SiblingIdeal.defs (F := Ideal)) (onTc (τ := Cert.SiblingIdeal.τ) (Cert.SiblingIdeal.main (F := Ideal))) ⟨m, fun _ => 0, g⟩ (fun r => ∀ c : Dev Cert.SiblingIdeal.nD,
          r.2.mem ((c.tc : Thread Cert.SiblingIdeal.nD Cert.SiblingIdeal.τ).loc Cert.SiblingIdeal.main_v1) = Layout.block ⟨3, ![4, 48640, 128]⟩ ⟨3, ![32, 48640, 128]⟩ 0 8 c v0
          ∧ r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0))
      ∧ θ_run (Cert.SiblingReferenceIdeal.defs (F := Ideal)) (onTc (τ := Cert.SiblingReferenceIdeal.τ) (Cert.SiblingReferenceIdeal.main (F := Ideal))) ⟨m', fun _ => 0, g'⟩ (fun r =>
          r.2.mem (((0 : Dev Cert.SiblingReferenceIdeal.nD).tc : Thread Cert.SiblingReferenceIdeal.nD Cert.SiblingReferenceIdeal.τ).loc Cert.SiblingReferenceIdeal.main_v8) = v0
          ∧ r.2.mem (((0 : Dev Cert.SiblingReferenceIdeal.nD).tc : Thread Cert.SiblingReferenceIdeal.nD Cert.SiblingReferenceIdeal.τ).loc Cert.SiblingReferenceIdeal.main_arg0) = m' (((0 : Dev Cert.SiblingReferenceIdeal.nD).tc : Thread Cert.SiblingReferenceIdeal.nD Cert.SiblingReferenceIdeal.τ).loc Cert.SiblingReferenceIdeal.main_arg0))

def bitexact_Sibling_SiblingReference [hSibling : Cert.Sibling.Facts] [hSiblingReference : Cert.SiblingReference.Facts] : Prop :=
  ∀ (m : (ℓ : Loc Cert.Sibling.nD Cert.Sibling.τ Cert.Sibling.sig) → Buf (Elt Bits) ℓ) (g : Dev Cert.Sibling.nD → PrngReg)
    (m' : (ℓ : Loc Cert.SiblingReference.nD Cert.SiblingReference.τ Cert.SiblingReference.sig) → Buf (Elt Bits) ℓ) (g' : Dev Cert.SiblingReference.nD → PrngReg), Pre_Sibling m →
    (∀ c : Dev Cert.Sibling.nD,
      m ((c.tc : Thread Cert.Sibling.nD Cert.Sibling.τ).loc Cert.Sibling.main_arg0) = Layout.block ⟨3, ![8, 48640, 128]⟩ ⟨3, ![64, 48640, 128]⟩ 0 8 c (m' (((0 : Dev Cert.SiblingReference.nD).tc : Thread Cert.SiblingReference.nD Cert.SiblingReference.τ).loc Cert.SiblingReference.main_arg0))) →
    ∃ (v0 : Buf (Elt Bits) (((0 : Dev Cert.SiblingReference.nD).tc : Thread Cert.SiblingReference.nD Cert.SiblingReference.τ).loc Cert.SiblingReference.main_v8)),
      θ_run (Cert.Sibling.defs (F := Bits)) (onTc (τ := Cert.Sibling.τ) (Cert.Sibling.main (F := Bits))) ⟨m, fun _ => 0, g⟩ (fun r => ∀ c : Dev Cert.Sibling.nD,
          r.2.mem ((c.tc : Thread Cert.Sibling.nD Cert.Sibling.τ).loc Cert.Sibling.main_v1) = Layout.block ⟨3, ![4, 48640, 128]⟩ ⟨3, ![32, 48640, 128]⟩ 0 8 c v0
          ∧ r.2.mem ((c.tc : Thread Cert.Sibling.nD Cert.Sibling.τ).loc Cert.Sibling.main_arg0) = m ((c.tc : Thread Cert.Sibling.nD Cert.Sibling.τ).loc Cert.Sibling.main_arg0))
      ∧ θ_run (Cert.SiblingReference.defs (F := Bits)) (onTc (τ := Cert.SiblingReference.τ) (Cert.SiblingReference.main (F := Bits))) ⟨m', fun _ => 0, g'⟩ (fun r =>
          r.2.mem (((0 : Dev Cert.SiblingReference.nD).tc : Thread Cert.SiblingReference.nD Cert.SiblingReference.τ).loc Cert.SiblingReference.main_v8) = v0
          ∧ r.2.mem (((0 : Dev Cert.SiblingReference.nD).tc : Thread Cert.SiblingReference.nD Cert.SiblingReference.τ).loc Cert.SiblingReference.main_arg0) = m' (((0 : Dev Cert.SiblingReference.nD).tc : Thread Cert.SiblingReference.nD Cert.SiblingReference.τ).loc Cert.SiblingReference.main_arg0))

def preserves_Chips_ChipsIdeal : Prop :=
  True

def algebraic_ChipsIdeal_ChipsReferenceIdeal [hChipsIdeal : Cert.ChipsIdeal.Facts] [hChipsReferenceIdeal : Cert.ChipsReferenceIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsReferenceIdeal.nD Cert.ChipsReferenceIdeal.τ Cert.ChipsReferenceIdeal.sig) → Buf (Elt Ideal) ℓ) (g' : Dev Cert.ChipsReferenceIdeal.nD → PrngReg), Pre_ChipsIdeal m →
    (∀ c : Dev Cert.ChipsIdeal.nD,
      m ((c.tc : Thread Cert.ChipsIdeal.nD Cert.ChipsIdeal.τ).loc Cert.ChipsIdeal.main_arg0) = Layout.block ⟨3, ![4, 48640, 128]⟩ ⟨3, ![32, 48640, 128]⟩ 0 8 c (m' (((0 : Dev Cert.ChipsReferenceIdeal.nD).tc : Thread Cert.ChipsReferenceIdeal.nD Cert.ChipsReferenceIdeal.τ).loc Cert.ChipsReferenceIdeal.main_arg0))) →
    ∃ (v0 : Buf (Elt Ideal) (((0 : Dev Cert.ChipsReferenceIdeal.nD).tc : Thread Cert.ChipsReferenceIdeal.nD Cert.ChipsReferenceIdeal.τ).loc Cert.ChipsReferenceIdeal.main_v2)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v1) = Layout.block ⟨3, ![4, 48640, 128]⟩ ⟨3, ![32, 48640, 128]⟩ 0 8 c v0
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ θ_run (Cert.ChipsReferenceIdeal.defs (F := Ideal)) (onTc (τ := Cert.ChipsReferenceIdeal.τ) (Cert.ChipsReferenceIdeal.main (F := Ideal))) ⟨m', fun _ => 0, g'⟩ (fun r =>
          r.2.mem (((0 : Dev Cert.ChipsReferenceIdeal.nD).tc : Thread Cert.ChipsReferenceIdeal.nD Cert.ChipsReferenceIdeal.τ).loc Cert.ChipsReferenceIdeal.main_v2) = v0
          ∧ r.2.mem (((0 : Dev Cert.ChipsReferenceIdeal.nD).tc : Thread Cert.ChipsReferenceIdeal.nD Cert.ChipsReferenceIdeal.τ).loc Cert.ChipsReferenceIdeal.main_arg0) = m' (((0 : Dev Cert.ChipsReferenceIdeal.nD).tc : Thread Cert.ChipsReferenceIdeal.nD Cert.ChipsReferenceIdeal.τ).loc Cert.ChipsReferenceIdeal.main_arg0))

def bitexact_Chips_ChipsReference [hChips : Cert.Chips.Facts] [hChipsReference : Cert.ChipsReference.Facts] : Prop :=
  ∀ (m : (ℓ : Loc Cert.Chips.nD Cert.Chips.τ Cert.Chips.sig) → Buf (Elt Bits) ℓ) (g : Dev Cert.Chips.nD → PrngReg)
    (m' : (ℓ : Loc Cert.ChipsReference.nD Cert.ChipsReference.τ Cert.ChipsReference.sig) → Buf (Elt Bits) ℓ) (g' : Dev Cert.ChipsReference.nD → PrngReg), Pre_Chips m →
    (∀ c : Dev Cert.Chips.nD,
      m ((c.tc : Thread Cert.Chips.nD Cert.Chips.τ).loc Cert.Chips.main_arg0) = Layout.block ⟨3, ![4, 48640, 128]⟩ ⟨3, ![32, 48640, 128]⟩ 0 8 c (m' (((0 : Dev Cert.ChipsReference.nD).tc : Thread Cert.ChipsReference.nD Cert.ChipsReference.τ).loc Cert.ChipsReference.main_arg0))) →
    ∃ (v0 : Buf (Elt Bits) (((0 : Dev Cert.ChipsReference.nD).tc : Thread Cert.ChipsReference.nD Cert.ChipsReference.τ).loc Cert.ChipsReference.main_v2)),
      θ_run (Cert.Chips.defs (F := Bits)) (onTc (τ := Cert.Chips.τ) (Cert.Chips.main (F := Bits))) ⟨m, fun _ => 0, g⟩ (fun r => ∀ c : Dev Cert.Chips.nD,
          r.2.mem ((c.tc : Thread Cert.Chips.nD Cert.Chips.τ).loc Cert.Chips.main_v1) = Layout.block ⟨3, ![4, 48640, 128]⟩ ⟨3, ![32, 48640, 128]⟩ 0 8 c v0
          ∧ r.2.mem ((c.tc : Thread Cert.Chips.nD Cert.Chips.τ).loc Cert.Chips.main_arg0) = m ((c.tc : Thread Cert.Chips.nD Cert.Chips.τ).loc Cert.Chips.main_arg0))
      ∧ θ_run (Cert.ChipsReference.defs (F := Bits)) (onTc (τ := Cert.ChipsReference.τ) (Cert.ChipsReference.main (F := Bits))) ⟨m', fun _ => 0, g'⟩ (fun r =>
          r.2.mem (((0 : Dev Cert.ChipsReference.nD).tc : Thread Cert.ChipsReference.nD Cert.ChipsReference.τ).loc Cert.ChipsReference.main_v2) = v0
          ∧ r.2.mem (((0 : Dev Cert.ChipsReference.nD).tc : Thread Cert.ChipsReference.nD Cert.ChipsReference.τ).loc Cert.ChipsReference.main_arg0) = m' (((0 : Dev Cert.ChipsReference.nD).tc : Thread Cert.ChipsReference.nD Cert.ChipsReference.τ).loc Cert.ChipsReference.main_arg0))

def preserves_Pieces_PiecesIdeal : Prop :=
  True

def algebraic_PiecesIdeal_PiecesReferenceIdeal [hPiecesIdeal : Cert.PiecesIdeal.Facts] [hPiecesReferenceIdeal : Cert.PiecesReferenceIdeal.Facts] : Prop :=
  ∀ (m : (ℓ : Loc Cert.PiecesIdeal.nD Cert.PiecesIdeal.τ Cert.PiecesIdeal.sig) → Buf (Elt Ideal) ℓ) (g : Dev Cert.PiecesIdeal.nD → PrngReg)
    (m' : (ℓ : Loc Cert.PiecesReferenceIdeal.nD Cert.PiecesReferenceIdeal.τ Cert.PiecesReferenceIdeal.sig) → Buf (Elt Ideal) ℓ) (g' : Dev Cert.PiecesReferenceIdeal.nD → PrngReg), Pre_PiecesIdeal m →
    (∀ c : Dev Cert.PiecesIdeal.nD,
      m' ((c.tc : Thread Cert.PiecesReferenceIdeal.nD Cert.PiecesReferenceIdeal.τ).loc Cert.PiecesReferenceIdeal.main_arg0) = m ((c.tc : Thread Cert.PiecesIdeal.nD Cert.PiecesIdeal.τ).loc Cert.PiecesIdeal.main_arg0)) →
    ∃ (v0 : (c : Dev Cert.PiecesIdeal.nD) → Buf (Elt Ideal) ((c.tc : Thread Cert.PiecesIdeal.nD Cert.PiecesIdeal.τ).loc Cert.PiecesIdeal.main_v0)),
      θ_run (Cert.PiecesIdeal.defs (F := Ideal)) (onTc (τ := Cert.PiecesIdeal.τ) (Cert.PiecesIdeal.main (F := Ideal))) ⟨m, fun _ => 0, g⟩ (fun r => ∀ c : Dev Cert.PiecesIdeal.nD,
          r.2.mem ((c.tc : Thread Cert.PiecesIdeal.nD Cert.PiecesIdeal.τ).loc Cert.PiecesIdeal.main_v0) = v0 c
          ∧ r.2.mem ((c.tc : Thread Cert.PiecesIdeal.nD Cert.PiecesIdeal.τ).loc Cert.PiecesIdeal.main_arg0) = m ((c.tc : Thread Cert.PiecesIdeal.nD Cert.PiecesIdeal.τ).loc Cert.PiecesIdeal.main_arg0))
      ∧ θ_run (Cert.PiecesReferenceIdeal.defs (F := Ideal)) (onTc (τ := Cert.PiecesReferenceIdeal.τ) (Cert.PiecesReferenceIdeal.main (F := Ideal))) ⟨m', fun _ => 0, g'⟩ (fun r => ∀ c : Dev Cert.PiecesReferenceIdeal.nD,
          r.2.mem ((c.tc : Thread Cert.PiecesReferenceIdeal.nD Cert.PiecesReferenceIdeal.τ).loc Cert.PiecesReferenceIdeal.main_v1) = v0 c
          ∧ r.2.mem ((c.tc : Thread Cert.PiecesReferenceIdeal.nD Cert.PiecesReferenceIdeal.τ).loc Cert.PiecesReferenceIdeal.main_arg0) = m' ((c.tc : Thread Cert.PiecesReferenceIdeal.nD Cert.PiecesReferenceIdeal.τ).loc Cert.PiecesReferenceIdeal.main_arg0))

def preserves_AdamIn_AdamInIdeal : Prop :=
  IdealRules.named_const.Statement Cert.AdamInIdeal.κ "c1" .f32 0x3FC48605#32 ((8388608 / 5463681 : ℝ) : EReal)
  ∧ IdealRules.named_const.Statement Cert.AdamInIdeal.κ "c2" .f32 0x42C8E6D3#32 ((268435456 / 2672307 : ℝ) : EReal)

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v0) = v0 c
          ∧ r.2.mem ((c.tc : Thread Cert.AdamInReferenceIdeal.nD Cert.AdamInReferenceIdeal.τ).loc Cert.AdamInReferenceIdeal.main_v24) = v1 c
          ∧ r.2.mem ((c.tc : Thread Cert.AdamInReferenceIdeal.nD Cert.AdamInReferenceIdeal.τ).loc Cert.AdamInReferenceIdeal.main_v5) = v2 c
          ∧ r.2.mem ((c.tc : Thread Cert.AdamInReferenceIdeal.nD Cert.AdamInReferenceIdeal.τ).loc Cert.AdamInReferenceIdeal.main_v11) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamConvA_AdamConvAIdeal : Prop :=
  IdealRules.named_const.Statement Cert.AdamConvAIdeal.κ "c1" .f32 0x3FC48605#32 ((8388608 / 5463681 : ℝ) : EReal)
  ∧ IdealRules.named_const.Statement Cert.AdamConvAIdeal.κ "c2" .f32 0x42C8E6D3#32 ((268435456 / 2672307 : ℝ) : EReal)

def algebraic_AdamConvAIdeal_AdamConvAReferenceIdeal [hAdamConvAIdeal : Cert.AdamConvAIdeal.Facts] [hAdamConvAReferenceIdeal : Cert.AdamConvAReferenceIdeal.Facts] : Prop :=
  ∀ (m : (ℓ : Loc Cert.AdamConvAIdeal.nD Cert.AdamConvAIdeal.τ Cert.AdamConvAIdeal.sig) → Buf (Elt Ideal) ℓ) (g : Dev Cert.AdamConvAIdeal.nD → PrngReg)
    (m' : (ℓ : Loc Cert.AdamConvAReferenceIdeal.nD Cert.AdamConvAReferenceIdeal.τ Cert.AdamConvAReferenceIdeal.sig) → Buf (Elt Ideal) ℓ) (g' : Dev Cert.AdamConvAReferenceIdeal.nD → PrngReg), Pre_AdamConvAIdeal m →
    (∀ c : Dev Cert.AdamConvAIdeal.nD,
      m' ((c.tc : Thread Cert.AdamConvAReferenceIdeal.nD Cert.AdamConvAReferenceIdeal.τ).loc Cert.AdamConvAReferenceIdeal.main_arg0) = m ((c.tc : Thread Cert.AdamConvAIdeal.nD Cert.AdamConvAIdeal.τ).loc Cert.AdamConvAIdeal.main_arg0)
      ∧ m' ((c.tc : Thread Cert.AdamConvAReferenceIdeal.nD Cert.AdamConvAReferenceIdeal.τ).loc Cert.AdamConvAReferenceIdeal.main_arg1) = m ((c.tc : Thread Cert.AdamConvAIdeal.nD Cert.AdamConvAIdeal.τ).loc Cert.AdamConvAIdeal.main_arg1)
      ∧ m' ((c.tc : Thread Cert.AdamConvAReferenceIdeal.nD Cert.AdamConvAReferenceIdeal.τ).loc Cert.AdamConvAReferenceIdeal.main_arg2) = m ((c.tc : Thread Cert.AdamConvAIdeal.nD Cert.AdamConvAIdeal.τ).loc Cert.AdamConvAIdeal.main_arg2)
      ∧ m' ((c.tc : Thread Cert.AdamConvAReferenceIdeal.nD Cert.AdamConvAReferenceIdeal.τ).loc Cert.AdamConvAReferenceIdeal.main_arg3) = m ((c.tc : Thread Cert.AdamConvAIdeal.nD Cert.AdamConvAIdeal.τ).loc Cert.AdamConvAIdeal.main_arg3)) →
    ∃ (v0 : (c : Dev Cert.AdamConvAIdeal.nD) → Buf (Elt Ideal) ((c.tc : Thread Cert.AdamConvAIdeal.nD Cert.AdamConvAIdeal.τ).loc Cert.AdamConvAIdeal.main_v0_0)) (v1 : (c : Dev Cert.AdamConvAIdeal.nD) → Buf (Elt Ideal) ((c.tc : Thread Cert.AdamConvAIdeal.nD Cert.AdamConvAIdeal.τ).loc Cert.AdamConvAIdeal.main_v0_1)) (v2 : (c : Dev Cert.AdamConvAIdeal.nD) → Buf (Elt Ideal) ((c.tc : Thread Cert.AdamConvAIdeal.nD Cert.AdamConvAIdeal.τ).loc Cert.AdamConvAIdeal.main_v0_2)) (v3 : (c : Dev Cert.AdamConvAIdeal.nD) → Buf (Elt Ideal) ((c.tc : Thread Cert.AdamConvAIdeal.nD Cert.AdamConvAIdeal.τ).loc Cert.AdamConvAIdeal.main_v0_3)),
      θ_run (Cert.AdamConvAIdeal.defs (F := Ideal)) (onTc (τ := Cert.AdamConvAIdeal.τ) (Cert.AdamConvAIdeal.main (F := Ideal))) ⟨m, fun _ => 0, g⟩ (fun r => ∀ c : Dev Cert.AdamConvAIdeal.nD,
          r.2.mem ((c.tc : Thread Cert.AdamConvAIdeal.nD Cert.AdamConvAIdeal.τ).loc Cert.AdamConvAIdeal.main_v0_0) = v0 c
          ∧ r.2.mem ((c.tc : Thread Cert.AdamConvAIdeal.nD Cert.AdamConvAIdeal.τ).loc Cert.AdamConvAIdeal.main_v0_1) = v1 c
          ∧ r.2.mem ((c.tc : Thread Cert.AdamConvAIdeal.nD Cert.AdamConvAIdeal.τ).loc Cert.AdamConvAIdeal.main_v0_2) = v2 c
          ∧ r.2.mem ((c.tc : Thread Cert.AdamConvAIdeal.nD Cert.AdamConvAIdeal.τ).loc Cert.AdamConvAIdeal.main_v0_3) = v3 c
          ∧ r.2.mem ((c.tc : Thread Cert.AdamConvAIdeal.nD Cert.AdamConvAIdeal.τ).loc Cert.AdamConvAIdeal.main_arg0) = m ((c.tc : Thread Cert.AdamConvAIdeal.nD Cert.AdamConvAIdeal.τ).loc Cert.AdamConvAIdeal.main_arg0)
          ∧ r.2.mem ((c.tc : Thread Cert.AdamConvAIdeal.nD Cert.AdamConvAIdeal.τ).loc Cert.AdamConvAIdeal.main_arg1) = m ((c.tc : Thread Cert.AdamConvAIdeal.nD Cert.AdamConvAIdeal.τ).loc Cert.AdamConvAIdeal.main_arg1)
          ∧ r.2.mem ((c.tc : Thread Cert.AdamConvAIdeal.nD Cert.AdamConvAIdeal.τ).loc Cert.AdamConvAIdeal.main_arg2) = m ((c.tc : Thread Cert.AdamConvAIdeal.nD Cert.AdamConvAIdeal.τ).loc Cert.AdamConvAIdeal.main_arg2)
          ∧ r.2.mem ((c.tc : Thread Cert.AdamConvAIdeal.nD Cert.AdamConvAIdeal.τ).loc Cert.AdamConvAIdeal.main_arg3) = m ((c.tc : Thread Cert.AdamConvAIdeal.nD Cert.AdamConvAIdeal.τ).loc Cert.AdamConvAIdeal.main_arg3))
      ∧ θ_run (Cert.AdamConvAReferenceIdeal.defs (F := Ideal)) (onTc (τ := Cert.AdamConvAReferenceIdeal.τ) (Cert.AdamConvAReferenceIdeal.main (F := Ideal))) ⟨m', fun _ => 0, g'⟩ (fun r => ∀ c : Dev Cert.AdamConvAReferenceIdeal.nD,
          r.2.mem ((c.tc : Thread Cert.AdamConvAReferenceIdeal.nD Cert.AdamConvAReferenceIdeal.τ).loc Cert.AdamConvAReferenceIdeal.main_v0) = v0 c
          ∧ r.2.mem ((c.tc : Thread Cert.AdamConvAReferenceIdeal.nD Cert.AdamConvAReferenceIdeal.τ).loc Cert.AdamConvAReferenceIdeal.main_v24) = v1 c
          ∧ r.2.mem ((c.tc : Thread Cert.AdamConvAReferenceIdeal.nD Cert.AdamConvAReferenceIdeal.τ).loc Cert.AdamConvAReferenceIdeal.main_v5) = v2 c
          ∧ r.2.mem ((c.tc : Thread Cert.AdamConvAReferenceIdeal.nD Cert.AdamConvAReferenceIdeal.τ).loc Cert.AdamConvAReferenceIdeal.main_v11) = v3 c
          ∧ r.2.mem ((c.tc : Thread Cert.AdamConvAReferenceIdeal.nD Cert.AdamConvAReferenceIdeal.τ).loc Cert.AdamConvAReferenceIdeal.main_arg0) = m' ((c.tc : Thread Cert.AdamConvAReferenceIdeal.nD Cert.AdamConvAReferenceIdeal.τ).loc Cert.AdamConvAReferenceIdeal.main_arg0)
          ∧ r.2.mem ((c.tc : Thread Cert.AdamConvAReferenceIdeal.nD Cert.AdamConvAReferenceIdeal.τ).loc Cert.AdamConvAReferenceIdeal.main_arg1) = m' ((c.tc : Thread Cert.AdamConvAReferenceIdeal.nD Cert.AdamConvAReferenceIdeal.τ).loc Cert.AdamConvAReferenceIdeal.main_arg1)
          ∧ r.2.mem ((c.tc : Thread Cert.AdamConvAReferenceIdeal.nD Cert.AdamConvAReferenceIdeal.τ).loc Cert.AdamConvAReferenceIdeal.main_arg2) = m' ((c.tc : Thread Cert.AdamConvAReferenceIdeal.nD Cert.AdamConvAReferenceIdeal.τ).loc Cert.AdamConvAReferenceIdeal.main_arg2)
          ∧ r.2.mem ((c.tc : Thread Cert.AdamConvAReferenceIdeal.nD Cert.AdamConvAReferenceIdeal.τ).loc Cert.AdamConvAReferenceIdeal.main_arg3) = m' ((c.tc : Thread Cert.AdamConvAReferenceIdeal.nD Cert.AdamConvAReferenceIdeal.τ).loc Cert.AdamConvAReferenceIdeal.main_arg3))

def preserves_AdamOut_AdamOutIdeal : Prop :=
  IdealRules.named_const.Statement Cert.AdamOutIdeal.κ "c1" .f32 0x3FC48605#32 ((8388608 / 5463681 : ℝ) : EReal)
  ∧ IdealRules.named_const.Statement Cert.AdamOutIdeal.κ "c2" .f32 0x42C8E6D3#32 ((268435456 / 2672307 : ℝ) : EReal)

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v0) = v0 c
          ∧ r.2.mem ((c.tc : Thread Cert.AdamOutReferenceIdeal.nD Cert.AdamOutReferenceIdeal.τ).loc Cert.AdamOutReferenceIdeal.main_v24) = v1 c
          ∧ r.2.mem ((c.tc : Thread Cert.AdamOutReferenceIdeal.nD Cert.AdamOutReferenceIdeal.τ).loc Cert.AdamOutReferenceIdeal.main_v5) = v2 c
          ∧ r.2.mem ((c.tc : Thread Cert.AdamOutReferenceIdeal.nD Cert.AdamOutReferenceIdeal.τ).loc Cert.AdamOutReferenceIdeal.main_v11) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamSsmConv_AdamSsmConvIdeal : Prop :=
  IdealRules.named_const.Statement Cert.AdamSsmConvIdeal.κ "c1" .f32 0x3FC48605#32 ((8388608 / 5463681 : ℝ) : EReal)
  ∧ IdealRules.named_const.Statement Cert.AdamSsmConvIdeal.κ "c2" .f32 0x42C8E6D3#32 ((268435456 / 2672307 : ℝ) : EReal)

def algebraic_AdamSsmConvIdeal_AdamSsmConvReferenceIdeal [hAdamSsmConvIdeal : Cert.AdamSsmConvIdeal.Facts] [hAdamSsmConvReferenceIdeal : Cert.AdamSsmConvReferenceIdeal.Facts] : Prop :=
  ∀ (m : (ℓ : Loc Cert.AdamSsmConvIdeal.nD Cert.AdamSsmConvIdeal.τ Cert.AdamSsmConvIdeal.sig) → Buf (Elt Ideal) ℓ) (g : Dev Cert.AdamSsmConvIdeal.nD → PrngReg)
    (m' : (ℓ : Loc Cert.AdamSsmConvReferenceIdeal.nD Cert.AdamSsmConvReferenceIdeal.τ Cert.AdamSsmConvReferenceIdeal.sig) → Buf (Elt Ideal) ℓ) (g' : Dev Cert.AdamSsmConvReferenceIdeal.nD → PrngReg), Pre_AdamSsmConvIdeal m →
    (∀ c : Dev Cert.AdamSsmConvIdeal.nD,
      m' ((c.tc : Thread Cert.AdamSsmConvReferenceIdeal.nD Cert.AdamSsmConvReferenceIdeal.τ).loc Cert.AdamSsmConvReferenceIdeal.main_arg0) = m ((c.tc : Thread Cert.AdamSsmConvIdeal.nD Cert.AdamSsmConvIdeal.τ).loc Cert.AdamSsmConvIdeal.main_arg0)
      ∧ m' ((c.tc : Thread Cert.AdamSsmConvReferenceIdeal.nD Cert.AdamSsmConvReferenceIdeal.τ).loc Cert.AdamSsmConvReferenceIdeal.main_arg1) = m ((c.tc : Thread Cert.AdamSsmConvIdeal.nD Cert.AdamSsmConvIdeal.τ).loc Cert.AdamSsmConvIdeal.main_arg1)
      ∧ m' ((c.tc : Thread Cert.AdamSsmConvReferenceIdeal.nD Cert.AdamSsmConvReferenceIdeal.τ).loc Cert.AdamSsmConvReferenceIdeal.main_arg2) = m ((c.tc : Thread Cert.AdamSsmConvIdeal.nD Cert.AdamSsmConvIdeal.τ).loc Cert.AdamSsmConvIdeal.main_arg2)
      ∧ m' ((c.tc : Thread Cert.AdamSsmConvReferenceIdeal.nD Cert.AdamSsmConvReferenceIdeal.τ).loc Cert.AdamSsmConvReferenceIdeal.main_arg3) = m ((c.tc : Thread Cert.AdamSsmConvIdeal.nD Cert.AdamSsmConvIdeal.τ).loc Cert.AdamSsmConvIdeal.main_arg3)) →
    ∃ (v0 : (c : Dev Cert.AdamSsmConvIdeal.nD) → Buf (Elt Ideal) ((c.tc : Thread Cert.AdamSsmConvIdeal.nD Cert.AdamSsmConvIdeal.τ).loc Cert.AdamSsmConvIdeal.main_v0_0)) (v1 : (c : Dev Cert.AdamSsmConvIdeal.nD) → Buf (Elt Ideal) ((c.tc : Thread Cert.AdamSsmConvIdeal.nD Cert.AdamSsmConvIdeal.τ).loc Cert.AdamSsmConvIdeal.main_v0_1)) (v2 : (c : Dev Cert.AdamSsmConvIdeal.nD) → Buf (Elt Ideal) ((c.tc : Thread Cert.AdamSsmConvIdeal.nD Cert.AdamSsmConvIdeal.τ).loc Cert.AdamSsmConvIdeal.main_v0_2)) (v3 : (c : Dev Cert.AdamSsmConvIdeal.nD) → Buf (Elt Ideal) ((c.tc : Thread Cert.AdamSsmConvIdeal.nD Cert.AdamSsmConvIdeal.τ).loc Cert.AdamSsmConvIdeal.main_v0_3)),
      θ_run (Cert.AdamSsmConvIdeal.defs (F := Ideal)) (onTc (τ := Cert.AdamSsmConvIdeal.τ) (Cert.AdamSsmConvIdeal.main (F := Ideal))) ⟨m, fun _ => 0, g⟩ (fun r => ∀ c : Dev Cert.AdamSsmConvIdeal.nD,
          r.2.mem ((c.tc : Thread Cert.AdamSsmConvIdeal.nD Cert.AdamSsmConvIdeal.τ).loc Cert.AdamSsmConvIdeal.main_v0_0) = v0 c
          ∧ r.2.mem ((c.tc : Thread Cert.AdamSsmConvIdeal.nD Cert.AdamSsmConvIdeal.τ).loc Cert.AdamSsmConvIdeal.main_v0_1) = v1 c
          ∧ r.2.mem ((c.tc : Thread Cert.AdamSsmConvIdeal.nD Cert.AdamSsmConvIdeal.τ).loc Cert.AdamSsmConvIdeal.main_v0_2) = v2 c
          ∧ r.2.mem ((c.tc : Thread Cert.AdamSsmConvIdeal.nD Cert.AdamSsmConvIdeal.τ).loc Cert.AdamSsmConvIdeal.main_v0_3) = v3 c
          ∧ r.2.mem ((c.tc : Thread Cert.AdamSsmConvIdeal.nD Cert.AdamSsmConvIdeal.τ).loc Cert.AdamSsmConvIdeal.main_arg0) = m ((c.tc : Thread Cert.AdamSsmConvIdeal.nD Cert.AdamSsmConvIdeal.τ).loc Cert.AdamSsmConvIdeal.main_arg0)
          ∧ r.2.mem ((c.tc : Thread Cert.AdamSsmConvIdeal.nD Cert.AdamSsmConvIdeal.τ).loc Cert.AdamSsmConvIdeal.main_arg1) = m ((c.tc : Thread Cert.AdamSsmConvIdeal.nD Cert.AdamSsmConvIdeal.τ).loc Cert.AdamSsmConvIdeal.main_arg1)
          ∧ r.2.mem ((c.tc : Thread Cert.AdamSsmConvIdeal.nD Cert.AdamSsmConvIdeal.τ).loc Cert.AdamSsmConvIdeal.main_arg2) = m ((c.tc : Thread Cert.AdamSsmConvIdeal.nD Cert.AdamSsmConvIdeal.τ).loc Cert.AdamSsmConvIdeal.main_arg2)
          ∧ r.2.mem ((c.tc : Thread Cert.AdamSsmConvIdeal.nD Cert.AdamSsmConvIdeal.τ).loc Cert.AdamSsmConvIdeal.main_arg3) = m ((c.tc : Thread Cert.AdamSsmConvIdeal.nD Cert.AdamSsmConvIdeal.τ).loc Cert.AdamSsmConvIdeal.main_arg3))
      ∧ θ_run (Cert.AdamSsmConvReferenceIdeal.defs (F := Ideal)) (onTc (τ := Cert.AdamSsmConvReferenceIdeal.τ) (Cert.AdamSsmConvReferenceIdeal.main (F := Ideal))) ⟨m', fun _ => 0, g'⟩ (fun r => ∀ c : Dev Cert.AdamSsmConvReferenceIdeal.nD,
          r.2.mem ((c.tc : Thread Cert.AdamSsmConvReferenceIdeal.nD Cert.AdamSsmConvReferenceIdeal.τ).loc Cert.AdamSsmConvReferenceIdeal.main_v0) = v0 c
          ∧ r.2.mem ((c.tc : Thread Cert.AdamSsmConvReferenceIdeal.nD Cert.AdamSsmConvReferenceIdeal.τ).loc Cert.AdamSsmConvReferenceIdeal.main_v24) = v1 c
          ∧ r.2.mem ((c.tc : Thread Cert.AdamSsmConvReferenceIdeal.nD Cert.AdamSsmConvReferenceIdeal.τ).loc Cert.AdamSsmConvReferenceIdeal.main_v5) = v2 c
          ∧ r.2.mem ((c.tc : Thread Cert.AdamSsmConvReferenceIdeal.nD Cert.AdamSsmConvReferenceIdeal.τ).loc Cert.AdamSsmConvReferenceIdeal.main_v11) = v3 c
          ∧ r.2.mem ((c.tc : Thread Cert.AdamSsmConvReferenceIdeal.nD Cert.AdamSsmConvReferenceIdeal.τ).loc Cert.AdamSsmConvReferenceIdeal.main_arg0) = m' ((c.tc : Thread Cert.AdamSsmConvReferenceIdeal.nD Cert.AdamSsmConvReferenceIdeal.τ).loc Cert.AdamSsmConvReferenceIdeal.main_arg0)
          ∧ r.2.mem ((c.tc : Thread Cert.AdamSsmConvReferenceIdeal.nD Cert.AdamSsmConvReferenceIdeal.τ).loc Cert.AdamSsmConvReferenceIdeal.main_arg1) = m' ((c.tc : Thread Cert.AdamSsmConvReferenceIdeal.nD Cert.AdamSsmConvReferenceIdeal.τ).loc Cert.AdamSsmConvReferenceIdeal.main_arg1)
          ∧ r.2.mem ((c.tc : Thread Cert.AdamSsmConvReferenceIdeal.nD Cert.AdamSsmConvReferenceIdeal.τ).loc Cert.AdamSsmConvReferenceIdeal.main_arg2) = m' ((c.tc : Thread Cert.AdamSsmConvReferenceIdeal.nD Cert.AdamSsmConvReferenceIdeal.τ).loc Cert.AdamSsmConvReferenceIdeal.main_arg2)
          ∧ r.2.mem ((c.tc : Thread Cert.AdamSsmConvReferenceIdeal.nD Cert.AdamSsmConvReferenceIdeal.τ).loc Cert.AdamSsmConvReferenceIdeal.main_arg3) = m' ((c.tc : Thread Cert.AdamSsmConvReferenceIdeal.nD Cert.AdamSsmConvReferenceIdeal.τ).loc Cert.AdamSsmConvReferenceIdeal.main_arg3))

def preserves_AdamBOut_AdamBOutIdeal : Prop :=
  IdealRules.named_const.Statement Cert.AdamBOutIdeal.κ "c1" .f32 0x3FC48605#32 ((8388608 / 5463681 : ℝ) : EReal)
  ∧ IdealRules.named_const.Statement Cert.AdamBOutIdeal.κ "c2" .f32 0x42C8E6D3#32 ((268435456 / 2672307 : ℝ) : EReal)

def algebraic_AdamBOutIdeal_AdamBOutReferenceIdeal [hAdamBOutIdeal : Cert.AdamBOutIdeal.Facts] [hAdamBOutReferenceIdeal : Cert.AdamBOutReferenceIdeal.Facts] : Prop :=
  ∀ (m : (ℓ : Loc Cert.AdamBOutIdeal.nD Cert.AdamBOutIdeal.τ Cert.AdamBOutIdeal.sig) → Buf (Elt Ideal) ℓ) (g : Dev Cert.AdamBOutIdeal.nD → PrngReg)
    (m' : (ℓ : Loc Cert.AdamBOutReferenceIdeal.nD Cert.AdamBOutReferenceIdeal.τ Cert.AdamBOutReferenceIdeal.sig) → Buf (Elt Ideal) ℓ) (g' : Dev Cert.AdamBOutReferenceIdeal.nD → PrngReg), Pre_AdamBOutIdeal m →
    (∀ c : Dev Cert.AdamBOutIdeal.nD,
      m' ((c.tc : Thread Cert.AdamBOutReferenceIdeal.nD Cert.AdamBOutReferenceIdeal.τ).loc Cert.AdamBOutReferenceIdeal.main_arg0) = m ((c.tc : Thread Cert.AdamBOutIdeal.nD Cert.AdamBOutIdeal.τ).loc Cert.AdamBOutIdeal.main_arg0)
      ∧ m' ((c.tc : Thread Cert.AdamBOutReferenceIdeal.nD Cert.AdamBOutReferenceIdeal.τ).loc Cert.AdamBOutReferenceIdeal.main_arg1) = m ((c.tc : Thread Cert.AdamBOutIdeal.nD Cert.AdamBOutIdeal.τ).loc Cert.AdamBOutIdeal.main_arg1)
      ∧ m' ((c.tc : Thread Cert.AdamBOutReferenceIdeal.nD Cert.AdamBOutReferenceIdeal.τ).loc Cert.AdamBOutReferenceIdeal.main_arg2) = m ((c.tc : Thread Cert.AdamBOutIdeal.nD Cert.AdamBOutIdeal.τ).loc Cert.AdamBOutIdeal.main_arg2)
      ∧ m' ((c.tc : Thread Cert.AdamBOutReferenceIdeal.nD Cert.AdamBOutReferenceIdeal.τ).loc Cert.AdamBOutReferenceIdeal.main_arg3) = m ((c.tc : Thread Cert.AdamBOutIdeal.nD Cert.AdamBOutIdeal.τ).loc Cert.AdamBOutIdeal.main_arg3)) →
    ∃ (v0 : (c : Dev Cert.AdamBOutIdeal.nD) → Buf (Elt Ideal) ((c.tc : Thread Cert.AdamBOutIdeal.nD Cert.AdamBOutIdeal.τ).loc Cert.AdamBOutIdeal.main_v0_0)) (v1 : (c : Dev Cert.AdamBOutIdeal.nD) → Buf (Elt Ideal) ((c.tc : Thread Cert.AdamBOutIdeal.nD Cert.AdamBOutIdeal.τ).loc Cert.AdamBOutIdeal.main_v0_1)) (v2 : (c : Dev Cert.AdamBOutIdeal.nD) → Buf (Elt Ideal) ((c.tc : Thread Cert.AdamBOutIdeal.nD Cert.AdamBOutIdeal.τ).loc Cert.AdamBOutIdeal.main_v0_2)) (v3 : (c : Dev Cert.AdamBOutIdeal.nD) → Buf (Elt Ideal) ((c.tc : Thread Cert.AdamBOutIdeal.nD Cert.AdamBOutIdeal.τ).loc Cert.AdamBOutIdeal.main_v0_3)),
      θ_run (Cert.AdamBOutIdeal.defs (F := Ideal)) (onTc (τ := Cert.AdamBOutIdeal.τ) (Cert.AdamBOutIdeal.main (F := Ideal))) ⟨m, fun _ => 0, g⟩ (fun r => ∀ c : Dev Cert.AdamBOutIdeal.nD,
          r.2.mem ((c.tc : Thread Cert.AdamBOutIdeal.nD Cert.AdamBOutIdeal.τ).loc Cert.AdamBOutIdeal.main_v0_0) = v0 c
          ∧ r.2.mem ((c.tc : Thread Cert.AdamBOutIdeal.nD Cert.AdamBOutIdeal.τ).loc Cert.AdamBOutIdeal.main_v0_1) = v1 c
          ∧ r.2.mem ((c.tc : Thread Cert.AdamBOutIdeal.nD Cert.AdamBOutIdeal.τ).loc Cert.AdamBOutIdeal.main_v0_2) = v2 c
          ∧ r.2.mem ((c.tc : Thread Cert.AdamBOutIdeal.nD Cert.AdamBOutIdeal.τ).loc Cert.AdamBOutIdeal.main_v0_3) = v3 c
          ∧ r.2.mem ((c.tc : Thread Cert.AdamBOutIdeal.nD Cert.AdamBOutIdeal.τ).loc Cert.AdamBOutIdeal.main_arg0) = m ((c.tc : Thread Cert.AdamBOutIdeal.nD Cert.AdamBOutIdeal.τ).loc Cert.AdamBOutIdeal.main_arg0)
          ∧ r.2.mem ((c.tc : Thread Cert.AdamBOutIdeal.nD Cert.AdamBOutIdeal.τ).loc Cert.AdamBOutIdeal.main_arg1) = m ((c.tc : Thread Cert.AdamBOutIdeal.nD Cert.AdamBOutIdeal.τ).loc Cert.AdamBOutIdeal.main_arg1)
          ∧ r.2.mem ((c.tc : Thread Cert.AdamBOutIdeal.nD Cert.AdamBOutIdeal.τ).loc Cert.AdamBOutIdeal.main_arg2) = m ((c.tc : Thread Cert.AdamBOutIdeal.nD Cert.AdamBOutIdeal.τ).loc Cert.AdamBOutIdeal.main_arg2)
          ∧ r.2.mem ((c.tc : Thread Cert.AdamBOutIdeal.nD Cert.AdamBOutIdeal.τ).loc Cert.AdamBOutIdeal.main_arg3) = m ((c.tc : Thread Cert.AdamBOutIdeal.nD Cert.AdamBOutIdeal.τ).loc Cert.AdamBOutIdeal.main_arg3))
      ∧ θ_run (Cert.AdamBOutReferenceIdeal.defs (F := Ideal)) (onTc (τ := Cert.AdamBOutReferenceIdeal.τ) (Cert.AdamBOutReferenceIdeal.main (F := Ideal))) ⟨m', fun _ => 0, g'⟩ (fun r => ∀ c : Dev Cert.AdamBOutReferenceIdeal.nD,
          r.2.mem ((c.tc : Thread Cert.AdamBOutReferenceIdeal.nD Cert.AdamBOutReferenceIdeal.τ).loc Cert.AdamBOutReferenceIdeal.main_v0) = v0 c
          ∧ r.2.mem ((c.tc : Thread Cert.AdamBOutReferenceIdeal.nD Cert.AdamBOutReferenceIdeal.τ).loc Cert.AdamBOutReferenceIdeal.main_v24) = v1 c
          ∧ r.2.mem ((c.tc : Thread Cert.AdamBOutReferenceIdeal.nD Cert.AdamBOutReferenceIdeal.τ).loc Cert.AdamBOutReferenceIdeal.main_v5) = v2 c
          ∧ r.2.mem ((c.tc : Thread Cert.AdamBOutReferenceIdeal.nD Cert.AdamBOutReferenceIdeal.τ).loc Cert.AdamBOutReferenceIdeal.main_v11) = v3 c
          ∧ r.2.mem ((c.tc : Thread Cert.AdamBOutReferenceIdeal.nD Cert.AdamBOutReferenceIdeal.τ).loc Cert.AdamBOutReferenceIdeal.main_arg0) = m' ((c.tc : Thread Cert.AdamBOutReferenceIdeal.nD Cert.AdamBOutReferenceIdeal.τ).loc Cert.AdamBOutReferenceIdeal.main_arg0)
          ∧ r.2.mem ((c.tc : Thread Cert.AdamBOutReferenceIdeal.nD Cert.AdamBOutReferenceIdeal.τ).loc Cert.AdamBOutReferenceIdeal.main_arg1) = m' ((c.tc : Thread Cert.AdamBOutReferenceIdeal.nD Cert.AdamBOutReferenceIdeal.τ).loc Cert.AdamBOutReferenceIdeal.main_arg1)
          ∧ r.2.mem ((c.tc : Thread Cert.AdamBOutReferenceIdeal.nD Cert.AdamBOutReferenceIdeal.τ).loc Cert.AdamBOutReferenceIdeal.main_arg2) = m' ((c.tc : Thread Cert.AdamBOutReferenceIdeal.nD Cert.AdamBOutReferenceIdeal.τ).loc Cert.AdamBOutReferenceIdeal.main_arg2)
          ∧ r.2.mem ((c.tc : Thread Cert.AdamBOutReferenceIdeal.nD Cert.AdamBOutReferenceIdeal.τ).loc Cert.AdamBOutReferenceIdeal.main_arg3) = m' ((c.tc : Thread Cert.AdamBOutReferenceIdeal.nD Cert.AdamBOutReferenceIdeal.τ).loc Cert.AdamBOutReferenceIdeal.main_arg3))

def preserves_AdamGateUp_AdamGateUpIdeal : Prop :=
  IdealRules.named_const.Statement Cert.AdamGateUpIdeal.κ "c1" .f32 0x3FC48605#32 ((8388608 / 5463681 : ℝ) : EReal)
  ∧ IdealRules.named_const.Statement Cert.AdamGateUpIdeal.κ "c2" .f32 0x42C8E6D3#32 ((268435456 / 2672307 : ℝ) : EReal)

def algebraic_AdamGateUpIdeal_AdamGateUpReferenceIdeal [hAdamGateUpIdeal : Cert.AdamGateUpIdeal.Facts] [hAdamGateUpReferenceIdeal : Cert.AdamGateUpReferenceIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg)
    (m' : (ℓ : Loc Cert.AdamGateUpReferenceIdeal.nD Cert.AdamGateUpReferenceIdeal.τ Cert.AdamGateUpReferenceIdeal.sig) → Buf (Elt Ideal) ℓ) (g' : Dev Cert.AdamGateUpReferenceIdeal.nD → PrngReg), Pre_AdamGateUpIdeal m →
    (∀ c : Dev Cert.AdamGateUpIdeal.nD,
      m' ((c.tc : Thread Cert.AdamGateUpReferenceIdeal.nD Cert.AdamGateUpReferenceIdeal.τ).loc Cert.AdamGateUpReferenceIdeal.main_arg0) = m ((c.tc : Thread Cert.AdamGateUpIdeal.nD Cert.AdamGateUpIdeal.τ).loc Cert.AdamGateUpIdeal.main_arg0)
      ∧ m' ((c.tc : Thread Cert.AdamGateUpReferenceIdeal.nD Cert.AdamGateUpReferenceIdeal.τ).loc Cert.AdamGateUpReferenceIdeal.main_arg1) = m ((c.tc : Thread Cert.AdamGateUpIdeal.nD Cert.AdamGateUpIdeal.τ).loc Cert.AdamGateUpIdeal.main_arg1)
      ∧ m' ((c.tc : Thread Cert.AdamGateUpReferenceIdeal.nD Cert.AdamGateUpReferenceIdeal.τ).loc Cert.AdamGateUpReferenceIdeal.main_arg2) = m ((c.tc : Thread Cert.AdamGateUpIdeal.nD Cert.AdamGateUpIdeal.τ).loc Cert.AdamGateUpIdeal.main_arg2)
      ∧ m' ((c.tc : Thread Cert.AdamGateUpReferenceIdeal.nD Cert.AdamGateUpReferenceIdeal.τ).loc Cert.AdamGateUpReferenceIdeal.main_arg3) = m ((c.tc : Thread Cert.AdamGateUpIdeal.nD Cert.AdamGateUpIdeal.τ).loc Cert.AdamGateUpIdeal.main_arg3)) →
    ∃ (v0 : (c : Dev Cert.AdamGateUpIdeal.nD) → Buf (Elt Ideal) ((c.tc : Thread Cert.AdamGateUpIdeal.nD Cert.AdamGateUpIdeal.τ).loc Cert.AdamGateUpIdeal.main_v0_0)) (v1 : (c : Dev Cert.AdamGateUpIdeal.nD) → Buf (Elt Ideal) ((c.tc : Thread Cert.AdamGateUpIdeal.nD Cert.AdamGateUpIdeal.τ).loc Cert.AdamGateUpIdeal.main_v0_1)) (v2 : (c : Dev Cert.AdamGateUpIdeal.nD) → Buf (Elt Ideal) ((c.tc : Thread Cert.AdamGateUpIdeal.nD Cert.AdamGateUpIdeal.τ).loc Cert.AdamGateUpIdeal.main_v0_2)) (v3 : (c : Dev Cert.AdamGateUpIdeal.nD) → Buf (Elt Ideal) ((c.tc : Thread Cert.AdamGateUpIdeal.nD Cert.AdamGateUpIdeal.τ).loc Cert.AdamGateUpIdeal.main_v0_3)),
      θ_run (Cert.AdamGateUpIdeal.defs (F := Ideal)) (onTc (τ := Cert.AdamGateUpIdeal.τ) (Cert.AdamGateUpIdeal.main (F := Ideal))) ⟨m, fun _ => 0, g⟩ (fun r => ∀ c : Dev Cert.AdamGateUpIdeal.nD,
          r.2.mem ((c.tc : Thread Cert.AdamGateUpIdeal.nD Cert.AdamGateUpIdeal.τ).loc Cert.AdamGateUpIdeal.main_v0_0) = v0 c
          ∧ r.2.mem ((c.tc : Thread Cert.AdamGateUpIdeal.nD Cert.AdamGateUpIdeal.τ).loc Cert.AdamGateUpIdeal.main_v0_1) = v1 c
          ∧ r.2.mem ((c.tc : Thread Cert.AdamGateUpIdeal.nD Cert.AdamGateUpIdeal.τ).loc Cert.AdamGateUpIdeal.main_v0_2) = v2 c
          ∧ r.2.mem ((c.tc : Thread Cert.AdamGateUpIdeal.nD Cert.AdamGateUpIdeal.τ).loc Cert.AdamGateUpIdeal.main_v0_3) = v3 c
          ∧ r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
          ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
          ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
          ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3))
      ∧ θ_run (Cert.AdamGateUpReferenceIdeal.defs (F := Ideal)) (onTc (τ := Cert.AdamGateUpReferenceIdeal.τ) (Cert.AdamGateUpReferenceIdeal.main (F := Ideal))) ⟨m', fun _ => 0, g'⟩ (fun r => ∀ c : Dev Cert.AdamGateUpReferenceIdeal.nD,
          r.2.mem ((c.tc : Thread Cert.AdamGateUpReferenceIdeal.nD Cert.AdamGateUpReferenceIdeal.τ).loc Cert.AdamGateUpReferenceIdeal.main_v0) = v0 c
          ∧ r.2.mem ((c.tc : Thread Cert.AdamGateUpReferenceIdeal.nD Cert.AdamGateUpReferenceIdeal.τ).loc Cert.AdamGateUpReferenceIdeal.main_v24) = v1 c
          ∧ r.2.mem ((c.tc : Thread Cert.AdamGateUpReferenceIdeal.nD Cert.AdamGateUpReferenceIdeal.τ).loc Cert.AdamGateUpReferenceIdeal.main_v5) = v2 c
          ∧ r.2.mem ((c.tc : Thread Cert.AdamGateUpReferenceIdeal.nD Cert.AdamGateUpReferenceIdeal.τ).loc Cert.AdamGateUpReferenceIdeal.main_v11) = v3 c
          ∧ r.2.mem ((c.tc : Thread Cert.AdamGateUpReferenceIdeal.nD Cert.AdamGateUpReferenceIdeal.τ).loc Cert.AdamGateUpReferenceIdeal.main_arg0) = m' ((c.tc : Thread Cert.AdamGateUpReferenceIdeal.nD Cert.AdamGateUpReferenceIdeal.τ).loc Cert.AdamGateUpReferenceIdeal.main_arg0)
          ∧ r.2.mem ((c.tc : Thread Cert.AdamGateUpReferenceIdeal.nD Cert.AdamGateUpReferenceIdeal.τ).loc Cert.AdamGateUpReferenceIdeal.main_arg1) = m' ((c.tc : Thread Cert.AdamGateUpReferenceIdeal.nD Cert.AdamGateUpReferenceIdeal.τ).loc Cert.AdamGateUpReferenceIdeal.main_arg1)
          ∧ r.2.mem ((c.tc : Thread Cert.AdamGateUpReferenceIdeal.nD Cert.AdamGateUpReferenceIdeal.τ).loc Cert.AdamGateUpReferenceIdeal.main_arg2) = m' ((c.tc : Thread Cert.AdamGateUpReferenceIdeal.nD Cert.AdamGateUpReferenceIdeal.τ).loc Cert.AdamGateUpReferenceIdeal.main_arg2)
          ∧ r.2.mem ((c.tc : Thread Cert.AdamGateUpReferenceIdeal.nD Cert.AdamGateUpReferenceIdeal.τ).loc Cert.AdamGateUpReferenceIdeal.main_arg3) = m' ((c.tc : Thread Cert.AdamGateUpReferenceIdeal.nD Cert.AdamGateUpReferenceIdeal.τ).loc Cert.AdamGateUpReferenceIdeal.main_arg3))

def preserves_AdamDown_AdamDownIdeal : Prop :=
  IdealRules.named_const.Statement Cert.AdamDownIdeal.κ "c1" .f32 0x3FC48605#32 ((8388608 / 5463681 : ℝ) : EReal)
  ∧ IdealRules.named_const.Statement Cert.AdamDownIdeal.κ "c2" .f32 0x42C8E6D3#32 ((268435456 / 2672307 : ℝ) : EReal)

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v0) = v0 c
          ∧ r.2.mem ((c.tc : Thread Cert.AdamDownReferenceIdeal.nD Cert.AdamDownReferenceIdeal.τ).loc Cert.AdamDownReferenceIdeal.main_v24) = v1 c
          ∧ r.2.mem ((c.tc : Thread Cert.AdamDownReferenceIdeal.nD Cert.AdamDownReferenceIdeal.τ).loc Cert.AdamDownReferenceIdeal.main_v5) = v2 c
          ∧ r.2.mem ((c.tc : Thread Cert.AdamDownReferenceIdeal.nD Cert.AdamDownReferenceIdeal.τ).loc Cert.AdamDownReferenceIdeal.main_v11) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_AdamPle_AdamPleIdeal : Prop :=
  IdealRules.named_const.Statement Cert.AdamPleIdeal.κ "c1" .f32 0x3FC48605#32 ((8388608 / 5463681 : ℝ) : EReal)
  ∧ IdealRules.named_const.Statement Cert.AdamPleIdeal.κ "c2" .f32 0x42C8E6D3#32 ((268435456 / 2672307 : ℝ) : EReal)

def algebraic_AdamPleIdeal_AdamPleReferenceIdeal [hAdamPleIdeal : Cert.AdamPleIdeal.Facts] [hAdamPleReferenceIdeal : Cert.AdamPleReferenceIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg)
    (m' : (ℓ : Loc Cert.AdamPleReferenceIdeal.nD Cert.AdamPleReferenceIdeal.τ Cert.AdamPleReferenceIdeal.sig) → Buf (Elt Ideal) ℓ) (g' : Dev Cert.AdamPleReferenceIdeal.nD → PrngReg), Pre_AdamPleIdeal m →
    (∀ c : Dev Cert.AdamPleIdeal.nD,
      m' ((c.tc : Thread Cert.AdamPleReferenceIdeal.nD Cert.AdamPleReferenceIdeal.τ).loc Cert.AdamPleReferenceIdeal.main_arg0) = m ((c.tc : Thread Cert.AdamPleIdeal.nD Cert.AdamPleIdeal.τ).loc Cert.AdamPleIdeal.main_arg0)
      ∧ m' ((c.tc : Thread Cert.AdamPleReferenceIdeal.nD Cert.AdamPleReferenceIdeal.τ).loc Cert.AdamPleReferenceIdeal.main_arg1) = m ((c.tc : Thread Cert.AdamPleIdeal.nD Cert.AdamPleIdeal.τ).loc Cert.AdamPleIdeal.main_arg1)
      ∧ m' ((c.tc : Thread Cert.AdamPleReferenceIdeal.nD Cert.AdamPleReferenceIdeal.τ).loc Cert.AdamPleReferenceIdeal.main_arg2) = m ((c.tc : Thread Cert.AdamPleIdeal.nD Cert.AdamPleIdeal.τ).loc Cert.AdamPleIdeal.main_arg2)
      ∧ m' ((c.tc : Thread Cert.AdamPleReferenceIdeal.nD Cert.AdamPleReferenceIdeal.τ).loc Cert.AdamPleReferenceIdeal.main_arg3) = m ((c.tc : Thread Cert.AdamPleIdeal.nD Cert.AdamPleIdeal.τ).loc Cert.AdamPleIdeal.main_arg3)) →
    ∃ (v0 : (c : Dev Cert.AdamPleIdeal.nD) → Buf (Elt Ideal) ((c.tc : Thread Cert.AdamPleIdeal.nD Cert.AdamPleIdeal.τ).loc Cert.AdamPleIdeal.main_v0_0)) (v1 : (c : Dev Cert.AdamPleIdeal.nD) → Buf (Elt Ideal) ((c.tc : Thread Cert.AdamPleIdeal.nD Cert.AdamPleIdeal.τ).loc Cert.AdamPleIdeal.main_v0_1)) (v2 : (c : Dev Cert.AdamPleIdeal.nD) → Buf (Elt Ideal) ((c.tc : Thread Cert.AdamPleIdeal.nD Cert.AdamPleIdeal.τ).loc Cert.AdamPleIdeal.main_v0_2)) (v3 : (c : Dev Cert.AdamPleIdeal.nD) → Buf (Elt Ideal) ((c.tc : Thread Cert.AdamPleIdeal.nD Cert.AdamPleIdeal.τ).loc Cert.AdamPleIdeal.main_v0_3)),
      θ_run (Cert.AdamPleIdeal.defs (F := Ideal)) (onTc (τ := Cert.AdamPleIdeal.τ) (Cert.AdamPleIdeal.main (F := Ideal))) ⟨m, fun _ => 0, g⟩ (fun r => ∀ c : Dev Cert.AdamPleIdeal.nD,
          r.2.mem ((c.tc : Thread Cert.AdamPleIdeal.nD Cert.AdamPleIdeal.τ).loc Cert.AdamPleIdeal.main_v0_0) = v0 c
          ∧ r.2.mem ((c.tc : Thread Cert.AdamPleIdeal.nD Cert.AdamPleIdeal.τ).loc Cert.AdamPleIdeal.main_v0_1) = v1 c
          ∧ r.2.mem ((c.tc : Thread Cert.AdamPleIdeal.nD Cert.AdamPleIdeal.τ).loc Cert.AdamPleIdeal.main_v0_2) = v2 c
          ∧ r.2.mem ((c.tc : Thread Cert.AdamPleIdeal.nD Cert.AdamPleIdeal.τ).loc Cert.AdamPleIdeal.main_v0_3) = v3 c
          ∧ r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
          ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
          ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
          ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3))
      ∧ θ_run (Cert.AdamPleReferenceIdeal.defs (F := Ideal)) (onTc (τ := Cert.AdamPleReferenceIdeal.τ) (Cert.AdamPleReferenceIdeal.main (F := Ideal))) ⟨m', fun _ => 0, g'⟩ (fun r => ∀ c : Dev Cert.AdamPleReferenceIdeal.nD,
          r.2.mem ((c.tc : Thread Cert.AdamPleReferenceIdeal.nD Cert.AdamPleReferenceIdeal.τ).loc Cert.AdamPleReferenceIdeal.main_v0) = v0 c
          ∧ r.2.mem ((c.tc : Thread Cert.AdamPleReferenceIdeal.nD Cert.AdamPleReferenceIdeal.τ).loc Cert.AdamPleReferenceIdeal.main_v24) = v1 c
          ∧ r.2.mem ((c.tc : Thread Cert.AdamPleReferenceIdeal.nD Cert.AdamPleReferenceIdeal.τ).loc Cert.AdamPleReferenceIdeal.main_v5) = v2 c
          ∧ r.2.mem ((c.tc : Thread Cert.AdamPleReferenceIdeal.nD Cert.AdamPleReferenceIdeal.τ).loc Cert.AdamPleReferenceIdeal.main_v11) = v3 c
          ∧ r.2.mem ((c.tc : Thread Cert.AdamPleReferenceIdeal.nD Cert.AdamPleReferenceIdeal.τ).loc Cert.AdamPleReferenceIdeal.main_arg0) = m' ((c.tc : Thread Cert.AdamPleReferenceIdeal.nD Cert.AdamPleReferenceIdeal.τ).loc Cert.AdamPleReferenceIdeal.main_arg0)
          ∧ r.2.mem ((c.tc : Thread Cert.AdamPleReferenceIdeal.nD Cert.AdamPleReferenceIdeal.τ).loc Cert.AdamPleReferenceIdeal.main_arg1) = m' ((c.tc : Thread Cert.AdamPleReferenceIdeal.nD Cert.AdamPleReferenceIdeal.τ).loc Cert.AdamPleReferenceIdeal.main_arg1)
          ∧ r.2.mem ((c.tc : Thread Cert.AdamPleReferenceIdeal.nD Cert.AdamPleReferenceIdeal.τ).loc Cert.AdamPleReferenceIdeal.main_arg2) = m' ((c.tc : Thread Cert.AdamPleReferenceIdeal.nD Cert.AdamPleReferenceIdeal.τ).loc Cert.AdamPleReferenceIdeal.main_arg2)
          ∧ r.2.mem ((c.tc : Thread Cert.AdamPleReferenceIdeal.nD Cert.AdamPleReferenceIdeal.τ).loc Cert.AdamPleReferenceIdeal.main_arg3) = m' ((c.tc : Thread Cert.AdamPleReferenceIdeal.nD Cert.AdamPleReferenceIdeal.τ).loc Cert.AdamPleReferenceIdeal.main_arg3))

def preserves_AdamSmalls_AdamSmallsIdeal : Prop :=
  IdealRules.named_const.Statement Cert.AdamSmallsIdeal.κ "c1" .f32 0x3FC48605#32 ((8388608 / 5463681 : ℝ) : EReal)
  ∧ IdealRules.named_const.Statement Cert.AdamSmallsIdeal.κ "c2" .f32 0x42C8E6D3#32 ((268435456 / 2672307 : ℝ) : EReal)

def algebraic_AdamSmallsIdeal_AdamSmallsReferenceIdeal [hAdamSmallsIdeal : Cert.AdamSmallsIdeal.Facts] [hAdamSmallsReferenceIdeal : Cert.AdamSmallsReferenceIdeal.Facts] : Prop :=
  ∀ (m : (ℓ : Loc Cert.AdamSmallsIdeal.nD Cert.AdamSmallsIdeal.τ Cert.AdamSmallsIdeal.sig) → Buf (Elt Ideal) ℓ) (g : Dev Cert.AdamSmallsIdeal.nD → PrngReg)
    (m' : (ℓ : Loc Cert.AdamSmallsReferenceIdeal.nD Cert.AdamSmallsReferenceIdeal.τ Cert.AdamSmallsReferenceIdeal.sig) → Buf (Elt Ideal) ℓ) (g' : Dev Cert.AdamSmallsReferenceIdeal.nD → PrngReg), Pre_AdamSmallsIdeal m →
    (∀ c : Dev Cert.AdamSmallsIdeal.nD,
      m' ((c.tc : Thread Cert.AdamSmallsReferenceIdeal.nD Cert.AdamSmallsReferenceIdeal.τ).loc Cert.AdamSmallsReferenceIdeal.main_arg0) = m ((c.tc : Thread Cert.AdamSmallsIdeal.nD Cert.AdamSmallsIdeal.τ).loc Cert.AdamSmallsIdeal.main_arg0)
      ∧ m' ((c.tc : Thread Cert.AdamSmallsReferenceIdeal.nD Cert.AdamSmallsReferenceIdeal.τ).loc Cert.AdamSmallsReferenceIdeal.main_arg1) = m ((c.tc : Thread Cert.AdamSmallsIdeal.nD Cert.AdamSmallsIdeal.τ).loc Cert.AdamSmallsIdeal.main_arg1)
      ∧ m' ((c.tc : Thread Cert.AdamSmallsReferenceIdeal.nD Cert.AdamSmallsReferenceIdeal.τ).loc Cert.AdamSmallsReferenceIdeal.main_arg2) = m ((c.tc : Thread Cert.AdamSmallsIdeal.nD Cert.AdamSmallsIdeal.τ).loc Cert.AdamSmallsIdeal.main_arg2)
      ∧ m' ((c.tc : Thread Cert.AdamSmallsReferenceIdeal.nD Cert.AdamSmallsReferenceIdeal.τ).loc Cert.AdamSmallsReferenceIdeal.main_arg3) = m ((c.tc : Thread Cert.AdamSmallsIdeal.nD Cert.AdamSmallsIdeal.τ).loc Cert.AdamSmallsIdeal.main_arg3)) →
    ∃ (v0 : (c : Dev Cert.AdamSmallsIdeal.nD) → Buf (Elt Ideal) ((c.tc : Thread Cert.AdamSmallsIdeal.nD Cert.AdamSmallsIdeal.τ).loc Cert.AdamSmallsIdeal.main_v0_0)) (v1 : (c : Dev Cert.AdamSmallsIdeal.nD) → Buf (Elt Ideal) ((c.tc : Thread Cert.AdamSmallsIdeal.nD Cert.AdamSmallsIdeal.τ).loc Cert.AdamSmallsIdeal.main_v0_1)) (v2 : (c : Dev Cert.AdamSmallsIdeal.nD) → Buf (Elt Ideal) ((c.tc : Thread Cert.AdamSmallsIdeal.nD Cert.AdamSmallsIdeal.τ).loc Cert.AdamSmallsIdeal.main_v0_2)) (v3 : (c : Dev Cert.AdamSmallsIdeal.nD) → Buf (Elt Ideal) ((c.tc : Thread Cert.AdamSmallsIdeal.nD Cert.AdamSmallsIdeal.τ).loc Cert.AdamSmallsIdeal.main_v0_3)),
      θ_run (Cert.AdamSmallsIdeal.defs (F := Ideal)) (onTc (τ := Cert.AdamSmallsIdeal.τ) (Cert.AdamSmallsIdeal.main (F := Ideal))) ⟨m, fun _ => 0, g⟩ (fun r => ∀ c : Dev Cert.AdamSmallsIdeal.nD,
          r.2.mem ((c.tc : Thread Cert.AdamSmallsIdeal.nD Cert.AdamSmallsIdeal.τ).loc Cert.AdamSmallsIdeal.main_v0_0) = v0 c
          ∧ r.2.mem ((c.tc : Thread Cert.AdamSmallsIdeal.nD Cert.AdamSmallsIdeal.τ).loc Cert.AdamSmallsIdeal.main_v0_1) = v1 c
          ∧ r.2.mem ((c.tc : Thread Cert.AdamSmallsIdeal.nD Cert.AdamSmallsIdeal.τ).loc Cert.AdamSmallsIdeal.main_v0_2) = v2 c
          ∧ r.2.mem ((c.tc : Thread Cert.AdamSmallsIdeal.nD Cert.AdamSmallsIdeal.τ).loc Cert.AdamSmallsIdeal.main_v0_3) = v3 c
          ∧ r.2.mem ((c.tc : Thread Cert.AdamSmallsIdeal.nD Cert.AdamSmallsIdeal.τ).loc Cert.AdamSmallsIdeal.main_arg0) = m ((c.tc : Thread Cert.AdamSmallsIdeal.nD Cert.AdamSmallsIdeal.τ).loc Cert.AdamSmallsIdeal.main_arg0)
          ∧ r.2.mem ((c.tc : Thread Cert.AdamSmallsIdeal.nD Cert.AdamSmallsIdeal.τ).loc Cert.AdamSmallsIdeal.main_arg1) = m ((c.tc : Thread Cert.AdamSmallsIdeal.nD Cert.AdamSmallsIdeal.τ).loc Cert.AdamSmallsIdeal.main_arg1)
          ∧ r.2.mem ((c.tc : Thread Cert.AdamSmallsIdeal.nD Cert.AdamSmallsIdeal.τ).loc Cert.AdamSmallsIdeal.main_arg2) = m ((c.tc : Thread Cert.AdamSmallsIdeal.nD Cert.AdamSmallsIdeal.τ).loc Cert.AdamSmallsIdeal.main_arg2)
          ∧ r.2.mem ((c.tc : Thread Cert.AdamSmallsIdeal.nD Cert.AdamSmallsIdeal.τ).loc Cert.AdamSmallsIdeal.main_arg3) = m ((c.tc : Thread Cert.AdamSmallsIdeal.nD Cert.AdamSmallsIdeal.τ).loc Cert.AdamSmallsIdeal.main_arg3))
      ∧ θ_run (Cert.AdamSmallsReferenceIdeal.defs (F := Ideal)) (onTc (τ := Cert.AdamSmallsReferenceIdeal.τ) (Cert.AdamSmallsReferenceIdeal.main (F := Ideal))) ⟨m', fun _ => 0, g'⟩ (fun r => ∀ c : Dev Cert.AdamSmallsReferenceIdeal.nD,
          r.2.mem ((c.tc : Thread Cert.AdamSmallsReferenceIdeal.nD Cert.AdamSmallsReferenceIdeal.τ).loc Cert.AdamSmallsReferenceIdeal.main_v0) = v0 c
          ∧ r.2.mem ((c.tc : Thread Cert.AdamSmallsReferenceIdeal.nD Cert.AdamSmallsReferenceIdeal.τ).loc Cert.AdamSmallsReferenceIdeal.main_v24) = v1 c
          ∧ r.2.mem ((c.tc : Thread Cert.AdamSmallsReferenceIdeal.nD Cert.AdamSmallsReferenceIdeal.τ).loc Cert.AdamSmallsReferenceIdeal.main_v5) = v2 c
          ∧ r.2.mem ((c.tc : Thread Cert.AdamSmallsReferenceIdeal.nD Cert.AdamSmallsReferenceIdeal.τ).loc Cert.AdamSmallsReferenceIdeal.main_v11) = v3 c
          ∧ r.2.mem ((c.tc : Thread Cert.AdamSmallsReferenceIdeal.nD Cert.AdamSmallsReferenceIdeal.τ).loc Cert.AdamSmallsReferenceIdeal.main_arg0) = m' ((c.tc : Thread Cert.AdamSmallsReferenceIdeal.nD Cert.AdamSmallsReferenceIdeal.τ).loc Cert.AdamSmallsReferenceIdeal.main_arg0)
          ∧ r.2.mem ((c.tc : Thread Cert.AdamSmallsReferenceIdeal.nD Cert.AdamSmallsReferenceIdeal.τ).loc Cert.AdamSmallsReferenceIdeal.main_arg1) = m' ((c.tc : Thread Cert.AdamSmallsReferenceIdeal.nD Cert.AdamSmallsReferenceIdeal.τ).loc Cert.AdamSmallsReferenceIdeal.main_arg1)
          ∧ r.2.mem ((c.tc : Thread Cert.AdamSmallsReferenceIdeal.nD Cert.AdamSmallsReferenceIdeal.τ).loc Cert.AdamSmallsReferenceIdeal.main_arg2) = m' ((c.tc : Thread Cert.AdamSmallsReferenceIdeal.nD Cert.AdamSmallsReferenceIdeal.τ).loc Cert.AdamSmallsReferenceIdeal.main_arg2)
          ∧ r.2.mem ((c.tc : Thread Cert.AdamSmallsReferenceIdeal.nD Cert.AdamSmallsReferenceIdeal.τ).loc Cert.AdamSmallsReferenceIdeal.main_arg3) = m' ((c.tc : Thread Cert.AdamSmallsReferenceIdeal.nD Cert.AdamSmallsReferenceIdeal.τ).loc Cert.AdamSmallsReferenceIdeal.main_arg3))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v3)) (v1 : (c : Dev Cert.LossIdeal.nD) → Buf (Elt Ideal) ((c.tc : Thread Cert.LossIdeal.nD Cert.LossIdeal.τ).loc Cert.LossIdeal.main_v0_0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3) = v0 c
          ∧ r.2.mem ((c.tc : Thread Cert.LossIdeal.nD Cert.LossIdeal.τ).loc Cert.LossIdeal.main_v0_0) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v6) = v0 c
          ∧ r.2.mem ((c.tc : Thread Cert.LossReferenceIdeal.nD Cert.LossReferenceIdeal.τ).loc Cert.LossReferenceIdeal.main_v9) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_GradX_GradXIdeal : Prop :=
  True

def algebraic_GradXIdeal_GradXReferenceIdeal [hGradXIdeal : Cert.GradXIdeal.Facts] [hGradXReferenceIdeal : Cert.GradXReferenceIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXReferenceIdeal.nD Cert.GradXReferenceIdeal.τ Cert.GradXReferenceIdeal.sig) → Buf (Elt Ideal) ℓ) (g' : Dev Cert.GradXReferenceIdeal.nD → PrngReg), Pre_GradXIdeal m →
    (∀ c : Dev Cert.GradXIdeal.nD,
      m' ((c.tc : Thread Cert.GradXReferenceIdeal.nD Cert.GradXReferenceIdeal.τ).loc Cert.GradXReferenceIdeal.main_arg0) = m ((c.tc : Thread Cert.GradXIdeal.nD Cert.GradXIdeal.τ).loc Cert.GradXIdeal.main_arg0)
      ∧ m' ((c.tc : Thread Cert.GradXReferenceIdeal.nD Cert.GradXReferenceIdeal.τ).loc Cert.GradXReferenceIdeal.main_arg1) = m ((c.tc : Thread Cert.GradXIdeal.nD Cert.GradXIdeal.τ).loc Cert.GradXIdeal.main_arg1)
      ∧ m' ((c.tc : Thread Cert.GradXReferenceIdeal.nD Cert.GradXReferenceIdeal.τ).loc Cert.GradXReferenceIdeal.main_arg2) = m ((c.tc : Thread Cert.GradXIdeal.nD Cert.GradXIdeal.τ).loc Cert.GradXIdeal.main_arg2)) →
    ∃ (v0 : (c : Dev Cert.GradXIdeal.nD) → Buf (Elt Ideal) ((c.tc : Thread Cert.GradXIdeal.nD Cert.GradXIdeal.τ).loc Cert.GradXIdeal.main_v0)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2))
      ∧ θ_run (Cert.GradXReferenceIdeal.defs (F := Ideal)) (onTc (τ := Cert.GradXReferenceIdeal.τ) (Cert.GradXReferenceIdeal.main (F := Ideal))) ⟨m', fun _ => 0, g'⟩ (fun r => ∀ c : Dev Cert.GradXReferenceIdeal.nD,
          r.2.mem ((c.tc : Thread Cert.GradXReferenceIdeal.nD Cert.GradXReferenceIdeal.τ).loc Cert.GradXReferenceIdeal.main_v1) = v0 c
          ∧ r.2.mem ((c.tc : Thread Cert.GradXReferenceIdeal.nD Cert.GradXReferenceIdeal.τ).loc Cert.GradXReferenceIdeal.main_arg0) = m' ((c.tc : Thread Cert.GradXReferenceIdeal.nD Cert.GradXReferenceIdeal.τ).loc Cert.GradXReferenceIdeal.main_arg0)
          ∧ r.2.mem ((c.tc : Thread Cert.GradXReferenceIdeal.nD Cert.GradXReferenceIdeal.τ).loc Cert.GradXReferenceIdeal.main_arg1) = m' ((c.tc : Thread Cert.GradXReferenceIdeal.nD Cert.GradXReferenceIdeal.τ).loc Cert.GradXReferenceIdeal.main_arg1)
          ∧ r.2.mem ((c.tc : Thread Cert.GradXReferenceIdeal.nD Cert.GradXReferenceIdeal.τ).loc Cert.GradXReferenceIdeal.main_arg2) = m' ((c.tc : Thread Cert.GradXReferenceIdeal.nD Cert.GradXReferenceIdeal.τ).loc Cert.GradXReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v2) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_DtProj_DtProjIdeal : Prop :=
  True

def algebraic_DtProjIdeal_DtProjReferenceIdeal [hDtProjIdeal : Cert.DtProjIdeal.Facts] [hDtProjReferenceIdeal : Cert.DtProjReferenceIdeal.Facts] : Prop :=
  ∀ (m : (ℓ : Loc Cert.DtProjIdeal.nD Cert.DtProjIdeal.τ Cert.DtProjIdeal.sig) → Buf (Elt Ideal) ℓ) (g : Dev Cert.DtProjIdeal.nD → PrngReg)
    (m' : (ℓ : Loc Cert.DtProjReferenceIdeal.nD Cert.DtProjReferenceIdeal.τ Cert.DtProjReferenceIdeal.sig) → Buf (Elt Ideal) ℓ) (g' : Dev Cert.DtProjReferenceIdeal.nD → PrngReg), Pre_DtProjIdeal m →
    (∀ c : Dev Cert.DtProjIdeal.nD,
      m' ((c.tc : Thread Cert.DtProjReferenceIdeal.nD Cert.DtProjReferenceIdeal.τ).loc Cert.DtProjReferenceIdeal.main_arg0) = m ((c.tc : Thread Cert.DtProjIdeal.nD Cert.DtProjIdeal.τ).loc Cert.DtProjIdeal.main_arg0)
      ∧ m' ((c.tc : Thread Cert.DtProjReferenceIdeal.nD Cert.DtProjReferenceIdeal.τ).loc Cert.DtProjReferenceIdeal.main_arg1) = m ((c.tc : Thread Cert.DtProjIdeal.nD Cert.DtProjIdeal.τ).loc Cert.DtProjIdeal.main_arg1)) →
    ∃ (v0 : (c : Dev Cert.DtProjIdeal.nD) → Buf (Elt Ideal) ((c.tc : Thread Cert.DtProjIdeal.nD Cert.DtProjIdeal.τ).loc Cert.DtProjIdeal.main_v0)),
      θ_run (Cert.DtProjIdeal.defs (F := Ideal)) (onTc (τ := Cert.DtProjIdeal.τ) (Cert.DtProjIdeal.main (F := Ideal))) ⟨m, fun _ => 0, g⟩ (fun r => ∀ c : Dev Cert.DtProjIdeal.nD,
          r.2.mem ((c.tc : Thread Cert.DtProjIdeal.nD Cert.DtProjIdeal.τ).loc Cert.DtProjIdeal.main_v0) = v0 c
          ∧ r.2.mem ((c.tc : Thread Cert.DtProjIdeal.nD Cert.DtProjIdeal.τ).loc Cert.DtProjIdeal.main_arg0) = m ((c.tc : Thread Cert.DtProjIdeal.nD Cert.DtProjIdeal.τ).loc Cert.DtProjIdeal.main_arg0)
          ∧ r.2.mem ((c.tc : Thread Cert.DtProjIdeal.nD Cert.DtProjIdeal.τ).loc Cert.DtProjIdeal.main_arg1) = m ((c.tc : Thread Cert.DtProjIdeal.nD Cert.DtProjIdeal.τ).loc Cert.DtProjIdeal.main_arg1))
      ∧ θ_run (Cert.DtProjReferenceIdeal.defs (F := Ideal)) (onTc (τ := Cert.DtProjReferenceIdeal.τ) (Cert.DtProjReferenceIdeal.main (F := Ideal))) ⟨m', fun _ => 0, g'⟩ (fun r => ∀ c : Dev Cert.DtProjReferenceIdeal.nD,
          r.2.mem ((c.tc : Thread Cert.DtProjReferenceIdeal.nD Cert.DtProjReferenceIdeal.τ).loc Cert.DtProjReferenceIdeal.main_v1) = v0 c
          ∧ r.2.mem ((c.tc : Thread Cert.DtProjReferenceIdeal.nD Cert.DtProjReferenceIdeal.τ).loc Cert.DtProjReferenceIdeal.main_arg0) = m' ((c.tc : Thread Cert.DtProjReferenceIdeal.nD Cert.DtProjReferenceIdeal.τ).loc Cert.DtProjReferenceIdeal.main_arg0)
          ∧ r.2.mem ((c.tc : Thread Cert.DtProjReferenceIdeal.nD Cert.DtProjReferenceIdeal.τ).loc Cert.DtProjReferenceIdeal.main_arg1) = m' ((c.tc : Thread Cert.DtProjReferenceIdeal.nD Cert.DtProjReferenceIdeal.τ).loc Cert.DtProjReferenceIdeal.main_arg1))

def preserves_AOut_AOutIdeal : Prop :=
  True

def algebraic_AOutIdeal_AOutReferenceIdeal [hAOutIdeal : Cert.AOutIdeal.Facts] [hAOutReferenceIdeal : Cert.AOutReferenceIdeal.Facts] : Prop :=
  ∀ (m : (ℓ : Loc Cert.AOutIdeal.nD Cert.AOutIdeal.τ Cert.AOutIdeal.sig) → Buf (Elt Ideal) ℓ) (g : Dev Cert.AOutIdeal.nD → PrngReg)
    (m' : (ℓ : Loc Cert.AOutReferenceIdeal.nD Cert.AOutReferenceIdeal.τ Cert.AOutReferenceIdeal.sig) → Buf (Elt Ideal) ℓ) (g' : Dev Cert.AOutReferenceIdeal.nD → PrngReg), Pre_AOutIdeal m →
    (∀ c : Dev Cert.AOutIdeal.nD,
      m' ((c.tc : Thread Cert.AOutReferenceIdeal.nD Cert.AOutReferenceIdeal.τ).loc Cert.AOutReferenceIdeal.main_arg0) = m ((c.tc : Thread Cert.AOutIdeal.nD Cert.AOutIdeal.τ).loc Cert.AOutIdeal.main_arg0)
      ∧ m' ((c.tc : Thread Cert.AOutReferenceIdeal.nD Cert.AOutReferenceIdeal.τ).loc Cert.AOutReferenceIdeal.main_arg1) = m ((c.tc : Thread Cert.AOutIdeal.nD Cert.AOutIdeal.τ).loc Cert.AOutIdeal.main_arg1)) →
    ∃ (v0 : (c : Dev Cert.AOutIdeal.nD) → Buf (Elt Ideal) ((c.tc : Thread Cert.AOutIdeal.nD Cert.AOutIdeal.τ).loc Cert.AOutIdeal.main_v0)),
      θ_run (Cert.AOutIdeal.defs (F := Ideal)) (onTc (τ := Cert.AOutIdeal.τ) (Cert.AOutIdeal.main (F := Ideal))) ⟨m, fun _ => 0, g⟩ (fun r => ∀ c : Dev Cert.AOutIdeal.nD,
          r.2.mem ((c.tc : Thread Cert.AOutIdeal.nD Cert.AOutIdeal.τ).loc Cert.AOutIdeal.main_v0) = v0 c
          ∧ r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
          ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1))
      ∧ θ_run (Cert.AOutReferenceIdeal.defs (F := Ideal)) (onTc (τ := Cert.AOutReferenceIdeal.τ) (Cert.AOutReferenceIdeal.main (F := Ideal))) ⟨m', fun _ => 0, g'⟩ (fun r => ∀ c : Dev Cert.AOutReferenceIdeal.nD,
          r.2.mem ((c.tc : Thread Cert.AOutReferenceIdeal.nD Cert.AOutReferenceIdeal.τ).loc Cert.AOutReferenceIdeal.main_v0) = v0 c
          ∧ r.2.mem ((c.tc : Thread Cert.AOutReferenceIdeal.nD Cert.AOutReferenceIdeal.τ).loc Cert.AOutReferenceIdeal.main_arg0) = m' ((c.tc : Thread Cert.AOutReferenceIdeal.nD Cert.AOutReferenceIdeal.τ).loc Cert.AOutReferenceIdeal.main_arg0)
          ∧ r.2.mem ((c.tc : Thread Cert.AOutReferenceIdeal.nD Cert.AOutReferenceIdeal.τ).loc Cert.AOutReferenceIdeal.main_arg1) = m' ((c.tc : Thread Cert.AOutReferenceIdeal.nD Cert.AOutReferenceIdeal.τ).loc Cert.AOutReferenceIdeal.main_arg1))

def preserves_BOut_BOutIdeal : Prop :=
  True

def algebraic_BOutIdeal_BOutReferenceIdeal [hBOutIdeal : Cert.BOutIdeal.Facts] [hBOutReferenceIdeal : Cert.BOutReferenceIdeal.Facts] : Prop :=
  ∀ (m : (ℓ : Loc Cert.BOutIdeal.nD Cert.BOutIdeal.τ Cert.BOutIdeal.sig) → Buf (Elt Ideal) ℓ) (g : Dev Cert.BOutIdeal.nD → PrngReg)
    (m' : (ℓ : Loc Cert.BOutReferenceIdeal.nD Cert.BOutReferenceIdeal.τ Cert.BOutReferenceIdeal.sig) → Buf (Elt Ideal) ℓ) (g' : Dev Cert.BOutReferenceIdeal.nD → PrngReg), Pre_BOutIdeal m →
    (∀ c : Dev Cert.BOutIdeal.nD,
      m' ((c.tc : Thread Cert.BOutReferenceIdeal.nD Cert.BOutReferenceIdeal.τ).loc Cert.BOutReferenceIdeal.main_arg0) = m ((c.tc : Thread Cert.BOutIdeal.nD Cert.BOutIdeal.τ).loc Cert.BOutIdeal.main_arg0)
      ∧ m' ((c.tc : Thread Cert.BOutReferenceIdeal.nD Cert.BOutReferenceIdeal.τ).loc Cert.BOutReferenceIdeal.main_arg1) = m ((c.tc : Thread Cert.BOutIdeal.nD Cert.BOutIdeal.τ).loc Cert.BOutIdeal.main_arg1)) →
    ∃ (v0 : (c : Dev Cert.BOutIdeal.nD) → Buf (Elt Ideal) ((c.tc : Thread Cert.BOutIdeal.nD Cert.BOutIdeal.τ).loc Cert.BOutIdeal.main_v0)),
      θ_run (Cert.BOutIdeal.defs (F := Ideal)) (onTc (τ := Cert.BOutIdeal.τ) (Cert.BOutIdeal.main (F := Ideal))) ⟨m, fun _ => 0, g⟩ (fun r => ∀ c : Dev Cert.BOutIdeal.nD,
          r.2.mem ((c.tc : Thread Cert.BOutIdeal.nD Cert.BOutIdeal.τ).loc Cert.BOutIdeal.main_v0) = v0 c
          ∧ r.2.mem ((c.tc : Thread Cert.BOutIdeal.nD Cert.BOutIdeal.τ).loc Cert.BOutIdeal.main_arg0) = m ((c.tc : Thread Cert.BOutIdeal.nD Cert.BOutIdeal.τ).loc Cert.BOutIdeal.main_arg0)
          ∧ r.2.mem ((c.tc : Thread Cert.BOutIdeal.nD Cert.BOutIdeal.τ).loc Cert.BOutIdeal.main_arg1) = m ((c.tc : Thread Cert.BOutIdeal.nD Cert.BOutIdeal.τ).loc Cert.BOutIdeal.main_arg1))
      ∧ θ_run (Cert.BOutReferenceIdeal.defs (F := Ideal)) (onTc (τ := Cert.BOutReferenceIdeal.τ) (Cert.BOutReferenceIdeal.main (F := Ideal))) ⟨m', fun _ => 0, g'⟩ (fun r => ∀ c : Dev Cert.BOutReferenceIdeal.nD,
          r.2.mem ((c.tc : Thread Cert.BOutReferenceIdeal.nD Cert.BOutReferenceIdeal.τ).loc Cert.BOutReferenceIdeal.main_v0) = v0 c
          ∧ r.2.mem ((c.tc : Thread Cert.BOutReferenceIdeal.nD Cert.BOutReferenceIdeal.τ).loc Cert.BOutReferenceIdeal.main_arg0) = m' ((c.tc : Thread Cert.BOutReferenceIdeal.nD Cert.BOutReferenceIdeal.τ).loc Cert.BOutReferenceIdeal.main_arg0)
          ∧ r.2.mem ((c.tc : Thread Cert.BOutReferenceIdeal.nD Cert.BOutReferenceIdeal.τ).loc Cert.BOutReferenceIdeal.main_arg1) = m' ((c.tc : Thread Cert.BOutReferenceIdeal.nD Cert.BOutReferenceIdeal.τ).loc Cert.BOutReferenceIdeal.main_arg1))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v2) = v0 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)) →
    ∃ (v0 : (c : Dev Cert.PleIdeal.nD) → Buf (Elt Ideal) ((c.tc : Thread Cert.PleIdeal.nD Cert.PleIdeal.τ).loc Cert.PleIdeal.main_v0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v0) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v0) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_GateX_GateXIdeal : Prop :=
  True

def algebraic_GateXIdeal_GateXReferenceIdeal [hGateXIdeal : Cert.GateXIdeal.Facts] [hGateXReferenceIdeal : Cert.GateXReferenceIdeal.Facts] : Prop :=
  ∀ (m : (ℓ : Loc Cert.GateXIdeal.nD Cert.GateXIdeal.τ Cert.GateXIdeal.sig) → Buf (Elt Ideal) ℓ) (g : Dev Cert.GateXIdeal.nD → PrngReg)
    (m' : (ℓ : Loc Cert.GateXReferenceIdeal.nD Cert.GateXReferenceIdeal.τ Cert.GateXReferenceIdeal.sig) → Buf (Elt Ideal) ℓ) (g' : Dev Cert.GateXReferenceIdeal.nD → PrngReg), Pre_GateXIdeal m →
    (∀ c : Dev Cert.GateXIdeal.nD,
      m' ((c.tc : Thread Cert.GateXReferenceIdeal.nD Cert.GateXReferenceIdeal.τ).loc Cert.GateXReferenceIdeal.main_arg0) = m ((c.tc : Thread Cert.GateXIdeal.nD Cert.GateXIdeal.τ).loc Cert.GateXIdeal.main_arg0)
      ∧ m' ((c.tc : Thread Cert.GateXReferenceIdeal.nD Cert.GateXReferenceIdeal.τ).loc Cert.GateXReferenceIdeal.main_arg1) = m ((c.tc : Thread Cert.GateXIdeal.nD Cert.GateXIdeal.τ).loc Cert.GateXIdeal.main_arg1)
      ∧ m' ((c.tc : Thread Cert.GateXReferenceIdeal.nD Cert.GateXReferenceIdeal.τ).loc Cert.GateXReferenceIdeal.main_arg2) = m ((c.tc : Thread Cert.GateXIdeal.nD Cert.GateXIdeal.τ).loc Cert.GateXIdeal.main_arg2)) →
    ∃ (v0 : (c : Dev Cert.GateXIdeal.nD) → Buf (Elt Ideal) ((c.tc : Thread Cert.GateXIdeal.nD Cert.GateXIdeal.τ).loc Cert.GateXIdeal.main_v0)),
      θ_run (Cert.GateXIdeal.defs (F := Ideal)) (onTc (τ := Cert.GateXIdeal.τ) (Cert.GateXIdeal.main (F := Ideal))) ⟨m, fun _ => 0, g⟩ (fun r => ∀ c : Dev Cert.GateXIdeal.nD,
          r.2.mem ((c.tc : Thread Cert.GateXIdeal.nD Cert.GateXIdeal.τ).loc Cert.GateXIdeal.main_v0) = v0 c
          ∧ r.2.mem ((c.tc : Thread Cert.GateXIdeal.nD Cert.GateXIdeal.τ).loc Cert.GateXIdeal.main_arg0) = m ((c.tc : Thread Cert.GateXIdeal.nD Cert.GateXIdeal.τ).loc Cert.GateXIdeal.main_arg0)
          ∧ r.2.mem ((c.tc : Thread Cert.GateXIdeal.nD Cert.GateXIdeal.τ).loc Cert.GateXIdeal.main_arg1) = m ((c.tc : Thread Cert.GateXIdeal.nD Cert.GateXIdeal.τ).loc Cert.GateXIdeal.main_arg1)
          ∧ r.2.mem ((c.tc : Thread Cert.GateXIdeal.nD Cert.GateXIdeal.τ).loc Cert.GateXIdeal.main_arg2) = m ((c.tc : Thread Cert.GateXIdeal.nD Cert.GateXIdeal.τ).loc Cert.GateXIdeal.main_arg2))
      ∧ θ_run (Cert.GateXReferenceIdeal.defs (F := Ideal)) (onTc (τ := Cert.GateXReferenceIdeal.τ) (Cert.GateXReferenceIdeal.main (F := Ideal))) ⟨m', fun _ => 0, g'⟩ (fun r => ∀ c : Dev Cert.GateXReferenceIdeal.nD,
          r.2.mem ((c.tc : Thread Cert.GateXReferenceIdeal.nD Cert.GateXReferenceIdeal.τ).loc Cert.GateXReferenceIdeal.main_v2) = v0 c
          ∧ r.2.mem ((c.tc : Thread Cert.GateXReferenceIdeal.nD Cert.GateXReferenceIdeal.τ).loc Cert.GateXReferenceIdeal.main_arg0) = m' ((c.tc : Thread Cert.GateXReferenceIdeal.nD Cert.GateXReferenceIdeal.τ).loc Cert.GateXReferenceIdeal.main_arg0)
          ∧ r.2.mem ((c.tc : Thread Cert.GateXReferenceIdeal.nD Cert.GateXReferenceIdeal.τ).loc Cert.GateXReferenceIdeal.main_arg1) = m' ((c.tc : Thread Cert.GateXReferenceIdeal.nD Cert.GateXReferenceIdeal.τ).loc Cert.GateXReferenceIdeal.main_arg1)
          ∧ r.2.mem ((c.tc : Thread Cert.GateXReferenceIdeal.nD Cert.GateXReferenceIdeal.τ).loc Cert.GateXReferenceIdeal.main_arg2) = m' ((c.tc : Thread Cert.GateXReferenceIdeal.nD Cert.GateXReferenceIdeal.τ).loc Cert.GateXReferenceIdeal.main_arg2))

def preserves_DownX_DownXIdeal : Prop :=
  True

def algebraic_DownXIdeal_DownXReferenceIdeal [hDownXIdeal : Cert.DownXIdeal.Facts] [hDownXReferenceIdeal : Cert.DownXReferenceIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXReferenceIdeal.nD Cert.DownXReferenceIdeal.τ Cert.DownXReferenceIdeal.sig) → Buf (Elt Ideal) ℓ) (g' : Dev Cert.DownXReferenceIdeal.nD → PrngReg), Pre_DownXIdeal m →
    (∀ c : Dev Cert.DownXIdeal.nD,
      m' ((c.tc : Thread Cert.DownXReferenceIdeal.nD Cert.DownXReferenceIdeal.τ).loc Cert.DownXReferenceIdeal.main_arg0) = m ((c.tc : Thread Cert.DownXIdeal.nD Cert.DownXIdeal.τ).loc Cert.DownXIdeal.main_arg0)
      ∧ m' ((c.tc : Thread Cert.DownXReferenceIdeal.nD Cert.DownXReferenceIdeal.τ).loc Cert.DownXReferenceIdeal.main_arg1) = m ((c.tc : Thread Cert.DownXIdeal.nD Cert.DownXIdeal.τ).loc Cert.DownXIdeal.main_arg1)) →
    ∃ (v0 : (c : Dev Cert.DownXIdeal.nD) → Buf (Elt Ideal) ((c.tc : Thread Cert.DownXIdeal.nD Cert.DownXIdeal.τ).loc Cert.DownXIdeal.main_v0)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v0) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ θ_run (Cert.DownXReferenceIdeal.defs (F := Ideal)) (onTc (τ := Cert.DownXReferenceIdeal.τ) (Cert.DownXReferenceIdeal.main (F := Ideal))) ⟨m', fun _ => 0, g'⟩ (fun r => ∀ c : Dev Cert.DownXReferenceIdeal.nD,
          r.2.mem ((c.tc : Thread Cert.DownXReferenceIdeal.nD Cert.DownXReferenceIdeal.τ).loc Cert.DownXReferenceIdeal.main_v2) = v0 c
          ∧ r.2.mem ((c.tc : Thread Cert.DownXReferenceIdeal.nD Cert.DownXReferenceIdeal.τ).loc Cert.DownXReferenceIdeal.main_arg0) = m' ((c.tc : Thread Cert.DownXReferenceIdeal.nD Cert.DownXReferenceIdeal.τ).loc Cert.DownXReferenceIdeal.main_arg0)
          ∧ r.2.mem ((c.tc : Thread Cert.DownXReferenceIdeal.nD Cert.DownXReferenceIdeal.τ).loc Cert.DownXReferenceIdeal.main_arg1) = m' ((c.tc : Thread Cert.DownXReferenceIdeal.nD Cert.DownXReferenceIdeal.τ).loc Cert.DownXReferenceIdeal.main_arg1))

def preserves_GateUpX_GateUpXIdeal : Prop :=
  True

def algebraic_GateUpXIdeal_GateUpXReferenceIdeal [hGateUpXIdeal : Cert.GateUpXIdeal.Facts] [hGateUpXReferenceIdeal : Cert.GateUpXReferenceIdeal.Facts] : Prop :=
  ∀ (m : (ℓ : Loc Cert.GateUpXIdeal.nD Cert.GateUpXIdeal.τ Cert.GateUpXIdeal.sig) → Buf (Elt Ideal) ℓ) (g : Dev Cert.GateUpXIdeal.nD → PrngReg)
    (m' : (ℓ : Loc Cert.GateUpXReferenceIdeal.nD Cert.GateUpXReferenceIdeal.τ Cert.GateUpXReferenceIdeal.sig) → Buf (Elt Ideal) ℓ) (g' : Dev Cert.GateUpXReferenceIdeal.nD → PrngReg), Pre_GateUpXIdeal m →
    (∀ c : Dev Cert.GateUpXIdeal.nD,
      m' ((c.tc : Thread Cert.GateUpXReferenceIdeal.nD Cert.GateUpXReferenceIdeal.τ).loc Cert.GateUpXReferenceIdeal.main_arg0) = m ((c.tc : Thread Cert.GateUpXIdeal.nD Cert.GateUpXIdeal.τ).loc Cert.GateUpXIdeal.main_arg0)
      ∧ m' ((c.tc : Thread Cert.GateUpXReferenceIdeal.nD Cert.GateUpXReferenceIdeal.τ).loc Cert.GateUpXReferenceIdeal.main_arg1) = m ((c.tc : Thread Cert.GateUpXIdeal.nD Cert.GateUpXIdeal.τ).loc Cert.GateUpXIdeal.main_arg1)
      ∧ m' ((c.tc : Thread Cert.GateUpXReferenceIdeal.nD Cert.GateUpXReferenceIdeal.τ).loc Cert.GateUpXReferenceIdeal.main_arg2) = m ((c.tc : Thread Cert.GateUpXIdeal.nD Cert.GateUpXIdeal.τ).loc Cert.GateUpXIdeal.main_arg2)) →
    ∃ (v0 : (c : Dev Cert.GateUpXIdeal.nD) → Buf (Elt Ideal) ((c.tc : Thread Cert.GateUpXIdeal.nD Cert.GateUpXIdeal.τ).loc Cert.GateUpXIdeal.main_v0)),
      θ_run (Cert.GateUpXIdeal.defs (F := Ideal)) (onTc (τ := Cert.GateUpXIdeal.τ) (Cert.GateUpXIdeal.main (F := Ideal))) ⟨m, fun _ => 0, g⟩ (fun r => ∀ c : Dev Cert.GateUpXIdeal.nD,
          r.2.mem ((c.tc : Thread Cert.GateUpXIdeal.nD Cert.GateUpXIdeal.τ).loc Cert.GateUpXIdeal.main_v0) = v0 c
          ∧ r.2.mem ((c.tc : Thread Cert.GateUpXIdeal.nD Cert.GateUpXIdeal.τ).loc Cert.GateUpXIdeal.main_arg0) = m ((c.tc : Thread Cert.GateUpXIdeal.nD Cert.GateUpXIdeal.τ).loc Cert.GateUpXIdeal.main_arg0)
          ∧ r.2.mem ((c.tc : Thread Cert.GateUpXIdeal.nD Cert.GateUpXIdeal.τ).loc Cert.GateUpXIdeal.main_arg1) = m ((c.tc : Thread Cert.GateUpXIdeal.nD Cert.GateUpXIdeal.τ).loc Cert.GateUpXIdeal.main_arg1)
          ∧ r.2.mem ((c.tc : Thread Cert.GateUpXIdeal.nD Cert.GateUpXIdeal.τ).loc Cert.GateUpXIdeal.main_arg2) = m ((c.tc : Thread Cert.GateUpXIdeal.nD Cert.GateUpXIdeal.τ).loc Cert.GateUpXIdeal.main_arg2))
      ∧ θ_run (Cert.GateUpXReferenceIdeal.defs (F := Ideal)) (onTc (τ := Cert.GateUpXReferenceIdeal.τ) (Cert.GateUpXReferenceIdeal.main (F := Ideal))) ⟨m', fun _ => 0, g'⟩ (fun r => ∀ c : Dev Cert.GateUpXReferenceIdeal.nD,
          r.2.mem ((c.tc : Thread Cert.GateUpXReferenceIdeal.nD Cert.GateUpXReferenceIdeal.τ).loc Cert.GateUpXReferenceIdeal.main_v1) = v0 c
          ∧ r.2.mem ((c.tc : Thread Cert.GateUpXReferenceIdeal.nD Cert.GateUpXReferenceIdeal.τ).loc Cert.GateUpXReferenceIdeal.main_arg0) = m' ((c.tc : Thread Cert.GateUpXReferenceIdeal.nD Cert.GateUpXReferenceIdeal.τ).loc Cert.GateUpXReferenceIdeal.main_arg0)
          ∧ r.2.mem ((c.tc : Thread Cert.GateUpXReferenceIdeal.nD Cert.GateUpXReferenceIdeal.τ).loc Cert.GateUpXReferenceIdeal.main_arg1) = m' ((c.tc : Thread Cert.GateUpXReferenceIdeal.nD Cert.GateUpXReferenceIdeal.τ).loc Cert.GateUpXReferenceIdeal.main_arg1)
          ∧ r.2.mem ((c.tc : Thread Cert.GateUpXReferenceIdeal.nD Cert.GateUpXReferenceIdeal.τ).loc Cert.GateUpXReferenceIdeal.main_arg2) = m' ((c.tc : Thread Cert.GateUpXReferenceIdeal.nD Cert.GateUpXReferenceIdeal.τ).loc Cert.GateUpXReferenceIdeal.main_arg2))

def preserves_OutX_OutXIdeal : Prop :=
  True

def algebraic_OutXIdeal_OutXReferenceIdeal [hOutXIdeal : Cert.OutXIdeal.Facts] [hOutXReferenceIdeal : Cert.OutXReferenceIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXReferenceIdeal.nD Cert.OutXReferenceIdeal.τ Cert.OutXReferenceIdeal.sig) → Buf (Elt Ideal) ℓ) (g' : Dev Cert.OutXReferenceIdeal.nD → PrngReg), Pre_OutXIdeal m →
    (∀ c : Dev Cert.OutXIdeal.nD,
      m' ((c.tc : Thread Cert.OutXReferenceIdeal.nD Cert.OutXReferenceIdeal.τ).loc Cert.OutXReferenceIdeal.main_arg0) = m ((c.tc : Thread Cert.OutXIdeal.nD Cert.OutXIdeal.τ).loc Cert.OutXIdeal.main_arg0)
      ∧ m' ((c.tc : Thread Cert.OutXReferenceIdeal.nD Cert.OutXReferenceIdeal.τ).loc Cert.OutXReferenceIdeal.main_arg1) = m ((c.tc : Thread Cert.OutXIdeal.nD Cert.OutXIdeal.τ).loc Cert.OutXIdeal.main_arg1)) →
    ∃ (v0 : (c : Dev Cert.OutXIdeal.nD) → Buf (Elt Ideal) ((c.tc : Thread Cert.OutXIdeal.nD Cert.OutXIdeal.τ).loc Cert.OutXIdeal.main_v0)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v0) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ θ_run (Cert.OutXReferenceIdeal.defs (F := Ideal)) (onTc (τ := Cert.OutXReferenceIdeal.τ) (Cert.OutXReferenceIdeal.main (F := Ideal))) ⟨m', fun _ => 0, g'⟩ (fun r => ∀ c : Dev Cert.OutXReferenceIdeal.nD,
          r.2.mem ((c.tc : Thread Cert.OutXReferenceIdeal.nD Cert.OutXReferenceIdeal.τ).loc Cert.OutXReferenceIdeal.main_v1) = v0 c
          ∧ r.2.mem ((c.tc : Thread Cert.OutXReferenceIdeal.nD Cert.OutXReferenceIdeal.τ).loc Cert.OutXReferenceIdeal.main_arg0) = m' ((c.tc : Thread Cert.OutXReferenceIdeal.nD Cert.OutXReferenceIdeal.τ).loc Cert.OutXReferenceIdeal.main_arg0)
          ∧ r.2.mem ((c.tc : Thread Cert.OutXReferenceIdeal.nD Cert.OutXReferenceIdeal.τ).loc Cert.OutXReferenceIdeal.main_arg1) = m' ((c.tc : Thread Cert.OutXReferenceIdeal.nD Cert.OutXReferenceIdeal.τ).loc Cert.OutXReferenceIdeal.main_arg1))

def preserves_BOutX_BOutXIdeal : Prop :=
  True

def algebraic_BOutXIdeal_BOutXReferenceIdeal [hBOutXIdeal : Cert.BOutXIdeal.Facts] [hBOutXReferenceIdeal : Cert.BOutXReferenceIdeal.Facts] : Prop :=
  ∀ (m : (ℓ : Loc Cert.BOutXIdeal.nD Cert.BOutXIdeal.τ Cert.BOutXIdeal.sig) → Buf (Elt Ideal) ℓ) (g : Dev Cert.BOutXIdeal.nD → PrngReg)
    (m' : (ℓ : Loc Cert.BOutXReferenceIdeal.nD Cert.BOutXReferenceIdeal.τ Cert.BOutXReferenceIdeal.sig) → Buf (Elt Ideal) ℓ) (g' : Dev Cert.BOutXReferenceIdeal.nD → PrngReg), Pre_BOutXIdeal m →
    (∀ c : Dev Cert.BOutXIdeal.nD,
      m' ((c.tc : Thread Cert.BOutXReferenceIdeal.nD Cert.BOutXReferenceIdeal.τ).loc Cert.BOutXReferenceIdeal.main_arg0) = m ((c.tc : Thread Cert.BOutXIdeal.nD Cert.BOutXIdeal.τ).loc Cert.BOutXIdeal.main_arg0)
      ∧ m' ((c.tc : Thread Cert.BOutXReferenceIdeal.nD Cert.BOutXReferenceIdeal.τ).loc Cert.BOutXReferenceIdeal.main_arg1) = m ((c.tc : Thread Cert.BOutXIdeal.nD Cert.BOutXIdeal.τ).loc Cert.BOutXIdeal.main_arg1)) →
    ∃ (v0 : (c : Dev Cert.BOutXIdeal.nD) → Buf (Elt Ideal) ((c.tc : Thread Cert.BOutXIdeal.nD Cert.BOutXIdeal.τ).loc Cert.BOutXIdeal.main_v0)),
      θ_run (Cert.BOutXIdeal.defs (F := Ideal)) (onTc (τ := Cert.BOutXIdeal.τ) (Cert.BOutXIdeal.main (F := Ideal))) ⟨m, fun _ => 0, g⟩ (fun r => ∀ c : Dev Cert.BOutXIdeal.nD,
          r.2.mem ((c.tc : Thread Cert.BOutXIdeal.nD Cert.BOutXIdeal.τ).loc Cert.BOutXIdeal.main_v0) = v0 c
          ∧ r.2.mem ((c.tc : Thread Cert.BOutXIdeal.nD Cert.BOutXIdeal.τ).loc Cert.BOutXIdeal.main_arg0) = m ((c.tc : Thread Cert.BOutXIdeal.nD Cert.BOutXIdeal.τ).loc Cert.BOutXIdeal.main_arg0)
          ∧ r.2.mem ((c.tc : Thread Cert.BOutXIdeal.nD Cert.BOutXIdeal.τ).loc Cert.BOutXIdeal.main_arg1) = m ((c.tc : Thread Cert.BOutXIdeal.nD Cert.BOutXIdeal.τ).loc Cert.BOutXIdeal.main_arg1))
      ∧ θ_run (Cert.BOutXReferenceIdeal.defs (F := Ideal)) (onTc (τ := Cert.BOutXReferenceIdeal.τ) (Cert.BOutXReferenceIdeal.main (F := Ideal))) ⟨m', fun _ => 0, g'⟩ (fun r => ∀ c : Dev Cert.BOutXReferenceIdeal.nD,
          r.2.mem ((c.tc : Thread Cert.BOutXReferenceIdeal.nD Cert.BOutXReferenceIdeal.τ).loc Cert.BOutXReferenceIdeal.main_v1) = v0 c
          ∧ r.2.mem ((c.tc : Thread Cert.BOutXReferenceIdeal.nD Cert.BOutXReferenceIdeal.τ).loc Cert.BOutXReferenceIdeal.main_arg0) = m' ((c.tc : Thread Cert.BOutXReferenceIdeal.nD Cert.BOutXReferenceIdeal.τ).loc Cert.BOutXReferenceIdeal.main_arg0)
          ∧ r.2.mem ((c.tc : Thread Cert.BOutXReferenceIdeal.nD Cert.BOutXReferenceIdeal.τ).loc Cert.BOutXReferenceIdeal.main_arg1) = m' ((c.tc : Thread Cert.BOutXReferenceIdeal.nD Cert.BOutXReferenceIdeal.τ).loc Cert.BOutXReferenceIdeal.main_arg1))

def preserves_GateW_GateWIdeal : Prop :=
  True

def algebraic_GateWIdeal_GateWReferenceIdeal [hGateWIdeal : Cert.GateWIdeal.Facts] [hGateWReferenceIdeal : Cert.GateWReferenceIdeal.Facts] : Prop :=
  ∀ (m : (ℓ : Loc Cert.GateWIdeal.nD Cert.GateWIdeal.τ Cert.GateWIdeal.sig) → Buf (Elt Ideal) ℓ) (g : Dev Cert.GateWIdeal.nD → PrngReg)
    (m' : (ℓ : Loc Cert.GateWReferenceIdeal.nD Cert.GateWReferenceIdeal.τ Cert.GateWReferenceIdeal.sig) → Buf (Elt Ideal) ℓ) (g' : Dev Cert.GateWReferenceIdeal.nD → PrngReg), Pre_GateWIdeal m →
    (∀ c : Dev Cert.GateWIdeal.nD,
      m' ((c.tc : Thread Cert.GateWReferenceIdeal.nD Cert.GateWReferenceIdeal.τ).loc Cert.GateWReferenceIdeal.main_arg0) = m ((c.tc : Thread Cert.GateWIdeal.nD Cert.GateWIdeal.τ).loc Cert.GateWIdeal.main_arg0)
      ∧ m' ((c.tc : Thread Cert.GateWReferenceIdeal.nD Cert.GateWReferenceIdeal.τ).loc Cert.GateWReferenceIdeal.main_arg1) = m ((c.tc : Thread Cert.GateWIdeal.nD Cert.GateWIdeal.τ).loc Cert.GateWIdeal.main_arg1)) →
    ∃ (v0 : (c : Dev Cert.GateWIdeal.nD) → Buf (Elt Ideal) ((c.tc : Thread Cert.GateWIdeal.nD Cert.GateWIdeal.τ).loc Cert.GateWIdeal.main_v0)),
      θ_run (Cert.GateWIdeal.defs (F := Ideal)) (onTc (τ := Cert.GateWIdeal.τ) (Cert.GateWIdeal.main (F := Ideal))) ⟨m, fun _ => 0, g⟩ (fun r => ∀ c : Dev Cert.GateWIdeal.nD,
          r.2.mem ((c.tc : Thread Cert.GateWIdeal.nD Cert.GateWIdeal.τ).loc Cert.GateWIdeal.main_v0) = v0 c
          ∧ r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
          ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ θ_run (Cert.GateWReferenceIdeal.defs (F := Ideal)) (onTc (τ := Cert.GateWReferenceIdeal.τ) (Cert.GateWReferenceIdeal.main (F := Ideal))) ⟨m', fun _ => 0, g'⟩ (fun r => ∀ c : Dev Cert.GateWReferenceIdeal.nD,
          r.2.mem ((c.tc : Thread Cert.GateWReferenceIdeal.nD Cert.GateWReferenceIdeal.τ).loc Cert.GateWReferenceIdeal.main_v2) = v0 c
          ∧ r.2.mem ((c.tc : Thread Cert.GateWReferenceIdeal.nD Cert.GateWReferenceIdeal.τ).loc Cert.GateWReferenceIdeal.main_arg0) = m' ((c.tc : Thread Cert.GateWReferenceIdeal.nD Cert.GateWReferenceIdeal.τ).loc Cert.GateWReferenceIdeal.main_arg0)
          ∧ r.2.mem ((c.tc : Thread Cert.GateWReferenceIdeal.nD Cert.GateWReferenceIdeal.τ).loc Cert.GateWReferenceIdeal.main_arg1) = m' ((c.tc : Thread Cert.GateWReferenceIdeal.nD Cert.GateWReferenceIdeal.τ).loc Cert.GateWReferenceIdeal.main_arg1))

def preserves_PleW_PleWIdeal : Prop :=
  True

def algebraic_PleWIdeal_PleWReferenceIdeal [hPleWIdeal : Cert.PleWIdeal.Facts] [hPleWReferenceIdeal : Cert.PleWReferenceIdeal.Facts] : Prop :=
  ∀ (m : (ℓ : Loc Cert.PleWIdeal.nD Cert.PleWIdeal.τ Cert.PleWIdeal.sig) → Buf (Elt Ideal) ℓ) (g : Dev Cert.PleWIdeal.nD → PrngReg)
    (m' : (ℓ : Loc Cert.PleWReferenceIdeal.nD Cert.PleWReferenceIdeal.τ Cert.PleWReferenceIdeal.sig) → Buf (Elt Ideal) ℓ) (g' : Dev Cert.PleWReferenceIdeal.nD → PrngReg), Pre_PleWIdeal m →
    (∀ c : Dev Cert.PleWIdeal.nD,
      m' ((c.tc : Thread Cert.PleWReferenceIdeal.nD Cert.PleWReferenceIdeal.τ).loc Cert.PleWReferenceIdeal.main_arg0) = m ((c.tc : Thread Cert.PleWIdeal.nD Cert.PleWIdeal.τ).loc Cert.PleWIdeal.main_arg0)
      ∧ m' ((c.tc : Thread Cert.PleWReferenceIdeal.nD Cert.PleWReferenceIdeal.τ).loc Cert.PleWReferenceIdeal.main_arg1) = m ((c.tc : Thread Cert.PleWIdeal.nD Cert.PleWIdeal.τ).loc Cert.PleWIdeal.main_arg1)) →
    ∃ (v0 : (c : Dev Cert.PleWIdeal.nD) → Buf (Elt Ideal) ((c.tc : Thread Cert.PleWIdeal.nD Cert.PleWIdeal.τ).loc Cert.PleWIdeal.main_v0)),
      θ_run (Cert.PleWIdeal.defs (F := Ideal)) (onTc (τ := Cert.PleWIdeal.τ) (Cert.PleWIdeal.main (F := Ideal))) ⟨m, fun _ => 0, g⟩ (fun r => ∀ c : Dev Cert.PleWIdeal.nD,
          r.2.mem ((c.tc : Thread Cert.PleWIdeal.nD Cert.PleWIdeal.τ).loc Cert.PleWIdeal.main_v0) = v0 c
          ∧ r.2.mem ((c.tc : Thread Cert.PleWIdeal.nD Cert.PleWIdeal.τ).loc Cert.PleWIdeal.main_arg0) = m ((c.tc : Thread Cert.PleWIdeal.nD Cert.PleWIdeal.τ).loc Cert.PleWIdeal.main_arg0)
          ∧ r.2.mem ((c.tc : Thread Cert.PleWIdeal.nD Cert.PleWIdeal.τ).loc Cert.PleWIdeal.main_arg1) = m ((c.tc : Thread Cert.PleWIdeal.nD Cert.PleWIdeal.τ).loc Cert.PleWIdeal.main_arg1))
      ∧ θ_run (Cert.PleWReferenceIdeal.defs (F := Ideal)) (onTc (τ := Cert.PleWReferenceIdeal.τ) (Cert.PleWReferenceIdeal.main (F := Ideal))) ⟨m', fun _ => 0, g'⟩ (fun r => ∀ c : Dev Cert.PleWReferenceIdeal.nD,
          r.2.mem ((c.tc : Thread Cert.PleWReferenceIdeal.nD Cert.PleWReferenceIdeal.τ).loc Cert.PleWReferenceIdeal.main_v2) = v0 c
          ∧ r.2.mem ((c.tc : Thread Cert.PleWReferenceIdeal.nD Cert.PleWReferenceIdeal.τ).loc Cert.PleWReferenceIdeal.main_arg0) = m' ((c.tc : Thread Cert.PleWReferenceIdeal.nD Cert.PleWReferenceIdeal.τ).loc Cert.PleWReferenceIdeal.main_arg0)
          ∧ r.2.mem ((c.tc : Thread Cert.PleWReferenceIdeal.nD Cert.PleWReferenceIdeal.τ).loc Cert.PleWReferenceIdeal.main_arg1) = m' ((c.tc : Thread Cert.PleWReferenceIdeal.nD Cert.PleWReferenceIdeal.τ).loc Cert.PleWReferenceIdeal.main_arg1))

def preserves_DownW_DownWIdeal : Prop :=
  True

def algebraic_DownWIdeal_DownWReferenceIdeal [hDownWIdeal : Cert.DownWIdeal.Facts] [hDownWReferenceIdeal : Cert.DownWReferenceIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWReferenceIdeal.nD Cert.DownWReferenceIdeal.τ Cert.DownWReferenceIdeal.sig) → Buf (Elt Ideal) ℓ) (g' : Dev Cert.DownWReferenceIdeal.nD → PrngReg), Pre_DownWIdeal m →
    (∀ c : Dev Cert.DownWIdeal.nD,
      m' ((c.tc : Thread Cert.DownWReferenceIdeal.nD Cert.DownWReferenceIdeal.τ).loc Cert.DownWReferenceIdeal.main_arg0) = m ((c.tc : Thread Cert.DownWIdeal.nD Cert.DownWIdeal.τ).loc Cert.DownWIdeal.main_arg0)
      ∧ m' ((c.tc : Thread Cert.DownWReferenceIdeal.nD Cert.DownWReferenceIdeal.τ).loc Cert.DownWReferenceIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWReferenceIdeal.defs (F := Ideal)) (onTc (τ := Cert.DownWReferenceIdeal.τ) (Cert.DownWReferenceIdeal.main (F := Ideal))) ⟨m', fun _ => 0, g'⟩ (fun r => ∀ c : Dev Cert.DownWReferenceIdeal.nD,
          r.2.mem ((c.tc : Thread Cert.DownWReferenceIdeal.nD Cert.DownWReferenceIdeal.τ).loc Cert.DownWReferenceIdeal.main_v2) = v0 c
          ∧ r.2.mem ((c.tc : Thread Cert.DownWReferenceIdeal.nD Cert.DownWReferenceIdeal.τ).loc Cert.DownWReferenceIdeal.main_arg0) = m' ((c.tc : Thread Cert.DownWReferenceIdeal.nD Cert.DownWReferenceIdeal.τ).loc Cert.DownWReferenceIdeal.main_arg0)
          ∧ r.2.mem ((c.tc : Thread Cert.DownWReferenceIdeal.nD Cert.DownWReferenceIdeal.τ).loc Cert.DownWReferenceIdeal.main_arg1) = m' ((c.tc : Thread Cert.DownWReferenceIdeal.nD Cert.DownWReferenceIdeal.τ).loc Cert.DownWReferenceIdeal.main_arg1))

def preserves_GateUpW_GateUpWIdeal : Prop :=
  True

def algebraic_GateUpWIdeal_GateUpWReferenceIdeal [hGateUpWIdeal : Cert.GateUpWIdeal.Facts] [hGateUpWReferenceIdeal : Cert.GateUpWReferenceIdeal.Facts] : Prop :=
  ∀ (m : (ℓ : Loc Cert.GateUpWIdeal.nD Cert.GateUpWIdeal.τ Cert.GateUpWIdeal.sig) → Buf (Elt Ideal) ℓ) (g : Dev Cert.GateUpWIdeal.nD → PrngReg)
    (m' : (ℓ : Loc Cert.GateUpWReferenceIdeal.nD Cert.GateUpWReferenceIdeal.τ Cert.GateUpWReferenceIdeal.sig) → Buf (Elt Ideal) ℓ) (g' : Dev Cert.GateUpWReferenceIdeal.nD → PrngReg), Pre_GateUpWIdeal m →
    (∀ c : Dev Cert.GateUpWIdeal.nD,
      m' ((c.tc : Thread Cert.GateUpWReferenceIdeal.nD Cert.GateUpWReferenceIdeal.τ).loc Cert.GateUpWReferenceIdeal.main_arg0) = m ((c.tc : Thread Cert.GateUpWIdeal.nD Cert.GateUpWIdeal.τ).loc Cert.GateUpWIdeal.main_arg0)
      ∧ m' ((c.tc : Thread Cert.GateUpWReferenceIdeal.nD Cert.GateUpWReferenceIdeal.τ).loc Cert.GateUpWReferenceIdeal.main_arg1) = m ((c.tc : Thread Cert.GateUpWIdeal.nD Cert.GateUpWIdeal.τ).loc Cert.GateUpWIdeal.main_arg1)) →
    ∃ (v0 : (c : Dev Cert.GateUpWIdeal.nD) → Buf (Elt Ideal) ((c.tc : Thread Cert.GateUpWIdeal.nD Cert.GateUpWIdeal.τ).loc Cert.GateUpWIdeal.main_v0)),
      θ_run (Cert.GateUpWIdeal.defs (F := Ideal)) (onTc (τ := Cert.GateUpWIdeal.τ) (Cert.GateUpWIdeal.main (F := Ideal))) ⟨m, fun _ => 0, g⟩ (fun r => ∀ c : Dev Cert.GateUpWIdeal.nD,
          r.2.mem ((c.tc : Thread Cert.GateUpWIdeal.nD Cert.GateUpWIdeal.τ).loc Cert.GateUpWIdeal.main_v0) = v0 c
          ∧ r.2.mem ((c.tc : Thread Cert.GateUpWIdeal.nD Cert.GateUpWIdeal.τ).loc Cert.GateUpWIdeal.main_arg0) = m ((c.tc : Thread Cert.GateUpWIdeal.nD Cert.GateUpWIdeal.τ).loc Cert.GateUpWIdeal.main_arg0)
          ∧ r.2.mem ((c.tc : Thread Cert.GateUpWIdeal.nD Cert.GateUpWIdeal.τ).loc Cert.GateUpWIdeal.main_arg1) = m ((c.tc : Thread Cert.GateUpWIdeal.nD Cert.GateUpWIdeal.τ).loc Cert.GateUpWIdeal.main_arg1))
      ∧ θ_run (Cert.GateUpWReferenceIdeal.defs (F := Ideal)) (onTc (τ := Cert.GateUpWReferenceIdeal.τ) (Cert.GateUpWReferenceIdeal.main (F := Ideal))) ⟨m', fun _ => 0, g'⟩ (fun r => ∀ c : Dev Cert.GateUpWReferenceIdeal.nD,
          r.2.mem ((c.tc : Thread Cert.GateUpWReferenceIdeal.nD Cert.GateUpWReferenceIdeal.τ).loc Cert.GateUpWReferenceIdeal.main_v2) = v0 c
          ∧ r.2.mem ((c.tc : Thread Cert.GateUpWReferenceIdeal.nD Cert.GateUpWReferenceIdeal.τ).loc Cert.GateUpWReferenceIdeal.main_arg0) = m' ((c.tc : Thread Cert.GateUpWReferenceIdeal.nD Cert.GateUpWReferenceIdeal.τ).loc Cert.GateUpWReferenceIdeal.main_arg0)
          ∧ r.2.mem ((c.tc : Thread Cert.GateUpWReferenceIdeal.nD Cert.GateUpWReferenceIdeal.τ).loc Cert.GateUpWReferenceIdeal.main_arg1) = m' ((c.tc : Thread Cert.GateUpWReferenceIdeal.nD Cert.GateUpWReferenceIdeal.τ).loc Cert.GateUpWReferenceIdeal.main_arg1))

def preserves_OutW_OutWIdeal : Prop :=
  True

def algebraic_OutWIdeal_OutWReferenceIdeal [hOutWIdeal : Cert.OutWIdeal.Facts] [hOutWReferenceIdeal : Cert.OutWReferenceIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWReferenceIdeal.nD Cert.OutWReferenceIdeal.τ Cert.OutWReferenceIdeal.sig) → Buf (Elt Ideal) ℓ) (g' : Dev Cert.OutWReferenceIdeal.nD → PrngReg), Pre_OutWIdeal m →
    (∀ c : Dev Cert.OutWIdeal.nD,
      m' ((c.tc : Thread Cert.OutWReferenceIdeal.nD Cert.OutWReferenceIdeal.τ).loc Cert.OutWReferenceIdeal.main_arg0) = m ((c.tc : Thread Cert.OutWIdeal.nD Cert.OutWIdeal.τ).loc Cert.OutWIdeal.main_arg0)
      ∧ m' ((c.tc : Thread Cert.OutWReferenceIdeal.nD Cert.OutWReferenceIdeal.τ).loc Cert.OutWReferenceIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWReferenceIdeal.defs (F := Ideal)) (onTc (τ := Cert.OutWReferenceIdeal.τ) (Cert.OutWReferenceIdeal.main (F := Ideal))) ⟨m', fun _ => 0, g'⟩ (fun r => ∀ c : Dev Cert.OutWReferenceIdeal.nD,
          r.2.mem ((c.tc : Thread Cert.OutWReferenceIdeal.nD Cert.OutWReferenceIdeal.τ).loc Cert.OutWReferenceIdeal.main_v2) = v0 c
          ∧ r.2.mem ((c.tc : Thread Cert.OutWReferenceIdeal.nD Cert.OutWReferenceIdeal.τ).loc Cert.OutWReferenceIdeal.main_arg0) = m' ((c.tc : Thread Cert.OutWReferenceIdeal.nD Cert.OutWReferenceIdeal.τ).loc Cert.OutWReferenceIdeal.main_arg0)
          ∧ r.2.mem ((c.tc : Thread Cert.OutWReferenceIdeal.nD Cert.OutWReferenceIdeal.τ).loc Cert.OutWReferenceIdeal.main_arg1) = m' ((c.tc : Thread Cert.OutWReferenceIdeal.nD Cert.OutWReferenceIdeal.τ).loc Cert.OutWReferenceIdeal.main_arg1))

def preserves_BOutW_BOutWIdeal : Prop :=
  True

def algebraic_BOutWIdeal_BOutWReferenceIdeal [hBOutWIdeal : Cert.BOutWIdeal.Facts] [hBOutWReferenceIdeal : Cert.BOutWReferenceIdeal.Facts] : Prop :=
  ∀ (m : (ℓ : Loc Cert.BOutWIdeal.nD Cert.BOutWIdeal.τ Cert.BOutWIdeal.sig) → Buf (Elt Ideal) ℓ) (g : Dev Cert.BOutWIdeal.nD → PrngReg)
    (m' : (ℓ : Loc Cert.BOutWReferenceIdeal.nD Cert.BOutWReferenceIdeal.τ Cert.BOutWReferenceIdeal.sig) → Buf (Elt Ideal) ℓ) (g' : Dev Cert.BOutWReferenceIdeal.nD → PrngReg), Pre_BOutWIdeal m →
    (∀ c : Dev Cert.BOutWIdeal.nD,
      m' ((c.tc : Thread Cert.BOutWReferenceIdeal.nD Cert.BOutWReferenceIdeal.τ).loc Cert.BOutWReferenceIdeal.main_arg0) = m ((c.tc : Thread Cert.BOutWIdeal.nD Cert.BOutWIdeal.τ).loc Cert.BOutWIdeal.main_arg0)
      ∧ m' ((c.tc : Thread Cert.BOutWReferenceIdeal.nD Cert.BOutWReferenceIdeal.τ).loc Cert.BOutWReferenceIdeal.main_arg1) = m ((c.tc : Thread Cert.BOutWIdeal.nD Cert.BOutWIdeal.τ).loc Cert.BOutWIdeal.main_arg1)) →
    ∃ (v0 : (c : Dev Cert.BOutWIdeal.nD) → Buf (Elt Ideal) ((c.tc : Thread Cert.BOutWIdeal.nD Cert.BOutWIdeal.τ).loc Cert.BOutWIdeal.main_v0)),
      θ_run (Cert.BOutWIdeal.defs (F := Ideal)) (onTc (τ := Cert.BOutWIdeal.τ) (Cert.BOutWIdeal.main (F := Ideal))) ⟨m, fun _ => 0, g⟩ (fun r => ∀ c : Dev Cert.BOutWIdeal.nD,
          r.2.mem ((c.tc : Thread Cert.BOutWIdeal.nD Cert.BOutWIdeal.τ).loc Cert.BOutWIdeal.main_v0) = v0 c
          ∧ r.2.mem ((c.tc : Thread Cert.BOutWIdeal.nD Cert.BOutWIdeal.τ).loc Cert.BOutWIdeal.main_arg0) = m ((c.tc : Thread Cert.BOutWIdeal.nD Cert.BOutWIdeal.τ).loc Cert.BOutWIdeal.main_arg0)
          ∧ r.2.mem ((c.tc : Thread Cert.BOutWIdeal.nD Cert.BOutWIdeal.τ).loc Cert.BOutWIdeal.main_arg1) = m ((c.tc : Thread Cert.BOutWIdeal.nD Cert.BOutWIdeal.τ).loc Cert.BOutWIdeal.main_arg1))
      ∧ θ_run (Cert.BOutWReferenceIdeal.defs (F := Ideal)) (onTc (τ := Cert.BOutWReferenceIdeal.τ) (Cert.BOutWReferenceIdeal.main (F := Ideal))) ⟨m', fun _ => 0, g'⟩ (fun r => ∀ c : Dev Cert.BOutWReferenceIdeal.nD,
          r.2.mem ((c.tc : Thread Cert.BOutWReferenceIdeal.nD Cert.BOutWReferenceIdeal.τ).loc Cert.BOutWReferenceIdeal.main_v2) = v0 c
          ∧ r.2.mem ((c.tc : Thread Cert.BOutWReferenceIdeal.nD Cert.BOutWReferenceIdeal.τ).loc Cert.BOutWReferenceIdeal.main_arg0) = m' ((c.tc : Thread Cert.BOutWReferenceIdeal.nD Cert.BOutWReferenceIdeal.τ).loc Cert.BOutWReferenceIdeal.main_arg0)
          ∧ r.2.mem ((c.tc : Thread Cert.BOutWReferenceIdeal.nD Cert.BOutWReferenceIdeal.τ).loc Cert.BOutWReferenceIdeal.main_arg1) = m' ((c.tc : Thread Cert.BOutWReferenceIdeal.nD Cert.BOutWReferenceIdeal.τ).loc Cert.BOutWReferenceIdeal.main_arg1))

def preserves_InW_InWIdeal : Prop :=
  True

def algebraic_InWIdeal_InWReferenceIdeal [hInWIdeal : Cert.InWIdeal.Facts] [hInWReferenceIdeal : Cert.InWReferenceIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWReferenceIdeal.nD Cert.InWReferenceIdeal.τ Cert.InWReferenceIdeal.sig) → Buf (Elt Ideal) ℓ) (g' : Dev Cert.InWReferenceIdeal.nD → PrngReg), Pre_InWIdeal m →
    (∀ c : Dev Cert.InWIdeal.nD,
      m' ((c.tc : Thread Cert.InWReferenceIdeal.nD Cert.InWReferenceIdeal.τ).loc Cert.InWReferenceIdeal.main_arg0) = m ((c.tc : Thread Cert.InWIdeal.nD Cert.InWIdeal.τ).loc Cert.InWIdeal.main_arg0)
      ∧ m' ((c.tc : Thread Cert.InWReferenceIdeal.nD Cert.InWReferenceIdeal.τ).loc Cert.InWReferenceIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWReferenceIdeal.defs (F := Ideal)) (onTc (τ := Cert.InWReferenceIdeal.τ) (Cert.InWReferenceIdeal.main (F := Ideal))) ⟨m', fun _ => 0, g'⟩ (fun r => ∀ c : Dev Cert.InWReferenceIdeal.nD,
          r.2.mem ((c.tc : Thread Cert.InWReferenceIdeal.nD Cert.InWReferenceIdeal.τ).loc Cert.InWReferenceIdeal.main_v2) = v0 c
          ∧ r.2.mem ((c.tc : Thread Cert.InWReferenceIdeal.nD Cert.InWReferenceIdeal.τ).loc Cert.InWReferenceIdeal.main_arg0) = m' ((c.tc : Thread Cert.InWReferenceIdeal.nD Cert.InWReferenceIdeal.τ).loc Cert.InWReferenceIdeal.main_arg0)
          ∧ r.2.mem ((c.tc : Thread Cert.InWReferenceIdeal.nD Cert.InWReferenceIdeal.τ).loc Cert.InWReferenceIdeal.main_arg1) = m' ((c.tc : Thread Cert.InWReferenceIdeal.nD Cert.InWReferenceIdeal.τ).loc Cert.InWReferenceIdeal.main_arg1))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v10) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0))

def preserves_LnSilu_LnSiluIdeal : Prop :=
  True

def algebraic_LnSiluIdeal_LnSiluReferenceIdeal [hLnSiluIdeal : Cert.LnSiluIdeal.Facts] [hLnSiluReferenceIdeal : Cert.LnSiluReferenceIdeal.Facts] : Prop :=
  ∀ (m : (ℓ : Loc Cert.LnSiluIdeal.nD Cert.LnSiluIdeal.τ Cert.LnSiluIdeal.sig) → Buf (Elt Ideal) ℓ) (g : Dev Cert.LnSiluIdeal.nD → PrngReg)
    (m' : (ℓ : Loc Cert.LnSiluReferenceIdeal.nD Cert.LnSiluReferenceIdeal.τ Cert.LnSiluReferenceIdeal.sig) → Buf (Elt Ideal) ℓ) (g' : Dev Cert.LnSiluReferenceIdeal.nD → PrngReg), Pre_LnSiluIdeal m →
    (∀ c : Dev Cert.LnSiluIdeal.nD,
      m' ((c.tc : Thread Cert.LnSiluReferenceIdeal.nD Cert.LnSiluReferenceIdeal.τ).loc Cert.LnSiluReferenceIdeal.main_arg0) = m ((c.tc : Thread Cert.LnSiluIdeal.nD Cert.LnSiluIdeal.τ).loc Cert.LnSiluIdeal.main_arg0)
      ∧ m' ((c.tc : Thread Cert.LnSiluReferenceIdeal.nD Cert.LnSiluReferenceIdeal.τ).loc Cert.LnSiluReferenceIdeal.main_arg1) = m ((c.tc : Thread Cert.LnSiluIdeal.nD Cert.LnSiluIdeal.τ).loc Cert.LnSiluIdeal.main_arg1)
      ∧ m' ((c.tc : Thread Cert.LnSiluReferenceIdeal.nD Cert.LnSiluReferenceIdeal.τ).loc Cert.LnSiluReferenceIdeal.main_arg2) = m ((c.tc : Thread Cert.LnSiluIdeal.nD Cert.LnSiluIdeal.τ).loc Cert.LnSiluIdeal.main_arg2)) →
    ∃ (v0 : (c : Dev Cert.LnSiluIdeal.nD) → Buf (Elt Ideal) ((c.tc : Thread Cert.LnSiluIdeal.nD Cert.LnSiluIdeal.τ).loc Cert.LnSiluIdeal.main_v0)),
      θ_run (Cert.LnSiluIdeal.defs (F := Ideal)) (onTc (τ := Cert.LnSiluIdeal.τ) (Cert.LnSiluIdeal.main (F := Ideal))) ⟨m, fun _ => 0, g⟩ (fun r => ∀ c : Dev Cert.LnSiluIdeal.nD,
          r.2.mem ((c.tc : Thread Cert.LnSiluIdeal.nD Cert.LnSiluIdeal.τ).loc Cert.LnSiluIdeal.main_v0) = v0 c
          ∧ r.2.mem ((c.tc : Thread Cert.LnSiluIdeal.nD Cert.LnSiluIdeal.τ).loc Cert.LnSiluIdeal.main_arg0) = m ((c.tc : Thread Cert.LnSiluIdeal.nD Cert.LnSiluIdeal.τ).loc Cert.LnSiluIdeal.main_arg0)
          ∧ r.2.mem ((c.tc : Thread Cert.LnSiluIdeal.nD Cert.LnSiluIdeal.τ).loc Cert.LnSiluIdeal.main_arg1) = m ((c.tc : Thread Cert.LnSiluIdeal.nD Cert.LnSiluIdeal.τ).loc Cert.LnSiluIdeal.main_arg1)
          ∧ r.2.mem ((c.tc : Thread Cert.LnSiluIdeal.nD Cert.LnSiluIdeal.τ).loc Cert.LnSiluIdeal.main_arg2) = m ((c.tc : Thread Cert.LnSiluIdeal.nD Cert.LnSiluIdeal.τ).loc Cert.LnSiluIdeal.main_arg2))
      ∧ θ_run (Cert.LnSiluReferenceIdeal.defs (F := Ideal)) (onTc (τ := Cert.LnSiluReferenceIdeal.τ) (Cert.LnSiluReferenceIdeal.main (F := Ideal))) ⟨m', fun _ => 0, g'⟩ (fun r => ∀ c : Dev Cert.LnSiluReferenceIdeal.nD,
          r.2.mem ((c.tc : Thread Cert.LnSiluReferenceIdeal.nD Cert.LnSiluReferenceIdeal.τ).loc Cert.LnSiluReferenceIdeal.main_v23) = v0 c
          ∧ r.2.mem ((c.tc : Thread Cert.LnSiluReferenceIdeal.nD Cert.LnSiluReferenceIdeal.τ).loc Cert.LnSiluReferenceIdeal.main_arg0) = m' ((c.tc : Thread Cert.LnSiluReferenceIdeal.nD Cert.LnSiluReferenceIdeal.τ).loc Cert.LnSiluReferenceIdeal.main_arg0)
          ∧ r.2.mem ((c.tc : Thread Cert.LnSiluReferenceIdeal.nD Cert.LnSiluReferenceIdeal.τ).loc Cert.LnSiluReferenceIdeal.main_arg1) = m' ((c.tc : Thread Cert.LnSiluReferenceIdeal.nD Cert.LnSiluReferenceIdeal.τ).loc Cert.LnSiluReferenceIdeal.main_arg1)
          ∧ r.2.mem ((c.tc : Thread Cert.LnSiluReferenceIdeal.nD Cert.LnSiluReferenceIdeal.τ).loc Cert.LnSiluReferenceIdeal.main_arg2) = m' ((c.tc : Thread Cert.LnSiluReferenceIdeal.nD Cert.LnSiluReferenceIdeal.τ).loc Cert.LnSiluReferenceIdeal.main_arg2))

def preserves_GNorm_GNormIdeal : Prop :=
  True

def algebraic_GNormIdeal_GNormReferenceIdeal [hGNormIdeal : Cert.GNormIdeal.Facts] [hGNormReferenceIdeal : Cert.GNormReferenceIdeal.Facts] : Prop :=
  ∀ (m : (ℓ : Loc Cert.GNormIdeal.nD Cert.GNormIdeal.τ Cert.GNormIdeal.sig) → Buf (Elt Ideal) ℓ) (g : Dev Cert.GNormIdeal.nD → PrngReg)
    (m' : (ℓ : Loc Cert.GNormReferenceIdeal.nD Cert.GNormReferenceIdeal.τ Cert.GNormReferenceIdeal.sig) → Buf (Elt Ideal) ℓ) (g' : Dev Cert.GNormReferenceIdeal.nD → PrngReg), Pre_GNormIdeal m →
    (∀ c : Dev Cert.GNormIdeal.nD,
      m' ((c.tc : Thread Cert.GNormReferenceIdeal.nD Cert.GNormReferenceIdeal.τ).loc Cert.GNormReferenceIdeal.main_arg0) = m ((c.tc : Thread Cert.GNormIdeal.nD Cert.GNormIdeal.τ).loc Cert.GNormIdeal.main_arg0)
      ∧ m' ((c.tc : Thread Cert.GNormReferenceIdeal.nD Cert.GNormReferenceIdeal.τ).loc Cert.GNormReferenceIdeal.main_arg1) = m ((c.tc : Thread Cert.GNormIdeal.nD Cert.GNormIdeal.τ).loc Cert.GNormIdeal.main_arg1)
      ∧ m' ((c.tc : Thread Cert.GNormReferenceIdeal.nD Cert.GNormReferenceIdeal.τ).loc Cert.GNormReferenceIdeal.main_arg2) = m ((c.tc : Thread Cert.GNormIdeal.nD Cert.GNormIdeal.τ).loc Cert.GNormIdeal.main_arg2)
      ∧ m' ((c.tc : Thread Cert.GNormReferenceIdeal.nD Cert.GNormReferenceIdeal.τ).loc Cert.GNormReferenceIdeal.main_arg3) = m ((c.tc : Thread Cert.GNormIdeal.nD Cert.GNormIdeal.τ).loc Cert.GNormIdeal.main_arg3)
      ∧ m' ((c.tc : Thread Cert.GNormReferenceIdeal.nD Cert.GNormReferenceIdeal.τ).loc Cert.GNormReferenceIdeal.main_arg4) = m ((c.tc : Thread Cert.GNormIdeal.nD Cert.GNormIdeal.τ).loc Cert.GNormIdeal.main_arg4)
      ∧ m' ((c.tc : Thread Cert.GNormReferenceIdeal.nD Cert.GNormReferenceIdeal.τ).loc Cert.GNormReferenceIdeal.main_arg5) = m ((c.tc : Thread Cert.GNormIdeal.nD Cert.GNormIdeal.τ).loc Cert.GNormIdeal.main_arg5)) →
    ∃ (v0 : (c : Dev Cert.GNormIdeal.nD) → Buf (Elt Ideal) ((c.tc : Thread Cert.GNormIdeal.nD Cert.GNormIdeal.τ).loc Cert.GNormIdeal.main_v0)),
      θ_run (Cert.GNormIdeal.defs (F := Ideal)) (onTc (τ := Cert.GNormIdeal.τ) (Cert.GNormIdeal.main (F := Ideal))) ⟨m, fun _ => 0, g⟩ (fun r => ∀ c : Dev Cert.GNormIdeal.nD,
          r.2.mem ((c.tc : Thread Cert.GNormIdeal.nD Cert.GNormIdeal.τ).loc Cert.GNormIdeal.main_v0) = v0 c
          ∧ r.2.mem ((c.tc : Thread Cert.GNormIdeal.nD Cert.GNormIdeal.τ).loc Cert.GNormIdeal.main_arg0) = m ((c.tc : Thread Cert.GNormIdeal.nD Cert.GNormIdeal.τ).loc Cert.GNormIdeal.main_arg0)
          ∧ r.2.mem ((c.tc : Thread Cert.GNormIdeal.nD Cert.GNormIdeal.τ).loc Cert.GNormIdeal.main_arg1) = m ((c.tc : Thread Cert.GNormIdeal.nD Cert.GNormIdeal.τ).loc Cert.GNormIdeal.main_arg1)
          ∧ r.2.mem ((c.tc : Thread Cert.GNormIdeal.nD Cert.GNormIdeal.τ).loc Cert.GNormIdeal.main_arg2) = m ((c.tc : Thread Cert.GNormIdeal.nD Cert.GNormIdeal.τ).loc Cert.GNormIdeal.main_arg2)
          ∧ r.2.mem ((c.tc : Thread Cert.GNormIdeal.nD Cert.GNormIdeal.τ).loc Cert.GNormIdeal.main_arg3) = m ((c.tc : Thread Cert.GNormIdeal.nD Cert.GNormIdeal.τ).loc Cert.GNormIdeal.main_arg3)
          ∧ r.2.mem ((c.tc : Thread Cert.GNormIdeal.nD Cert.GNormIdeal.τ).loc Cert.GNormIdeal.main_arg4) = m ((c.tc : Thread Cert.GNormIdeal.nD Cert.GNormIdeal.τ).loc Cert.GNormIdeal.main_arg4)
          ∧ r.2.mem ((c.tc : Thread Cert.GNormIdeal.nD Cert.GNormIdeal.τ).loc Cert.GNormIdeal.main_arg5) = m ((c.tc : Thread Cert.GNormIdeal.nD Cert.GNormIdeal.τ).loc Cert.GNormIdeal.main_arg5))
      ∧ θ_run (Cert.GNormReferenceIdeal.defs (F := Ideal)) (onTc (τ := Cert.GNormReferenceIdeal.τ) (Cert.GNormReferenceIdeal.main (F := Ideal))) ⟨m', fun _ => 0, g'⟩ (fun r => ∀ c : Dev Cert.GNormReferenceIdeal.nD,
          r.2.mem ((c.tc : Thread Cert.GNormReferenceIdeal.nD Cert.GNormReferenceIdeal.τ).loc Cert.GNormReferenceIdeal.main_v24) = v0 c
          ∧ r.2.mem ((c.tc : Thread Cert.GNormReferenceIdeal.nD Cert.GNormReferenceIdeal.τ).loc Cert.GNormReferenceIdeal.main_arg0) = m' ((c.tc : Thread Cert.GNormReferenceIdeal.nD Cert.GNormReferenceIdeal.τ).loc Cert.GNormReferenceIdeal.main_arg0)
          ∧ r.2.mem ((c.tc : Thread Cert.GNormReferenceIdeal.nD Cert.GNormReferenceIdeal.τ).loc Cert.GNormReferenceIdeal.main_arg1) = m' ((c.tc : Thread Cert.GNormReferenceIdeal.nD Cert.GNormReferenceIdeal.τ).loc Cert.GNormReferenceIdeal.main_arg1)
          ∧ r.2.mem ((c.tc : Thread Cert.GNormReferenceIdeal.nD Cert.GNormReferenceIdeal.τ).loc Cert.GNormReferenceIdeal.main_arg2) = m' ((c.tc : Thread Cert.GNormReferenceIdeal.nD Cert.GNormReferenceIdeal.τ).loc Cert.GNormReferenceIdeal.main_arg2)
          ∧ r.2.mem ((c.tc : Thread Cert.GNormReferenceIdeal.nD Cert.GNormReferenceIdeal.τ).loc Cert.GNormReferenceIdeal.main_arg3) = m' ((c.tc : Thread Cert.GNormReferenceIdeal.nD Cert.GNormReferenceIdeal.τ).loc Cert.GNormReferenceIdeal.main_arg3)
          ∧ r.2.mem ((c.tc : Thread Cert.GNormReferenceIdeal.nD Cert.GNormReferenceIdeal.τ).loc Cert.GNormReferenceIdeal.main_arg4) = m' ((c.tc : Thread Cert.GNormReferenceIdeal.nD Cert.GNormReferenceIdeal.τ).loc Cert.GNormReferenceIdeal.main_arg4)
          ∧ r.2.mem ((c.tc : Thread Cert.GNormReferenceIdeal.nD Cert.GNormReferenceIdeal.τ).loc Cert.GNormReferenceIdeal.main_arg5) = m' ((c.tc : Thread Cert.GNormReferenceIdeal.nD Cert.GNormReferenceIdeal.τ).loc Cert.GNormReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v19) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2))

def preserves_ResLn_ResLnIdeal : Prop :=
  True

def algebraic_ResLnIdeal_ResLnReferenceIdeal [hResLnIdeal : Cert.ResLnIdeal.Facts] [hResLnReferenceIdeal : Cert.ResLnReferenceIdeal.Facts] : Prop :=
  ∀ (m : (ℓ : Loc Cert.ResLnIdeal.nD Cert.ResLnIdeal.τ Cert.ResLnIdeal.sig) → Buf (Elt Ideal) ℓ) (g : Dev Cert.ResLnIdeal.nD → PrngReg)
    (m' : (ℓ : Loc Cert.ResLnReferenceIdeal.nD Cert.ResLnReferenceIdeal.τ Cert.ResLnReferenceIdeal.sig) → Buf (Elt Ideal) ℓ) (g' : Dev Cert.ResLnReferenceIdeal.nD → PrngReg), Pre_ResLnIdeal m →
    (∀ c : Dev Cert.ResLnIdeal.nD,
      m' ((c.tc : Thread Cert.ResLnReferenceIdeal.nD Cert.ResLnReferenceIdeal.τ).loc Cert.ResLnReferenceIdeal.main_arg0) = m ((c.tc : Thread Cert.ResLnIdeal.nD Cert.ResLnIdeal.τ).loc Cert.ResLnIdeal.main_arg0)
      ∧ m' ((c.tc : Thread Cert.ResLnReferenceIdeal.nD Cert.ResLnReferenceIdeal.τ).loc Cert.ResLnReferenceIdeal.main_arg1) = m ((c.tc : Thread Cert.ResLnIdeal.nD Cert.ResLnIdeal.τ).loc Cert.ResLnIdeal.main_arg1)
      ∧ m' ((c.tc : Thread Cert.ResLnReferenceIdeal.nD Cert.ResLnReferenceIdeal.τ).loc Cert.ResLnReferenceIdeal.main_arg2) = m ((c.tc : Thread Cert.ResLnIdeal.nD Cert.ResLnIdeal.τ).loc Cert.ResLnIdeal.main_arg2)
      ∧ m' ((c.tc : Thread Cert.ResLnReferenceIdeal.nD Cert.ResLnReferenceIdeal.τ).loc Cert.ResLnReferenceIdeal.main_arg3) = m ((c.tc : Thread Cert.ResLnIdeal.nD Cert.ResLnIdeal.τ).loc Cert.ResLnIdeal.main_arg3)) →
    ∃ (v0 : (c : Dev Cert.ResLnIdeal.nD) → Buf (Elt Ideal) ((c.tc : Thread Cert.ResLnIdeal.nD Cert.ResLnIdeal.τ).loc Cert.ResLnIdeal.main_v0)),
      θ_run (Cert.ResLnIdeal.defs (F := Ideal)) (onTc (τ := Cert.ResLnIdeal.τ) (Cert.ResLnIdeal.main (F := Ideal))) ⟨m, fun _ => 0, g⟩ (fun r => ∀ c : Dev Cert.ResLnIdeal.nD,
          r.2.mem ((c.tc : Thread Cert.ResLnIdeal.nD Cert.ResLnIdeal.τ).loc Cert.ResLnIdeal.main_v0) = v0 c
          ∧ r.2.mem ((c.tc : Thread Cert.ResLnIdeal.nD Cert.ResLnIdeal.τ).loc Cert.ResLnIdeal.main_arg0) = m ((c.tc : Thread Cert.ResLnIdeal.nD Cert.ResLnIdeal.τ).loc Cert.ResLnIdeal.main_arg0)
          ∧ r.2.mem ((c.tc : Thread Cert.ResLnIdeal.nD Cert.ResLnIdeal.τ).loc Cert.ResLnIdeal.main_arg1) = m ((c.tc : Thread Cert.ResLnIdeal.nD Cert.ResLnIdeal.τ).loc Cert.ResLnIdeal.main_arg1)
          ∧ r.2.mem ((c.tc : Thread Cert.ResLnIdeal.nD Cert.ResLnIdeal.τ).loc Cert.ResLnIdeal.main_arg2) = m ((c.tc : Thread Cert.ResLnIdeal.nD Cert.ResLnIdeal.τ).loc Cert.ResLnIdeal.main_arg2)
          ∧ r.2.mem ((c.tc : Thread Cert.ResLnIdeal.nD Cert.ResLnIdeal.τ).loc Cert.ResLnIdeal.main_arg3) = m ((c.tc : Thread Cert.ResLnIdeal.nD Cert.ResLnIdeal.τ).loc Cert.ResLnIdeal.main_arg3))
      ∧ θ_run (Cert.ResLnReferenceIdeal.defs (F := Ideal)) (onTc (τ := Cert.ResLnReferenceIdeal.τ) (Cert.ResLnReferenceIdeal.main (F := Ideal))) ⟨m', fun _ => 0, g'⟩ (fun r => ∀ c : Dev Cert.ResLnReferenceIdeal.nD,
          r.2.mem ((c.tc : Thread Cert.ResLnReferenceIdeal.nD Cert.ResLnReferenceIdeal.τ).loc Cert.ResLnReferenceIdeal.main_v24) = v0 c
          ∧ r.2.mem ((c.tc : Thread Cert.ResLnReferenceIdeal.nD Cert.ResLnReferenceIdeal.τ).loc Cert.ResLnReferenceIdeal.main_arg0) = m' ((c.tc : Thread Cert.ResLnReferenceIdeal.nD Cert.ResLnReferenceIdeal.τ).loc Cert.ResLnReferenceIdeal.main_arg0)
          ∧ r.2.mem ((c.tc : Thread Cert.ResLnReferenceIdeal.nD Cert.ResLnReferenceIdeal.τ).loc Cert.ResLnReferenceIdeal.main_arg1) = m' ((c.tc : Thread Cert.ResLnReferenceIdeal.nD Cert.ResLnReferenceIdeal.τ).loc Cert.ResLnReferenceIdeal.main_arg1)
          ∧ r.2.mem ((c.tc : Thread Cert.ResLnReferenceIdeal.nD Cert.ResLnReferenceIdeal.τ).loc Cert.ResLnReferenceIdeal.main_arg2) = m' ((c.tc : Thread Cert.ResLnReferenceIdeal.nD Cert.ResLnReferenceIdeal.τ).loc Cert.ResLnReferenceIdeal.main_arg2)
          ∧ r.2.mem ((c.tc : Thread Cert.ResLnReferenceIdeal.nD Cert.ResLnReferenceIdeal.τ).loc Cert.ResLnReferenceIdeal.main_arg3) = m' ((c.tc : Thread Cert.ResLnReferenceIdeal.nD Cert.ResLnReferenceIdeal.τ).loc Cert.ResLnReferenceIdeal.main_arg3))

def preserves_SwiGlu_SwiGluIdeal : Prop :=
  True

def algebraic_SwiGluIdeal_SwiGluReferenceIdeal [hSwiGluIdeal : Cert.SwiGluIdeal.Facts] [hSwiGluReferenceIdeal : Cert.SwiGluReferenceIdeal.Facts] : Prop :=
  ∀ (m : (ℓ : Loc Cert.SwiGluIdeal.nD Cert.SwiGluIdeal.τ Cert.SwiGluIdeal.sig) → Buf (Elt Ideal) ℓ) (g : Dev Cert.SwiGluIdeal.nD → PrngReg)
    (m' : (ℓ : Loc Cert.SwiGluReferenceIdeal.nD Cert.SwiGluReferenceIdeal.τ Cert.SwiGluReferenceIdeal.sig) → Buf (Elt Ideal) ℓ) (g' : Dev Cert.SwiGluReferenceIdeal.nD → PrngReg), Pre_SwiGluIdeal m →
    (∀ c : Dev Cert.SwiGluIdeal.nD,
      m' ((c.tc : Thread Cert.SwiGluReferenceIdeal.nD Cert.SwiGluReferenceIdeal.τ).loc Cert.SwiGluReferenceIdeal.main_arg0) = m ((c.tc : Thread Cert.SwiGluIdeal.nD Cert.SwiGluIdeal.τ).loc Cert.SwiGluIdeal.main_arg0)) →
    ∃ (v0 : (c : Dev Cert.SwiGluIdeal.nD) → Buf (Elt Ideal) ((c.tc : Thread Cert.SwiGluIdeal.nD Cert.SwiGluIdeal.τ).loc Cert.SwiGluIdeal.main_v0)),
      θ_run (Cert.SwiGluIdeal.defs (F := Ideal)) (onTc (τ := Cert.SwiGluIdeal.τ) (Cert.SwiGluIdeal.main (F := Ideal))) ⟨m, fun _ => 0, g⟩ (fun r => ∀ c : Dev Cert.SwiGluIdeal.nD,
          r.2.mem ((c.tc : Thread Cert.SwiGluIdeal.nD Cert.SwiGluIdeal.τ).loc Cert.SwiGluIdeal.main_v0) = v0 c
          ∧ r.2.mem ((c.tc : Thread Cert.SwiGluIdeal.nD Cert.SwiGluIdeal.τ).loc Cert.SwiGluIdeal.main_arg0) = m ((c.tc : Thread Cert.SwiGluIdeal.nD Cert.SwiGluIdeal.τ).loc Cert.SwiGluIdeal.main_arg0))
      ∧ θ_run (Cert.SwiGluReferenceIdeal.defs (F := Ideal)) (onTc (τ := Cert.SwiGluReferenceIdeal.τ) (Cert.SwiGluReferenceIdeal.main (F := Ideal))) ⟨m', fun _ => 0, g'⟩ (fun r => ∀ c : Dev Cert.SwiGluReferenceIdeal.nD,
          r.2.mem ((c.tc : Thread Cert.SwiGluReferenceIdeal.nD Cert.SwiGluReferenceIdeal.τ).loc Cert.SwiGluReferenceIdeal.main_v5) = v0 c
          ∧ r.2.mem ((c.tc : Thread Cert.SwiGluReferenceIdeal.nD Cert.SwiGluReferenceIdeal.τ).loc Cert.SwiGluReferenceIdeal.main_arg0) = m' ((c.tc : Thread Cert.SwiGluReferenceIdeal.nD Cert.SwiGluReferenceIdeal.τ).loc Cert.SwiGluReferenceIdeal.main_arg0))

def preserves_PleOut_PleOutIdeal : Prop :=
  True

def algebraic_PleOutIdeal_PleOutReferenceIdeal [hPleOutIdeal : Cert.PleOutIdeal.Facts] [hPleOutReferenceIdeal : Cert.PleOutReferenceIdeal.Facts] : Prop :=
  ∀ (m : (ℓ : Loc Cert.PleOutIdeal.nD Cert.PleOutIdeal.τ Cert.PleOutIdeal.sig) → Buf (Elt Ideal) ℓ) (g : Dev Cert.PleOutIdeal.nD → PrngReg)
    (m' : (ℓ : Loc Cert.PleOutReferenceIdeal.nD Cert.PleOutReferenceIdeal.τ Cert.PleOutReferenceIdeal.sig) → Buf (Elt Ideal) ℓ) (g' : Dev Cert.PleOutReferenceIdeal.nD → PrngReg), Pre_PleOutIdeal m →
    (∀ c : Dev Cert.PleOutIdeal.nD,
      m' ((c.tc : Thread Cert.PleOutReferenceIdeal.nD Cert.PleOutReferenceIdeal.τ).loc Cert.PleOutReferenceIdeal.main_arg0) = m ((c.tc : Thread Cert.PleOutIdeal.nD Cert.PleOutIdeal.τ).loc Cert.PleOutIdeal.main_arg0)
      ∧ m' ((c.tc : Thread Cert.PleOutReferenceIdeal.nD Cert.PleOutReferenceIdeal.τ).loc Cert.PleOutReferenceIdeal.main_arg1) = m ((c.tc : Thread Cert.PleOutIdeal.nD Cert.PleOutIdeal.τ).loc Cert.PleOutIdeal.main_arg1)
      ∧ m' ((c.tc : Thread Cert.PleOutReferenceIdeal.nD Cert.PleOutReferenceIdeal.τ).loc Cert.PleOutReferenceIdeal.main_arg2) = m ((c.tc : Thread Cert.PleOutIdeal.nD Cert.PleOutIdeal.τ).loc Cert.PleOutIdeal.main_arg2)
      ∧ m' ((c.tc : Thread Cert.PleOutReferenceIdeal.nD Cert.PleOutReferenceIdeal.τ).loc Cert.PleOutReferenceIdeal.main_arg3) = m ((c.tc : Thread Cert.PleOutIdeal.nD Cert.PleOutIdeal.τ).loc Cert.PleOutIdeal.main_arg3)) →
    ∃ (v0 : (c : Dev Cert.PleOutIdeal.nD) → Buf (Elt Ideal) ((c.tc : Thread Cert.PleOutIdeal.nD Cert.PleOutIdeal.τ).loc Cert.PleOutIdeal.main_v0)),
      θ_run (Cert.PleOutIdeal.defs (F := Ideal)) (onTc (τ := Cert.PleOutIdeal.τ) (Cert.PleOutIdeal.main (F := Ideal))) ⟨m, fun _ => 0, g⟩ (fun r => ∀ c : Dev Cert.PleOutIdeal.nD,
          r.2.mem ((c.tc : Thread Cert.PleOutIdeal.nD Cert.PleOutIdeal.τ).loc Cert.PleOutIdeal.main_v0) = v0 c
          ∧ r.2.mem ((c.tc : Thread Cert.PleOutIdeal.nD Cert.PleOutIdeal.τ).loc Cert.PleOutIdeal.main_arg0) = m ((c.tc : Thread Cert.PleOutIdeal.nD Cert.PleOutIdeal.τ).loc Cert.PleOutIdeal.main_arg0)
          ∧ r.2.mem ((c.tc : Thread Cert.PleOutIdeal.nD Cert.PleOutIdeal.τ).loc Cert.PleOutIdeal.main_arg1) = m ((c.tc : Thread Cert.PleOutIdeal.nD Cert.PleOutIdeal.τ).loc Cert.PleOutIdeal.main_arg1)
          ∧ r.2.mem ((c.tc : Thread Cert.PleOutIdeal.nD Cert.PleOutIdeal.τ).loc Cert.PleOutIdeal.main_arg2) = m ((c.tc : Thread Cert.PleOutIdeal.nD Cert.PleOutIdeal.τ).loc Cert.PleOutIdeal.main_arg2)
          ∧ r.2.mem ((c.tc : Thread Cert.PleOutIdeal.nD Cert.PleOutIdeal.τ).loc Cert.PleOutIdeal.main_arg3) = m ((c.tc : Thread Cert.PleOutIdeal.nD Cert.PleOutIdeal.τ).loc Cert.PleOutIdeal.main_arg3))
      ∧ θ_run (Cert.PleOutReferenceIdeal.defs (F := Ideal)) (onTc (τ := Cert.PleOutReferenceIdeal.τ) (Cert.PleOutReferenceIdeal.main (F := Ideal))) ⟨m', fun _ => 0, g'⟩ (fun r => ∀ c : Dev Cert.PleOutReferenceIdeal.nD,
          r.2.mem ((c.tc : Thread Cert.PleOutReferenceIdeal.nD Cert.PleOutReferenceIdeal.τ).loc Cert.PleOutReferenceIdeal.main_v19) = v0 c
          ∧ r.2.mem ((c.tc : Thread Cert.PleOutReferenceIdeal.nD Cert.PleOutReferenceIdeal.τ).loc Cert.PleOutReferenceIdeal.main_arg0) = m' ((c.tc : Thread Cert.PleOutReferenceIdeal.nD Cert.PleOutReferenceIdeal.τ).loc Cert.PleOutReferenceIdeal.main_arg0)
          ∧ r.2.mem ((c.tc : Thread Cert.PleOutReferenceIdeal.nD Cert.PleOutReferenceIdeal.τ).loc Cert.PleOutReferenceIdeal.main_arg1) = m' ((c.tc : Thread Cert.PleOutReferenceIdeal.nD Cert.PleOutReferenceIdeal.τ).loc Cert.PleOutReferenceIdeal.main_arg1)
          ∧ r.2.mem ((c.tc : Thread Cert.PleOutReferenceIdeal.nD Cert.PleOutReferenceIdeal.τ).loc Cert.PleOutReferenceIdeal.main_arg2) = m' ((c.tc : Thread Cert.PleOutReferenceIdeal.nD Cert.PleOutReferenceIdeal.τ).loc Cert.PleOutReferenceIdeal.main_arg2)
          ∧ r.2.mem ((c.tc : Thread Cert.PleOutReferenceIdeal.nD Cert.PleOutReferenceIdeal.τ).loc Cert.PleOutReferenceIdeal.main_arg3) = m' ((c.tc : Thread Cert.PleOutReferenceIdeal.nD Cert.PleOutReferenceIdeal.τ).loc Cert.PleOutReferenceIdeal.main_arg3))

def Claim : Prop :=
  ∃ (hWeights : Cert.Weights.Facts) (hWeightsIdeal : Cert.WeightsIdeal.Facts) (hWeightsReferenceIdeal : Cert.WeightsReferenceIdeal.Facts) (hWeightsReference : Cert.WeightsReference.Facts) (hConv : Cert.Conv.Facts) (hConvIdeal : Cert.ConvIdeal.Facts) (hConvReferenceIdeal : Cert.ConvReferenceIdeal.Facts) (hConvReference : Cert.ConvReference.Facts) (hSmall : Cert.Small.Facts) (hSmallIdeal : Cert.SmallIdeal.Facts) (hSmallReferenceIdeal : Cert.SmallReferenceIdeal.Facts) (hSmallReference : Cert.SmallReference.Facts) (hSibling : Cert.Sibling.Facts) (hSiblingIdeal : Cert.SiblingIdeal.Facts) (hSiblingReferenceIdeal : Cert.SiblingReferenceIdeal.Facts) (hSiblingReference : Cert.SiblingReference.Facts) (hChips : Cert.Chips.Facts) (hChipsIdeal : Cert.ChipsIdeal.Facts) (hChipsReferenceIdeal : Cert.ChipsReferenceIdeal.Facts) (hChipsReference : Cert.ChipsReference.Facts) (hPieces : Cert.Pieces.Facts) (hPiecesIdeal : Cert.PiecesIdeal.Facts) (hPiecesReferenceIdeal : Cert.PiecesReferenceIdeal.Facts) (hAdamIn : Cert.AdamIn.Facts) (hAdamInIdeal : Cert.AdamInIdeal.Facts) (hAdamInReferenceIdeal : Cert.AdamInReferenceIdeal.Facts) (hAdamConvA : Cert.AdamConvA.Facts) (hAdamConvAIdeal : Cert.AdamConvAIdeal.Facts) (hAdamConvAReferenceIdeal : Cert.AdamConvAReferenceIdeal.Facts) (hAdamOut : Cert.AdamOut.Facts) (hAdamOutIdeal : Cert.AdamOutIdeal.Facts) (hAdamOutReferenceIdeal : Cert.AdamOutReferenceIdeal.Facts) (hAdamSsmConv : Cert.AdamSsmConv.Facts) (hAdamSsmConvIdeal : Cert.AdamSsmConvIdeal.Facts) (hAdamSsmConvReferenceIdeal : Cert.AdamSsmConvReferenceIdeal.Facts) (hAdamBOut : Cert.AdamBOut.Facts) (hAdamBOutIdeal : Cert.AdamBOutIdeal.Facts) (hAdamBOutReferenceIdeal : Cert.AdamBOutReferenceIdeal.Facts) (hAdamGateUp : Cert.AdamGateUp.Facts) (hAdamGateUpIdeal : Cert.AdamGateUpIdeal.Facts) (hAdamGateUpReferenceIdeal : Cert.AdamGateUpReferenceIdeal.Facts) (hAdamDown : Cert.AdamDown.Facts) (hAdamDownIdeal : Cert.AdamDownIdeal.Facts) (hAdamDownReferenceIdeal : Cert.AdamDownReferenceIdeal.Facts) (hAdamPle : Cert.AdamPle.Facts) (hAdamPleIdeal : Cert.AdamPleIdeal.Facts) (hAdamPleReferenceIdeal : Cert.AdamPleReferenceIdeal.Facts) (hAdamSmalls : Cert.AdamSmalls.Facts) (hAdamSmallsIdeal : Cert.AdamSmallsIdeal.Facts) (hAdamSmallsReferenceIdeal : Cert.AdamSmallsReferenceIdeal.Facts) (hLoss : Cert.Loss.Facts) (hLossIdeal : Cert.LossIdeal.Facts) (hLossReferenceIdeal : Cert.LossReferenceIdeal.Facts) (hGradX : Cert.GradX.Facts) (hGradXIdeal : Cert.GradXIdeal.Facts) (hGradXReferenceIdeal : Cert.GradXReferenceIdeal.Facts) (hInProj : Cert.InProj.Facts) (hInProjIdeal : Cert.InProjIdeal.Facts) (hInProjReferenceIdeal : Cert.InProjReferenceIdeal.Facts) (hDtProj : Cert.DtProj.Facts) (hDtProjIdeal : Cert.DtProjIdeal.Facts) (hDtProjReferenceIdeal : Cert.DtProjReferenceIdeal.Facts) (hAOut : Cert.AOut.Facts) (hAOutIdeal : Cert.AOutIdeal.Facts) (hAOutReferenceIdeal : Cert.AOutReferenceIdeal.Facts) (hBOut : Cert.BOut.Facts) (hBOutIdeal : Cert.BOutIdeal.Facts) (hBOutReferenceIdeal : Cert.BOutReferenceIdeal.Facts) (hGateUp : Cert.GateUp.Facts) (hGateUpIdeal : Cert.GateUpIdeal.Facts) (hGateUpReferenceIdeal : Cert.GateUpReferenceIdeal.Facts) (hDown : Cert.Down.Facts) (hDownIdeal : Cert.DownIdeal.Facts) (hDownReferenceIdeal : Cert.DownReferenceIdeal.Facts) (hPle : Cert.Ple.Facts) (hPleIdeal : Cert.PleIdeal.Facts) (hPleReferenceIdeal : Cert.PleReferenceIdeal.Facts) (hGate : Cert.Gate.Facts) (hGateIdeal : Cert.GateIdeal.Facts) (hGateReferenceIdeal : Cert.GateReferenceIdeal.Facts) (hGateX : Cert.GateX.Facts) (hGateXIdeal : Cert.GateXIdeal.Facts) (hGateXReferenceIdeal : Cert.GateXReferenceIdeal.Facts) (hDownX : Cert.DownX.Facts) (hDownXIdeal : Cert.DownXIdeal.Facts) (hDownXReferenceIdeal : Cert.DownXReferenceIdeal.Facts) (hGateUpX : Cert.GateUpX.Facts) (hGateUpXIdeal : Cert.GateUpXIdeal.Facts) (hGateUpXReferenceIdeal : Cert.GateUpXReferenceIdeal.Facts) (hOutX : Cert.OutX.Facts) (hOutXIdeal : Cert.OutXIdeal.Facts) (hOutXReferenceIdeal : Cert.OutXReferenceIdeal.Facts) (hBOutX : Cert.BOutX.Facts) (hBOutXIdeal : Cert.BOutXIdeal.Facts) (hBOutXReferenceIdeal : Cert.BOutXReferenceIdeal.Facts) (hGateW : Cert.GateW.Facts) (hGateWIdeal : Cert.GateWIdeal.Facts) (hGateWReferenceIdeal : Cert.GateWReferenceIdeal.Facts) (hPleW : Cert.PleW.Facts) (hPleWIdeal : Cert.PleWIdeal.Facts) (hPleWReferenceIdeal : Cert.PleWReferenceIdeal.Facts) (hDownW : Cert.DownW.Facts) (hDownWIdeal : Cert.DownWIdeal.Facts) (hDownWReferenceIdeal : Cert.DownWReferenceIdeal.Facts) (hGateUpW : Cert.GateUpW.Facts) (hGateUpWIdeal : Cert.GateUpWIdeal.Facts) (hGateUpWReferenceIdeal : Cert.GateUpWReferenceIdeal.Facts) (hOutW : Cert.OutW.Facts) (hOutWIdeal : Cert.OutWIdeal.Facts) (hOutWReferenceIdeal : Cert.OutWReferenceIdeal.Facts) (hBOutW : Cert.BOutW.Facts) (hBOutWIdeal : Cert.BOutWIdeal.Facts) (hBOutWReferenceIdeal : Cert.BOutWReferenceIdeal.Facts) (hInW : Cert.InW.Facts) (hInWIdeal : Cert.InWIdeal.Facts) (hInWReferenceIdeal : Cert.InWReferenceIdeal.Facts) (hGlu : Cert.Glu.Facts) (hGluIdeal : Cert.GluIdeal.Facts) (hGluReferenceIdeal : Cert.GluReferenceIdeal.Facts) (hLnSilu : Cert.LnSilu.Facts) (hLnSiluIdeal : Cert.LnSiluIdeal.Facts) (hLnSiluReferenceIdeal : Cert.LnSiluReferenceIdeal.Facts) (hGNorm : Cert.GNorm.Facts) (hGNormIdeal : Cert.GNormIdeal.Facts) (hGNormReferenceIdeal : Cert.GNormReferenceIdeal.Facts) (hMerge : Cert.Merge.Facts) (hMergeIdeal : Cert.MergeIdeal.Facts) (hMergeReferenceIdeal : Cert.MergeReferenceIdeal.Facts) (hResLn : Cert.ResLn.Facts) (hResLnIdeal : Cert.ResLnIdeal.Facts) (hResLnReferenceIdeal : Cert.ResLnReferenceIdeal.Facts) (hSwiGlu : Cert.SwiGlu.Facts) (hSwiGluIdeal : Cert.SwiGluIdeal.Facts) (hSwiGluReferenceIdeal : Cert.SwiGluReferenceIdeal.Facts) (hPleOut : Cert.PleOut.Facts) (hPleOutIdeal : Cert.PleOutIdeal.Facts) (hPleOutReferenceIdeal : Cert.PleOutReferenceIdeal.Facts),
    quiescent_Weights (hWeights := hWeights)
    ∧ quiescent_WeightsIdeal (hWeightsIdeal := hWeightsIdeal)
    ∧ quiescent_WeightsReferenceIdeal (hWeightsReferenceIdeal := hWeightsReferenceIdeal)
    ∧ quiescent_WeightsReference (hWeightsReference := hWeightsReference)
    ∧ quiescent_Conv (hConv := hConv)
    ∧ quiescent_ConvIdeal (hConvIdeal := hConvIdeal)
    ∧ quiescent_ConvReferenceIdeal (hConvReferenceIdeal := hConvReferenceIdeal)
    ∧ quiescent_ConvReference (hConvReference := hConvReference)
    ∧ quiescent_Small (hSmall := hSmall)
    ∧ quiescent_SmallIdeal (hSmallIdeal := hSmallIdeal)
    ∧ quiescent_SmallReferenceIdeal (hSmallReferenceIdeal := hSmallReferenceIdeal)
    ∧ quiescent_SmallReference (hSmallReference := hSmallReference)
    ∧ quiescent_Sibling (hSibling := hSibling)
    ∧ quiescent_SiblingIdeal (hSiblingIdeal := hSiblingIdeal)
    ∧ quiescent_SiblingReferenceIdeal (hSiblingReferenceIdeal := hSiblingReferenceIdeal)
    ∧ quiescent_SiblingReference (hSiblingReference := hSiblingReference)
    ∧ quiescent_Chips (hChips := hChips)
    ∧ quiescent_ChipsIdeal (hChipsIdeal := hChipsIdeal)
    ∧ quiescent_ChipsReferenceIdeal (hChipsReferenceIdeal := hChipsReferenceIdeal)
    ∧ quiescent_ChipsReference (hChipsReference := hChipsReference)
    ∧ quiescent_Pieces (hPieces := hPieces)
    ∧ quiescent_PiecesIdeal (hPiecesIdeal := hPiecesIdeal)
    ∧ quiescent_PiecesReferenceIdeal (hPiecesReferenceIdeal := hPiecesReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamConvA (hAdamConvA := hAdamConvA)
    ∧ quiescent_AdamConvAIdeal (hAdamConvAIdeal := hAdamConvAIdeal)
    ∧ quiescent_AdamConvAReferenceIdeal (hAdamConvAReferenceIdeal := hAdamConvAReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamSsmConv (hAdamSsmConv := hAdamSsmConv)
    ∧ quiescent_AdamSsmConvIdeal (hAdamSsmConvIdeal := hAdamSsmConvIdeal)
    ∧ quiescent_AdamSsmConvReferenceIdeal (hAdamSsmConvReferenceIdeal := hAdamSsmConvReferenceIdeal)
    ∧ quiescent_AdamBOut (hAdamBOut := hAdamBOut)
    ∧ quiescent_AdamBOutIdeal (hAdamBOutIdeal := hAdamBOutIdeal)
    ∧ quiescent_AdamBOutReferenceIdeal (hAdamBOutReferenceIdeal := hAdamBOutReferenceIdeal)
    ∧ quiescent_AdamGateUp (hAdamGateUp := hAdamGateUp)
    ∧ quiescent_AdamGateUpIdeal (hAdamGateUpIdeal := hAdamGateUpIdeal)
    ∧ quiescent_AdamGateUpReferenceIdeal (hAdamGateUpReferenceIdeal := hAdamGateUpReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamPle (hAdamPle := hAdamPle)
    ∧ quiescent_AdamPleIdeal (hAdamPleIdeal := hAdamPleIdeal)
    ∧ quiescent_AdamPleReferenceIdeal (hAdamPleReferenceIdeal := hAdamPleReferenceIdeal)
    ∧ quiescent_AdamSmalls (hAdamSmalls := hAdamSmalls)
    ∧ quiescent_AdamSmallsIdeal (hAdamSmallsIdeal := hAdamSmallsIdeal)
    ∧ quiescent_AdamSmallsReferenceIdeal (hAdamSmallsReferenceIdeal := hAdamSmallsReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_GradX (hGradX := hGradX)
    ∧ quiescent_GradXIdeal (hGradXIdeal := hGradXIdeal)
    ∧ quiescent_GradXReferenceIdeal (hGradXReferenceIdeal := hGradXReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_DtProj (hDtProj := hDtProj)
    ∧ quiescent_DtProjIdeal (hDtProjIdeal := hDtProjIdeal)
    ∧ quiescent_DtProjReferenceIdeal (hDtProjReferenceIdeal := hDtProjReferenceIdeal)
    ∧ quiescent_AOut (hAOut := hAOut)
    ∧ quiescent_AOutIdeal (hAOutIdeal := hAOutIdeal)
    ∧ quiescent_AOutReferenceIdeal (hAOutReferenceIdeal := hAOutReferenceIdeal)
    ∧ quiescent_BOut (hBOut := hBOut)
    ∧ quiescent_BOutIdeal (hBOutIdeal := hBOutIdeal)
    ∧ quiescent_BOutReferenceIdeal (hBOutReferenceIdeal := hBOutReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Ple (hPle := hPle)
    ∧ quiescent_PleIdeal (hPleIdeal := hPleIdeal)
    ∧ quiescent_PleReferenceIdeal (hPleReferenceIdeal := hPleReferenceIdeal)
    ∧ quiescent_Gate (hGate := hGate)
    ∧ quiescent_GateIdeal (hGateIdeal := hGateIdeal)
    ∧ quiescent_GateReferenceIdeal (hGateReferenceIdeal := hGateReferenceIdeal)
    ∧ quiescent_GateX (hGateX := hGateX)
    ∧ quiescent_GateXIdeal (hGateXIdeal := hGateXIdeal)
    ∧ quiescent_GateXReferenceIdeal (hGateXReferenceIdeal := hGateXReferenceIdeal)
    ∧ quiescent_DownX (hDownX := hDownX)
    ∧ quiescent_DownXIdeal (hDownXIdeal := hDownXIdeal)
    ∧ quiescent_DownXReferenceIdeal (hDownXReferenceIdeal := hDownXReferenceIdeal)
    ∧ quiescent_GateUpX (hGateUpX := hGateUpX)
    ∧ quiescent_GateUpXIdeal (hGateUpXIdeal := hGateUpXIdeal)
    ∧ quiescent_GateUpXReferenceIdeal (hGateUpXReferenceIdeal := hGateUpXReferenceIdeal)
    ∧ quiescent_OutX (hOutX := hOutX)
    ∧ quiescent_OutXIdeal (hOutXIdeal := hOutXIdeal)
    ∧ quiescent_OutXReferenceIdeal (hOutXReferenceIdeal := hOutXReferenceIdeal)
    ∧ quiescent_BOutX (hBOutX := hBOutX)
    ∧ quiescent_BOutXIdeal (hBOutXIdeal := hBOutXIdeal)
    ∧ quiescent_BOutXReferenceIdeal (hBOutXReferenceIdeal := hBOutXReferenceIdeal)
    ∧ quiescent_GateW (hGateW := hGateW)
    ∧ quiescent_GateWIdeal (hGateWIdeal := hGateWIdeal)
    ∧ quiescent_GateWReferenceIdeal (hGateWReferenceIdeal := hGateWReferenceIdeal)
    ∧ quiescent_PleW (hPleW := hPleW)
    ∧ quiescent_PleWIdeal (hPleWIdeal := hPleWIdeal)
    ∧ quiescent_PleWReferenceIdeal (hPleWReferenceIdeal := hPleWReferenceIdeal)
    ∧ quiescent_DownW (hDownW := hDownW)
    ∧ quiescent_DownWIdeal (hDownWIdeal := hDownWIdeal)
    ∧ quiescent_DownWReferenceIdeal (hDownWReferenceIdeal := hDownWReferenceIdeal)
    ∧ quiescent_GateUpW (hGateUpW := hGateUpW)
    ∧ quiescent_GateUpWIdeal (hGateUpWIdeal := hGateUpWIdeal)
    ∧ quiescent_GateUpWReferenceIdeal (hGateUpWReferenceIdeal := hGateUpWReferenceIdeal)
    ∧ quiescent_OutW (hOutW := hOutW)
    ∧ quiescent_OutWIdeal (hOutWIdeal := hOutWIdeal)
    ∧ quiescent_OutWReferenceIdeal (hOutWReferenceIdeal := hOutWReferenceIdeal)
    ∧ quiescent_BOutW (hBOutW := hBOutW)
    ∧ quiescent_BOutWIdeal (hBOutWIdeal := hBOutWIdeal)
    ∧ quiescent_BOutWReferenceIdeal (hBOutWReferenceIdeal := hBOutWReferenceIdeal)
    ∧ quiescent_InW (hInW := hInW)
    ∧ quiescent_InWIdeal (hInWIdeal := hInWIdeal)
    ∧ quiescent_InWReferenceIdeal (hInWReferenceIdeal := hInWReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_LnSilu (hLnSilu := hLnSilu)
    ∧ quiescent_LnSiluIdeal (hLnSiluIdeal := hLnSiluIdeal)
    ∧ quiescent_LnSiluReferenceIdeal (hLnSiluReferenceIdeal := hLnSiluReferenceIdeal)
    ∧ quiescent_GNorm (hGNorm := hGNorm)
    ∧ quiescent_GNormIdeal (hGNormIdeal := hGNormIdeal)
    ∧ quiescent_GNormReferenceIdeal (hGNormReferenceIdeal := hGNormReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_ResLn (hResLn := hResLn)
    ∧ quiescent_ResLnIdeal (hResLnIdeal := hResLnIdeal)
    ∧ quiescent_ResLnReferenceIdeal (hResLnReferenceIdeal := hResLnReferenceIdeal)
    ∧ quiescent_SwiGlu (hSwiGlu := hSwiGlu)
    ∧ quiescent_SwiGluIdeal (hSwiGluIdeal := hSwiGluIdeal)
    ∧ quiescent_SwiGluReferenceIdeal (hSwiGluReferenceIdeal := hSwiGluReferenceIdeal)
    ∧ quiescent_PleOut (hPleOut := hPleOut)
    ∧ quiescent_PleOutIdeal (hPleOutIdeal := hPleOutIdeal)
    ∧ quiescent_PleOutReferenceIdeal (hPleOutReferenceIdeal := hPleOutReferenceIdeal)
    ∧ preserves_Weights_WeightsIdeal
    ∧ algebraic_WeightsIdeal_WeightsReferenceIdeal (hWeightsIdeal := hWeightsIdeal) (hWeightsReferenceIdeal := hWeightsReferenceIdeal)
    ∧ bitexact_Weights_WeightsReference (hWeights := hWeights) (hWeightsReference := hWeightsReference)
    ∧ preserves_Conv_ConvIdeal
    ∧ algebraic_ConvIdeal_ConvReferenceIdeal (hConvIdeal := hConvIdeal) (hConvReferenceIdeal := hConvReferenceIdeal)
    ∧ bitexact_Conv_ConvReference (hConv := hConv) (hConvReference := hConvReference)
    ∧ preserves_Small_SmallIdeal
    ∧ algebraic_SmallIdeal_SmallReferenceIdeal (hSmallIdeal := hSmallIdeal) (hSmallReferenceIdeal := hSmallReferenceIdeal)
    ∧ bitexact_Small_SmallReference (hSmall := hSmall) (hSmallReference := hSmallReference)
    ∧ preserves_Sibling_SiblingIdeal
    ∧ algebraic_SiblingIdeal_SiblingReferenceIdeal (hSiblingIdeal := hSiblingIdeal) (hSiblingReferenceIdeal := hSiblingReferenceIdeal)
    ∧ bitexact_Sibling_SiblingReference (hSibling := hSibling) (hSiblingReference := hSiblingReference)
    ∧ preserves_Chips_ChipsIdeal
    ∧ algebraic_ChipsIdeal_ChipsReferenceIdeal (hChipsIdeal := hChipsIdeal) (hChipsReferenceIdeal := hChipsReferenceIdeal)
    ∧ bitexact_Chips_ChipsReference (hChips := hChips) (hChipsReference := hChipsReference)
    ∧ preserves_Pieces_PiecesIdeal
    ∧ algebraic_PiecesIdeal_PiecesReferenceIdeal (hPiecesIdeal := hPiecesIdeal) (hPiecesReferenceIdeal := hPiecesReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamConvA_AdamConvAIdeal
    ∧ algebraic_AdamConvAIdeal_AdamConvAReferenceIdeal (hAdamConvAIdeal := hAdamConvAIdeal) (hAdamConvAReferenceIdeal := hAdamConvAReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamSsmConv_AdamSsmConvIdeal
    ∧ algebraic_AdamSsmConvIdeal_AdamSsmConvReferenceIdeal (hAdamSsmConvIdeal := hAdamSsmConvIdeal) (hAdamSsmConvReferenceIdeal := hAdamSsmConvReferenceIdeal)
    ∧ preserves_AdamBOut_AdamBOutIdeal
    ∧ algebraic_AdamBOutIdeal_AdamBOutReferenceIdeal (hAdamBOutIdeal := hAdamBOutIdeal) (hAdamBOutReferenceIdeal := hAdamBOutReferenceIdeal)
    ∧ preserves_AdamGateUp_AdamGateUpIdeal
    ∧ algebraic_AdamGateUpIdeal_AdamGateUpReferenceIdeal (hAdamGateUpIdeal := hAdamGateUpIdeal) (hAdamGateUpReferenceIdeal := hAdamGateUpReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamPle_AdamPleIdeal
    ∧ algebraic_AdamPleIdeal_AdamPleReferenceIdeal (hAdamPleIdeal := hAdamPleIdeal) (hAdamPleReferenceIdeal := hAdamPleReferenceIdeal)
    ∧ preserves_AdamSmalls_AdamSmallsIdeal
    ∧ algebraic_AdamSmallsIdeal_AdamSmallsReferenceIdeal (hAdamSmallsIdeal := hAdamSmallsIdeal) (hAdamSmallsReferenceIdeal := hAdamSmallsReferenceIdeal)
    ∧ preserves_Loss_LossIdeal
    ∧ algebraic_LossIdeal_LossReferenceIdeal (hLossIdeal := hLossIdeal) (hLossReferenceIdeal := hLossReferenceIdeal)
    ∧ preserves_GradX_GradXIdeal
    ∧ algebraic_GradXIdeal_GradXReferenceIdeal (hGradXIdeal := hGradXIdeal) (hGradXReferenceIdeal := hGradXReferenceIdeal)
    ∧ preserves_InProj_InProjIdeal
    ∧ algebraic_InProjIdeal_InProjReferenceIdeal (hInProjIdeal := hInProjIdeal) (hInProjReferenceIdeal := hInProjReferenceIdeal)
    ∧ preserves_DtProj_DtProjIdeal
    ∧ algebraic_DtProjIdeal_DtProjReferenceIdeal (hDtProjIdeal := hDtProjIdeal) (hDtProjReferenceIdeal := hDtProjReferenceIdeal)
    ∧ preserves_AOut_AOutIdeal
    ∧ algebraic_AOutIdeal_AOutReferenceIdeal (hAOutIdeal := hAOutIdeal) (hAOutReferenceIdeal := hAOutReferenceIdeal)
    ∧ preserves_BOut_BOutIdeal
    ∧ algebraic_BOutIdeal_BOutReferenceIdeal (hBOutIdeal := hBOutIdeal) (hBOutReferenceIdeal := hBOutReferenceIdeal)
    ∧ preserves_GateUp_GateUpIdeal
    ∧ algebraic_GateUpIdeal_GateUpReferenceIdeal (hGateUpIdeal := hGateUpIdeal) (hGateUpReferenceIdeal := hGateUpReferenceIdeal)
    ∧ preserves_Down_DownIdeal
    ∧ algebraic_DownIdeal_DownReferenceIdeal (hDownIdeal := hDownIdeal) (hDownReferenceIdeal := hDownReferenceIdeal)
    ∧ preserves_Ple_PleIdeal
    ∧ algebraic_PleIdeal_PleReferenceIdeal (hPleIdeal := hPleIdeal) (hPleReferenceIdeal := hPleReferenceIdeal)
    ∧ preserves_Gate_GateIdeal
    ∧ algebraic_GateIdeal_GateReferenceIdeal (hGateIdeal := hGateIdeal) (hGateReferenceIdeal := hGateReferenceIdeal)
    ∧ preserves_GateX_GateXIdeal
    ∧ algebraic_GateXIdeal_GateXReferenceIdeal (hGateXIdeal := hGateXIdeal) (hGateXReferenceIdeal := hGateXReferenceIdeal)
    ∧ preserves_DownX_DownXIdeal
    ∧ algebraic_DownXIdeal_DownXReferenceIdeal (hDownXIdeal := hDownXIdeal) (hDownXReferenceIdeal := hDownXReferenceIdeal)
    ∧ preserves_GateUpX_GateUpXIdeal
    ∧ algebraic_GateUpXIdeal_GateUpXReferenceIdeal (hGateUpXIdeal := hGateUpXIdeal) (hGateUpXReferenceIdeal := hGateUpXReferenceIdeal)
    ∧ preserves_OutX_OutXIdeal
    ∧ algebraic_OutXIdeal_OutXReferenceIdeal (hOutXIdeal := hOutXIdeal) (hOutXReferenceIdeal := hOutXReferenceIdeal)
    ∧ preserves_BOutX_BOutXIdeal
    ∧ algebraic_BOutXIdeal_BOutXReferenceIdeal (hBOutXIdeal := hBOutXIdeal) (hBOutXReferenceIdeal := hBOutXReferenceIdeal)
    ∧ preserves_GateW_GateWIdeal
    ∧ algebraic_GateWIdeal_GateWReferenceIdeal (hGateWIdeal := hGateWIdeal) (hGateWReferenceIdeal := hGateWReferenceIdeal)
    ∧ preserves_PleW_PleWIdeal
    ∧ algebraic_PleWIdeal_PleWReferenceIdeal (hPleWIdeal := hPleWIdeal) (hPleWReferenceIdeal := hPleWReferenceIdeal)
    ∧ preserves_DownW_DownWIdeal
    ∧ algebraic_DownWIdeal_DownWReferenceIdeal (hDownWIdeal := hDownWIdeal) (hDownWReferenceIdeal := hDownWReferenceIdeal)
    ∧ preserves_GateUpW_GateUpWIdeal
    ∧ algebraic_GateUpWIdeal_GateUpWReferenceIdeal (hGateUpWIdeal := hGateUpWIdeal) (hGateUpWReferenceIdeal := hGateUpWReferenceIdeal)
    ∧ preserves_OutW_OutWIdeal
    ∧ algebraic_OutWIdeal_OutWReferenceIdeal (hOutWIdeal := hOutWIdeal) (hOutWReferenceIdeal := hOutWReferenceIdeal)
    ∧ preserves_BOutW_BOutWIdeal
    ∧ algebraic_BOutWIdeal_BOutWReferenceIdeal (hBOutWIdeal := hBOutWIdeal) (hBOutWReferenceIdeal := hBOutWReferenceIdeal)
    ∧ preserves_InW_InWIdeal
    ∧ algebraic_InWIdeal_InWReferenceIdeal (hInWIdeal := hInWIdeal) (hInWReferenceIdeal := hInWReferenceIdeal)
    ∧ preserves_Glu_GluIdeal
    ∧ algebraic_GluIdeal_GluReferenceIdeal (hGluIdeal := hGluIdeal) (hGluReferenceIdeal := hGluReferenceIdeal)
    ∧ preserves_LnSilu_LnSiluIdeal
    ∧ algebraic_LnSiluIdeal_LnSiluReferenceIdeal (hLnSiluIdeal := hLnSiluIdeal) (hLnSiluReferenceIdeal := hLnSiluReferenceIdeal)
    ∧ preserves_GNorm_GNormIdeal
    ∧ algebraic_GNormIdeal_GNormReferenceIdeal (hGNormIdeal := hGNormIdeal) (hGNormReferenceIdeal := hGNormReferenceIdeal)
    ∧ preserves_Merge_MergeIdeal
    ∧ algebraic_MergeIdeal_MergeReferenceIdeal (hMergeIdeal := hMergeIdeal) (hMergeReferenceIdeal := hMergeReferenceIdeal)
    ∧ preserves_ResLn_ResLnIdeal
    ∧ algebraic_ResLnIdeal_ResLnReferenceIdeal (hResLnIdeal := hResLnIdeal) (hResLnReferenceIdeal := hResLnReferenceIdeal)
    ∧ preserves_SwiGlu_SwiGluIdeal
    ∧ algebraic_SwiGluIdeal_SwiGluReferenceIdeal (hSwiGluIdeal := hSwiGluIdeal) (hSwiGluReferenceIdeal := hSwiGluReferenceIdeal)
    ∧ preserves_PleOut_PleOutIdeal
    ∧ algebraic_PleOutIdeal_PleOutReferenceIdeal (hPleOutIdeal := hPleOutIdeal) (hPleOutReferenceIdeal := hPleOutReferenceIdeal)
-- ==== Weights.lean ====
abbrev S48256x128 : Shape := ⟨2, ![48256, 128]⟩
abbrev S8x48256x128 : Shape := ⟨3, ![8, 48256, 128]⟩
abbrev S7 : Shape := ⟨1, ![7]⟩
abbrev S_ : Shape := ⟨0, ![]⟩
abbrev S1x48256x128 : Shape := ⟨3, ![1, 48256, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S48256x128, .bf16⟩
  | .hbm, ⟨1, _⟩ => ⟨S8x48256x128, .bf16⟩
  | _, _ => ⟨S48256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== WeightsIdeal.lean ====
abbrev S48256x128 : Shape := ⟨2, ![48256, 128]⟩
abbrev S8x48256x128 : Shape := ⟨3, ![8, 48256, 128]⟩
abbrev S7 : Shape := ⟨1, ![7]⟩
abbrev S_ : Shape := ⟨0, ![]⟩
abbrev S1x48256x128 : Shape := ⟨3, ![1, 48256, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S48256x128, .bf16⟩
  | .hbm, ⟨1, _⟩ => ⟨S8x48256x128, .bf16⟩
  | _, _ => ⟨S48256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== WeightsReferenceIdeal.lean ====
abbrev S386048x128 : Shape := ⟨2, ![386048, 128]⟩
abbrev S8x48256x128 : Shape := ⟨3, ![8, 48256, 128]⟩

abbrev nBuf : Space → Nat
  | .hbm => 2
  | .vmem => 0
  | .smem => 0
  | _ => 0

abbrev bufTy : (tb : Table) → Fin (tcTables nBuf tb) → BufTy
  | .hbm, ⟨0, _⟩ => ⟨S386048x128, .bf16⟩
  | .hbm, ⟨1, _⟩ => ⟨S8x48256x128, .bf16⟩
  | _, _ => ⟨S386048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== WeightsReference.lean ====
abbrev S386048x128 : Shape := ⟨2, ![386048, 128]⟩
abbrev S8x48256x128 : Shape := ⟨3, ![8, 48256, 128]⟩

abbrev nBuf : Space → Nat
  | .hbm => 2
  | .vmem => 0
  | .smem => 0
  | _ => 0

abbrev bufTy : (tb : Table) → Fin (tcTables nBuf tb) → BufTy
  | .hbm, ⟨0, _⟩ => ⟨S386048x128, .bf16⟩
  | .hbm, ⟨1, _⟩ => ⟨S8x48256x128, .bf16⟩
  | _, _ => ⟨S386048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Conv.lean ====
abbrev S104x128 : Shape := ⟨2, ![104, 128]⟩
abbrev S8x104x128 : Shape := ⟨3, ![8, 104, 128]⟩
abbrev S7 : Shape := ⟨1, ![7]⟩
abbrev S_ : Shape := ⟨0, ![]⟩
abbrev S1x104x128 : Shape := ⟨3, ![1, 104, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S104x128, .f32⟩
  | .hbm, ⟨1, _⟩ => ⟨S8x104x128, .f32⟩
  | _, _ => ⟨S104x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== ConvIdeal.lean ====
abbrev S104x128 : Shape := ⟨2, ![104, 128]⟩
abbrev S8x104x128 : Shape := ⟨3, ![8, 104, 128]⟩
abbrev S7 : Shape := ⟨1, ![7]⟩
abbrev S_ : Shape := ⟨0, ![]⟩
abbrev S1x104x128 : Shape := ⟨3, ![1, 104, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S104x128, .f32⟩
  | .hbm, ⟨1, _⟩ => ⟨S8x104x128, .f32⟩
  | _, _ => ⟨S104x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== ConvReferenceIdeal.lean ====
abbrev S832x128 : Shape := ⟨2, ![832, 128]⟩
abbrev S8x104x128 : Shape := ⟨3, ![8, 104, 128]⟩

abbrev nBuf : Space → Nat
  | .hbm => 2
  | .vmem => 0
  | .smem => 0
  | _ => 0

abbrev bufTy : (tb : Table) → Fin (tcTables nBuf tb) → BufTy
  | .hbm, ⟨0, _⟩ => ⟨S832x128, .f32⟩
  | .hbm, ⟨1, _⟩ => ⟨S8x104x128, .f32⟩
  | _, _ => ⟨S832x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== ConvReference.lean ====
abbrev S832x128 : Shape := ⟨2, ![832, 128]⟩
abbrev S8x104x128 : Shape := ⟨3, ![8, 104, 128]⟩

abbrev nBuf : Space → Nat
  | .hbm => 2
  | .vmem => 0
  | .smem => 0
  | _ => 0

abbrev bufTy : (tb : Table) → Fin (tcTables nBuf tb) → BufTy
  | .hbm, ⟨0, _⟩ => ⟨S832x128, .f32⟩
  | .hbm, ⟨1, _⟩ => ⟨S8x104x128, .f32⟩
  | _, _ => ⟨S832x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Small.lean ====
abbrev S232x128 : Shape := ⟨2, ![232, 128]⟩
abbrev S8x232x128 : Shape := ⟨3, ![8, 232, 128]⟩
abbrev S7 : Shape := ⟨1, ![7]⟩
abbrev S_ : Shape := ⟨0, ![]⟩
abbrev S1x232x128 : Shape := ⟨3, ![1, 232, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S232x128, .f32⟩
  | .hbm, ⟨1, _⟩ => ⟨S8x232x128, .f32⟩
  | _, _ => ⟨S232x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== SmallIdeal.lean ====
abbrev S232x128 : Shape := ⟨2, ![232, 128]⟩
abbrev S8x232x128 : Shape := ⟨3, ![8, 232, 128]⟩
abbrev S7 : Shape := ⟨1, ![7]⟩
abbrev S_ : Shape := ⟨0, ![]⟩
abbrev S1x232x128 : Shape := ⟨3, ![1, 232, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S232x128, .f32⟩
  | .hbm, ⟨1, _⟩ => ⟨S8x232x128, .f32⟩
  | _, _ => ⟨S232x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== SmallReference.lean ====
abbrev S1856x128 : Shape := ⟨2, ![1856, 128]⟩
abbrev S8x232x128 : Shape := ⟨3, ![8, 232, 128]⟩

abbrev nBuf : Space → Nat
  | .hbm => 2
  | .vmem => 0
  | .smem => 0
  | _ => 0

abbrev bufTy : (tb : Table) → Fin (tcTables nBuf tb) → BufTy
  | .hbm, ⟨0, _⟩ => ⟨S1856x128, .f32⟩
  | .hbm, ⟨1, _⟩ => ⟨S8x232x128, .f32⟩
  | _, _ => ⟨S1856x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Sibling.lean ====
abbrev S8x48640x128 : Shape := ⟨3, ![8, 48640, 128]⟩
abbrev S4x48640x128 : Shape := ⟨3, ![4, 48640, 128]⟩
abbrev S4 : Shape := ⟨1, ![4]⟩
abbrev S1 : Shape := ⟨1, ![1]⟩
abbrev S_ : Shape := ⟨0, ![]⟩
abbrev S1x48640x128 : Shape := ⟨3, ![1, 48640, 128]⟩
abbrev S48640x128 : Shape := ⟨2, ![48640, 128]⟩

abbrev nBuf : Space → Nat
  | .hbm => 2
  | .vmem => 0
  | .smem => 0
  | _ => 0

abbrev bufTy : (tb : Table) → Fin (tcTables nBuf tb) → BufTy
  | .hbm, ⟨0, _⟩ => ⟨S8x48640x128, .bf16⟩
  | .hbm, ⟨1, _⟩ => ⟨S4x48640x128, .bf16⟩
  | _, _ => ⟨S8x48640x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) (c0_i32 : BitVec 32) : Fin 3 → Nat :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v10 : BitVec 32 := Scalar.addi c0_i32 v9
  let c0_i32_22 : BitVec 32 := 0#32
  let c0_i32_23 : BitVec 32 := 0#32
  ![v10.toNat, 0, 0]
def k0_dev1 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v21 : BitVec 32 := Scalar.muli v2 c4_i32_16
  let v22 : BitVec 32 := Scalar.addi c0_i32_17 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v23 : BitVec 32 := Scalar.muli v5 c2_i32_18
  let v24 : BitVec 32 := Scalar.addi v22 v23
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_19 : BitVec 32 := 1#32
  let v25 : BitVec 32 := Scalar.muli v11 c1_i32_19
  let v26 : BitVec 32 := Scalar.addi v24 v25
  v26.toNat
def k0_dev2 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v35 : BitVec 32 := Scalar.muli v2 c4_i32_27
  let v36 : BitVec 32 := Scalar.addi c0_i32_28 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v37 : BitVec 32 := Scalar.muli v5 c2_i32_29
  let v38 : BitVec 32 := Scalar.addi v36 v37
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_7 v8
  let c1_i32_30 : BitVec 32 := 1#32
  let v39 : BitVec 32 := Scalar.muli v14 c1_i32_30
  let v40 : BitVec 32 := Scalar.addi v38 v39
  v40.toNat
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v49 : BitVec 32 := Scalar.muli v2 c4_i32_38
  let v50 : BitVec 32 := Scalar.addi c0_i32_39 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v51 : BitVec 32 := Scalar.muli v5 c2_i32_40
  let v52 : BitVec 32 := Scalar.addi v50 v51
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_10 v8
  let c1_i32_41 : BitVec 32 := 1#32
  let v53 : BitVec 32 := Scalar.muli v17 c1_i32_41
  let v54 : BitVec 32 := Scalar.addi v52 v53
  v54.toNat
def k0_dev4 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v63 : BitVec 32 := Scalar.muli v2 c4_i32_48
  let v64 : BitVec 32 := Scalar.addi c0_i32_49 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v65 : BitVec 32 := Scalar.muli v5 c2_i32_50
  let v66 : BitVec 32 := Scalar.addi v64 v65
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let c1_i32_51 : BitVec 32 := 1#32
  let v67 : BitVec 32 := Scalar.muli v20 c1_i32_51
  let v68 : BitVec 32 := Scalar.addi v66 v67
  v68.toNat
-- ==== SiblingReference.lean ====
abbrev S64x48640x128 : Shape := ⟨3, ![64, 48640, 128]⟩
abbrev S4x2x4x2x48640x128 : Shape := ⟨6, ![4, 2, 4, 2, 48640, 128]⟩
abbrev S4x1x4x1x48640x128 : Shape := ⟨6, ![4, 1, 4, 1, 48640, 128]⟩
abbrev S4x4x48640x128 : Shape := ⟨4, ![4, 4, 48640, 128]⟩
abbrev S4x1x4x48640x128 : Shape := ⟨5, ![4, 1, 4, 48640, 128]⟩
abbrev S4x2x4x48640x128 : Shape := ⟨5, ![4, 2, 4, 48640, 128]⟩
abbrev S32x48640x128 : Shape := ⟨3, ![32, 48640, 128]⟩

abbrev nBuf : Space → Nat
  | .hbm => 10
  | .vmem => 0
  | .smem => 0
  | _ => 0

abbrev bufTy : (tb : Table) → Fin (tcTables nBuf tb) → BufTy
  | .hbm, ⟨0, _⟩ => ⟨S64x48640x128, .bf16⟩
  | .hbm, ⟨1, _⟩ => ⟨S4x2x4x2x48640x128, .bf16⟩
  | .hbm, ⟨2, _⟩ => ⟨S4x1x4x1x48640x128, .bf16⟩
  | .hbm, ⟨3, _⟩ => ⟨S4x4x48640x128, .bf16⟩
  | .hbm, ⟨4, _⟩ => ⟨S4x1x4x1x48640x128, .bf16⟩
  | .hbm, ⟨5, _⟩ => ⟨S4x4x48640x128, .bf16⟩
  | .hbm, ⟨6, _⟩ => ⟨S4x1x4x48640x128, .bf16⟩
  | .hbm, ⟨7, _⟩ => ⟨S4x1x4x48640x128, .bf16⟩
  | .hbm, ⟨8, _⟩ => ⟨S4x2x4x48640x128, .bf16⟩
  | .hbm, ⟨9, _⟩ => ⟨S32x48640x128, .bf16⟩
  | _, _ => ⟨S64x48640x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== Chips.lean ====
abbrev S4x48640x128 : Shape := ⟨3, ![4, 48640, 128]⟩
abbrev S3 : Shape := ⟨1, ![3]⟩
abbrev S_ : Shape := ⟨0, ![]⟩
abbrev S1x48640x128 : Shape := ⟨3, ![1, 48640, 128]⟩
abbrev S48640x128 : Shape := ⟨2, ![48640, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4x48640x128, .bf16⟩
  | .hbm, ⟨1, _⟩ => ⟨S4x48640x128, .bf16⟩
  | _, _ => ⟨S4x48640x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_4 : BitVec 32 := 0#32
  ![v10.toNat, 0, 0]
def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_8 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v17 : BitVec 32 := Scalar.addi v16 v15
  let c0_i32_22 : BitVec 32 := 0#32
  let c0_i32_23 : BitVec 32 := 0#32
  ![v17.toNat, 0, 0]
def k0_dev1 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_18 : BitVec 32 := 2#32
  let v27 : BitVec 32 := Scalar.muli v15 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_off3 (d0 : Dev nD) : Fin 3 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let v19 : BitVec 32 := Scalar.muli c2_i32_10 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_32 : BitVec 32 := 0#32
  let c0_i32_33 : BitVec 32 := 0#32
  ![v20.toNat, 0, 0]
def k0_dev2 (d0 : Dev nD) : Nat :=
  let c0_i32_27 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_26 : BitVec 32 := 4#32
  let v39 : BitVec 32 := Scalar.muli v18 c4_i32_26
  let v40 : BitVec 32 := Scalar.addi c0_i32_27 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v41 : BitVec 32 := Scalar.muli v5 c2_i32_28
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v43 : BitVec 32 := Scalar.muli v8 c1_i32_29
  let v44 : BitVec 32 := Scalar.addi v42 v43
  v44.toNat
def k0_off4 (d0 : Dev nD) : Fin 3 → Nat :=
  let c2_i32_13 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let v23 : BitVec 32 := Scalar.muli c2_i32_13 v21
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v24 : BitVec 32 := Scalar.addi v23 v22
  let c0_i32_42 : BitVec 32 := 0#32
  let c0_i32_43 : BitVec 32 := 0#32
  ![v24.toNat, 0, 0]
def k0_dev3 (d0 : Dev nD) : Nat :=
  let c0_i32_37 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_36 : BitVec 32 := 4#32
  let v53 : BitVec 32 := Scalar.muli v21 c4_i32_36
  let v54 : BitVec 32 := Scalar.addi c0_i32_37 v53
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_38 : BitVec 32 := 2#32
  let v55 : BitVec 32 := Scalar.muli v22 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
-- ==== ChipsReference.lean ====
abbrev S32x48640x128 : Shape := ⟨3, ![32, 48640, 128]⟩
abbrev S4x2x4x48640x128 : Shape := ⟨5, ![4, 2, 4, 48640, 128]⟩

abbrev nBuf : Space → Nat
  | .hbm => 4
  | .vmem => 0
  | .smem => 0
  | _ => 0

abbrev bufTy : (tb : Table) → Fin (tcTables nBuf tb) → BufTy
  | .hbm, ⟨0, _⟩ => ⟨S32x48640x128, .bf16⟩
  | .hbm, ⟨1, _⟩ => ⟨S4x2x4x48640x128, .bf16⟩
  | .hbm, ⟨2, _⟩ => ⟨S4x2x4x48640x128, .bf16⟩
  | .hbm, ⟨3, _⟩ => ⟨S32x48640x128, .bf16⟩
  | _, _ => ⟨S32x48640x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Pieces.lean ====
abbrev S4x48640x128 : Shape := ⟨3, ![4, 48640, 128]⟩
abbrev S48640x128 : Shape := ⟨2, ![48640, 128]⟩
abbrev S4x512x128 : Shape := ⟨3, ![4, 512, 128]⟩
abbrev S512x128 : Shape := ⟨2, ![512, 128]⟩
abbrev S1x512x128 : Shape := ⟨3, ![1, 512, 128]⟩

abbrev nBuf : Space → Nat
  | .hbm => 2
  | .vmem => 4
  | .smem => 0
  | _ => 0

abbrev bufTy : (tb : Table) → Fin (tcTables nBuf tb) → BufTy
  | .hbm, ⟨0, _⟩ => ⟨S4x48640x128, .bf16⟩
  | .hbm, ⟨1, _⟩ => ⟨S48640x128, .f32⟩
  | .local _ .vmem, ⟨0, _⟩ => ⟨S4x512x128, .bf16⟩
  | .local _ .vmem, ⟨1, _⟩ => ⟨S4x512x128, .bf16⟩
  | .local _ .vmem, ⟨2, _⟩ => ⟨S512x128, .f32⟩
  | .local _ .vmem, ⟨3, _⟩ => ⟨S512x128, .f32⟩
  | _, _ => ⟨S4x48640x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![95], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PiecesReferenceIdeal.lean ====
abbrev S4x48640x128 : Shape := ⟨3, ![4, 48640, 128]⟩
abbrev S_ : Shape := ⟨0, ![]⟩
abbrev S48640x128 : Shape := ⟨2, ![48640, 128]⟩

abbrev nBuf : Space → Nat
  | .hbm => 4
  | .vmem => 0
  | .smem => 0
  | _ => 0

abbrev bufTy : (tb : Table) → Fin (tcTables nBuf tb) → BufTy
  | .hbm, ⟨0, _⟩ => ⟨S4x48640x128, .bf16⟩
  | .hbm, ⟨1, _⟩ => ⟨S4x48640x128, .f32⟩
  | .hbm, ⟨2, _⟩ => ⟨S_, .f32⟩
  | .hbm, ⟨3, _⟩ => ⟨S48640x128, .f32⟩
  | _, _ => ⟨S4x48640x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdamIn.lean ====
abbrev S1x2048x1288 : Shape := ⟨3, ![1, 2048, 1288]⟩
abbrev S2048x1288 : Shape := ⟨2, ![2048, 1288]⟩
abbrev S1x256x1288 : Shape := ⟨3, ![1, 256, 1288]⟩
abbrev S256x1288 : Shape := ⟨2, ![256, 1288]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1288, .f32⟩
  | .hbm, ⟨1, _⟩ => ⟨S2048x1288, .f32⟩
  | .hbm, ⟨2, _⟩ => ⟨S2048x1288, .f32⟩
  | .hbm, ⟨3, _⟩ => ⟨S2048x1288, .f32⟩
  | .hbm, ⟨4, _⟩ => ⟨S2048x1288, .f32⟩
  | .hbm, ⟨5, _⟩ => ⟨S2048x1288, .f32⟩
  | .hbm, ⟨6, _⟩ => ⟨S2048x1288, .f32⟩
  | .hbm, ⟨7, _⟩ => ⟨S2048x1288, .f32⟩
  | .local _ .vmem, ⟨0, _⟩ => ⟨S1x256x1288, .f32⟩
  | .local _ .vmem, ⟨1, _⟩ => ⟨S1x256x1288, .f32⟩
  | .local _ .vmem, ⟨2, _⟩ => ⟨S256x1288, .f32⟩
  | .local _ .vmem, ⟨3, _⟩ => ⟨S256x1288, .f32⟩
  | .local _ .vmem, ⟨4, _⟩ => ⟨S256x1288, .f32⟩
  | .local _ .vmem, ⟨5, _⟩ => ⟨S256x1288, .f32⟩
  | .local _ .vmem, ⟨6, _⟩ => ⟨S256x1288, .f32⟩
  | .local _ .vmem, ⟨7, _⟩ => ⟨S256x1288, .f32⟩
  | .local _ .vmem, ⟨8, _⟩ => ⟨S256x1288, .f32⟩
  | .local _ .vmem, ⟨9, _⟩ => ⟨S256x1288, .f32⟩
  | .local _ .vmem, ⟨10, _⟩ => ⟨S256x1288, .f32⟩
  | .local _ .vmem, ⟨11, _⟩ => ⟨S256x1288, .f32⟩
  | .local _ .vmem, ⟨12, _⟩ => ⟨S256x1288, .f32⟩
  | .local _ .vmem, ⟨13, _⟩ => ⟨S256x1288, .f32⟩
  | .local _ .vmem, ⟨14, _⟩ => ⟨S256x1288, .f32⟩
  | .local _ .vmem, ⟨15, _⟩ => ⟨S256x1288, .f32⟩
  | _, _ => ⟨S1x2048x1288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1288 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S1x2048x1288 : Shape := ⟨3, ![1, 2048, 1288]⟩
abbrev S2048x1288 : Shape := ⟨2, ![2048, 1288]⟩
abbrev S1x256x1288 : Shape := ⟨3, ![1, 256, 1288]⟩
abbrev S256x1288 : Shape := ⟨2, ![256, 1288]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1288, .f32⟩
  | .hbm, ⟨1, _⟩ => ⟨S2048x1288, .f32⟩
  | .hbm, ⟨2, _⟩ => ⟨S2048x1288, .f32⟩
  | .hbm, ⟨3, _⟩ => ⟨S2048x1288, .f32⟩
  | .hbm, ⟨4, _⟩ => ⟨S2048x1288, .f32⟩
  | .hbm, ⟨5, _⟩ => ⟨S2048x1288, .f32⟩
  | .hbm, ⟨6, _⟩ => ⟨S2048x1288, .f32⟩
  | .hbm, ⟨7, _⟩ => ⟨S2048x1288, .f32⟩
  | .local _ .vmem, ⟨0, _⟩ => ⟨S1x256x1288, .f32⟩
  | .local _ .vmem, ⟨1, _⟩ => ⟨S1x256x1288, .f32⟩
  | .local _ .vmem, ⟨2, _⟩ => ⟨S256x1288, .f32⟩
  | .local _ .vmem, ⟨3, _⟩ => ⟨S256x1288, .f32⟩
  | .local _ .vmem, ⟨4, _⟩ => ⟨S256x1288, .f32⟩
  | .local _ .vmem, ⟨5, _⟩ => ⟨S256x1288, .f32⟩
  | .local _ .vmem, ⟨6, _⟩ => ⟨S256x1288, .f32⟩
  | .local _ .vmem, ⟨7, _⟩ => ⟨S256x1288, .f32⟩
  | .local _ .vmem, ⟨8, _⟩ => ⟨S256x1288, .f32⟩
  | .local _ .vmem, ⟨9, _⟩ => ⟨S256x1288, .f32⟩
  | .local _ .vmem, ⟨10, _⟩ => ⟨S256x1288, .f32⟩
  | .local _ .vmem, ⟨11, _⟩ => ⟨S256x1288, .f32⟩
  | .local _ .vmem, ⟨12, _⟩ => ⟨S256x1288, .f32⟩
  | .local _ .vmem, ⟨13, _⟩ => ⟨S256x1288, .f32⟩
  | .local _ .vmem, ⟨14, _⟩ => ⟨S256x1288, .f32⟩
  | .local _ .vmem, ⟨15, _⟩ => ⟨S256x1288, .f32⟩
  | _, _ => ⟨S1x2048x1288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1288 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInReferenceIdeal.lean ====
abbrev S1x2048x1288 : Shape := ⟨3, ![1, 2048, 1288]⟩
abbrev S2048x1288 : Shape := ⟨2, ![2048, 1288]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2048x1288, .f32⟩
  | .hbm, ⟨1, _⟩ => ⟨S2048x1288, .f32⟩
  | .hbm, ⟨2, _⟩ => ⟨S2048x1288, .f32⟩
  | .hbm, ⟨3, _⟩ => ⟨S2048x1288, .f32⟩
  | .hbm, ⟨4, _⟩ => ⟨S2048x1288, .f32⟩
  | .hbm, ⟨5, _⟩ => ⟨S_, .f32⟩
  | .hbm, ⟨6, _⟩ => ⟨S2048x1288, .f32⟩
  | .hbm, ⟨7, _⟩ => ⟨S2048x1288, .f32⟩
  | .hbm, ⟨8, _⟩ => ⟨S_, .f32⟩
  | .hbm, ⟨9, _⟩ => ⟨S2048x1288, .f32⟩
  | .hbm, ⟨10, _⟩ => ⟨S2048x1288, .f32⟩
  | .hbm, ⟨11, _⟩ => ⟨S2048x1288, .f32⟩
  | .hbm, ⟨12, _⟩ => ⟨S_, .f32⟩
  | .hbm, ⟨13, _⟩ => ⟨S2048x1288, .f32⟩
  | .hbm, ⟨14, _⟩ => ⟨S2048x1288, .f32⟩
  | .hbm, ⟨15, _⟩ => ⟨S2048x1288, .f32⟩
  | .hbm, ⟨16, _⟩ => ⟨S_, .f32⟩
  | .hbm, ⟨17, _⟩ => ⟨S2048x1288, .f32⟩
  | .hbm, ⟨18, _⟩ => ⟨S2048x1288, .f32⟩
  | .hbm, ⟨19, _⟩ => ⟨S2048x1288, .f32⟩
  | .hbm, ⟨20, _⟩ => ⟨S_, .f32⟩
  | .hbm, ⟨21, _⟩ => ⟨S2048x1288, .f32⟩
  | .hbm, ⟨22, _⟩ => ⟨S2048x1288, .f32⟩
  | .hbm, ⟨23, _⟩ => ⟨S_, .f32⟩
  | .hbm, ⟨24, _⟩ => ⟨S2048x1288, .f32⟩
  | .hbm, ⟨25, _⟩ => ⟨S2048x1288, .f32⟩
  | .hbm, ⟨26, _⟩ => ⟨S2048x1288, .f32⟩
  | .hbm, ⟨27, _⟩ => ⟨S_, .f32⟩
  | .hbm, ⟨28, _⟩ => ⟨S2048x1288, .f32⟩
  | .hbm, ⟨29, _⟩ => ⟨S2048x1288, .f32⟩
  | .hbm, ⟨30, _⟩ => ⟨S2048x1288, .f32⟩
  | .hbm, ⟨31, _⟩ => ⟨S_, .f32⟩
  | .hbm, ⟨32, _⟩ => ⟨S2048x1288, .f32⟩
  | .hbm, ⟨33, _⟩ => ⟨S2048x1288, .f32⟩
  | .hbm, ⟨34, _⟩ => ⟨S2048x1288, .f32⟩
  | .hbm, ⟨35, _⟩ => ⟨S_, .f32⟩
  | .hbm, ⟨36, _⟩ => ⟨S2048x1288, .f32⟩
  | .hbm, ⟨37, _⟩ => ⟨S2048x1288, .f32⟩
  | _, _ => ⟨S1x2048x1288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamConvA.lean ====
abbrev S1x62x128 : Shape := ⟨3, ![1, 62, 128]⟩
abbrev S62x128 : Shape := ⟨2, ![62, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x62x128, .f32⟩
  | .hbm, ⟨1, _⟩ => ⟨S62x128, .f32⟩
  | .hbm, ⟨2, _⟩ => ⟨S62x128, .f32⟩
  | .hbm, ⟨3, _⟩ => ⟨S62x128, .f32⟩
  | .hbm, ⟨4, _⟩ => ⟨S62x128, .f32⟩
  | .hbm, ⟨5, _⟩ => ⟨S62x128, .f32⟩
  | .hbm, ⟨6, _⟩ => ⟨S62x128, .f32⟩
  | .hbm, ⟨7, _⟩ => ⟨S62x128, .f32⟩
  | .local _ .vmem, ⟨0, _⟩ => ⟨S1x62x128, .f32⟩
  | .local _ .vmem, ⟨1, _⟩ => ⟨S62x128, .f32⟩
  | .local _ .vmem, ⟨2, _⟩ => ⟨S62x128, .f32⟩
  | .local _ .vmem, ⟨3, _⟩ => ⟨S62x128, .f32⟩
  | .local _ .vmem, ⟨4, _⟩ => ⟨S62x128, .f32⟩
  | .local _ .vmem, ⟨5, _⟩ => ⟨S62x128, .f32⟩
  | .local _ .vmem, ⟨6, _⟩ => ⟨S62x128, .f32⟩
  | .local _ .vmem, ⟨7, _⟩ => ⟨S62x128, .f32⟩
  | _, _ => ⟨S1x62x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x62x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S62x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvAIdeal.lean ====
abbrev S1x62x128 : Shape := ⟨3, ![1, 62, 128]⟩
abbrev S62x128 : Shape := ⟨2, ![62, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x62x128, .f32⟩
  | .hbm, ⟨1, _⟩ => ⟨S62x128, .f32⟩
  | .hbm, ⟨2, _⟩ => ⟨S62x128, .f32⟩
  | .hbm, ⟨3, _⟩ => ⟨S62x128, .f32⟩
  | .hbm, ⟨4, _⟩ => ⟨S62x128, .f32⟩
  | .hbm, ⟨5, _⟩ => ⟨S62x128, .f32⟩
  | .hbm, ⟨6, _⟩ => ⟨S62x128, .f32⟩
  | .hbm, ⟨7, _⟩ => ⟨S62x128, .f32⟩
  | .local _ .vmem, ⟨0, _⟩ => ⟨S1x62x128, .f32⟩
  | .local _ .vmem, ⟨1, _⟩ => ⟨S62x128, .f32⟩
  | .local _ .vmem, ⟨2, _⟩ => ⟨S62x128, .f32⟩
  | .local _ .vmem, ⟨3, _⟩ => ⟨S62x128, .f32⟩
  | .local _ .vmem, ⟨4, _⟩ => ⟨S62x128, .f32⟩
  | .local _ .vmem, ⟨5, _⟩ => ⟨S62x128, .f32⟩
  | .local _ .vmem, ⟨6, _⟩ => ⟨S62x128, .f32⟩
  | .local _ .vmem, ⟨7, _⟩ => ⟨S62x128, .f32⟩
  | _, _ => ⟨S1x62x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x62x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S62x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvAReferenceIdeal.lean ====
abbrev S1x62x128 : Shape := ⟨3, ![1, 62, 128]⟩
abbrev S62x128 : Shape := ⟨2, ![62, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x62x128, .f32⟩
  | .hbm, ⟨1, _⟩ => ⟨S62x128, .f32⟩
  | .hbm, ⟨2, _⟩ => ⟨S62x128, .f32⟩
  | .hbm, ⟨3, _⟩ => ⟨S62x128, .f32⟩
  | .hbm, ⟨4, _⟩ => ⟨S62x128, .f32⟩
  | .hbm, ⟨5, _⟩ => ⟨S_, .f32⟩
  | .hbm, ⟨6, _⟩ => ⟨S62x128, .f32⟩
  | .hbm, ⟨7, _⟩ => ⟨S62x128, .f32⟩
  | .hbm, ⟨8, _⟩ => ⟨S_, .f32⟩
  | .hbm, ⟨9, _⟩ => ⟨S62x128, .f32⟩
  | .hbm, ⟨10, _⟩ => ⟨S62x128, .f32⟩
  | .hbm, ⟨11, _⟩ => ⟨S62x128, .f32⟩
  | .hbm, ⟨12, _⟩ => ⟨S_, .f32⟩
  | .hbm, ⟨13, _⟩ => ⟨S62x128, .f32⟩
  | .hbm, ⟨14, _⟩ => ⟨S62x128, .f32⟩
  | .hbm, ⟨15, _⟩ => ⟨S62x128, .f32⟩
  | .hbm, ⟨16, _⟩ => ⟨S_, .f32⟩
  | .hbm, ⟨17, _⟩ => ⟨S62x128, .f32⟩
  | .hbm, ⟨18, _⟩ => ⟨S62x128, .f32⟩
  | .hbm, ⟨19, _⟩ => ⟨S62x128, .f32⟩
  | .hbm, ⟨20, _⟩ => ⟨S_, .f32⟩
  | .hbm, ⟨21, _⟩ => ⟨S62x128, .f32⟩
  | .hbm, ⟨22, _⟩ => ⟨S62x128, .f32⟩
  | .hbm, ⟨23, _⟩ => ⟨S_, .f32⟩
  | .hbm, ⟨24, _⟩ => ⟨S62x128, .f32⟩
  | .hbm, ⟨25, _⟩ => ⟨S62x128, .f32⟩
  | .hbm, ⟨26, _⟩ => ⟨S62x128, .f32⟩
  | .hbm, ⟨27, _⟩ => ⟨S_, .f32⟩
  | .hbm, ⟨28, _⟩ => ⟨S62x128, .f32⟩
  | .hbm, ⟨29, _⟩ => ⟨S62x128, .f32⟩
  | .hbm, ⟨30, _⟩ => ⟨S62x128, .f32⟩
  | .hbm, ⟨31, _⟩ => ⟨S_, .f32⟩
  | .hbm, ⟨32, _⟩ => ⟨S62x128, .f32⟩
  | .hbm, ⟨33, _⟩ => ⟨S62x128, .f32⟩
  | .hbm, ⟨34, _⟩ => ⟨S62x128, .f32⟩
  | .hbm, ⟨35, _⟩ => ⟨S_, .f32⟩
  | .hbm, ⟨36, _⟩ => ⟨S62x128, .f32⟩
  | .hbm, ⟨37, _⟩ => ⟨S62x128, .f32⟩
  | _, _ => ⟨S1x62x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamOut.lean ====
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S1x256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutIdeal.lean ====
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S1x256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutReferenceIdeal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S_, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamSsmConv.lean ====
abbrev S1x10x512 : Shape := ⟨3, ![1, 10, 512]⟩
abbrev S10x512 : Shape := ⟨2, ![10, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x10x512, .f32⟩
  | .hbm, ⟨1, _⟩ => ⟨S10x512, .f32⟩
  | .hbm, ⟨2, _⟩ => ⟨S10x512, .f32⟩
  | .hbm, ⟨3, _⟩ => ⟨S10x512, .f32⟩
  | .hbm, ⟨4, _⟩ => ⟨S10x512, .f32⟩
  | .hbm, ⟨5, _⟩ => ⟨S10x512, .f32⟩
  | .hbm, ⟨6, _⟩ => ⟨S10x512, .f32⟩
  | .hbm, ⟨7, _⟩ => ⟨S10x512, .f32⟩
  | .local _ .vmem, ⟨0, _⟩ => ⟨S1x10x512, .f32⟩
  | .local _ .vmem, ⟨1, _⟩ => ⟨S10x512, .f32⟩
  | .local _ .vmem, ⟨2, _⟩ => ⟨S10x512, .f32⟩
  | .local _ .vmem, ⟨3, _⟩ => ⟨S10x512, .f32⟩
  | .local _ .vmem, ⟨4, _⟩ => ⟨S10x512, .f32⟩
  | .local _ .vmem, ⟨5, _⟩ => ⟨S10x512, .f32⟩
  | .local _ .vmem, ⟨6, _⟩ => ⟨S10x512, .f32⟩
  | .local _ .vmem, ⟨7, _⟩ => ⟨S10x512, .f32⟩
  | _, _ => ⟨S1x10x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x10x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S10x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S10x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S10x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S10x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S10x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S10x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S10x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSsmConvIdeal.lean ====
abbrev S1x10x512 : Shape := ⟨3, ![1, 10, 512]⟩
abbrev S10x512 : Shape := ⟨2, ![10, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x10x512, .f32⟩
  | .hbm, ⟨1, _⟩ => ⟨S10x512, .f32⟩
  | .hbm, ⟨2, _⟩ => ⟨S10x512, .f32⟩
  | .hbm, ⟨3, _⟩ => ⟨S10x512, .f32⟩
  | .hbm, ⟨4, _⟩ => ⟨S10x512, .f32⟩
  | .hbm, ⟨5, _⟩ => ⟨S10x512, .f32⟩
  | .hbm, ⟨6, _⟩ => ⟨S10x512, .f32⟩
  | .hbm, ⟨7, _⟩ => ⟨S10x512, .f32⟩
  | .local _ .vmem, ⟨0, _⟩ => ⟨S1x10x512, .f32⟩
  | .local _ .vmem, ⟨1, _⟩ => ⟨S10x512, .f32⟩
  | .local _ .vmem, ⟨2, _⟩ => ⟨S10x512, .f32⟩
  | .local _ .vmem, ⟨3, _⟩ => ⟨S10x512, .f32⟩
  | .local _ .vmem, ⟨4, _⟩ => ⟨S10x512, .f32⟩
  | .local _ .vmem, ⟨5, _⟩ => ⟨S10x512, .f32⟩
  | .local _ .vmem, ⟨6, _⟩ => ⟨S10x512, .f32⟩
  | .local _ .vmem, ⟨7, _⟩ => ⟨S10x512, .f32⟩
  | _, _ => ⟨S1x10x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x10x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S10x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S10x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S10x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S10x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S10x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S10x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S10x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSsmConvReferenceIdeal.lean ====
abbrev S1x10x512 : Shape := ⟨3, ![1, 10, 512]⟩
abbrev S10x512 : Shape := ⟨2, ![10, 512]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x10x512, .f32⟩
  | .hbm, ⟨1, _⟩ => ⟨S10x512, .f32⟩
  | .hbm, ⟨2, _⟩ => ⟨S10x512, .f32⟩
  | .hbm, ⟨3, _⟩ => ⟨S10x512, .f32⟩
  | .hbm, ⟨4, _⟩ => ⟨S10x512, .f32⟩
  | .hbm, ⟨5, _⟩ => ⟨S_, .f32⟩
  | .hbm, ⟨6, _⟩ => ⟨S10x512, .f32⟩
  | .hbm, ⟨7, _⟩ => ⟨S10x512, .f32⟩
  | .hbm, ⟨8, _⟩ => ⟨S_, .f32⟩
  | .hbm, ⟨9, _⟩ => ⟨S10x512, .f32⟩
  | .hbm, ⟨10, _⟩ => ⟨S10x512, .f32⟩
  | .hbm, ⟨11, _⟩ => ⟨S10x512, .f32⟩
  | .hbm, ⟨12, _⟩ => ⟨S_, .f32⟩
  | .hbm, ⟨13, _⟩ => ⟨S10x512, .f32⟩
  | .hbm, ⟨14, _⟩ => ⟨S10x512, .f32⟩
  | .hbm, ⟨15, _⟩ => ⟨S10x512, .f32⟩
  | .hbm, ⟨16, _⟩ => ⟨S_, .f32⟩
  | .hbm, ⟨17, _⟩ => ⟨S10x512, .f32⟩
  | .hbm, ⟨18, _⟩ => ⟨S10x512, .f32⟩
  | .hbm, ⟨19, _⟩ => ⟨S10x512, .f32⟩
  | .hbm, ⟨20, _⟩ => ⟨S_, .f32⟩
  | .hbm, ⟨21, _⟩ => ⟨S10x512, .f32⟩
  | .hbm, ⟨22, _⟩ => ⟨S10x512, .f32⟩
  | .hbm, ⟨23, _⟩ => ⟨S_, .f32⟩
  | .hbm, ⟨24, _⟩ => ⟨S10x512, .f32⟩
  | .hbm, ⟨25, _⟩ => ⟨S10x512, .f32⟩
  | .hbm, ⟨26, _⟩ => ⟨S10x512, .f32⟩
  | .hbm, ⟨27, _⟩ => ⟨S_, .f32⟩
  | .hbm, ⟨28, _⟩ => ⟨S10x512, .f32⟩
  | .hbm, ⟨29, _⟩ => ⟨S10x512, .f32⟩
  | .hbm, ⟨30, _⟩ => ⟨S10x512, .f32⟩
  | .hbm, ⟨31, _⟩ => ⟨S_, .f32⟩
  | .hbm, ⟨32, _⟩ => ⟨S10x512, .f32⟩
  | .hbm, ⟨33, _⟩ => ⟨S10x512, .f32⟩
  | .hbm, ⟨34, _⟩ => ⟨S10x512, .f32⟩
  | .hbm, ⟨35, _⟩ => ⟨S_, .f32⟩
  | .hbm, ⟨36, _⟩ => ⟨S10x512, .f32⟩
  | .hbm, ⟨37, _⟩ => ⟨S10x512, .f32⟩
  | _, _ => ⟨S1x10x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamBOut.lean ====
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBOutIdeal.lean ====
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBOutReferenceIdeal.lean ====
abbrev S1x512x1024 : Shape := ⟨3, ![1, 512, 1024]⟩
abbrev S512x1024 : Shape := ⟨2, ![512, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S_, .f32⟩
  | .hbm, ⟨6, _⟩ => ⟨S512x1024, .f32⟩
  | .hbm, ⟨7, _⟩ => ⟨S512x1024, .f32⟩
  | .hbm, ⟨8, _⟩ => ⟨S_, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S_, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S_, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S_, .f32⟩
  | .hbm, ⟨32, _⟩ => ⟨S512x1024, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamGateUp.lean ====
abbrev S1x2048x704 : Shape := ⟨3, ![1, 2048, 704]⟩
abbrev S2048x704 : Shape := ⟨2, ![2048, 704]⟩
abbrev S1x256x704 : Shape := ⟨3, ![1, 256, 704]⟩
abbrev S256x704 : Shape := ⟨2, ![256, 704]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S1x256x704, .f32⟩
  | .local _ .vmem, ⟨1, _⟩ => ⟨S1x256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S1x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateUpIdeal.lean ====
abbrev S1x2048x704 : Shape := ⟨3, ![1, 2048, 704]⟩
abbrev S2048x704 : Shape := ⟨2, ![2048, 704]⟩
abbrev S1x256x704 : Shape := ⟨3, ![1, 256, 704]⟩
abbrev S256x704 : Shape := ⟨2, ![256, 704]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S1x256x704, .f32⟩
  | .local _ .vmem, ⟨1, _⟩ => ⟨S1x256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S1x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateUpReferenceIdeal.lean ====
abbrev S1x2048x704 : Shape := ⟨3, ![1, 2048, 704]⟩
abbrev S2048x704 : Shape := ⟨2, ![2048, 704]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S_, .f32⟩
  | .hbm, ⟨6, _⟩ => ⟨S2048x704, .f32⟩
  | .hbm, ⟨7, _⟩ => ⟨S2048x704, .f32⟩
  | .hbm, ⟨8, _⟩ => ⟨S_, .f32⟩
  | .hbm, ⟨9, _⟩ => ⟨S2048x704, .f32⟩
  | .hbm, ⟨10, _⟩ => ⟨S2048x704, .f32⟩
  | .hbm, ⟨11, _⟩ => ⟨S2048x704, .f32⟩
  | .hbm, ⟨12, _⟩ => ⟨S_, .f32⟩
  | .hbm, ⟨13, _⟩ => ⟨S2048x704, .f32⟩
  | .hbm, ⟨14, _⟩ => ⟨S2048x704, .f32⟩
  | .hbm, ⟨15, _⟩ => ⟨S2048x704, .f32⟩
  | .hbm, ⟨16, _⟩ => ⟨S_, .f32⟩
  | .hbm, ⟨17, _⟩ => ⟨S2048x704, .f32⟩
  | .hbm, ⟨18, _⟩ => ⟨S2048x704, .f32⟩
  | .hbm, ⟨19, _⟩ => ⟨S2048x704, .f32⟩
  | .hbm, ⟨20, _⟩ => ⟨S_, .f32⟩
  | .hbm, ⟨21, _⟩ => ⟨S2048x704, .f32⟩
  | .hbm, ⟨22, _⟩ => ⟨S2048x704, .f32⟩
  | .hbm, ⟨23, _⟩ => ⟨S_, .f32⟩
  | .hbm, ⟨24, _⟩ => ⟨S2048x704, .f32⟩
  | .hbm, ⟨25, _⟩ => ⟨S2048x704, .f32⟩
  | .hbm, ⟨26, _⟩ => ⟨S2048x704, .f32⟩
  | .hbm, ⟨27, _⟩ => ⟨S_, .f32⟩
  | .hbm, ⟨28, _⟩ => ⟨S2048x704, .f32⟩
  | .hbm, ⟨29, _⟩ => ⟨S2048x704, .f32⟩
  | .hbm, ⟨30, _⟩ => ⟨S2048x704, .f32⟩
  | .hbm, ⟨31, _⟩ => ⟨S_, .f32⟩
  | .hbm, ⟨32, _⟩ => ⟨S2048x704, .f32⟩
  | .hbm, ⟨33, _⟩ => ⟨S2048x704, .f32⟩
  | .hbm, ⟨34, _⟩ => ⟨S2048x704, .f32⟩
  | .hbm, ⟨35, _⟩ => ⟨S_, .f32⟩
  | .hbm, ⟨36, _⟩ => ⟨S2048x704, .f32⟩
  | .hbm, ⟨37, _⟩ => ⟨S2048x704, .f32⟩
  | _, _ => ⟨S1x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamDown.lean ====
abbrev S1x704x1024 : Shape := ⟨3, ![1, 704, 1024]⟩
abbrev S704x1024 : Shape := ⟨2, ![704, 1024]⟩
abbrev S1x176x1024 : Shape := ⟨3, ![1, 176, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S1x176x1024, .f32⟩
  | .local _ .vmem, ⟨1, _⟩ => ⟨S1x176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S1x704x1024 : Shape := ⟨3, ![1, 704, 1024]⟩
abbrev S704x1024 : Shape := ⟨2, ![704, 1024]⟩
abbrev S1x176x1024 : Shape := ⟨3, ![1, 176, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S1x176x1024, .f32⟩
  | .local _ .vmem, ⟨1, _⟩ => ⟨S1x176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownReferenceIdeal.lean ====
abbrev S1x704x1024 : Shape := ⟨3, ![1, 704, 1024]⟩
abbrev S704x1024 : Shape := ⟨2, ![704, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S_, .f32⟩
  | .hbm, ⟨6, _⟩ => ⟨S704x1024, .f32⟩
  | .hbm, ⟨7, _⟩ => ⟨S704x1024, .f32⟩
  | .hbm, ⟨8, _⟩ => ⟨S_, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S_, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S_, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S_, .f32⟩
  | .hbm, ⟨36, _⟩ => ⟨S704x1024, .f32⟩
  | .hbm, ⟨37, _⟩ => ⟨S704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamPle.lean ====
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S1x256x128, .f32⟩
  | .local _ .vmem, ⟨1, _⟩ => ⟨S1x256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S1x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamPleIdeal.lean ====
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S1x256x128, .f32⟩
  | .local _ .vmem, ⟨1, _⟩ => ⟨S1x256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S1x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamPleReferenceIdeal.lean ====
abbrev S1x512x128 : Shape := ⟨3, ![1, 512, 128]⟩
abbrev S512x128 : Shape := ⟨2, ![512, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S_, .f32⟩
  | .hbm, ⟨6, _⟩ => ⟨S512x128, .f32⟩
  | .hbm, ⟨7, _⟩ => ⟨S512x128, .f32⟩
  | .hbm, ⟨8, _⟩ => ⟨S_, .f32⟩
  | .hbm, ⟨9, _⟩ => ⟨S512x128, .f32⟩
  | .hbm, ⟨10, _⟩ => ⟨S512x128, .f32⟩
  | .hbm, ⟨11, _⟩ => ⟨S512x128, .f32⟩
  | .hbm, ⟨12, _⟩ => ⟨S_, .f32⟩
  | .hbm, ⟨13, _⟩ => ⟨S512x128, .f32⟩
  | .hbm, ⟨14, _⟩ => ⟨S512x128, .f32⟩
  | .hbm, ⟨15, _⟩ => ⟨S512x128, .f32⟩
  | .hbm, ⟨16, _⟩ => ⟨S_, .f32⟩
  | .hbm, ⟨17, _⟩ => ⟨S512x128, .f32⟩
  | .hbm, ⟨18, _⟩ => ⟨S512x128, .f32⟩
  | .hbm, ⟨19, _⟩ => ⟨S512x128, .f32⟩
  | .hbm, ⟨20, _⟩ => ⟨S_, .f32⟩
  | .hbm, ⟨21, _⟩ => ⟨S512x128, .f32⟩
  | .hbm, ⟨22, _⟩ => ⟨S512x128, .f32⟩
  | .hbm, ⟨23, _⟩ => ⟨S_, .f32⟩
  | .hbm, ⟨24, _⟩ => ⟨S512x128, .f32⟩
  | .hbm, ⟨25, _⟩ => ⟨S512x128, .f32⟩
  | .hbm, ⟨26, _⟩ => ⟨S512x128, .f32⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S512x128, .f32⟩
  | .hbm, ⟨31, _⟩ => ⟨S_, .f32⟩
  | .hbm, ⟨32, _⟩ => ⟨S512x128, .f32⟩
  | .hbm, ⟨33, _⟩ => ⟨S512x128, .f32⟩
  | .hbm, ⟨34, _⟩ => ⟨S512x128, .f32⟩
  | .hbm, ⟨35, _⟩ => ⟨S_, .f32⟩
  | .hbm, ⟨36, _⟩ => ⟨S512x128, .f32⟩
  | .hbm, ⟨37, _⟩ => ⟨S512x128, .f32⟩
  | _, _ => ⟨S1x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamSmalls.lean ====
abbrev S8x232x128 : Shape := ⟨3, ![8, 232, 128]⟩
abbrev S232x128 : Shape := ⟨2, ![232, 128]⟩
abbrev S1x232x128 : Shape := ⟨3, ![1, 232, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x232x128, .f32⟩
  | .hbm, ⟨1, _⟩ => ⟨S232x128, .f32⟩
  | .hbm, ⟨2, _⟩ => ⟨S232x128, .f32⟩
  | .hbm, ⟨3, _⟩ => ⟨S232x128, .f32⟩
  | .hbm, ⟨4, _⟩ => ⟨S232x128, .f32⟩
  | .hbm, ⟨5, _⟩ => ⟨S232x128, .f32⟩
  | .hbm, ⟨6, _⟩ => ⟨S232x128, .f32⟩
  | .hbm, ⟨7, _⟩ => ⟨S232x128, .f32⟩
  | .local _ .vmem, ⟨0, _⟩ => ⟨S8x232x128, .f32⟩
  | .local _ .vmem, ⟨1, _⟩ => ⟨S232x128, .f32⟩
  | .local _ .vmem, ⟨2, _⟩ => ⟨S232x128, .f32⟩
  | .local _ .vmem, ⟨3, _⟩ => ⟨S232x128, .f32⟩
  | .local _ .vmem, ⟨4, _⟩ => ⟨S232x128, .f32⟩
  | .local _ .vmem, ⟨5, _⟩ => ⟨S232x128, .f32⟩
  | .local _ .vmem, ⟨6, _⟩ => ⟨S232x128, .f32⟩
  | .local _ .vmem, ⟨7, _⟩ => ⟨S232x128, .f32⟩
  | _, _ => ⟨S8x232x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x232x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S232x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S232x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S232x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S232x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S232x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S232x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S232x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallsIdeal.lean ====
abbrev S8x232x128 : Shape := ⟨3, ![8, 232, 128]⟩
abbrev S232x128 : Shape := ⟨2, ![232, 128]⟩
abbrev S1x232x128 : Shape := ⟨3, ![1, 232, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x232x128, .f32⟩
  | .hbm, ⟨1, _⟩ => ⟨S232x128, .f32⟩
  | .hbm, ⟨2, _⟩ => ⟨S232x128, .f32⟩
  | .hbm, ⟨3, _⟩ => ⟨S232x128, .f32⟩
  | .hbm, ⟨4, _⟩ => ⟨S232x128, .f32⟩
  | .hbm, ⟨5, _⟩ => ⟨S232x128, .f32⟩
  | .hbm, ⟨6, _⟩ => ⟨S232x128, .f32⟩
  | .hbm, ⟨7, _⟩ => ⟨S232x128, .f32⟩
  | .local _ .vmem, ⟨0, _⟩ => ⟨S8x232x128, .f32⟩
  | .local _ .vmem, ⟨1, _⟩ => ⟨S232x128, .f32⟩
  | .local _ .vmem, ⟨2, _⟩ => ⟨S232x128, .f32⟩
  | .local _ .vmem, ⟨3, _⟩ => ⟨S232x128, .f32⟩
  | .local _ .vmem, ⟨4, _⟩ => ⟨S232x128, .f32⟩
  | .local _ .vmem, ⟨5, _⟩ => ⟨S232x128, .f32⟩
  | .local _ .vmem, ⟨6, _⟩ => ⟨S232x128, .f32⟩
  | .local _ .vmem, ⟨7, _⟩ => ⟨S232x128, .f32⟩
  | _, _ => ⟨S8x232x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x232x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S232x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S232x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S232x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S232x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S232x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S232x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S232x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallsReferenceIdeal.lean ====
abbrev S8x232x128 : Shape := ⟨3, ![8, 232, 128]⟩
abbrev S232x128 : Shape := ⟨2, ![232, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x232x128, .f32⟩
  | .hbm, ⟨1, _⟩ => ⟨S232x128, .f32⟩
  | .hbm, ⟨2, _⟩ => ⟨S232x128, .f32⟩
  | .hbm, ⟨3, _⟩ => ⟨S232x128, .f32⟩
  | .hbm, ⟨4, _⟩ => ⟨S_, .f32⟩
  | .hbm, ⟨5, _⟩ => ⟨S232x128, .f32⟩
  | .hbm, ⟨6, _⟩ => ⟨S_, .f32⟩
  | .hbm, ⟨7, _⟩ => ⟨S232x128, .f32⟩
  | .hbm, ⟨8, _⟩ => ⟨S232x128, .f32⟩
  | .hbm, ⟨9, _⟩ => ⟨S_, .f32⟩
  | .hbm, ⟨10, _⟩ => ⟨S232x128, .f32⟩
  | .hbm, ⟨11, _⟩ => ⟨S232x128, .f32⟩
  | .hbm, ⟨12, _⟩ => ⟨S232x128, .f32⟩
  | .hbm, ⟨13, _⟩ => ⟨S_, .f32⟩
  | .hbm, ⟨14, _⟩ => ⟨S232x128, .f32⟩
  | .hbm, ⟨15, _⟩ => ⟨S232x128, .f32⟩
  | .hbm, ⟨16, _⟩ => ⟨S232x128, .f32⟩
  | .hbm, ⟨17, _⟩ => ⟨S_, .f32⟩
  | .hbm, ⟨18, _⟩ => ⟨S232x128, .f32⟩
  | .hbm, ⟨19, _⟩ => ⟨S232x128, .f32⟩
  | .hbm, ⟨20, _⟩ => ⟨S232x128, .f32⟩
  | .hbm, ⟨21, _⟩ => ⟨S_, .f32⟩
  | .hbm, ⟨22, _⟩ => ⟨S232x128, .f32⟩
  | .hbm, ⟨23, _⟩ => ⟨S232x128, .f32⟩
  | .hbm, ⟨24, _⟩ => ⟨S_, .f32⟩
  | .hbm, ⟨25, _⟩ => ⟨S232x128, .f32⟩
  | .hbm, ⟨26, _⟩ => ⟨S232x128, .f32⟩
  | .hbm, ⟨27, _⟩ => ⟨S232x128, .f32⟩
  | .hbm, ⟨28, _⟩ => ⟨S_, .f32⟩
  | .hbm, ⟨29, _⟩ => ⟨S232x128, .f32⟩
  | .hbm, ⟨30, _⟩ => ⟨S232x128, .f32⟩
  | .hbm, ⟨31, _⟩ => ⟨S232x128, .f32⟩
  | .hbm, ⟨32, _⟩ => ⟨S_, .f32⟩
  | .hbm, ⟨33, _⟩ => ⟨S232x128, .f32⟩
  | .hbm, ⟨34, _⟩ => ⟨S232x128, .f32⟩
  | .hbm, ⟨35, _⟩ => ⟨S232x128, .f32⟩
  | .hbm, ⟨36, _⟩ => ⟨S_, .f32⟩
  | .hbm, ⟨37, _⟩ => ⟨S232x128, .f32⟩
  | .hbm, ⟨38, _⟩ => ⟨S232x128, .f32⟩
  | _, _ => ⟨S8x232x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Loss.lean ====
abbrev S16384x1024 : Shape := ⟨2, ![16384, 1024]⟩
abbrev S1x1024 : Shape := ⟨2, ![1, 1024]⟩
abbrev S256x1024 : Shape := ⟨2, ![256, 1024]⟩
abbrev S1024 : Shape := ⟨1, ![1024]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S16384x1024 : Shape := ⟨2, ![16384, 1024]⟩
abbrev S_ : Shape := ⟨0, ![]⟩
abbrev S16384 : Shape := ⟨1, ![16384]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== GradX.lean ====
abbrev S16384x10368 : Shape := ⟨2, ![16384, 10368]⟩
abbrev S10368x1024 : Shape := ⟨2, ![10368, 1024]⟩
abbrev S16384x1024 : Shape := ⟨2, ![16384, 1024]⟩
abbrev S1024x3456 : Shape := ⟨2, ![1024, 3456]⟩
abbrev S3456x512 : Shape := ⟨2, ![3456, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S16384x10368, .bf16⟩
  | .hbm, ⟨1, _⟩ => ⟨S10368x1024, .bf16⟩
  | .hbm, ⟨2, _⟩ => ⟨S16384x1024, .f32⟩
  | .hbm, ⟨3, _⟩ => ⟨S16384x1024, .f32⟩
  | .local _ .vmem, ⟨0, _⟩ => ⟨S1024x3456, .bf16⟩
  | .local _ .vmem, ⟨1, _⟩ => ⟨S1024x3456, .bf16⟩
  | .local _ .vmem, ⟨2, _⟩ => ⟨S3456x512, .bf16⟩
  | .local _ .vmem, ⟨3, _⟩ => ⟨S3456x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S16384x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3456x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GradXIdeal.lean ====
abbrev S16384x10368 : Shape := ⟨2, ![16384, 10368]⟩
abbrev S10368x1024 : Shape := ⟨2, ![10368, 1024]⟩
abbrev S16384x1024 : Shape := ⟨2, ![16384, 1024]⟩
abbrev S1024x3456 : Shape := ⟨2, ![1024, 3456]⟩
abbrev S3456x512 : Shape := ⟨2, ![3456, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S16384x10368, .bf16⟩
  | .hbm, ⟨1, _⟩ => ⟨S10368x1024, .bf16⟩
  | .hbm, ⟨2, _⟩ => ⟨S16384x1024, .f32⟩
  | .hbm, ⟨3, _⟩ => ⟨S16384x1024, .f32⟩
  | .local _ .vmem, ⟨0, _⟩ => ⟨S1024x3456, .bf16⟩
  | .local _ .vmem, ⟨1, _⟩ => ⟨S1024x3456, .bf16⟩
  | .local _ .vmem, ⟨2, _⟩ => ⟨S3456x512, .bf16⟩
  | .local _ .vmem, ⟨3, _⟩ => ⟨S3456x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S16384x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3456x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GradXReferenceIdeal.lean ====
abbrev S16384x10368 : Shape := ⟨2, ![16384, 10368]⟩
abbrev S10368x1024 : Shape := ⟨2, ![10368, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x10368, .bf16⟩
  | .hbm, ⟨1, _⟩ => ⟨S10368x1024, .bf16⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== InProj.lean ====
abbrev S16384x1024 : Shape := ⟨2, ![16384, 1024]⟩
abbrev S10368x1024 : Shape := ⟨2, ![10368, 1024]⟩
abbrev S16384x10368 : Shape := ⟨2, ![16384, 10368]⟩
abbrev S1024x1024 : Shape := ⟨2, ![1024, 1024]⟩
abbrev S1152x1024 : Shape := ⟨2, ![1152, 1024]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S10368x1024, .bf16⟩
  | .hbm, ⟨2, _⟩ => ⟨S16384x10368, .bf16⟩
  | .local _ .vmem, ⟨0, _⟩ => ⟨S1024x1024, .f32⟩
  | .local _ .vmem, ⟨1, _⟩ => ⟨S1024x1024, .f32⟩
  | .local _ .vmem, ⟨2, _⟩ => ⟨S1152x1024, .bf16⟩
  | .local _ .vmem, ⟨3, _⟩ => ⟨S1152x1024, .bf16⟩
  | .local _ .vmem, ⟨4, _⟩ => ⟨S1024x1152, .bf16⟩
  | .local _ .vmem, ⟨5, _⟩ => ⟨S1024x1152, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjIdeal.lean ====
abbrev S16384x1024 : Shape := ⟨2, ![16384, 1024]⟩
abbrev S10368x1024 : Shape := ⟨2, ![10368, 1024]⟩
abbrev S16384x10368 : Shape := ⟨2, ![16384, 10368]⟩
abbrev S1024x1024 : Shape := ⟨2, ![1024, 1024]⟩
abbrev S1152x1024 : Shape := ⟨2, ![1152, 1024]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S10368x1024, .bf16⟩
  | .hbm, ⟨2, _⟩ => ⟨S16384x10368, .bf16⟩
  | .local _ .vmem, ⟨0, _⟩ => ⟨S1024x1024, .f32⟩
  | .local _ .vmem, ⟨1, _⟩ => ⟨S1024x1024, .f32⟩
  | .local _ .vmem, ⟨2, _⟩ => ⟨S1152x1024, .bf16⟩
  | .local _ .vmem, ⟨3, _⟩ => ⟨S1152x1024, .bf16⟩
  | .local _ .vmem, ⟨4, _⟩ => ⟨S1024x1152, .bf16⟩
  | .local _ .vmem, ⟨5, _⟩ => ⟨S1024x1152, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjReferenceIdeal.lean ====
abbrev S16384x1024 : Shape := ⟨2, ![16384, 1024]⟩
abbrev S10368x1024 : Shape := ⟨2, ![10368, 1024]⟩
abbrev S1024x10368 : Shape := ⟨2, ![1024, 10368]⟩
abbrev S16384x10368 : Shape := ⟨2, ![16384, 10368]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S10368x1024, .bf16⟩
  | .hbm, ⟨2, _⟩ => ⟨S1024x10368, .bf16⟩
  | .hbm, ⟨3, _⟩ => ⟨S16384x10368, .f32⟩
  | .hbm, ⟨4, _⟩ => ⟨S16384x10368, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DtProj.lean ====
abbrev S16384x1024 : Shape := ⟨2, ![16384, 1024]⟩
abbrev S128x1024 : Shape := ⟨2, ![128, 1024]⟩
abbrev S16384x128 : Shape := ⟨2, ![16384, 128]⟩
abbrev S1024x1024 : Shape := ⟨2, ![1024, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S128x1024, .bf16⟩
  | .hbm, ⟨2, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DtProjIdeal.lean ====
abbrev S16384x1024 : Shape := ⟨2, ![16384, 1024]⟩
abbrev S128x1024 : Shape := ⟨2, ![128, 1024]⟩
abbrev S16384x128 : Shape := ⟨2, ![16384, 128]⟩
abbrev S1024x1024 : Shape := ⟨2, ![1024, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S128x1024, .bf16⟩
  | .hbm, ⟨2, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DtProjReferenceIdeal.lean ====
abbrev S16384x1024 : Shape := ⟨2, ![16384, 1024]⟩
abbrev S128x1024 : Shape := ⟨2, ![128, 1024]⟩
abbrev S1024x128 : Shape := ⟨2, ![1024, 128]⟩
abbrev S16384x128 : Shape := ⟨2, ![16384, 128]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S128x1024, .bf16⟩
  | .hbm, ⟨2, _⟩ => ⟨S1024x128, .bf16⟩
  | .hbm, ⟨3, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AOut.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AOutIdeal.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AOutReferenceIdeal.lean ====
abbrev S16384x1024 : Shape := ⟨2, ![16384, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BOut.lean ====
abbrev S16384x2048 : Shape := ⟨2, ![16384, 2048]⟩
abbrev S2048x1024 : Shape := ⟨2, ![2048, 1024]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BOutIdeal.lean ====
abbrev S16384x2048 : Shape := ⟨2, ![16384, 2048]⟩
abbrev S2048x1024 : Shape := ⟨2, ![2048, 1024]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BOutReferenceIdeal.lean ====
abbrev S16384x2048 : Shape := ⟨2, ![16384, 2048]⟩
abbrev S2048x1024 : Shape := ⟨2, ![2048, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GateUp.lean ====
abbrev S16384x1024 : Shape := ⟨2, ![16384, 1024]⟩
abbrev S5632x1024 : Shape := ⟨2, ![5632, 1024]⟩
abbrev S16384x5632 : Shape := ⟨2, ![16384, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S5632x1024, .bf16⟩
  | .hbm, ⟨2, _⟩ => ⟨S16384x5632, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpIdeal.lean ====
abbrev S16384x1024 : Shape := ⟨2, ![16384, 1024]⟩
abbrev S5632x1024 : Shape := ⟨2, ![5632, 1024]⟩
abbrev S16384x5632 : Shape := ⟨2, ![16384, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S5632x1024, .bf16⟩
  | .hbm, ⟨2, _⟩ => ⟨S16384x5632, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpReferenceIdeal.lean ====
abbrev S16384x1024 : Shape := ⟨2, ![16384, 1024]⟩
abbrev S5632x1024 : Shape := ⟨2, ![5632, 1024]⟩
abbrev S1024x5632 : Shape := ⟨2, ![1024, 5632]⟩
abbrev S16384x5632 : Shape := ⟨2, ![16384, 5632]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S5632x1024, .bf16⟩
  | .hbm, ⟨2, _⟩ => ⟨S1024x5632, .bf16⟩
  | .hbm, ⟨3, _⟩ => ⟨S16384x5632, .f32⟩
  | .hbm, ⟨4, _⟩ => ⟨S16384x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownIdeal.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Ple.lean ====
abbrev S16384x256 : Shape := ⟨2, ![16384, 256]⟩
abbrev S256x1024 : Shape := ⟨2, ![256, 1024]⟩
abbrev S16384x1024 : Shape := ⟨2, ![16384, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S256x1024, .bf16⟩
  | .hbm, ⟨2, _⟩ => ⟨S16384x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleIdeal.lean ====
abbrev S16384x256 : Shape := ⟨2, ![16384, 256]⟩
abbrev S256x1024 : Shape := ⟨2, ![256, 1024]⟩
abbrev S16384x1024 : Shape := ⟨2, ![16384, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S256x1024, .bf16⟩
  | .hbm, ⟨2, _⟩ => ⟨S16384x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleReferenceIdeal.lean ====
abbrev S16384x256 : Shape := ⟨2, ![16384, 256]⟩
abbrev S256x1024 : Shape := ⟨2, ![256, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x1024, .bf16⟩
  | .hbm, ⟨2, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Gate.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateIdeal.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateReferenceIdeal.lean ====
abbrev S16384x1024 : Shape := ⟨2, ![16384, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GateX.lean ====
abbrev S16384x1024 : Shape := ⟨2, ![16384, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateXIdeal.lean ====
abbrev S16384x1024 : Shape := ⟨2, ![16384, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateXReferenceIdeal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .bf16⟩
  | .hbm, ⟨4, _⟩ => ⟨S16384x1024, .f32⟩
  | .hbm, ⟨5, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DownX.lean ====
abbrev S16384x1024 : Shape := ⟨2, ![16384, 1024]⟩
abbrev S2816x1024 : Shape := ⟨2, ![2816, 1024]⟩
abbrev S16384x2816 : Shape := ⟨2, ![16384, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownXIdeal.lean ====
abbrev S16384x1024 : Shape := ⟨2, ![16384, 1024]⟩
abbrev S2816x1024 : Shape := ⟨2, ![2816, 1024]⟩
abbrev S16384x2816 : Shape := ⟨2, ![16384, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownXReferenceIdeal.lean ====
abbrev S16384x1024 : Shape := ⟨2, ![16384, 1024]⟩
abbrev S2816x1024 : Shape := ⟨2, ![2816, 1024]⟩
abbrev S1024x2816 : Shape := ⟨2, ![1024, 2816]⟩
abbrev S16384x2816 : Shape := ⟨2, ![16384, 2816]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S1024x2816, .bf16⟩
  | .hbm, ⟨3, _⟩ => ⟨S16384x2816, .f32⟩
  | .hbm, ⟨4, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GateUpX.lean ====
abbrev S16384x5632 : Shape := ⟨2, ![16384, 5632]⟩
abbrev S5632x1024 : Shape := ⟨2, ![5632, 1024]⟩
abbrev S16384x1024 : Shape := ⟨2, ![16384, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S16384x5632, .bf16⟩
  | .hbm, ⟨1, _⟩ => ⟨S5632x1024, .bf16⟩
  | .hbm, ⟨2, _⟩ => ⟨S16384x1024, .f32⟩
  | .hbm, ⟨3, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateUpXIdeal.lean ====
abbrev S16384x5632 : Shape := ⟨2, ![16384, 5632]⟩
abbrev S5632x1024 : Shape := ⟨2, ![5632, 1024]⟩
abbrev S16384x1024 : Shape := ⟨2, ![16384, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S16384x5632, .bf16⟩
  | .hbm, ⟨1, _⟩ => ⟨S5632x1024, .bf16⟩
  | .hbm, ⟨2, _⟩ => ⟨S16384x1024, .f32⟩
  | .hbm, ⟨3, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateUpXReferenceIdeal.lean ====
abbrev S16384x5632 : Shape := ⟨2, ![16384, 5632]⟩
abbrev S5632x1024 : Shape := ⟨2, ![5632, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x1024, .bf16⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutX.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXIdeal.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXReferenceIdeal.lean ====
abbrev S16384x1024 : Shape := ⟨2, ![16384, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S1024x1024, .bf16⟩
  | .hbm, ⟨3, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BOutX.lean ====
abbrev S16384x1024 : Shape := ⟨2, ![16384, 1024]⟩
abbrev S2048x1024 : Shape := ⟨2, ![2048, 1024]⟩
abbrev S16384x2048 : Shape := ⟨2, ![16384, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S2048x1024, .bf16⟩
  | .hbm, ⟨2, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BOutXIdeal.lean ====
abbrev S16384x1024 : Shape := ⟨2, ![16384, 1024]⟩
abbrev S2048x1024 : Shape := ⟨2, ![2048, 1024]⟩
abbrev S16384x2048 : Shape := ⟨2, ![16384, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S2048x1024, .bf16⟩
  | .hbm, ⟨2, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BOutXReferenceIdeal.lean ====
abbrev S16384x1024 : Shape := ⟨2, ![16384, 1024]⟩
abbrev S2048x1024 : Shape := ⟨2, ![2048, 1024]⟩
abbrev S1024x2048 : Shape := ⟨2, ![1024, 2048]⟩
abbrev S16384x2048 : Shape := ⟨2, ![16384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2048x1024, .bf16⟩
  | .hbm, ⟨2, _⟩ => ⟨S1024x2048, .bf16⟩
  | .hbm, ⟨3, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GateW.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GateWIdeal.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GateWReferenceIdeal.lean ====
abbrev S16384x1024 : Shape := ⟨2, ![16384, 1024]⟩
abbrev S1024x16384 : Shape := ⟨2, ![1024, 16384]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x16384, .f32⟩
  | .hbm, ⟨3, _⟩ => ⟨S1024x1024, .f32⟩
  | .hbm, ⟨4, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PleW.lean ====
abbrev S16384x256 : Shape := ⟨2, ![16384, 256]⟩
abbrev S16384x1024 : Shape := ⟨2, ![16384, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PleWIdeal.lean ====
abbrev S16384x256 : Shape := ⟨2, ![16384, 256]⟩
abbrev S16384x1024 : Shape := ⟨2, ![16384, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PleWReferenceIdeal.lean ====
abbrev S16384x256 : Shape := ⟨2, ![16384, 256]⟩
abbrev S16384x1024 : Shape := ⟨2, ![16384, 1024]⟩
abbrev S256x16384 : Shape := ⟨2, ![256, 16384]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S256x16384, .f32⟩
  | .hbm, ⟨3, _⟩ => ⟨S256x1024, .f32⟩
  | .hbm, ⟨4, _⟩ => ⟨S256x1024, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownW.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWIdeal.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWReferenceIdeal.lean ====
abbrev S16384x2816 : Shape := ⟨2, ![16384, 2816]⟩
abbrev S16384x1024 : Shape := ⟨2, ![16384, 1024]⟩
abbrev S2816x16384 : Shape := ⟨2, ![2816, 16384]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x16384, .bf16⟩
  | .hbm, ⟨3, _⟩ => ⟨S2816x1024, .f32⟩
  | .hbm, ⟨4, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GateUpW.lean ====
abbrev S16384x5632 : Shape := ⟨2, ![16384, 5632]⟩
abbrev S16384x1024 : Shape := ⟨2, ![16384, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x5632, .bf16⟩
  | .hbm, ⟨1, _⟩ => ⟨S16384x1024, .f32⟩
  | .hbm, ⟨2, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpWIdeal.lean ====
abbrev S16384x5632 : Shape := ⟨2, ![16384, 5632]⟩
abbrev S16384x1024 : Shape := ⟨2, ![16384, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x5632, .bf16⟩
  | .hbm, ⟨1, _⟩ => ⟨S16384x1024, .f32⟩
  | .hbm, ⟨2, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpWReferenceIdeal.lean ====
abbrev S16384x5632 : Shape := ⟨2, ![16384, 5632]⟩
abbrev S16384x1024 : Shape := ⟨2, ![16384, 1024]⟩
abbrev S5632x16384 : Shape := ⟨2, ![5632, 16384]⟩
abbrev S5632x1024 : Shape := ⟨2, ![5632, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S16384x1024, .f32⟩
  | .hbm, ⟨2, _⟩ => ⟨S5632x16384, .bf16⟩
  | .hbm, ⟨3, _⟩ => ⟨S5632x1024, .f32⟩
  | .hbm, ⟨4, _⟩ => ⟨S5632x1024, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutW.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWIdeal.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWReferenceIdeal.lean ====
abbrev S16384x1024 : Shape := ⟨2, ![16384, 1024]⟩
abbrev S1024x16384 : Shape := ⟨2, ![1024, 16384]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x16384, .bf16⟩
  | .hbm, ⟨3, _⟩ => ⟨S1024x1024, .f32⟩
  | .hbm, ⟨4, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BOutW.lean ====
abbrev S16384x2048 : Shape := ⟨2, ![16384, 2048]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BOutWIdeal.lean ====
abbrev S16384x2048 : Shape := ⟨2, ![16384, 2048]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BOutWReferenceIdeal.lean ====
abbrev S16384x2048 : Shape := ⟨2, ![16384, 2048]⟩
abbrev S16384x1024 : Shape := ⟨2, ![16384, 1024]⟩
abbrev S2048x16384 : Shape := ⟨2, ![2048, 16384]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S2048x16384, .bf16⟩
  | .hbm, ⟨3, _⟩ => ⟨S2048x1024, .f32⟩
  | .hbm, ⟨4, _⟩ => ⟨S2048x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InW.lean ====
abbrev S16384x10368 : Shape := ⟨2, ![16384, 10368]⟩
abbrev S16384x1024 : Shape := ⟨2, ![16384, 1024]⟩
abbrev S10368x1024 : Shape := ⟨2, ![10368, 1024]⟩
abbrev S2048x1152 : Shape := ⟨2, ![2048, 1152]⟩
abbrev S2048x1024 : Shape := ⟨2, ![2048, 1024]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x10368, .bf16⟩
  | .hbm, ⟨1, _⟩ => ⟨S16384x1024, .f32⟩
  | .hbm, ⟨2, _⟩ => ⟨S10368x1024, .bf16⟩
  | .local _ .vmem, ⟨0, _⟩ => ⟨S2048x1152, .bf16⟩
  | .local _ .vmem, ⟨1, _⟩ => ⟨S2048x1152, .bf16⟩
  | .local _ .vmem, ⟨2, _⟩ => ⟨S2048x1024, .f32⟩
  | .local _ .vmem, ⟨3, _⟩ => ⟨S2048x1024, .f32⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S16384x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWReferenceIdeal.lean ====
abbrev S16384x10368 : Shape := ⟨2, ![16384, 10368]⟩
abbrev S16384x1024 : Shape := ⟨2, ![16384, 1024]⟩
abbrev S10368x16384 : Shape := ⟨2, ![10368, 16384]⟩
abbrev S10368x1024 : Shape := ⟨2, ![10368, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x10368, .bf16⟩
  | .hbm, ⟨1, _⟩ => ⟨S16384x1024, .f32⟩
  | .hbm, ⟨2, _⟩ => ⟨S10368x16384, .bf16⟩
  | .hbm, ⟨3, _⟩ => ⟨S10368x1024, .f32⟩
  | .hbm, ⟨4, _⟩ => ⟨S10368x1024, .bf16⟩
  | _, _ => ⟨S16384x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Glu.lean ====
abbrev S16384x10368 : Shape := ⟨2, ![16384, 10368]⟩
abbrev S16384x1024 : Shape := ⟨2, ![16384, 1024]⟩
abbrev S256x1024 : Shape := ⟨2, ![256, 1024]⟩

abbrev nBuf : Space → Nat
  | .hbm => 2
  | .vmem => 6
  | .smem => 0
  | _ => 0

abbrev bufTy : (tb : Table) → Fin (tcTables nBuf tb) → BufTy
  | .hbm, ⟨0, _⟩ => ⟨S16384x10368, .bf16⟩
  | .hbm, ⟨1, _⟩ => ⟨S16384x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | _, _ => ⟨S16384x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluReferenceIdeal.lean ====
abbrev S16384x10368 : Shape := ⟨2, ![16384, 10368]⟩
abbrev S16384x2048 : Shape := ⟨2, ![16384, 2048]⟩
abbrev S16384x1024 : Shape := ⟨2, ![16384, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x10368, .bf16⟩
  | .hbm, ⟨1, _⟩ => ⟨S16384x2048, .bf16⟩
  | .hbm, ⟨2, _⟩ => ⟨S16384x2048, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | _, _ => ⟨S16384x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== LnSilu.lean ====
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LnSiluReferenceIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== GNorm.lean ====
abbrev S16384x2048 : Shape := ⟨2, ![16384, 2048]⟩
abbrev S16384x4096 : Shape := ⟨2, ![16384, 4096]⟩
abbrev S16384x10368 : Shape := ⟨2, ![16384, 10368]⟩
abbrev S1x2048 : Shape := ⟨2, ![1, 2048]⟩
abbrev S256x2048 : Shape := ⟨2, ![256, 2048]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x4096, .f32⟩
  | .hbm, ⟨3, _⟩ => ⟨S16384x10368, .bf16⟩
  | .hbm, ⟨4, _⟩ => ⟨S1x2048, .f32⟩
  | .hbm, ⟨5, _⟩ => ⟨S1x2048, .f32⟩
  | .hbm, ⟨6, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S256x2048, .bf16⟩
  | .local _ .vmem, ⟨11, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GNormReferenceIdeal.lean ====
abbrev S16384x2048 : Shape := ⟨2, ![16384, 2048]⟩
abbrev S16384x4096 : Shape := ⟨2, ![16384, 4096]⟩
abbrev S16384x10368 : Shape := ⟨2, ![16384, 10368]⟩
abbrev S1x2048 : Shape := ⟨2, ![1, 2048]⟩
abbrev S_ : Shape := ⟨0, ![]⟩
abbrev S16384x8x256 : Shape := ⟨3, ![16384, 8, 256]⟩
abbrev S16384x8 : Shape := ⟨2, ![16384, 8]⟩
abbrev S16384x8x1 : Shape := ⟨3, ![16384, 8, 1]⟩

abbrev nBuf : Space → Nat
  | .hbm => 50
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x4096, .f32⟩
  | .hbm, ⟨3, _⟩ => ⟨S16384x10368, .bf16⟩
  | .hbm, ⟨4, _⟩ => ⟨S1x2048, .f32⟩
  | .hbm, ⟨5, _⟩ => ⟨S1x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .bf16⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x8x256, .f32⟩
  | .hbm, ⟨33, _⟩ => ⟨S16384x8x256, .f32⟩
  | .hbm, ⟨34, _⟩ => ⟨S_, .f32⟩
  | .hbm, ⟨35, _⟩ => ⟨S16384x8, .f32⟩
  | .hbm, ⟨36, _⟩ => ⟨S16384x8x1, .f32⟩
  | .hbm, ⟨37, _⟩ => ⟨S_, .f32⟩
  | .hbm, ⟨38, _⟩ => ⟨S16384x8x1, .f32⟩
  | .hbm, ⟨39, _⟩ => ⟨S16384x8x1, .f32⟩
  | .hbm, ⟨40, _⟩ => ⟨S_, .f32⟩
  | .hbm, ⟨41, _⟩ => ⟨S16384x8x1, .f32⟩
  | .hbm, ⟨42, _⟩ => ⟨S16384x8x1, .f32⟩
  | .hbm, ⟨43, _⟩ => ⟨S16384x8x1, .f32⟩
  | .hbm, ⟨44, _⟩ => ⟨S16384x8x256, .f32⟩
  | .hbm, ⟨45, _⟩ => ⟨S16384x8x256, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_v13 : Ref sig .tc := ⟨.hbm, 36, rfl⟩
abbrev main_cst_0 : Ref sig .tc := ⟨.hbm, 37, rfl⟩
abbrev main_v14 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩

abbrev nD : Nat := 1
abbrev τ : Topo := Topo.v7x

variable {F : FTy → Type} [FloatOps F]
-- ==== Merge.lean ====
abbrev S16384x10368 : Shape := ⟨2, ![16384, 10368]⟩
abbrev S16384x1024 : Shape := ⟨2, ![16384, 1024]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S16384x10368, .bf16⟩
  | .hbm, ⟨1, _⟩ => ⟨S16384x1024, .f32⟩
  | .hbm, ⟨2, _⟩ => ⟨S16384x1024, .f32⟩
  | .hbm, ⟨3, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S16384x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeReferenceIdeal.lean ====
abbrev S16384x10368 : Shape := ⟨2, ![16384, 10368]⟩
abbrev S16384x1024 : Shape := ⟨2, ![16384, 1024]⟩
abbrev S16384x2048 : Shape := ⟨2, ![16384, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16384x10368, .bf16⟩
  | .hbm, ⟨1, _⟩ => ⟨S16384x1024, .f32⟩
  | .hbm, ⟨2, _⟩ => ⟨S16384x1024, .f32⟩
  | .hbm, ⟨3, _⟩ => ⟨S16384x2048, .bf16⟩
  | .hbm, ⟨4, _⟩ => ⟨S16384x2048, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .bf16⟩
  | _, _ => ⟨S16384x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== ResLn.lean ====
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ResLnReferenceIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== SwiGlu.lean ====
abbrev S16384x5632 : Shape := ⟨2, ![16384, 5632]⟩
abbrev S16384x2816 : Shape := ⟨2, ![16384, 2816]⟩
abbrev S256x2816 : Shape := ⟨2, ![256, 2816]⟩

abbrev nBuf : Space → Nat
  | .hbm => 2
  | .vmem => 6
  | .smem => 0
  | _ => 0

abbrev bufTy : (tb : Table) → Fin (tcTables nBuf tb) → BufTy
  | .hbm, ⟨0, _⟩ => ⟨S16384x5632, .bf16⟩
  | .hbm, ⟨1, _⟩ => ⟨S16384x2816, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwiGluReferenceIdeal.lean ====
abbrev S16384x5632 : Shape := ⟨2, ![16384, 5632]⟩
abbrev S16384x2816 : Shape := ⟨2, ![16384, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S16384x5632, .f32⟩
  | .hbm, ⟨2, _⟩ => ⟨S16384x2816, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== PleOut.lean ====
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleOutReferenceIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.Alone.lean ====
/-
  The launch of a program whose @main is one kernel call without windows, on devices that write into one another's result
  buffers without a handshake. A device may write into a peer before the peer has begun, so what a device starts from is
  dealt out of the whole machine's launch memory: the semaphores of the kernel, the buffers, the ghost state and the launch
  credits of every device are divided at once (`hdeal`).
-/
module

public import Idealize.ShloMosaic.Lib.Pipeline.Launch
public import Idealize.ShloMosaic.Lib.Tactic

@[expose] public section

noncomputable section

namespace Cert.Alone

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

variable {nD : Nat} {τ : Topo} {sig : RefSig} {Val : EltTy → Type} {U : Type} [URA U]
variable {Λ₀ : Idealize.SL.Sem.Labels}

local notation "𝕄" => MT nD τ sig Unit Val ℕ U ℕ

variable (cfgs : Fin 1 → Cfg sig Λ₀)

/-- The program's calls as the launch takes them. -/
abbrev calls : Fin 1 → PCfg sig Λ₀ Val := fun p => (cfgs p).toPCfg

/-- No call prefetches a table. -/
abbrev adm : Dev nD → (p : Fin 1) → ((calls (Val := Val) cfgs) p).Adm := fun _ p => (cfgs p).toPCfg_adm

/-- The calls as every device runs them. -/
abbrev on : Dev nD → Fin 1 → Cfg sig Λ₀ := pinD (calls (Val := Val) cfgs) (adm cfgs)

variable {K : Type} [Fintype K] (osem : K → SemLoc sig)
variable (Start Fin' : Dev nD → sProp (MT nD τ sig Unit Val ℕ U ℕ)) (O₀ : Dev nD → CellTallies nD τ sig Unit)

/-- The proof data of the one call: no window; before its point a device holds `Start` and owes `O₀`, after it `Fin'` with
    its own semaphores back at zero, owing nothing. -/
def datum (hW : ∀ p, IsEmpty (Fin (cfgs p).W)) (p : Fin 1) (c : Dev nD) :
    RDat τ Val Unit ℕ U ℕ (on (Val := Val) cfgs c p) c where
  A w := False.elim ((hW p).false w)
  after w := False.elim ((hW p).false w)
  Φ t := if t.val = 0 then iprop(Start c ∗ scopedRest (on (Val := Val) cfgs c p).spec c)
    else iprop(Fin' c ∗ ownSems0 osem c ∗ scopedRest (on (Val := Val) cfgs c p).spec c)
  q w := False.elim ((hW p).false w)
  owed t := if t.val = 0 then O₀ c else 0

variable {cfgs osem Start Fin' O₀}

theorem datum_first (hW : ∀ p, IsEmpty (Fin (cfgs p).W)) (p : Fin 1) (c : Dev nD) (t : Fin ((cfgs p).N + 1)) (h : t.val = 0) :
    (datum cfgs osem Start Fin' O₀ hW p c).Φ t = iprop(Start c ∗ scopedRest (on (Val := Val) cfgs c p).spec c) := if_pos h

theorem datum_last (hW : ∀ p, IsEmpty (Fin (cfgs p).W)) (p : Fin 1) (c : Dev nD) (t : Fin ((cfgs p).N + 1)) (h : t.val ≠ 0) :
    (datum cfgs osem Start Fin' O₀ hW p c).Φ t
      = iprop(Fin' c ∗ ownSems0 osem c ∗ scopedRest (on (Val := Val) cfgs c p).spec c) := if_neg h

theorem owed_first (hW : ∀ p, IsEmpty (Fin (cfgs p).W)) (p : Fin 1) (c : Dev nD) (t : Fin ((cfgs p).N + 1)) (h : t.val = 0) :
    (datum cfgs osem Start Fin' O₀ hW p c).owed t = O₀ c := if_pos h

theorem owed_last (hW : ∀ p, IsEmpty (Fin (cfgs p).W)) (p : Fin 1) (c : Dev nD) (t : Fin ((cfgs p).N + 1)) (h : t.val ≠ 0) :
    (datum cfgs osem Start Fin' O₀ hW p c).owed t = 0 := if_neg h

/-- Nothing is said at the end of a call without windows about its arrays. -/
theorem arrays_none {cfg : Cfg sig Λ₀} {c : Dev nD} (rd : RDat τ Val Unit ℕ U ℕ cfg c) (h : IsEmpty (Fin cfg.W))
    (G : (w : Fin cfg.W) → Buf Val ((cfg.win w).arr.view.loc (c.tc : Thread nD τ))) : rd.arrays G = (BI.emp : sProp 𝕄) := by
  unfold RDat.arrays
  rw [Finset.univ_eq_empty, BI.bigSep_empty]

/-- The body's obligation, from the run of the kernel's body. -/
theorem body_run (hW : ∀ p, IsEmpty (Fin (cfgs p).W)) (hN : (cfgs 0).N = 1) (defs₀ : Defs nD τ sig Val Λ₀) (𝒱₀ : Variants)
    (hrun : ∀ (c : Dev nD) (t : Fin (cfgs 0).N) (W : Finset (SemLoc sig × Unit)),
      iprop(Start c ∗ scopedRest (cfgs 0).spec c ∗ owes (c.tc : Thread nD τ) (O₀ c) W)
        ⊢ wp frame (wpE defs₀ 𝒱₀ (c.tc : Thread nD τ) none) Set.univ (defs₀ .tc (cfgs 0).body ((cfgs 0).bodyArgs t ((cfgs 0).slots t)))
            fun _ => iprop(Fin' c ∗ ownSems0 osem c ∗ scopedRest (cfgs 0).spec c
              ∗ ∃ W' : Finset (SemLoc sig × Unit), owes (c.tc : Thread nD τ) (0 : CellTallies nD τ sig Unit) W')) (c : Dev nD) :
    (datum cfgs osem Start Fin' O₀ hW 0 c).BodyObligation defs₀ 𝒱₀ () Set.univ := by
  intro t Y _
  have ht : t.val = 0 := by have := t.isLt; have h1 : t.val < (cfgs 0).N := t.isLt; omega
  haveI : IsEmpty (Fin (on (Val := Val) cfgs c 0).W) := hW 0
  rw [datum_first hW 0 c t.castSucc ht, datum_last hW 0 c t.succ (Nat.succ_ne_zero t.val), Finset.univ_eq_empty, BI.bigSep_empty, BI.bigSep_empty]
  unfold RDat.owesAt owesWithin
  rw [owed_first hW 0 c t.castSucc ht, owed_last hW 0 c t.succ (Nat.succ_ne_zero t.val)]
  iintro ⟨⟨Hs, Hr⟩, ⟨%W, -, HW⟩, -⟩
  iapply (wp_mono frame (wpE defs₀ 𝒱₀ (c.tc : Thread nD τ) none) Set.univ (Q := fun _ => iprop(Fin' c ∗ ownSems0 osem c ∗ scopedRest (cfgs 0).spec c
              ∗ ∃ W' : Finset (SemLoc sig × Unit), owes (c.tc : Thread nD τ) (0 : CellTallies nD τ sig Unit) W')) fun _ => ?_)
  · iintro ⟨Hf, Ho, Hr, ⟨%W', HW⟩⟩
    isplitl [Hf Ho Hr]
    · isplitl [Hf]; · iexact Hf
      isplitl [Ho] <;> iassumption
    isplitl [HW]
    · iexists W'
      isplitr; · ipureintro; exact fun _ _ => Or.inl trivial
      iexact HW
    · iempintro
  · iapply (hrun c t W)
    isplitl [Hs]; · iexact Hs
    isplitl [Hr] <;> iassumption

/-- The waits of a call without windows: none. -/
theorem no_waits (hW : ∀ p, IsEmpty (Fin (cfgs p).W)) (rd : (p : Fin 1) → (c : Dev nD) → RDat τ Val Unit ℕ U ℕ (on (Val := Val) cfgs c p) c)
    (c : Dev nD) : (BI.emp : sProp 𝕄) ⊢ PerCore.RDat.cellsWaits (on (Val := Val) cfgs) rd () 0 c := by
  haveI : IsEmpty (Fin (on (Val := Val) cfgs c 0).W) := hW 0
  unfold PerCore.RDat.cellsWaits
  rw [Finset.univ_eq_empty, BI.bigSep_empty]

/-- Of what every device holds call by call, the one call's. -/
theorem first_call (Φ : Fin 1 → Dev nD → sProp 𝕄) :
    (bigSep Finset.univ fun c : Dev nD => bigSep Finset.univ fun q => Φ q c) ⊢ bigSep Finset.univ fun c : Dev nD => Φ 0 c :=
  bigSep_mono fun c _ => BI.bigSep_elim (Finset.mem_univ 0)

/-- One assignment of levels to the cells of the TensorCores, from every device's right to assign them. -/
theorem levels_dealt (L : GSem nD τ sig → Finset Unit) (lv : GSem nD τ sig → Unit → ℕ) (hL : ∀ x : GSem nD τ sig, x.1.2 ≠ .tc → L x = ∅) :
    (bigSep Finset.univ fun c : Dev nD => levels0 (Ix := Unit) (Val := Val) (Name := ℕ) (U := U) (Lvl := ℕ) (τ := τ) (sig := sig) c)
      ⊢ (|==> levAts L lv : sProp 𝕄) := by
  classical
  refine (bigSep_mono fun c _ => lev_assign_cells (c.tc : Thread nD τ) L lv).trans <| (BI.bigSep_bupd _ _).trans <| BI.bupd_mono ?_
  have hnone (d : Dev nD) (q : Proc τ) (hq : q ≠ .tc) : (coreLevAts ((d, q) : Thread nD τ) L lv : sProp 𝕄) = BI.emp := by
    unfold coreLevAts
    rw [bigSep_congr (Ψ := fun _ : SemLoc sig => (BI.emp : sProp 𝕄)) fun sm _ => by rw [hL _ hq, BI.bigSep_empty], BI.bigSep_emp_const]
  have hrest : (bigSep Finset.univ fun d : Dev nD => bigSep (Finset.univ.erase Proc.tc) fun q => (coreLevAts ((d, q) : Thread nD τ) L lv : sProp 𝕄)) = BI.emp := by
    rw [bigSep_congr (Ψ := fun _ : Dev nD => (BI.emp : sProp 𝕄)) fun d _ => by
      rw [bigSep_congr (Ψ := fun _ : Proc τ => (BI.emp : sProp 𝕄)) fun q hq => hnone d q (Finset.ne_of_mem_erase hq), BI.bigSep_emp_const],
      BI.bigSep_emp_const]
  have hgoal : (levAts L lv : sProp 𝕄) = iprop((bigSep Finset.univ fun d : Dev nD => coreLevAts (d.tc : Thread nD τ) L lv) ∗ BI.emp) := by
    rw [show (levAts L lv : sProp 𝕄) = bigSep Finset.univ fun c : Thread nD τ => coreLevAts c L lv
        from (bigSep_univ_prod fun x : GSem nD τ sig => bigSep (L x) fun ι => levAt x ι (lv x ι)),
      bigSep_threads (fun c : Thread nD τ => coreLevAts c L lv), hrest]
  rw [hgoal, bigSep_sep']
  refine show iprop(_ ∗ _) ⊢ (iprop(_ ∗ BI.emp) : sProp 𝕄) from ?_
  iintro ⟨-, H⟩
  isplitl [H]; · iexact H
  iempintro

section Run

variable (hW : ∀ p, IsEmpty (Fin (cfgs p).W)) (hN : (cfgs 0).N = 1)
variable (hinj : Function.Injective (PerCore.cellOf (nD := nD) (τ := τ) (on (Val := Val) cfgs)))
variable (hw : WinFacts₀ (cfgs 0).spec) (ho : OwnSemFacts (cfgs 0).spec osem)
variable (EP : Emb (URounds (GSem nD τ sig) Unit) (MT nD τ sig Unit Val ℕ U ℕ))

/-- What the machine's launch deals: every device's own semaphores at zero, its buffers as they are, its share of the launch
    credit and the ghost state `G`. -/
abbrev Dealt (O₀ : Dev nD → CellTallies nD τ sig Unit) (osem : K → SemLoc sig) (m : (ℓ : Loc nD τ sig) → Buf Val ℓ) (G : Dev nD → sProp 𝕄)
    (c : Dev nD) : sProp 𝕄 :=
  iprop(ownSems0 osem c ∗ unscopedBufs c (fun b => m ((c.tc : Thread nD τ).loc b)) ∗ launchCred O₀ c ∗ G c)

include hW hN hinj hw ho in
/-- A program of one call without windows runs, when its body runs from what the launch deals. -/
theorem run_call [∀ e, Nonempty (Val e)] [EP.LandsIn (upEmb : UEmb _ 𝕄)]
    (defs₀ : Defs nD τ sig Val Λ₀) (𝒱₀ : Variants)
    (m : (ℓ : Loc nD τ sig) → Buf Val ℓ) (g : Dev nD → PrngReg)
    (main : Dev nD → Prog (TpuEff nD τ sig Val (Pipeline.Sig Λ₀ (Fin 1) fun p => ((calls (Val := Val) cfgs) p).Adm) .tc) PUnit)
    (hmain : ∀ c, main c = .op (.customCall (entry 0) ()) fun _ => .ret ⟨⟩)
    (hrun : ∀ (c : Dev nD) (t : Fin (cfgs 0).N) (W : Finset (SemLoc sig × Unit)),
      iprop(Start c ∗ scopedRest (cfgs 0).spec c ∗ owes (c.tc : Thread nD τ) (O₀ c) W)
        ⊢ wp frame (wpE defs₀ 𝒱₀ (c.tc : Thread nD τ) none) Set.univ (defs₀ .tc (cfgs 0).body ((cfgs 0).bodyArgs t ((cfgs 0).slots t)))
            fun _ => iprop(Fin' c ∗ ownSems0 osem c ∗ scopedRest (cfgs 0).spec c
              ∗ ∃ W' : Finset (SemLoc sig × Unit), owes (c.tc : Thread nD τ) (0 : CellTallies nD τ sig Unit) W'))
    (L : GSem nD τ sig → Finset Unit) (lv : GSem nD τ sig → Unit → ℕ) (hL : ∀ x : GSem nD τ sig, x.1.2 ≠ .tc → L x = ∅)
    (G : Dev nD → sProp 𝕄) (u₀ : U)
    (hu₀ : (ownU u₀ : sProp 𝕄)
      ⊢ |={Set.univ}=> iprop(BI.own (EP (initOf (PerCore.cells (on (Val := Val) cfgs) hinj) (PerCore.launchToks (on (Val := Val) cfgs) hinj))) ∗ bigSep Finset.univ G))
    (hdeal : iprop((bigSep Finset.univ fun c => Dealt O₀ osem m G c) ∗ levAts L lv) ⊢ |={Set.univ}=> bigSep Finset.univ Start)
    (QY : Dev nD → MemSt nD τ sig Val → Prop)
    (hY : ∀ c (s' : Phys nD τ sig Val), iprop(Fin' c ∗ SI s') ⊢ |={Set.univ}=> iprop(⌜QY c s'.mem⌝ ∗ SI s'))
    {Q : PUnit × MemSt nD τ sig Val → Prop}
    (hQ : ∀ s : MemSt nD τ sig Val, (∀ c, QY c s) →
      (∀ x : GSem nD τ sig, (x.1.2 ≠ .tc ∨ x.2.isScoped .tc = true) → s.sem x = 0) → Q (⟨⟩, s)) :
    θ_run (Pipeline.defs (calls (Val := Val) cfgs) defs₀) (onTc main) ⟨m, fun _ => 0, g⟩ Q := by
  classical
  have hss := fun c : Dev nD => PerCore.scopedSems0_split (on (Val := Val) cfgs) hinj 0 (fun _ => hw) (fun _ => ho) (Ix := Unit) (Val := Val) (Name := ℕ) (U := U) (Lvl := ℕ) c
  have hsb := fun c : Dev nD => PerCore.scopedBufs_split (on (Val := Val) cfgs) 0 c hw.stage_scoped hw.stage_inj (fun w => (hW 0).elim w) (nD := nD) (τ := τ) (Ix := Unit) (Val := Val) (Name := ℕ) (U := U) (Lvl := ℕ)
  let before : Dev nD → sProp 𝕄 := fun c => iprop(scopedBufs (c.tc : Thread nD τ) ∗ PerCore.cellsSems0 (on (Val := Val) cfgs) 0 c
    ∗ PerCore.idleSems0 (on (Val := Val) cfgs) hinj 0 (fun _ => ho) c ∗ owes (c.tc : Thread nD τ) (O₀ c) ∅
    ∗ PerCore.cellsGhost (on (Val := Val) cfgs) EP 0 c ∗ PerCore.toksInit (on (Val := Val) cfgs) EP 0 c ∗ Start c)
  let after : Dev nD → sProp 𝕄 := fun c => iprop(Fin' c ∗ scopedSems0 (c.tc : Thread nD τ))
  refine (θ_run (Pipeline.defs (calls (Val := Val) cfgs) defs₀) _ _).mono
    (Q := fun r => (∀ c : Dev nD, QY c r.2 ∧ ∀ sm : SemLoc sig, sm.isScoped .tc = true → r.2.sem ((c.tc : Thread nD τ), sm) = 0)
      ∧ ∀ x : GSem nD τ sig, x.1.2 ≠ .tc → r.2.sem x = 0)
    (fun r hr => hQ r.2 (fun c => (hr.1 c).1) (sems_of_reads (fun c => (hr.1 c).2) hr.2)) (adequate_tpu _ _ _ _
    (reflect_intro_fupd_tc_sems (X := Unit) (Variants.lift 𝒱₀) (owing O₀) 0 (noBookings fun _ => le_rfl) (owing_of_ne O₀) u₀ (fun _ => before) (fun _ => after)
      (fun _ => iprop(emp)) Set.univ ?_ (fun _ c => ?_) fun _ => ?_))
  · -- every device's holdings, the levels assigned, and the deal
    have hone (c : Dev nD) :
        coreInit (Ix := Unit) (Name := ℕ) (U := U) (Lvl := ℕ) (owing O₀) 0 (⟨m, fun _ => 0, g⟩ : MemSt nD τ sig Val) (c.tc : Thread nD τ)
          ⊢ iprop((scopedBufs (c.tc : Thread nD τ) ∗ PerCore.cellsSems0 (on (Val := Val) cfgs) 0 c ∗ PerCore.idleSems0 (on (Val := Val) cfgs) hinj 0 (fun _ => ho) c)
              ∗ ownSems0 osem c ∗ unscopedBufs c (fun b => m ((c.tc : Thread nD τ).loc b))
              ∗ owes (c.tc : Thread nD τ) (O₀ c) ∅ ∗ levels0 c ∗ launchCred O₀ c) := by
      refine (coreInit_boundary_owing O₀ m g c).trans ?_
      unfold boundary
      rw [hss c]
      iintro ⟨⟨Hsc, ⟨⟨Hcells, Hos⟩, Hidle⟩, -⟩, Hub, -, HL, Hlv, -, Hcr⟩
      isplitl [Hsc Hcells Hidle]
      · isplitl [Hsc]; · iexact Hsc
        isplitl [Hcells] <;> iassumption
      isplitl [Hos]; · iexact Hos
      isplitl [Hub]; · iexact Hub
      isplitl [HL]; · iexact HL
      isplitl [Hlv] <;> iassumption
    have hall : (bigSep Finset.univ fun c : Dev nD => coreInit (Ix := Unit) (Name := ℕ) (U := U) (Lvl := ℕ) (owing O₀) 0 (⟨m, fun _ => 0, g⟩ : MemSt nD τ sig Val) (c.tc : Thread nD τ))
        ⊢ (iprop(((bigSep Finset.univ fun c : Dev nD => scopedBufs (c.tc : Thread nD τ)) ∗ (bigSep Finset.univ fun c : Dev nD => PerCore.cellsSems0 (on (Val := Val) cfgs) 0 c)
              ∗ bigSep Finset.univ fun c : Dev nD => PerCore.idleSems0 (on (Val := Val) cfgs) hinj 0 (fun _ => ho) c)
            ∗ (bigSep Finset.univ fun c : Dev nD => ownSems0 osem c) ∗ (bigSep Finset.univ fun c : Dev nD => unscopedBufs c (fun b => m ((c.tc : Thread nD τ).loc b)))
            ∗ (bigSep Finset.univ fun c : Dev nD => owes (c.tc : Thread nD τ) (O₀ c) ∅) ∗ (bigSep Finset.univ fun c : Dev nD => levels0 c)
            ∗ bigSep Finset.univ fun c : Dev nD => launchCred O₀ c) : sProp 𝕄) := by
      simp only [← bigSep_sep']
      exact bigSep_mono fun c _ => hone c
    iintro ⟨Hcores, Hu⟩
    ihave Hc := hall $$ Hcores
    icases Hc with ⟨⟨Hsc, Hcells, Hidle⟩, Hos, Hub, HL, Hlv, Hcr⟩
    imod (levels_dealt L lv hL) $$ Hlv with #Hla
    imod hu₀ $$ Hu with ⟨HP, HG⟩
    imod (PerCore.fund_ghost (on (Val := Val) cfgs) EP hinj) $$ HP with ⟨Hg, Ht⟩
    imod hdeal $$ [Hos Hub Hcr HG] with HS
    · isplitl [Hos Hub Hcr HG]
      · simp only [Dealt, bigSep_sep']
        isplitl [Hos]; · iexact Hos
        isplitl [Hub]; · iexact Hub
        isplitl [Hcr] <;> iassumption
      · iexact Hla
    imodintro
    iexists ()
    isplitr []
    · simp only [before, bigSep_sep']
      isplitl [Hsc]; · iexact Hsc
      isplitl [Hcells]; · iexact Hcells
      isplitl [Hidle]; · iexact Hidle
      isplitl [HL]; · iexact HL
      isplitl [Hg]; · iapply (first_call fun q c => PerCore.cellsGhost (on (Val := Val) cfgs) EP q c); iexact Hg
      isplitl [Ht]; · iapply (first_call fun q c => PerCore.toksInit (on (Val := Val) cfgs) EP q c); iexact Ht
      iexact HS
    · iempintro
  · -- one device's run: the call, then the return
    simp only [before]
    rw [hmain c]
    iintro ⟨Hsc, Hcells, Hidle, HL, Hg, Ht, HS⟩
    iapply (fupd_wp frame (wpE (Pipeline.defs (calls (Val := Val) cfgs) defs₀) (Variants.lift 𝒱₀) (c.tc : Thread nD τ) none) Set.univ _ _)
    imod (PerCore.RDat.cellsInit_alloc (on (Val := Val) cfgs) (datum cfgs osem Start Fin' O₀ hW) EP hinj 0 c) $$ [Hcells Hg] with ⟨%κ, -, Hinit⟩
    · isplitl [Hcells] <;> iassumption
    imodintro
    iapply (PerCore.RDat.wp_customCall_entry_frame (calls (Val := Val) cfgs) (adm cfgs) (datum cfgs osem Start Fin' O₀ hW) () EP κ hinj 0 defs₀ 𝒱₀
        (fun _ => fullShare) c Set.univ (fun _ _ => Set.mem_univ _)
        (body_run hW hN defs₀ 𝒱₀ hrun c) (fun w => (hW 0).elim w) none (fun u h => nomatch h) (X := Start c) (Y := Fin' c)
        (R := scopedRest (cfgs 0).spec c) (I := PerCore.idleSems0 (on (Val := Val) cfgs) hinj 0 (fun _ => ho) c)
        (Entails.of_eq (hsb c))
        (show iprop(Start c ∗ prefHeld ((calls (Val := Val) cfgs) 0).pre c (fun _ => fullShare) (adm cfgs c 0).1 ∗ scopedRest (cfgs 0).spec c)
            ⊢ (datum cfgs osem Start Fin' O₀ hW 0 c).Φ 0 from by
          rw [datum_first hW 0 c 0 rfl]
          refine show iprop(_ ∗ _) ⊢ (iprop(_ ∗ _) : sProp 𝕄) from ?_
          iintro ⟨H1, -, H2⟩
          isplitl [H1] <;> iassumption)
        (show iprop((datum cfgs osem Start Fin' O₀ hW 0 c).Φ (Fin.last (on (Val := Val) cfgs c 0).N) ∗ PerCore.cellsSems0 (on (Val := Val) cfgs) 0 c
              ∗ Dat.staging (on (Val := Val) cfgs c 0) c ∗ PerCore.idleSems0 (on (Val := Val) cfgs) hinj 0 (fun _ => ho) c)
            ⊢ iprop(Fin' c ∗ scopedSems0 (c.tc : Thread nD τ) ∗ scopedBufs (c.tc : Thread nD τ)) from by
          rw [datum_last hW 0 c (Fin.last _) (by show ¬ (cfgs 0).N = 0; rw [hN]; exact Nat.one_ne_zero)]
          rw [hss c, hsb c]
          refine show iprop(_ ∗ _) ⊢ (iprop(_ ∗ _) : sProp 𝕄) from ?_
          iintro ⟨⟨HF, Hos, Hr⟩, Hcells, Hst, Hidle⟩
          isplitl [HF]; · iexact HF
          isplitl [Hcells Hos Hidle]
          · isplitl [Hcells Hos]; · isplitl [Hcells] <;> iassumption
            iexact Hidle
          isplitl [Hst] <;> iassumption)
        (k := fun _ => .ret ⟨⟩) (Q := fun _ => post (liftTc after BI.emp) (c.tc : Thread nD τ))) $$ [HL Hinit Ht HS Hidle Hsc]
    · isplitl [HL Hinit Ht]
      · unfold PerCore.RDat.EntryPre RDat.owesAt owesWithin
        rw [owed_first hW 0 c 0 rfl, arrays_none (datum cfgs osem Start Fin' O₀ hW 0 c) (hW 0)]
        isplitr; · iempintro
        isplitl [HL]
        · iexists ∅; isplitr; · ipureintro; exact fun _ _ => Or.inl trivial
          iexact HL
        isplitr
        · iapply (no_waits hW (datum cfgs osem Start Fin' O₀ hW) c); iempintro
        isplitl [Hinit] <;> iassumption
      isplitr
      · unfold prefHeld
        haveI : IsEmpty (Fin ((calls (Val := Val) cfgs) 0).pre.K) := inferInstanceAs (IsEmpty (Fin 0))
        rw [Finset.univ_eq_empty, BI.bigSep_empty]
        iempintro
      isplitl [HS]; · iexact HS
      isplitl [Hidle] <;> iassumption
    iintro ⟨Hpost, HF, Hz, -⟩
    rw [wp_ret]; imodintro
    unfold post; simp only [liftTc_tc, after]
    unfold PerCore.RDat.EntryPost RDat.owesAt owesWithin
    rw [owed_last hW 0 c (Fin.last _) (by show ¬ (cfgs 0).N = 0; rw [hN]; exact Nat.one_ne_zero)]
    icases Hpost with ⟨-, ⟨%W, -, HW⟩⟩
    isplitr [HW]
    · isplitl [HF] <;> iassumption
    · iexists W; iexact HW
  · -- what the devices hold at the end, read against the final state
    have hread (c : Dev nD) (s' : Phys nD τ sig Val) : iprop(after c ∗ SI s') ⊢ |={Set.univ}=>
        iprop(⌜QY c s'.mem ∧ ∀ sm : SemLoc sig, sm.isScoped .tc = true → s'.mem.sem ((c.tc : Thread nD τ), sm) = 0⌝ ∗ SI s') := by
      simp only [after]
      iintro ⟨⟨HF, Hss⟩, HSI⟩
      ihave %hz := (tcScoped_read_pers c s') $$ [Hss HSI]
      · isplitl [Hss] <;> iassumption
      imod (hY c s') $$ [HF HSI] with ⟨%hy, HSI⟩
      · isplitl [HF] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Run

end Cert.Alone

end
-- ==== Proof.Talk.lean ====
/-
  Cells used once. A kernel whose every DMA semaphore is credited by one transfer and waited for once: each cell has one round
  with one duty, whose payload the transfer leaves behind. A plan names the cells, what each is paid, which of them another
  device credits (`recv`), and by whom; from it come the launch's ghost state, the launch's deal, the rules for a remote copy, a
  local copy and a wait, and the closing of the cells at the end.
-/
module

public import Idealize.ShloMosaic.Lib.Pipeline.Launch
public import Idealize.ShloMosaic.Lib.Pipeline.Kit
public import Idealize.ShloMosaic.Lib.Tactic
public import proofs.«01_k».proof.Proof.Alone

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

/-- The ghost algebra: the launch's own cells beside the kernel's. -/
abbrev UU (nD : ℕ) (τ : Topo) (sig : RefSig) : Type := UR sig nD τ × UR sig nD τ

/-- What the assertions speak of. -/
abbrev MM (nD : ℕ) (τ : Topo) (sig : RefSig) (Val : EltTy → Type) : Type := MT nD τ sig Unit Val ℕ (UU nD τ sig) ℕ

/-- A kernel's cells, each used once. -/
structure Plan (nD : ℕ) (τ : Topo) (sig : RefSig) (Val : EltTy → Type) (K : Type) where
  sem : K → DmaSem sig
  inj : Function.Injective sem
  /-- The credit a cell waits for. -/
  N : K → ℕ
  pos : ∀ k, 0 < N k
  /-- What the transfer that credits device `c`'s cell `k` leaves for `c`. -/
  Pay : Dev nD → K → sProp (MM nD τ sig Val)
  stor : ∀ c k, BI.Storable (upEmb : UEmb _ (MM nD τ sig Val)) (Pay c k)
  /-- The cells another device credits. -/
  recv : Finset K
  /-- Device `c` credits the cell `k` of `peer k c`. -/
  peer : K → Dev nD → Dev nD
  inv : ∀ k c, peer k (peer k c) = c
  lev : K → ℕ

variable {nD : ℕ} {τ : Topo} {sig : RefSig} {Val : EltTy → Type} {K : Type} [Fintype K] [DecidableEq K]

local notation "𝕄" => MM nD τ sig Val

abbrev EP : Emb (UR sig nD τ) (MM nD τ sig Val) := embL
abbrev ER : Emb (UR sig nD τ) (MM nD τ sig Val) := embR

namespace Plan
variable (P : Plan nD τ sig Val K)

/-- Device `c`'s cell `k`. -/
abbrev cell (c : Dev nD) (k : K) : GSem nD τ sig := ((c.tc : Thread nD τ), .dma (P.sem k))

abbrev osem (k : K) : SemLoc sig := .dma (P.sem k)

theorem osem_inj : Function.Injective P.osem := fun _ _ h => P.inj (SemLoc.dma.inj h)

theorem cell_inj : Function.Injective fun ck : Dev nD × K => P.cell ck.1 ck.2 := by
  rintro ⟨c, k⟩ ⟨c', k'⟩ h
  have h1 : c = c' := congrArg (fun g : GSem nD τ sig => g.1.1) h
  have h2 : k = k' := P.osem_inj (congrArg Prod.snd h)
  rw [h1, h2]

open Classical in
/-- The protocol: one round with one duty for each of the plan's cells. -/
def sched : Rounds.Schedule (GSem nD τ sig) Unit 𝕄 where
  duties g r := if r = 0 ∧ g.1.2 = .tc ∧ ∃ k, P.osem k = g.2 then {()} else ∅
  unitless _ := False
  amount g _ _ := if h : ∃ k, P.osem k = g.2 then P.N h.choose else 1
  payload g _ _ := if h : ∃ k, P.osem k = g.2 then P.Pay g.1.1 h.choose else iprop(emp)
  amount_pos g _ _ _ := by
    by_cases h : ∃ k, P.osem k = g.2
    · rw [dif_pos h]; exact P.pos _
    · rw [dif_neg h]; exact Nat.one_pos

instance payload_storable (g : GSem nD τ sig) (r : ℕ) (d : Unit) :
    BI.Storable (upEmb : UEmb _ (MM nD τ sig Val)) (P.sched.payload g r d) := by
  show BI.Storable upEmb (dite _ _ _)
  by_cases h : ∃ k, P.osem k = g.2
  · rw [dif_pos h]; exact P.stor _ _
  · rw [dif_neg h]; infer_instance

section Table
variable (c : Dev nD) (k : K)

theorem has : ∃ k', P.osem k' = (P.cell c k).2 := ⟨k, rfl⟩
theorem has_choose : (P.has c k).choose = k := P.osem_inj (P.has c k).choose_spec

theorem duties_eq : P.sched.duties (P.cell c k) 0 = {()} := if_pos ⟨rfl, rfl, k, rfl⟩
theorem duty : () ∈ P.sched.duties (P.cell c k) 0 := by rw [duties_eq]; exact Finset.mem_singleton_self _
theorem duties_later (g : GSem nD τ sig) : ∀ r, 0 + 1 ≤ r → P.sched.duties g r = ∅ :=
  fun r hr => if_neg fun h => by have := h.1; omega
theorem amount_eq : P.sched.amount (P.cell c k) 0 () = P.N k := by
  show dite _ _ _ = _
  rw [dif_pos (P.has c k), has_choose]
theorem payload_eq : P.sched.payload (P.cell c k) 0 () = P.Pay c k := by
  show dite _ _ _ = _
  rw [dif_pos (P.has c k), has_choose]
theorem expect_eq : P.sched.expect (P.cell c k) 0 = P.N k := by
  unfold Schedule.expect Schedule.amountOf
  rw [duties_eq, Finset.sum_singleton, amount_eq]
theorem rest_eq : bigSep (P.sched.duties (P.cell c k) 0 \ ∅) (fun u => P.sched.payload (P.cell c k) 0 u) = P.Pay c k := by
  rw [Finset.sdiff_empty, duties_eq, bigSep_singleton, payload_eq]

end Table

/-! ## Records, levels, dues -/

/-- Every cell's invariant and that its round is open. -/
def records (κ : Dev nD × K → ℕ) : sProp 𝕄 :=
  iprop((bigSep Finset.univ fun ck : Dev nD × K => cellInv ER P.sched (κ ck) (P.cell ck.1 ck.2))
    ∗ bigSep Finset.univ fun ck : Dev nD × K => reached ER (P.cell ck.1 ck.2) 0)

instance records_persistent (κ : Dev nD × K → ℕ) : BI.Persistent (P.records κ) := by unfold records; infer_instance

theorem inv_at (κ : Dev nD × K → ℕ) (c : Dev nD) (k : K) : P.records κ ⊢ cellInv ER P.sched (κ (c, k)) (P.cell c k) := by
  unfold records
  iintro ⟨H, -⟩
  iapply (show (bigSep Finset.univ fun ck : Dev nD × K => (cellInv ER P.sched (κ ck) (P.cell ck.1 ck.2) : sProp 𝕄))
    ⊢ cellInv ER P.sched (κ (c, k)) (P.cell c k) from bigSep_elim (Finset.mem_univ (c, k)))
  iexact H

theorem reached_at (κ : Dev nD × K → ℕ) (c : Dev nD) (k : K) : P.records κ ⊢ reached ER (P.cell c k) 0 := by
  unfold records
  iintro ⟨-, H⟩
  iapply (show (bigSep Finset.univ fun ck : Dev nD × K => (reached ER (P.cell ck.1 ck.2) 0 : sProp 𝕄))
    ⊢ reached ER (P.cell c k) 0 from bigSep_elim (Finset.mem_univ (c, k)))
  iexact H

def L (g : GSem nD τ sig) : Finset Unit := if g.1.2 = .tc then {()} else ∅
theorem L_of_ne (g : GSem nD τ sig) (h : g.1.2 ≠ .tc) : L g = ∅ := if_neg h

open Classical in
def lv (g : GSem nD τ sig) (_ : Unit) : ℕ := if h : ∃ k, P.osem k = g.2 then P.lev h.choose else 0

theorem lv_eq (c : Dev nD) (k : K) : P.lv (P.cell c k) () = P.lev k := by
  unfold lv
  rw [dif_pos (P.has c k), has_choose]

/-- What device `c` owes for the cells `S` of its peers. -/
def due (c : Dev nD) (S : Finset K) : CellTallies nD τ sig Unit := ∑ k ∈ S, tallyAt (P.cell (P.peer k c) k) () (P.N k)

theorem due_erase (c : Dev nD) {S : Finset K} {k : K} (h : k ∈ S) :
    P.due c S = P.due c (S.erase k) + tallyAt (P.cell (P.peer k c) k) () (P.N k) :=
  (Finset.sum_erase_add S _ h).symm

/-- Device `c` owes what is due to the cells `S`, whatever it has waited for. -/
def owing (c : Dev nD) (S : Finset K) : sProp 𝕄 := iprop(∃ W, owes (c.tc : Thread nD τ) (P.due c S) W)

theorem mayWait (c : Dev nD) (k : K) (S : Finset K) (h : ∀ k' ∈ S, P.lev k < P.lev k') :
    (levAts L P.lv : sProp 𝕄) ⊢ MayWait (c.tc : Thread nD τ) (.dma (P.sem k)) () (P.due c S) :=
  mayWait_of_levAts (by unfold L; rw [if_pos rfl]; exact Finset.mem_singleton_self _) fun g i hg => by
    obtain ⟨k', hk', hpos⟩ := sum_pos_exists hg
    obtain ⟨rfl, rfl⟩ := tallyAt_pos hpos
    refine ⟨by unfold L; rw [if_pos rfl]; exact Finset.mem_singleton_self _, ?_⟩
    rw [P.lv_eq, P.lv_eq]
    exact h k' hk'

/-! ## The steps of a body -/

section Steps
variable {Λ : Idealize.SL.Sem.Labels} (defs : Defs nD τ sig Val Λ) (𝒱 : Variants) (c : Dev nD) (κ : Dev nD × K → ℕ)
variable {α : Type} {sp sp' : Space} {s : Shape} {e : EltTy}

/-- A remote copy: it credits the issuer's cell `ks` and the cell `kr` of the device written to. -/
theorem send (ks kr : K) {n : Dev nD} (hn : n = P.peer kr c)
    {src : Memref sig .tc sp s e} {dst : Memref sig .tc sp' s e}
    {sS sR : DmaSem sig} (hs : sS = P.sem ks) (hr : sR = P.sem kr)
    {hsc : dst.view.ref.isScScratch = false}
    {hsrc : src.view.WordExact} {hdst : dst.view.WordExact}
    {hsem : DmaTarget.Typed sp (.dma sR) (.remote (Dev.tc n : Thread nD τ) dst (.dma sS) hsc)}
    {q : PosShare TreeShare} {fs : Buf Val (src.view.loc (c.tc : Thread nD τ))}
    {fd : Buf Val (dst.view.loc ((P.peer kr c).tc : Thread nD τ))}
    (hNs : dst.view.dmaCredit = P.N ks) (hNr : dst.view.dmaCredit = P.N kr)
    (hps : (src.view.loc (c.tc : Thread nD τ) ↦[src.view.set]{q} fs : sProp 𝕄) ⊢ P.Pay c ks)
    (hpr : (dst.view.loc ((P.peer kr c).tc : Thread nD τ) ↦[dst.view.set]{fullShare}
        (dst.view.write Val fd (src.view.read Val fs) Finset.univ) : sProp 𝕄) ⊢ P.Pay (P.peer kr c) kr)
    {S : Finset K} (hS : kr ∈ S) {Q : α → sProp 𝕄} {k : PUnit → Prog (TpuEff nD τ sig Val Λ .tc) α} :
    iprop(P.records κ ∗ (src.view.loc (c.tc : Thread nD τ) ↦[src.view.set]{q} fs)
        ∗ (dst.view.loc ((P.peer kr c).tc : Thread nD τ) ↦[dst.view.set]{fullShare} fd)
        ∗ P.owing c S ∗ dutyTok ER (P.cell c ks) 0 () ∗ dutyTok ER (P.cell (P.peer kr c) kr) 0 ())
      ⊢ iprop(((cred (tallyAt (P.cell c ks) () (P.N ks)) ∗ P.owing c (S.erase kr))
            -∗ wp frame (wpE defs 𝒱 (c.tc : Thread nD τ) none) Set.univ (k ⟨⟩) Q)
          -∗ wp frame (wpE defs 𝒱 (c.tc : Thread nD τ) none) Set.univ
              (.op (.enqueueDma src (.remote (Dev.tc n : Thread nD τ) dst (.dma sS) hsc) (.dma sR) hsrc hdst hsem) k) Q) := by
  subst hn hs hr
  unfold owing
  iintro ⟨#HR, Hs, Hd, ⟨%W, HW⟩, Hts, Htr⟩ Hk
  iapply (Rounds.wp_send_pointsTo 𝒱 ER P.sched (c.tc : Thread nD τ) none (κ₁ := κ (c, ks)) (κ₂ := κ (P.peer kr c, kr))
    (r₁ := 0) (r₂ := 0) (d₁ := ()) (d₂ := ()) (fd := fd) (P.duty c ks) (P.duty (P.peer kr c) kr)
    () () (P.N kr) hNr ((P.amount_eq c ks).trans (hNs.symm.trans hNr)) (P.amount_eq (P.peer kr c) kr) (P.due c (S.erase kr))
    (P.due_erase c hS) (W := W)
    (by rw [P.payload_eq]; exact hps)
    (by rw [P.payload_eq]; exact hpr)) $$ [Hs Hd HW Hts Htr]
  · isplitr; · iapply (P.inv_at κ c ks); iexact HR
    isplitr; · iapply (P.inv_at κ (P.peer kr c) kr); iexact HR
    isplitl [Hs]; · iexact Hs
    isplitl [Hd]; · iexact Hd
    isplitl [HW]; · iexact HW
    isplitl [Hts]; · iexact Hts
    isplitr; · iapply (P.reached_at κ c ks); iexact HR
    isplitl [Htr]; · iexact Htr
    iapply (P.reached_at κ (P.peer kr c) kr); iexact HR
  iintro ⟨Hc, HW⟩
  iapply Hk
  rw [show P.N kr = P.N ks from hNr.symm.trans hNs]
  isplitl [Hc]; · iexact Hc
  iexists W; iexact HW

/-- A local copy: it credits the issuer's cell `kl`. -/
theorem copy (kl : K)
    {src : Memref sig .tc sp s e} {dst : Memref sig .tc sp' s e} {sL : DmaSem sig} (hl : sL = P.sem kl)
    {hsrc : src.view.WordExact} {hdst : dst.view.WordExact}
    {hsem : DmaTarget.Typed sp (.dma sL) (.here dst : DmaTarget nD τ sig .tc sp' s e)}
    {q : PosShare TreeShare} {fs : Buf Val (src.view.loc (c.tc : Thread nD τ))} {fd : Buf Val (dst.view.loc (c.tc : Thread nD τ))}
    (hN : dst.view.dmaCredit = P.N kl)
    (hp : iprop((dst.view.loc (c.tc : Thread nD τ) ↦[dst.view.set]{fullShare}
        (dst.view.write Val fd (src.view.read Val fs) Finset.univ)) ∗ (src.view.loc (c.tc : Thread nD τ) ↦[src.view.set]{q} fs))
        ⊢ (P.Pay c kl : sProp 𝕄))
    {Q : α → sProp 𝕄} {k : PUnit → Prog (TpuEff nD τ sig Val Λ .tc) α} :
    iprop(P.records κ ∗ (src.view.loc (c.tc : Thread nD τ) ↦[src.view.set]{q} fs)
        ∗ (dst.view.loc (c.tc : Thread nD τ) ↦[dst.view.set]{fullShare} fd) ∗ dutyTok ER (P.cell c kl) 0 ())
      ⊢ iprop((cred (tallyAt (P.cell c kl) () (P.N kl))
            -∗ wp frame (wpE defs 𝒱 (c.tc : Thread nD τ) none) Set.univ (k ⟨⟩) Q)
          -∗ wp frame (wpE defs 𝒱 (c.tc : Thread nD τ) none) Set.univ
              (.op (.enqueueDma src (.here dst) (.dma sL) hsrc hdst hsem) k) Q) := by
  subst hl
  iintro ⟨#HR, Hs, Hd, Ht⟩ Hk
  iapply (Rounds.wp_copy_pointsTo 𝒱 ER P.sched (c.tc : Thread nD τ) none (κ := κ (c, kl)) (r := 0) (d := ()) (fd := fd)
    (P.duty c kl) () (P.N kl) hN (P.amount_eq c kl) (by rw [P.payload_eq]; exact hp)) $$ [Hs Hd Ht]
  · isplitr; · iapply (P.inv_at κ c kl); iexact HR
    isplitl [Hs]; · iexact Hs
    isplitl [Hd]; · iexact Hd
    isplitl [Ht]; · iexact Ht
    iapply (P.reached_at κ c kl); iexact HR
  iexact Hk

/-- A wait for cell `kw`: what was paid for it comes back. -/
theorem wait (kw : K) {sW : DmaSem sig} (hw : sW = P.sem kw) {s' : Shape} {e' : EltTy}
    {src : Memref sig .tc sp s e} {dst : Memref sig .tc sp' s' e'}
    {hsrc : src.view.WordExact} {hdst : dst.view.WordExact} (hN : dst.view.dmaCredit = P.N kw)
    {S : Finset K} (hS : ∀ k' ∈ S, P.lev kw < P.lev k')
    {Q : α → sProp 𝕄} {k : PUnit → Prog (TpuEff nD τ sig Val Λ .tc) α} :
    iprop(P.records κ ∗ levAts L P.lv ∗ cred (tallyAt (P.cell c kw) () (P.N kw)) ∗ P.owing c S ∗ atPos ER (P.cell c kw) 0 ∅ 0)
      ⊢ iprop(((P.owing c S ∗ atPos ER (P.cell c kw) 1 ∅ 0 ∗ P.Pay c kw)
            -∗ wp frame (wpE defs 𝒱 (c.tc : Thread nD τ) none) Set.univ (k ⟨⟩) Q)
          -∗ wp frame (wpE defs 𝒱 (c.tc : Thread nD τ) none) Set.univ
              (.op (.waitDma2 sW src dst hsrc hdst) k) Q) := by
  subst hw
  unfold owing
  iintro ⟨#HR, #HL, Hc, ⟨%W, HW⟩, Ha⟩ Hk
  rw [← hN]
  iapply (Rounds.wp_wait_rest_token 𝒱 ER P.sched (c.tc : Thread nD τ) none (κ := κ (c, kw))
      (wpE_waitDma2_eq 𝒱 (c.tc : Thread nD τ) none Set.univ) (Set.mem_univ _) () (O := P.due c S) (W := W) (R := 0) (m := 0) (T := ∅)
      (by rw [Nat.zero_add, hN]; exact (P.expect_eq c kw).symm)) $$ [Hc HW Ha]
  · isplitr; · iapply (P.inv_at κ c kw); iexact HR
    isplitl [Hc]; · iexact Hc
    isplitl [HW]; · iexact HW
    isplitr; · iapply (P.mayWait c kw S hS); iexact HL
    iexact Ha
  iintro ⟨HW, Ha, -, Hp⟩
  iapply Hk
  isplitl [HW]; · iexists _; iexact HW
  isplitl [Ha]; · iexact Ha
  iapply (Entails.of_eq (P.rest_eq c kw)); iexact Hp

end Steps

/-- The cells done with: their counters are at zero. -/
theorem close (κ : Dev nD × K → ℕ) (c : Dev nD) :
    iprop(P.records κ ∗ bigSep Finset.univ fun k => atPos ER (P.cell c k) 1 ∅ 0)
      ⊢ (|={Set.univ}=> ownSems0 P.osem c : sProp 𝕄) := by
  refine (sep_mono_left (BI.bigSep_of_persistent (Finset.univ : Finset K) (P.records κ))).trans ?_
  rw [← bigSep_sep']
  refine (bigSep_mono (s := Finset.univ) fun (k : K) _ => ?_).trans (bigSep_fupd _ _)
  show iprop(P.records κ ∗ atPos ER (P.cell c k) 1 ∅ 0) ⊢ (|={Set.univ}=> semVal (P.cell c k) 0 : sProp 𝕄)
  iintro ⟨#HR, Ha⟩
  iapply (Rounds.cell_close ER P.sched (Set.mem_univ (κ (c, k))) (fun h => h) (R := 0 + 1) (P.duties_later (P.cell c k)))
  isplitr; · iapply (P.inv_at κ c k); iexact HR
  iexact Ha

/-! ## The launch -/

/-- The kernel's cells of every device. -/
def allCells : Finset (GSem nD τ sig) := Finset.univ.map ⟨fun ck : Dev nD × K => P.cell ck.1 ck.2, P.cell_inj⟩
def allToks : Finset (GSem nD τ sig × ℕ × Unit) :=
  Finset.univ.map ⟨fun ck : Dev nD × K => (P.cell ck.1 ck.2, 0, ()), fun _ _ h => P.cell_inj (congrArg Prod.fst h)⟩

/-- A device's share of the ghost state. -/
def ghost (c : Dev nD) : sProp 𝕄 :=
  iprop((bigSep Finset.univ fun k => roundState ER P.sched (P.cell c k) 0)
    ∗ (bigSep Finset.univ fun k => reached ER (P.cell c k) 0)
    ∗ (bigSep Finset.univ fun k => atPos ER (P.cell c k) 0 ∅ 0)
    ∗ bigSep Finset.univ fun k => dutyTok ER (P.cell c k) 0 ())

theorem fund : BI.own (ER (initOf P.allCells P.allToks)) ⊢ (|==> bigSep Finset.univ P.ghost : sProp 𝕄) := by
  have hX (Φ : GSem nD τ sig → sProp 𝕄) :
      bigSep P.allCells Φ = bigSep Finset.univ fun c : Dev nD => bigSep Finset.univ fun k : K => Φ (P.cell c k) := by
    unfold allCells; rw [bigSep_map, bigSep_univ_prod]; rfl
  have hT : bigSep P.allToks (fun x => (dutyTok ER x.1 x.2.1 x.2.2 : sProp 𝕄))
      = bigSep Finset.univ fun c : Dev nD => bigSep Finset.univ fun k : K => dutyTok ER (P.cell c k) 0 () := by
    unfold allToks; rw [bigSep_map, bigSep_univ_prod]; rfl
  iintro HX
  imod (Rounds.fund ER P.sched P.allCells P.allToks) $$ HX with ⟨Hst, Hr, Hat, Htok⟩
  imodintro
  ihave Hst' := (Entails.of_eq (hX fun g => roundState ER P.sched g 0)) $$ Hst
  ihave Hr' := (Entails.of_eq (hX fun g => reached ER g 0)) $$ Hr
  ihave Hat' := (Entails.of_eq (hX fun g => atPos ER g 0 ∅ 0)) $$ Hat
  ihave Htok' := (Entails.of_eq hT) $$ Htok
  unfold ghost; simp only [bigSep_sep']
  isplitl [Hst']; · iexact Hst'
  isplitl [Hr']; · iexact Hr'
  isplitl [Hat']; · iexact Hat'
  iexact Htok'

/-- The launch's element: its own cells' beside the kernel's. -/
theorem fund_all {u : UR sig nD τ} :
    (ownU (u, initOf P.allCells P.allToks) : sProp 𝕄) ⊢ |={Set.univ}=> iprop(BI.own (EP u) ∗ bigSep Finset.univ P.ghost) := by
  iintro Hu
  ihave H := (ownU_pair _ _) $$ Hu
  icases H with ⟨HP, HX⟩
  imod (P.fund) $$ HX with HG
  imodintro
  isplitl [HP] <;> iassumption

/-- What a device starts from: the records and levels, its positions, the credits it will be paid, the duties it is to
    perform and its part of the machine's buffers. -/
def Start (Own : Dev nD → sProp (MM nD τ sig Val)) (c : Dev nD) : sProp 𝕄 :=
  iprop(∃ κ, P.records κ ∗ levAts L P.lv
    ∗ (bigSep Finset.univ fun k => atPos ER (P.cell c k) 0 ∅ 0)
    ∗ (bigSep P.recv fun k => cred (tallyAt (P.cell c k) () (P.N k)))
    ∗ (bigSep Finset.univ fun k => dutyTok ER (P.cell (P.peer k c) k) 0 ())
    ∗ Own c)

/-- The peer of every device, as a permutation. -/
def swap (k : K) : Dev nD ≃ Dev nD := ⟨P.peer k, P.peer k, P.inv k, P.inv k⟩

/-- What is dealt cell by cell goes to whoever credits the cell. -/
theorem across {S : Finset K} (Φ : Dev nD → K → sProp (MM nD τ sig Val)) :
    (bigSep Finset.univ fun c => bigSep S fun k => Φ c k : sProp 𝕄) = bigSep Finset.univ fun c => bigSep S fun k => Φ (P.peer k c) k := by
  classical
  induction S using Finset.induction_on with
  | empty => simp only [BI.bigSep_empty]
  | insert k S hk ih =>
    have h1 (Ψ : Dev nD → K → sProp 𝕄) : (bigSep Finset.univ fun c => bigSep (insert k S) fun k => Ψ c k)
        = iprop((bigSep Finset.univ fun c => Ψ c k) ∗ bigSep Finset.univ fun c => bigSep S fun k => Ψ c k) := by
      rw [← bigSep_sep']
      exact bigSep_congr fun c _ => bigSep_insert hk
    rw [h1, h1 fun c k => Φ (P.peer k c) k, ih, bigSep_univ_equiv (P.swap k) fun c => Φ c k]
    rfl

theorem credits (c : Dev nD) : (launchCred (fun d => P.due d P.recv) c : sProp 𝕄)
    ⊢ bigSep P.recv fun k => cred (tallyAt (P.cell c k) () (P.N k)) := by
  unfold due
  rw [launchCred_sum]
  exact bigSep_mono fun k _ => launchCred_tallyAt (.dma (P.sem k)) (P.peer k) (P.peer k) (P.inv k) (P.inv k) () (P.N k) c

/-- The cells' invariants, allocated at once. -/
theorem alloc : iprop((bigSep Finset.univ fun c : Dev nD => ownSems0 P.osem c) ∗ bigSep Finset.univ fun c : Dev nD => bigSep Finset.univ fun k => roundState ER P.sched (P.cell c k) 0)
      ⊢ (|={Set.univ}=> iprop(∃ κ : Dev nD × K → ℕ, bigSep Finset.univ fun ck : Dev nD × K => cellInv ER P.sched (κ ck) (P.cell ck.1 ck.2)) : sProp 𝕄) := by
  have h1 : iprop((bigSep Finset.univ fun c : Dev nD => ownSems0 P.osem c) ∗ bigSep Finset.univ fun c : Dev nD => bigSep Finset.univ fun k => roundState ER P.sched (P.cell c k) 0)
      ⊢ (|={Set.univ}=> bigSep Finset.univ fun ck : Dev nD × K => iprop(∃ κ : ℕ, cellInv ER P.sched κ (P.cell ck.1 ck.2)) : sProp 𝕄) := by
    unfold ownSems0
    rw [← bigSep_univ_prod (fun ck : Dev nD × K => (semVal (P.cell ck.1 ck.2) 0 : sProp 𝕄)),
      ← bigSep_univ_prod (fun ck : Dev nD × K => (roundState ER P.sched (P.cell ck.1 ck.2) 0 : sProp 𝕄)), ← bigSep_sep']
    exact (bigSep_mono fun ck _ => (Rounds.body_intro ER P.sched (P.cell ck.1 ck.2)).trans inv_alloc).trans (bigSep_fupd _ _)
  exact h1.trans (BI.fupd_mono (BI.bigSep_exists_pi Finset.univ fun (ck : Dev nD × K) (κ : ℕ) => (cellInv ER P.sched κ (P.cell ck.1 ck.2) : sProp 𝕄)))

theorem bigSep_beside {I : Type} [DecidableEq I] {S : Finset I} {R : sProp (MM nD τ sig Val)} [BI.Persistent R] {Φ Ψ : I → sProp (MM nD τ sig Val)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The launch's deal: each device's buffers cut into what it keeps and what those who write into it are to hold. -/
theorem deal (m : (ℓ : Loc nD τ sig) → Buf Val ℓ) (Mine : Dev nD → sProp (MM nD τ sig Val)) (Dst : Dev nD → K → sProp (MM nD τ sig Val))
    (hbufs : ∀ c, (unscopedBufs c (fun b => m ((c.tc : Thread nD τ).loc b)) : sProp 𝕄) ⊢ iprop(Mine c ∗ bigSep P.recv fun k => Dst c k)) :
    iprop((bigSep Finset.univ fun c => Alone.Dealt (fun c => P.due c P.recv) P.osem m P.ghost c) ∗ levAts L P.lv)
      ⊢ (|={Set.univ}=> bigSep Finset.univ (P.Start fun c => iprop(Mine c ∗ bigSep P.recv fun k => Dst (P.peer k c) k)) : sProp 𝕄) := by
  unfold Alone.Dealt ghost
  simp only [bigSep_sep']
  iintro ⟨⟨Hos, Hub, Hcr, Hst, Hr, Hat, Htok⟩, #HL⟩
  imod (P.alloc) $$ [Hos Hst] with ⟨%κ, #HI⟩
  · isplitl [Hos] <;> iassumption
  ihave #HR := (Entails.of_eq (bigSep_univ_prod (fun ck : Dev nD × K => (reached ER (P.cell ck.1 ck.2) 0 : sProp 𝕄))).symm) $$ Hr
  ihave Htok := (Entails.of_eq (P.across fun c k => (dutyTok ER (P.cell c k) 0 () : sProp 𝕄))) $$ Htok
  ihave Hub := (show (bigSep Finset.univ fun c : Dev nD => (unscopedBufs c (fun b => m ((c.tc : Thread nD τ).loc b)) : sProp 𝕄))
    ⊢ bigSep Finset.univ fun c => iprop(Mine c ∗ bigSep P.recv fun k => Dst c k) from bigSep_mono fun c _ => hbufs c) $$ Hub
  ihave Hub := (Entails.of_eq (bigSep_sep' Finset.univ Mine fun c => bigSep P.recv fun k => Dst c k)) $$ Hub
  icases Hub with ⟨Hm, Hd⟩
  ihave Hd := (Entails.of_eq (P.across Dst)) $$ Hd
  ihave Hcr := (show (bigSep Finset.univ fun c : Dev nD => (launchCred (fun d => P.due d P.recv) c : sProp 𝕄))
    ⊢ bigSep Finset.univ fun c => bigSep P.recv fun k => cred (tallyAt (P.cell c k) () (P.N k)) from bigSep_mono fun c _ => P.credits c) $$ Hcr
  imodintro
  iapply (bigSep_beside (R := iprop(P.records κ ∗ levAts L P.lv))
    (Φ := fun c => iprop((bigSep Finset.univ fun k => atPos ER (P.cell c k) 0 ∅ 0)
      ∗ (bigSep P.recv fun k => cred (tallyAt (P.cell c k) () (P.N k)))
      ∗ (bigSep Finset.univ fun k => dutyTok ER (P.cell (P.peer k c) k) 0 ())
      ∗ (Mine c ∗ bigSep P.recv fun k => Dst (P.peer k c) k))) fun c _ => ?_)
  · unfold Start
    iintro ⟨⟨#H1, #H2⟩, H3⟩
    iexists κ
    isplitr; · iexact H1
    isplitr; · iexact H2
    iexact H3
  · isplitr
    · isplitl
      · unfold records; isplitl
        · iexact HI
        · iexact HR
      · iexact HL
    simp only [bigSep_sep']
    isplitl [Hat]; · iexact Hat
    isplitl [Hcr]; · iexact Hcr
    isplitl [Htok]; · iexact Htok
    isplitl [Hm] <;> iassumption

end Plan

end Cert.Talk
-- ==== Proof.Slots.lean ====
/-
  The slots of a rank-three buffer: the elements with a given leading coordinate, and what the view of one slot as a matrix
  reads and leaves behind.
-/
module

public import Idealize.ShloMosaic.Lib.Pipeline.Value
public import Idealize.ShloMosaic.Lib.ValueLayout
public import Idealize.ShloMosaic.Lib.Pipeline.Launch

@[expose] public section

noncomputable section

namespace Cert.Slots

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

set_option Elab.async false

/-- The shape `[a, b, w]`. -/
abbrev Sh3 (a b w : ℕ) : Shape := ⟨3, ![a, b, w]⟩
/-- The shape `[b, w]`. -/
abbrev Sh2 (b w : ℕ) : Shape := ⟨2, ![b, w]⟩

section View
variable {sig : RefSig} {κ : Kind} {sp : Space} {e : EltTy} {a b w : ℕ}

/-- The elements of slot `d`. -/
def slot (M : Memref sig κ sp (Sh3 a b w) e) (d : Fin a) : Finset M.view.ty.Idx :=
  (Finset.univ.filter fun i : (Sh3 a b w).Idx => (i 0).val = d.val).map M.view.emb

theorem slot_disjoint (M : Memref sig κ sp (Sh3 a b w) e) {d d' : Fin a} (h : d ≠ d') : Disjoint (slot M d) (slot M d') := by
  unfold slot
  rw [Finset.disjoint_map]
  exact Finset.disjoint_filter.mpr fun i _ h1 h2 => h (Fin.ext (h1.symm.trans h2))

theorem slot_union (M : Memref sig κ sp (Sh3 a b w) e) : Finset.univ.biUnion (slot M) = M.view.set := by
  ext i
  simp only [slot, View.set, Finset.mem_biUnion, Finset.mem_univ, true_and, Finset.mem_map, Finset.mem_filter]
  exact ⟨fun ⟨_, x, _, h⟩ => ⟨x, h⟩, fun ⟨x, h⟩ => ⟨x 0, x, rfl, h⟩⟩

/-- The memref of slot `d`, the rectangle at `(d, 0, 0)` of the slot's extents, its leading axis dropped. -/
abbrev slotView (M : Memref sig κ sp (Sh3 a b w) e) (off : Fin 3 → ℕ)
    (hin : ∀ x : Fin 3, off x + ![1, b, w] x ≤ ![a, b, w] x)
    (hq : (Sh3 1 b w).Squeezes (Sh2 b w)) : Memref sig κ sp (Sh2 b w) e :=
  (M.slice (Rect.unit (s := Sh3 a b w) off ![1, b, w] hin) (fun _ => rfl)).squeeze (Sh2 b w) hq

variable (M : Memref sig κ sp (Sh3 a b w) e) {off : Fin 3 → ℕ}
  {hin : ∀ x : Fin 3, off x + ![1, b, w] x ≤ ![a, b, w] x} {hq : (Sh3 1 b w).Squeezes (Sh2 b w)}

theorem slotView_emb (d : Fin a) (hoff : off = ![d.val, 0, 0]) (x : Fin b) (y : Fin w) :
    (slotView M off hin hq).view.emb (ix2 x y) = M.view.emb (ix3 d x y) := by
  subst hoff
  refine congrArg M.view.emb ?_
  show (Rect.unit (s := Sh3 a b w) ![d.val, 0, 0] ![1, b, w] hin).emb (Shape.reshapeEquiv _ (ix2 x y)) = _
  rw [reshapeEquiv_ix2_1ab]
  funext t
  refine Fin.ext ?_
  fin_cases t
  · show d.val + 1 * 0 = d.val; omega
  · show 0 + 1 * x.val = x.val; omega
  · show 0 + 1 * y.val = y.val; omega

theorem ix2_eta (j : (Sh2 b w).Idx) : j = ix2 (j 0) (j 1) := by
  funext t; fin_cases t <;> rfl

theorem ix3_eta (j : (Sh3 a b w).Idx) : j = ix3 (j 0) (j 1) (j 2) := by
  funext t; fin_cases t <;> rfl

theorem slotView_set (d : Fin a) (hoff : off = ![d.val, 0, 0]) : (slotView M off hin hq).view.set = slot M d := by
  ext i
  unfold slot View.set
  simp only [Finset.mem_map, Finset.mem_filter, Finset.mem_univ, true_and]
  constructor
  · rintro ⟨j, rfl⟩
    refine ⟨ix3 d (j 0) (j 1), rfl, ?_⟩
    have h := slotView_emb M (hin := hin) (hq := hq) d hoff (j 0) (j 1)
    exact h.symm.trans (congrArg (slotView M off hin hq).view.emb (ix2_eta j).symm)
  · rintro ⟨j, h0, rfl⟩
    refine ⟨ix2 (j 1) (j 2), ?_⟩
    refine (slotView_emb M (hin := hin) (hq := hq) d hoff (j 1) (j 2)).trans (congrArg M.view.emb ?_)
    funext t; fin_cases t
    · exact Fin.ext h0.symm
    · rfl
    · rfl

variable {Val : EltTy → Type}

theorem slotView_read (d : Fin a) (hoff : off = ![d.val, 0, 0]) (f : M.view.ty.Contents Val) (x : Fin b) (y : Fin w) :
    (slotView M off hin hq).view.read Val f (ix2 x y) = M.view.read Val f (ix3 d x y) := by
  show _root_.cast _ (f ((slotView M off hin hq).view.emb (ix2 x y))) = _root_.cast _ (f (M.view.emb (ix3 d x y)))
  rw [slotView_emb M d hoff]

/-- A slot written with what `g` holds there is `g` there. -/
theorem slotView_write (d : Fin a) (hoff : off = ![d.val, 0, 0]) (f g : M.view.ty.Contents Val) (v : (Sh2 b w).Idx → Val e)
    (h : ∀ x y, v (ix2 x y) = M.view.read Val g (ix3 d x y)) {i : M.view.ty.Idx} (hi : i ∈ slot M d) :
    (slotView M off hin hq).view.write Val f v Finset.univ i = g i := by
  rw [← slotView_set M (hin := hin) (hq := hq) d hoff] at hi
  obtain ⟨j, -, rfl⟩ := Finset.mem_map.mp hi
  rw [View.write_emb_of_mem _ _ (Finset.mem_univ j)]
  have hj : v j = (slotView M off hin hq).view.read Val g j := by
    have h1 := (h (j 0) (j 1)).trans (slotView_read M (hin := hin) (hq := hq) d hoff g (j 0) (j 1)).symm
    exact (congrArg v (ix2_eta j)).trans (h1.trans (congrArg _ (ix2_eta j).symm))
  rw [hj, View.read_apply, cast_cast, cast_eq]

end View

section Res
variable {nD : Nat} {τ : Topo} {sig : RefSig} {Val : EltTy → Type} {U : Type} [URA U]
variable {sp : Space} {e : EltTy} {a b w : ℕ}

local notation "𝕄" => MT nD τ sig Unit Val ℕ U ℕ

/-- The elements of a buffer are the elements of its slots. -/
theorem slots_split (M : Memref sig .tc sp (Sh3 a b w) e) (c : Dev nD) (q : PosShare TreeShare)
    (f : Buf Val (M.view.loc (c.tc : Thread nD τ))) :
    (M.view.loc (c.tc : Thread nD τ) ↦[M.view.set]{q} f : sProp 𝕄)
      = bigSep Finset.univ fun d => M.view.loc (c.tc : Thread nD τ) ↦[slot M d]{q} f := by
  have h := pointsTo_biUnion (nD := nD) (τ := τ) (sig := sig) (Ix := Unit) (Val := Val) (Name := ℕ) (U := U) (Lvl := ℕ)
    (ℓ := M.view.loc (c.tc : Thread nD τ)) (q := q) (f := f) Finset.univ (slot M) fun _ _ _ _ h => slot_disjoint M h
  rw [← h, slot_union]

variable (M : Memref sig .tc sp (Sh3 a b w) e) {off : Fin 3 → ℕ}
  {hin : ∀ x : Fin 3, off x + ![1, b, w] x ≤ ![a, b, w] x} {hq : (Sh3 1 b w).Squeezes (Sh2 b w)}

/-- A slot held through its view. -/
theorem slotView_pts (c : Dev nD) (q : PosShare TreeShare) (d : Fin a) (hoff : off = ![d.val, 0, 0])
    (f : Buf Val (M.view.loc (c.tc : Thread nD τ))) :
    ((slotView M off hin hq).view.loc (c.tc : Thread nD τ) ↦[(slotView M off hin hq).view.set]{q} f : sProp 𝕄)
      = M.view.loc (c.tc : Thread nD τ) ↦[slot M d]{q} f :=
  congrArg (fun S => (M.view.loc (c.tc : Thread nD τ) ↦[S]{q} f : sProp 𝕄)) (slotView_set M d hoff)

/-- A slot just written through its view. -/
theorem slotView_pts_write (c : Dev nD) (q : PosShare TreeShare) (d : Fin a) (hoff : off = ![d.val, 0, 0])
    (f g : Buf Val (M.view.loc (c.tc : Thread nD τ))) (v : (Sh2 b w).Idx → Val e)
    (h : ∀ x y, v (ix2 x y) = M.view.read Val g (ix3 d x y)) :
    ((slotView M off hin hq).view.loc (c.tc : Thread nD τ) ↦[(slotView M off hin hq).view.set]{q}
        ((slotView M off hin hq).view.write Val f v Finset.univ) : sProp 𝕄)
      = M.view.loc (c.tc : Thread nD τ) ↦[slot M d]{q} g := by
  rw [slotView_pts M c q d hoff]
  exact pointsTo_congr fun i hi => slotView_write M d hoff f g v h hi

end Res

end Cert.Slots
-- ==== Proof.Steps.lean ====
/-
  What the exchanges share beyond their plans: a remote copy into a slot of a peer's buffer, a local copy into a slot, the
  end of a body, waits one after the other, the reading of two buffers after the run, and the run of a program whose one call is a plan.
-/
module

public import proofs.«01_k».proof.Proof.Talk
public import proofs.«01_k».proof.Proof.Slots
public import Idealize.ShloMosaic.Lib.Pipeline.BigSepL

@[expose] public section

noncomputable section

namespace Cert.Talk

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Slots

set_option Elab.async false

variable {nD : ℕ} {τ : Topo} {sig : RefSig} {Val : EltTy → Type} {K : Type} [Fintype K] [DecidableEq K]

local notation "𝕄" => MM nD τ sig Val

namespace Plan
variable (P : Plan nD τ sig Val K)

section Steps
variable {Λ : Idealize.SL.Sem.Labels} (defs : Defs nD τ sig Val Λ) (𝒱 : Variants) (c : Dev nD) (κ : Dev nD × K → ℕ)
variable {α : Type} {sp sp' : Space} {e : EltTy} {a b w : ℕ}

/-- A remote copy into slot `d` of a peer's buffer: the slot becomes what `g` holds there. -/
theorem send_slot (ks kr : K) {n : Dev nD} (hn : n = P.peer kr c)
    (M : Memref sig .tc sp' (Sh3 a b w) e) (d : Fin a) {off : Fin 3 → ℕ} (hoff : off = ![d.val, 0, 0])
    {hin : ∀ x : Fin 3, off x + ![1, b, w] x ≤ ![a, b, w] x} {hq : (Sh3 1 b w).Squeezes (Sh2 b w)}
    {src : Memref sig .tc sp (Sh2 b w) e}
    {sS sR : DmaSem sig} (hs : sS = P.sem ks) (hr : sR = P.sem kr)
    {hsc : (slotView M off hin hq).view.ref.isScScratch = false}
    {hsrc : src.view.WordExact} {hdst : (slotView M off hin hq).view.WordExact}
    {hsem : DmaTarget.Typed sp (.dma sR) (.remote (Dev.tc n : Thread nD τ) (slotView M off hin hq) (.dma sS) hsc)}
    (q : PosShare TreeShare) (fs : Buf Val (src.view.loc (c.tc : Thread nD τ)))
    (fd g : Buf Val (M.view.loc ((P.peer kr c).tc : Thread nD τ)))
    (hNs : (slotView M off hin hq).view.dmaCredit = P.N ks) (hNr : (slotView M off hin hq).view.dmaCredit = P.N kr)
    {A : sProp (MM nD τ sig Val)}
    (hA : A = (src.view.loc (c.tc : Thread nD τ) ↦[src.view.set]{q} fs : sProp 𝕄))
    (hps : A ⊢ P.Pay c ks)
    (hg : ∀ x y, src.view.read Val fs (ix2 x y) = M.view.read Val g (ix3 d x y))
    (hpr : (M.view.loc ((P.peer kr c).tc : Thread nD τ) ↦[slot M d]{fullShare} g : sProp 𝕄) ⊢ P.Pay (P.peer kr c) kr)
    {S : Finset K} (hS : kr ∈ S) {Q : α → sProp 𝕄} {k : PUnit → Prog (TpuEff nD τ sig Val Λ .tc) α} :
    iprop(P.records κ ∗ A ∗ (M.view.loc ((P.peer kr c).tc : Thread nD τ) ↦[slot M d]{fullShare} fd)
        ∗ P.owing c S ∗ dutyTok ER (P.cell c ks) 0 () ∗ dutyTok ER (P.cell (P.peer kr c) kr) 0 ())
      ⊢ iprop(((cred (tallyAt (P.cell c ks) () (P.N ks)) ∗ P.owing c (S.erase kr))
            -∗ wp frame (wpE defs 𝒱 (c.tc : Thread nD τ) none) Set.univ (k ⟨⟩) Q)
          -∗ wp frame (wpE defs 𝒱 (c.tc : Thread nD τ) none) Set.univ
              (.op (.enqueueDma src (.remote (Dev.tc n : Thread nD τ) (slotView M off hin hq) (.dma sS) hsc) (.dma sR) hsrc hdst hsem) k) Q) := by
  subst hA
  have h := P.send defs 𝒱 c κ ks kr hn (src := src) (dst := slotView M off hin hq) hs hr (hsc := hsc) (hsrc := hsrc) (hdst := hdst)
    (hsem := hsem) (q := q) (fs := fs) (fd := fd) hNs hNr hps
    (by rw [slotView_pts_write M (P.peer kr c) fullShare d hoff fd g _ hg]; exact hpr) hS (Q := Q) (k := k)
  rw [slotView_pts M (P.peer kr c) fullShare d hoff fd] at h
  exact h

/-- A local copy into slot `d` of a buffer of one's own. -/
theorem copy_slot (kl : K)
    (M : Memref sig .tc sp' (Sh3 a b w) e) (d : Fin a) {off : Fin 3 → ℕ} (hoff : off = ![d.val, 0, 0])
    {hin : ∀ x : Fin 3, off x + ![1, b, w] x ≤ ![a, b, w] x} {hq : (Sh3 1 b w).Squeezes (Sh2 b w)}
    {src : Memref sig .tc sp (Sh2 b w) e} {sL : DmaSem sig} (hl : sL = P.sem kl)
    {hsrc : src.view.WordExact} {hdst : (slotView M off hin hq).view.WordExact}
    {hsem : DmaTarget.Typed sp (.dma sL) (.here (slotView M off hin hq) : DmaTarget nD τ sig .tc sp' (Sh2 b w) e)}
    (q : PosShare TreeShare) (fs : Buf Val (src.view.loc (c.tc : Thread nD τ)))
    (fd g : Buf Val (M.view.loc (c.tc : Thread nD τ)))
    (hN : (slotView M off hin hq).view.dmaCredit = P.N kl)
    {A : sProp (MM nD τ sig Val)}
    (hA : A = (src.view.loc (c.tc : Thread nD τ) ↦[src.view.set]{q} fs : sProp 𝕄))
    (hg : ∀ x y, src.view.read Val fs (ix2 x y) = M.view.read Val g (ix3 d x y))
    (hp : iprop((M.view.loc (c.tc : Thread nD τ) ↦[slot M d]{fullShare} g) ∗ A) ⊢ (P.Pay c kl : sProp 𝕄))
    {Q : α → sProp 𝕄} {k : PUnit → Prog (TpuEff nD τ sig Val Λ .tc) α} :
    iprop(P.records κ ∗ A ∗ (M.view.loc (c.tc : Thread nD τ) ↦[slot M d]{fullShare} fd) ∗ dutyTok ER (P.cell c kl) 0 ())
      ⊢ iprop((cred (tallyAt (P.cell c kl) () (P.N kl))
            -∗ wp frame (wpE defs 𝒱 (c.tc : Thread nD τ) none) Set.univ (k ⟨⟩) Q)
          -∗ wp frame (wpE defs 𝒱 (c.tc : Thread nD τ) none) Set.univ
              (.op (.enqueueDma src (.here (slotView M off hin hq)) (.dma sL) hsrc hdst hsem) k) Q) := by
  subst hA
  have h := P.copy defs 𝒱 c κ kl (src := src) (dst := slotView M off hin hq) hl (hsrc := hsrc) (hdst := hdst)
    (hsem := hsem) (q := q) (fs := fs) (fd := fd) hN
    (by rw [slotView_pts_write M c fullShare d hoff fd g _ hg]; exact hp) (Q := Q) (k := k)
  rw [slotView_pts M c fullShare d hoff fd] at h
  exact h

end Steps

/-- A wait of the body: its cell, the semaphore and the two ends that it names. -/
structure Wait (s : Shape) (e : EltTy) where
  cell : K
  sem : DmaSem sig
  hsem : sem = P.sem cell
  src : Memref sig .tc .hbm s e
  dst : Memref sig .tc .hbm s e
  hsrc : src.view.WordExact
  hdst : dst.view.WordExact
  hN : dst.view.dmaCredit = P.N cell

/-- Waits one after the other, then `k`. -/
def waits {Λ : Idealize.SL.Sem.Labels} {α : Type} {s : Shape} {e : EltTy} (k : Prog (TpuEff nD τ sig Val Λ .tc) α) :
    List (P.Wait s e) → Prog (TpuEff nD τ sig Val Λ .tc) α
  | [] => k
  | w :: l => .op (.waitDma2 w.sem w.src w.dst w.hsrc w.hdst) fun _ => waits k l

/-- Waits one after the other while nothing is owed: what was paid for their cells comes back. -/
theorem wait_all {Λ : Idealize.SL.Sem.Labels} (defs : Defs nD τ sig Val Λ) (𝒱 : Variants) (c : Dev nD) (κ : Dev nD × K → ℕ)
    {α : Type} {s : Shape} {e : EltTy} {Q : α → sProp 𝕄} (k : Prog (TpuEff nD τ sig Val Λ .tc) α) : ∀ l : List (P.Wait s e),
    iprop(P.records κ ∗ levAts L P.lv ∗ (bigSepL l fun w => cred (tallyAt (P.cell c w.cell) () (P.N w.cell))) ∗ P.owing c ∅
        ∗ bigSepL l fun w => atPos ER (P.cell c w.cell) 0 ∅ 0)
      ⊢ iprop(((P.owing c ∅ ∗ (bigSepL l fun w => atPos ER (P.cell c w.cell) 1 ∅ 0) ∗ bigSepL l fun w => P.Pay c w.cell)
            -∗ wp frame (wpE defs 𝒱 (c.tc : Thread nD τ) none) Set.univ k Q)
          -∗ wp frame (wpE defs 𝒱 (c.tc : Thread nD τ) none) Set.univ (P.waits k l) Q)
  | [] => by
    show _ ⊢ iprop(_ -∗ wp frame (wpE defs 𝒱 (c.tc : Thread nD τ) none) Set.univ k Q)
    iintro ⟨-, -, -, HO, -⟩ Hk
    iapply Hk
    isplitl [HO]; · iexact HO
    isplitl <;> iempintro
  | w :: l => by
    rw [bigSepL_cons', bigSepL_cons', bigSepL_cons', bigSepL_cons']
    show _ ⊢ iprop(_ -∗ wp frame (wpE defs 𝒱 (c.tc : Thread nD τ) none) Set.univ
      (.op (.waitDma2 w.sem w.src w.dst w.hsrc w.hdst) fun _ => P.waits k l) Q)
    iintro ⟨#HR, #HL, ⟨Hc, Hcs⟩, HO, ⟨Ha, Has⟩⟩ Hk
    iapply (P.wait defs 𝒱 c κ w.cell w.hsem w.hN (S := ∅) (fun _ h => absurd h (Finset.notMem_empty _))) $$ [Hc HO Ha]
    · isplitr; · iexact HR
      isplitr; · iexact HL
      isplitl [Hc]; · iexact Hc
      isplitl [HO] <;> iassumption
    iintro ⟨HO, Ha, Hp⟩
    iapply (wait_all defs 𝒱 c κ k l) $$ [Hcs HO Has]
    · isplitr; · iexact HR
      isplitr; · iexact HL
      isplitl [Hcs]; · iexact Hcs
      isplitl [HO] <;> iassumption
    iintro ⟨HO, Has, Hps⟩
    iapply Hk
    isplitl [HO]; · iexact HO
    isplitl [Ha Has]
    · isplitl [Ha] <;> iassumption
    · isplitl [Hp] <;> iassumption

/-- The end of a body: every cell closed, nothing owed. -/
theorem finish (κ : Dev nD × K → ℕ) (c : Dev nD) {S : Finset K} (hS : S = ∅) (R : sProp (MM nD τ sig Val)) :
    iprop(P.records κ ∗ (bigSep Finset.univ fun k => atPos ER (P.cell c k) 1 ∅ 0) ∗ P.owing c S ∗ R)
      ⊢ (|={Set.univ}=> iprop(R ∗ ownSems0 P.osem c ∗ BI.emp
          ∗ ∃ W' : Finset (SemLoc sig × Unit), owes (c.tc : Thread nD τ) (0 : CellTallies nD τ sig Unit) W') : sProp 𝕄) := by
  subst hS
  unfold owing
  rw [show P.due c ∅ = 0 from Finset.sum_empty]
  iintro ⟨#HR, Ha, Ho, HF⟩
  imod (P.close κ c) $$ [Ha] with Hs
  · isplitr; · iexact HR
    iexact Ha
  imodintro
  isplitl [HF]; · iexact HF
  isplitl [Hs]; · iexact Hs
  isplitr; · iempintro
  iexact Ho

end Plan

/-- Two buffers of a device, whole, read against the state. -/
theorem read_two (c : Dev nD) (a b : Ref sig .tc) (fa : Buf Val ((c.tc : Thread nD τ).loc a)) (fb : Buf Val ((c.tc : Thread nD τ).loc b))
    (s' : Phys nD τ sig Val) :
    iprop((((c.tc : Thread nD τ).loc a ↦{fullShare} fa) ∗ ((c.tc : Thread nD τ).loc b ↦{fullShare} fb)) ∗ SI s')
      ⊢ (|={Set.univ}=> iprop(⌜s'.mem.mem ((c.tc : Thread nD τ).loc b) = fb ∧ s'.mem.mem ((c.tc : Thread nD τ).loc a) = fa⌝ ∗ SI s') : sProp 𝕄) := by
  iintro ⟨⟨Ha, Hb⟩, HSI⟩
  icombine HSI Ha gives %h1
  icombine HSI Hb gives %h2
  imodintro
  isplitr
  · ipureintro
    exact ⟨Buf.eq_of_forall_mem_univ h2, Buf.eq_of_forall_mem_univ h1⟩
  · iexact HSI

section Run
variable {Λ₀ : Idealize.SL.Sem.Labels} {cfgs : Fin 1 → Cfg sig Λ₀}

/-- The run of a program whose one call is a plan: from what each device is dealt, its body leaves the two buffers `a`, `b`
    with the contents `fa`, `fb`; so does every run of the program. -/
theorem Plan.run (P : Plan nD τ sig Val K) [∀ e, Nonempty (Val e)]
    (hW : ∀ p, IsEmpty (Fin (cfgs p).W)) (hN : (cfgs 0).N = 1)
    (hinj : Function.Injective (PerCore.cellOf (nD := nD) (τ := τ) (Alone.on (Val := Val) cfgs)))
    (hw : WinFacts₀ (cfgs 0).spec) (ho : OwnSemFacts (cfgs 0).spec P.osem)
    (hemp : ∀ c : Dev nD, (scopedRest (cfgs 0).spec c : sProp 𝕄) = BI.emp)
    (defs₀ : Defs nD τ sig Val Λ₀) (𝒱₀ : Variants)
    (m : (ℓ : Loc nD τ sig) → Buf Val ℓ) (ρ : Dev nD → PrngReg)
    (main : Dev nD → Prog (TpuEff nD τ sig Val (Pipeline.Sig Λ₀ (Fin 1) fun p => ((Alone.calls (Val := Val) cfgs) p).Adm) .tc) PUnit)
    (hmain : ∀ c, main c = .op (.customCall (entry 0) ()) fun _ => .ret ⟨⟩)
    (Mine : Dev nD → sProp (MM nD τ sig Val)) (Dst : Dev nD → K → sProp (MM nD τ sig Val))
    (hbufs : ∀ c, (unscopedBufs c (fun b => m ((c.tc : Thread nD τ).loc b)) : sProp 𝕄) ⊢ iprop(Mine c ∗ bigSep P.recv fun k => Dst c k))
    (a b : Ref sig .tc) (fa : (c : Dev nD) → Buf Val ((c.tc : Thread nD τ).loc a)) (fb : (c : Dev nD) → Buf Val ((c.tc : Thread nD τ).loc b))
    (hrun : ∀ (c : Dev nD) (t : Fin (cfgs 0).N) (κ : Dev nD × K → ℕ),
      iprop(P.records κ ∗ levAts Plan.L P.lv
          ∗ (bigSep Finset.univ fun k => atPos ER (P.cell c k) 0 ∅ 0)
          ∗ (bigSep P.recv fun k => cred (tallyAt (P.cell c k) () (P.N k)))
          ∗ (bigSep Finset.univ fun k => dutyTok ER (P.cell (P.peer k c) k) 0 ())
          ∗ (Mine c ∗ bigSep P.recv fun k => Dst (P.peer k c) k)
          ∗ P.owing c P.recv)
        ⊢ wp frame (wpE defs₀ 𝒱₀ (c.tc : Thread nD τ) none) Set.univ (defs₀ .tc (cfgs 0).body ((cfgs 0).bodyArgs t ((cfgs 0).slots t)))
            fun _ => iprop((((c.tc : Thread nD τ).loc a ↦{fullShare} fa c) ∗ ((c.tc : Thread nD τ).loc b ↦{fullShare} fb c))
              ∗ ownSems0 P.osem c ∗ BI.emp
              ∗ ∃ W' : Finset (SemLoc sig × Unit), owes (c.tc : Thread nD τ) (0 : CellTallies nD τ sig Unit) W'))
    {Q : PUnit × MemSt nD τ sig Val → Prop}
    (hQ : ∀ s : MemSt nD τ sig Val,
      (∀ c : Dev nD, s.mem ((c.tc : Thread nD τ).loc b) = fb c ∧ s.mem ((c.tc : Thread nD τ).loc a) = fa c) →
      (∀ x : GSem nD τ sig, (x.1.2 ≠ .tc ∨ x.2.isScoped .tc = true) → s.sem x = 0) → Q (⟨⟩, s)) :
    θ_run (Pipeline.defs (Alone.calls (Val := Val) cfgs) defs₀) (onTc main) ⟨m, fun _ => 0, ρ⟩ Q := by
  refine Alone.run_call (cfgs := cfgs) (osem := P.osem) (O₀ := fun c => P.due c P.recv)
    (Start := P.Start fun c => iprop(Mine c ∗ bigSep P.recv fun k => Dst (P.peer k c) k))
    (Fin' := fun c => iprop(((c.tc : Thread nD τ).loc a ↦{fullShare} fa c) ∗ ((c.tc : Thread nD τ).loc b ↦{fullShare} fb c)))
    hW hN hinj hw ho EP defs₀ 𝒱₀ m ρ main hmain ?_ Plan.L P.lv Plan.L_of_ne P.ghost _ P.fund_all
    (P.deal m Mine Dst hbufs)
    (fun c s => s.mem ((c.tc : Thread nD τ).loc b) = fb c ∧ s.mem ((c.tc : Thread nD τ).loc a) = fa c)
    (fun c s' => read_two c a b (fa c) (fb c) s') hQ
  intro c t W
  rw [hemp c]
  unfold Plan.Start
  iintro ⟨⟨%κ, Hr, HL, Ha, Hc, Ht, Hown⟩, -, HW⟩
  iapply (hrun c t κ)
  isplitl [Hr]; · iexact Hr
  isplitl [HL]; · iexact HL
  isplitl [Ha]; · iexact Ha
  isplitl [Hc]; · iexact Hc
  isplitl [Ht]; · iexact Ht
  isplitl [Hown]; · iexact Hown
  unfold Plan.owing
  iexists W
  iexact HW

end Run

end Cert.Talk
-- ==== Proof.Blocks.lean ====
/-
  Blocks of a rank-three array cut along its leading axis, and where the natural-number coordinates of an index come from.
-/
module

public import proofs.«01_k».proof.Proof.Slots
public import Idealize.ShloMosaic.Lib.Layout
public import Idealize.ShloMosaic.Lib.ValueIdxRank6

@[expose] public section

noncomputable section

namespace Cert.Blocks

open Idealize.ShloMosaic Idealize.ShloMosaic.ValueIdx
open Cert.Slots

/-- Index `(i, x, y)` of block `c` is index `(c · a + i, x, y)` of the whole. -/
theorem block_at {α : Type} {a T b w k : ℕ} (c : Fin k) (v : (Sh3 T b w).Idx → α) (h : Layout.Tiles (Sh3 a b w) (Sh3 T b w) 0 k)
    (i : Fin a) (x : Fin b) (y : Fin w) (p : Fin T) (hp : p.val = c.val * a + i.val) :
    Layout.block (Sh3 a b w) (Sh3 T b w) 0 k c v h (ix3 i x y) = v (ix3 p x y) := by
  show v (h.idx c (ix3 i x y)) = _
  refine congrArg v (funext fun t => Fin.ext ?_)
  rw [Layout.Tiles.idx_val]
  fin_cases t
  · exact hp.symm
  · rfl
  · rfl

/-- Row `x` of block `c` is row `c · b + x` of the whole. -/
theorem rows_at {α : Type} {b T w k : ℕ} (c : Fin k) (v : (Sh2 T w).Idx → α) (h : Layout.Tiles (Sh2 b w) (Sh2 T w) 0 k)
    (x : Fin b) (y : Fin w) (p : Fin T) (hp : p.val = c.val * b + x.val) :
    Layout.block (Sh2 b w) (Sh2 T w) 0 k c v h (ix2 x y) = v (ix2 p y) := by
  show v (h.idx c (ix2 x y)) = _
  refine congrArg v (funext fun t => Fin.ext ?_)
  rw [Layout.Tiles.idx_val]
  fin_cases t
  · exact hp.symm
  · rfl

/-- The blocks of an array's rows, one after another, are the array with its rows numbered block by block. -/
theorem whole_of_blocks {α : Type} {k b w T : ℕ} (hT : T = k * b) (A : (Sh2 T w).Idx → α) (h : Layout.Tiles (Sh2 b w) (Sh2 T w) 0 k)
    (hc : (Sh2 T w).ShapeCasts (Sh3 k b w)) (f : Fin k → (Sh2 b w).Idx → α)
    (hf : ∀ d, f d = Layout.block (Sh2 b w) (Sh2 T w) 0 k d A h) :
    (fun i : (Sh3 k b w).Idx => f (i 0) (ix2 (i 1) (i 2))) = shapeCast _ A hc := by
  suffices main : ∀ (d : Fin k) (x : Fin b) (y : Fin w), f d (ix2 x y) = shapeCast (Sh3 k b w) A hc (ix3 d x y) by
    funext i
    exact (main (i 0) (i 1) (i 2)).trans (congrArg _ (ix3_eta i).symm)
  intro d x y
  have hp : d.val * b + x.val < T := by
    rw [hT]
    exact lt_of_lt_of_le (by rw [Nat.add_mul, Nat.one_mul]; exact Nat.add_lt_add_left x.isLt _) (Nat.mul_le_mul_right b d.isLt : (d.val + 1) * b ≤ k * b)
  refine (congrFun (hf d) _).trans ((rows_at d A h x y ⟨d.val * b + x.val, hp⟩ rfl).trans (shapeCast_apply _ _ _ _ ?_).symm)
  rw [Shape.rowMajor_val_two, Shape.rowMajor_val_three]
  rfl

end Cert.Blocks
-- ==== Proof.Gather.lean ====
/-
  The gathering of the devices' blocks on every device, over any buffers that it may read and write. A device copies its block
  into its own slot of the result, sends it to its sibling and to the devices of its own core on the other three chips, and
  passes the three blocks it receives from there on to its sibling.
-/
module

public import proofs.«01_k».proof.Proof.Steps
public import proofs.«01_k».proof.Proof.Blocks

@[expose] public section

noncomputable section

namespace Cert.Gather

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Slots Cert.Talk

set_option Elab.async false

variable {τ : Topo} {sig : RefSig} {Val : EltTy → Type} {R : ℕ} {e : EltTy}

local notation "𝕄" => MM 8 τ sig Val

/-! ## The devices -/

/-- The other core of the chip. -/
def sib (c : Dev 8) : Dev 8 := ⟨(4 * (c.val / 4) + 2 * ((c.val / 2) % 2) + 1) - (c.val % 2), by revert c; decide⟩
theorem sib_sib (c : Dev 8) : sib (sib c) = c := by revert c; decide

/-- The device of the same core on another chip: across `x`, across `y`, across both. -/
def nb : Fin 3 → Dev 8 → Dev 8
  | 0, c => ⟨(2 * ((c.val / 2) % 2) + (c.val % 2) + 4) - 4 * (c.val / 4), by revert c; decide⟩
  | 1, c => ⟨(4 * (c.val / 4) + (c.val % 2) + 2) - 2 * ((c.val / 2) % 2), by revert c; decide⟩
  | 2, c => ⟨((c.val % 2) + 6) - (4 * (c.val / 4) + 2 * ((c.val / 2) % 2)), by revert c; decide⟩
theorem nb_nb (k : Fin 3) (c : Dev 8) : nb k (nb k c) = c := by revert k c; decide
/-- The sibling's sibling's neighbour is the neighbour. -/
theorem sib_nb_sib (k : Fin 3) (c : Dev 8) : sib (nb k (sib c)) = nb k c := by revert k c; decide

theorem slots_all (c : Dev 8) : Finset.univ = [c, sib c, nb 0 c, nb 1 c, nb 2 c, sib (nb 0 c), sib (nb 1 c), sib (nb 2 c)].toFinset := by
  revert c; decide
theorem slots_nodup (c : Dev 8) : [c, sib c, nb 0 c, nb 1 c, nb 2 c, sib (nb 0 c), sib (nb 1 c), sib (nb 2 c)].Nodup := by
  revert c; decide

/-- The five parts of the argument's share: the local copy's and the four sends'. -/
def share : Fin 5 → PosShare TreeShare
  | 0 => fullShare.left
  | 1 => fullShare.right.left
  | 2 => fullShare.right.right.left
  | 3 => fullShare.right.right.right.left
  | 4 => fullShare.right.right.right.right

/-- The cells other devices credit: 7 and 11–13 the sibling, 8–10 the neighbours. -/
abbrev received : Finset (Fin 15) := {7, 8, 9, 10, 11, 12, 13}

/-- What is left to send once the own block is on its way. -/
abbrev later : Finset (Fin 15) := {11, 12, 13}

def peer : Fin 15 → Dev 8 → Dev 8
  | 7, c => sib c
  | 8, c => nb 0 c
  | 9, c => nb 1 c
  | 10, c => nb 2 c
  | 11, c => sib c
  | 12, c => sib c
  | 13, c => sib c
  | _, c => c
theorem peer_peer (k : Fin 15) (c : Dev 8) : peer k (peer k c) = c := by revert k c; decide

/-- A block is passed on after it has been received. -/
def level (k : Fin 15) : ℕ := if 11 ≤ k.val then 1 else 0

/-! ## A gathering -/

/-- What a gathering works on: the argument of a device and its result, eight slots of the argument's shape; the semaphores; the
    contents of the argument and of the result before and after the call, on every device. Afterwards slot `d` holds the
    argument of device `d`. -/
structure Data (τ : Topo) (sig : RefSig) (Val : EltTy → Type) (R : ℕ) (e : EltTy) where
  v : Memref sig .tc .hbm (Sh2 R 128) e
  o : Memref sig .tc .hbm (Sh3 8 R 128) e
  sem : Fin 15 → DmaSem sig
  inj : Function.Injective sem
  v_all : v.view.set = Finset.univ
  o_all : o.view.set = Finset.univ
  hq : (Sh3 1 R 128).Squeezes (Sh2 R 128)
  credit : ℕ
  pos : 0 < credit
  v_credit : v.view.dmaCredit = credit
  o_credit : ∀ (off : Fin 3 → ℕ) (hin : ∀ x : Fin 3, off x + ![1, R, 128] x ≤ ![8, R, 128] x),
    (slotView o off hin hq).view.dmaCredit = credit
  src : (c : Dev 8) → Buf Val (v.view.loc (c.tc : Thread 8 τ))
  old : (c : Dev 8) → Buf Val (o.view.loc (c.tc : Thread 8 τ))
  out : (c : Dev 8) → Buf Val (o.view.loc (c.tc : Thread 8 τ))
  out_at : ∀ (c d : Dev 8) (x : Fin R) (y : Fin 128), o.view.read Val (out c) (ix3 d x y) = v.view.read Val (src d) (ix2 x y)

/-- What the program names on device `c`: the slots by their offsets, the targets of the remote copies in their order. -/
structure Code (G : Data τ sig Val R e) (c : Dev 8) where
  off : Fin 8 → Fin 3 → ℕ
  inb : ∀ (j : Fin 8) (x : Fin 3), off j x + ![1, R, 128] x ≤ ![8, R, 128] x
  target : Fin 7 → Dev 8
  v_words : G.v.view.WordExact
  o_words : ∀ j, (slotView G.o (off j) (inb j) G.hq).view.WordExact
  off_eq : ∀ j, off j = ![(([c, nb 0 c, nb 1 c, nb 2 c, sib c, sib (nb 0 c), sib (nb 1 c), sib (nb 2 c)].get j : Fin 8)).val, 0, 0]
  target_eq : ∀ j, target j = [sib c, nb 0 c, nb 1 c, nb 2 c, sib c, sib c, sib c].get j

/-- The slot that the program names by its `j`-th offset. -/
abbrev Code.slot {G : Data τ sig Val R e} {c : Dev 8} (C : Code G c) (j : Fin 8) : Memref sig .tc .hbm (Sh2 R 128) e :=
  slotView G.o (C.off j) (C.inb j) G.hq

variable (G : Data τ sig Val R e)

abbrev vPts (c : Dev 8) (q : PosShare TreeShare) : sProp (MM 8 τ sig Val) :=
  (G.v.view.loc (c.tc : Thread 8 τ) ↦{q} G.src c)
abbrev oPts (c : Dev 8) (d : Fin 8) (f : Buf Val (G.o.view.loc (c.tc : Thread 8 τ))) : sProp (MM 8 τ sig Val) :=
  (G.o.view.loc (c.tc : Thread 8 τ) ↦[slot G.o d]{fullShare} f)

def pay (c : Dev 8) : Fin 15 → sProp (MM 8 τ sig Val)
  | 0 => vPts G c (share 1)
  | 1 => vPts G c (share 2)
  | 2 => vPts G c (share 3)
  | 3 => vPts G c (share 4)
  | 4 => oPts G c (nb 0 c) (G.out c)
  | 5 => oPts G c (nb 1 c) (G.out c)
  | 6 => oPts G c (nb 2 c) (G.out c)
  | 7 => oPts G c (sib c) (G.out c)
  | 8 => oPts G c (nb 0 c) (G.out c)
  | 9 => oPts G c (nb 1 c) (G.out c)
  | 10 => oPts G c (nb 2 c) (G.out c)
  | 11 => oPts G c (sib (nb 0 c)) (G.out c)
  | 12 => oPts G c (sib (nb 1 c)) (G.out c)
  | 13 => oPts G c (sib (nb 2 c)) (G.out c)
  | 14 => iprop(oPts G c c (G.out c) ∗ vPts G c (share 0))

def plan : Plan 8 τ sig Val (Fin 15) where
  sem := G.sem
  inj := G.inj
  N _ := G.credit
  pos _ := G.pos
  Pay := pay G
  stor c k := by fin_cases k <;> (unfold pay; infer_instance)
  recv := received
  peer := peer
  inv := peer_peer
  lev := level

/-- What other devices write to, cell by cell. -/
def dst (c : Dev 8) : Fin 15 → sProp (MM 8 τ sig Val)
  | 7 => oPts G c (sib c) (G.old c)
  | 8 => oPts G c (nb 0 c) (G.old c)
  | 9 => oPts G c (nb 1 c) (G.old c)
  | 10 => oPts G c (nb 2 c) (G.old c)
  | 11 => oPts G c (sib (nb 0 c)) (G.old c)
  | 12 => oPts G c (sib (nb 1 c)) (G.old c)
  | 13 => oPts G c (sib (nb 2 c)) (G.old c)
  | _ => BI.emp

abbrev varg (c : Dev 8) : sProp (MM 8 τ sig Val) := vPts G c fullShare

/-- What a device keeps: its argument and its own slot of the result. -/
abbrev mine (c : Dev 8) : sProp (MM 8 τ sig Val) := iprop(varg G c ∗ oPts G c c (G.old c))

/-- The result buffer is its eight slots. -/
theorem o_split (c : Dev 8) (f : Buf Val (G.o.view.loc (c.tc : Thread 8 τ))) :
    (G.o.view.loc (c.tc : Thread 8 τ) ↦{fullShare} f : sProp 𝕄)
      = iprop(oPts G c c f ∗ oPts G c (sib c) f ∗ oPts G c (nb 0 c) f ∗ oPts G c (nb 1 c) f ∗ oPts G c (nb 2 c) f
        ∗ oPts G c (sib (nb 0 c)) f ∗ oPts G c (sib (nb 1 c)) f ∗ oPts G c (sib (nb 2 c)) f) := by
  have h := slots_split (U := UU 8 τ sig) G.o c fullShare f
  rw [bigSep_univ_eq_bigSepL [c, sib c, nb 0 c, nb 1 c, nb 2 c, sib (nb 0 c), sib (nb 1 c), sib (nb 2 c)] (slots_all c) (slots_nodup c)] at h
  exact ((congrArg (fun S => (G.o.view.loc (c.tc : Thread 8 τ) ↦[S]{fullShare} f : sProp 𝕄)) G.o_all).symm).trans h

theorem v_half (c : Dev 8) (q : PosShare TreeShare) : (vPts G c q : sProp 𝕄) = iprop(vPts G c q.left ∗ vPts G c q.right) :=
  BI.Entails.antisymm (pointsTo_share (PosShare.mem_left_op_right q)).1 (pointsTo_share (PosShare.mem_left_op_right q)).2

/-- The argument buffer is held in five parts. -/
theorem v_split (c : Dev 8) : (varg G c : sProp 𝕄)
    = iprop(vPts G c (share 0) ∗ vPts G c (share 1) ∗ vPts G c (share 2) ∗ vPts G c (share 3) ∗ vPts G c (share 4)) := by
  show (vPts G c fullShare : sProp 𝕄) = _
  rw [v_half G c fullShare, v_half G c fullShare.right, v_half G c fullShare.right.right, v_half G c fullShare.right.right.right]
  rfl

theorem v_whole (c : Dev 8) (q : PosShare TreeShare) :
    (vPts G c q : sProp 𝕄) = (G.v.view.loc (c.tc : Thread 8 τ) ↦[G.v.view.set]{q} G.src c) :=
  (congrArg (fun S => (G.v.view.loc (c.tc : Thread 8 τ) ↦[S]{q} G.src c : sProp 𝕄))
    G.v_all).symm

/-- The argument and the result are dealt out: what a device keeps, and what others write to. -/
theorem bufs (c : Dev 8) : iprop(varg G c ∗ (G.o.view.loc (c.tc : Thread 8 τ) ↦{fullShare} G.old c))
    ⊢ (iprop(mine G c ∗ bigSep (plan G).recv fun k => dst G c k) : sProp 𝕄) := by
  rw [show (bigSep (plan G).recv fun k => dst G c k : sProp 𝕄) = _ from bigSep_eq_bigSepL_of_eq [7, 8, 9, 10, 11, 12, 13] (by rfl) (by decide) _]
  rw [o_split]
  iintro ⟨Hg, Ho, Hr⟩
  isplitr [Hr]
  · isplitl [Hg] <;> iassumption
  · iapply (Entails.of_eq (show iprop(oPts G c (sib c) (G.old c) ∗ oPts G c (nb 0 c) (G.old c) ∗ oPts G c (nb 1 c) (G.old c) ∗ oPts G c (nb 2 c) (G.old c)
        ∗ oPts G c (sib (nb 0 c)) (G.old c) ∗ oPts G c (sib (nb 1 c)) (G.old c) ∗ oPts G c (sib (nb 2 c)) (G.old c))
      = (bigSepL [7, 8, 9, 10, 11, 12, 13] fun k => dst G c k : sProp 𝕄) from rfl))
    iexact Hr

/-- A list of at least two, its first member apart. -/
theorem list_cons {M : Type _} [Idealize.SL.RA.URA M] {I : Type _} (i j : I) (l : List I) (Φ : I → sProp M) : bigSepL (i :: j :: l) Φ = iprop(Φ i ∗ bigSepL (j :: l) Φ) := rfl

/-! ## The steps -/

variable {Λ : Idealize.SL.Sem.Labels} (defs₁ : Defs 8 τ sig Val Λ) (𝒱 : Variants)

/-- The send of the own block to the device `p`. -/
theorem send_own (c p : Dev 8) (κ : Dev 8 × Fin 15 → ℕ) (q : Fin 5) (ks kr : Fin 15)
    (hks : (plan G).Pay c ks = vPts G c (share q))
    (hkr : (plan G).Pay p kr = oPts G p c (G.out p))
    (hp : (plan G).peer kr c = p)
    {n : Dev 8} (hn : n = p)
    {offd : Fin 3 → ℕ} (hoffd : offd = ![c.val, 0, 0])
    {hind : ∀ x : Fin 3, offd x + ![1, R, 128] x ≤ ![8, R, 128] x}
    {hqd : (Sh3 1 R 128).Squeezes (Sh2 R 128)}
    {sS sR : DmaSem sig} (hs : sS = (plan G).sem ks) (hr : sR = (plan G).sem kr)
    {hsc : (slotView G.o offd hind hqd).view.ref.isScScratch = false}
    {hsrc : G.v.view.WordExact} {hdst : (slotView G.o offd hind hqd).view.WordExact}
    {hsem : DmaTarget.Typed .hbm (.dma sR) (.remote (Dev.tc n : Thread 8 τ) (slotView G.o offd hind hqd) (.dma sS) hsc)}
    {S : Finset (Fin 15)} (hS : kr ∈ S) {α : Type} {Q : α → sProp 𝕄} {k : PUnit → Prog (TpuEff 8 τ sig Val Λ .tc) α} :
    iprop((plan G).records κ ∗ vPts G c (share q) ∗ oPts G p c (G.old p)
        ∗ (plan G).owing c S ∗ dutyTok ER ((plan G).cell c ks) 0 () ∗ dutyTok ER ((plan G).cell p kr) 0 ())
      ⊢ iprop(((cred (tallyAt ((plan G).cell c ks) () ((plan G).N ks)) ∗ (plan G).owing c (S.erase kr))
            -∗ wp frame (wpE defs₁ 𝒱 (c.tc : Thread 8 τ) none) Set.univ (k ⟨⟩) Q)
          -∗ wp frame (wpE defs₁ 𝒱 (c.tc : Thread 8 τ) none) Set.univ
              (.op (.enqueueDma G.v (.remote (Dev.tc n : Thread 8 τ) (slotView G.o offd hind hqd) (.dma sS) hsc) (.dma sR) hsrc hdst hsem) k) Q) := by
  have h := (plan G).send_slot defs₁ 𝒱 c κ ks kr (hn.trans hp.symm) G.o c hoffd (hin := hind) (hq := hqd)
    (src := G.v) hs hr (hsc := hsc) (hsrc := hsrc) (hdst := hdst) (hsem := hsem) (share q)
    (G.src c) (G.old ((plan G).peer kr c)) (G.out ((plan G).peer kr c))
    (G.o_credit _ _) (G.o_credit _ _) (A := vPts G c (share q)) (v_whole G c (share q))
    (Entails.of_eq hks.symm)
    (fun x y => (G.out_at _ c x y).symm)
    (by rw [hp]; exact Entails.of_eq hkr.symm) hS (Q := Q) (k := k)
  rw [hp] at h
  exact h

/-- The passing on of slot `d` to the sibling. -/
theorem send_on (c : Dev 8) (κ : Dev 8 × Fin 15 → ℕ) (d : Fin 8) (ks kr : Fin 15)
    (hks : (plan G).Pay c ks = oPts G c d (G.out c))
    (hkr : (plan G).Pay (sib c) kr = oPts G (sib c) d (G.out (sib c)))
    (hp : (plan G).peer kr c = sib c)
    {n : Dev 8} (hn : n = sib c)
    {off : Fin 3 → ℕ} (hoff : off = ![d.val, 0, 0])
    {hins hind : ∀ x : Fin 3, off x + ![1, R, 128] x ≤ ![8, R, 128] x}
    {hqs hqd : (Sh3 1 R 128).Squeezes (Sh2 R 128)}
    {sS sR : DmaSem sig} (hs : sS = (plan G).sem ks) (hr : sR = (plan G).sem kr)
    {hsc : (slotView G.o off hind hqd).view.ref.isScScratch = false}
    {hsrc : (slotView G.o off hins hqs).view.WordExact} {hdst : (slotView G.o off hind hqd).view.WordExact}
    {hsem : DmaTarget.Typed .hbm (.dma sR) (.remote (Dev.tc n : Thread 8 τ) (slotView G.o off hind hqd) (.dma sS) hsc)}
    {S : Finset (Fin 15)} (hS : kr ∈ S) {α : Type} {Q : α → sProp 𝕄} {k : PUnit → Prog (TpuEff 8 τ sig Val Λ .tc) α} :
    iprop((plan G).records κ ∗ oPts G c d (G.out c) ∗ oPts G (sib c) d (G.old (sib c))
        ∗ (plan G).owing c S ∗ dutyTok ER ((plan G).cell c ks) 0 () ∗ dutyTok ER ((plan G).cell (sib c) kr) 0 ())
      ⊢ iprop(((cred (tallyAt ((plan G).cell c ks) () ((plan G).N ks)) ∗ (plan G).owing c (S.erase kr))
            -∗ wp frame (wpE defs₁ 𝒱 (c.tc : Thread 8 τ) none) Set.univ (k ⟨⟩) Q)
          -∗ wp frame (wpE defs₁ 𝒱 (c.tc : Thread 8 τ) none) Set.univ
              (.op (.enqueueDma (slotView G.o off hins hqs) (.remote (Dev.tc n : Thread 8 τ) (slotView G.o off hind hqd) (.dma sS) hsc) (.dma sR) hsrc hdst hsem) k) Q) := by
  have h := (plan G).send_slot defs₁ 𝒱 c κ ks kr (hn.trans hp.symm) G.o d hoff (hin := hind) (hq := hqd)
    (src := slotView G.o off hins hqs) hs hr (hsc := hsc) (hsrc := hsrc) (hdst := hdst) (hsem := hsem) fullShare
    (G.out c) (G.old ((plan G).peer kr c)) (G.out ((plan G).peer kr c))
    (G.o_credit _ _) (G.o_credit _ _) (A := oPts G c d (G.out c)) (slotView_pts G.o c fullShare d hoff _).symm
    (Entails.of_eq hks.symm)
    (fun x y => (slotView_read G.o d hoff _ x y).trans ((G.out_at c d x y).trans (G.out_at _ d x y).symm))
    (by rw [hp]; exact Entails.of_eq hkr.symm) hS (Q := Q) (k := k)
  rw [hp] at h
  exact h

/-- The copy of the own block. -/
theorem copy_own (c : Dev 8) (κ : Dev 8 × Fin 15 → ℕ)
    {off : Fin 3 → ℕ} (hoff : off = ![c.val, 0, 0])
    {hind : ∀ x : Fin 3, off x + ![1, R, 128] x ≤ ![8, R, 128] x}
    {hqd : (Sh3 1 R 128).Squeezes (Sh2 R 128)}
    {sL : DmaSem sig} (hl : sL = (plan G).sem 14)
    {hsrc : G.v.view.WordExact} {hdst : (slotView G.o off hind hqd).view.WordExact}
    {hsem : DmaTarget.Typed .hbm (.dma sL) (.here (slotView G.o off hind hqd) : DmaTarget 8 τ sig .tc .hbm (Sh2 R 128) e)}
    {α : Type} {Q : α → sProp 𝕄} {k : PUnit → Prog (TpuEff 8 τ sig Val Λ .tc) α} :
    iprop((plan G).records κ ∗ vPts G c (share 0) ∗ oPts G c c (G.old c) ∗ dutyTok ER ((plan G).cell c 14) 0 ())
      ⊢ iprop((cred (tallyAt ((plan G).cell c 14) () ((plan G).N 14))
            -∗ wp frame (wpE defs₁ 𝒱 (c.tc : Thread 8 τ) none) Set.univ (k ⟨⟩) Q)
          -∗ wp frame (wpE defs₁ 𝒱 (c.tc : Thread 8 τ) none) Set.univ
              (.op (.enqueueDma G.v (.here (slotView G.o off hind hqd)) (.dma sL) hsrc hdst hsem) k) Q) :=
  (plan G).copy_slot defs₁ 𝒱 c κ 14 G.o c hoff (hin := hind) (hq := hqd)
    (src := G.v) hl (hsrc := hsrc) (hdst := hdst) (hsem := hsem) (share 0)
    (G.src c) (G.old c) (G.out c) (G.o_credit _ _)
    (A := vPts G c (share 0)) (v_whole G c (share 0))
    (fun x y => (G.out_at c c x y).symm)
    (Entails.refl _) (Q := Q) (k := k)

theorem duties (c : Dev 8) : (bigSep Finset.univ fun k => dutyTok ER ((plan G).cell ((plan G).peer k c) k) 0 () : sProp 𝕄)
    = iprop(dutyTok ER ((plan G).cell c 0) 0 ()
      ∗ dutyTok ER ((plan G).cell c 1) 0 ()
      ∗ dutyTok ER ((plan G).cell c 2) 0 ()
      ∗ dutyTok ER ((plan G).cell c 3) 0 ()
      ∗ dutyTok ER ((plan G).cell c 4) 0 ()
      ∗ dutyTok ER ((plan G).cell c 5) 0 ()
      ∗ dutyTok ER ((plan G).cell c 6) 0 ()
      ∗ dutyTok ER ((plan G).cell (sib c) 7) 0 ()
      ∗ dutyTok ER ((plan G).cell (nb 0 c) 8) 0 ()
      ∗ dutyTok ER ((plan G).cell (nb 1 c) 9) 0 ()
      ∗ dutyTok ER ((plan G).cell (nb 2 c) 10) 0 ()
      ∗ dutyTok ER ((plan G).cell (sib c) 11) 0 ()
      ∗ dutyTok ER ((plan G).cell (sib c) 12) 0 ()
      ∗ dutyTok ER ((plan G).cell (sib c) 13) 0 ()
      ∗ dutyTok ER ((plan G).cell c 14) 0 ()) :=
  bigSep_univ_eq_bigSepL [0, 1, 2, 3, 4, 5, 6, 7, 8, 9, 10, 11, 12, 13, 14] (by decide) (by decide) _

theorem positions (c : Dev 8) (r : ℕ) : (bigSep Finset.univ fun k => atPos ER ((plan G).cell c k) r ∅ 0 : sProp 𝕄)
    = iprop(atPos ER ((plan G).cell c 0) r ∅ 0
      ∗ atPos ER ((plan G).cell c 1) r ∅ 0
      ∗ atPos ER ((plan G).cell c 2) r ∅ 0
      ∗ atPos ER ((plan G).cell c 3) r ∅ 0
      ∗ atPos ER ((plan G).cell c 4) r ∅ 0
      ∗ atPos ER ((plan G).cell c 5) r ∅ 0
      ∗ atPos ER ((plan G).cell c 6) r ∅ 0
      ∗ atPos ER ((plan G).cell c 7) r ∅ 0
      ∗ atPos ER ((plan G).cell c 8) r ∅ 0
      ∗ atPos ER ((plan G).cell c 9) r ∅ 0
      ∗ atPos ER ((plan G).cell c 10) r ∅ 0
      ∗ atPos ER ((plan G).cell c 11) r ∅ 0
      ∗ atPos ER ((plan G).cell c 12) r ∅ 0
      ∗ atPos ER ((plan G).cell c 13) r ∅ 0
      ∗ atPos ER ((plan G).cell c 14) r ∅ 0) :=
  bigSep_univ_eq_bigSepL [0, 1, 2, 3, 4, 5, 6, 7, 8, 9, 10, 11, 12, 13, 14] (by decide) (by decide) _

theorem credits (c : Dev 8) : (bigSep (plan G).recv fun k => cred (tallyAt ((plan G).cell c k) () ((plan G).N k)) : sProp 𝕄)
    = iprop(cred (tallyAt ((plan G).cell c 7) () ((plan G).N 7))
      ∗ cred (tallyAt ((plan G).cell c 8) () ((plan G).N 8))
      ∗ cred (tallyAt ((plan G).cell c 9) () ((plan G).N 9))
      ∗ cred (tallyAt ((plan G).cell c 10) () ((plan G).N 10))
      ∗ cred (tallyAt ((plan G).cell c 11) () ((plan G).N 11))
      ∗ cred (tallyAt ((plan G).cell c 12) () ((plan G).N 12))
      ∗ cred (tallyAt ((plan G).cell c 13) () ((plan G).N 13))) :=
  bigSep_eq_bigSepL_of_eq [7, 8, 9, 10, 11, 12, 13] (by rfl) (by decide) _

theorem lands (c : Dev 8) : (bigSep (plan G).recv fun k => dst G ((plan G).peer k c) k : sProp 𝕄)
    = iprop(oPts G (sib c) c (G.old (sib c))
      ∗ oPts G (nb 0 c) c (G.old (nb 0 c))
      ∗ oPts G (nb 1 c) c (G.old (nb 1 c))
      ∗ oPts G (nb 2 c) c (G.old (nb 2 c))
      ∗ oPts G (sib c) (nb 0 c) (G.old (sib c))
      ∗ oPts G (sib c) (nb 1 c) (G.old (sib c))
      ∗ oPts G (sib c) (nb 2 c) (G.old (sib c))) := by
  have h : (bigSep (plan G).recv fun k => dst G ((plan G).peer k c) k : sProp 𝕄)
      = iprop(oPts G (sib c) (sib (sib c)) (G.old (sib c)) ∗ oPts G (nb 0 c) (nb 0 (nb 0 c)) (G.old (nb 0 c))
        ∗ oPts G (nb 1 c) (nb 1 (nb 1 c)) (G.old (nb 1 c)) ∗ oPts G (nb 2 c) (nb 2 (nb 2 c)) (G.old (nb 2 c))
        ∗ oPts G (sib c) (sib (nb 0 (sib c))) (G.old (sib c)) ∗ oPts G (sib c) (sib (nb 1 (sib c))) (G.old (sib c))
        ∗ oPts G (sib c) (sib (nb 2 (sib c))) (G.old (sib c))) :=
    bigSep_eq_bigSepL_of_eq [7, 8, 9, 10, 11, 12, 13] (by rfl) (by decide) _
  rw [h, sib_sib, nb_nb, nb_nb, nb_nb, sib_nb_sib, sib_nb_sib, sib_nb_sib]

theorem own_sent : (((((plan G).recv.erase 7).erase 8).erase 9).erase 10) = later :=
  show ((((received.erase 7).erase 8).erase 9).erase 10) = later by decide

theorem all_sent : ((later.erase 11).erase 12).erase 13 = ∅ := by decide

/-! ## The program -/

section Body
variable {c : Dev 8} (C : Code G c)

/-- A wait whose destination is a slot of the result. -/
abbrev landed (k : Fin 15) (j : Fin 8) : (plan G).Wait (Sh2 R 128) e :=
  ⟨k, G.sem k, rfl, C.slot j, C.slot j, C.o_words j, C.o_words j, G.o_credit _ _⟩
/-- A wait for a send of the own block. -/
abbrev left (k : Fin 15) : (plan G).Wait (Sh2 R 128) e :=
  ⟨k, G.sem k, rfl, C.slot 0, G.v, C.o_words 0, C.v_words, G.v_credit⟩

/-- The waits after everything has been sent. -/
abbrev rest : List ((plan G).Wait (Sh2 R 128) e) :=
  [landed G C 7 4, landed G C 11 5, landed G C 12 6, landed G C 13 7, left G C 0, left G C 1, left G C 2, left G C 3,
    landed G C 4 1, landed G C 5 2, landed G C 6 3, ⟨14, G.sem 14, rfl, G.v, C.slot 0, C.v_words, C.o_words 0, G.o_credit _ _⟩]

/-- The send of the own block that the program names by its `j`-th target, then `k`. -/
abbrev sendOwn (j : Fin 7) (ks kr : Fin 15) (k : Prog (TpuEff 8 τ sig Val Λ .tc) PUnit) : Prog (TpuEff 8 τ sig Val Λ .tc) PUnit :=
  .op (.enqueueDma G.v (.remote (Dev.tc (C.target j) : Thread 8 τ) (C.slot 0) (.dma (G.sem ks))) (.dma (G.sem kr)) C.v_words (C.o_words 0)
    ⟨⟨rfl, Or.inl rfl⟩, trivial⟩) fun _ => k

/-- The wait for slot `i` on cell `kw` and its passing on to the `j`-th target, then `k`. -/
abbrev passOn (kw : Fin 15) (i : Fin 8) (j : Fin 7) (ks kr : Fin 15) (k : Prog (TpuEff 8 τ sig Val Λ .tc) PUnit) :
    Prog (TpuEff 8 τ sig Val Λ .tc) PUnit :=
  .op (.waitDma2 (G.sem kw) (C.slot i) (C.slot i) (C.o_words i) (C.o_words i)) fun _ =>
  .op (.enqueueDma (C.slot i) (.remote (Dev.tc (C.target j) : Thread 8 τ) (C.slot i) (.dma (G.sem ks))) (.dma (G.sem kr)) (C.o_words i) (C.o_words i)
    ⟨⟨rfl, Or.inl rfl⟩, trivial⟩) fun _ => k

/-- The gathering's operations on device `c`. -/
def prog : Prog (TpuEff 8 τ sig Val Λ .tc) PUnit :=
  .op (.enqueueDma G.v (.here (C.slot 0)) (.dma (G.sem 14)) C.v_words (C.o_words 0) ⟨Or.inl rfl, trivial⟩) fun _ =>
  sendOwn G C 0 0 7 (sendOwn G C 1 1 8 (sendOwn G C 2 2 9 (sendOwn G C 3 3 10
    (passOn G C 8 1 4 4 11 (passOn G C 9 2 5 5 12 (passOn G C 10 3 6 6 13
      ((plan G).waits (.ret ⟨⟩) (rest G C))))))))

/-- The step that sends the own block. -/
theorem step_own (κ : Dev 8 × Fin 15 → ℕ) (j : Fin 7) (p : Dev 8) (hj : [sib c, nb 0 c, nb 1 c, nb 2 c, sib c, sib c, sib c].get j = p)
    (q : Fin 5) (ks kr : Fin 15) (hks : (plan G).Pay c ks = vPts G c (share q)) (hkr : (plan G).Pay p kr = oPts G p c (G.out p))
    (hp : (plan G).peer kr c = p) {S : Finset (Fin 15)} (hS : kr ∈ S) {Q : PUnit → sProp 𝕄} {k : Prog (TpuEff 8 τ sig Val Λ .tc) PUnit} :
    iprop((plan G).records κ ∗ vPts G c (share q) ∗ oPts G p c (G.old p)
        ∗ (plan G).owing c S ∗ dutyTok ER ((plan G).cell c ks) 0 () ∗ dutyTok ER ((plan G).cell p kr) 0 ())
      ⊢ iprop(((cred (tallyAt ((plan G).cell c ks) () ((plan G).N ks)) ∗ (plan G).owing c (S.erase kr))
            -∗ wp frame (wpE defs₁ 𝒱 (c.tc : Thread 8 τ) none) Set.univ k Q)
          -∗ wp frame (wpE defs₁ 𝒱 (c.tc : Thread 8 τ) none) Set.univ (sendOwn G C j ks kr k) Q) :=
  send_own G defs₁ 𝒱 c p κ q ks kr hks hkr hp ((C.target_eq j).trans hj) (C.off_eq 0) rfl rfl hS (k := fun _ => k)

/-- The step that waits for a neighbour's block and passes it on. -/
theorem step_on (κ : Dev 8 × Fin 15 → ℕ) (kw : Fin 15) (i : Fin 8) (d : Fin 8) (j : Fin 7) (ks kr : Fin 15)
    (hi : ([c, nb 0 c, nb 1 c, nb 2 c, sib c, sib (nb 0 c), sib (nb 1 c), sib (nb 2 c)].get i : Fin 8) = d)
    (hj : [sib c, nb 0 c, nb 1 c, nb 2 c, sib c, sib c, sib c].get j = sib c)
    (hkw : (plan G).Pay c kw = oPts G c d (G.out c)) (hks : (plan G).Pay c ks = oPts G c d (G.out c))
    (hkr : (plan G).Pay (sib c) kr = oPts G (sib c) d (G.out (sib c))) (hp : (plan G).peer kr c = sib c)
    {S : Finset (Fin 15)} (hlev : ∀ k ∈ S, level kw < level k) (hS : kr ∈ S) {Q : PUnit → sProp 𝕄} {k : Prog (TpuEff 8 τ sig Val Λ .tc) PUnit} :
    iprop((plan G).records κ ∗ levAts Plan.L (plan G).lv ∗ cred (tallyAt ((plan G).cell c kw) () ((plan G).N kw))
        ∗ atPos ER ((plan G).cell c kw) 0 ∅ 0 ∗ oPts G (sib c) d (G.old (sib c))
        ∗ (plan G).owing c S ∗ dutyTok ER ((plan G).cell c ks) 0 () ∗ dutyTok ER ((plan G).cell (sib c) kr) 0 ())
      ⊢ iprop(((cred (tallyAt ((plan G).cell c ks) () ((plan G).N ks)) ∗ atPos ER ((plan G).cell c kw) 1 ∅ 0 ∗ (plan G).owing c (S.erase kr))
            -∗ wp frame (wpE defs₁ 𝒱 (c.tc : Thread 8 τ) none) Set.univ k Q)
          -∗ wp frame (wpE defs₁ 𝒱 (c.tc : Thread 8 τ) none) Set.univ (passOn G C kw i j ks kr k) Q) := by
  iintro ⟨#HR, #HL, Hc, Ha, Hd, HO, Hs, Hr⟩ Hk
  iapply ((plan G).wait defs₁ 𝒱 c κ kw rfl (G.o_credit _ _) hlev) $$ [Hc HO Ha]
  · isplitr; · iexact HR
    isplitr; · iexact HL
    isplitl [Hc]; · iexact Hc
    isplitl [HO] <;> iassumption
  iintro ⟨HO, Ha, Hp⟩
  ihave Hp := (Entails.of_eq hkw) $$ Hp
  iapply (send_on G defs₁ 𝒱 c κ d ks kr hks hkr hp ((C.target_eq j).trans hj) ((C.off_eq i).trans (by rw [hi])) rfl rfl hS) $$ [Hp Hd HO Hs Hr]
  · isplitr; · iexact HR
    isplitl [Hp]; · iexact Hp
    isplitl [Hd]; · iexact Hd
    isplitl [HO]; · iexact HO
    isplitl [Hs] <;> iassumption
  iintro ⟨Hc, HO⟩
  iapply Hk
  isplitl [Hc]; · iexact Hc
  isplitl [Ha] <;> iassumption

/-- What the last waits hand over. -/
theorem pays : iprop((plan G).Pay c 7 ∗ (plan G).Pay c 11 ∗ (plan G).Pay c 12 ∗ (plan G).Pay c 13 ∗ (plan G).Pay c 0 ∗ (plan G).Pay c 1
      ∗ (plan G).Pay c 2 ∗ (plan G).Pay c 3 ∗ (plan G).Pay c 4 ∗ (plan G).Pay c 5 ∗ (plan G).Pay c 6 ∗ (plan G).Pay c 14 : sProp 𝕄)
    = iprop(oPts G c (sib c) (G.out c) ∗ oPts G c (sib (nb 0 c)) (G.out c) ∗ oPts G c (sib (nb 1 c)) (G.out c)
      ∗ oPts G c (sib (nb 2 c)) (G.out c) ∗ vPts G c (share 1) ∗ vPts G c (share 2) ∗ vPts G c (share 3) ∗ vPts G c (share 4)
      ∗ oPts G c (nb 0 c) (G.out c) ∗ oPts G c (nb 1 c) (G.out c) ∗ oPts G c (nb 2 c) (G.out c)
      ∗ oPts G c c (G.out c) ∗ vPts G c (share 0)) := rfl

/-- The run of the gathering on device `c`. -/
theorem body (κ : Dev 8 × Fin 15 → ℕ) :
    iprop((plan G).records κ ∗ levAts Plan.L (plan G).lv
        ∗ (bigSep Finset.univ fun k => atPos ER ((plan G).cell c k) 0 ∅ 0)
        ∗ (bigSep (plan G).recv fun k => cred (tallyAt ((plan G).cell c k) () ((plan G).N k)))
        ∗ (bigSep Finset.univ fun k => dutyTok ER ((plan G).cell ((plan G).peer k c) k) 0 ())
        ∗ (mine G c ∗ bigSep (plan G).recv fun k => dst G ((plan G).peer k c) k)
        ∗ (plan G).owing c (plan G).recv)
      ⊢ wp frame (wpE defs₁ 𝒱 (c.tc : Thread 8 τ) none) Set.univ (prog G C)
          fun _ => iprop((varg G c ∗ (G.o.view.loc (c.tc : Thread 8 τ) ↦{fullShare} G.out c))
            ∗ ownSems0 (plan G).osem c ∗ BI.emp
            ∗ ∃ W' : Finset (SemLoc sig × Unit), owes (c.tc : Thread 8 τ) (0 : CellTallies 8 τ sig Unit) W') := by
  rw [duties, positions, credits, lands, show mine G c = iprop(varg G c ∗ oPts G c c (G.old c)) from rfl, v_split]
  unfold prog
  iintro ⟨#HR, #HL, ⟨Ha0, Ha1, Ha2, Ha3, Ha4, Ha5, Ha6, Ha7, Ha8, Ha9, Ha10, Ha11, Ha12, Ha13, Ha14⟩, ⟨Hc7, Hc8, Hc9, Hc10, Hc11, Hc12, Hc13⟩,
    ⟨Ht0, Ht1, Ht2, Ht3, Ht4, Ht5, Ht6, Ht7, Ht8, Ht9, Ht10, Ht11, Ht12, Ht13, Ht14⟩,
    ⟨⟨⟨Hv0, Hv1, Hv2, Hv3, Hv4⟩, Ho⟩, ⟨Hd7, Hd8, Hd9, Hd10, Hd11, Hd12, Hd13⟩⟩, HO⟩
  iapply (copy_own G defs₁ 𝒱 c κ (C.off_eq 0) rfl) $$ [Hv0 Ho Ht14]
  · isplitr; · iexact HR
    isplitl [Hv0]; · iexact Hv0
    isplitl [Ho] <;> iassumption
  iintro Hc14
  iapply (step_own G defs₁ 𝒱 C κ 0 (sib c) rfl 1 0 7 rfl (congrArg (fun d => oPts G (sib c) d (G.out (sib c))) (sib_sib c)) rfl (S := (plan G).recv)
    (show (7 : Fin 15) ∈ received by decide)) $$ [Hv1 Hd7 HO Ht0 Ht7]
  · isplitr; · iexact HR
    isplitl [Hv1]; · iexact Hv1
    isplitl [Hd7]; · iexact Hd7
    isplitl [HO]; · iexact HO
    isplitl [Ht0] <;> iassumption
  iintro ⟨Hc0, HO⟩
  iapply (step_own G defs₁ 𝒱 C κ 1 (nb 0 c) rfl 2 1 8 rfl (congrArg (fun d => oPts G (nb 0 c) d (G.out (nb 0 c))) (nb_nb 0 c)) rfl (S := ((plan G).recv.erase 7))
    (show (8 : Fin 15) ∈ (received.erase 7) by decide)) $$ [Hv2 Hd8 HO Ht1 Ht8]
  · isplitr; · iexact HR
    isplitl [Hv2]; · iexact Hv2
    isplitl [Hd8]; · iexact Hd8
    isplitl [HO]; · iexact HO
    isplitl [Ht1] <;> iassumption
  iintro ⟨Hc1, HO⟩
  iapply (step_own G defs₁ 𝒱 C κ 2 (nb 1 c) rfl 3 2 9 rfl (congrArg (fun d => oPts G (nb 1 c) d (G.out (nb 1 c))) (nb_nb 1 c)) rfl (S := (((plan G).recv.erase 7).erase 8))
    (show (9 : Fin 15) ∈ ((received.erase 7).erase 8) by decide)) $$ [Hv3 Hd9 HO Ht2 Ht9]
  · isplitr; · iexact HR
    isplitl [Hv3]; · iexact Hv3
    isplitl [Hd9]; · iexact Hd9
    isplitl [HO]; · iexact HO
    isplitl [Ht2] <;> iassumption
  iintro ⟨Hc2, HO⟩
  iapply (step_own G defs₁ 𝒱 C κ 3 (nb 2 c) rfl 4 3 10 rfl (congrArg (fun d => oPts G (nb 2 c) d (G.out (nb 2 c))) (nb_nb 2 c)) rfl (S := ((((plan G).recv.erase 7).erase 8).erase 9))
    (show (10 : Fin 15) ∈ (((received.erase 7).erase 8).erase 9) by decide)) $$ [Hv4 Hd10 HO Ht3 Ht10]
  · isplitr; · iexact HR
    isplitl [Hv4]; · iexact Hv4
    isplitl [Hd10]; · iexact Hd10
    isplitl [HO]; · iexact HO
    isplitl [Ht3] <;> iassumption
  iintro ⟨Hc3, HO⟩
  ihave HO := (Entails.of_eq (congrArg ((plan G).owing c) (own_sent G))) $$ HO
  iapply (step_on G defs₁ 𝒱 C κ 8 1 (nb 0 c) 4 4 11 rfl rfl rfl rfl (congrArg (fun d => oPts G (sib c) d (G.out (sib c))) (sib_nb_sib 0 c)) rfl (S := later)
    (show ∀ k ∈ later, level 8 < level k by decide) (by decide)) $$ [Hc8 Ha8 Hd11 HO Ht4 Ht11]
  · isplitr; · iexact HR
    isplitr; · iexact HL
    isplitl [Hc8]; · iexact Hc8
    isplitl [Ha8]; · iexact Ha8
    isplitl [Hd11]; · iexact Hd11
    isplitl [HO]; · iexact HO
    isplitl [Ht4] <;> iassumption
  iintro ⟨Hc4, Ha8, HO⟩
  iapply (step_on G defs₁ 𝒱 C κ 9 2 (nb 1 c) 5 5 12 rfl rfl rfl rfl (congrArg (fun d => oPts G (sib c) d (G.out (sib c))) (sib_nb_sib 1 c)) rfl (S := (later.erase 11))
    (show ∀ k ∈ (later.erase 11), level 9 < level k by decide) (by decide)) $$ [Hc9 Ha9 Hd12 HO Ht5 Ht12]
  · isplitr; · iexact HR
    isplitr; · iexact HL
    isplitl [Hc9]; · iexact Hc9
    isplitl [Ha9]; · iexact Ha9
    isplitl [Hd12]; · iexact Hd12
    isplitl [HO]; · iexact HO
    isplitl [Ht5] <;> iassumption
  iintro ⟨Hc5, Ha9, HO⟩
  iapply (step_on G defs₁ 𝒱 C κ 10 3 (nb 2 c) 6 6 13 rfl rfl rfl rfl (congrArg (fun d => oPts G (sib c) d (G.out (sib c))) (sib_nb_sib 2 c)) rfl (S := ((later.erase 11).erase 12))
    (show ∀ k ∈ ((later.erase 11).erase 12), level 10 < level k by decide) (by decide)) $$ [Hc10 Ha10 Hd13 HO Ht6 Ht13]
  · isplitr; · iexact HR
    isplitr; · iexact HL
    isplitl [Hc10]; · iexact Hc10
    isplitl [Ha10]; · iexact Ha10
    isplitl [Hd13]; · iexact Hd13
    isplitl [HO]; · iexact HO
    isplitl [Ht6] <;> iassumption
  iintro ⟨Hc6, Ha10, HO⟩
  ihave HO := (Entails.of_eq (congrArg ((plan G).owing c) all_sent)) $$ HO
  iapply ((plan G).wait_all defs₁ 𝒱 c κ (.ret ⟨⟩) (rest G C)) $$ [Hc7 Ha7 Hc11 Ha11 Hc12 Ha12 Hc13 Ha13 Hc0 Ha0 Hc1 Ha1 Hc2 Ha2 Hc3 Ha3 Hc4 Ha4 Hc5 Ha5 Hc6 Ha6 Hc14 Ha14 HO]
  · isplitr; · iexact HR
    isplitr; · iexact HL
    isplitl [Hc7 Hc11 Hc12 Hc13 Hc0 Hc1 Hc2 Hc3 Hc4 Hc5 Hc6 Hc14]
    · simp only [list_cons, bigSepL_singleton]
      isplitl [Hc7]; · iexact Hc7
      isplitl [Hc11]; · iexact Hc11
      isplitl [Hc12]; · iexact Hc12
      isplitl [Hc13]; · iexact Hc13
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      iexact Hc14
    isplitl [HO]; · iexact HO
    · simp only [list_cons, bigSepL_singleton]
      isplitl [Ha7]; · iexact Ha7
      isplitl [Ha11]; · iexact Ha11
      isplitl [Ha12]; · iexact Ha12
      isplitl [Ha13]; · iexact Ha13
      isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      iexact Ha14
  iintro ⟨HO, Ha, Hp⟩
  simp only [list_cons, bigSepL_singleton]
  icases Ha with ⟨Ha7, Ha11, Ha12, Ha13, Ha0, Ha1, Ha2, Ha3, Ha4, Ha5, Ha6, Ha14⟩
  ihave Hp := (Entails.of_eq (pays (c := c) G)) $$ Hp
  icases Hp with ⟨Hp7, Hp11, Hp12, Hp13, Hp0, Hp1, Hp2, Hp3, Hp4, Hp5, Hp6, Hp14, Hk14⟩
  rw [wp_ret]
  iapply ((plan G).finish κ c rfl)
  isplitr; · iexact HR
  isplitl [Ha0 Ha1 Ha2 Ha3 Ha4 Ha5 Ha6 Ha7 Ha8 Ha9 Ha10 Ha11 Ha12 Ha13 Ha14]
  · rw [positions]
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    isplitl [Ha12]; · iexact Ha12
    isplitl [Ha13]; · iexact Ha13
    iexact Ha14
  isplitl [HO]; · iexact HO
  isplitr [Hp14 Hp7 Hp4 Hp5 Hp6 Hp11 Hp12 Hp13]
  · isplitl [Hk14]; · iexact Hk14
    isplitl [Hp0]; · iexact Hp0
    isplitl [Hp1]; · iexact Hp1
    isplitl [Hp2]; · iexact Hp2
    iexact Hp3
  · iapply (Entails.of_eq (o_split G c (G.out c)).symm)
    isplitl [Hp14]; · iexact Hp14
    isplitl [Hp7]; · iexact Hp7
    isplitl [Hp4]; · iexact Hp4
    isplitl [Hp5]; · iexact Hp5
    isplitl [Hp6]; · iexact Hp6
    isplitl [Hp11]; · iexact Hp11
    isplitl [Hp12]; · iexact Hp12
    iexact Hp13

end Body

end Cert.Gather
-- ==== Proof.Weights.lean ====
/-
  The gathering of the devices' weight blocks on every device.
-/
module

public import proofs.«01_k».proof.Proof.Gen.WeightsIdeal
public import proofs.«01_k».proof.Proof.Gen.WeightsIdeal.Skeleton
public import proofs.«01_k».proof.Proof.Gen.WeightsIdeal.Launch
public import proofs.«01_k».proof.Proof.Gather

@[expose] public section

noncomputable section

namespace Cert.WeightsRun

open Cert.WeightsIdeal Cert.WeightsIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Slots Cert.Talk Cert.Gather

set_option Elab.async false

variable {F : FTy → Type} [FloatOps F]

variable (m : (ℓ : Loc nD τ sig) → Buf (Elt F) ℓ) (ρ : Dev nD → PrngReg)

/-- The gathering's buffers, semaphores and contents: afterwards every device holds every device's block in the slot of its number. -/
def data : Data τ sig (Elt F) 48256 .bf16 where
  v := Memref.whole main_arg0
  o := Memref.whole main_v1
  sem k := k
  inj _ _ h := h
  v_all := View.set_whole _
  o_all := View.set_whole _
  hq := squeezes_S1x48256x128_S48256x128
  credit := ((Memref.whole main_arg0).view).dmaCredit
  pos := by decide
  v_credit := rfl
  o_credit _ _ := rfl
  src c := m ((c.tc : Thread nD τ).loc main_arg0)
  old c := m ((c.tc : Thread nD τ).loc main_v1)
  out _ := fun i : S8x48256x128.Idx => m ((Dev.tc (nD := nD) (i 0) : Thread nD τ).loc main_arg0) (ix2 (i 1) (i 2))
  out_at _ _ _ _ := rfl

/-- The offsets and the targets that the program names on device `c`. -/
def code (c : Dev nD) : Code (data m) c where
  off := ![k0_off1 c, k0_off2 c, k0_off3 c, k0_off4 c, k0_off5 c, k0_off6 c, k0_off7 c, k0_off8 c]
  inb
    | 0 => k0_off1_inb c
    | 1 => k0_off2_inb c
    | 2 => k0_off3_inb c
    | 3 => k0_off4_inb c
    | 4 => k0_off5_inb c
    | 5 => k0_off6_inb c
    | 6 => k0_off7_inb c
    | 7 => k0_off8_inb c
  target := ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]
  v_words := (Memref.isWhole_whole main_arg0).wordExact
  o_words
    | 0 => ((Memref.isWhole_whole main_v1).wordExact_slice rfl _ (k0_off1_wordsbf16 c)).reshape _ _
    | 1 => ((Memref.isWhole_whole main_v1).wordExact_slice rfl _ (k0_off2_wordsbf16 c)).reshape _ _
    | 2 => ((Memref.isWhole_whole main_v1).wordExact_slice rfl _ (k0_off3_wordsbf16 c)).reshape _ _
    | 3 => ((Memref.isWhole_whole main_v1).wordExact_slice rfl _ (k0_off4_wordsbf16 c)).reshape _ _
    | 4 => ((Memref.isWhole_whole main_v1).wordExact_slice rfl _ (k0_off5_wordsbf16 c)).reshape _ _
    | 5 => ((Memref.isWhole_whole main_v1).wordExact_slice rfl _ (k0_off6_wordsbf16 c)).reshape _ _
    | 6 => ((Memref.isWhole_whole main_v1).wordExact_slice rfl _ (k0_off7_wordsbf16 c)).reshape _ _
    | 7 => ((Memref.isWhole_whole main_v1).wordExact_slice rfl _ (k0_off8_wordsbf16 c)).reshape _ _
  off_eq
    | 0 => (k0_off1_eq c).trans (by revert c; decide)
    | 1 => (k0_off2_eq c).trans (by revert c; decide)
    | 2 => (k0_off3_eq c).trans (by revert c; decide)
    | 3 => (k0_off4_eq c).trans (by revert c; decide)
    | 4 => (k0_off5_eq c).trans (by revert c; decide)
    | 5 => (k0_off6_eq c).trans (by revert c; decide)
    | 6 => (k0_off7_eq c).trans (by revert c; decide)
    | 7 => (k0_off8_eq c).trans (by revert c; decide)
  target_eq
    | 0 => Fin.ext (k0_dev1_eq c)
    | 1 => Fin.ext (k0_dev2_eq c)
    | 2 => Fin.ext (k0_dev3_eq c)
    | 3 => Fin.ext (k0_dev4_eq c)
    | 4 => Fin.ext (k0_dev5_eq c)
    | 5 => Fin.ext (k0_dev6_eq c)
    | 6 => Fin.ext (k0_dev7_eq c)

omit [FloatOps F] in
theorem bufs (c : Dev nD) : (unscopedBufs c (fun b => m ((c.tc : Thread nD τ).loc b)) : sProp (MM nD τ sig (Elt F)))
    ⊢ iprop(mine (data m) c ∗ bigSep (plan (data m)).recv fun k => dst (data m) c k) := by
  unfold unscopedBufs
  rw [bigSep_eq_bigSepL_of_eq [main_arg0, main_v1] (by decide) (by decide)]
  exact Gather.bufs (data m) c

/-- The body's run: its operations are the gathering's. -/
theorem body (c : Dev nD) (κ : Dev nD × Fin 15 → ℕ) :
    iprop((plan (data m)).records κ ∗ levAts Plan.L (plan (data m)).lv
        ∗ (bigSep Finset.univ fun k => atPos ER ((plan (data m)).cell c k) 0 ∅ 0)
        ∗ (bigSep (plan (data m)).recv fun k => cred (tallyAt ((plan (data m)).cell c k) () ((plan (data m)).N k)))
        ∗ (bigSep Finset.univ fun k => dutyTok ER ((plan (data m)).cell ((plan (data m)).peer k c) k) 0 ())
        ∗ (mine (data m) c ∗ bigSep (plan (data m)).recv fun k => dst (data m) ((plan (data m)).peer k c) k)
        ∗ (plan (data m)).owing c (plan (data m)).recv)
      ⊢ wp frame (wpE (defs₀ (F := F)) Variants.none (c.tc : Thread nD τ) none) Set.univ
          (cc0_gather_weights (Memref.whole main_arg0) (Memref.isWhole_whole _) (Memref.whole main_v1) (Memref.isWhole_whole _) cc0_scratch0 cc0_scratch1 cc0_scratch2)
          fun _ => iprop((((c.tc : Thread nD τ).loc main_arg0 ↦{fullShare} m ((c.tc : Thread nD τ).loc main_arg0))
              ∗ ((c.tc : Thread nD τ).loc main_v1 ↦{fullShare} (data m).out c))
            ∗ ownSems0 (plan (data m)).osem c ∗ BI.emp
            ∗ ∃ W' : Finset (SemLoc sig × Unit), owes (c.tc : Thread nD τ) (0 : CellTallies nD τ sig Unit) W') := by
  simp only [cc0_gather_weights_eq_skeleton]; unfold cc0_gather_weights_skel
  simp only [k0_part10_eq_skeleton]; unfold k0_part10_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  exact Gather.body (data m) (defs₀ (F := F)) Variants.none (code m c) κ

/-! ## The run -/

theorem no_windows : ∀ p, IsEmpty (Fin (cfgs p).W) := fun _ => inferInstanceAs (IsEmpty (Fin 0))

theorem own_sems : OwnSemFacts (cfgs 0).spec (plan (data m)).osem := by
  have h : OwnSemFacts cfg0.spec (fun k : Fin 15 => (.dma (k : DmaSem sig) : SemLoc sig)) := by decide
  exact h

/-- Every run of the program: each device ends with every device's block, its argument as it was. -/
theorem run_main : θ_run (defs (F := F)) (onTc main) ⟨m, fun _ => 0, ρ⟩ fun r =>
    (∀ c : Dev nD, r.2.mem ((c.tc : Thread nD τ).loc main_v1) = (data m).out c
        ∧ r.2.mem ((c.tc : Thread nD τ).loc main_arg0) = m ((c.tc : Thread nD τ).loc main_arg0))
      ∧ r.2.sem = fun _ => 0 :=
  (plan (data m)).run (cfgs := cfgs) no_windows N_0 cellOf_inj winFacts0.to₀ (own_sems m)
    (fun c => scopedRest0_eq c) (defs₀ (F := F)) Variants.none m ρ main (fun _ => rfl) (mine (data m)) (dst (data m)) (bufs m)
    main_arg0 main_v1 (fun c => m ((c.tc : Thread nD τ).loc main_arg0)) (data m).out
    (fun c t κ => body m c κ) fun s h hs => ⟨h, sem_eq_zero_of_scoped (by decide) hs⟩

end Cert.WeightsRun
-- ==== Proof.WeightsValue.lean ====
/-
  What the gathering leaves on every device is the reference's array.
-/
module

public import proofs.«01_k».proof.Defs
public import proofs.«01_k».proof.Proof.Weights
public import proofs.«01_k».proof.Proof.Blocks
public import proofs.«01_k».proof.Proof.Gen.Weights
public import proofs.«01_k».proof.Proof.Gen.WeightsReferenceIdeal.Run
public import proofs.«01_k».proof.Proof.Gen.WeightsReference.Run

@[expose] public section

noncomputable section

namespace Cert.WeightsValue

open Idealize.ShloMosaic Idealize.ShloMosaic.TcCoe Idealize.ShloMosaic.ValueIdx Idealize.SL.Sem
open Cert.WeightsReferenceIdeal Cert.WeightsReferenceIdeal.Gen
open Cert.Slots Cert.Blocks

variable {α : Type}

/-- The reference's array of the whole argument. -/
def whole (A : S386048x128.Idx → α) : S8x48256x128.Idx → α := shapeCast _ A shapeCasts_S386048x128_S8x48256x128

variable {F : FTy → Type} [FloatOps F]

/-- Every device's result is the reference's array. -/
theorem out_whole (m : (ℓ : Loc Cert.WeightsIdeal.nD Cert.WeightsIdeal.τ Cert.WeightsIdeal.sig) → Buf (Elt F) ℓ)
    (A : S386048x128.Idx → Elt F .bf16)
    (hA : ∀ c : Dev Cert.WeightsIdeal.nD, m ((c.tc : Thread Cert.WeightsIdeal.nD Cert.WeightsIdeal.τ).loc Cert.WeightsIdeal.main_arg0)
      = Layout.block ⟨2, ![48256, 128]⟩ ⟨2, ![386048, 128]⟩ 0 8 c A) (c : Dev Cert.WeightsIdeal.nD) :
    (Cert.WeightsRun.data m).out c = whole A :=
  whole_of_blocks (k := 8) (b := 48256) (w := 128) (T := 386048) rfl A (by decide) shapeCasts_S386048x128_S8x48256x128
    (fun d => m ((Dev.tc (nD := Cert.WeightsIdeal.nD) d : Thread Cert.WeightsIdeal.nD Cert.WeightsIdeal.τ).loc Cert.WeightsIdeal.main_arg0)) hA

end Cert.WeightsValue

namespace Cert

open Idealize.ShloMosaic Idealize.ShloMosaic.TcCoe Idealize.SL.Sem

theorem frame_WeightsIdeal : quiescent_WeightsIdeal := fun m ρ _ =>
  (θ_run Cert.WeightsIdeal.defs _ _).mono (fun _ h => ⟨fun c => (h.1 c).2, h.2⟩) (WeightsRun.run_main (F := Ideal) m ρ)
theorem frame_Weights : quiescent_Weights := fun m ρ _ =>
  (θ_run Cert.WeightsIdeal.defs _ _).mono (fun _ h => ⟨fun c => (h.1 c).2, h.2⟩) (WeightsRun.run_main (F := Bits) m ρ)
theorem frame_WeightsReferenceIdeal : quiescent_WeightsReferenceIdeal := fun m ρ _ =>
  (θ_run Cert.WeightsReferenceIdeal.defs _ _).mono (fun r h => ⟨fun c => (h c).2, sem_eq_zero_of_no_sems (by rfl) _⟩) (WeightsReferenceIdeal.Value.run (F := Ideal) m ρ)
theorem frame_WeightsReference : quiescent_WeightsReference := fun m ρ _ =>
  (θ_run Cert.WeightsReference.defs _ _).mono (fun r h => ⟨fun c => (h c).2, sem_eq_zero_of_no_sems (by rfl) _⟩) (WeightsReference.Value.run (F := Bits) m ρ)

theorem algebraic_Weights : algebraic_WeightsIdeal_WeightsReferenceIdeal := fun m g m' g' _ hA =>
  ⟨WeightsValue.whole (m' (((0 : Dev Cert.WeightsReferenceIdeal.nD).tc : Thread Cert.WeightsReferenceIdeal.nD Cert.WeightsReferenceIdeal.τ).loc Cert.WeightsReferenceIdeal.main_arg0)),
    (θ_run Cert.WeightsIdeal.defs _ _).mono
      (fun _ h c => ⟨(h.1 c).1.trans (WeightsValue.out_whole m _ hA c), (h.1 c).2⟩) (WeightsRun.run_main (F := Ideal) m g),
    (θ_run Cert.WeightsReferenceIdeal.defs _ _).mono (fun _ h => h 0) (WeightsReferenceIdeal.Value.run (F := Ideal) m' g')⟩

theorem bitexact_Weights : bitexact_Weights_WeightsReference := fun m g m' g' _ hA =>
  ⟨WeightsValue.whole (m' (((0 : Dev Cert.WeightsReference.nD).tc : Thread Cert.WeightsReference.nD Cert.WeightsReference.τ).loc Cert.WeightsReference.main_arg0)),
    (θ_run Cert.WeightsIdeal.defs _ _).mono
      (fun _ h c => ⟨(h.1 c).1.trans (WeightsValue.out_whole (F := Bits) m _ hA c), (h.1 c).2⟩) (WeightsRun.run_main (F := Bits) m g),
    (θ_run Cert.WeightsReference.defs _ _).mono (fun _ h => h 0) (WeightsReference.Value.run (F := Bits) m' g')⟩

end Cert
-- ==== Proof.Conv.lean ====
/-
  The gathering of the devices' convolution weight blocks on every device.
-/
module

public import proofs.«01_k».proof.Proof.Gen.ConvIdeal
public import proofs.«01_k».proof.Proof.Gen.ConvIdeal.Skeleton
public import proofs.«01_k».proof.Proof.Gen.ConvIdeal.Launch
public import proofs.«01_k».proof.Proof.Gather

@[expose] public section

noncomputable section

namespace Cert.ConvRun

open Cert.ConvIdeal Cert.ConvIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Slots Cert.Talk Cert.Gather

set_option Elab.async false

variable {F : FTy → Type} [FloatOps F]

variable (m : (ℓ : Loc nD τ sig) → Buf (Elt F) ℓ) (ρ : Dev nD → PrngReg)

/-- The gathering's buffers, semaphores and contents: afterwards every device holds every device's block in the slot of its number. -/
def data : Data τ sig (Elt F) 104 .f32 where
  v := Memref.whole main_arg0
  o := Memref.whole main_v1
  sem k := k
  inj _ _ h := h
  v_all := View.set_whole _
  o_all := View.set_whole _
  hq := squeezes_S1x104x128_S104x128
  credit := ((Memref.whole main_arg0).view).dmaCredit
  pos := by decide
  v_credit := rfl
  o_credit _ _ := rfl
  src c := m ((c.tc : Thread nD τ).loc main_arg0)
  old c := m ((c.tc : Thread nD τ).loc main_v1)
  out _ := fun i : S8x104x128.Idx => m ((Dev.tc (nD := nD) (i 0) : Thread nD τ).loc main_arg0) (ix2 (i 1) (i 2))
  out_at _ _ _ _ := rfl

/-- The offsets and the targets that the program names on device `c`. -/
def code (c : Dev nD) : Code (data m) c where
  off := ![k0_off1 c, k0_off2 c, k0_off3 c, k0_off4 c, k0_off5 c, k0_off6 c, k0_off7 c, k0_off8 c]
  inb
    | 0 => k0_off1_inb c
    | 1 => k0_off2_inb c
    | 2 => k0_off3_inb c
    | 3 => k0_off4_inb c
    | 4 => k0_off5_inb c
    | 5 => k0_off6_inb c
    | 6 => k0_off7_inb c
    | 7 => k0_off8_inb c
  target := ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]
  v_words := (Memref.isWhole_whole main_arg0).wordExact
  o_words _ := (View.wordExact_bits rfl).reshape _ _
  off_eq
    | 0 => (k0_off1_eq c).trans (by revert c; decide)
    | 1 => (k0_off2_eq c).trans (by revert c; decide)
    | 2 => (k0_off3_eq c).trans (by revert c; decide)
    | 3 => (k0_off4_eq c).trans (by revert c; decide)
    | 4 => (k0_off5_eq c).trans (by revert c; decide)
    | 5 => (k0_off6_eq c).trans (by revert c; decide)
    | 6 => (k0_off7_eq c).trans (by revert c; decide)
    | 7 => (k0_off8_eq c).trans (by revert c; decide)
  target_eq
    | 0 => Fin.ext (k0_dev1_eq c)
    | 1 => Fin.ext (k0_dev2_eq c)
    | 2 => Fin.ext (k0_dev3_eq c)
    | 3 => Fin.ext (k0_dev4_eq c)
    | 4 => Fin.ext (k0_dev5_eq c)
    | 5 => Fin.ext (k0_dev6_eq c)
    | 6 => Fin.ext (k0_dev7_eq c)

omit [FloatOps F] in
theorem bufs (c : Dev nD) : (unscopedBufs c (fun b => m ((c.tc : Thread nD τ).loc b)) : sProp (MM nD τ sig (Elt F)))
    ⊢ iprop(mine (data m) c ∗ bigSep (plan (data m)).recv fun k => dst (data m) c k) := by
  unfold unscopedBufs
  rw [bigSep_eq_bigSepL_of_eq [main_arg0, main_v1] (by decide) (by decide)]
  exact Gather.bufs (data m) c

/-- The body's run: its operations are the gathering's. -/
theorem body (c : Dev nD) (κ : Dev nD × Fin 15 → ℕ) :
    iprop((plan (data m)).records κ ∗ levAts Plan.L (plan (data m)).lv
        ∗ (bigSep Finset.univ fun k => atPos ER ((plan (data m)).cell c k) 0 ∅ 0)
        ∗ (bigSep (plan (data m)).recv fun k => cred (tallyAt ((plan (data m)).cell c k) () ((plan (data m)).N k)))
        ∗ (bigSep Finset.univ fun k => dutyTok ER ((plan (data m)).cell ((plan (data m)).peer k c) k) 0 ())
        ∗ (mine (data m) c ∗ bigSep (plan (data m)).recv fun k => dst (data m) ((plan (data m)).peer k c) k)
        ∗ (plan (data m)).owing c (plan (data m)).recv)
      ⊢ wp frame (wpE (defs₀ (F := F)) Variants.none (c.tc : Thread nD τ) none) Set.univ
          (cc0_gather_conv_weights (Memref.whole main_arg0) (Memref.isWhole_whole _) (Memref.whole main_v1) (Memref.isWhole_whole _) cc0_scratch0 cc0_scratch1 cc0_scratch2)
          fun _ => iprop((((c.tc : Thread nD τ).loc main_arg0 ↦{fullShare} m ((c.tc : Thread nD τ).loc main_arg0))
              ∗ ((c.tc : Thread nD τ).loc main_v1 ↦{fullShare} (data m).out c))
            ∗ ownSems0 (plan (data m)).osem c ∗ BI.emp
            ∗ ∃ W' : Finset (SemLoc sig × Unit), owes (c.tc : Thread nD τ) (0 : CellTallies nD τ sig Unit) W') := by
  simp only [cc0_gather_conv_weights_eq_skeleton]; unfold cc0_gather_conv_weights_skel
  simp only [k0_part10_eq_skeleton]; unfold k0_part10_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  exact Gather.body (data m) (defs₀ (F := F)) Variants.none (code m c) κ

/-! ## The run -/

theorem no_windows : ∀ p, IsEmpty (Fin (cfgs p).W) := fun _ => inferInstanceAs (IsEmpty (Fin 0))

theorem own_sems : OwnSemFacts (cfgs 0).spec (plan (data m)).osem := by
  have h : OwnSemFacts cfg0.spec (fun k : Fin 15 => (.dma (k : DmaSem sig) : SemLoc sig)) := by decide
  exact h

/-- Every run of the program: each device ends with every device's block, its argument as it was. -/
theorem run_main : θ_run (defs (F := F)) (onTc main) ⟨m, fun _ => 0, ρ⟩ fun r =>
    (∀ c : Dev nD, r.2.mem ((c.tc : Thread nD τ).loc main_v1) = (data m).out c
        ∧ r.2.mem ((c.tc : Thread nD τ).loc main_arg0) = m ((c.tc : Thread nD τ).loc main_arg0))
      ∧ r.2.sem = fun _ => 0 :=
  (plan (data m)).run (cfgs := cfgs) no_windows N_0 cellOf_inj winFacts0.to₀ (own_sems m)
    (fun c => scopedRest0_eq c) (defs₀ (F := F)) Variants.none m ρ main (fun _ => rfl) (mine (data m)) (dst (data m)) (bufs m)
    main_arg0 main_v1 (fun c => m ((c.tc : Thread nD τ).loc main_arg0)) (data m).out
    (fun c t κ => body m c κ) fun s h hs => ⟨h, sem_eq_zero_of_scoped (by decide) hs⟩

end Cert.ConvRun
-- ==== Proof.ConvValue.lean ====
/-
  What the gathering leaves on every device is the reference's array.
-/
module

public import proofs.«01_k».proof.Defs
public import proofs.«01_k».proof.Proof.Conv
public import proofs.«01_k».proof.Proof.Blocks
public import proofs.«01_k».proof.Proof.Gen.Conv
public import proofs.«01_k».proof.Proof.Gen.ConvReferenceIdeal.Run
public import proofs.«01_k».proof.Proof.Gen.ConvReference.Run

@[expose] public section

noncomputable section

namespace Cert.ConvValue

open Idealize.ShloMosaic Idealize.ShloMosaic.TcCoe Idealize.ShloMosaic.ValueIdx Idealize.SL.Sem
open Cert.ConvReferenceIdeal Cert.ConvReferenceIdeal.Gen
open Cert.Slots Cert.Blocks

variable {α : Type}

/-- The reference's array of the whole argument. -/
def whole (A : S832x128.Idx → α) : S8x104x128.Idx → α := shapeCast _ A shapeCasts_S832x128_S8x104x128

variable {F : FTy → Type} [FloatOps F]

/-- Every device's result is the reference's array. -/
theorem out_whole (m : (ℓ : Loc Cert.ConvIdeal.nD Cert.ConvIdeal.τ Cert.ConvIdeal.sig) → Buf (Elt F) ℓ)
    (A : S832x128.Idx → Elt F .f32)
    (hA : ∀ c : Dev Cert.ConvIdeal.nD, m ((c.tc : Thread Cert.ConvIdeal.nD Cert.ConvIdeal.τ).loc Cert.ConvIdeal.main_arg0)
      = Layout.block ⟨2, ![104, 128]⟩ ⟨2, ![832, 128]⟩ 0 8 c A) (c : Dev Cert.ConvIdeal.nD) :
    (Cert.ConvRun.data m).out c = whole A :=
  whole_of_blocks (k := 8) (b := 104) (w := 128) (T := 832) rfl A (by decide) shapeCasts_S832x128_S8x104x128
    (fun d => m ((Dev.tc (nD := Cert.ConvIdeal.nD) d : Thread Cert.ConvIdeal.nD Cert.ConvIdeal.τ).loc Cert.ConvIdeal.main_arg0)) hA

end Cert.ConvValue

namespace Cert

open Idealize.ShloMosaic Idealize.ShloMosaic.TcCoe Idealize.SL.Sem

theorem frame_ConvIdeal : quiescent_ConvIdeal := fun m ρ _ =>
  (θ_run Cert.ConvIdeal.defs _ _).mono (fun _ h => ⟨fun c => (h.1 c).2, h.2⟩) (ConvRun.run_main (F := Ideal) m ρ)
theorem frame_Conv : quiescent_Conv := fun m ρ _ =>
  (θ_run Cert.ConvIdeal.defs _ _).mono (fun _ h => ⟨fun c => (h.1 c).2, h.2⟩) (ConvRun.run_main (F := Bits) m ρ)
theorem frame_ConvReferenceIdeal : quiescent_ConvReferenceIdeal := fun m ρ _ =>
  (θ_run Cert.ConvReferenceIdeal.defs _ _).mono (fun r h => ⟨fun c => (h c).2, sem_eq_zero_of_no_sems (by rfl) _⟩) (ConvReferenceIdeal.Value.run (F := Ideal) m ρ)
theorem frame_ConvReference : quiescent_ConvReference := fun m ρ _ =>
  (θ_run Cert.ConvReference.defs _ _).mono (fun r h => ⟨fun c => (h c).2, sem_eq_zero_of_no_sems (by rfl) _⟩) (ConvReference.Value.run (F := Bits) m ρ)

theorem algebraic_Conv : algebraic_ConvIdeal_ConvReferenceIdeal := fun m g m' g' _ hA =>
  ⟨ConvValue.whole (m' (((0 : Dev Cert.ConvReferenceIdeal.nD).tc : Thread Cert.ConvReferenceIdeal.nD Cert.ConvReferenceIdeal.τ).loc Cert.ConvReferenceIdeal.main_arg0)),
    (θ_run Cert.ConvIdeal.defs _ _).mono
      (fun _ h c => ⟨(h.1 c).1.trans (ConvValue.out_whole m _ hA c), (h.1 c).2⟩) (ConvRun.run_main (F := Ideal) m g),
    (θ_run Cert.ConvReferenceIdeal.defs _ _).mono (fun _ h => h 0) (ConvReferenceIdeal.Value.run (F := Ideal) m' g')⟩

theorem bitexact_Conv : bitexact_Conv_ConvReference := fun m g m' g' _ hA =>
  ⟨ConvValue.whole (m' (((0 : Dev Cert.ConvReference.nD).tc : Thread Cert.ConvReference.nD Cert.ConvReference.τ).loc Cert.ConvReference.main_arg0)),
    (θ_run Cert.ConvIdeal.defs _ _).mono
      (fun _ h c => ⟨(h.1 c).1.trans (ConvValue.out_whole (F := Bits) m _ hA c), (h.1 c).2⟩) (ConvRun.run_main (F := Bits) m g),
    (θ_run Cert.ConvReference.defs _ _).mono (fun _ h => h 0) (ConvReference.Value.run (F := Bits) m' g')⟩

end Cert
-- ==== Proof.Small.lean ====
/-
  The gathering of the devices' small gradient blocks on every device.
-/
module

public import proofs.«01_k».proof.Proof.Gen.SmallIdeal
public import proofs.«01_k».proof.Proof.Gen.SmallIdeal.Skeleton
public import proofs.«01_k».proof.Proof.Gen.SmallIdeal.Launch
public import proofs.«01_k».proof.Proof.Gather

@[expose] public section

noncomputable section

namespace Cert.SmallRun

open Cert.SmallIdeal Cert.SmallIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Slots Cert.Talk Cert.Gather

set_option Elab.async false

variable {F : FTy → Type} [FloatOps F]

variable (m : (ℓ : Loc nD τ sig) → Buf (Elt F) ℓ) (ρ : Dev nD → PrngReg)

/-- The gathering's buffers, semaphores and contents: afterwards every device holds every device's block in the slot of its number. -/
def data : Data τ sig (Elt F) 232 .f32 where
  v := Memref.whole main_arg0
  o := Memref.whole main_v1
  sem k := k
  inj _ _ h := h
  v_all := View.set_whole _
  o_all := View.set_whole _
  hq := squeezes_S1x232x128_S232x128
  credit := ((Memref.whole main_arg0).view).dmaCredit
  pos := by decide
  v_credit := rfl
  o_credit _ _ := rfl
  src c := m ((c.tc : Thread nD τ).loc main_arg0)
  old c := m ((c.tc : Thread nD τ).loc main_v1)
  out _ := fun i : S8x232x128.Idx => m ((Dev.tc (nD := nD) (i 0) : Thread nD τ).loc main_arg0) (ix2 (i 1) (i 2))
  out_at _ _ _ _ := rfl

/-- The offsets and the targets that the program names on device `c`. -/
def code (c : Dev nD) : Code (data m) c where
  off := ![k0_off1 c, k0_off2 c, k0_off3 c, k0_off4 c, k0_off5 c, k0_off6 c, k0_off7 c, k0_off8 c]
  inb
    | 0 => k0_off1_inb c
    | 1 => k0_off2_inb c
    | 2 => k0_off3_inb c
    | 3 => k0_off4_inb c
    | 4 => k0_off5_inb c
    | 5 => k0_off6_inb c
    | 6 => k0_off7_inb c
    | 7 => k0_off8_inb c
  target := ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]
  v_words := (Memref.isWhole_whole main_arg0).wordExact
  o_words _ := (View.wordExact_bits rfl).reshape _ _
  off_eq
    | 0 => (k0_off1_eq c).trans (by revert c; decide)
    | 1 => (k0_off2_eq c).trans (by revert c; decide)
    | 2 => (k0_off3_eq c).trans (by revert c; decide)
    | 3 => (k0_off4_eq c).trans (by revert c; decide)
    | 4 => (k0_off5_eq c).trans (by revert c; decide)
    | 5 => (k0_off6_eq c).trans (by revert c; decide)
    | 6 => (k0_off7_eq c).trans (by revert c; decide)
    | 7 => (k0_off8_eq c).trans (by revert c; decide)
  target_eq
    | 0 => Fin.ext (k0_dev1_eq c)
    | 1 => Fin.ext (k0_dev2_eq c)
    | 2 => Fin.ext (k0_dev3_eq c)
    | 3 => Fin.ext (k0_dev4_eq c)
    | 4 => Fin.ext (k0_dev5_eq c)
    | 5 => Fin.ext (k0_dev6_eq c)
    | 6 => Fin.ext (k0_dev7_eq c)

omit [FloatOps F] in
theorem bufs (c : Dev nD) : (unscopedBufs c (fun b => m ((c.tc : Thread nD τ).loc b)) : sProp (MM nD τ sig (Elt F)))
    ⊢ iprop(mine (data m) c ∗ bigSep (plan (data m)).recv fun k => dst (data m) c k) := by
  unfold unscopedBufs
  rw [bigSep_eq_bigSepL_of_eq [main_arg0, main_v1] (by decide) (by decide)]
  exact Gather.bufs (data m) c

/-- The body's run: its operations are the gathering's. -/
theorem body (c : Dev nD) (κ : Dev nD × Fin 15 → ℕ) :
    iprop((plan (data m)).records κ ∗ levAts Plan.L (plan (data m)).lv
        ∗ (bigSep Finset.univ fun k => atPos ER ((plan (data m)).cell c k) 0 ∅ 0)
        ∗ (bigSep (plan (data m)).recv fun k => cred (tallyAt ((plan (data m)).cell c k) () ((plan (data m)).N k)))
        ∗ (bigSep Finset.univ fun k => dutyTok ER ((plan (data m)).cell ((plan (data m)).peer k c) k) 0 ())
        ∗ (mine (data m) c ∗ bigSep (plan (data m)).recv fun k => dst (data m) ((plan (data m)).peer k c) k)
        ∗ (plan (data m)).owing c (plan (data m)).recv)
      ⊢ wp frame (wpE (defs₀ (F := F)) Variants.none (c.tc : Thread nD τ) none) Set.univ
          (cc0_gather_small_grads (Memref.whole main_arg0) (Memref.isWhole_whole _) (Memref.whole main_v1) (Memref.isWhole_whole _) cc0_scratch0 cc0_scratch1 cc0_scratch2)
          fun _ => iprop((((c.tc : Thread nD τ).loc main_arg0 ↦{fullShare} m ((c.tc : Thread nD τ).loc main_arg0))
              ∗ ((c.tc : Thread nD τ).loc main_v1 ↦{fullShare} (data m).out c))
            ∗ ownSems0 (plan (data m)).osem c ∗ BI.emp
            ∗ ∃ W' : Finset (SemLoc sig × Unit), owes (c.tc : Thread nD τ) (0 : CellTallies nD τ sig Unit) W') := by
  simp only [cc0_gather_small_grads_eq_skeleton]; unfold cc0_gather_small_grads_skel
  simp only [k0_part10_eq_skeleton]; unfold k0_part10_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  exact Gather.body (data m) (defs₀ (F := F)) Variants.none (code m c) κ

/-! ## The run -/

theorem no_windows : ∀ p, IsEmpty (Fin (cfgs p).W) := fun _ => inferInstanceAs (IsEmpty (Fin 0))

theorem own_sems : OwnSemFacts (cfgs 0).spec (plan (data m)).osem := by
  have h : OwnSemFacts cfg0.spec (fun k : Fin 15 => (.dma (k : DmaSem sig) : SemLoc sig)) := by decide
  exact h

/-- Every run of the program: each device ends with every device's block, its argument as it was. -/
theorem run_main : θ_run (defs (F := F)) (onTc main) ⟨m, fun _ => 0, ρ⟩ fun r =>
    (∀ c : Dev nD, r.2.mem ((c.tc : Thread nD τ).loc main_v1) = (data m).out c
        ∧ r.2.mem ((c.tc : Thread nD τ).loc main_arg0) = m ((c.tc : Thread nD τ).loc main_arg0))
      ∧ r.2.sem = fun _ => 0 :=
  (plan (data m)).run (cfgs := cfgs) no_windows N_0 cellOf_inj winFacts0.to₀ (own_sems m)
    (fun c => scopedRest0_eq c) (defs₀ (F := F)) Variants.none m ρ main (fun _ => rfl) (mine (data m)) (dst (data m)) (bufs m)
    main_arg0 main_v1 (fun c => m ((c.tc : Thread nD τ).loc main_arg0)) (data m).out
    (fun c t κ => body m c κ) fun s h hs => ⟨h, sem_eq_zero_of_scoped (by decide) hs⟩

end Cert.SmallRun
-- ==== Proof.SmallValue.lean ====
/-
  What the gathering leaves on every device is the reference's array.
-/
module

public import proofs.«01_k».proof.Defs
public import proofs.«01_k».proof.Proof.Small
public import proofs.«01_k».proof.Proof.Blocks
public import proofs.«01_k».proof.Proof.Gen.Small
public import proofs.«01_k».proof.Proof.Gen.SmallReferenceIdeal.Run
public import proofs.«01_k».proof.Proof.Gen.SmallReference.Run

@[expose] public section

noncomputable section

namespace Cert.SmallValue

open Idealize.ShloMosaic Idealize.ShloMosaic.TcCoe Idealize.ShloMosaic.ValueIdx Idealize.SL.Sem
open Cert.SmallReferenceIdeal Cert.SmallReferenceIdeal.Gen
open Cert.Slots Cert.Blocks

variable {α : Type}

/-- The reference's array of the whole argument. -/
def whole (A : S1856x128.Idx → α) : S8x232x128.Idx → α := shapeCast _ A shapeCasts_S1856x128_S8x232x128

variable {F : FTy → Type} [FloatOps F]

/-- Every device's result is the reference's array. -/
theorem out_whole (m : (ℓ : Loc Cert.SmallIdeal.nD Cert.SmallIdeal.τ Cert.SmallIdeal.sig) → Buf (Elt F) ℓ)
    (A : S1856x128.Idx → Elt F .f32)
    (hA : ∀ c : Dev Cert.SmallIdeal.nD, m ((c.tc : Thread Cert.SmallIdeal.nD Cert.SmallIdeal.τ).loc Cert.SmallIdeal.main_arg0)
      = Layout.block ⟨2, ![232, 128]⟩ ⟨2, ![1856, 128]⟩ 0 8 c A) (c : Dev Cert.SmallIdeal.nD) :
    (Cert.SmallRun.data m).out c = whole A :=
  whole_of_blocks (k := 8) (b := 232) (w := 128) (T := 1856) rfl A (by decide) shapeCasts_S1856x128_S8x232x128
    (fun d => m ((Dev.tc (nD := Cert.SmallIdeal.nD) d : Thread Cert.SmallIdeal.nD Cert.SmallIdeal.τ).loc Cert.SmallIdeal.main_arg0)) hA

end Cert.SmallValue

namespace Cert

open Idealize.ShloMosaic Idealize.ShloMosaic.TcCoe Idealize.SL.Sem

theorem frame_SmallIdeal : quiescent_SmallIdeal := fun m ρ _ =>
  (θ_run Cert.SmallIdeal.defs _ _).mono (fun _ h => ⟨fun c => (h.1 c).2, h.2⟩) (SmallRun.run_main (F := Ideal) m ρ)
theorem frame_Small : quiescent_Small := fun m ρ _ =>
  (θ_run Cert.SmallIdeal.defs _ _).mono (fun _ h => ⟨fun c => (h.1 c).2, h.2⟩) (SmallRun.run_main (F := Bits) m ρ)
theorem frame_SmallReferenceIdeal : quiescent_SmallReferenceIdeal := fun m ρ _ =>
  (θ_run Cert.SmallReferenceIdeal.defs _ _).mono (fun r h => ⟨fun c => (h c).2, sem_eq_zero_of_no_sems (by rfl) _⟩) (SmallReferenceIdeal.Value.run (F := Ideal) m ρ)
theorem frame_SmallReference : quiescent_SmallReference := fun m ρ _ =>
  (θ_run Cert.SmallReference.defs _ _).mono (fun r h => ⟨fun c => (h c).2, sem_eq_zero_of_no_sems (by rfl) _⟩) (SmallReference.Value.run (F := Bits) m ρ)

theorem algebraic_Small : algebraic_SmallIdeal_SmallReferenceIdeal := fun m g m' g' _ hA =>
  ⟨SmallValue.whole (m' (((0 : Dev Cert.SmallReferenceIdeal.nD).tc : Thread Cert.SmallReferenceIdeal.nD Cert.SmallReferenceIdeal.τ).loc Cert.SmallReferenceIdeal.main_arg0)),
    (θ_run Cert.SmallIdeal.defs _ _).mono
      (fun _ h c => ⟨(h.1 c).1.trans (SmallValue.out_whole m _ hA c), (h.1 c).2⟩) (SmallRun.run_main (F := Ideal) m g),
    (θ_run Cert.SmallReferenceIdeal.defs _ _).mono (fun _ h => h 0) (SmallReferenceIdeal.Value.run (F := Ideal) m' g')⟩

theorem bitexact_Small : bitexact_Small_SmallReference := fun m g m' g' _ hA =>
  ⟨SmallValue.whole (m' (((0 : Dev Cert.SmallReference.nD).tc : Thread Cert.SmallReference.nD Cert.SmallReference.τ).loc Cert.SmallReference.main_arg0)),
    (θ_run Cert.SmallIdeal.defs _ _).mono
      (fun _ h c => ⟨(h.1 c).1.trans (SmallValue.out_whole (F := Bits) m _ hA c), (h.1 c).2⟩) (SmallRun.run_main (F := Bits) m g),
    (θ_run Cert.SmallReference.defs _ _).mono (fun _ h => h 0) (SmallReference.Value.run (F := Bits) m' g')⟩

end Cert
-- ==== Proof.Sibling.lean ====
/-
  The exchange of gradient slots between the two cores of a chip: of its eight slots a device sends the four of the other
  core's parity to its sibling, and receives the sibling's four of its own parity.
-/
module

public import proofs.«01_k».proof.Proof.Gen.SiblingIdeal
public import proofs.«01_k».proof.Proof.Gen.SiblingIdeal.Skeleton
public import proofs.«01_k».proof.Proof.Gen.SiblingIdeal.Launch
public import proofs.«01_k».proof.Proof.Steps

@[expose] public section

noncomputable section

namespace Cert.SiblingRun

open Cert.SiblingIdeal Cert.SiblingIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Slots Cert.Talk

set_option Elab.async false

variable {F : FTy → Type} [FloatOps F]

local notation "𝕄" => MM nD τ sig (Elt F)

variable (m : (ℓ : Loc nD τ sig) → Buf (Elt F) ℓ) (ρ : Dev nD → PrngReg)

abbrev gM : Memref sig .tc .hbm S8x48640x128 .bf16 := Memref.whole main_arg0
abbrev oM : Memref sig .tc .hbm S4x48640x128 .bf16 := Memref.whole main_v1

/-- The other core of the chip. -/
def sib (c : Dev nD) : Dev nD := ⟨(c.val + 1) - 2 * (c.val % 2), by revert c; decide⟩
theorem sib_sib (c : Dev nD) : sib (sib c) = c := by revert c; decide

/-- The slot of pair `q` a device sends, and the one it keeps. -/
def away (c : Dev nD) (q : Fin 4) : Fin 8 := ⟨2 * q.val + 1 - c.val % 2, by revert c q; decide⟩
def near (c : Dev nD) (q : Fin 4) : Fin 8 := ⟨2 * q.val + c.val % 2, by revert c q; decide⟩

theorem slots_all (c : Dev nD) : Finset.univ = [away c 0, away c 1, away c 2, away c 3, near c 0, near c 1, near c 2, near c 3].toFinset := by
  revert c; decide
theorem slots_nodup (c : Dev nD) : [away c 0, away c 1, away c 2, away c 3, near c 0, near c 1, near c 2, near c 3].Nodup := by
  revert c; decide

abbrev gPts (c : Dev nD) (d : Fin 8) : sProp (MM nD τ sig (Elt F)) :=
  (gM.view.loc (c.tc : Thread nD τ) ↦[slot gM d]{fullShare} m ((c.tc : Thread nD τ).loc main_arg0))
abbrev oPts (c : Dev nD) (d : Fin 4) (f : Buf (Elt F) ((c.tc : Thread nD τ).loc main_v1)) : sProp (MM nD τ sig (Elt F)) :=
  (oM.view.loc (c.tc : Thread nD τ) ↦[slot oM d]{fullShare} f)

/-- What a device ends with: of its sibling's slots those of its own parity. -/
def out (c : Dev nD) : Buf (Elt F) ((c.tc : Thread nD τ).loc main_v1) :=
  fun i => m (((sib c).tc : Thread nD τ).loc main_arg0) (ix3 (away (sib c) (i 0)) (i 1) (i 2))

/-- The credit of one slot. -/
abbrev credit : ℕ := ((slotView oM ![0, 0, 0] inb_S4x48640x128_S1x48640x128_0_0_0 squeezes_S1x48640x128_S48640x128).view).dmaCredit

def pay (c : Dev nD) : Fin 8 → sProp (MM nD τ sig (Elt F))
  | 0 => gPts m c (away c 0)
  | 1 => gPts m c (away c 1)
  | 2 => gPts m c (away c 2)
  | 3 => gPts m c (away c 3)
  | 4 => oPts c 0 (out m c)
  | 5 => oPts c 1 (out m c)
  | 6 => oPts c 2 (out m c)
  | 7 => oPts c 3 (out m c)

/-- The cells the sibling credits. -/
abbrev received : Finset (Fin 8) := {4, 5, 6, 7}

/-- The plan: cells 0–3 are credited when a slot has been sent, cells 4–7 when one has been received. -/
def plan : Plan nD τ sig (Elt F) (Fin 8) where
  sem k := k
  inj := fun _ _ h => h
  N _ := credit
  pos _ := by decide
  Pay := pay m
  stor c k := by fin_cases k <;> (unfold pay; infer_instance)
  recv := received
  peer k c := if k.val < 4 then c else sib c
  inv k c := by by_cases h : k.val < 4 <;> simp only [h, if_true, if_false, sib_sib]
  lev _ := 0

/-- What the sibling writes to, cell by cell. -/
def dst (c : Dev nD) : Fin 8 → sProp (MM nD τ sig (Elt F))
  | 4 => oPts c 0 (m ((c.tc : Thread nD τ).loc main_v1))
  | 5 => oPts c 1 (m ((c.tc : Thread nD τ).loc main_v1))
  | 6 => oPts c 2 (m ((c.tc : Thread nD τ).loc main_v1))
  | 7 => oPts c 3 (m ((c.tc : Thread nD τ).loc main_v1))
  | _ => BI.emp

abbrev mine (c : Dev nD) : sProp (MM nD τ sig (Elt F)) :=
  ((c.tc : Thread nD τ).loc main_arg0 ↦{fullShare} m ((c.tc : Thread nD τ).loc main_arg0))

omit [FloatOps F] in
/-- The result buffer is its four slots. -/
theorem o_split (c : Dev nD) (f : Buf (Elt F) ((c.tc : Thread nD τ).loc main_v1)) :
    ((c.tc : Thread nD τ).loc main_v1 ↦{fullShare} f : sProp 𝕄)
      = iprop(oPts c 0 f ∗ oPts c 1 f ∗ oPts c 2 f ∗ oPts c 3 f) := by
  have h := slots_split (U := UU nD τ sig) oM c fullShare f
  rw [bigSep_univ_eq_bigSepL [0, 1, 2, 3] (by decide) (by decide)] at h
  exact ((congrArg (fun S => ((c.tc : Thread nD τ).loc main_v1 ↦[S]{fullShare} f : sProp 𝕄)) (View.set_whole main_v1)).symm).trans h

omit [FloatOps F] in
/-- The argument buffer is the slots sent and the slots kept. -/
theorem g_split (c : Dev nD) :
    (mine m c : sProp 𝕄) = iprop(gPts m c (away c 0) ∗ gPts m c (away c 1) ∗ gPts m c (away c 2) ∗ gPts m c (away c 3)
      ∗ gPts m c (near c 0) ∗ gPts m c (near c 1) ∗ gPts m c (near c 2) ∗ gPts m c (near c 3)) := by
  have h := slots_split (U := UU nD τ sig) gM c fullShare (m ((c.tc : Thread nD τ).loc main_arg0))
  rw [bigSep_univ_eq_bigSepL [away c 0, away c 1, away c 2, away c 3, near c 0, near c 1, near c 2, near c 3]
    (slots_all c) (slots_nodup c)] at h
  exact ((congrArg (fun S => ((c.tc : Thread nD τ).loc main_arg0 ↦[S]{fullShare} m ((c.tc : Thread nD τ).loc main_arg0) : sProp 𝕄))
    (View.set_whole main_arg0)).symm).trans h

omit [FloatOps F] in
theorem bufs (c : Dev nD) : (unscopedBufs c (fun b => m ((c.tc : Thread nD τ).loc b)) : sProp 𝕄)
    ⊢ iprop(mine m c ∗ bigSep (plan m).recv fun k => dst m c k) := by
  unfold unscopedBufs
  rw [bigSep_eq_bigSepL_of_eq [main_arg0, main_v1] (by decide) (by decide),
    show (bigSep (plan m).recv fun k => dst m c k : sProp 𝕄) = _ from bigSep_eq_bigSepL_of_eq [4, 5, 6, 7] (by rfl) (by decide) _]
  show iprop(mine m c ∗ ((c.tc : Thread nD τ).loc main_v1 ↦{fullShare} m ((c.tc : Thread nD τ).loc main_v1))) ⊢ _
  rw [o_split]
  exact Entails.refl _

/-! ## The body -/

theorem sib_eq (c : Dev nD) : (4 * (c.val / 4) + 2 * ((c.val / 2) % 2) + 1) - (c.val % 2) = (sib c).val := by revert c; decide
theorem dev1 (c : Dev nD) : (⟨k0_dev1 c, k0_dev1_lt c⟩ : Dev nD) = sib c := Fin.ext ((k0_dev1_eq c).trans (sib_eq c))
theorem dev2 (c : Dev nD) : (⟨k0_dev2 c, k0_dev2_lt c⟩ : Dev nD) = sib c := Fin.ext ((k0_dev2_eq c).trans (sib_eq c))
theorem dev3 (c : Dev nD) : (⟨k0_dev3 c, k0_dev3_lt c⟩ : Dev nD) = sib c := Fin.ext ((k0_dev3_eq c).trans (sib_eq c))
theorem dev4 (c : Dev nD) : (⟨k0_dev4 c, k0_dev4_lt c⟩ : Dev nD) = sib c := Fin.ext ((k0_dev4_eq c).trans (sib_eq c))

/-- The send of slot `q`. -/
theorem send_q (c : Dev nD) (κ : Dev nD × Fin 8 → ℕ) (q : Fin 4) (ks kr : Fin 8)
    (hks : (plan m).Pay c ks = gPts m c (away c q)) (hkr : (plan m).Pay (sib c) kr = oPts (sib c) q (out m (sib c)))
    (hp : (plan m).peer kr c = sib c)
    {n : Dev nD} (hn : n = sib c)
    {offs offd : Fin 3 → ℕ} (hoffs : offs = ![(away c q).val, 0, 0]) (hoffd : offd = ![q.val, 0, 0])
    {hins : ∀ x : Fin 3, offs x + ![1, 48640, 128] x ≤ ![8, 48640, 128] x} {hind : ∀ x : Fin 3, offd x + ![1, 48640, 128] x ≤ ![4, 48640, 128] x}
    {hqs hqd : (Sh3 1 48640 128).Squeezes (Sh2 48640 128)}
    {sS sR : DmaSem sig} (hs : sS = (plan m).sem ks) (hr : sR = (plan m).sem kr)
    {hsc : (slotView oM offd hind hqd).view.ref.isScScratch = false}
    {hsrc : (slotView gM offs hins hqs).view.WordExact} {hdst : (slotView oM offd hind hqd).view.WordExact}
    {hsem : DmaTarget.Typed .hbm (.dma sR) (.remote (Dev.tc n : Thread nD τ) (slotView oM offd hind hqd) (.dma sS) hsc)}
    {S : Finset (Fin 8)} (hS : kr ∈ S) {α : Type} {Q : α → sProp 𝕄} {k : PUnit → Prog (TpuEff nD τ sig (Elt F) Λ₀ .tc) α} :
    iprop((plan m).records κ ∗ gPts m c (away c q) ∗ oPts (sib c) q (m (((sib c).tc : Thread nD τ).loc main_v1))
        ∗ (plan m).owing c S ∗ dutyTok ER ((plan m).cell c ks) 0 () ∗ dutyTok ER ((plan m).cell (sib c) kr) 0 ())
      ⊢ iprop(((cred (tallyAt ((plan m).cell c ks) () ((plan m).N ks)) ∗ (plan m).owing c (S.erase kr))
            -∗ wp frame (wpE (defs₀ (F := F)) Variants.none (c.tc : Thread nD τ) none) Set.univ (k ⟨⟩) Q)
          -∗ wp frame (wpE (defs₀ (F := F)) Variants.none (c.tc : Thread nD τ) none) Set.univ
              (.op (.enqueueDma (slotView gM offs hins hqs) (.remote (Dev.tc n : Thread nD τ) (slotView oM offd hind hqd) (.dma sS) hsc) (.dma sR) hsrc hdst hsem) k) Q) := by
  have h := (plan m).send_slot (defs₀ (F := F)) Variants.none c κ ks kr (hn.trans hp.symm) oM q hoffd (hin := hind) (hq := hqd)
    (src := slotView gM offs hins hqs) hs hr (hsc := hsc) (hsrc := hsrc) (hdst := hdst) (hsem := hsem) fullShare
    (m ((c.tc : Thread nD τ).loc main_arg0)) (m ((((plan m).peer kr c).tc : Thread nD τ).loc main_v1)) (out m ((plan m).peer kr c))
    rfl rfl (A := gPts m c (away c q)) (slotView_pts gM c fullShare (away c q) hoffs _).symm
    (Entails.of_eq hks.symm)
    (fun x y => by
      rw [hp]
      refine (slotView_read gM (away c q) hoffs _ x y).trans ?_
      show m ((c.tc : Thread nD τ).loc main_arg0) (ix3 (away c q) x y) = out m (sib c) (ix3 q x y)
      unfold out
      rw [sib_sib]
      rfl)
    (by rw [hp]; exact Entails.of_eq hkr.symm) hS (Q := Q) (k := k)
  rw [hp] at h
  exact h

omit [FloatOps F] in
theorem duties (c : Dev nD) : (bigSep Finset.univ fun k => dutyTok ER ((plan m).cell ((plan m).peer k c) k) 0 () : sProp 𝕄)
    = iprop(dutyTok ER ((plan m).cell c 0) 0 () ∗ dutyTok ER ((plan m).cell c 1) 0 () ∗ dutyTok ER ((plan m).cell c 2) 0 ()
      ∗ dutyTok ER ((plan m).cell c 3) 0 () ∗ dutyTok ER ((plan m).cell (sib c) 4) 0 () ∗ dutyTok ER ((plan m).cell (sib c) 5) 0 ()
      ∗ dutyTok ER ((plan m).cell (sib c) 6) 0 () ∗ dutyTok ER ((plan m).cell (sib c) 7) 0 ()) :=
  bigSep_univ_eq_bigSepL [0, 1, 2, 3, 4, 5, 6, 7] (by decide) (by decide) _

omit [FloatOps F] in
theorem positions (c : Dev nD) (r : ℕ) : (bigSep Finset.univ fun k => atPos ER ((plan m).cell c k) r ∅ 0 : sProp 𝕄)
    = iprop(atPos ER ((plan m).cell c 0) r ∅ 0 ∗ atPos ER ((plan m).cell c 1) r ∅ 0 ∗ atPos ER ((plan m).cell c 2) r ∅ 0
      ∗ atPos ER ((plan m).cell c 3) r ∅ 0 ∗ atPos ER ((plan m).cell c 4) r ∅ 0 ∗ atPos ER ((plan m).cell c 5) r ∅ 0
      ∗ atPos ER ((plan m).cell c 6) r ∅ 0 ∗ atPos ER ((plan m).cell c 7) r ∅ 0) :=
  bigSep_univ_eq_bigSepL [0, 1, 2, 3, 4, 5, 6, 7] (by decide) (by decide) _

omit [FloatOps F] in
theorem credits (c : Dev nD) : (bigSep (plan m).recv fun k => cred (tallyAt ((plan m).cell c k) () ((plan m).N k)) : sProp 𝕄)
    = iprop(cred (tallyAt ((plan m).cell c 4) () ((plan m).N 4)) ∗ cred (tallyAt ((plan m).cell c 5) () ((plan m).N 5))
      ∗ cred (tallyAt ((plan m).cell c 6) () ((plan m).N 6)) ∗ cred (tallyAt ((plan m).cell c 7) () ((plan m).N 7))) :=
  bigSep_eq_bigSepL_of_eq [4, 5, 6, 7] (by rfl) (by decide) _

omit [FloatOps F] in
theorem lands (c : Dev nD) : (bigSep (plan m).recv fun k => dst m ((plan m).peer k c) k : sProp 𝕄)
    = iprop(oPts (sib c) 0 (m (((sib c).tc : Thread nD τ).loc main_v1)) ∗ oPts (sib c) 1 (m (((sib c).tc : Thread nD τ).loc main_v1))
      ∗ oPts (sib c) 2 (m (((sib c).tc : Thread nD τ).loc main_v1)) ∗ oPts (sib c) 3 (m (((sib c).tc : Thread nD τ).loc main_v1))) :=
  bigSep_eq_bigSepL_of_eq [4, 5, 6, 7] (by rfl) (by decide) _

omit [FloatOps F] in
theorem all_sent : (((((plan m).recv.erase 4).erase 5).erase 6).erase 7) = ∅ := show (((received.erase 4).erase 5).erase 6).erase 7 = ∅ by decide

set_option maxHeartbeats 1600000 in
/-- The body's run. -/
theorem body (c : Dev nD) (κ : Dev nD × Fin 8 → ℕ) :
    iprop((plan m).records κ ∗ levAts Plan.L (plan m).lv
        ∗ (bigSep Finset.univ fun k => atPos ER ((plan m).cell c k) 0 ∅ 0)
        ∗ (bigSep (plan m).recv fun k => cred (tallyAt ((plan m).cell c k) () ((plan m).N k)))
        ∗ (bigSep Finset.univ fun k => dutyTok ER ((plan m).cell ((plan m).peer k c) k) 0 ())
        ∗ (mine m c ∗ bigSep (plan m).recv fun k => dst m ((plan m).peer k c) k)
        ∗ (plan m).owing c (plan m).recv)
      ⊢ wp frame (wpE (defs₀ (F := F)) Variants.none (c.tc : Thread nD τ) none) Set.univ
          (cc0_grad_exchange_sibling (Memref.whole main_arg0) (Memref.isWhole_whole _) (Memref.whole main_v1) (Memref.isWhole_whole _) cc0_scratch0 cc0_scratch1)
          fun _ => iprop((((c.tc : Thread nD τ).loc main_arg0 ↦{fullShare} m ((c.tc : Thread nD τ).loc main_arg0))
              ∗ ((c.tc : Thread nD τ).loc main_v1 ↦{fullShare} out m c))
            ∗ ownSems0 (plan m).osem c ∗ BI.emp
            ∗ ∃ W' : Finset (SemLoc sig × Unit), owes (c.tc : Thread nD τ) (0 : CellTallies nD τ sig Unit) W') := by
  rw [duties, positions, credits, lands, g_split]
  simp only [cc0_grad_exchange_sibling_eq_skeleton]; unfold cc0_grad_exchange_sibling_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret, wp_deviceId]
  iintro ⟨#HR, #HL, ⟨Ha0, Ha1, Ha2, Ha3, Ha4, Ha5, Ha6, Ha7⟩, ⟨Hc4, Hc5, Hc6, Hc7⟩, ⟨Ht0, Ht1, Ht2, Ht3, Ht4, Ht5, Ht6, Ht7⟩,
    ⟨⟨Hg0, Hg1, Hg2, Hg3, Hk0, Hk1, Hk2, Hk3⟩, ⟨Hd0, Hd1, Hd2, Hd3⟩⟩, HO⟩
  iapply (send_q m c κ 0 0 4 rfl rfl rfl (dev1 c) (k0_off1_eq c 0) rfl rfl rfl (S := (plan m).recv)
    (show (4 : Fin 8) ∈ received by decide)) $$ [Hg0 Hd0 HO Ht0 Ht4]
  · isplitr; · iexact HR
    isplitl [Hg0]; · iexact Hg0
    isplitl [Hd0]; · iexact Hd0
    isplitl [HO]; · iexact HO
    isplitl [Ht0] <;> iassumption
  iintro ⟨Hc0, HO⟩
  iapply (send_q m c κ 1 1 5 rfl rfl rfl (dev2 c) (k0_off1_eq c 1) rfl rfl rfl (S := ((plan m).recv.erase 4))
    (show (5 : Fin 8) ∈ (received.erase 4) by decide)) $$ [Hg1 Hd1 HO Ht1 Ht5]
  · isplitr; · iexact HR
    isplitl [Hg1]; · iexact Hg1
    isplitl [Hd1]; · iexact Hd1
    isplitl [HO]; · iexact HO
    isplitl [Ht1] <;> iassumption
  iintro ⟨Hc1, HO⟩
  iapply (send_q m c κ 2 2 6 rfl rfl rfl (dev3 c) (k0_off1_eq c 2) rfl rfl rfl (S := (((plan m).recv.erase 4).erase 5))
    (show (6 : Fin 8) ∈ ((received.erase 4).erase 5) by decide)) $$ [Hg2 Hd2 HO Ht2 Ht6]
  · isplitr; · iexact HR
    isplitl [Hg2]; · iexact Hg2
    isplitl [Hd2]; · iexact Hd2
    isplitl [HO]; · iexact HO
    isplitl [Ht2] <;> iassumption
  iintro ⟨Hc2, HO⟩
  iapply (send_q m c κ 3 3 7 rfl rfl rfl (dev4 c) (k0_off1_eq c 3) rfl rfl rfl (S := ((((plan m).recv.erase 4).erase 5).erase 6))
    (show (7 : Fin 8) ∈ (((received.erase 4).erase 5).erase 6) by decide)) $$ [Hg3 Hd3 HO Ht3 Ht7]
  · isplitr; · iexact HR
    isplitl [Hg3]; · iexact Hg3
    isplitl [Hd3]; · iexact Hd3
    isplitl [HO]; · iexact HO
    isplitl [Ht3] <;> iassumption
  iintro ⟨Hc3, HO⟩
  ihave HO := (Entails.of_eq (congrArg ((plan m).owing c) (all_sent m))) $$ HO
  iapply ((plan m).wait (defs₀ (F := F)) Variants.none c κ 4 rfl rfl (S := ∅) (fun _ h => absurd h (Finset.notMem_empty _))) $$ [Hc4 HO Ha4]
  · isplitr; · iexact HR
    isplitr; · iexact HL
    isplitl [Hc4]; · iexact Hc4
    isplitl [HO] <;> iassumption
  iintro ⟨HO, Ha4, Hp4⟩
  ihave Hp4 := (Entails.of_eq (show (plan m).Pay c 4 = oPts c 0 (out m c) from rfl)) $$ Hp4
  iapply ((plan m).wait (defs₀ (F := F)) Variants.none c κ 5 rfl rfl (S := ∅) (fun _ h => absurd h (Finset.notMem_empty _))) $$ [Hc5 HO Ha5]
  · isplitr; · iexact HR
    isplitr; · iexact HL
    isplitl [Hc5]; · iexact Hc5
    isplitl [HO] <;> iassumption
  iintro ⟨HO, Ha5, Hp5⟩
  ihave Hp5 := (Entails.of_eq (show (plan m).Pay c 5 = oPts c 1 (out m c) from rfl)) $$ Hp5
  iapply ((plan m).wait (defs₀ (F := F)) Variants.none c κ 6 rfl rfl (S := ∅) (fun _ h => absurd h (Finset.notMem_empty _))) $$ [Hc6 HO Ha6]
  · isplitr; · iexact HR
    isplitr; · iexact HL
    isplitl [Hc6]; · iexact Hc6
    isplitl [HO] <;> iassumption
  iintro ⟨HO, Ha6, Hp6⟩
  ihave Hp6 := (Entails.of_eq (show (plan m).Pay c 6 = oPts c 2 (out m c) from rfl)) $$ Hp6
  iapply ((plan m).wait (defs₀ (F := F)) Variants.none c κ 7 rfl rfl (S := ∅) (fun _ h => absurd h (Finset.notMem_empty _))) $$ [Hc7 HO Ha7]
  · isplitr; · iexact HR
    isplitr; · iexact HL
    isplitl [Hc7]; · iexact Hc7
    isplitl [HO] <;> iassumption
  iintro ⟨HO, Ha7, Hp7⟩
  ihave Hp7 := (Entails.of_eq (show (plan m).Pay c 7 = oPts c 3 (out m c) from rfl)) $$ Hp7
  iapply ((plan m).wait (defs₀ (F := F)) Variants.none c κ 0 rfl rfl (S := ∅) (fun _ h => absurd h (Finset.notMem_empty _))) $$ [Hc0 HO Ha0]
  · isplitr; · iexact HR
    isplitr; · iexact HL
    isplitl [Hc0]; · iexact Hc0
    isplitl [HO] <;> iassumption
  iintro ⟨HO, Ha0, Hp0⟩
  ihave Hp0 := (Entails.of_eq (show (plan m).Pay c 0 = gPts m c (away c 0) from rfl)) $$ Hp0
  iapply ((plan m).wait (defs₀ (F := F)) Variants.none c κ 1 rfl rfl (S := ∅) (fun _ h => absurd h (Finset.notMem_empty _))) $$ [Hc1 HO Ha1]
  · isplitr; · iexact HR
    isplitr; · iexact HL
    isplitl [Hc1]; · iexact Hc1
    isplitl [HO] <;> iassumption
  iintro ⟨HO, Ha1, Hp1⟩
  ihave Hp1 := (Entails.of_eq (show (plan m).Pay c 1 = gPts m c (away c 1) from rfl)) $$ Hp1
  iapply ((plan m).wait (defs₀ (F := F)) Variants.none c κ 2 rfl rfl (S := ∅) (fun _ h => absurd h (Finset.notMem_empty _))) $$ [Hc2 HO Ha2]
  · isplitr; · iexact HR
    isplitr; · iexact HL
    isplitl [Hc2]; · iexact Hc2
    isplitl [HO] <;> iassumption
  iintro ⟨HO, Ha2, Hp2⟩
  ihave Hp2 := (Entails.of_eq (show (plan m).Pay c 2 = gPts m c (away c 2) from rfl)) $$ Hp2
  iapply ((plan m).wait (defs₀ (F := F)) Variants.none c κ 3 rfl rfl (S := ∅) (fun _ h => absurd h (Finset.notMem_empty _))) $$ [Hc3 HO Ha3]
  · isplitr; · iexact HR
    isplitr; · iexact HL
    isplitl [Hc3]; · iexact Hc3
    isplitl [HO] <;> iassumption
  iintro ⟨HO, Ha3, Hp3⟩
  ihave Hp3 := (Entails.of_eq (show (plan m).Pay c 3 = gPts m c (away c 3) from rfl)) $$ Hp3
  rw [wp_ret]
  iapply ((plan m).finish κ c rfl)
  isplitr; · iexact HR
  isplitl [Ha0 Ha1 Ha2 Ha3 Ha4 Ha5 Ha6 Ha7]
  · rw [positions]
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    iexact Ha7
  isplitl [HO]; · iexact HO
  isplitr [Hp4 Hp5 Hp6 Hp7]
  · iapply (Entails.of_eq (g_split m c).symm)
    isplitl [Hp0]; · iexact Hp0
    isplitl [Hp1]; · iexact Hp1
    isplitl [Hp2]; · iexact Hp2
    isplitl [Hp3]; · iexact Hp3
    isplitl [Hk0]; · iexact Hk0
    isplitl [Hk1]; · iexact Hk1
    isplitl [Hk2]; · iexact Hk2
    iexact Hk3
  · iapply (Entails.of_eq (o_split c (out m c)).symm)
    isplitl [Hp4]; · iexact Hp4
    isplitl [Hp5]; · iexact Hp5
    isplitl [Hp6]; · iexact Hp6
    iexact Hp7

/-! ## The run -/

theorem no_windows : ∀ p, IsEmpty (Fin (cfgs p).W) := fun _ => inferInstanceAs (IsEmpty (Fin 0))

theorem own_sems : OwnSemFacts (cfgs 0).spec (plan m).osem := by
  have h : OwnSemFacts cfg0.spec (fun k : Fin 8 => (.dma (k : DmaSem sig) : SemLoc sig)) := by decide
  exact h

/-- Every run of the program: each device ends with its sibling's slots, its argument as it was. -/
theorem run_main : θ_run (defs (F := F)) (onTc main) ⟨m, fun _ => 0, ρ⟩ fun r =>
    (∀ c : Dev nD, r.2.mem ((c.tc : Thread nD τ).loc main_v1) = out m c
        ∧ r.2.mem ((c.tc : Thread nD τ).loc main_arg0) = m ((c.tc : Thread nD τ).loc main_arg0))
      ∧ r.2.sem = fun _ => 0 :=
  (plan m).run (cfgs := cfgs) no_windows N_0 cellOf_inj winFacts0.to₀ (own_sems m)
    (fun c => scopedRest0_eq c) (defs₀ (F := F)) Variants.none m ρ main (fun _ => rfl) (mine m) (dst m) (bufs m)
    main_arg0 main_v1 (fun c => m ((c.tc : Thread nD τ).loc main_arg0)) (out m)
    (fun c t κ => body m c κ) fun s h hs => ⟨h, sem_eq_zero_of_scoped (by decide) hs⟩

end Cert.SiblingRun
-- ==== Proof.SiblingValue.lean ====
/-
  What the exchange between siblings leaves is the reference's array, block by block.
-/
module

public import proofs.«01_k».proof.Defs
public import proofs.«01_k».proof.Proof.Sibling
public import proofs.«01_k».proof.Proof.Blocks
public import proofs.«01_k».proof.Proof.Gen.Sibling
public import proofs.«01_k».proof.Proof.Gen.SiblingReferenceIdeal.Run
public import proofs.«01_k».proof.Proof.Gen.SiblingReference.Run

@[expose] public section

noncomputable section

namespace Cert.SiblingValue

open Idealize.ShloMosaic Idealize.ShloMosaic.TcCoe Idealize.ShloMosaic.ValueIdx Idealize.SL.Sem
open Cert.SiblingReferenceIdeal Cert.SiblingReferenceIdeal.Gen
open Cert.Slots Cert.Blocks

variable {α : Type}

/-- The reference's array of the whole argument. -/
def whole (A : S64x48640x128.Idx → α) : S32x48640x128.Idx → α :=
  shapeCast _ (concatenate S4x2x4x48640x128 1
    [⟨S4x1x4x48640x128, broadcastInDim S4x1x4x48640x128 ![0, 2, 3, 4] bcast_S4x4x48640x128_S4x1x4x48640x128_0_2_3_4
        (shapeCast _ (extractStridedSlice S4x1x4x1x48640x128 ![0, 1, 0, 0, 0, 0]
          (shapeCast _ A shapeCasts_S64x48640x128_S4x2x4x2x48640x128) slices_S4x2x4x2x48640x128_S4x1x4x1x48640x128_0_1_0_0_0_0)
          shapeCasts_S4x1x4x1x48640x128_S4x4x48640x128)⟩,
     ⟨S4x1x4x48640x128, broadcastInDim S4x1x4x48640x128 ![0, 2, 3, 4] bcast_S4x4x48640x128_S4x1x4x48640x128_0_2_3_4
        (shapeCast _ (extractStridedSlice S4x1x4x1x48640x128 ![0, 0, 0, 1, 0, 0]
          (shapeCast _ A shapeCasts_S64x48640x128_S4x2x4x2x48640x128) slices_S4x2x4x2x48640x128_S4x1x4x1x48640x128_0_0_0_1_0_0)
          shapeCasts_S4x1x4x1x48640x128_S4x4x48640x128)⟩]
    concatenates_S4x1x4x48640x128_S4x1x4x48640x128_S4x2x4x48640x128_d1) shapeCasts_S4x2x4x48640x128_S32x48640x128

/-- The slots of core `1 - k` whose parity is `k`, picked out of the whole argument, for `k` the offsets `o₁ = 1 - k`, `o₂ = k`. -/
theorem picked (A : S64x48640x128.Idx → α) {off : Fin 6 → ℕ} (o1 o2 : Fin 2) (hoff : off = ![0, o1.val, 0, o2.val, 0, 0])
    (h : S4x2x4x2x48640x128.Slices off S4x1x4x1x48640x128) (ch : Fin 4) (q : Fin 4) (x : Fin 48640) (y : Fin 128)
    (p : Fin 64) (hp : p.val = ((ch.val * 2 + o1.val) * 4 + q.val) * 2 + o2.val) :
    broadcastInDim S4x1x4x48640x128 ![0, 2, 3, 4] bcast_S4x4x48640x128_S4x1x4x48640x128_0_2_3_4
        (shapeCast _ (extractStridedSlice S4x1x4x1x48640x128 off
          (shapeCast _ A shapeCasts_S64x48640x128_S4x2x4x2x48640x128) h)
          shapeCasts_S4x1x4x1x48640x128_S4x4x48640x128) (ix5 ch 0 q x y) = A (ix3 p x y) := by
  subst hoff
  rw [broadcastInDim_apply _ _ _ (ix5 ch 0 q x y) (ix4 ch q x y) (fun t => by fin_cases t <;> rfl)]
  rw [shapeCast_apply _ _ (ix4 ch q x y) (ix6 ch 0 q 0 x y) (by
    rw [Shape.rowMajor_val_six, Shape.rowMajor_val_four]
    show ((((ch.val * 1 + 0) * 4 + q.val) * 1 + 0) * 48640 + x.val) * 128 + y.val = ((ch.val * 4 + q.val) * 48640 + x.val) * 128 + y.val
    omega)]
  rw [extractStridedSlice_apply _ _ _ (ix6 ch 0 q 0 x y) (ix6 ch o1 q o2 x y) (fun t => by
    fin_cases t <;> first | (exact (Nat.zero_add _).symm) | rfl)]
  refine shapeCast_apply _ _ _ _ ?_
  rw [Shape.rowMajor_val_six, Shape.rowMajor_val_three]
  show (p.val * 48640 + x.val) * 128 + y.val = ((((ch.val * 2 + o1.val) * 4 + q.val) * 2 + o2.val) * 48640 + x.val) * 128 + y.val
  rw [hp]

/-- The reference's array at chip `ch`, core `k`, pair `q`. -/
theorem whole_at (A : S64x48640x128.Idx → α) (ch : Fin 4) (k : Fin 2) (q : Fin 4) (x : Fin 48640) (y : Fin 128)
    (j : Fin 32) (hj : j.val = (ch.val * 2 + k.val) * 4 + q.val) (p : Fin 64)
    (hp : p.val = ((ch.val * 2 + (1 - k.val)) * 4 + q.val) * 2 + k.val) :
    whole A (ix3 j x y) = A (ix3 p x y) := by
  unfold whole
  rw [shapeCast_apply _ _ (ix3 j x y) (ix5 ch k q x y) (by
    rw [Shape.rowMajor_val_five, Shape.rowMajor_val_three]
    show (((ch.val * 2 + k.val) * 4 + q.val) * 48640 + x.val) * 128 + y.val = (j.val * 48640 + x.val) * 128 + y.val
    rw [hj])]
  fin_cases k
  · refine (concatenate_pair_apply_left (s₁ := S4x1x4x48640x128) (s₂ := S4x1x4x48640x128) (t := S4x2x4x48640x128) _ _ _ _ (ix5 ch (0 : Fin 2) q x y) rfl (ix5 ch (0 : Fin 1) q x y) (fun t => by fin_cases t <;> rfl)).trans ?_
    exact picked A 1 0 rfl _ ch q x y p hp
  · refine (concatenate_pair_apply_right (s₁ := S4x1x4x48640x128) (s₂ := S4x1x4x48640x128) (t := S4x2x4x48640x128) _ _ _ _ (ix5 ch (1 : Fin 2) q x y) rfl rfl (ix5 ch (0 : Fin 1) q x y)
      (fun t ht => by fin_cases t <;> first | rfl | exact absurd rfl ht) rfl).trans ?_
    exact picked A 0 1 rfl _ ch q x y p hp

variable {F : FTy → Type} [FloatOps F]

/-- The devices' results are the blocks of the reference's array. -/
theorem out_block (m : (ℓ : Loc Cert.SiblingIdeal.nD Cert.SiblingIdeal.τ Cert.SiblingIdeal.sig) → Buf (Elt F) ℓ)
    (A : S64x48640x128.Idx → Elt F .bf16)
    (hA : ∀ c : Dev Cert.SiblingIdeal.nD, m ((c.tc : Thread Cert.SiblingIdeal.nD Cert.SiblingIdeal.τ).loc Cert.SiblingIdeal.main_arg0)
      = Layout.block ⟨3, ![8, 48640, 128]⟩ ⟨3, ![64, 48640, 128]⟩ 0 8 c A) (c : Dev Cert.SiblingIdeal.nD) :
    Cert.SiblingRun.out m c = Layout.block ⟨3, ![4, 48640, 128]⟩ ⟨3, ![32, 48640, 128]⟩ 0 8 c (whole A) := by
  suffices main : ∀ (q : Fin 4) (x : Fin 48640) (y : Fin 128),
      m (((Cert.SiblingRun.sib c).tc : Thread Cert.SiblingIdeal.nD Cert.SiblingIdeal.τ).loc Cert.SiblingIdeal.main_arg0)
          (ix3 (Cert.SiblingRun.away (Cert.SiblingRun.sib c) q) x y)
        = Layout.block (Sh3 4 48640 128) (Sh3 32 48640 128) 0 8 c (whole A) (by decide) (ix3 q x y) by
    funext i
    exact (main (i 0) (i 1) (i 2)).trans (congrArg _ (ix3_eta i).symm)
  intro q x y
  have hc := c.isLt
  change c.val < 8 at hc
  have hq : q.val < 4 := q.isLt
  rw [block_at c (whole A) _ q x y ⟨c.val * 4 + q.val, by omega⟩ rfl,
    whole_at A ⟨c.val / 2, by omega⟩ ⟨c.val % 2, by omega⟩ q x y _ (by show c.val * 4 + q.val = (c.val / 2 * 2 + c.val % 2) * 4 + q.val; omega)
      ⟨((c.val / 2 * 2 + (1 - c.val % 2)) * 4 + q.val) * 2 + c.val % 2, by omega⟩ rfl]
  refine (congrFun (hA (Cert.SiblingRun.sib c)) _).trans ?_
  refine block_at _ A _ _ x y _ ?_
  show ((c.val / 2 * 2 + (1 - c.val % 2)) * 4 + q.val) * 2 + c.val % 2
    = (c.val + 1 - 2 * (c.val % 2)) * 8 + (2 * q.val + 1 - (c.val + 1 - 2 * (c.val % 2)) % 2)
  omega

end Cert.SiblingValue

namespace Cert

open Idealize.ShloMosaic Idealize.ShloMosaic.TcCoe Idealize.SL.Sem

theorem frame_SiblingIdeal : quiescent_SiblingIdeal := fun m ρ _ =>
  (θ_run Cert.SiblingIdeal.defs _ _).mono (fun _ h => ⟨fun c => (h.1 c).2, h.2⟩) (SiblingRun.run_main (F := Ideal) m ρ)
theorem frame_Sibling : quiescent_Sibling := fun m ρ _ =>
  (θ_run Cert.SiblingIdeal.defs _ _).mono (fun _ h => ⟨fun c => (h.1 c).2, h.2⟩) (SiblingRun.run_main (F := Bits) m ρ)
theorem frame_SiblingReferenceIdeal : quiescent_SiblingReferenceIdeal := fun m ρ _ =>
  (θ_run Cert.SiblingReferenceIdeal.defs _ _).mono (fun r h => ⟨fun c => (h c).2, sem_eq_zero_of_no_sems (by rfl) _⟩) (SiblingReferenceIdeal.Value.run (F := Ideal) m ρ)
theorem frame_SiblingReference : quiescent_SiblingReference := fun m ρ _ =>
  (θ_run Cert.SiblingReference.defs _ _).mono (fun r h => ⟨fun c => (h c).2, sem_eq_zero_of_no_sems (by rfl) _⟩) (SiblingReference.Value.run (F := Bits) m ρ)

theorem algebraic_Sibling : algebraic_SiblingIdeal_SiblingReferenceIdeal := fun m g m' g' _ hA =>
  ⟨SiblingValue.whole (m' (((0 : Dev Cert.SiblingReferenceIdeal.nD).tc : Thread Cert.SiblingReferenceIdeal.nD Cert.SiblingReferenceIdeal.τ).loc Cert.SiblingReferenceIdeal.main_arg0)),
    (θ_run Cert.SiblingIdeal.defs _ _).mono
      (fun _ h c => ⟨(h.1 c).1.trans (SiblingValue.out_block m _ hA c), (h.1 c).2⟩) (SiblingRun.run_main (F := Ideal) m g),
    (θ_run Cert.SiblingReferenceIdeal.defs _ _).mono (fun _ h => h 0) (SiblingReferenceIdeal.Value.run (F := Ideal) m' g')⟩

theorem bitexact_Sibling : bitexact_Sibling_SiblingReference := fun m g m' g' _ hA =>
  ⟨SiblingValue.whole (m' (((0 : Dev Cert.SiblingReference.nD).tc : Thread Cert.SiblingReference.nD Cert.SiblingReference.τ).loc Cert.SiblingReference.main_arg0)),
    (θ_run Cert.SiblingIdeal.defs _ _).mono
      (fun _ h c => ⟨(h.1 c).1.trans (SiblingValue.out_block (F := Bits) m _ hA c), (h.1 c).2⟩) (SiblingRun.run_main (F := Bits) m g),
    (θ_run Cert.SiblingReference.defs _ _).mono (fun _ h => h 0) (SiblingReference.Value.run (F := Bits) m' g')⟩

end Cert
-- ==== Proof.Chips.lean ====
/-
  The exchange of the pairs' sums between the four chips: a device keeps its own chip's slot and sends each of the three other
  slots to the device of the same core on the slot's chip, into the slot of its own chip.
-/
module

public import proofs.«01_k».proof.Proof.Gen.ChipsIdeal
public import proofs.«01_k».proof.Proof.Gen.ChipsIdeal.Skeleton
public import proofs.«01_k».proof.Proof.Gen.ChipsIdeal.Launch
public import proofs.«01_k».proof.Proof.Steps

@[expose] public section

noncomputable section

namespace Cert.ChipsRun

open Cert.ChipsIdeal Cert.ChipsIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Slots Cert.Talk

set_option Elab.async false

variable {F : FTy → Type} [FloatOps F]

local notation "𝕄" => MM nD τ sig (Elt F)

variable (m : (ℓ : Loc nD τ sig) → Buf (Elt F) ℓ) (ρ : Dev nD → PrngReg)

abbrev gM : Memref sig .tc .hbm S4x48640x128 .bf16 := Memref.whole main_arg0
abbrev oM : Memref sig .tc .hbm S4x48640x128 .bf16 := Memref.whole main_v1

/-- The chip a device is on. -/
def chip (c : Dev nD) : Fin 4 := ⟨c.val / 2, by revert c; decide⟩

/-- The device of the same core on another chip: across `y`, across `x`, across both. -/
def nb : Fin 3 → Dev nD → Dev nD
  | 0, c => ⟨(4 * (c.val / 4) + (c.val % 2) + 2) - 2 * ((c.val / 2) % 2), by revert c; decide⟩
  | 1, c => ⟨(2 * ((c.val / 2) % 2) + (c.val % 2) + 4) - 4 * (c.val / 4), by revert c; decide⟩
  | 2, c => ⟨((c.val % 2) + 6) - (4 * (c.val / 4) + 2 * ((c.val / 2) % 2)), by revert c; decide⟩
theorem nb_nb (k : Fin 3) (c : Dev nD) : nb k (nb k c) = c := by revert k c; decide

/-- The device of core `c` on chip `p`. -/
def onChip (c : Dev nD) (p : Fin 4) : Dev nD := ⟨2 * p.val + c.val % 2, by revert c p; decide⟩
theorem onChip_nb (k : Fin 3) (c : Dev nD) : onChip (nb k c) (chip c) = c := by revert k c; decide
theorem onChip_chip (c : Dev nD) : onChip c (chip c) = c := by revert c; decide

theorem slots_all (c : Dev nD) : Finset.univ = [chip c, chip (nb 0 c), chip (nb 1 c), chip (nb 2 c)].toFinset := by
  revert c; decide
theorem slots_nodup (c : Dev nD) : [chip c, chip (nb 0 c), chip (nb 1 c), chip (nb 2 c)].Nodup := by
  revert c; decide

abbrev gPts (c : Dev nD) (d : Fin 4) : sProp (MM nD τ sig (Elt F)) :=
  (gM.view.loc (c.tc : Thread nD τ) ↦[slot gM d]{fullShare} m ((c.tc : Thread nD τ).loc main_arg0))
abbrev oPts (c : Dev nD) (d : Fin 4) (f : Buf (Elt F) ((c.tc : Thread nD τ).loc main_v1)) : sProp (MM nD τ sig (Elt F)) :=
  (oM.view.loc (c.tc : Thread nD τ) ↦[slot oM d]{fullShare} f)

/-- What a device ends with: of every chip's device of its own core, the slot of its own chip. -/
def out (c : Dev nD) : Buf (Elt F) ((c.tc : Thread nD τ).loc main_v1) :=
  fun i => m (((onChip c (i 0)).tc : Thread nD τ).loc main_arg0) (ix3 (chip c) (i 1) (i 2))

/-- The credit of one slot. -/
abbrev credit : ℕ := ((slotView oM ![0, 0, 0] (by decide) squeezes_S1x48640x128_S48640x128).view).dmaCredit

def pay (c : Dev nD) : Fin 7 → sProp (MM nD τ sig (Elt F))
  | 0 => gPts m c (chip (nb 0 c))
  | 1 => gPts m c (chip (nb 1 c))
  | 2 => gPts m c (chip (nb 2 c))
  | 3 => oPts c (chip (nb 0 c)) (out m c)
  | 4 => oPts c (chip (nb 1 c)) (out m c)
  | 5 => oPts c (chip (nb 2 c)) (out m c)
  | 6 => iprop(oPts c (chip c) (out m c) ∗ gPts m c (chip c))

/-- The cells the other chips credit. -/
abbrev received : Finset (Fin 7) := {3, 4, 5}

/-- Who credits a cell: cells 0–2 (a slot has been sent) and 6 (the own slot is in place) oneself, cells 3–5 the neighbours. -/
def peer : Fin 7 → Dev nD → Dev nD
  | 3, c => nb 0 c
  | 4, c => nb 1 c
  | 5, c => nb 2 c
  | _, c => c
theorem peer_peer (k : Fin 7) (c : Dev nD) : peer k (peer k c) = c := by revert k c; decide

def plan : Plan nD τ sig (Elt F) (Fin 7) where
  sem k := k
  inj := fun _ _ h => h
  N _ := credit
  pos _ := by decide
  Pay := pay m
  stor c k := by fin_cases k <;> (unfold pay; infer_instance)
  recv := received
  peer := peer
  inv := peer_peer
  lev _ := 0

/-- What the neighbours write to, cell by cell. -/
def dst (c : Dev nD) : Fin 7 → sProp (MM nD τ sig (Elt F))
  | 3 => oPts c (chip (nb 0 c)) (m ((c.tc : Thread nD τ).loc main_v1))
  | 4 => oPts c (chip (nb 1 c)) (m ((c.tc : Thread nD τ).loc main_v1))
  | 5 => oPts c (chip (nb 2 c)) (m ((c.tc : Thread nD τ).loc main_v1))
  | _ => BI.emp

abbrev garg (c : Dev nD) : sProp (MM nD τ sig (Elt F)) :=
  ((c.tc : Thread nD τ).loc main_arg0 ↦{fullShare} m ((c.tc : Thread nD τ).loc main_arg0))

/-- What a device keeps: its argument and its own slot of the result. -/
abbrev mine (c : Dev nD) : sProp (MM nD τ sig (Elt F)) :=
  iprop(garg m c ∗ oPts c (chip c) (m ((c.tc : Thread nD τ).loc main_v1)))

omit [FloatOps F] in
/-- The result buffer is its four slots. -/
theorem o_split (c : Dev nD) (f : Buf (Elt F) ((c.tc : Thread nD τ).loc main_v1)) :
    ((c.tc : Thread nD τ).loc main_v1 ↦{fullShare} f : sProp 𝕄)
      = iprop(oPts c (chip c) f ∗ oPts c (chip (nb 0 c)) f ∗ oPts c (chip (nb 1 c)) f ∗ oPts c (chip (nb 2 c)) f) := by
  have h := slots_split (U := UU nD τ sig) oM c fullShare f
  rw [bigSep_univ_eq_bigSepL [chip c, chip (nb 0 c), chip (nb 1 c), chip (nb 2 c)] (slots_all c) (slots_nodup c)] at h
  exact ((congrArg (fun S => ((c.tc : Thread nD τ).loc main_v1 ↦[S]{fullShare} f : sProp 𝕄)) (View.set_whole main_v1)).symm).trans h

omit [FloatOps F] in
/-- The argument buffer is its four slots. -/
theorem g_split (c : Dev nD) :
    (garg m c : sProp 𝕄) = iprop(gPts m c (chip c) ∗ gPts m c (chip (nb 0 c)) ∗ gPts m c (chip (nb 1 c)) ∗ gPts m c (chip (nb 2 c))) := by
  have h := slots_split (U := UU nD τ sig) gM c fullShare (m ((c.tc : Thread nD τ).loc main_arg0))
  rw [bigSep_univ_eq_bigSepL [chip c, chip (nb 0 c), chip (nb 1 c), chip (nb 2 c)] (slots_all c) (slots_nodup c)] at h
  exact ((congrArg (fun S => ((c.tc : Thread nD τ).loc main_arg0 ↦[S]{fullShare} m ((c.tc : Thread nD τ).loc main_arg0) : sProp 𝕄))
    (View.set_whole main_arg0)).symm).trans h

omit [FloatOps F] in
theorem bufs (c : Dev nD) : (unscopedBufs c (fun b => m ((c.tc : Thread nD τ).loc b)) : sProp 𝕄)
    ⊢ iprop(mine m c ∗ bigSep (plan m).recv fun k => dst m c k) := by
  unfold unscopedBufs
  rw [bigSep_eq_bigSepL_of_eq [main_arg0, main_v1] (by decide) (by decide),
    show (bigSep (plan m).recv fun k => dst m c k : sProp 𝕄) = _ from bigSep_eq_bigSepL_of_eq [3, 4, 5] (by rfl) (by decide) _]
  show iprop(garg m c ∗ ((c.tc : Thread nD τ).loc main_v1 ↦{fullShare} m ((c.tc : Thread nD τ).loc main_v1))) ⊢ _
  rw [o_split]
  iintro ⟨Hg, Ho, Hr⟩
  isplitr [Hr]
  · isplitl [Hg] <;> iassumption
  · iapply (Entails.of_eq (show iprop(oPts c (chip (nb 0 c)) (m ((c.tc : Thread nD τ).loc main_v1)) ∗ oPts c (chip (nb 1 c)) (m ((c.tc : Thread nD τ).loc main_v1))
      ∗ oPts c (chip (nb 2 c)) (m ((c.tc : Thread nD τ).loc main_v1))) = (bigSepL [3, 4, 5] fun k => dst m c k : sProp 𝕄) from rfl))
    iexact Hr

/-! ## The body -/

theorem dev1 (c : Dev nD) : (⟨k0_dev1 c, k0_dev1_lt c⟩ : Dev nD) = nb 0 c := Fin.ext (k0_dev1_eq c)
theorem dev2 (c : Dev nD) : (⟨k0_dev2 c, k0_dev2_lt c⟩ : Dev nD) = nb 1 c := Fin.ext (k0_dev2_eq c)
theorem dev3 (c : Dev nD) : (⟨k0_dev3 c, k0_dev3_lt c⟩ : Dev nD) = nb 2 c := Fin.ext (k0_dev3_eq c)
theorem at_own (c : Dev nD) : k0_off1 c = ![(chip c).val, 0, 0] := (k0_off1_eq c).trans (by revert c; decide)
theorem at_nb0 (c : Dev nD) : k0_off2 c = ![(chip (nb 0 c)).val, 0, 0] := (k0_off2_eq c).trans (by revert c; decide)
theorem at_nb1 (c : Dev nD) : k0_off3 c = ![(chip (nb 1 c)).val, 0, 0] := (k0_off3_eq c).trans (by revert c; decide)
theorem at_nb2 (c : Dev nD) : k0_off4 c = ![(chip (nb 2 c)).val, 0, 0] := (k0_off4_eq c).trans (by revert c; decide)

/-- The send to neighbour `q`. -/
theorem send_q (c : Dev nD) (κ : Dev nD × Fin 7 → ℕ) (q : Fin 3) (ks kr : Fin 7)
    (hks : (plan m).Pay c ks = gPts m c (chip (nb q c)))
    (hkr : (plan m).Pay (nb q c) kr = oPts (nb q c) (chip (nb q (nb q c))) (out m (nb q c)))
    (hp : (plan m).peer kr c = nb q c)
    {n : Dev nD} (hn : n = nb q c)
    {offs offd : Fin 3 → ℕ} (hoffs : offs = ![(chip (nb q c)).val, 0, 0]) (hoffd : offd = ![(chip c).val, 0, 0])
    {hins : ∀ x : Fin 3, offs x + ![1, 48640, 128] x ≤ ![4, 48640, 128] x} {hind : ∀ x : Fin 3, offd x + ![1, 48640, 128] x ≤ ![4, 48640, 128] x}
    {hqs hqd : (Sh3 1 48640 128).Squeezes (Sh2 48640 128)}
    {sS sR : DmaSem sig} (hs : sS = (plan m).sem ks) (hr : sR = (plan m).sem kr)
    {hsc : (slotView oM offd hind hqd).view.ref.isScScratch = false}
    {hsrc : (slotView gM offs hins hqs).view.WordExact} {hdst : (slotView oM offd hind hqd).view.WordExact}
    {hsem : DmaTarget.Typed .hbm (.dma sR) (.remote (Dev.tc n : Thread nD τ) (slotView oM offd hind hqd) (.dma sS) hsc)}
    {S : Finset (Fin 7)} (hS : kr ∈ S) {α : Type} {Q : α → sProp 𝕄} {k : PUnit → Prog (TpuEff nD τ sig (Elt F) Λ₀ .tc) α} :
    iprop((plan m).records κ ∗ gPts m c (chip (nb q c)) ∗ oPts (nb q c) (chip (nb q (nb q c))) (m (((nb q c).tc : Thread nD τ).loc main_v1))
        ∗ (plan m).owing c S ∗ dutyTok ER ((plan m).cell c ks) 0 () ∗ dutyTok ER ((plan m).cell (nb q c) kr) 0 ())
      ⊢ iprop(((cred (tallyAt ((plan m).cell c ks) () ((plan m).N ks)) ∗ (plan m).owing c (S.erase kr))
            -∗ wp frame (wpE (defs₀ (F := F)) Variants.none (c.tc : Thread nD τ) none) Set.univ (k ⟨⟩) Q)
          -∗ wp frame (wpE (defs₀ (F := F)) Variants.none (c.tc : Thread nD τ) none) Set.univ
              (.op (.enqueueDma (slotView gM offs hins hqs) (.remote (Dev.tc n : Thread nD τ) (slotView oM offd hind hqd) (.dma sS) hsc) (.dma sR) hsrc hdst hsem) k) Q) := by
  rw [nb_nb] at hkr ⊢
  have h := (plan m).send_slot (defs₀ (F := F)) Variants.none c κ ks kr (hn.trans hp.symm) oM (chip c) hoffd (hin := hind) (hq := hqd)
    (src := slotView gM offs hins hqs) hs hr (hsc := hsc) (hsrc := hsrc) (hdst := hdst) (hsem := hsem) fullShare
    (m ((c.tc : Thread nD τ).loc main_arg0)) (m ((((plan m).peer kr c).tc : Thread nD τ).loc main_v1)) (out m ((plan m).peer kr c))
    rfl rfl (A := gPts m c (chip (nb q c))) (slotView_pts gM c fullShare (chip (nb q c)) hoffs _).symm
    (Entails.of_eq hks.symm)
    (fun x y => by
      rw [hp]
      refine (slotView_read gM (chip (nb q c)) hoffs _ x y).trans ?_
      show m ((c.tc : Thread nD τ).loc main_arg0) (ix3 (chip (nb q c)) x y)
        = m (((onChip (nb q c) (chip c)).tc : Thread nD τ).loc main_arg0) (ix3 (chip (nb q c)) x y)
      rw [onChip_nb])
    (by rw [hp]; exact Entails.of_eq hkr.symm) hS (Q := Q) (k := k)
  rw [hp] at h
  exact h

/-- The copy of the own slot. -/
theorem copy_own (c : Dev nD) (κ : Dev nD × Fin 7 → ℕ)
    {off : Fin 3 → ℕ} (hoff : off = ![(chip c).val, 0, 0])
    {hins hind : ∀ x : Fin 3, off x + ![1, 48640, 128] x ≤ ![4, 48640, 128] x}
    {hqs hqd : (Sh3 1 48640 128).Squeezes (Sh2 48640 128)}
    {sL : DmaSem sig} (hl : sL = (plan m).sem 6)
    {hsrc : (slotView gM off hins hqs).view.WordExact} {hdst : (slotView oM off hind hqd).view.WordExact}
    {hsem : DmaTarget.Typed .hbm (.dma sL) (.here (slotView oM off hind hqd) : DmaTarget nD τ sig .tc .hbm (Sh2 48640 128) .bf16)}
    {α : Type} {Q : α → sProp 𝕄} {k : PUnit → Prog (TpuEff nD τ sig (Elt F) Λ₀ .tc) α} :
    iprop((plan m).records κ ∗ gPts m c (chip c) ∗ oPts c (chip c) (m ((c.tc : Thread nD τ).loc main_v1)) ∗ dutyTok ER ((plan m).cell c 6) 0 ())
      ⊢ iprop((cred (tallyAt ((plan m).cell c 6) () ((plan m).N 6))
            -∗ wp frame (wpE (defs₀ (F := F)) Variants.none (c.tc : Thread nD τ) none) Set.univ (k ⟨⟩) Q)
          -∗ wp frame (wpE (defs₀ (F := F)) Variants.none (c.tc : Thread nD τ) none) Set.univ
              (.op (.enqueueDma (slotView gM off hins hqs) (.here (slotView oM off hind hqd)) (.dma sL) hsrc hdst hsem) k) Q) :=
  (plan m).copy_slot (defs₀ (F := F)) Variants.none c κ 6 oM (chip c) hoff (hin := hind) (hq := hqd)
    (src := slotView gM off hins hqs) hl (hsrc := hsrc) (hdst := hdst) (hsem := hsem) fullShare
    (m ((c.tc : Thread nD τ).loc main_arg0)) (m ((c.tc : Thread nD τ).loc main_v1)) (out m c) rfl
    (A := gPts m c (chip c)) (slotView_pts gM c fullShare (chip c) hoff _).symm
    (fun x y => by
      refine (slotView_read gM (chip c) hoff _ x y).trans ?_
      show m ((c.tc : Thread nD τ).loc main_arg0) (ix3 (chip c) x y)
        = m (((onChip c (chip c)).tc : Thread nD τ).loc main_arg0) (ix3 (chip c) x y)
      rw [onChip_chip])
    (Entails.refl _) (Q := Q) (k := k)

omit [FloatOps F] in
theorem duties (c : Dev nD) : (bigSep Finset.univ fun k => dutyTok ER ((plan m).cell ((plan m).peer k c) k) 0 () : sProp 𝕄)
    = iprop(dutyTok ER ((plan m).cell c 0) 0 ()
      ∗ dutyTok ER ((plan m).cell c 1) 0 ()
      ∗ dutyTok ER ((plan m).cell c 2) 0 ()
      ∗ dutyTok ER ((plan m).cell (nb 0 c) 3) 0 ()
      ∗ dutyTok ER ((plan m).cell (nb 1 c) 4) 0 ()
      ∗ dutyTok ER ((plan m).cell (nb 2 c) 5) 0 ()
      ∗ dutyTok ER ((plan m).cell c 6) 0 ()) :=
  bigSep_univ_eq_bigSepL [0, 1, 2, 3, 4, 5, 6] (by decide) (by decide) _

omit [FloatOps F] in
theorem positions (c : Dev nD) (r : ℕ) : (bigSep Finset.univ fun k => atPos ER ((plan m).cell c k) r ∅ 0 : sProp 𝕄)
    = iprop(atPos ER ((plan m).cell c 0) r ∅ 0
      ∗ atPos ER ((plan m).cell c 1) r ∅ 0
      ∗ atPos ER ((plan m).cell c 2) r ∅ 0
      ∗ atPos ER ((plan m).cell c 3) r ∅ 0
      ∗ atPos ER ((plan m).cell c 4) r ∅ 0
      ∗ atPos ER ((plan m).cell c 5) r ∅ 0
      ∗ atPos ER ((plan m).cell c 6) r ∅ 0) :=
  bigSep_univ_eq_bigSepL [0, 1, 2, 3, 4, 5, 6] (by decide) (by decide) _

omit [FloatOps F] in
theorem credits (c : Dev nD) : (bigSep (plan m).recv fun k => cred (tallyAt ((plan m).cell c k) () ((plan m).N k)) : sProp 𝕄)
    = iprop(cred (tallyAt ((plan m).cell c 3) () ((plan m).N 3))
      ∗ cred (tallyAt ((plan m).cell c 4) () ((plan m).N 4))
      ∗ cred (tallyAt ((plan m).cell c 5) () ((plan m).N 5))) :=
  bigSep_eq_bigSepL_of_eq [3, 4, 5] (by rfl) (by decide) _

omit [FloatOps F] in
theorem lands (c : Dev nD) : (bigSep (plan m).recv fun k => dst m ((plan m).peer k c) k : sProp 𝕄)
    = iprop(oPts (nb 0 c) (chip (nb 0 (nb 0 c))) (m (((nb 0 c).tc : Thread nD τ).loc main_v1))
      ∗ oPts (nb 1 c) (chip (nb 1 (nb 1 c))) (m (((nb 1 c).tc : Thread nD τ).loc main_v1))
      ∗ oPts (nb 2 c) (chip (nb 2 (nb 2 c))) (m (((nb 2 c).tc : Thread nD τ).loc main_v1))) :=
  bigSep_eq_bigSepL_of_eq [3, 4, 5] (by rfl) (by decide) _

omit [FloatOps F] in
theorem all_sent : ((((plan m).recv.erase 3).erase 4).erase 5) = ∅ := show ((received.erase 3).erase 4).erase 5 = ∅ by decide

set_option maxHeartbeats 1600000 in
/-- The body's run. -/
theorem body (c : Dev nD) (κ : Dev nD × Fin 7 → ℕ) :
    iprop((plan m).records κ ∗ levAts Plan.L (plan m).lv
        ∗ (bigSep Finset.univ fun k => atPos ER ((plan m).cell c k) 0 ∅ 0)
        ∗ (bigSep (plan m).recv fun k => cred (tallyAt ((plan m).cell c k) () ((plan m).N k)))
        ∗ (bigSep Finset.univ fun k => dutyTok ER ((plan m).cell ((plan m).peer k c) k) 0 ())
        ∗ (mine m c ∗ bigSep (plan m).recv fun k => dst m ((plan m).peer k c) k)
        ∗ (plan m).owing c (plan m).recv)
      ⊢ wp frame (wpE (defs₀ (F := F)) Variants.none (c.tc : Thread nD τ) none) Set.univ
          (cc0_grad_exchange_chips (Memref.whole main_arg0) (Memref.isWhole_whole _) (Memref.whole main_v1) (Memref.isWhole_whole _) cc0_scratch0 cc0_scratch1 cc0_scratch2)
          fun _ => iprop((((c.tc : Thread nD τ).loc main_arg0 ↦{fullShare} m ((c.tc : Thread nD τ).loc main_arg0))
              ∗ ((c.tc : Thread nD τ).loc main_v1 ↦{fullShare} out m c))
            ∗ ownSems0 (plan m).osem c ∗ BI.emp
            ∗ ∃ W' : Finset (SemLoc sig × Unit), owes (c.tc : Thread nD τ) (0 : CellTallies nD τ sig Unit) W') := by
  rw [duties, positions, credits, lands, show mine m c = iprop(garg m c ∗ oPts c (chip c) (m ((c.tc : Thread nD τ).loc main_v1))) from rfl, g_split]
  simp only [cc0_grad_exchange_chips_eq_skeleton]; unfold cc0_grad_exchange_chips_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  iintro ⟨#HR, #HL, ⟨Ha0, Ha1, Ha2, Ha3, Ha4, Ha5, Ha6⟩, ⟨Hc3, Hc4, Hc5⟩, ⟨Ht0, Ht1, Ht2, Ht3, Ht4, Ht5, Ht6⟩,
    ⟨⟨⟨Hg, Hg0, Hg1, Hg2⟩, Ho⟩, ⟨Hd0, Hd1, Hd2⟩⟩, HO⟩
  iapply (copy_own m c κ (at_own c) rfl) $$ [Hg Ho Ht6]
  · isplitr; · iexact HR
    isplitl [Hg]; · iexact Hg
    isplitl [Ho] <;> iassumption
  iintro Hc6
  iapply (send_q m c κ 0 0 3 rfl rfl rfl (dev1 c) (at_nb0 c) (at_own c) rfl rfl (S := (plan m).recv)
    (show (3 : Fin 7) ∈ received by decide)) $$ [Hg0 Hd0 HO Ht0 Ht3]
  · isplitr; · iexact HR
    isplitl [Hg0]; · iexact Hg0
    isplitl [Hd0]; · iexact Hd0
    isplitl [HO]; · iexact HO
    isplitl [Ht0] <;> iassumption
  iintro ⟨Hc0, HO⟩
  iapply (send_q m c κ 1 1 4 rfl rfl rfl (dev2 c) (at_nb1 c) (at_own c) rfl rfl (S := ((plan m).recv.erase 3))
    (show (4 : Fin 7) ∈ (received.erase 3) by decide)) $$ [Hg1 Hd1 HO Ht1 Ht4]
  · isplitr; · iexact HR
    isplitl [Hg1]; · iexact Hg1
    isplitl [Hd1]; · iexact Hd1
    isplitl [HO]; · iexact HO
    isplitl [Ht1] <;> iassumption
  iintro ⟨Hc1, HO⟩
  iapply (send_q m c κ 2 2 5 rfl rfl rfl (dev3 c) (at_nb2 c) (at_own c) rfl rfl (S := (((plan m).recv.erase 3).erase 4))
    (show (5 : Fin 7) ∈ ((received.erase 3).erase 4) by decide)) $$ [Hg2 Hd2 HO Ht2 Ht5]
  · isplitr; · iexact HR
    isplitl [Hg2]; · iexact Hg2
    isplitl [Hd2]; · iexact Hd2
    isplitl [HO]; · iexact HO
    isplitl [Ht2] <;> iassumption
  iintro ⟨Hc2, HO⟩
  ihave HO := (Entails.of_eq (congrArg ((plan m).owing c) (all_sent m))) $$ HO
  iapply ((plan m).wait (defs₀ (F := F)) Variants.none c κ 3 rfl rfl (S := ∅) (fun _ h => absurd h (Finset.notMem_empty _))) $$ [Hc3 HO Ha3]
  · isplitr; · iexact HR
    isplitr; · iexact HL
    isplitl [Hc3]; · iexact Hc3
    isplitl [HO] <;> iassumption
  iintro ⟨HO, Ha3, Hp3⟩
  ihave Hp3 := (Entails.of_eq (show (plan m).Pay c 3 = oPts c (chip (nb 0 c)) (out m c) from rfl)) $$ Hp3
  iapply ((plan m).wait (defs₀ (F := F)) Variants.none c κ 4 rfl rfl (S := ∅) (fun _ h => absurd h (Finset.notMem_empty _))) $$ [Hc4 HO Ha4]
  · isplitr; · iexact HR
    isplitr; · iexact HL
    isplitl [Hc4]; · iexact Hc4
    isplitl [HO] <;> iassumption
  iintro ⟨HO, Ha4, Hp4⟩
  ihave Hp4 := (Entails.of_eq (show (plan m).Pay c 4 = oPts c (chip (nb 1 c)) (out m c) from rfl)) $$ Hp4
  iapply ((plan m).wait (defs₀ (F := F)) Variants.none c κ 5 rfl rfl (S := ∅) (fun _ h => absurd h (Finset.notMem_empty _))) $$ [Hc5 HO Ha5]
  · isplitr; · iexact HR
    isplitr; · iexact HL
    isplitl [Hc5]; · iexact Hc5
    isplitl [HO] <;> iassumption
  iintro ⟨HO, Ha5, Hp5⟩
  ihave Hp5 := (Entails.of_eq (show (plan m).Pay c 5 = oPts c (chip (nb 2 c)) (out m c) from rfl)) $$ Hp5
  iapply ((plan m).wait (defs₀ (F := F)) Variants.none c κ 0 rfl rfl (S := ∅) (fun _ h => absurd h (Finset.notMem_empty _))) $$ [Hc0 HO Ha0]
  · isplitr; · iexact HR
    isplitr; · iexact HL
    isplitl [Hc0]; · iexact Hc0
    isplitl [HO] <;> iassumption
  iintro ⟨HO, Ha0, Hp0⟩
  ihave Hp0 := (Entails.of_eq (show (plan m).Pay c 0 = gPts m c (chip (nb 0 c)) from rfl)) $$ Hp0
  iapply ((plan m).wait (defs₀ (F := F)) Variants.none c κ 1 rfl rfl (S := ∅) (fun _ h => absurd h (Finset.notMem_empty _))) $$ [Hc1 HO Ha1]
  · isplitr; · iexact HR
    isplitr; · iexact HL
    isplitl [Hc1]; · iexact Hc1
    isplitl [HO] <;> iassumption
  iintro ⟨HO, Ha1, Hp1⟩
  ihave Hp1 := (Entails.of_eq (show (plan m).Pay c 1 = gPts m c (chip (nb 1 c)) from rfl)) $$ Hp1
  iapply ((plan m).wait (defs₀ (F := F)) Variants.none c κ 2 rfl rfl (S := ∅) (fun _ h => absurd h (Finset.notMem_empty _))) $$ [Hc2 HO Ha2]
  · isplitr; · iexact HR
    isplitr; · iexact HL
    isplitl [Hc2]; · iexact Hc2
    isplitl [HO] <;> iassumption
  iintro ⟨HO, Ha2, Hp2⟩
  ihave Hp2 := (Entails.of_eq (show (plan m).Pay c 2 = gPts m c (chip (nb 2 c)) from rfl)) $$ Hp2
  iapply ((plan m).wait (defs₀ (F := F)) Variants.none c κ 6 rfl rfl (S := ∅) (fun _ h => absurd h (Finset.notMem_empty _))) $$ [Hc6 HO Ha6]
  · isplitr; · iexact HR
    isplitr; · iexact HL
    isplitl [Hc6]; · iexact Hc6
    isplitl [HO] <;> iassumption
  iintro ⟨HO, Ha6, Hp6⟩
  ihave Hp6 := (Entails.of_eq (show (plan m).Pay c 6 = iprop(oPts c (chip c) (out m c) ∗ gPts m c (chip c)) from rfl)) $$ Hp6
  icases Hp6 with ⟨Hp6, Hk6⟩
  rw [wp_ret]
  iapply ((plan m).finish κ c rfl)
  isplitr; · iexact HR
  isplitl [Ha0 Ha1 Ha2 Ha3 Ha4 Ha5 Ha6]
  · rw [positions]
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    iexact Ha6
  isplitl [HO]; · iexact HO
  isplitr [Hp3 Hp4 Hp5 Hp6]
  · iapply (Entails.of_eq (g_split m c).symm)
    isplitl [Hk6]; · iexact Hk6
    isplitl [Hp0]; · iexact Hp0
    isplitl [Hp1]; · iexact Hp1
    iexact Hp2
  · iapply (Entails.of_eq (o_split c (out m c)).symm)
    isplitl [Hp6]; · iexact Hp6
    isplitl [Hp3]; · iexact Hp3
    isplitl [Hp4]; · iexact Hp4
    iexact Hp5

/-! ## The run -/

theorem no_windows : ∀ p, IsEmpty (Fin (cfgs p).W) := fun _ => inferInstanceAs (IsEmpty (Fin 0))

theorem own_sems : OwnSemFacts (cfgs 0).spec (plan m).osem := by
  have h : OwnSemFacts cfg0.spec (fun k : Fin 7 => (.dma (k : DmaSem sig) : SemLoc sig)) := by decide
  exact h

/-- Every run of the program: each device ends with the slots of its chip, its argument as it was. -/
theorem run_main : θ_run (defs (F := F)) (onTc main) ⟨m, fun _ => 0, ρ⟩ fun r =>
    (∀ c : Dev nD, r.2.mem ((c.tc : Thread nD τ).loc main_v1) = out m c
        ∧ r.2.mem ((c.tc : Thread nD τ).loc main_arg0) = m ((c.tc : Thread nD τ).loc main_arg0))
      ∧ r.2.sem = fun _ => 0 :=
  (plan m).run (cfgs := cfgs) no_windows N_0 cellOf_inj winFacts0.to₀ (own_sems m)
    (fun c => scopedRest0_eq c) (defs₀ (F := F)) Variants.none m ρ main (fun _ => rfl) (mine m) (dst m) (bufs m)
    main_arg0 main_v1 (fun c => m ((c.tc : Thread nD τ).loc main_arg0)) (out m)
    (fun c t κ => body m c κ) fun s h hs => ⟨h, sem_eq_zero_of_scoped (by decide) hs⟩

end Cert.ChipsRun
-- ==== Proof.ChipsValue.lean ====
/-
  What the exchange between chips leaves is the reference's array, block by block.
-/
module

public import proofs.«01_k».proof.Defs
public import proofs.«01_k».proof.Proof.Chips
public import proofs.«01_k».proof.Proof.Blocks
public import proofs.«01_k».proof.Proof.Gen.Chips
public import proofs.«01_k».proof.Proof.Gen.ChipsReferenceIdeal.Run
public import proofs.«01_k».proof.Proof.Gen.ChipsReference.Run

@[expose] public section

noncomputable section

namespace Cert.ChipsValue

open Idealize.ShloMosaic Idealize.ShloMosaic.TcCoe Idealize.ShloMosaic.ValueIdx Idealize.SL.Sem
open Cert.ChipsReferenceIdeal Cert.ChipsReferenceIdeal.Gen
open Cert.Slots Cert.Blocks

variable {α : Type}

/-- The reference's array of the whole argument. -/
def whole (A : S32x48640x128.Idx → α) : S32x48640x128.Idx → α :=
  shapeCast _ (transpose S4x2x4x48640x128 [2, 1, 0, 3, 4] (shapeCast _ A shapeCasts_S32x48640x128_S4x2x4x48640x128)
    transposes_S4x2x4x48640x128_S4x2x4x48640x128_2_1_0_3_4) shapeCasts_S4x2x4x48640x128_S32x48640x128

/-- The reference's array at chip `ch`, core `k`, slot `q`: chip `q`'s slot `ch`. -/
theorem whole_at (A : S32x48640x128.Idx → α) (ch : Fin 4) (k : Fin 2) (q : Fin 4) (x : Fin 48640) (y : Fin 128)
    (j : Fin 32) (hj : j.val = (ch.val * 2 + k.val) * 4 + q.val) (p : Fin 32) (hp : p.val = (q.val * 2 + k.val) * 4 + ch.val) :
    whole A (ix3 j x y) = A (ix3 p x y) := by
  unfold whole
  rw [shapeCast_apply _ _ (ix3 j x y) (ix5 ch k q x y) (by
    rw [Shape.rowMajor_val_five, Shape.rowMajor_val_three]
    show (((ch.val * 2 + k.val) * 4 + q.val) * 48640 + x.val) * 128 + y.val = (j.val * 48640 + x.val) * 128 + y.val
    rw [hj])]
  rw [transpose_apply _ _ _ (ix5 ch k q x y) (ix5 q k ch x y) (fun t => by fin_cases t <;> rfl)]
  refine shapeCast_apply _ _ _ _ ?_
  rw [Shape.rowMajor_val_five, Shape.rowMajor_val_three]
  show (p.val * 48640 + x.val) * 128 + y.val = (((q.val * 2 + k.val) * 4 + ch.val) * 48640 + x.val) * 128 + y.val
  rw [hp]

variable {F : FTy → Type} [FloatOps F]

/-- The devices' results are the blocks of the reference's array. -/
theorem out_block (m : (ℓ : Loc Cert.ChipsIdeal.nD Cert.ChipsIdeal.τ Cert.ChipsIdeal.sig) → Buf (Elt F) ℓ)
    (A : S32x48640x128.Idx → Elt F .bf16)
    (hA : ∀ c : Dev Cert.ChipsIdeal.nD, m ((c.tc : Thread Cert.ChipsIdeal.nD Cert.ChipsIdeal.τ).loc Cert.ChipsIdeal.main_arg0)
      = Layout.block ⟨3, ![4, 48640, 128]⟩ ⟨3, ![32, 48640, 128]⟩ 0 8 c A) (c : Dev Cert.ChipsIdeal.nD) :
    Cert.ChipsRun.out m c = Layout.block ⟨3, ![4, 48640, 128]⟩ ⟨3, ![32, 48640, 128]⟩ 0 8 c (whole A) := by
  suffices main : ∀ (q : Fin 4) (x : Fin 48640) (y : Fin 128),
      m (((Cert.ChipsRun.onChip c q).tc : Thread Cert.ChipsIdeal.nD Cert.ChipsIdeal.τ).loc Cert.ChipsIdeal.main_arg0)
          (ix3 (Cert.ChipsRun.chip c) x y)
        = Layout.block (Sh3 4 48640 128) (Sh3 32 48640 128) 0 8 c (whole A) (by decide) (ix3 q x y) by
    funext i
    exact (main (i 0) (i 1) (i 2)).trans (congrArg _ (ix3_eta i).symm)
  intro q x y
  have hc := c.isLt
  change c.val < 8 at hc
  have hq : q.val < 4 := q.isLt
  rw [block_at c (whole A) _ q x y ⟨c.val * 4 + q.val, by omega⟩ rfl,
    whole_at A ⟨c.val / 2, by omega⟩ ⟨c.val % 2, by omega⟩ q x y _ (by show c.val * 4 + q.val = (c.val / 2 * 2 + c.val % 2) * 4 + q.val; omega)
      ⟨(q.val * 2 + c.val % 2) * 4 + c.val / 2, by omega⟩ rfl]
  refine (congrFun (hA (Cert.ChipsRun.onChip c q)) _).trans ?_
  refine block_at _ A _ _ x y _ ?_
  show (q.val * 2 + c.val % 2) * 4 + c.val / 2 = (2 * q.val + c.val % 2) * 4 + c.val / 2
  omega

end Cert.ChipsValue

namespace Cert

open Idealize.ShloMosaic Idealize.ShloMosaic.TcCoe Idealize.SL.Sem

theorem frame_ChipsIdeal : quiescent_ChipsIdeal := fun m ρ _ =>
  (θ_run Cert.ChipsIdeal.defs _ _).mono (fun _ h => ⟨fun c => (h.1 c).2, h.2⟩) (ChipsRun.run_main (F := Ideal) m ρ)
theorem frame_Chips : quiescent_Chips := fun m ρ _ =>
  (θ_run Cert.ChipsIdeal.defs _ _).mono (fun _ h => ⟨fun c => (h.1 c).2, h.2⟩) (ChipsRun.run_main (F := Bits) m ρ)
theorem frame_ChipsReferenceIdeal : quiescent_ChipsReferenceIdeal := fun m ρ _ =>
  (θ_run Cert.ChipsReferenceIdeal.defs _ _).mono (fun r h => ⟨fun c => (h c).2, sem_eq_zero_of_no_sems (by rfl) _⟩) (ChipsReferenceIdeal.Value.run (F := Ideal) m ρ)
theorem frame_ChipsReference : quiescent_ChipsReference := fun m ρ _ =>
  (θ_run Cert.ChipsReference.defs _ _).mono (fun r h => ⟨fun c => (h c).2, sem_eq_zero_of_no_sems (by rfl) _⟩) (ChipsReference.Value.run (F := Bits) m ρ)

theorem algebraic_Chips : algebraic_ChipsIdeal_ChipsReferenceIdeal := fun m g m' g' _ hA =>
  ⟨ChipsValue.whole (m' (((0 : Dev Cert.ChipsReferenceIdeal.nD).tc : Thread Cert.ChipsReferenceIdeal.nD Cert.ChipsReferenceIdeal.τ).loc Cert.ChipsReferenceIdeal.main_arg0)),
    (θ_run Cert.ChipsIdeal.defs _ _).mono
      (fun _ h c => ⟨(h.1 c).1.trans (ChipsValue.out_block m _ hA c), (h.1 c).2⟩) (ChipsRun.run_main (F := Ideal) m g),
    (θ_run Cert.ChipsReferenceIdeal.defs _ _).mono (fun _ h => h 0) (ChipsReferenceIdeal.Value.run (F := Ideal) m' g')⟩

theorem bitexact_Chips : bitexact_Chips_ChipsReference := fun m g m' g' _ hA =>
  ⟨ChipsValue.whole (m' (((0 : Dev Cert.ChipsReference.nD).tc : Thread Cert.ChipsReference.nD Cert.ChipsReference.τ).loc Cert.ChipsReference.main_arg0)),
    (θ_run Cert.ChipsIdeal.defs _ _).mono
      (fun _ h c => ⟨(h.1 c).1.trans (ChipsValue.out_block (F := Bits) m _ hA c), (h.1 c).2⟩) (ChipsRun.run_main (F := Bits) m g),
    (θ_run Cert.ChipsReference.defs _ _).mono (fun _ h => h 0) (ChipsReference.Value.run (F := Bits) m' g')⟩

end Cert
-- ==== Proof.StepConsts.lean ====
/-
  The two divisors of the step's bias corrections, as the real numbers that their words denote.
-/
module

public import Idealize.ShloMosaic.PureOps.Ideal

@[expose] public section

noncomputable section

namespace Cert.StepConsts

open Idealize.ShloMosaic

/-- The word nearest `1 - b1 ^ 10`. -/
theorem first_word : Ideal.ofBits .f32 0x3F26BD02#32 = ((5463681 / 8388608 : ℝ) : EReal) := by
  simp [Ideal.ofBits, Ideal.ieee, -EReal.coe_mul]; norm_num

/-- The word nearest `1 - b2 ^ 10`. -/
theorem second_word : Ideal.ofBits .f32 0x3C231ACC#32 = ((2672307 / 268435456 : ℝ) : EReal) := by
  simp [Ideal.ofBits, Ideal.ieee, -EReal.coe_mul]; norm_num

end Cert.StepConsts
-- ==== Proof.Step.lean ====
/-
  One step of the optimiser as functions of whole arrays, over any shape: the new mean, the new mean square and the change of the
  weight.  Each entry depends on the entries of the arguments at the same place alone, so a block of the result is the function of the
  blocks.  The reference divides by the bias corrections where the kernel multiplies by their reciprocals; over the extended reals the two
  agree.
-/
module

public import proofs.«01_k».proof.Proof.StepConsts
public import Idealize.ShloMosaic.PureOps
public import Idealize.ShloMosaic.PureOps.Ideal
public import Idealize.ShloMosaic.PureOps.IdealRules
public import Idealize.ShloMosaic.Lib.ValueLayout

@[expose] public section

noncomputable section

namespace Cert.Step

open Idealize.ShloMosaic Idealize.ShloMosaic.ValueIdx

section any
variable {F : FTy → Type} [FloatOps F] {s s' : Shape}

/-- The new mean of the gradient. -/
def mean (g m : FVec F s .f32) : FVec F s .f32 :=
  addf (mulf (broadcast s (Scalar.ofBits .f32 0x3F666666#32)) m) (mulf (broadcast s (Scalar.ofBits .f32 0x3DCCCCCD#32)) g)

/-- The new mean of the gradient's square. -/
def square (g v : FVec F s .f32) : FVec F s .f32 :=
  addf (mulf (broadcast s (Scalar.ofBits .f32 0x3F7FBE77#32)) v) (mulf (broadcast s (Scalar.ofBits .f32 0x3A83126F#32)) (mulf g g))

/-- The change of the weight, the bias corrections being factors. -/
def change (c1 c2 : F .f32) (g w m v : FVec F s .f32) : FVec F s .f32 :=
  mulf (broadcast s (Scalar.ofBits .f32 0xBA83126F#32))
    (addf (divf (mulf (mean g m) (broadcast s c1)) (addf (sqrt (mulf (square g v) (broadcast s c2))) (broadcast s (Scalar.ofBits .f32 0x322BCC77#32))))
      (mulf (broadcast s (Scalar.ofBits .f32 0x3C23D70A#32)) w))

/-- The change of the weight, the bias corrections being divisors. -/
def changeHost (g w m v : FVec F s .f32) : FVec F s .f32 :=
  mulf (broadcast s (Scalar.ofBits .f32 0xBA83126F#32))
    (addf (Host.divf (Host.divf (mean g m) (broadcast s (Scalar.ofBits .f32 0x3F26BD02#32)))
        (addf (Host.sqrt (Host.divf (square g v) (broadcast s (Scalar.ofBits .f32 0x3C231ACC#32)))) (broadcast s (Scalar.ofBits .f32 0x322BCC77#32))))
      (mulf (broadcast s (Scalar.ofBits .f32 0x3C23D70A#32)) w))

/-- The new mean at a place is the new mean of the entries there. -/
theorem mean_at {g m : FVec F s .f32} {g' m' : FVec F s' .f32} {i : s.Idx} {j : s'.Idx} (hg : g i = g' j) (hm : m i = m' j) :
    mean g m i = mean g' m' j := by
  show FloatOps.addf (FloatOps.mulf _ (m i)) (FloatOps.mulf _ (g i)) = FloatOps.addf (FloatOps.mulf _ (m' j)) (FloatOps.mulf _ (g' j))
  rw [hg, hm]
  rfl

/-- So the new mean square. -/
theorem square_at {g v : FVec F s .f32} {g' v' : FVec F s' .f32} {i : s.Idx} {j : s'.Idx} (hg : g i = g' j) (hv : v i = v' j) :
    square g v i = square g' v' j := by
  show FloatOps.addf (FloatOps.mulf _ (v i)) (FloatOps.mulf _ (FloatOps.mulf (g i) (g i)))
    = FloatOps.addf (FloatOps.mulf _ (v' j)) (FloatOps.mulf _ (FloatOps.mulf (g' j) (g' j)))
  rw [hg, hv]
  rfl

/-- So the change of the weight. -/
theorem change_at {c1 c2 : F .f32} {g w m v : FVec F s .f32} {g' w' m' v' : FVec F s' .f32} {i : s.Idx} {j : s'.Idx}
    (hg : g i = g' j) (hw : w i = w' j) (hm : m i = m' j) (hv : v i = v' j) :
    change c1 c2 g w m v i = change c1 c2 g' w' m' v' j := by
  show FloatOps.mulf _ (FloatOps.addf (FloatOps.divf (FloatOps.mulf (mean g m i) c1) (FloatOps.addf (FloatOps.sqrt (FloatOps.mulf (square g v i) c2)) _))
      (FloatOps.mulf _ (w i)))
    = FloatOps.mulf _ (FloatOps.addf (FloatOps.divf (FloatOps.mulf (mean g' m' j) c1) (FloatOps.addf (FloatOps.sqrt (FloatOps.mulf (square g' v' j) c2)) _))
      (FloatOps.mulf _ (w' j)))
  rw [mean_at hg hm, square_at hg hv, hw]
  rfl

/-- A stack of one array without its leading axis. -/
def flat {α : Type} {R W : ℕ} (X : (⟨3, ![1, R, W]⟩ : Shape).Idx → α) : (⟨2, ![R, W]⟩ : Shape).Idx → α := fun i => X (ix3 0 (i 0) (i 1))

/-- The reshape that drops the leading axis. -/
theorem flat_eq {α : Type} {R W : ℕ} (X : (⟨3, ![1, R, W]⟩ : Shape).Idx → α) (h : (⟨3, ![1, R, W]⟩ : Shape).ShapeCasts ⟨2, ![R, W]⟩) :
    shapeCast ⟨2, ![R, W]⟩ X h = flat X :=
  funext fun y => (congrArg _ (eq_ix2 y)).trans (shapeCast_1ab_ab_apply X h (y 0) (y 1))

/-! ## Blocks of rows -/

/-- The array `X` is the block of rows of `Y` that starts at row `o`. -/
def Rows {α : Type} {r R w : ℕ} (o : ℕ) (X : (⟨2, ![r, w]⟩ : Shape).Idx → α) (Y : (⟨2, ![R, w]⟩ : Shape).Idx → α) : Prop :=
  ∀ y i, (i 0 : ℕ) = o + y 0 → (i 1 : ℕ) = y 1 → X y = Y i

/-- So of a stack of one array. -/
def RowsFlat {α : Type} {r R w : ℕ} (o : ℕ) (X : (⟨3, ![1, r, w]⟩ : Shape).Idx → α) (Y : (⟨3, ![1, R, w]⟩ : Shape).Idx → α) : Prop :=
  ∀ y i, (i 1 : ℕ) = o + y 1 → (i 2 : ℕ) = y 2 → X y = Y i

section rows
variable {r R w o : ℕ}

theorem RowsFlat.cast {α : Type} {X : (⟨3, ![1, r, w]⟩ : Shape).Idx → α} {Y : (⟨3, ![1, R, w]⟩ : Shape).Idx → α}
    (h : (⟨3, ![1, r, w]⟩ : Shape).ShapeCasts ⟨2, ![r, w]⟩) (hX : RowsFlat o X Y) : Rows o (shapeCast ⟨2, ![r, w]⟩ X h) (flat Y) := by
  rw [flat_eq]
  exact fun _ _ h0 h1 => hX _ _ h0 h1

variable {g W m v : FVec F ⟨2, ![r, w]⟩ .f32} {g' W' m' v' : FVec F ⟨2, ![R, w]⟩ .f32}

theorem Rows.mean (hg : Rows o g g') (hm : Rows o m m') : Rows o (mean g m) (mean g' m') :=
  fun _ _ h0 h1 => mean_at (hg _ _ h0 h1) (hm _ _ h0 h1)

theorem Rows.square (hg : Rows o g g') (hv : Rows o v v') : Rows o (square g v) (square g' v') :=
  fun _ _ h0 h1 => square_at (hg _ _ h0 h1) (hv _ _ h0 h1)

theorem Rows.change {c1 c2 : F .f32} (hg : Rows o g g') (hW : Rows o W W') (hm : Rows o m m') (hv : Rows o v v') :
    Rows o (change c1 c2 g W m v) (change c1 c2 g' W' m' v') :=
  fun _ _ h0 h1 => change_at (hg _ _ h0 h1) (hW _ _ h0 h1) (hm _ _ h0 h1) (hv _ _ h0 h1)

end rows

end any

/-! ## Over the extended reals -/

/-- Multiplying by the reciprocals is dividing by the corrections. -/
theorem change_eq {s : Shape} {c1 c2 : Ideal .f32} (h1 : c1 = ((8388608 / 5463681 : ℝ) : EReal)) (h2 : c2 = ((268435456 / 2672307 : ℝ) : EReal))
    (g w m v : FVec Ideal s .f32) : change c1 c2 g w m v = changeHost g w m v := by
  have first : ∀ x : EReal, Ideal.div x (Ideal.ofBits .f32 0x3F26BD02#32) = x * c1 := fun x => by
    rw [StepConsts.first_word, Ideal.div_coe (by norm_num), h1]
    norm_num
  have second : ∀ x : EReal, Ideal.div x (Ideal.ofBits .f32 0x3C231ACC#32) = x * c2 := fun x => by
    rw [StepConsts.second_word, Ideal.div_coe (by norm_num), h2]
    norm_num
  have e1 : Host.divf (mean g m) (broadcast s (Scalar.ofBits .f32 0x3F26BD02#32)) = mulf (mean g m) (broadcast s c1) := funext fun _ => first _
  have e2 : Host.divf (square g v) (broadcast s (Scalar.ofBits .f32 0x3C231ACC#32)) = mulf (square g v) (broadcast s c2) := funext fun _ => second _
  unfold changeHost
  rw [e1, e2]
  rfl

/-- So with the kernel's names of the two reciprocals. -/
theorem change_named {s : Shape} {κ : String → Option EReal} (h1 : κ "c1" = some ((8388608 / 5463681 : ℝ) : EReal))
    (h2 : κ "c2" = some ((268435456 / 2672307 : ℝ) : EReal)) (g w m v : FVec Ideal s .f32) :
    change (Named.named κ "c1" 0x3FC48605#32) (Named.named κ "c2" 0x42C8E6D3#32) g w m v = changeHost g w m v :=
  change_eq (IdealRules.named_const.ideal_named_scalar κ _ _ _ h1) (IdealRules.named_const.ideal_named_scalar κ _ _ _ h2) g w m v

/-- What the kernel's four arrays hold at the end, the bias corrections being divisors. -/
theorem kernel_ends {s : Shape} {κ : String → Option EReal} (h1 : κ "c1" = some ((8388608 / 5463681 : ℝ) : EReal))
    (h2 : κ "c2" = some ((268435456 / 2672307 : ℝ) : EReal)) {r0 r1 r2 r3 f0 f1 f2 f3 g w m v : FVec Ideal s .f32} {kept : Prop}
    (hf : f0 = g ∧ f1 = change (Named.named κ "c1" 0x3FC48605#32) (Named.named κ "c2" 0x42C8E6D3#32) g w m v ∧ f2 = mean g m ∧ f3 = square g v)
    (h : r0 = f0 ∧ r1 = f1 ∧ r2 = f2 ∧ r3 = f3 ∧ kept) : r0 = g ∧ r1 = changeHost g w m v ∧ r2 = mean g m ∧ r3 = square g v ∧ kept := by
  obtain ⟨rfl, rfl, rfl, rfl⟩ := hf
  exact change_named h1 h2 f0 w m v ▸ h

/-- What the reference's four arrays hold at the end, from arguments that agree; `f` makes the gradient of the first argument. -/
theorem reference_ends {s : Shape} {A : Type} {f : A → FVec Ideal s .f32} {a a' : A} {g' r0 r1 r2 r3 w m v w' m' v' : FVec Ideal s .f32} {kept : Prop}
    (hg : g' = f a') (hA : a' = a ∧ w' = w ∧ m' = m ∧ v' = v)
    (h : r0 = g' ∧ r1 = changeHost g' w' m' v' ∧ r2 = mean g' m' ∧ r3 = square g' v' ∧ kept) :
    r0 = f a ∧ r1 = changeHost (f a) w m v ∧ r2 = mean (f a) m ∧ r3 = square (f a) v ∧ kept := by
  obtain ⟨rfl, rfl, rfl, rfl⟩ := hA
  exact hg ▸ h

end Cert.Step
-- ==== Proof.SlotSum.lean ====
/-
  The sum of the slots of a stack of arrays, over the extended reals: what a reference's reduction along the leading axis leaves, and what
  a kernel leaves that loads the slots one by one and adds them up from the first.
-/
module

public import proofs.«01_k».proof.Proof.Step
public import Idealize.ShloMosaic.Lib.Pipeline.ValueKit
public import Idealize.ShloMosaic.Lib.Pointwise.Reduce
public import Idealize.ShloMosaic.Lib.IdealHost

@[expose] public section

noncomputable section

namespace Cert.Step

open Idealize.ShloMosaic

variable {n R W r w o : ℕ}

/-- The sum of the slots. -/
def total (X : (⟨3, ![n, R, W]⟩ : Shape).Idx → EReal) : (⟨2, ![R, W]⟩ : Shape).Idx → EReal := fun i => ∑ k : Fin n, X (ix3 k (i 0) (i 1))

/-- The reference's reduction. -/
theorem reduce_eq {u : Shape} (X : FVec Ideal ⟨3, ![n, R, W]⟩ .f32) (h : (⟨3, ![n, R, W]⟩ : Shape).ReducesTo [0] ⟨2, ![R, W]⟩) (hu : 0 < u.numel) :
    Host.reduceAdd X (constant u .f32 0x00000000#32) h hu = total X := by
  funext i
  rw [Host.reduceAdd_apply]
  refine (Ideal.hostReduceAdd_r3_a0 h X _ i).trans ?_
  refine (congrArg (· + _) (Ideal.ofBits_zero_f32)).trans (zero_add _)

/-- One slot, loaded and read without its leading axis. -/
theorem slot {e : EltTy} (X : (⟨3, ![n, r, w]⟩ : Shape).Idx → Elt Ideal e) (k : Fin n)
    (inb : ∀ a, (![k.val, 0, 0] : Fin 3 → ℕ) a + (![1, r, w] : Fin 3 → ℕ) a ≤ (![n, r, w] : Fin 3 → ℕ) a)
    (hc : (⟨3, ![1, r, w]⟩ : Shape).ShapeCasts ⟨2, ![r, w]⟩) (y : (⟨2, ![r, w]⟩ : Shape).Idx) :
    shapeCast ⟨2, ![r, w]⟩ (View.ld (Val := Elt Ideal) (e' := e) X (Rect.unit (s := ⟨3, ![n, r, w]⟩) ![k.val, 0, 0] ![1, r, w] inb)) hc y
      = X (ix3 k (y 0) (y 1)) := by
  refine (congrFun (flat_eq _ hc) y).trans (View.ld_unit_apply_of _ _ _ _ _ _ fun a => ?_)
  match a with
  | ⟨0, _⟩ => rfl
  | ⟨1, _⟩ => exact (Nat.zero_add _).symm
  | ⟨2, _⟩ => exact (Nat.zero_add _).symm

/-- Rows of the sum are the sum of the rows. -/
theorem total_rows {X : (⟨3, ![n, r, w]⟩ : Shape).Idx → EReal} {Y : (⟨3, ![n, R, w]⟩ : Shape).Idx → EReal}
    (h : ∀ y i, i 0 = y 0 → (i 1 : ℕ) = o + y 1 → (i 2 : ℕ) = y 2 → X y = Y i) : Rows o (total X) (total Y) :=
  fun _ _ h0 h1 => Finset.sum_congr rfl fun _ _ => h _ _ rfl h0 h1

end Cert.Step

end
-- ==== Proof.PiecesValue.lean ====
/-
  The gradients' pieces summed: what the kernel leaves, block by block, is the sum of the four stacked pieces.
-/
module

public import proofs.«01_k».proof.Defs
public import proofs.«01_k».proof.Proof.SlotSum
public import proofs.«01_k».proof.Proof.Gen.Pieces.Frame
public import proofs.«01_k».proof.Proof.Gen.PiecesIdeal.Value
public import proofs.«01_k».proof.Proof.Gen.PiecesReferenceIdeal.Run
public import Idealize.ShloMosaic.Lib.Pipeline.ValueKit
public import Idealize.ShloMosaic.Lib.Quiescent

@[expose] public section

set_option maxRecDepth 16384

noncomputable section

namespace Cert.PiecesIdeal.Whole

open Idealize.ShloMosaic Idealize.ShloMosaic.TcCoe Idealize.ShloMosaic.ValueIdx Idealize.SL.Sem
open Cert.PiecesIdeal Cert.PiecesIdeal.Gen

variable (m : (ℓ : Loc nD τ sig) → Buf (Elt Ideal) ℓ) (c : Dev nD)

/-- The four slots of a block added up. -/
theorem block_total (X : Vec Ideal S4x512x128 .bf16) : k0_pay1 (View.ld X r0_0) (View.ld X r0_1) (View.ld X r0_2) (View.ld X r0_3) = Step.total X := by
  funext y
  refine Eq.trans ?_ (Fin.sum_univ_four _).symm
  exact congrArg₂ (· + ·) (congrArg₂ (· + ·) (congrArg₂ (· + ·) (Step.slot X 0 _ _ y) (Step.slot X 1 _ _ y)) (Step.slot X 2 _ _ y)) (Step.slot X 3 _ _ y)

/-- Where the blocks of the windows stand. -/
theorem place : ∀ t : Fin cfg0.N, win0_0.index t = ![0, t.1, 0] ∧ win0_1.index t = ![t.1, 0] := (by decide +kernel : ∀ t : Fin grid0.N, _)

/-- The whole array after the last block. -/
theorem final : (dats m 0 c).arrAt 1 cfg0.N = Step.total (m ((c : Thread nD τ).loc main_arg0)) := by
  refine (dats m 0 c).arrAt_eq_of_covers 1 _ (by decide +kernel) fun t _ y => ?_
  rw [after0_1]; frame_out
  rw [block_total]
  refine Step.total_rows (o := t.1 * 512) (fun p q h0 h1 h2 => ?_) _ _ (by blk_simp [place t]) (by blk_simp [place t])
  have h0' : (q 0 : ℕ) = p 0 := congrArg Fin.val h0
  blk_ext [iblk, V, place t]

end Cert.PiecesIdeal.Whole

namespace Cert

open Idealize.ShloMosaic Idealize.SL.Sem

theorem frame_Pieces : quiescent_Pieces := fun m ρ _ => Cert.Pieces.Gen.frame m ρ
theorem frame_PiecesIdeal : quiescent_PiecesIdeal := fun m ρ _ => Cert.PiecesIdeal.Gen.frame m ρ
theorem frame_PiecesReferenceIdeal : quiescent_PiecesReferenceIdeal := fun m ρ _ =>
  (θ_run Cert.PiecesReferenceIdeal.defs _ _).mono (fun r h => ⟨fun c => (h c).2, sem_eq_zero_of_no_sems (by rfl) _⟩)
    (PiecesReferenceIdeal.Value.run (F := Ideal) m ρ)

theorem algebraic_Pieces : algebraic_PiecesIdeal_PiecesReferenceIdeal := fun m g m' g' _ hA =>
  ⟨fun c => Step.total (m' ((c.tc : Thread Cert.PiecesReferenceIdeal.nD Cert.PiecesReferenceIdeal.τ).loc Cert.PiecesReferenceIdeal.main_arg0)),
    (θ_run Cert.PiecesIdeal.defs _ _).mono
      (fun _ h c => ⟨(h c).1.trans ((PiecesIdeal.Whole.final m c).trans (congrArg Step.total (hA c).symm)), (h c).2⟩)
      (PiecesIdeal.Value.run_blocks (F := Ideal) m g),
    (θ_run Cert.PiecesReferenceIdeal.defs _ _).mono (fun _ h c => ⟨(h c).1.trans (Step.reduce_eq _ _ _), (h c).2⟩)
      (PiecesReferenceIdeal.Value.run (F := Ideal) m' g')⟩

end Cert

end
-- ==== Proof.LossValue.lean ====
/-
  The loss of a device's tokens and its gradient: half the mean square of the difference of the outputs and the targets, and
  that difference over the width. The call adds the squares up column by column in a block that it revisits at every point.
-/
module

public import proofs.«01_k».proof.Defs
public import proofs.«01_k».proof.Proof.Gen.Loss.Frame
public import proofs.«01_k».proof.Proof.Gen.LossIdeal.Frame
public import proofs.«01_k».proof.Proof.Gen.LossReferenceIdeal.Run
public import Idealize.ShloMosaic.Lib.Pipeline.ValueKit
public import Idealize.ShloMosaic.Lib.Quiescent
public import Idealize.ShloMosaic.Lib.Claim
public import Idealize.ShloMosaic.Lib.Pointwise

@[expose] public section

set_option maxRecDepth 16384

noncomputable section

namespace Cert.LossIdeal.Whole

open Idealize.ShloMosaic hiding ix1 ix2
open Idealize.ShloMosaic.TcCoe Idealize.SL.Sem
open Cert.LossIdeal Cert.LossIdeal.Gen
open Idealize.ShloMosaic.ValueIdx (ix1 ix2)

variable (m : (ℓ : Loc nD τ sig) → Buf (Elt Ideal) ℓ) (c : Dev nD)

/-- The outputs of a device's tokens. -/
def outputs : S16384x1024.Idx → EReal := m ((c : Thread nD τ).loc main_arg0)

/-- Their targets. -/
def targets : S16384x1024.Idx → EReal := m ((c : Thread nD τ).loc main_arg1)

/-- The number 1024, as its word denotes it. -/
theorem width_word : Ideal.ofBits .f32 0x44800000#32 = ((1024 : ℝ) : EReal) := by
  simp [Ideal.ofBits, Ideal.ieee, -EReal.coe_mul]; norm_num

/-- One over 1024, as its word denotes it. -/
theorem inverse_word : Ideal.ofBits .f32 0x3A800000#32 = ((1 / 1024 : ℝ) : EReal) := by
  simp [Ideal.ofBits, Ideal.ieee, -EReal.coe_mul]; norm_num

/-- Division by the width is the product with its inverse. -/
theorem over_width (x : EReal) : Ideal.div x (Ideal.ofBits .f32 0x44800000#32) = x * Ideal.ofBits .f32 0x3A800000#32 := by
  rw [width_word, inverse_word, Ideal.div_coe (by norm_num)]

/-- A sum that starts from zero's word. -/
theorem from_zero (x : EReal) : Ideal.ofBits .f32 0x00000000#32 + x = x := by rw [Ideal.ofBits_zero_f32, zero_add]

/-- A sum of numbers divided by the width is the sum divided by it. -/
theorem sum_over_width {n : ℕ} (f : Fin n → EReal) :
    (∑ k, f k) * Ideal.ofBits .f32 0x3A800000#32 = ∑ k, f k * Ideal.ofBits .f32 0x3A800000#32 := by
  rw [inverse_word]
  refine Finset.induction_on (Finset.univ : Finset (Fin n)) (by simp) fun a s ha ih => ?_
  rw [Finset.sum_insert ha, Finset.sum_insert ha, ← ih]
  exact EReal.right_distrib_of_nonneg_of_ne_top (by norm_num) (EReal.coe_ne_top _) _ _

/-- The difference of the outputs and the targets, squared. -/
def square {s : Shape} (y t : s.Idx → EReal) : s.Idx → EReal := fun i => (y i - t i) * (y i - t i)

/-- What a point adds to the block of sums. -/
theorem sums_eq (y t : Vec Ideal S256x1024 .f32) (v : Vec Ideal S1x1024 .f32) (j : S1x1024.Idx) :
    k0_pay4 y t v j = v j + ∑ k : Fin 256, square y t (ix2 k (j 1)) := by
  refine congrArg₂ (· + ·) (congrFun (shapeCast_self v _) j) ?_
  refine (shapeCast_apply (k := (ix1 (j 1) : S1024.Idx)) _ _ _ (by
    have h0 : (j 0 : ℕ) < 1 := (j 0).isLt
    rw [Shape.rowMajor_val_one, Shape.rowMajor_val_two]
    show (j 1 : ℕ) = (j 0 : ℕ) * 1024 + (j 1 : ℕ)
    omega)).trans ?_
  exact Ideal.reduceAdd_r2_a0 _ _ _

/-- Where the blocks of the windows stand. -/
theorem place : ∀ t : Fin cfg0.N, win0_0.index t = ![t.1, 0] ∧ win0_1.index t = ![t.1, 0] ∧ win0_2.index t = ![t.1, 0] ∧ win0_3.index t = ![0, 0] :=
  (by decide +kernel : ∀ t : Fin grid0.N, _)

/-- The gradient after the last block. -/
theorem final_gradient : (dats m 0 c).arrAt 2 cfg0.N = fun i => (outputs m c i - targets m c i) * Ideal.ofBits .f32 0x3A800000#32 := by
  refine (dats m 0 c).arrAt_eq_of_covers 2 _ (by decide +kernel) fun t _ y => ?_
  rw [after0_2]
  by_cases h : t.val % 64 = 0
  · rw [outsAt0_A m c t h]; frame_out
    refine congrArg (· * _) (congrArg₂ (· - ·) ?_ ?_) <;> blk_ext [iblk, V, outputs, targets, place t]
  · rw [outsAt0_B m c t h]; frame_out
    refine congrArg (· * _) (congrArg₂ (· - ·) ?_ ?_) <;> blk_ext [iblk, V, outputs, targets, place t]

/-- What a point's block of tokens adds to the sums. -/
def part (t : Fin cfg0.N) (j : S1x1024.Idx) : EReal := ∑ k : Fin 256, square (s := S256x1024) (iblk m c 0 t) (iblk m c 1 t) (ix2 k (j 1))

/-- The block of sums after the last point. -/
theorem sums_last (t : Fin cfg0.N) (h : t.val + 1 = cfg0.N) (j : S1x1024.Idx) : (outsAt0 m c t.val t.isLt).2 j = 0 + ∑ p : Fin cfg0.N, part m c p j :=
  Pipeline.eq_sum_fin_of_reset_step_apply_last (fun n h => (outsAt0 m c n h).2) 64 (fun _ => (0 : EReal)) (part m c)
    (fun t h j => by
      rw [outsAt0_A m c t h]; frame_out
      rw [sums_eq]
      exact congrArg (· + part m c t j) Ideal.ofBits_zero_f32)
    (fun t h j => by
      rw [outsAt0_B m c t h]; frame_out
      exact sums_eq _ _ _ _)
    (le_of_eq N_0) t h j

/-- The sums of the squares after the last block, column by column. -/
theorem final_sums : (dats m 0 c).arrAt 3 cfg0.N = fun j : S1x1024.Idx => ∑ r : Fin 16384, square (outputs m c) (targets m c) (ix2 r (j 1)) := by
  refine (dats m 0 c).arrAt_eq_of_covers 3 _ (by decide +kernel) fun t hf y => ?_
  have h : t.val + 1 = cfg0.N := by
    have h1 := (flush0_3 t).mp hf
    have h2 : t.val < 64 := lt_of_lt_of_eq t.isLt N_0
    have h3 : cfg0.N = 64 := N_0
    omega
  have e : (((cfg0.win 3).blk t).view.emb y 1 : Fin 1024) = y 1 := Fin.ext (by blk_simp [place t])
  rw [after0_3]
  refine (sums_last m c t h y).trans ((zero_add _).trans ?_)
  refine Eq.trans ?_ (congrArg (fun q : Fin 1024 => ∑ r : Fin 16384, square (outputs m c) (targets m c) (ix2 r q)) e.symm)
  refine Fin.sum_mul_add_congr (S := 64) (n := 256) (fun p k hl => ?_)
  refine congrArg₂ (· * ·) (congrArg₂ (· - ·) ?_ ?_) (congrArg₂ (· - ·) ?_ ?_) <;> blk_ext [iblk, V, outputs, targets, place p, place t]

/-- Half the sum over the tokens of the mean square of the difference. -/
def loss (y t : S16384x1024.Idx → EReal) : S_.Idx → EReal := fun _ =>
  Ideal.ofBits .f32 0x3F000000#32 * ∑ r : Fin 16384, (∑ k : Fin 1024, square y t (ix2 r k)) * Ideal.ofBits .f32 0x3A800000#32

/-- The difference over the width. -/
def gradient (y t : S16384x1024.Idx → EReal) : S16384x1024.Idx → EReal := fun i => (y i - t i) * Ideal.ofBits .f32 0x3A800000#32

/-- The lines after the call leave the loss. -/
theorem tail_eq : (Pipeline.afterTail₀ cfgs (dats m) 0 (V0 m) [hostOps1] c main_v3 : S_.Idx → EReal) = loss (outputs m c) (targets m c) := by
  unfold Pipeline.afterTail₀
  simp only [List.flatten_cons, List.flatten_nil, List.append_nil, hostOps1]
  after_results
  rw [show (Pipeline.withArrays (cfgs 0).spec c (V0 m c) (fun w => (dats m 0 c).arrAt w (cfgs 0).N) (Proc.tc.devRef main_v0_1)) = (dats m 0 c).arrAt 3 cfg0.N from
    Pipeline.withArrays_arr (cfgs 0).spec (by decide) c (V0 m c) _ 3, final_sums]
  funext j
  refine (over_width _).trans ((mul_assoc _ _ _).trans (congrArg (Ideal.ofBits .f32 0x3F000000#32 * ·) ?_))
  refine Eq.trans (congrArg (· * Ideal.ofBits .f32 0x3A800000#32) ?_)
    (sum_over_width fun r : Fin 16384 => ∑ k : Fin 1024, square (outputs m c) (targets m c) (ix2 r k))
  refine (Host.reduceAdd_apply ..).trans ((Ideal.hostReduceAdd_r2_a01 _ _ _ _).trans ?_)
  refine (from_zero _).trans ((Fin.sum_univ_one _).trans ?_)
  exact Finset.sum_comm

theorem run (g : Dev nD → PrngReg) : θ_run (defs (F := Ideal)) (onTc (τ := τ) (main (F := Ideal))) ⟨m, fun _ => 0, g⟩ fun r => ∀ c : Dev nD,
      r.2.mem ((c.tc : Thread nD τ).loc main_v3) = loss (outputs m c) (targets m c)
      ∧ r.2.mem ((c.tc : Thread nD τ).loc main_v0_0) = gradient (outputs m c) (targets m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).2 main_v3 (by decide)).trans (tail_eq m c), ((h.1 c).1 2).trans (final_gradient m c), h.2 c⟩)
    (θ_run_and (run_main m g) (unchanged m g))

/-- The reference's loss. -/
theorem reference_loss (y t : S16384x1024.Idx → EReal) (h1 : S16384x1024.ReducesTo [1] ⟨1, ![16384]⟩) (h0 : (⟨1, ![16384]⟩ : Shape).ReducesTo [0] S_)
    (hb : S_.BroadcastsInDim ⟨1, ![16384]⟩ ![]) :
    mulf (F := Ideal) (φ := .f32) (constant S_ .f32 0x3F000000#32) (Host.reduceAdd (F := Ideal) (φ := .f32) (Host.divf (F := Ideal) (φ := .f32)
      (Host.reduceAdd (mulf (F := Ideal) (φ := .f32) (subf (F := Ideal) (φ := .f32) y t) (subf (F := Ideal) (φ := .f32) y t)) (constant S_ .f32 0x00000000#32) h1 h_S_)
      (broadcastInDim ⟨1, ![16384]⟩ ![] hb (constant S_ .f32 0x44800000#32))) (constant S_ .f32 0x00000000#32) h0 h_S_) = loss y t := by
  funext j
  refine congrArg (Ideal.ofBits .f32 0x3F000000#32 * ·) ?_
  refine (Host.reduceAdd_apply ..).trans ?_
  refine (Ideal.hostReduceAdd_r1_a0 _ _ _ _).trans ?_
  refine (from_zero _).trans (Finset.sum_congr rfl fun r _ => ?_)
  refine (over_width _).trans (congrArg (· * Ideal.ofBits .f32 0x3A800000#32) ?_)
  refine (Host.reduceAdd_apply ..).trans ?_
  refine (Ideal.hostReduceAdd_r2_a1 _ _ _ _).trans ?_
  exact from_zero _

/-- The reference's gradient. -/
theorem reference_gradient (y t : S16384x1024.Idx → EReal) (hb : S_.BroadcastsInDim S16384x1024 ![]) :
    Host.divf (F := Ideal) (φ := .f32) (subf (F := Ideal) (φ := .f32) y t) (broadcastInDim S16384x1024 ![] hb (constant S_ .f32 0x44800000#32)) = gradient y t := by
  funext i
  unfold gradient
  rw [← over_width]
  rfl

end Cert.LossIdeal.Whole

namespace Cert

open Idealize.ShloMosaic Idealize.SL.Sem

theorem frame_Loss : quiescent_Loss := fun m ρ _ => Cert.Loss.Gen.frame m ρ
theorem frame_LossIdeal : quiescent_LossIdeal := fun m ρ _ => Cert.LossIdeal.Gen.frame m ρ
theorem frame_LossReferenceIdeal : quiescent_LossReferenceIdeal := fun m ρ _ =>
  (θ_run Cert.LossReferenceIdeal.defs _ _).mono (fun r h => ⟨fun c => (h c).2.2, sem_eq_zero_of_no_sems (by rfl) _⟩)
    (LossReferenceIdeal.Value.run (F := Ideal) m ρ)

theorem algebraic_Loss : algebraic_LossIdeal_LossReferenceIdeal := fun m g m' g' _ hA =>
  ⟨_, _, LossIdeal.Whole.run m g,
    (θ_run Cert.LossReferenceIdeal.defs _ _).mono (fun _ h c => by
      refine ⟨(h c).1.trans ?_, (h c).2.1.trans ?_, (h c).2.2⟩ <;> rw [(hA c).1, (hA c).2]
      · exact LossIdeal.Whole.reference_loss _ _ _ _ _
      · exact LossIdeal.Whole.reference_gradient _ _ _)
      (LossReferenceIdeal.Value.run (F := Ideal) m' g')⟩

end Cert

end
-- ==== Proof.Product.lean ====
/-
  The product of two matrices over the extended reals, and the same product added up over stretches of the inner axis.
-/
module

public import Idealize.ShloMosaic.PureOps.Ideal
public import Idealize.ShloMosaic.Lib.MatmulPlain
public import Idealize.ShloMosaic.Lib.StackMember
public import Idealize.ShloMosaic.Lib.ValueLayout
public import Idealize.ShloMosaic.Lib.Pipeline.ValueKit

@[expose] public section

noncomputable section

namespace Cert.Product

open Idealize.ShloMosaic hiding ix2 eq_ix2
open Idealize.ShloMosaic.ValueIdx

variable {M K N r k w n : ℕ}

/-- The product of a matrix and another. -/
def dot (A : (⟨2, ![M, K]⟩ : Shape).Idx → EReal) (B : (⟨2, ![K, N]⟩ : Shape).Idx → EReal) : (⟨2, ![M, N]⟩ : Shape).Idx → EReal :=
  fun i => ∑ q : Fin K, A (ix2 (i 0) q) * B (ix2 q (i 1))

/-- What a kernel's product leaves that starts from zero. -/
theorem kernel_eq {φ₁ φ₂ : FTy} (prec : Option ContractPrecision) (A : FVec Ideal ⟨2, ![M, K]⟩ φ₁) (B : FVec Ideal ⟨2, ![K, N]⟩ φ₂) :
    matmul (DotDims.plain M K N) prec A B (constant ⟨2, ![M, N]⟩ .f32 0x00000000#32) = dot A B := by
  funext i
  refine (congrArg (matmul (DotDims.plain M K N) prec A B _) (eq_ix2 i)).trans ?_
  refine (Ideal.matmul_plain_apply prec A B _ (i 0) (i 1)).trans ?_
  exact (congrArg (· + dot A B i) Ideal.ofBits_zero_f32).trans (zero_add (dot A B i))

/-- What the reference's product leaves. -/
theorem reference_eq {φ₁ φ₂ : FTy} (prec : Option ContractPrecision) (A : FVec Ideal ⟨2, ![M, K]⟩ φ₁) (B : FVec Ideal ⟨2, ![K, N]⟩ φ₂) :
    Host.dotGeneral (DotDims.plain M K N) prec A B = dot A B := by
  funext i
  exact (congrArg (Host.dotGeneral (DotDims.plain M K N) prec A B) (eq_ix2 i)).trans (StackMember.dotGeneral_plain_apply prec A B (i 0) (i 1))

/-- A matrix with its axes exchanged. -/
def flip (A : (⟨2, ![M, K]⟩ : Shape).Idx → EReal) : (⟨2, ![K, M]⟩ : Shape).Idx → EReal := fun i => A (ix2 (i 1) (i 0))

/-- The reference's exchange of the axes. -/
theorem transpose_eq (A : (⟨2, ![M, K]⟩ : Shape).Idx → EReal) (h : (⟨2, ![M, K]⟩ : Shape).Transposes [1, 0] ⟨2, ![K, M]⟩) :
    transpose ⟨2, ![K, M]⟩ [1, 0] A h = flip A :=
  funext fun i => (congrArg (transpose ⟨2, ![K, M]⟩ [1, 0] A h) (eq_ix2 i)).trans (transpose_ix2_apply A h (i 0) (i 1))

/-- What the reference's product leaves that exchanges the right operand's axes. -/
theorem reference_right_eq (φ₁ φ₂ : FTy) (A : FVec Ideal ⟨2, ![M, K]⟩ φ₁) (B : FVec Ideal ⟨2, ![N, K]⟩ φ₂)
    (h : (⟨2, ![N, K]⟩ : Shape).Transposes [1, 0] ⟨2, ![K, N]⟩) :
    Host.dotGeneral (DotDims.plain M K N) none A (transpose ⟨2, ![K, N]⟩ [1, 0] B h : FVec Ideal ⟨2, ![K, N]⟩ φ₂) = dot A (flip B) :=
  (reference_eq none A _).trans (congrArg (dot A) (transpose_eq B h))

/-- What the reference's product leaves that exchanges the left operand's axes. -/
theorem reference_left_eq (φ₁ φ₂ : FTy) (A : FVec Ideal ⟨2, ![K, M]⟩ φ₁) (B : FVec Ideal ⟨2, ![K, N]⟩ φ₂)
    (h : (⟨2, ![K, M]⟩ : Shape).Transposes [1, 0] ⟨2, ![M, K]⟩) :
    Host.dotGeneral (DotDims.plain M K N) none (transpose ⟨2, ![M, K]⟩ [1, 0] A h : FVec Ideal ⟨2, ![M, K]⟩ φ₁) B = dot (flip A) B :=
  (reference_eq none _ B).trans (congrArg (dot · B) (transpose_eq A h))

/-- What a kernel's product leaves that takes the right operand by its rows. -/
theorem kernel_right_eq {φ₁ φ₂ : FTy} (prec : Option ContractPrecision) (A : FVec Ideal ⟨2, ![M, K]⟩ φ₁) (B : FVec Ideal ⟨2, ![N, K]⟩ φ₂) :
    matmul (DotDims.transposedRhs M K N) prec A B (constant ⟨2, ![M, N]⟩ .f32 0x00000000#32) = dot A (flip B) := by
  funext i
  refine (congrArg (matmul (DotDims.transposedRhs M K N) prec A B _) (eq_ix2 i)).trans ?_
  refine (Ideal.matmul_transposedRhs_apply prec A B _ (i 0) (i 1)).trans ?_
  exact (congrArg (· + dot A (flip B) i) Ideal.ofBits_zero_f32).trans (zero_add (dot A (flip B) i))

/-- The dimension numbers of a product that takes the left operand by its columns. -/
def leftDims (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- What a kernel's product leaves that takes the left operand by its columns. -/
theorem kernel_left_eq {φ₁ φ₂ : FTy} (prec : Option ContractPrecision) (A : FVec Ideal ⟨2, ![K, M]⟩ φ₁) (B : FVec Ideal ⟨2, ![K, N]⟩ φ₂) :
    matmul (leftDims M K N) prec A B (constant ⟨2, ![M, N]⟩ .f32 0x00000000#32) = dot (flip A) B := by
  funext i
  refine (Ideal.matmul_apply (leftDims M K N) prec A B _ i).trans ?_
  refine (congrArg₂ (· + ·) Ideal.ofBits_zero_f32 ?_).trans (zero_add (dot (flip A) B i))
  refine (Equiv.sum_comp (contrEquiv1 (leftDims M K N) K rfl rfl).symm _).symm.trans (Finset.sum_congr rfl fun q _ => ?_)
  have hq := contrEquiv1_symm_val (leftDims M K N) K rfl rfl q
  refine congrArg₂ (· * ·) (congrArg A ?_) (congrArg B ?_)
  all_goals
    funext a
    apply Fin.ext
    match a with
    | ⟨0, _⟩ => exact hq
    | ⟨1, _⟩ => rfl

/-- A block of a matrix whose corner stands at row `x` and column `z`. -/
def Reads (a : (⟨2, ![r, k]⟩ : Shape).Idx → EReal) (A : (⟨2, ![M, K]⟩ : Shape).Idx → EReal) (x z : ℕ) : Prop :=
  ∀ p, ∃ q, a p = A q ∧ (q 0 : ℕ) = x + p 0 ∧ (q 1 : ℕ) = z + p 1

/-- The block with its axes exchanged. -/
theorem Reads.flip {a : (⟨2, ![r, k]⟩ : Shape).Idx → EReal} {A : (⟨2, ![M, K]⟩ : Shape).Idx → EReal} {x z : ℕ} (h : Reads a A x z) :
    Reads (Product.flip a) (Product.flip A) z x := fun p => by
  obtain ⟨q, e, h0, h1⟩ := h (ix2 (p 1) (p 0))
  exact ⟨ix2 (q 1) (q 0), e.trans (congrArg A (eq_ix2 q)), h1, h0⟩

/-- An entry of a block. -/
theorem Reads.apply {a : (⟨2, ![r, k]⟩ : Shape).Idx → EReal} {A : (⟨2, ![M, K]⟩ : Shape).Idx → EReal} {x z : ℕ} (h : Reads a A x z)
    {p : (⟨2, ![r, k]⟩ : Shape).Idx} {i : (⟨2, ![M, K]⟩ : Shape).Idx} (h0 : (i 0 : ℕ) = x + p 0) (h1 : (i 1 : ℕ) = z + p 1) : a p = A i := by
  obtain ⟨q, e, q0, q1⟩ := h p
  refine e.trans (congrArg A (funext fun b => Fin.ext ?_))
  match b with
  | ⟨0, _⟩ => exact q0.trans h0.symm
  | ⟨1, _⟩ => exact q1.trans h1.symm

/-- The products of the stretches of the inner axis add up to the whole product. -/
theorem dot_stretches {A : (⟨2, ![M, K]⟩ : Shape).Idx → EReal} {B : (⟨2, ![K, N]⟩ : Shape).Idx → EReal}
    {a : Fin n → (⟨2, ![r, k]⟩ : Shape).Idx → EReal} {b : Fin n → (⟨2, ![k, w]⟩ : Shape).Idx → EReal}
    (y : (⟨2, ![r, w]⟩ : Shape).Idx) (i : (⟨2, ![M, N]⟩ : Shape).Idx) (hK : K = n * k)
    (hA : ∀ s p q, p 0 = y 0 → q 0 = i 0 → (q 1 : ℕ) = s.val * k + p 1 → a s p = A q)
    (hB : ∀ s p q, p 1 = y 1 → q 1 = i 1 → (q 0 : ℕ) = s.val * k + p 0 → b s p = B q) :
    ∑ s : Fin n, dot (a s) (b s) y = dot A B i :=
  Fin.sum_mul_add_congr (fun s q hl => congrArg₂ (· * ·) (hA s _ _ rfl rfl rfl) (hB s _ _ rfl rfl rfl)) hK

/-- The products of the blocks along a row and a column of blocks add up to the entries of the whole product. -/
theorem dot_blocks {A : (⟨2, ![M, K]⟩ : Shape).Idx → EReal} {B : (⟨2, ![K, N]⟩ : Shape).Idx → EReal}
    {a : Fin n → (⟨2, ![r, k]⟩ : Shape).Idx → EReal} {b : Fin n → (⟨2, ![k, w]⟩ : Shape).Idx → EReal} {x z : ℕ}
    {y : (⟨2, ![r, w]⟩ : Shape).Idx} {i : (⟨2, ![M, N]⟩ : Shape).Idx} (hK : K = n * k)
    (hA : ∀ s, Reads (a s) A x (s.val * k)) (hB : ∀ s, Reads (b s) B (s.val * k) z)
    (h0 : (i 0 : ℕ) = x + y 0) (h1 : (i 1 : ℕ) = z + y 1) : ∑ s : Fin n, dot (a s) (b s) y = dot A B i :=
  dot_stretches y i hK
    (fun s _ _ hp hq hs => (hA s).apply ((congrArg Fin.val hq).trans (h0.trans (congrArg (x + ·) (congrArg Fin.val hp).symm))) hs)
    (fun s _ _ hp hq hs => (hB s).apply hs ((congrArg Fin.val hq).trans (h1.trans (congrArg (z + ·) (congrArg Fin.val hp).symm))))

/-- The same where the blocks hold the whole inner axis. -/
theorem dot_block {A : (⟨2, ![M, K]⟩ : Shape).Idx → EReal} {B : (⟨2, ![K, N]⟩ : Shape).Idx → EReal}
    {a : (⟨2, ![r, K]⟩ : Shape).Idx → EReal} {b : (⟨2, ![K, w]⟩ : Shape).Idx → EReal} {x z : ℕ}
    {y : (⟨2, ![r, w]⟩ : Shape).Idx} {i : (⟨2, ![M, N]⟩ : Shape).Idx} (hA : Reads a A x 0) (hB : Reads b B 0 z)
    (h0 : (i 0 : ℕ) = x + y 0) (h1 : (i 1 : ℕ) = z + y 1) : dot a b y = dot A B i :=
  Finset.sum_congr rfl fun q _ => congrArg₂ (· * ·) (hA.apply h0 (zero_add _).symm) (hB.apply (zero_add _).symm h1)

/-- A block that the grid's points add up in stretches of `n` points each: at the last point of a stretch it holds the entries of the
    whole product. A stretch starts from its first product, and every later point adds its own to what the point before left. -/
theorem accumulated {T n : ℕ} [NeZero n] {A : (⟨2, ![M, K]⟩ : Shape).Idx → EReal} {B : (⟨2, ![K, N]⟩ : Shape).Idx → EReal}
    (f : (t : ℕ) → t < T → (⟨2, ![r, w]⟩ : Shape).Idx → EReal)
    (a : Fin T → (⟨2, ![r, k]⟩ : Shape).Idx → EReal) (b : Fin T → (⟨2, ![k, w]⟩ : Shape).Idx → EReal) (x z : ℕ → ℕ)
    (first : ∀ t : Fin T, t.val % n = 0 → f t.val t.isLt = dot (a t) (b t))
    (next : ∀ t : Fin T, ¬t.val % n = 0 →
      f t.val t.isLt = fun y => f (t.val - 1) (Nat.lt_of_le_of_lt (Nat.sub_le _ _) t.isLt) y + dot (a t) (b t) y)
    (hK : K = n * k) (hA : ∀ t, Reads (a t) A (x (t.val / n)) (t.val % n * k)) (hB : ∀ t, Reads (b t) B (t.val % n * k) (z (t.val / n)))
    (t : Fin T) (last : t.val % n = n - 1) {y : (⟨2, ![r, w]⟩ : Shape).Idx} {i : (⟨2, ![M, N]⟩ : Shape).Idx}
    (h0 : (i 0 : ℕ) = x (t.val / n) + y 0) (h1 : (i 1 : ℕ) = z (t.val / n) + y 1) : f t.val t.isLt y = dot A B i := by
  refine (Pipeline.eq_sum_fin_of_reset_step_apply_of_flush f n (fun _ => (0 : EReal)) (fun t => dot (a t) (b t))
    (fun t h y => (congrFun (first t h) y).trans (zero_add _).symm) (fun t h y => congrFun (next t h) y) t last y).trans ((zero_add _).trans ?_)
  have hm (s : Fin n) : (n * (t.val / n) + s.val) % n = s.val := (Nat.mul_add_mod ..).trans (Nat.mod_eq_of_lt s.isLt)
  have hd (s : Fin n) : (n * (t.val / n) + s.val) / n = t.val / n :=
    (Nat.mul_add_div (Nat.pos_of_neZero n) ..).trans (congrArg (t.val / n + ·) (Nat.div_eq_of_lt s.isLt))
  refine dot_blocks hK (fun s => ?_) (fun s => ?_) h0 h1
  · have h := hA ⟨_, Pipeline.run_point_lt_of_flush t last s⟩
    rwa [hd s, hm s] at h
  · have h := hB ⟨_, Pipeline.run_point_lt_of_flush t last s⟩
    rwa [hd s, hm s] at h

end Cert.Product

end
-- ==== Proof.ForwardProducts.lean ====
/-
  The forward pass's products with the weights: what each call leaves is the product of its whole arrays. Every call here holds the
  whole inner axis in its blocks, so a point of the grid writes its block of the product at once. `place` says where the blocks of a point stand, `final` what the
  call leaves.
-/
module

public import proofs.«01_k».proof.Defs
public import proofs.«01_k».proof.Proof.Product
public import proofs.«01_k».proof.Proof.Gen.InProj.Frame
public import proofs.«01_k».proof.Proof.Gen.InProjIdeal.Value
public import proofs.«01_k».proof.Proof.Gen.InProjReferenceIdeal.Run
public import proofs.«01_k».proof.Proof.Gen.DtProj.Frame
public import proofs.«01_k».proof.Proof.Gen.DtProjIdeal.Value
public import proofs.«01_k».proof.Proof.Gen.DtProjReferenceIdeal.Run
public import proofs.«01_k».proof.Proof.Gen.AOut.Frame
public import proofs.«01_k».proof.Proof.Gen.AOutIdeal.Value
public import proofs.«01_k».proof.Proof.Gen.AOutReferenceIdeal.Run
public import proofs.«01_k».proof.Proof.Gen.BOut.Frame
public import proofs.«01_k».proof.Proof.Gen.BOutIdeal.Value
public import proofs.«01_k».proof.Proof.Gen.BOutReferenceIdeal.Run
public import proofs.«01_k».proof.Proof.Gen.GateUp.Frame
public import proofs.«01_k».proof.Proof.Gen.GateUpIdeal.Value
public import proofs.«01_k».proof.Proof.Gen.GateUpReferenceIdeal.Run
public import proofs.«01_k».proof.Proof.Gen.Down.Frame
public import proofs.«01_k».proof.Proof.Gen.DownIdeal.Value
public import proofs.«01_k».proof.Proof.Gen.DownReferenceIdeal.Run
public import proofs.«01_k».proof.Proof.Gen.Ple.Frame
public import proofs.«01_k».proof.Proof.Gen.PleIdeal.Value
public import proofs.«01_k».proof.Proof.Gen.PleReferenceIdeal.Run
public import proofs.«01_k».proof.Proof.Gen.Gate.Frame
public import proofs.«01_k».proof.Proof.Gen.GateIdeal.Value
public import proofs.«01_k».proof.Proof.Gen.GateReferenceIdeal.Run
public import Idealize.ShloMosaic.Lib.Pipeline.ValueKit
public import Idealize.ShloMosaic.Lib.Quiescent

@[expose] public section

set_option maxRecDepth 16384

noncomputable section

namespace Cert.InProjIdeal.Whole

open Idealize.ShloMosaic Idealize.ShloMosaic.TcCoe Idealize.SL.Sem
open Cert.InProjIdeal Cert.InProjIdeal.Gen

variable (m : (ℓ : Loc nD τ sig) → Buf (Elt Ideal) ℓ) (c : Dev nD)

theorem place : ∀ t : Fin cfg0.N, win0_0.index t = ![t.1 / 9, 0] ∧ win0_1.index t = ![t.1 % 9, 0] ∧ win0_2.index t = ![t.1 / 9, t.1 % 9] :=
  (by decide +kernel : ∀ t : Fin grid0.N, _)

theorem final : (dats m 0 c).arrAt 2 cfg0.N
    = Product.dot (m ((c : Thread nD τ).loc main_arg0)) (Product.flip (m ((c : Thread nD τ).loc main_arg1))) := by
  refine (dats m 0 c).arrAt_eq_of_covers 2 _ (by decide +kernel) fun t _ y => ?_
  rw [after0_2]; frame_out
  refine (congrFun (Product.kernel_right_eq (φ₁ := .bf16) (φ₂ := .bf16) none _ _) y).trans ?_
  exact Product.dot_block (x := t.1 / 9 * 1024) (z := t.1 % 9 * 1152) (fun p => ⟨_, rfl, by blk_simp [place t], by blk_simp [place t]⟩)
    (Product.Reads.flip fun p => ⟨_, rfl, by blk_simp [place t], by blk_simp [place t]⟩) (by blk_simp [place t]) (by blk_simp [place t])

end Cert.InProjIdeal.Whole

namespace Cert.DtProjIdeal.Whole

open Idealize.ShloMosaic Idealize.ShloMosaic.TcCoe Idealize.SL.Sem
open Cert.DtProjIdeal Cert.DtProjIdeal.Gen

variable (m : (ℓ : Loc nD τ sig) → Buf (Elt Ideal) ℓ) (c : Dev nD)

theorem place : ∀ t : Fin cfg0.N, win0_0.index t = ![t.1, 0] ∧ win0_1.index t = ![0, 0] ∧ win0_2.index t = ![t.1, 0] :=
  (by decide +kernel : ∀ t : Fin grid0.N, _)

theorem final : (dats m 0 c).arrAt 2 cfg0.N
    = Product.dot (m ((c : Thread nD τ).loc main_arg0)) (Product.flip (m ((c : Thread nD τ).loc main_arg1))) := by
  refine (dats m 0 c).arrAt_eq_of_covers 2 _ (by decide +kernel) fun t _ y => ?_
  rw [after0_2]; frame_out
  refine (congrFun (Product.kernel_right_eq (φ₁ := .bf16) (φ₂ := .bf16) none _ _) y).trans ?_
  exact Product.dot_block (x := t.1 * 1024) (z := 0) (fun p => ⟨_, rfl, by blk_simp [place t], by blk_simp [place t]⟩)
    (Product.Reads.flip fun p => ⟨_, rfl, by blk_simp [place t], by blk_simp [place t]⟩) (by blk_simp [place t]) (by blk_simp [place t])

end Cert.DtProjIdeal.Whole

namespace Cert.AOutIdeal.Whole

open Idealize.ShloMosaic Idealize.ShloMosaic.TcCoe Idealize.SL.Sem
open Cert.AOutIdeal Cert.AOutIdeal.Gen

variable (m : (ℓ : Loc nD τ sig) → Buf (Elt Ideal) ℓ) (c : Dev nD)

theorem place : ∀ t : Fin cfg0.N, win0_0.index t = ![t.1, 0] ∧ win0_1.index t = ![0, 0] ∧ win0_2.index t = ![t.1, 0] :=
  (by decide +kernel : ∀ t : Fin grid0.N, _)

theorem final : (dats m 0 c).arrAt 2 cfg0.N
    = Product.dot (m ((c : Thread nD τ).loc main_arg0)) (m ((c : Thread nD τ).loc main_arg1)) := by
  refine (dats m 0 c).arrAt_eq_of_covers 2 _ (by decide +kernel) fun t _ y => ?_
  rw [after0_2]; frame_out
  refine (congrFun (Product.kernel_eq (φ₁ := .bf16) (φ₂ := .bf16) none _ _) y).trans ?_
  exact Product.dot_block (x := t.1 * 1024) (z := 0) (fun p => ⟨_, rfl, by blk_simp [place t], by blk_simp [place t]⟩)
    (fun p => ⟨_, rfl, by blk_simp [place t], by blk_simp [place t]⟩) (by blk_simp [place t]) (by blk_simp [place t])

end Cert.AOutIdeal.Whole

namespace Cert.BOutIdeal.Whole

open Idealize.ShloMosaic Idealize.ShloMosaic.TcCoe Idealize.SL.Sem
open Cert.BOutIdeal Cert.BOutIdeal.Gen

variable (m : (ℓ : Loc nD τ sig) → Buf (Elt Ideal) ℓ) (c : Dev nD)

theorem place : ∀ t : Fin cfg0.N, win0_0.index t = ![t.1, 0] ∧ win0_1.index t = ![0, 0] ∧ win0_2.index t = ![t.1, 0] :=
  (by decide +kernel : ∀ t : Fin grid0.N, _)

theorem final : (dats m 0 c).arrAt 2 cfg0.N
    = Product.dot (m ((c : Thread nD τ).loc main_arg0)) (m ((c : Thread nD τ).loc main_arg1)) := by
  refine (dats m 0 c).arrAt_eq_of_covers 2 _ (by decide +kernel) fun t _ y => ?_
  rw [after0_2]; frame_out
  refine (congrFun (Product.kernel_eq (φ₁ := .bf16) (φ₂ := .bf16) none _ _) y).trans ?_
  exact Product.dot_block (x := t.1 * 1024) (z := 0) (fun p => ⟨_, rfl, by blk_simp [place t], by blk_simp [place t]⟩)
    (fun p => ⟨_, rfl, by blk_simp [place t], by blk_simp [place t]⟩) (by blk_simp [place t]) (by blk_simp [place t])

end Cert.BOutIdeal.Whole

namespace Cert.GateUpIdeal.Whole

open Idealize.ShloMosaic Idealize.ShloMosaic.TcCoe Idealize.SL.Sem
open Cert.GateUpIdeal Cert.GateUpIdeal.Gen

variable (m : (ℓ : Loc nD τ sig) → Buf (Elt Ideal) ℓ) (c : Dev nD)

theorem place : ∀ t : Fin cfg0.N, win0_0.index t = ![t.1 / 4, 0] ∧ win0_1.index t = ![t.1 % 4, 0] ∧ win0_2.index t = ![t.1 / 4, t.1 % 4] :=
  (by decide +kernel : ∀ t : Fin grid0.N, _)

theorem final : (dats m 0 c).arrAt 2 cfg0.N
    = Product.dot (m ((c : Thread nD τ).loc main_arg0)) (Product.flip (m ((c : Thread nD τ).loc main_arg1))) := by
  refine (dats m 0 c).arrAt_eq_of_covers 2 _ (by decide +kernel) fun t _ y => ?_
  rw [after0_2]; frame_out
  refine (congrFun (Product.kernel_right_eq (φ₁ := .bf16) (φ₂ := .bf16) none _ _) y).trans ?_
  exact Product.dot_block (x := t.1 / 4 * 1024) (z := t.1 % 4 * 1408) (fun p => ⟨_, rfl, by blk_simp [place t], by blk_simp [place t]⟩)
    (Product.Reads.flip fun p => ⟨_, rfl, by blk_simp [place t], by blk_simp [place t]⟩) (by blk_simp [place t]) (by blk_simp [place t])

end Cert.GateUpIdeal.Whole

namespace Cert.DownIdeal.Whole

open Idealize.ShloMosaic Idealize.ShloMosaic.TcCoe Idealize.SL.Sem
open Cert.DownIdeal Cert.DownIdeal.Gen

variable (m : (ℓ : Loc nD τ sig) → Buf (Elt Ideal) ℓ) (c : Dev nD)

theorem place : ∀ t : Fin cfg0.N, win0_0.index t = ![t.1, 0] ∧ win0_1.index t = ![0, 0] ∧ win0_2.index t = ![t.1, 0] :=
  (by decide +kernel : ∀ t : Fin grid0.N, _)

theorem final : (dats m 0 c).arrAt 2 cfg0.N
    = Product.dot (m ((c : Thread nD τ).loc main_arg0)) (m ((c : Thread nD τ).loc main_arg1)) := by
  refine (dats m 0 c).arrAt_eq_of_covers 2 _ (by decide +kernel) fun t _ y => ?_
  rw [after0_2]; frame_out
  refine (congrFun (Product.kernel_eq (φ₁ := .bf16) (φ₂ := .bf16) none _ _) y).trans ?_
  exact Product.dot_block (x := t.1 * 1024) (z := 0) (fun p => ⟨_, rfl, by blk_simp [place t], by blk_simp [place t]⟩)
    (fun p => ⟨_, rfl, by blk_simp [place t], by blk_simp [place t]⟩) (by blk_simp [place t]) (by blk_simp [place t])

end Cert.DownIdeal.Whole

namespace Cert.PleIdeal.Whole

open Idealize.ShloMosaic Idealize.ShloMosaic.TcCoe Idealize.SL.Sem
open Cert.PleIdeal Cert.PleIdeal.Gen

variable (m : (ℓ : Loc nD τ sig) → Buf (Elt Ideal) ℓ) (c : Dev nD)

theorem place : ∀ t : Fin cfg0.N, win0_0.index t = ![t.1, 0] ∧ win0_1.index t = ![0, 0] ∧ win0_2.index t = ![t.1, 0] :=
  (by decide +kernel : ∀ t : Fin grid0.N, _)

theorem final : (dats m 0 c).arrAt 2 cfg0.N
    = Product.dot (m ((c : Thread nD τ).loc main_arg0)) (m ((c : Thread nD τ).loc main_arg1)) := by
  refine (dats m 0 c).arrAt_eq_of_covers 2 _ (by decide +kernel) fun t _ y => ?_
  rw [after0_2]; frame_out
  refine (congrFun (Product.kernel_eq (φ₁ := .bf16) (φ₂ := .bf16) none _ _) y).trans ?_
  exact Product.dot_block (x := t.1 * 1024) (z := 0) (fun p => ⟨_, rfl, by blk_simp [place t], by blk_simp [place t]⟩)
    (fun p => ⟨_, rfl, by blk_simp [place t], by blk_simp [place t]⟩) (by blk_simp [place t]) (by blk_simp [place t])

end Cert.PleIdeal.Whole

namespace Cert.GateIdeal.Whole

open Idealize.ShloMosaic Idealize.ShloMosaic.TcCoe Idealize.SL.Sem
open Cert.GateIdeal Cert.GateIdeal.Gen

variable (m : (ℓ : Loc nD τ sig) → Buf (Elt Ideal) ℓ) (c : Dev nD)

theorem place : ∀ t : Fin cfg0.N, win0_0.index t = ![t.1, 0] ∧ win0_1.index t = ![0, 0] ∧ win0_2.index t = ![t.1, 0] :=
  (by decide +kernel : ∀ t : Fin grid0.N, _)

theorem final : (dats m 0 c).arrAt 2 cfg0.N
    = Product.dot (m ((c : Thread nD τ).loc main_arg0)) (m ((c : Thread nD τ).loc main_arg1)) := by
  refine (dats m 0 c).arrAt_eq_of_covers 2 _ (by decide +kernel) fun t _ y => ?_
  rw [after0_2]; frame_out
  refine (congrFun (Product.kernel_eq (φ₁ := .bf16) (φ₂ := .bf16) none _ _) y).trans ?_
  exact Product.dot_block (x := t.1 * 1024) (z := 0) (fun p => ⟨_, rfl, by blk_simp [place t], by blk_simp [place t]⟩)
    (fun p => ⟨_, rfl, by blk_simp [place t], by blk_simp [place t]⟩) (by blk_simp [place t]) (by blk_simp [place t])

end Cert.GateIdeal.Whole

namespace Cert

open Idealize.ShloMosaic Idealize.SL.Sem

theorem frame_InProj : quiescent_InProj := fun m ρ _ => InProj.Gen.frame m ρ
theorem frame_InProjIdeal : quiescent_InProjIdeal := fun m ρ _ => InProjIdeal.Gen.frame m ρ
theorem frame_InProjReferenceIdeal : quiescent_InProjReferenceIdeal := fun m ρ _ =>
  (θ_run InProjReferenceIdeal.defs _ _).mono (fun _ h => ⟨fun c => (h c).2, sem_eq_zero_of_no_sems (by rfl) _⟩)
    (InProjReferenceIdeal.Value.run (F := Ideal) m ρ)

theorem algebraic_InProj : algebraic_InProjIdeal_InProjReferenceIdeal := fun m g m' g' _ hA =>
  ⟨_,
    (θ_run InProjIdeal.defs _ _).mono (fun _ h c => ⟨(h c).1.trans (InProjIdeal.Whole.final m c), (h c).2⟩)
      (InProjIdeal.Value.run_blocks (F := Ideal) m g),
    (θ_run InProjReferenceIdeal.defs _ _).mono (fun _ h c => by
      refine ⟨(h c).1.trans ?_, (h c).2⟩
      rw [(hA c).1, (hA c).2]
      exact Product.reference_right_eq .f32 .bf16 _ _ _)
      (InProjReferenceIdeal.Value.run (F := Ideal) m' g')⟩

theorem frame_DtProj : quiescent_DtProj := fun m ρ _ => DtProj.Gen.frame m ρ
theorem frame_DtProjIdeal : quiescent_DtProjIdeal := fun m ρ _ => DtProjIdeal.Gen.frame m ρ
theorem frame_DtProjReferenceIdeal : quiescent_DtProjReferenceIdeal := fun m ρ _ =>
  (θ_run DtProjReferenceIdeal.defs _ _).mono (fun _ h => ⟨fun c => (h c).2, sem_eq_zero_of_no_sems (by rfl) _⟩)
    (DtProjReferenceIdeal.Value.run (F := Ideal) m ρ)

theorem algebraic_DtProj : algebraic_DtProjIdeal_DtProjReferenceIdeal := fun m g m' g' _ hA =>
  ⟨_,
    (θ_run DtProjIdeal.defs _ _).mono (fun _ h c => ⟨(h c).1.trans (DtProjIdeal.Whole.final m c), (h c).2⟩)
      (DtProjIdeal.Value.run_blocks (F := Ideal) m g),
    (θ_run DtProjReferenceIdeal.defs _ _).mono (fun _ h c => by
      refine ⟨(h c).1.trans ?_, (h c).2⟩
      rw [(hA c).1, (hA c).2]
      exact Product.reference_right_eq .f32 .bf16 _ _ _)
      (DtProjReferenceIdeal.Value.run (F := Ideal) m' g')⟩

theorem frame_AOut : quiescent_AOut := fun m ρ _ => AOut.Gen.frame m ρ
theorem frame_AOutIdeal : quiescent_AOutIdeal := fun m ρ _ => AOutIdeal.Gen.frame m ρ
theorem frame_AOutReferenceIdeal : quiescent_AOutReferenceIdeal := fun m ρ _ =>
  (θ_run AOutReferenceIdeal.defs _ _).mono (fun _ h => ⟨fun c => (h c).2, sem_eq_zero_of_no_sems (by rfl) _⟩)
    (AOutReferenceIdeal.Value.run (F := Ideal) m ρ)

theorem algebraic_AOut : algebraic_AOutIdeal_AOutReferenceIdeal := fun m g m' g' _ hA =>
  ⟨_,
    (θ_run AOutIdeal.defs _ _).mono (fun _ h c => ⟨(h c).1.trans (AOutIdeal.Whole.final m c), (h c).2⟩)
      (AOutIdeal.Value.run_blocks (F := Ideal) m g),
    (θ_run AOutReferenceIdeal.defs _ _).mono (fun _ h c => by
      refine ⟨(h c).1.trans ?_, (h c).2⟩
      rw [(hA c).1, (hA c).2]
      exact Product.reference_eq (φ₁ := .bf16) (φ₂ := .bf16) none _ _)
      (AOutReferenceIdeal.Value.run (F := Ideal) m' g')⟩

theorem frame_BOut : quiescent_BOut := fun m ρ _ => BOut.Gen.frame m ρ
theorem frame_BOutIdeal : quiescent_BOutIdeal := fun m ρ _ => BOutIdeal.Gen.frame m ρ
theorem frame_BOutReferenceIdeal : quiescent_BOutReferenceIdeal := fun m ρ _ =>
  (θ_run BOutReferenceIdeal.defs _ _).mono (fun _ h => ⟨fun c => (h c).2, sem_eq_zero_of_no_sems (by rfl) _⟩)
    (BOutReferenceIdeal.Value.run (F := Ideal) m ρ)

theorem algebraic_BOut : algebraic_BOutIdeal_BOutReferenceIdeal := fun m g m' g' _ hA =>
  ⟨_,
    (θ_run BOutIdeal.defs _ _).mono (fun _ h c => ⟨(h c).1.trans (BOutIdeal.Whole.final m c), (h c).2⟩)
      (BOutIdeal.Value.run_blocks (F := Ideal) m g),
    (θ_run BOutReferenceIdeal.defs _ _).mono (fun _ h c => by
      refine ⟨(h c).1.trans ?_, (h c).2⟩
      rw [(hA c).1, (hA c).2]
      exact Product.reference_eq (φ₁ := .bf16) (φ₂ := .bf16) none _ _)
      (BOutReferenceIdeal.Value.run (F := Ideal) m' g')⟩

theorem frame_GateUp : quiescent_GateUp := fun m ρ _ => GateUp.Gen.frame m ρ
theorem frame_GateUpIdeal : quiescent_GateUpIdeal := fun m ρ _ => GateUpIdeal.Gen.frame m ρ
theorem frame_GateUpReferenceIdeal : quiescent_GateUpReferenceIdeal := fun m ρ _ =>
  (θ_run GateUpReferenceIdeal.defs _ _).mono (fun _ h => ⟨fun c => (h c).2, sem_eq_zero_of_no_sems (by rfl) _⟩)
    (GateUpReferenceIdeal.Value.run (F := Ideal) m ρ)

theorem algebraic_GateUp : algebraic_GateUpIdeal_GateUpReferenceIdeal := fun m g m' g' _ hA =>
  ⟨_,
    (θ_run GateUpIdeal.defs _ _).mono (fun _ h c => ⟨(h c).1.trans (GateUpIdeal.Whole.final m c), (h c).2⟩)
      (GateUpIdeal.Value.run_blocks (F := Ideal) m g),
    (θ_run GateUpReferenceIdeal.defs _ _).mono (fun _ h c => by
      refine ⟨(h c).1.trans ?_, (h c).2⟩
      rw [(hA c).1, (hA c).2]
      exact Product.reference_right_eq .f32 .bf16 _ _ _)
      (GateUpReferenceIdeal.Value.run (F := Ideal) m' g')⟩

theorem frame_Down : quiescent_Down := fun m ρ _ => Down.Gen.frame m ρ
theorem frame_DownIdeal : quiescent_DownIdeal := fun m ρ _ => DownIdeal.Gen.frame m ρ
theorem frame_DownReferenceIdeal : quiescent_DownReferenceIdeal := fun m ρ _ =>
  (θ_run DownReferenceIdeal.defs _ _).mono (fun _ h => ⟨fun c => (h c).2, sem_eq_zero_of_no_sems (by rfl) _⟩)
    (DownReferenceIdeal.Value.run (F := Ideal) m ρ)

theorem algebraic_Down : algebraic_DownIdeal_DownReferenceIdeal := fun m g m' g' _ hA =>
  ⟨_,
    (θ_run DownIdeal.defs _ _).mono (fun _ h c => ⟨(h c).1.trans (DownIdeal.Whole.final m c), (h c).2⟩)
      (DownIdeal.Value.run_blocks (F := Ideal) m g),
    (θ_run DownReferenceIdeal.defs _ _).mono (fun _ h c => by
      refine ⟨(h c).1.trans ?_, (h c).2⟩
      rw [(hA c).1, (hA c).2]
      exact Product.reference_eq (φ₁ := .bf16) (φ₂ := .bf16) none _ _)
      (DownReferenceIdeal.Value.run (F := Ideal) m' g')⟩

theorem frame_Ple : quiescent_Ple := fun m ρ _ => Ple.Gen.frame m ρ
theorem frame_PleIdeal : quiescent_PleIdeal := fun m ρ _ => PleIdeal.Gen.frame m ρ
theorem frame_PleReferenceIdeal : quiescent_PleReferenceIdeal := fun m ρ _ =>
  (θ_run PleReferenceIdeal.defs _ _).mono (fun _ h => ⟨fun c => (h c).2, sem_eq_zero_of_no_sems (by rfl) _⟩)
    (PleReferenceIdeal.Value.run (F := Ideal) m ρ)

theorem algebraic_Ple : algebraic_PleIdeal_PleReferenceIdeal := fun m g m' g' _ hA =>
  ⟨_,
    (θ_run PleIdeal.defs _ _).mono (fun _ h c => ⟨(h c).1.trans (PleIdeal.Whole.final m c), (h c).2⟩)
      (PleIdeal.Value.run_blocks (F := Ideal) m g),
    (θ_run PleReferenceIdeal.defs _ _).mono (fun _ h c => by
      refine ⟨(h c).1.trans ?_, (h c).2⟩
      rw [(hA c).1, (hA c).2]
      exact Product.reference_eq (φ₁ := .f32) (φ₂ := .bf16) none _ _)
      (PleReferenceIdeal.Value.run (F := Ideal) m' g')⟩

theorem frame_Gate : quiescent_Gate := fun m ρ _ => Gate.Gen.frame m ρ
theorem frame_GateIdeal : quiescent_GateIdeal := fun m ρ _ => GateIdeal.Gen.frame m ρ
theorem frame_GateReferenceIdeal : quiescent_GateReferenceIdeal := fun m ρ _ =>
  (θ_run GateReferenceIdeal.defs _ _).mono (fun _ h => ⟨fun c => (h c).2, sem_eq_zero_of_no_sems (by rfl) _⟩)
    (GateReferenceIdeal.Value.run (F := Ideal) m ρ)

theorem algebraic_Gate : algebraic_GateIdeal_GateReferenceIdeal := fun m g m' g' _ hA =>
  ⟨_,
    (θ_run GateIdeal.defs _ _).mono (fun _ h c => ⟨(h c).1.trans (GateIdeal.Whole.final m c), (h c).2⟩)
      (GateIdeal.Value.run_blocks (F := Ideal) m g),
    (θ_run GateReferenceIdeal.defs _ _).mono (fun _ h c => by
      refine ⟨(h c).1.trans ?_, (h c).2⟩
      rw [(hA c).1, (hA c).2]
      exact Product.reference_eq (φ₁ := .f32) (φ₂ := .bf16) none _ _)
      (GateReferenceIdeal.Value.run (F := Ideal) m' g')⟩

end Cert

end
-- ==== Proof.BackwardProducts.lean ====
/-
  The backward pass's products of a gradient with a weight: the gradients of the layers' inner arrays. `GateUpX` walks its inner axis in
  two stretches and `GradX` in three, and both add them up in a scratch block. The others hold the whole inner axis
  in their blocks. `first` and `next` say what the points of a stretch leave in the scratch block, `place` where their blocks stand.
-/
module

public import proofs.«01_k».proof.Defs
public import proofs.«01_k».proof.Proof.Product
public import proofs.«01_k».proof.Proof.Gen.GateX.Frame
public import proofs.«01_k».proof.Proof.Gen.GateXIdeal.Value
public import proofs.«01_k».proof.Proof.Gen.GateXReferenceIdeal.Run
public import proofs.«01_k».proof.Proof.Gen.DownX.Frame
public import proofs.«01_k».proof.Proof.Gen.DownXIdeal.Value
public import proofs.«01_k».proof.Proof.Gen.DownXReferenceIdeal.Run
public import proofs.«01_k».proof.Proof.Gen.OutX.Frame
public import proofs.«01_k».proof.Proof.Gen.OutXIdeal.Value
public import proofs.«01_k».proof.Proof.Gen.OutXReferenceIdeal.Run
public import proofs.«01_k».proof.Proof.Gen.BOutX.Frame
public import proofs.«01_k».proof.Proof.Gen.BOutXIdeal.Value
public import proofs.«01_k».proof.Proof.Gen.BOutXReferenceIdeal.Run
public import proofs.«01_k».proof.Proof.Gen.GateUpX.Frame
public import proofs.«01_k».proof.Proof.Gen.GateUpXIdeal.Value
public import proofs.«01_k».proof.Proof.Gen.GateUpXReferenceIdeal.Run
public import proofs.«01_k».proof.Proof.Gen.GradX.Frame
public import proofs.«01_k».proof.Proof.Gen.GradXIdeal.Value
public import proofs.«01_k».proof.Proof.Gen.GradXReferenceIdeal.Run
public import Idealize.ShloMosaic.Lib.Pipeline.ValueKit
public import Idealize.ShloMosaic.Lib.Quiescent

@[expose] public section

set_option maxRecDepth 16384

noncomputable section

namespace Cert.GateXIdeal.Whole

open Idealize.ShloMosaic Idealize.ShloMosaic.TcCoe Idealize.SL.Sem
open Cert.GateXIdeal Cert.GateXIdeal.Gen

variable (m : (ℓ : Loc nD τ sig) → Buf (Elt Ideal) ℓ) (c : Dev nD)

theorem place : ∀ t : Fin cfg0.N, win0_0.index t = ![t.1, 0] ∧ win0_1.index t = ![0, 0] ∧ win0_2.index t = ![t.1, 0] ∧ win0_3.index t = ![t.1, 0] :=
  (by decide +kernel : ∀ t : Fin grid0.N, _)

theorem final : (dats m 0 c).arrAt 3 cfg0.N
    = addf (F := Ideal) (φ := .f32) (Product.dot (m ((c : Thread nD τ).loc main_arg0)) (Product.flip (m ((c : Thread nD τ).loc main_arg1))))
      (m ((c : Thread nD τ).loc main_arg2)) := by
  refine (dats m 0 c).arrAt_eq_of_covers 3 _ (by decide +kernel) fun t _ y => ?_
  rw [after0_3]; frame_out
  refine congrArg₂ (· + ·) ((congrFun (Product.kernel_right_eq (φ₁ := .bf16) (φ₂ := .bf16) none _ _) y).trans ?_) (by blk_ext [iblk, V, place t])
  exact Product.dot_block (x := t.1 * 1024) (z := 0) (fun p => ⟨_, rfl, by blk_simp [place t], by blk_simp [place t]⟩)
    (Product.Reads.flip fun p => ⟨_, rfl, by blk_simp [place t], by blk_simp [place t]⟩) (by blk_simp [place t]) (by blk_simp [place t])

end Cert.GateXIdeal.Whole

namespace Cert.DownXIdeal.Whole

open Idealize.ShloMosaic Idealize.ShloMosaic.TcCoe Idealize.SL.Sem
open Cert.DownXIdeal Cert.DownXIdeal.Gen

variable (m : (ℓ : Loc nD τ sig) → Buf (Elt Ideal) ℓ) (c : Dev nD)

theorem place : ∀ t : Fin cfg0.N, win0_0.index t = ![t.1 / 2, 0] ∧ win0_1.index t = ![t.1 % 2, 0] ∧ win0_2.index t = ![t.1 / 2, t.1 % 2] :=
  (by decide +kernel : ∀ t : Fin grid0.N, _)

theorem final : (dats m 0 c).arrAt 2 cfg0.N
    = Product.dot (m ((c : Thread nD τ).loc main_arg0)) (Product.flip (m ((c : Thread nD τ).loc main_arg1))) := by
  refine (dats m 0 c).arrAt_eq_of_covers 2 _ (by decide +kernel) fun t _ y => ?_
  rw [after0_2]; frame_out
  refine (congrFun (Product.kernel_right_eq (φ₁ := .bf16) (φ₂ := .bf16) none _ _) y).trans ?_
  exact Product.dot_block (x := t.1 / 2 * 1024) (z := t.1 % 2 * 1408) (fun p => ⟨_, rfl, by blk_simp [place t], by blk_simp [place t]⟩)
    (Product.Reads.flip fun p => ⟨_, rfl, by blk_simp [place t], by blk_simp [place t]⟩) (by blk_simp [place t]) (by blk_simp [place t])

end Cert.DownXIdeal.Whole

namespace Cert.OutXIdeal.Whole

open Idealize.ShloMosaic Idealize.ShloMosaic.TcCoe Idealize.SL.Sem
open Cert.OutXIdeal Cert.OutXIdeal.Gen

variable (m : (ℓ : Loc nD τ sig) → Buf (Elt Ideal) ℓ) (c : Dev nD)

theorem place : ∀ t : Fin cfg0.N, win0_0.index t = ![t.1, 0] ∧ win0_1.index t = ![0, 0] ∧ win0_2.index t = ![t.1, 0] :=
  (by decide +kernel : ∀ t : Fin grid0.N, _)

theorem final : (dats m 0 c).arrAt 2 cfg0.N
    = Product.dot (m ((c : Thread nD τ).loc main_arg0)) (Product.flip (m ((c : Thread nD τ).loc main_arg1))) := by
  refine (dats m 0 c).arrAt_eq_of_covers 2 _ (by decide +kernel) fun t _ y => ?_
  rw [after0_2]; frame_out
  refine (congrFun (Product.kernel_right_eq (φ₁ := .bf16) (φ₂ := .bf16) none _ _) y).trans ?_
  exact Product.dot_block (x := t.1 * 1024) (z := 0) (fun p => ⟨_, rfl, by blk_simp [place t], by blk_simp [place t]⟩)
    (Product.Reads.flip fun p => ⟨_, rfl, by blk_simp [place t], by blk_simp [place t]⟩) (by blk_simp [place t]) (by blk_simp [place t])

end Cert.OutXIdeal.Whole

namespace Cert.BOutXIdeal.Whole

open Idealize.ShloMosaic Idealize.ShloMosaic.TcCoe Idealize.SL.Sem
open Cert.BOutXIdeal Cert.BOutXIdeal.Gen

variable (m : (ℓ : Loc nD τ sig) → Buf (Elt Ideal) ℓ) (c : Dev nD)

theorem place : ∀ t : Fin cfg0.N, win0_0.index t = ![t.1 / 2, 0] ∧ win0_1.index t = ![t.1 % 2, 0] ∧ win0_2.index t = ![t.1 / 2, t.1 % 2] :=
  (by decide +kernel : ∀ t : Fin grid0.N, _)

theorem final : (dats m 0 c).arrAt 2 cfg0.N
    = Product.dot (m ((c : Thread nD τ).loc main_arg0)) (Product.flip (m ((c : Thread nD τ).loc main_arg1))) := by
  refine (dats m 0 c).arrAt_eq_of_covers 2 _ (by decide +kernel) fun t _ y => ?_
  rw [after0_2]; frame_out
  refine (congrFun (Product.kernel_right_eq (φ₁ := .bf16) (φ₂ := .bf16) none _ _) y).trans ?_
  exact Product.dot_block (x := t.1 / 2 * 1024) (z := t.1 % 2 * 1024) (fun p => ⟨_, rfl, by blk_simp [place t], by blk_simp [place t]⟩)
    (Product.Reads.flip fun p => ⟨_, rfl, by blk_simp [place t], by blk_simp [place t]⟩) (by blk_simp [place t]) (by blk_simp [place t])

end Cert.BOutXIdeal.Whole

namespace Cert.GateUpXIdeal.Whole

open Idealize.ShloMosaic Idealize.ShloMosaic.TcCoe Idealize.SL.Sem
open Cert.GateUpXIdeal Cert.GateUpXIdeal.Gen

variable (m : (ℓ : Loc nD τ sig) → Buf (Elt Ideal) ℓ) (c : Dev nD)

theorem part_eq (t : Fin cfg0.N) : k0_pay1 (iblk m c 0 t) (iblk m c 1 t) = Product.dot (iblk m c 0 t) (iblk m c 1 t) :=
  Product.kernel_eq (φ₁ := .bf16) (φ₂ := .bf16) none _ _

theorem first (t : Fin cfg0.N) (h : t.val % 2 = 0) : (outsAt0 m c t.val t.isLt).2 = Product.dot (iblk m c 0 t) (iblk m c 1 t) := by
  rw [outsAt0_A m c t h (by omega) (by omega)]; frame_out
  exact (shapeCast_self _ _).trans (part_eq m c t)

theorem next (t : Fin cfg0.N) (h : ¬t.val % 2 = 0) : (outsAt0 m c t.val t.isLt).2
    = fun y => (outsAt0 m c (t.val - 1) (Nat.lt_of_le_of_lt (Nat.sub_le _ _) t.isLt)).2 y + Product.dot (iblk m c 0 t) (iblk m c 1 t) y := by
  rw [outsAt0_B m c t h (by omega) (by omega)]; frame_out
  exact (congrArg _ ((Memref.isWhole_whole _).read_unread _)).trans
    ((shapeCast_self _ _).trans (funext fun y => congrArg (_ + ·) (congrFun (part_eq m c t) y)))

theorem place : ∀ t : Fin cfg0.N, win0_0.index t = ![t.1 / 2 / 2, t.1 % 2] ∧ win0_1.index t = ![t.1 % 2, t.1 / 2 % 2]
    ∧ win0_2.index t = ![t.1 / 2 / 2, t.1 / 2 % 2] ∧ win0_3.index t = ![t.1 / 2 / 2, t.1 / 2 % 2] :=
  (by decide +kernel : ∀ t : Fin grid0.N, _)

theorem final : (dats m 0 c).arrAt 3 cfg0.N
    = addf (F := Ideal) (φ := .f32) (Product.dot (m ((c : Thread nD τ).loc main_arg0)) (m ((c : Thread nD τ).loc main_arg1)))
      (m ((c : Thread nD τ).loc main_arg2)) := by
  refine (dats m 0 c).arrAt_eq_of_covers 3 _ (by decide +kernel) fun t hf y => ?_
  have h := (flush0_3 t).mp hf
  have e : (outsAt0 m c t.val t.isLt).1 = fun y => (outsAt0 m c t.val t.isLt).2 y + iblk m c 2 t y := by
    rw [outsAt0_B m c t (by omega) (by omega) h]; frame_out; rfl
  rw [after0_3, e]
  refine congrArg₂ (· + ·) ?_ (by blk_ext [iblk, V, place t])
  exact Product.accumulated (fun t h => (outsAt0 m c t h).2) (iblk m c 0) (iblk m c 1) (· / 2 * 1024) (· % 2 * 512) (first m c) (next m c) rfl
    (fun t => fun p => ⟨_, rfl, by blk_simp [place t], by blk_simp [place t]⟩)
    (fun t p => ⟨_, rfl, by blk_simp [place t], by blk_simp [place t]⟩) t h (by blk_simp [place t]) (by blk_simp [place t])

end Cert.GateUpXIdeal.Whole

namespace Cert.GradXIdeal.Whole

open Idealize.ShloMosaic Idealize.ShloMosaic.TcCoe Idealize.SL.Sem
open Cert.GradXIdeal Cert.GradXIdeal.Gen

variable (m : (ℓ : Loc nD τ sig) → Buf (Elt Ideal) ℓ) (c : Dev nD)

theorem part_eq (t : Fin cfg0.N) : k0_pay1 (iblk m c 0 t) (iblk m c 1 t) = Product.dot (iblk m c 0 t) (iblk m c 1 t) :=
  Product.kernel_eq (φ₁ := .bf16) (φ₂ := .bf16) none _ _

theorem first (t : Fin cfg0.N) (h : t.val % 3 = 0) : (outsAt0 m c t.val t.isLt).2 = Product.dot (iblk m c 0 t) (iblk m c 1 t) := by
  rw [outsAt0_A m c t h (by omega) (by omega)]; frame_out
  exact (shapeCast_self _ _).trans (part_eq m c t)

theorem next (t : Fin cfg0.N) (h : ¬t.val % 3 = 0) : (outsAt0 m c t.val t.isLt).2
    = fun y => (outsAt0 m c (t.val - 1) (Nat.lt_of_le_of_lt (Nat.sub_le _ _) t.isLt)).2 y + Product.dot (iblk m c 0 t) (iblk m c 1 t) y := by
  by_cases h' : t.val % 3 = 2
  on_goal 1 => rw [outsAt0_C m c t h (by omega) h']
  on_goal 2 => rw [outsAt0_B m c t h (by omega) h']
  all_goals
    frame_out
    exact (congrArg _ ((Memref.isWhole_whole _).read_unread _)).trans
      ((shapeCast_self _ _).trans (funext fun y => congrArg (_ + ·) (congrFun (part_eq m c t) y)))

theorem place : ∀ t : Fin cfg0.N, win0_0.index t = ![t.1 / 3 / 2, t.1 % 3] ∧ win0_1.index t = ![t.1 % 3, t.1 / 3 % 2]
    ∧ win0_2.index t = ![t.1 / 3 / 2, t.1 / 3 % 2] ∧ win0_3.index t = ![t.1 / 3 / 2, t.1 / 3 % 2] :=
  (by decide +kernel : ∀ t : Fin grid0.N, _)

theorem final : (dats m 0 c).arrAt 3 cfg0.N
    = addf (F := Ideal) (φ := .f32) (Product.dot (m ((c : Thread nD τ).loc main_arg0)) (m ((c : Thread nD τ).loc main_arg1)))
      (m ((c : Thread nD τ).loc main_arg2)) := by
  refine (dats m 0 c).arrAt_eq_of_covers 3 _ (by decide +kernel) fun t hf y => ?_
  have h := (flush0_3 t).mp hf
  have e : (outsAt0 m c t.val t.isLt).1 = fun y => (outsAt0 m c t.val t.isLt).2 y + iblk m c 2 t y := by
    rw [outsAt0_C m c t (by omega) (by omega) h]; frame_out; rfl
  rw [after0_3, e]
  refine congrArg₂ (· + ·) ?_ (by blk_ext [iblk, V, place t])
  exact Product.accumulated (fun t h => (outsAt0 m c t h).2) (iblk m c 0) (iblk m c 1) (· / 2 * 1024) (· % 2 * 512) (first m c) (next m c) rfl
    (fun t => fun p => ⟨_, rfl, by blk_simp [place t], by blk_simp [place t]⟩)
    (fun t p => ⟨_, rfl, by blk_simp [place t], by blk_simp [place t]⟩) t h (by blk_simp [place t]) (by blk_simp [place t])

end Cert.GradXIdeal.Whole

namespace Cert

open Idealize.ShloMosaic Idealize.SL.Sem

theorem frame_GateX : quiescent_GateX := fun m ρ _ => GateX.Gen.frame m ρ
theorem frame_GateXIdeal : quiescent_GateXIdeal := fun m ρ _ => GateXIdeal.Gen.frame m ρ
theorem frame_GateXReferenceIdeal : quiescent_GateXReferenceIdeal := fun m ρ _ =>
  (θ_run GateXReferenceIdeal.defs _ _).mono (fun _ h => ⟨fun c => (h c).2, sem_eq_zero_of_no_sems (by rfl) _⟩)
    (GateXReferenceIdeal.Value.run (F := Ideal) m ρ)

theorem algebraic_GateX : algebraic_GateXIdeal_GateXReferenceIdeal := fun m g m' g' _ hA =>
  ⟨_,
    (θ_run GateXIdeal.defs _ _).mono (fun _ h c => ⟨(h c).1.trans (GateXIdeal.Whole.final m c), (h c).2⟩)
      (GateXIdeal.Value.run_blocks (F := Ideal) m g),
    (θ_run GateXReferenceIdeal.defs _ _).mono (fun _ h c => by
      refine ⟨(h c).1.trans ?_, (h c).2⟩
      rw [(hA c).1, (hA c).2.1, (hA c).2.2]
      exact congrArg (addf (F := Ideal) (φ := .f32) · _) (Product.reference_right_eq .bf16 .bf16 _ _ _))
      (GateXReferenceIdeal.Value.run (F := Ideal) m' g')⟩

theorem frame_DownX : quiescent_DownX := fun m ρ _ => DownX.Gen.frame m ρ
theorem frame_DownXIdeal : quiescent_DownXIdeal := fun m ρ _ => DownXIdeal.Gen.frame m ρ
theorem frame_DownXReferenceIdeal : quiescent_DownXReferenceIdeal := fun m ρ _ =>
  (θ_run DownXReferenceIdeal.defs _ _).mono (fun _ h => ⟨fun c => (h c).2, sem_eq_zero_of_no_sems (by rfl) _⟩)
    (DownXReferenceIdeal.Value.run (F := Ideal) m ρ)

theorem algebraic_DownX : algebraic_DownXIdeal_DownXReferenceIdeal := fun m g m' g' _ hA =>
  ⟨_,
    (θ_run DownXIdeal.defs _ _).mono (fun _ h c => ⟨(h c).1.trans (DownXIdeal.Whole.final m c), (h c).2⟩)
      (DownXIdeal.Value.run_blocks (F := Ideal) m g),
    (θ_run DownXReferenceIdeal.defs _ _).mono (fun _ h c => by
      refine ⟨(h c).1.trans ?_, (h c).2⟩
      rw [(hA c).1, (hA c).2]
      exact Product.reference_right_eq .bf16 .bf16 _ _ _)
      (DownXReferenceIdeal.Value.run (F := Ideal) m' g')⟩

theorem frame_OutX : quiescent_OutX := fun m ρ _ => OutX.Gen.frame m ρ
theorem frame_OutXIdeal : quiescent_OutXIdeal := fun m ρ _ => OutXIdeal.Gen.frame m ρ
theorem frame_OutXReferenceIdeal : quiescent_OutXReferenceIdeal := fun m ρ _ =>
  (θ_run OutXReferenceIdeal.defs _ _).mono (fun _ h => ⟨fun c => (h c).2, sem_eq_zero_of_no_sems (by rfl) _⟩)
    (OutXReferenceIdeal.Value.run (F := Ideal) m ρ)

theorem algebraic_OutX : algebraic_OutXIdeal_OutXReferenceIdeal := fun m g m' g' _ hA =>
  ⟨_,
    (θ_run OutXIdeal.defs _ _).mono (fun _ h c => ⟨(h c).1.trans (OutXIdeal.Whole.final m c), (h c).2⟩)
      (OutXIdeal.Value.run_blocks (F := Ideal) m g),
    (θ_run OutXReferenceIdeal.defs _ _).mono (fun _ h c => by
      refine ⟨(h c).1.trans ?_, (h c).2⟩
      rw [(hA c).1, (hA c).2]
      exact Product.reference_right_eq .bf16 .bf16 _ _ _)
      (OutXReferenceIdeal.Value.run (F := Ideal) m' g')⟩

theorem frame_BOutX : quiescent_BOutX := fun m ρ _ => BOutX.Gen.frame m ρ
theorem frame_BOutXIdeal : quiescent_BOutXIdeal := fun m ρ _ => BOutXIdeal.Gen.frame m ρ
theorem frame_BOutXReferenceIdeal : quiescent_BOutXReferenceIdeal := fun m ρ _ =>
  (θ_run BOutXReferenceIdeal.defs _ _).mono (fun _ h => ⟨fun c => (h c).2, sem_eq_zero_of_no_sems (by rfl) _⟩)
    (BOutXReferenceIdeal.Value.run (F := Ideal) m ρ)

theorem algebraic_BOutX : algebraic_BOutXIdeal_BOutXReferenceIdeal := fun m g m' g' _ hA =>
  ⟨_,
    (θ_run BOutXIdeal.defs _ _).mono (fun _ h c => ⟨(h c).1.trans (BOutXIdeal.Whole.final m c), (h c).2⟩)
      (BOutXIdeal.Value.run_blocks (F := Ideal) m g),
    (θ_run BOutXReferenceIdeal.defs _ _).mono (fun _ h c => by
      refine ⟨(h c).1.trans ?_, (h c).2⟩
      rw [(hA c).1, (hA c).2]
      exact Product.reference_right_eq .bf16 .bf16 _ _ _)
      (BOutXReferenceIdeal.Value.run (F := Ideal) m' g')⟩

theorem frame_GateUpX : quiescent_GateUpX := fun m ρ _ => GateUpX.Gen.frame m ρ
theorem frame_GateUpXIdeal : quiescent_GateUpXIdeal := fun m ρ _ => GateUpXIdeal.Gen.frame m ρ
theorem frame_GateUpXReferenceIdeal : quiescent_GateUpXReferenceIdeal := fun m ρ _ =>
  (θ_run GateUpXReferenceIdeal.defs _ _).mono (fun _ h => ⟨fun c => (h c).2, sem_eq_zero_of_no_sems (by rfl) _⟩)
    (GateUpXReferenceIdeal.Value.run (F := Ideal) m ρ)

theorem algebraic_GateUpX : algebraic_GateUpXIdeal_GateUpXReferenceIdeal := fun m g m' g' _ hA =>
  ⟨_,
    (θ_run GateUpXIdeal.defs _ _).mono (fun _ h c => ⟨(h c).1.trans (GateUpXIdeal.Whole.final m c), (h c).2⟩)
      (GateUpXIdeal.Value.run_blocks (F := Ideal) m g),
    (θ_run GateUpXReferenceIdeal.defs _ _).mono (fun _ h c => by
      refine ⟨(h c).1.trans ?_, (h c).2⟩
      rw [(hA c).1, (hA c).2.1, (hA c).2.2]
      exact congrArg (addf (F := Ideal) (φ := .f32) · _) (Product.reference_eq (φ₁ := .bf16) (φ₂ := .bf16) none _ _))
      (GateUpXReferenceIdeal.Value.run (F := Ideal) m' g')⟩

theorem frame_GradX : quiescent_GradX := fun m ρ _ => GradX.Gen.frame m ρ
theorem frame_GradXIdeal : quiescent_GradXIdeal := fun m ρ _ => GradXIdeal.Gen.frame m ρ
theorem frame_GradXReferenceIdeal : quiescent_GradXReferenceIdeal := fun m ρ _ =>
  (θ_run GradXReferenceIdeal.defs _ _).mono (fun _ h => ⟨fun c => (h c).2, sem_eq_zero_of_no_sems (by rfl) _⟩)
    (GradXReferenceIdeal.Value.run (F := Ideal) m ρ)

theorem algebraic_GradX : algebraic_GradXIdeal_GradXReferenceIdeal := fun m g m' g' _ hA =>
  ⟨_,
    (θ_run GradXIdeal.defs _ _).mono (fun _ h c => ⟨(h c).1.trans (GradXIdeal.Whole.final m c), (h c).2⟩)
      (GradXIdeal.Value.run_blocks (F := Ideal) m g),
    (θ_run GradXReferenceIdeal.defs _ _).mono (fun _ h c => by
      refine ⟨(h c).1.trans ?_, (h c).2⟩
      rw [(hA c).1, (hA c).2.1, (hA c).2.2]
      exact congrArg (addf (F := Ideal) (φ := .f32) · _) (Product.reference_eq (φ₁ := .bf16) (φ₂ := .bf16) none _ _))
      (GradXReferenceIdeal.Value.run (F := Ideal) m' g')⟩

end Cert

end
-- ==== Proof.WeightProducts.lean ====
/-
  The gradients of the weights: the product of a layer's array, its axes exchanged, with a gradient. Every call walks the tokens in eight
  stretches and adds them up in a scratch block. `first` and `next` say what the points of a stretch leave there, `place` where their
  blocks stand.
-/
module

public import proofs.«01_k».proof.Defs
public import proofs.«01_k».proof.Proof.Product
public import proofs.«01_k».proof.Proof.Gen.GateW.Frame
public import proofs.«01_k».proof.Proof.Gen.GateWIdeal.Value
public import proofs.«01_k».proof.Proof.Gen.GateWReferenceIdeal.Run
public import proofs.«01_k».proof.Proof.Gen.PleW.Frame
public import proofs.«01_k».proof.Proof.Gen.PleWIdeal.Value
public import proofs.«01_k».proof.Proof.Gen.PleWReferenceIdeal.Run
public import proofs.«01_k».proof.Proof.Gen.DownW.Frame
public import proofs.«01_k».proof.Proof.Gen.DownWIdeal.Value
public import proofs.«01_k».proof.Proof.Gen.DownWReferenceIdeal.Run
public import proofs.«01_k».proof.Proof.Gen.GateUpW.Frame
public import proofs.«01_k».proof.Proof.Gen.GateUpWIdeal.Value
public import proofs.«01_k».proof.Proof.Gen.GateUpWReferenceIdeal.Run
public import proofs.«01_k».proof.Proof.Gen.OutW.Frame
public import proofs.«01_k».proof.Proof.Gen.OutWIdeal.Value
public import proofs.«01_k».proof.Proof.Gen.OutWReferenceIdeal.Run
public import proofs.«01_k».proof.Proof.Gen.BOutW.Frame
public import proofs.«01_k».proof.Proof.Gen.BOutWIdeal.Value
public import proofs.«01_k».proof.Proof.Gen.BOutWReferenceIdeal.Run
public import proofs.«01_k».proof.Proof.Gen.InW.Frame
public import proofs.«01_k».proof.Proof.Gen.InWIdeal.Value
public import proofs.«01_k».proof.Proof.Gen.InWReferenceIdeal.Run
public import Idealize.ShloMosaic.Lib.Pipeline.ValueKit
public import Idealize.ShloMosaic.Lib.Quiescent

@[expose] public section

set_option maxRecDepth 16384

noncomputable section

namespace Cert.GateWIdeal.Whole

open Idealize.ShloMosaic Idealize.ShloMosaic.TcCoe Idealize.SL.Sem
open Cert.GateWIdeal Cert.GateWIdeal.Gen

variable (m : (ℓ : Loc nD τ sig) → Buf (Elt Ideal) ℓ) (c : Dev nD)

theorem part_eq (t : Fin cfg0.N) : k0_pay1 (iblk m c 0 t) (iblk m c 1 t) = Product.dot (Product.flip (iblk m c 0 t)) (iblk m c 1 t) :=
  Product.kernel_left_eq (φ₁ := .bf16) (φ₂ := .bf16) none _ _

theorem first (t : Fin cfg0.N) (h : t.val % 8 = 0) : (outsAt0 m c t.val t.isLt).2 = Product.dot (Product.flip (iblk m c 0 t)) (iblk m c 1 t) := by
  rw [outsAt0_A m c t h (by have : t.val < 8 := t.isLt; omega) (by omega)]; frame_out
  exact (shapeCast_self _ _).trans (part_eq m c t)

theorem next (t : Fin cfg0.N) (h : ¬t.val % 8 = 0) : (outsAt0 m c t.val t.isLt).2
    = fun y => (outsAt0 m c (t.val - 1) (Nat.lt_of_le_of_lt (Nat.sub_le _ _) t.isLt)).2 y + Product.dot (Product.flip (iblk m c 0 t)) (iblk m c 1 t) y := by
  by_cases h' : t.val % 8 = 7
  on_goal 1 => rw [outsAt0_C m c t h (by omega) h']
  on_goal 2 => rw [outsAt0_B m c t h (by omega) h']
  all_goals
    frame_out
    exact (congrArg _ ((Memref.isWhole_whole _).read_unread _)).trans
      ((shapeCast_self _ _).trans (funext fun y => congrArg (_ + ·) (congrFun (part_eq m c t) y)))

theorem place : ∀ t : Fin cfg0.N, win0_0.index t = ![t.1 % 8, 0] ∧ win0_1.index t = ![t.1 % 8, 0] ∧ win0_2.index t = ![0, 0] :=
  (by decide +kernel : ∀ t : Fin grid0.N, _)

theorem final : (dats m 0 c).arrAt 2 cfg0.N
    = Product.dot (Product.flip (m ((c : Thread nD τ).loc main_arg0))) (m ((c : Thread nD τ).loc main_arg1)) := by
  refine (dats m 0 c).arrAt_eq_of_covers 2 _ (by decide +kernel) fun t hf y => ?_
  have h := (flush0_2 t).mp hf
  have e : (outsAt0 m c t.val t.isLt).1 = (outsAt0 m c t.val t.isLt).2 := by
    rw [outsAt0_C m c t (by omega) (by omega) h]; frame_out; rfl
  rw [after0_2, e]
  exact Product.accumulated (fun t h => (outsAt0 m c t h).2) (fun t => Product.flip (iblk m c 0 t)) (iblk m c 1) (fun _ => 0) (fun _ => 0) (first m c) (next m c) rfl
    (fun t => Product.Reads.flip fun p => ⟨_, rfl, by blk_simp [place t], by blk_simp [place t]⟩)
    (fun t p => ⟨_, rfl, by blk_simp [place t], by blk_simp [place t]⟩) t h (by blk_simp [place t]) (by blk_simp [place t])

end Cert.GateWIdeal.Whole

namespace Cert.PleWIdeal.Whole

open Idealize.ShloMosaic Idealize.ShloMosaic.TcCoe Idealize.SL.Sem
open Cert.PleWIdeal Cert.PleWIdeal.Gen

variable (m : (ℓ : Loc nD τ sig) → Buf (Elt Ideal) ℓ) (c : Dev nD)

theorem part_eq (t : Fin cfg0.N) : k0_pay1 (iblk m c 0 t) (iblk m c 1 t) = Product.dot (Product.flip (iblk m c 0 t)) (iblk m c 1 t) :=
  Product.kernel_left_eq (φ₁ := .bf16) (φ₂ := .bf16) none _ _

theorem first (t : Fin cfg0.N) (h : t.val % 8 = 0) : (outsAt0 m c t.val t.isLt).2 = Product.dot (Product.flip (iblk m c 0 t)) (iblk m c 1 t) := by
  rw [outsAt0_A m c t h (by have : t.val < 8 := t.isLt; omega) (by omega)]; frame_out
  exact (shapeCast_self _ _).trans (part_eq m c t)

theorem next (t : Fin cfg0.N) (h : ¬t.val % 8 = 0) : (outsAt0 m c t.val t.isLt).2
    = fun y => (outsAt0 m c (t.val - 1) (Nat.lt_of_le_of_lt (Nat.sub_le _ _) t.isLt)).2 y + Product.dot (Product.flip (iblk m c 0 t)) (iblk m c 1 t) y := by
  by_cases h' : t.val % 8 = 7
  on_goal 1 => rw [outsAt0_C m c t h (by omega) h']
  on_goal 2 => rw [outsAt0_B m c t h (by omega) h']
  all_goals
    frame_out
    exact (congrArg _ ((Memref.isWhole_whole _).read_unread _)).trans
      ((shapeCast_self _ _).trans (funext fun y => congrArg (_ + ·) (congrFun (part_eq m c t) y)))

theorem place : ∀ t : Fin cfg0.N, win0_0.index t = ![t.1 % 8, 0] ∧ win0_1.index t = ![t.1 % 8, 0] ∧ win0_2.index t = ![0, 0] :=
  (by decide +kernel : ∀ t : Fin grid0.N, _)

theorem final : (dats m 0 c).arrAt 2 cfg0.N
    = Product.dot (Product.flip (m ((c : Thread nD τ).loc main_arg0))) (m ((c : Thread nD τ).loc main_arg1)) := by
  refine (dats m 0 c).arrAt_eq_of_covers 2 _ (by decide +kernel) fun t hf y => ?_
  have h := (flush0_2 t).mp hf
  have e : (outsAt0 m c t.val t.isLt).1 = (outsAt0 m c t.val t.isLt).2 := by
    rw [outsAt0_C m c t (by omega) (by omega) h]; frame_out; rfl
  rw [after0_2, e]
  exact Product.accumulated (fun t h => (outsAt0 m c t h).2) (fun t => Product.flip (iblk m c 0 t)) (iblk m c 1) (fun _ => 0) (fun _ => 0) (first m c) (next m c) rfl
    (fun t => Product.Reads.flip fun p => ⟨_, rfl, by blk_simp [place t], by blk_simp [place t]⟩)
    (fun t p => ⟨_, rfl, by blk_simp [place t], by blk_simp [place t]⟩) t h (by blk_simp [place t]) (by blk_simp [place t])

end Cert.PleWIdeal.Whole

namespace Cert.DownWIdeal.Whole

open Idealize.ShloMosaic Idealize.ShloMosaic.TcCoe Idealize.SL.Sem
open Cert.DownWIdeal Cert.DownWIdeal.Gen

variable (m : (ℓ : Loc nD τ sig) → Buf (Elt Ideal) ℓ) (c : Dev nD)

theorem part_eq (t : Fin cfg0.N) : k0_pay1 (iblk m c 0 t) (iblk m c 1 t) = Product.dot (Product.flip (iblk m c 0 t)) (iblk m c 1 t) :=
  Product.kernel_left_eq (φ₁ := .bf16) (φ₂ := .bf16) none _ _

theorem first (t : Fin cfg0.N) (h : t.val % 8 = 0) : (outsAt0 m c t.val t.isLt).2 = Product.dot (Product.flip (iblk m c 0 t)) (iblk m c 1 t) := by
  rw [outsAt0_A m c t h (by omega) (by omega)]; frame_out
  exact (shapeCast_self _ _).trans (part_eq m c t)

theorem next (t : Fin cfg0.N) (h : ¬t.val % 8 = 0) : (outsAt0 m c t.val t.isLt).2
    = fun y => (outsAt0 m c (t.val - 1) (Nat.lt_of_le_of_lt (Nat.sub_le _ _) t.isLt)).2 y + Product.dot (Product.flip (iblk m c 0 t)) (iblk m c 1 t) y := by
  by_cases h' : t.val % 8 = 7
  on_goal 1 => rw [outsAt0_C m c t h (by omega) h']
  on_goal 2 => rw [outsAt0_B m c t h (by omega) h']
  all_goals
    frame_out
    exact (congrArg _ ((Memref.isWhole_whole _).read_unread _)).trans
      ((shapeCast_self _ _).trans (funext fun y => congrArg (_ + ·) (congrFun (part_eq m c t) y)))

theorem place : ∀ t : Fin cfg0.N, win0_0.index t = ![t.1 % 8, t.1 / 8] ∧ win0_1.index t = ![t.1 % 8, 0] ∧ win0_2.index t = ![t.1 / 8, 0] :=
  (by decide +kernel : ∀ t : Fin grid0.N, _)

theorem final : (dats m 0 c).arrAt 2 cfg0.N
    = Product.dot (Product.flip (m ((c : Thread nD τ).loc main_arg0))) (m ((c : Thread nD τ).loc main_arg1)) := by
  refine (dats m 0 c).arrAt_eq_of_covers 2 _ (by decide +kernel) fun t hf y => ?_
  have h := (flush0_2 t).mp hf
  have e : (outsAt0 m c t.val t.isLt).1 = (outsAt0 m c t.val t.isLt).2 := by
    rw [outsAt0_C m c t (by omega) (by omega) h]; frame_out; rfl
  rw [after0_2, e]
  exact Product.accumulated (fun t h => (outsAt0 m c t h).2) (fun t => Product.flip (iblk m c 0 t)) (iblk m c 1) (· * 1408) (fun _ => 0) (first m c) (next m c) rfl
    (fun t => Product.Reads.flip fun p => ⟨_, rfl, by blk_simp [place t], by blk_simp [place t]⟩)
    (fun t p => ⟨_, rfl, by blk_simp [place t], by blk_simp [place t]⟩) t h (by blk_simp [place t]) (by blk_simp [place t])

end Cert.DownWIdeal.Whole

namespace Cert.GateUpWIdeal.Whole

open Idealize.ShloMosaic Idealize.ShloMosaic.TcCoe Idealize.SL.Sem
open Cert.GateUpWIdeal Cert.GateUpWIdeal.Gen

variable (m : (ℓ : Loc nD τ sig) → Buf (Elt Ideal) ℓ) (c : Dev nD)

theorem part_eq (t : Fin cfg0.N) : k0_pay1 (iblk m c 0 t) (iblk m c 1 t) = Product.dot (Product.flip (iblk m c 0 t)) (iblk m c 1 t) :=
  Product.kernel_left_eq (φ₁ := .bf16) (φ₂ := .bf16) none _ _

theorem first (t : Fin cfg0.N) (h : t.val % 8 = 0) : (outsAt0 m c t.val t.isLt).2 = Product.dot (Product.flip (iblk m c 0 t)) (iblk m c 1 t) := by
  rw [outsAt0_A m c t h (by omega) (by omega)]; frame_out
  exact (shapeCast_self _ _).trans (part_eq m c t)

theorem next (t : Fin cfg0.N) (h : ¬t.val % 8 = 0) : (outsAt0 m c t.val t.isLt).2
    = fun y => (outsAt0 m c (t.val - 1) (Nat.lt_of_le_of_lt (Nat.sub_le _ _) t.isLt)).2 y + Product.dot (Product.flip (iblk m c 0 t)) (iblk m c 1 t) y := by
  by_cases h' : t.val % 8 = 7
  on_goal 1 => rw [outsAt0_C m c t h (by omega) h']
  on_goal 2 => rw [outsAt0_B m c t h (by omega) h']
  all_goals
    frame_out
    exact (congrArg _ ((Memref.isWhole_whole _).read_unread _)).trans
      ((shapeCast_self _ _).trans (funext fun y => congrArg (_ + ·) (congrFun (part_eq m c t) y)))

theorem place : ∀ t : Fin cfg0.N, win0_0.index t = ![t.1 % 8, t.1 / 8] ∧ win0_1.index t = ![t.1 % 8, 0] ∧ win0_2.index t = ![t.1 / 8, 0] :=
  (by decide +kernel : ∀ t : Fin grid0.N, _)

theorem final : (dats m 0 c).arrAt 2 cfg0.N
    = Product.dot (Product.flip (m ((c : Thread nD τ).loc main_arg0))) (m ((c : Thread nD τ).loc main_arg1)) := by
  refine (dats m 0 c).arrAt_eq_of_covers 2 _ (by decide +kernel) fun t hf y => ?_
  have h := (flush0_2 t).mp hf
  have e : (outsAt0 m c t.val t.isLt).1 = (outsAt0 m c t.val t.isLt).2 := by
    rw [outsAt0_C m c t (by omega) (by omega) h]; frame_out; rfl
  rw [after0_2, e]
  exact Product.accumulated (fun t h => (outsAt0 m c t h).2) (fun t => Product.flip (iblk m c 0 t)) (iblk m c 1) (· * 1408) (fun _ => 0) (first m c) (next m c) rfl
    (fun t => Product.Reads.flip fun p => ⟨_, rfl, by blk_simp [place t], by blk_simp [place t]⟩)
    (fun t p => ⟨_, rfl, by blk_simp [place t], by blk_simp [place t]⟩) t h (by blk_simp [place t]) (by blk_simp [place t])

end Cert.GateUpWIdeal.Whole

namespace Cert.OutWIdeal.Whole

open Idealize.ShloMosaic Idealize.ShloMosaic.TcCoe Idealize.SL.Sem
open Cert.OutWIdeal Cert.OutWIdeal.Gen

variable (m : (ℓ : Loc nD τ sig) → Buf (Elt Ideal) ℓ) (c : Dev nD)

theorem part_eq (t : Fin cfg0.N) : k0_pay1 (iblk m c 0 t) (iblk m c 1 t) = Product.dot (Product.flip (iblk m c 0 t)) (iblk m c 1 t) :=
  Product.kernel_left_eq (φ₁ := .bf16) (φ₂ := .bf16) none _ _

theorem first (t : Fin cfg0.N) (h : t.val % 8 = 0) : (outsAt0 m c t.val t.isLt).2 = Product.dot (Product.flip (iblk m c 0 t)) (iblk m c 1 t) := by
  rw [outsAt0_A m c t h (by have : t.val < 8 := t.isLt; omega) (by omega)]; frame_out
  exact (shapeCast_self _ _).trans (part_eq m c t)

theorem next (t : Fin cfg0.N) (h : ¬t.val % 8 = 0) : (outsAt0 m c t.val t.isLt).2
    = fun y => (outsAt0 m c (t.val - 1) (Nat.lt_of_le_of_lt (Nat.sub_le _ _) t.isLt)).2 y + Product.dot (Product.flip (iblk m c 0 t)) (iblk m c 1 t) y := by
  by_cases h' : t.val % 8 = 7
  on_goal 1 => rw [outsAt0_C m c t h (by omega) h']
  on_goal 2 => rw [outsAt0_B m c t h (by omega) h']
  all_goals
    frame_out
    exact (congrArg _ ((Memref.isWhole_whole _).read_unread _)).trans
      ((shapeCast_self _ _).trans (funext fun y => congrArg (_ + ·) (congrFun (part_eq m c t) y)))

theorem place : ∀ t : Fin cfg0.N, win0_0.index t = ![t.1 % 8, 0] ∧ win0_1.index t = ![t.1 % 8, 0] ∧ win0_2.index t = ![0, 0] :=
  (by decide +kernel : ∀ t : Fin grid0.N, _)

theorem final : (dats m 0 c).arrAt 2 cfg0.N
    = Product.dot (Product.flip (m ((c : Thread nD τ).loc main_arg0))) (m ((c : Thread nD τ).loc main_arg1)) := by
  refine (dats m 0 c).arrAt_eq_of_covers 2 _ (by decide +kernel) fun t hf y => ?_
  have h := (flush0_2 t).mp hf
  have e : (outsAt0 m c t.val t.isLt).1 = (outsAt0 m c t.val t.isLt).2 := by
    rw [outsAt0_C m c t (by omega) (by omega) h]; frame_out; rfl
  rw [after0_2, e]
  exact Product.accumulated (fun t h => (outsAt0 m c t h).2) (fun t => Product.flip (iblk m c 0 t)) (iblk m c 1) (fun _ => 0) (fun _ => 0) (first m c) (next m c) rfl
    (fun t => Product.Reads.flip fun p => ⟨_, rfl, by blk_simp [place t], by blk_simp [place t]⟩)
    (fun t p => ⟨_, rfl, by blk_simp [place t], by blk_simp [place t]⟩) t h (by blk_simp [place t]) (by blk_simp [place t])

end Cert.OutWIdeal.Whole

namespace Cert.BOutWIdeal.Whole

open Idealize.ShloMosaic Idealize.ShloMosaic.TcCoe Idealize.SL.Sem
open Cert.BOutWIdeal Cert.BOutWIdeal.Gen

variable (m : (ℓ : Loc nD τ sig) → Buf (Elt Ideal) ℓ) (c : Dev nD)

theorem part_eq (t : Fin cfg0.N) : k0_pay1 (iblk m c 0 t) (iblk m c 1 t) = Product.dot (Product.flip (iblk m c 0 t)) (iblk m c 1 t) :=
  Product.kernel_left_eq (φ₁ := .bf16) (φ₂ := .bf16) none _ _

theorem first (t : Fin cfg0.N) (h : t.val % 8 = 0) : (outsAt0 m c t.val t.isLt).2 = Product.dot (Product.flip (iblk m c 0 t)) (iblk m c 1 t) := by
  rw [outsAt0_A m c t h (by omega) (by omega)]; frame_out
  exact (shapeCast_self _ _).trans (part_eq m c t)

theorem next (t : Fin cfg0.N) (h : ¬t.val % 8 = 0) : (outsAt0 m c t.val t.isLt).2
    = fun y => (outsAt0 m c (t.val - 1) (Nat.lt_of_le_of_lt (Nat.sub_le _ _) t.isLt)).2 y + Product.dot (Product.flip (iblk m c 0 t)) (iblk m c 1 t) y := by
  by_cases h' : t.val % 8 = 7
  on_goal 1 => rw [outsAt0_C m c t h (by omega) h']
  on_goal 2 => rw [outsAt0_B m c t h (by omega) h']
  all_goals
    frame_out
    exact (congrArg _ ((Memref.isWhole_whole _).read_unread _)).trans
      ((shapeCast_self _ _).trans (funext fun y => congrArg (_ + ·) (congrFun (part_eq m c t) y)))

theorem place : ∀ t : Fin cfg0.N, win0_0.index t = ![t.1 % 8, t.1 / 8] ∧ win0_1.index t = ![t.1 % 8, 0] ∧ win0_2.index t = ![t.1 / 8, 0] :=
  (by decide +kernel : ∀ t : Fin grid0.N, _)

theorem final : (dats m 0 c).arrAt 2 cfg0.N
    = Product.dot (Product.flip (m ((c : Thread nD τ).loc main_arg0))) (m ((c : Thread nD τ).loc main_arg1)) := by
  refine (dats m 0 c).arrAt_eq_of_covers 2 _ (by decide +kernel) fun t hf y => ?_
  have h := (flush0_2 t).mp hf
  have e : (outsAt0 m c t.val t.isLt).1 = (outsAt0 m c t.val t.isLt).2 := by
    rw [outsAt0_C m c t (by omega) (by omega) h]; frame_out; rfl
  rw [after0_2, e]
  exact Product.accumulated (fun t h => (outsAt0 m c t h).2) (fun t => Product.flip (iblk m c 0 t)) (iblk m c 1) (· * 1024) (fun _ => 0) (first m c) (next m c) rfl
    (fun t => Product.Reads.flip fun p => ⟨_, rfl, by blk_simp [place t], by blk_simp [place t]⟩)
    (fun t p => ⟨_, rfl, by blk_simp [place t], by blk_simp [place t]⟩) t h (by blk_simp [place t]) (by blk_simp [place t])

end Cert.BOutWIdeal.Whole

namespace Cert.InWIdeal.Whole

open Idealize.ShloMosaic Idealize.ShloMosaic.TcCoe Idealize.SL.Sem
open Cert.InWIdeal Cert.InWIdeal.Gen

variable (m : (ℓ : Loc nD τ sig) → Buf (Elt Ideal) ℓ) (c : Dev nD)

theorem part_eq (t : Fin cfg0.N) : k0_pay1 (iblk m c 0 t) (iblk m c 1 t) = Product.dot (Product.flip (iblk m c 0 t)) (iblk m c 1 t) :=
  Product.kernel_left_eq (φ₁ := .bf16) (φ₂ := .bf16) none _ _

theorem first (t : Fin cfg0.N) (h : t.val % 8 = 0) : (outsAt0 m c t.val t.isLt).2 = Product.dot (Product.flip (iblk m c 0 t)) (iblk m c 1 t) := by
  rw [outsAt0_A m c t h (by omega) (by omega)]; frame_out
  exact (shapeCast_self _ _).trans (part_eq m c t)

theorem next (t : Fin cfg0.N) (h : ¬t.val % 8 = 0) : (outsAt0 m c t.val t.isLt).2
    = fun y => (outsAt0 m c (t.val - 1) (Nat.lt_of_le_of_lt (Nat.sub_le _ _) t.isLt)).2 y + Product.dot (Product.flip (iblk m c 0 t)) (iblk m c 1 t) y := by
  by_cases h' : t.val % 8 = 7
  on_goal 1 => rw [outsAt0_C m c t h (by omega) h']
  on_goal 2 => rw [outsAt0_B m c t h (by omega) h']
  all_goals
    frame_out
    exact (congrArg _ ((Memref.isWhole_whole _).read_unread _)).trans
      ((shapeCast_self _ _).trans (funext fun y => congrArg (_ + ·) (congrFun (part_eq m c t) y)))

theorem place : ∀ t : Fin cfg0.N, win0_0.index t = ![t.1 % 8, t.1 / 8] ∧ win0_1.index t = ![t.1 % 8, 0] ∧ win0_2.index t = ![t.1 / 8, 0] :=
  (by decide +kernel : ∀ t : Fin grid0.N, _)

theorem final : (dats m 0 c).arrAt 2 cfg0.N
    = Product.dot (Product.flip (m ((c : Thread nD τ).loc main_arg0))) (m ((c : Thread nD τ).loc main_arg1)) := by
  refine (dats m 0 c).arrAt_eq_of_covers 2 _ (by decide +kernel) fun t hf y => ?_
  have h := (flush0_2 t).mp hf
  have e : (outsAt0 m c t.val t.isLt).1 = (outsAt0 m c t.val t.isLt).2 := by
    rw [outsAt0_C m c t (by omega) (by omega) h]; frame_out; rfl
  rw [after0_2, e]
  exact Product.accumulated (fun t h => (outsAt0 m c t h).2) (fun t => Product.flip (iblk m c 0 t)) (iblk m c 1) (· * 1152) (fun _ => 0) (first m c) (next m c) rfl
    (fun t => Product.Reads.flip fun p => ⟨_, rfl, by blk_simp [place t], by blk_simp [place t]⟩)
    (fun t p => ⟨_, rfl, by blk_simp [place t], by blk_simp [place t]⟩) t h (by blk_simp [place t]) (by blk_simp [place t])

end Cert.InWIdeal.Whole

namespace Cert

open Idealize.ShloMosaic Idealize.SL.Sem

theorem frame_GateW : quiescent_GateW := fun m ρ _ => GateW.Gen.frame m ρ
theorem frame_GateWIdeal : quiescent_GateWIdeal := fun m ρ _ => GateWIdeal.Gen.frame m ρ
theorem frame_GateWReferenceIdeal : quiescent_GateWReferenceIdeal := fun m ρ _ =>
  (θ_run GateWReferenceIdeal.defs _ _).mono (fun _ h => ⟨fun c => (h c).2, sem_eq_zero_of_no_sems (by rfl) _⟩)
    (GateWReferenceIdeal.Value.run (F := Ideal) m ρ)

theorem algebraic_GateW : algebraic_GateWIdeal_GateWReferenceIdeal := fun m g m' g' _ hA =>
  ⟨_,
    (θ_run GateWIdeal.defs _ _).mono (fun _ h c => ⟨(h c).1.trans (GateWIdeal.Whole.final m c), (h c).2⟩)
      (GateWIdeal.Value.run_blocks (F := Ideal) m g),
    (θ_run GateWReferenceIdeal.defs _ _).mono (fun _ h c => by
      refine ⟨(h c).1.trans ?_, (h c).2⟩
      rw [(hA c).1, (hA c).2]
      exact Product.reference_left_eq .f32 .bf16 _ _ _)
      (GateWReferenceIdeal.Value.run (F := Ideal) m' g')⟩

theorem frame_PleW : quiescent_PleW := fun m ρ _ => PleW.Gen.frame m ρ
theorem frame_PleWIdeal : quiescent_PleWIdeal := fun m ρ _ => PleWIdeal.Gen.frame m ρ
theorem frame_PleWReferenceIdeal : quiescent_PleWReferenceIdeal := fun m ρ _ =>
  (θ_run PleWReferenceIdeal.defs _ _).mono (fun _ h => ⟨fun c => (h c).2, sem_eq_zero_of_no_sems (by rfl) _⟩)
    (PleWReferenceIdeal.Value.run (F := Ideal) m ρ)

theorem algebraic_PleW : algebraic_PleWIdeal_PleWReferenceIdeal := fun m g m' g' _ hA =>
  ⟨_,
    (θ_run PleWIdeal.defs _ _).mono (fun _ h c => ⟨(h c).1.trans (PleWIdeal.Whole.final m c), (h c).2⟩)
      (PleWIdeal.Value.run_blocks (F := Ideal) m g),
    (θ_run PleWReferenceIdeal.defs _ _).mono (fun _ h c => by
      refine ⟨(h c).1.trans ?_, (h c).2⟩
      rw [(hA c).1, (hA c).2]
      exact Product.reference_left_eq .f32 .bf16 _ _ _)
      (PleWReferenceIdeal.Value.run (F := Ideal) m' g')⟩

theorem frame_DownW : quiescent_DownW := fun m ρ _ => DownW.Gen.frame m ρ
theorem frame_DownWIdeal : quiescent_DownWIdeal := fun m ρ _ => DownWIdeal.Gen.frame m ρ
theorem frame_DownWReferenceIdeal : quiescent_DownWReferenceIdeal := fun m ρ _ =>
  (θ_run DownWReferenceIdeal.defs _ _).mono (fun _ h => ⟨fun c => (h c).2, sem_eq_zero_of_no_sems (by rfl) _⟩)
    (DownWReferenceIdeal.Value.run (F := Ideal) m ρ)

theorem algebraic_DownW : algebraic_DownWIdeal_DownWReferenceIdeal := fun m g m' g' _ hA =>
  ⟨_,
    (θ_run DownWIdeal.defs _ _).mono (fun _ h c => ⟨(h c).1.trans (DownWIdeal.Whole.final m c), (h c).2⟩)
      (DownWIdeal.Value.run_blocks (F := Ideal) m g),
    (θ_run DownWReferenceIdeal.defs _ _).mono (fun _ h c => by
      refine ⟨(h c).1.trans ?_, (h c).2⟩
      rw [(hA c).1, (hA c).2]
      exact Product.reference_left_eq .bf16 .bf16 _ _ _)
      (DownWReferenceIdeal.Value.run (F := Ideal) m' g')⟩

theorem frame_GateUpW : quiescent_GateUpW := fun m ρ _ => GateUpW.Gen.frame m ρ
theorem frame_GateUpWIdeal : quiescent_GateUpWIdeal := fun m ρ _ => GateUpWIdeal.Gen.frame m ρ
theorem frame_GateUpWReferenceIdeal : quiescent_GateUpWReferenceIdeal := fun m ρ _ =>
  (θ_run GateUpWReferenceIdeal.defs _ _).mono (fun _ h => ⟨fun c => (h c).2, sem_eq_zero_of_no_sems (by rfl) _⟩)
    (GateUpWReferenceIdeal.Value.run (F := Ideal) m ρ)

theorem algebraic_GateUpW : algebraic_GateUpWIdeal_GateUpWReferenceIdeal := fun m g m' g' _ hA =>
  ⟨_,
    (θ_run GateUpWIdeal.defs _ _).mono (fun _ h c => ⟨(h c).1.trans (GateUpWIdeal.Whole.final m c), (h c).2⟩)
      (GateUpWIdeal.Value.run_blocks (F := Ideal) m g),
    (θ_run GateUpWReferenceIdeal.defs _ _).mono (fun _ h c => by
      refine ⟨(h c).1.trans ?_, (h c).2⟩
      rw [(hA c).1, (hA c).2]
      exact Product.reference_left_eq .bf16 .f32 _ _ _)
      (GateUpWReferenceIdeal.Value.run (F := Ideal) m' g')⟩

theorem frame_OutW : quiescent_OutW := fun m ρ _ => OutW.Gen.frame m ρ
theorem frame_OutWIdeal : quiescent_OutWIdeal := fun m ρ _ => OutWIdeal.Gen.frame m ρ
theorem frame_OutWReferenceIdeal : quiescent_OutWReferenceIdeal := fun m ρ _ =>
  (θ_run OutWReferenceIdeal.defs _ _).mono (fun _ h => ⟨fun c => (h c).2, sem_eq_zero_of_no_sems (by rfl) _⟩)
    (OutWReferenceIdeal.Value.run (F := Ideal) m ρ)

theorem algebraic_OutW : algebraic_OutWIdeal_OutWReferenceIdeal := fun m g m' g' _ hA =>
  ⟨_,
    (θ_run OutWIdeal.defs _ _).mono (fun _ h c => ⟨(h c).1.trans (OutWIdeal.Whole.final m c), (h c).2⟩)
      (OutWIdeal.Value.run_blocks (F := Ideal) m g),
    (θ_run OutWReferenceIdeal.defs _ _).mono (fun _ h c => by
      refine ⟨(h c).1.trans ?_, (h c).2⟩
      rw [(hA c).1, (hA c).2]
      exact Product.reference_left_eq .bf16 .bf16 _ _ _)
      (OutWReferenceIdeal.Value.run (F := Ideal) m' g')⟩

theorem frame_BOutW : quiescent_BOutW := fun m ρ _ => BOutW.Gen.frame m ρ
theorem frame_BOutWIdeal : quiescent_BOutWIdeal := fun m ρ _ => BOutWIdeal.Gen.frame m ρ
theorem frame_BOutWReferenceIdeal : quiescent_BOutWReferenceIdeal := fun m ρ _ =>
  (θ_run BOutWReferenceIdeal.defs _ _).mono (fun _ h => ⟨fun c => (h c).2, sem_eq_zero_of_no_sems (by rfl) _⟩)
    (BOutWReferenceIdeal.Value.run (F := Ideal) m ρ)

theorem algebraic_BOutW : algebraic_BOutWIdeal_BOutWReferenceIdeal := fun m g m' g' _ hA =>
  ⟨_,
    (θ_run BOutWIdeal.defs _ _).mono (fun _ h c => ⟨(h c).1.trans (BOutWIdeal.Whole.final m c), (h c).2⟩)
      (BOutWIdeal.Value.run_blocks (F := Ideal) m g),
    (θ_run BOutWReferenceIdeal.defs _ _).mono (fun _ h c => by
      refine ⟨(h c).1.trans ?_, (h c).2⟩
      rw [(hA c).1, (hA c).2]
      exact Product.reference_left_eq .bf16 .bf16 _ _ _)
      (BOutWReferenceIdeal.Value.run (F := Ideal) m' g')⟩

theorem frame_InW : quiescent_InW := fun m ρ _ => InW.Gen.frame m ρ
theorem frame_InWIdeal : quiescent_InWIdeal := fun m ρ _ => InWIdeal.Gen.frame m ρ
theorem frame_InWReferenceIdeal : quiescent_InWReferenceIdeal := fun m ρ _ =>
  (θ_run InWReferenceIdeal.defs _ _).mono (fun _ h => ⟨fun c => (h c).2, sem_eq_zero_of_no_sems (by rfl) _⟩)
    (InWReferenceIdeal.Value.run (F := Ideal) m ρ)

theorem algebraic_InW : algebraic_InWIdeal_InWReferenceIdeal := fun m g m' g' _ hA =>
  ⟨_,
    (θ_run InWIdeal.defs _ _).mono (fun _ h c => ⟨(h c).1.trans (InWIdeal.Whole.final m c), (h c).2⟩)
      (InWIdeal.Value.run_blocks (F := Ideal) m g),
    (θ_run InWReferenceIdeal.defs _ _).mono (fun _ h c => by
      refine ⟨(h c).1.trans ?_, (h c).2⟩
      rw [(hA c).1, (hA c).2]
      exact Product.reference_left_eq .bf16 .f32 _ _ _)
      (InWReferenceIdeal.Value.run (F := Ideal) m' g')⟩

end Cert

end
-- ==== Proof.AdamInValue.lean ====
/-
  The optimiser's step on `w_in`: what the kernel leaves, block by block, is the step on the whole arrays.
-/
module

public import proofs.«01_k».proof.Defs
public import proofs.«01_k».proof.Proof.Step
public import proofs.«01_k».proof.Proof.Gen.AdamIn.Frame
public import proofs.«01_k».proof.Proof.Gen.AdamInIdeal.Value
public import proofs.«01_k».proof.Proof.Gen.AdamInReferenceIdeal.Run
public import Idealize.ShloMosaic.Lib.Pipeline.ValueKit
public import Idealize.ShloMosaic.Lib.Quiescent

@[expose] public section

set_option maxRecDepth 16384

noncomputable section

namespace Cert.AdamInIdeal.Whole

open Idealize.ShloMosaic Idealize.ShloMosaic.TcCoe Idealize.ShloMosaic.ValueIdx Idealize.SL.Sem
open Cert.AdamInIdeal Cert.AdamInIdeal.Gen

variable {F : FTy → Type} [FloatOps F] [Named F]
variable (m : (ℓ : Loc nD τ sig) → Buf (Elt F) ℓ) (c : Dev nD)

/-- The gradient. -/
abbrev grad : FVec F S2048x1288 .f32 := Step.flat (m ((c : Thread nD τ).loc main_arg0))

/-- Where the blocks of the windows stand. -/
theorem place : ∀ t : Fin cfg0.N, win0_0.index t = ![0, t.1, 0] ∧ win0_1.index t = ![t.1, 0] ∧ win0_2.index t = ![t.1, 0] ∧ win0_3.index t = ![t.1, 0]
    ∧ win0_4.index t = ![t.1, 0] ∧ win0_5.index t = ![t.1, 0] ∧ win0_6.index t = ![t.1, 0] ∧ win0_7.index t = ![t.1, 0] :=
  (by decide +kernel : ∀ t : Fin grid0.N, _)

/-- The blocks a step reads are rows of the arguments. -/
theorem rows (t : Fin cfg0.N) : Step.Rows (t.1 * 256) (k0_pay1 (iblk m c 0 t)) (grad m c)
    ∧ Step.Rows (t.1 * 256) (iblk m c 1 t) (m ((c : Thread nD τ).loc main_arg1))
    ∧ Step.Rows (t.1 * 256) (iblk m c 2 t) (m ((c : Thread nD τ).loc main_arg2))
    ∧ Step.Rows (t.1 * 256) (iblk m c 3 t) (m ((c : Thread nD τ).loc main_arg3)) := by
  refine ⟨Step.RowsFlat.cast _ fun y i h h' => ?_, ?_⟩
  · blk_ext [iblk, V, place t]
  · refine ⟨fun y i h h' => ?_, fun y i h h' => ?_, fun y i h h' => ?_⟩ <;> blk_ext [iblk, V, place t]

/-- The whole arrays after the last block. -/
theorem finals : (dats m 0 c).arrAt 4 cfg0.N = grad m c
    ∧ (dats m 0 c).arrAt 5 cfg0.N = Step.change (Named.named κ "c1" 0x3FC48605#32) (Named.named κ "c2" 0x42C8E6D3#32) (grad m c)
        (m ((c : Thread nD τ).loc main_arg1)) (m ((c : Thread nD τ).loc main_arg2)) (m ((c : Thread nD τ).loc main_arg3))
    ∧ (dats m 0 c).arrAt 6 cfg0.N = Step.mean (grad m c) (m ((c : Thread nD τ).loc main_arg2))
    ∧ (dats m 0 c).arrAt 7 cfg0.N = Step.square (grad m c) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
    <;> obtain ⟨hg, hw, hm, hv⟩ := rows m c t
  · rw [after0_4]; frame_out
    exact hg _ _ (by blk_simp [place t]) (by blk_simp [place t])
  · rw [after0_5]; frame_out
    exact hg.change hw hm hv _ _ (by blk_simp [place t]) (by blk_simp [place t])
  · rw [after0_6]; frame_out
    exact hg.mean hm _ _ (by blk_simp [place t]) (by blk_simp [place t])
  · rw [after0_7]; frame_out
    exact hg.square hv _ _ (by blk_simp [place t]) (by blk_simp [place t])

end Cert.AdamInIdeal.Whole

namespace Cert

open Idealize.ShloMosaic Idealize.SL.Sem

theorem frame_AdamIn : quiescent_AdamIn := fun m ρ _ => Cert.AdamIn.Gen.frame m ρ
theorem frame_AdamInIdeal : quiescent_AdamInIdeal := fun m ρ _ => Cert.AdamInIdeal.Gen.frame m ρ
theorem frame_AdamInReferenceIdeal : quiescent_AdamInReferenceIdeal := fun m ρ _ =>
  (θ_run Cert.AdamInReferenceIdeal.defs _ _).mono (fun r h => ⟨fun c => (h c).2.2.2.2, sem_eq_zero_of_no_sems (by rfl) _⟩)
    (AdamInReferenceIdeal.Value.run (F := Ideal) m ρ)

theorem preserves_AdamIn : preserves_AdamIn_AdamInIdeal :=
  ⟨IdealRules.named_const.statement _ _ _ _ _ rfl, IdealRules.named_const.statement _ _ _ _ _ rfl⟩

theorem algebraic_AdamIn : algebraic_AdamInIdeal_AdamInReferenceIdeal := fun m g m' g' _ hA =>
  ⟨_, _, _, _,
    (θ_run Cert.AdamInIdeal.defs _ _).mono
      (fun _ h c => Step.kernel_ends rfl rfl (AdamInIdeal.Whole.finals m c) (h c))
      (AdamInIdeal.Value.run_blocks (F := Ideal) m g),
    (θ_run Cert.AdamInReferenceIdeal.defs _ _).mono (fun _ h c => Step.reference_ends (f := Step.flat) (Step.flat_eq _ _) (hA c) (h c))
      (AdamInReferenceIdeal.Value.run (F := Ideal) m' g')⟩

end Cert

end
-- ==== Proof.AdamConvAValue.lean ====
/-
  The optimiser's step on `conv_a_w`: what the kernel leaves, block by block, is the step on the whole arrays.
-/
module

public import proofs.«01_k».proof.Defs
public import proofs.«01_k».proof.Proof.Step
public import proofs.«01_k».proof.Proof.Gen.AdamConvA.Frame
public import proofs.«01_k».proof.Proof.Gen.AdamConvAIdeal.Value
public import proofs.«01_k».proof.Proof.Gen.AdamConvAReferenceIdeal.Run
public import Idealize.ShloMosaic.Lib.Pipeline.ValueKit
public import Idealize.ShloMosaic.Lib.Quiescent

@[expose] public section

set_option maxRecDepth 16384

noncomputable section

namespace Cert.AdamConvAIdeal.Whole

open Idealize.ShloMosaic Idealize.ShloMosaic.TcCoe Idealize.ShloMosaic.ValueIdx Idealize.SL.Sem
open Cert.AdamConvAIdeal Cert.AdamConvAIdeal.Gen

variable {F : FTy → Type} [FloatOps F] [Named F]
variable (m : (ℓ : Loc nD τ sig) → Buf (Elt F) ℓ) (c : Dev nD)

/-- The gradient. -/
abbrev grad : FVec F S62x128 .f32 := Step.flat (m ((c : Thread nD τ).loc main_arg0))

/-- Where the blocks of the windows stand. -/
theorem place : ∀ t : Fin cfg0.N, win0_0.index t = ![0, t.1, 0] ∧ win0_1.index t = ![t.1, 0] ∧ win0_2.index t = ![t.1, 0] ∧ win0_3.index t = ![t.1, 0]
    ∧ win0_4.index t = ![t.1, 0] ∧ win0_5.index t = ![t.1, 0] ∧ win0_6.index t = ![t.1, 0] ∧ win0_7.index t = ![t.1, 0] :=
  (by decide +kernel : ∀ t : Fin grid0.N, _)

/-- The blocks a step reads are rows of the arguments. -/
theorem rows (t : Fin cfg0.N) : Step.Rows (t.1 * 62) (k0_pay1 (iblk m c 0 t)) (grad m c)
    ∧ Step.Rows (t.1 * 62) (iblk m c 1 t) (m ((c : Thread nD τ).loc main_arg1))
    ∧ Step.Rows (t.1 * 62) (iblk m c 2 t) (m ((c : Thread nD τ).loc main_arg2))
    ∧ Step.Rows (t.1 * 62) (iblk m c 3 t) (m ((c : Thread nD τ).loc main_arg3)) := by
  refine ⟨Step.RowsFlat.cast _ fun y i h h' => ?_, ?_⟩
  · blk_ext [iblk, V, place t]
  · refine ⟨fun y i h h' => ?_, fun y i h h' => ?_, fun y i h h' => ?_⟩ <;> blk_ext [iblk, V, place t]

/-- The whole arrays after the last block. -/
theorem finals : (dats m 0 c).arrAt 4 cfg0.N = grad m c
    ∧ (dats m 0 c).arrAt 5 cfg0.N = Step.change (Named.named κ "c1" 0x3FC48605#32) (Named.named κ "c2" 0x42C8E6D3#32) (grad m c)
        (m ((c : Thread nD τ).loc main_arg1)) (m ((c : Thread nD τ).loc main_arg2)) (m ((c : Thread nD τ).loc main_arg3))
    ∧ (dats m 0 c).arrAt 6 cfg0.N = Step.mean (grad m c) (m ((c : Thread nD τ).loc main_arg2))
    ∧ (dats m 0 c).arrAt 7 cfg0.N = Step.square (grad m c) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
    <;> obtain ⟨hg, hw, hm, hv⟩ := rows m c t
  · rw [after0_4]; frame_out
    exact hg _ _ (by blk_simp [place t]) (by blk_simp [place t])
  · rw [after0_5]; frame_out
    exact hg.change hw hm hv _ _ (by blk_simp [place t]) (by blk_simp [place t])
  · rw [after0_6]; frame_out
    exact hg.mean hm _ _ (by blk_simp [place t]) (by blk_simp [place t])
  · rw [after0_7]; frame_out
    exact hg.square hv _ _ (by blk_simp [place t]) (by blk_simp [place t])

end Cert.AdamConvAIdeal.Whole

namespace Cert

open Idealize.ShloMosaic Idealize.SL.Sem

theorem frame_AdamConvA : quiescent_AdamConvA := fun m ρ _ => Cert.AdamConvA.Gen.frame m ρ
theorem frame_AdamConvAIdeal : quiescent_AdamConvAIdeal := fun m ρ _ => Cert.AdamConvAIdeal.Gen.frame m ρ
theorem frame_AdamConvAReferenceIdeal : quiescent_AdamConvAReferenceIdeal := fun m ρ _ =>
  (θ_run Cert.AdamConvAReferenceIdeal.defs _ _).mono (fun r h => ⟨fun c => (h c).2.2.2.2, sem_eq_zero_of_no_sems (by rfl) _⟩)
    (AdamConvAReferenceIdeal.Value.run (F := Ideal) m ρ)

theorem preserves_AdamConvA : preserves_AdamConvA_AdamConvAIdeal :=
  ⟨IdealRules.named_const.statement _ _ _ _ _ rfl, IdealRules.named_const.statement _ _ _ _ _ rfl⟩

theorem algebraic_AdamConvA : algebraic_AdamConvAIdeal_AdamConvAReferenceIdeal := fun m g m' g' _ hA =>
  ⟨_, _, _, _,
    (θ_run Cert.AdamConvAIdeal.defs _ _).mono
      (fun _ h c => Step.kernel_ends rfl rfl (AdamConvAIdeal.Whole.finals m c) (h c))
      (AdamConvAIdeal.Value.run_blocks (F := Ideal) m g),
    (θ_run Cert.AdamConvAReferenceIdeal.defs _ _).mono (fun _ h c => Step.reference_ends (f := Step.flat) (Step.flat_eq _ _) (hA c) (h c))
      (AdamConvAReferenceIdeal.Value.run (F := Ideal) m' g')⟩

end Cert

end
-- ==== Proof.AdamOutValue.lean ====
/-
  The optimiser's step on `w_a_out`: what the kernel leaves, block by block, is the step on the whole arrays.
-/
module

public import proofs.«01_k».proof.Defs
public import proofs.«01_k».proof.Proof.Step
public import proofs.«01_k».proof.Proof.Gen.AdamOut.Frame
public import proofs.«01_k».proof.Proof.Gen.AdamOutIdeal.Value
public import proofs.«01_k».proof.Proof.Gen.AdamOutReferenceIdeal.Run
public import Idealize.ShloMosaic.Lib.Pipeline.ValueKit
public import Idealize.ShloMosaic.Lib.Quiescent

@[expose] public section

set_option maxRecDepth 16384

noncomputable section

namespace Cert.AdamOutIdeal.Whole

open Idealize.ShloMosaic Idealize.ShloMosaic.TcCoe Idealize.ShloMosaic.ValueIdx Idealize.SL.Sem
open Cert.AdamOutIdeal Cert.AdamOutIdeal.Gen

variable {F : FTy → Type} [FloatOps F] [Named F]
variable (m : (ℓ : Loc nD τ sig) → Buf (Elt F) ℓ) (c : Dev nD)

/-- The gradient. -/
abbrev grad : FVec F S256x1024 .f32 := Step.flat (m ((c : Thread nD τ).loc main_arg0))

/-- Where the blocks of the windows stand. -/
theorem place : ∀ t : Fin cfg0.N, win0_0.index t = ![0, t.1, 0] ∧ win0_1.index t = ![t.1, 0] ∧ win0_2.index t = ![t.1, 0] ∧ win0_3.index t = ![t.1, 0]
    ∧ win0_4.index t = ![t.1, 0] ∧ win0_5.index t = ![t.1, 0] ∧ win0_6.index t = ![t.1, 0] ∧ win0_7.index t = ![t.1, 0] :=
  (by decide +kernel : ∀ t : Fin grid0.N, _)

/-- The blocks a step reads are rows of the arguments. -/
theorem rows (t : Fin cfg0.N) : Step.Rows (t.1 * 256) (k0_pay1 (iblk m c 0 t)) (grad m c)
    ∧ Step.Rows (t.1 * 256) (iblk m c 1 t) (m ((c : Thread nD τ).loc main_arg1))
    ∧ Step.Rows (t.1 * 256) (iblk m c 2 t) (m ((c : Thread nD τ).loc main_arg2))
    ∧ Step.Rows (t.1 * 256) (iblk m c 3 t) (m ((c : Thread nD τ).loc main_arg3)) := by
  refine ⟨Step.RowsFlat.cast _ fun y i h h' => ?_, ?_⟩
  · blk_ext [iblk, V, place t]
  · refine ⟨fun y i h h' => ?_, fun y i h h' => ?_, fun y i h h' => ?_⟩ <;> blk_ext [iblk, V, place t]

/-- The whole arrays after the last block. -/
theorem finals : (dats m 0 c).arrAt 4 cfg0.N = grad m c
    ∧ (dats m 0 c).arrAt 5 cfg0.N = Step.change (Named.named κ "c1" 0x3FC48605#32) (Named.named κ "c2" 0x42C8E6D3#32) (grad m c)
        (m ((c : Thread nD τ).loc main_arg1)) (m ((c : Thread nD τ).loc main_arg2)) (m ((c : Thread nD τ).loc main_arg3))
    ∧ (dats m 0 c).arrAt 6 cfg0.N = Step.mean (grad m c) (m ((c : Thread nD τ).loc main_arg2))
    ∧ (dats m 0 c).arrAt 7 cfg0.N = Step.square (grad m c) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
    <;> obtain ⟨hg, hw, hm, hv⟩ := rows m c t
  · rw [after0_4]; frame_out
    exact hg _ _ (by blk_simp [place t]) (by blk_simp [place t])
  · rw [after0_5]; frame_out
    exact hg.change hw hm hv _ _ (by blk_simp [place t]) (by blk_simp [place t])
  · rw [after0_6]; frame_out
    exact hg.mean hm _ _ (by blk_simp [place t]) (by blk_simp [place t])
  · rw [after0_7]; frame_out
    exact hg.square hv _ _ (by blk_simp [place t]) (by blk_simp [place t])

end Cert.AdamOutIdeal.Whole

namespace Cert

open Idealize.ShloMosaic Idealize.SL.Sem

theorem frame_AdamOut : quiescent_AdamOut := fun m ρ _ => Cert.AdamOut.Gen.frame m ρ
theorem frame_AdamOutIdeal : quiescent_AdamOutIdeal := fun m ρ _ => Cert.AdamOutIdeal.Gen.frame m ρ
theorem frame_AdamOutReferenceIdeal : quiescent_AdamOutReferenceIdeal := fun m ρ _ =>
  (θ_run Cert.AdamOutReferenceIdeal.defs _ _).mono (fun r h => ⟨fun c => (h c).2.2.2.2, sem_eq_zero_of_no_sems (by rfl) _⟩)
    (AdamOutReferenceIdeal.Value.run (F := Ideal) m ρ)

theorem preserves_AdamOut : preserves_AdamOut_AdamOutIdeal :=
  ⟨IdealRules.named_const.statement _ _ _ _ _ rfl, IdealRules.named_const.statement _ _ _ _ _ rfl⟩

theorem algebraic_AdamOut : algebraic_AdamOutIdeal_AdamOutReferenceIdeal := fun m g m' g' _ hA =>
  ⟨_, _, _, _,
    (θ_run Cert.AdamOutIdeal.defs _ _).mono
      (fun _ h c => Step.kernel_ends rfl rfl (AdamOutIdeal.Whole.finals m c) (h c))
      (AdamOutIdeal.Value.run_blocks (F := Ideal) m g),
    (θ_run Cert.AdamOutReferenceIdeal.defs _ _).mono (fun _ h c => Step.reference_ends (f := Step.flat) (Step.flat_eq _ _) (hA c) (h c))
      (AdamOutReferenceIdeal.Value.run (F := Ideal) m' g')⟩

end Cert

end
-- ==== Proof.AdamSsmConvValue.lean ====
/-
  The optimiser's step on `ssm_conv_w`: what the kernel leaves, block by block, is the step on the whole arrays.
-/
module

public import proofs.«01_k».proof.Defs
public import proofs.«01_k».proof.Proof.Step
public import proofs.«01_k».proof.Proof.Gen.AdamSsmConv.Frame
public import proofs.«01_k».proof.Proof.Gen.AdamSsmConvIdeal.Value
public import proofs.«01_k».proof.Proof.Gen.AdamSsmConvReferenceIdeal.Run
public import Idealize.ShloMosaic.Lib.Pipeline.ValueKit
public import Idealize.ShloMosaic.Lib.Quiescent

@[expose] public section

set_option maxRecDepth 16384

noncomputable section

namespace Cert.AdamSsmConvIdeal.Whole

open Idealize.ShloMosaic Idealize.ShloMosaic.TcCoe Idealize.ShloMosaic.ValueIdx Idealize.SL.Sem
open Cert.AdamSsmConvIdeal Cert.AdamSsmConvIdeal.Gen

variable {F : FTy → Type} [FloatOps F] [Named F]
variable (m : (ℓ : Loc nD τ sig) → Buf (Elt F) ℓ) (c : Dev nD)

/-- The gradient. -/
abbrev grad : FVec F S10x512 .f32 := Step.flat (m ((c : Thread nD τ).loc main_arg0))

/-- Where the blocks of the windows stand. -/
theorem place : ∀ t : Fin cfg0.N, win0_0.index t = ![0, t.1, 0] ∧ win0_1.index t = ![t.1, 0] ∧ win0_2.index t = ![t.1, 0] ∧ win0_3.index t = ![t.1, 0]
    ∧ win0_4.index t = ![t.1, 0] ∧ win0_5.index t = ![t.1, 0] ∧ win0_6.index t = ![t.1, 0] ∧ win0_7.index t = ![t.1, 0] :=
  (by decide +kernel : ∀ t : Fin grid0.N, _)

/-- The blocks a step reads are rows of the arguments. -/
theorem rows (t : Fin cfg0.N) : Step.Rows (t.1 * 10) (k0_pay1 (iblk m c 0 t)) (grad m c)
    ∧ Step.Rows (t.1 * 10) (iblk m c 1 t) (m ((c : Thread nD τ).loc main_arg1))
    ∧ Step.Rows (t.1 * 10) (iblk m c 2 t) (m ((c : Thread nD τ).loc main_arg2))
    ∧ Step.Rows (t.1 * 10) (iblk m c 3 t) (m ((c : Thread nD τ).loc main_arg3)) := by
  refine ⟨Step.RowsFlat.cast _ fun y i h h' => ?_, ?_⟩
  · blk_ext [iblk, V, place t]
  · refine ⟨fun y i h h' => ?_, fun y i h h' => ?_, fun y i h h' => ?_⟩ <;> blk_ext [iblk, V, place t]

/-- The whole arrays after the last block. -/
theorem finals : (dats m 0 c).arrAt 4 cfg0.N = grad m c
    ∧ (dats m 0 c).arrAt 5 cfg0.N = Step.change (Named.named κ "c1" 0x3FC48605#32) (Named.named κ "c2" 0x42C8E6D3#32) (grad m c)
        (m ((c : Thread nD τ).loc main_arg1)) (m ((c : Thread nD τ).loc main_arg2)) (m ((c : Thread nD τ).loc main_arg3))
    ∧ (dats m 0 c).arrAt 6 cfg0.N = Step.mean (grad m c) (m ((c : Thread nD τ).loc main_arg2))
    ∧ (dats m 0 c).arrAt 7 cfg0.N = Step.square (grad m c) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
    <;> obtain ⟨hg, hw, hm, hv⟩ := rows m c t
  · rw [after0_4]; frame_out
    exact hg _ _ (by blk_simp [place t]) (by blk_simp [place t])
  · rw [after0_5]; frame_out
    exact hg.change hw hm hv _ _ (by blk_simp [place t]) (by blk_simp [place t])
  · rw [after0_6]; frame_out
    exact hg.mean hm _ _ (by blk_simp [place t]) (by blk_simp [place t])
  · rw [after0_7]; frame_out
    exact hg.square hv _ _ (by blk_simp [place t]) (by blk_simp [place t])

end Cert.AdamSsmConvIdeal.Whole

namespace Cert

open Idealize.ShloMosaic Idealize.SL.Sem

theorem frame_AdamSsmConv : quiescent_AdamSsmConv := fun m ρ _ => Cert.AdamSsmConv.Gen.frame m ρ
theorem frame_AdamSsmConvIdeal : quiescent_AdamSsmConvIdeal := fun m ρ _ => Cert.AdamSsmConvIdeal.Gen.frame m ρ
theorem frame_AdamSsmConvReferenceIdeal : quiescent_AdamSsmConvReferenceIdeal := fun m ρ _ =>
  (θ_run Cert.AdamSsmConvReferenceIdeal.defs _ _).mono (fun r h => ⟨fun c => (h c).2.2.2.2, sem_eq_zero_of_no_sems (by rfl) _⟩)
    (AdamSsmConvReferenceIdeal.Value.run (F := Ideal) m ρ)

theorem preserves_AdamSsmConv : preserves_AdamSsmConv_AdamSsmConvIdeal :=
  ⟨IdealRules.named_const.statement _ _ _ _ _ rfl, IdealRules.named_const.statement _ _ _ _ _ rfl⟩

theorem algebraic_AdamSsmConv : algebraic_AdamSsmConvIdeal_AdamSsmConvReferenceIdeal := fun m g m' g' _ hA =>
  ⟨_, _, _, _,
    (θ_run Cert.AdamSsmConvIdeal.defs _ _).mono
      (fun _ h c => Step.kernel_ends rfl rfl (AdamSsmConvIdeal.Whole.finals m c) (h c))
      (AdamSsmConvIdeal.Value.run_blocks (F := Ideal) m g),
    (θ_run Cert.AdamSsmConvReferenceIdeal.defs _ _).mono (fun _ h c => Step.reference_ends (f := Step.flat) (Step.flat_eq _ _) (hA c) (h c))
      (AdamSsmConvReferenceIdeal.Value.run (F := Ideal) m' g')⟩

end Cert

end
-- ==== Proof.AdamBOutValue.lean ====
/-
  The optimiser's step on `w_b_out`: what the kernel leaves, block by block, is the step on the whole arrays.
-/
module

public import proofs.«01_k».proof.Defs
public import proofs.«01_k».proof.Proof.Step
public import proofs.«01_k».proof.Proof.Gen.AdamBOut.Frame
public import proofs.«01_k».proof.Proof.Gen.AdamBOutIdeal.Value
public import proofs.«01_k».proof.Proof.Gen.AdamBOutReferenceIdeal.Run
public import Idealize.ShloMosaic.Lib.Pipeline.ValueKit
public import Idealize.ShloMosaic.Lib.Quiescent

@[expose] public section

set_option maxRecDepth 16384

noncomputable section

namespace Cert.AdamBOutIdeal.Whole

open Idealize.ShloMosaic Idealize.ShloMosaic.TcCoe Idealize.ShloMosaic.ValueIdx Idealize.SL.Sem
open Cert.AdamBOutIdeal Cert.AdamBOutIdeal.Gen

variable {F : FTy → Type} [FloatOps F] [Named F]
variable (m : (ℓ : Loc nD τ sig) → Buf (Elt F) ℓ) (c : Dev nD)

/-- The gradient. -/
abbrev grad : FVec F S512x1024 .f32 := Step.flat (m ((c : Thread nD τ).loc main_arg0))

/-- Where the blocks of the windows stand. -/
theorem place : ∀ t : Fin cfg0.N, win0_0.index t = ![0, t.1, 0] ∧ win0_1.index t = ![t.1, 0] ∧ win0_2.index t = ![t.1, 0] ∧ win0_3.index t = ![t.1, 0]
    ∧ win0_4.index t = ![t.1, 0] ∧ win0_5.index t = ![t.1, 0] ∧ win0_6.index t = ![t.1, 0] ∧ win0_7.index t = ![t.1, 0] :=
  (by decide +kernel : ∀ t : Fin grid0.N, _)

/-- The blocks a step reads are rows of the arguments. -/
theorem rows (t : Fin cfg0.N) : Step.Rows (t.1 * 256) (k0_pay1 (iblk m c 0 t)) (grad m c)
    ∧ Step.Rows (t.1 * 256) (iblk m c 1 t) (m ((c : Thread nD τ).loc main_arg1))
    ∧ Step.Rows (t.1 * 256) (iblk m c 2 t) (m ((c : Thread nD τ).loc main_arg2))
    ∧ Step.Rows (t.1 * 256) (iblk m c 3 t) (m ((c : Thread nD τ).loc main_arg3)) := by
  refine ⟨Step.RowsFlat.cast _ fun y i h h' => ?_, ?_⟩
  · blk_ext [iblk, V, place t]
  · refine ⟨fun y i h h' => ?_, fun y i h h' => ?_, fun y i h h' => ?_⟩ <;> blk_ext [iblk, V, place t]

/-- The whole arrays after the last block. -/
theorem finals : (dats m 0 c).arrAt 4 cfg0.N = grad m c
    ∧ (dats m 0 c).arrAt 5 cfg0.N = Step.change (Named.named κ "c1" 0x3FC48605#32) (Named.named κ "c2" 0x42C8E6D3#32) (grad m c)
        (m ((c : Thread nD τ).loc main_arg1)) (m ((c : Thread nD τ).loc main_arg2)) (m ((c : Thread nD τ).loc main_arg3))
    ∧ (dats m 0 c).arrAt 6 cfg0.N = Step.mean (grad m c) (m ((c : Thread nD τ).loc main_arg2))
    ∧ (dats m 0 c).arrAt 7 cfg0.N = Step.square (grad m c) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
    <;> obtain ⟨hg, hw, hm, hv⟩ := rows m c t
  · rw [after0_4]; frame_out
    exact hg _ _ (by blk_simp [place t]) (by blk_simp [place t])
  · rw [after0_5]; frame_out
    exact hg.change hw hm hv _ _ (by blk_simp [place t]) (by blk_simp [place t])
  · rw [after0_6]; frame_out
    exact hg.mean hm _ _ (by blk_simp [place t]) (by blk_simp [place t])
  · rw [after0_7]; frame_out
    exact hg.square hv _ _ (by blk_simp [place t]) (by blk_simp [place t])

end Cert.AdamBOutIdeal.Whole

namespace Cert

open Idealize.ShloMosaic Idealize.SL.Sem

theorem frame_AdamBOut : quiescent_AdamBOut := fun m ρ _ => Cert.AdamBOut.Gen.frame m ρ
theorem frame_AdamBOutIdeal : quiescent_AdamBOutIdeal := fun m ρ _ => Cert.AdamBOutIdeal.Gen.frame m ρ
theorem frame_AdamBOutReferenceIdeal : quiescent_AdamBOutReferenceIdeal := fun m ρ _ =>
  (θ_run Cert.AdamBOutReferenceIdeal.defs _ _).mono (fun r h => ⟨fun c => (h c).2.2.2.2, sem_eq_zero_of_no_sems (by rfl) _⟩)
    (AdamBOutReferenceIdeal.Value.run (F := Ideal) m ρ)

theorem preserves_AdamBOut : preserves_AdamBOut_AdamBOutIdeal :=
  ⟨IdealRules.named_const.statement _ _ _ _ _ rfl, IdealRules.named_const.statement _ _ _ _ _ rfl⟩

theorem algebraic_AdamBOut : algebraic_AdamBOutIdeal_AdamBOutReferenceIdeal := fun m g m' g' _ hA =>
  ⟨_, _, _, _,
    (θ_run Cert.AdamBOutIdeal.defs _ _).mono
      (fun _ h c => Step.kernel_ends rfl rfl (AdamBOutIdeal.Whole.finals m c) (h c))
      (AdamBOutIdeal.Value.run_blocks (F := Ideal) m g),
    (θ_run Cert.AdamBOutReferenceIdeal.defs _ _).mono (fun _ h c => Step.reference_ends (f := Step.flat) (Step.flat_eq _ _) (hA c) (h c))
      (AdamBOutReferenceIdeal.Value.run (F := Ideal) m' g')⟩

end Cert

end
-- ==== Proof.AdamGateUpValue.lean ====
/-
  The optimiser's step on `w_gate_up`: what the kernel leaves, block by block, is the step on the whole arrays.
-/
module

public import proofs.«01_k».proof.Defs
public import proofs.«01_k».proof.Proof.Step
public import proofs.«01_k».proof.Proof.Gen.AdamGateUp.Frame
public import proofs.«01_k».proof.Proof.Gen.AdamGateUpIdeal.Value
public import proofs.«01_k».proof.Proof.Gen.AdamGateUpReferenceIdeal.Run
public import Idealize.ShloMosaic.Lib.Pipeline.ValueKit
public import Idealize.ShloMosaic.Lib.Quiescent

@[expose] public section

set_option maxRecDepth 16384

noncomputable section

namespace Cert.AdamGateUpIdeal.Whole

open Idealize.ShloMosaic Idealize.ShloMosaic.TcCoe Idealize.ShloMosaic.ValueIdx Idealize.SL.Sem
open Cert.AdamGateUpIdeal Cert.AdamGateUpIdeal.Gen

variable {F : FTy → Type} [FloatOps F] [Named F]
variable (m : (ℓ : Loc nD τ sig) → Buf (Elt F) ℓ) (c : Dev nD)

/-- The gradient. -/
abbrev grad : FVec F S2048x704 .f32 := Step.flat (m ((c : Thread nD τ).loc main_arg0))

/-- Where the blocks of the windows stand. -/
theorem place : ∀ t : Fin cfg0.N, win0_0.index t = ![0, t.1, 0] ∧ win0_1.index t = ![t.1, 0] ∧ win0_2.index t = ![t.1, 0] ∧ win0_3.index t = ![t.1, 0]
    ∧ win0_4.index t = ![t.1, 0] ∧ win0_5.index t = ![t.1, 0] ∧ win0_6.index t = ![t.1, 0] ∧ win0_7.index t = ![t.1, 0] :=
  (by decide +kernel : ∀ t : Fin grid0.N, _)

/-- The blocks a step reads are rows of the arguments. -/
theorem rows (t : Fin cfg0.N) : Step.Rows (t.1 * 256) (k0_pay1 (iblk m c 0 t)) (grad m c)
    ∧ Step.Rows (t.1 * 256) (iblk m c 1 t) (m ((c : Thread nD τ).loc main_arg1))
    ∧ Step.Rows (t.1 * 256) (iblk m c 2 t) (m ((c : Thread nD τ).loc main_arg2))
    ∧ Step.Rows (t.1 * 256) (iblk m c 3 t) (m ((c : Thread nD τ).loc main_arg3)) := by
  refine ⟨Step.RowsFlat.cast _ fun y i h h' => ?_, ?_⟩
  · blk_ext [iblk, V, place t]
  · refine ⟨fun y i h h' => ?_, fun y i h h' => ?_, fun y i h h' => ?_⟩ <;> blk_ext [iblk, V, place t]

/-- The whole arrays after the last block. -/
theorem finals : (dats m 0 c).arrAt 4 cfg0.N = grad m c
    ∧ (dats m 0 c).arrAt 5 cfg0.N = Step.change (Named.named κ "c1" 0x3FC48605#32) (Named.named κ "c2" 0x42C8E6D3#32) (grad m c)
        (m ((c : Thread nD τ).loc main_arg1)) (m ((c : Thread nD τ).loc main_arg2)) (m ((c : Thread nD τ).loc main_arg3))
    ∧ (dats m 0 c).arrAt 6 cfg0.N = Step.mean (grad m c) (m ((c : Thread nD τ).loc main_arg2))
    ∧ (dats m 0 c).arrAt 7 cfg0.N = Step.square (grad m c) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
    <;> obtain ⟨hg, hw, hm, hv⟩ := rows m c t
  · rw [after0_4]; frame_out
    exact hg _ _ (by blk_simp [place t]) (by blk_simp [place t])
  · rw [after0_5]; frame_out
    exact hg.change hw hm hv _ _ (by blk_simp [place t]) (by blk_simp [place t])
  · rw [after0_6]; frame_out
    exact hg.mean hm _ _ (by blk_simp [place t]) (by blk_simp [place t])
  · rw [after0_7]; frame_out
    exact hg.square hv _ _ (by blk_simp [place t]) (by blk_simp [place t])

end Cert.AdamGateUpIdeal.Whole

namespace Cert

open Idealize.ShloMosaic Idealize.SL.Sem

theorem frame_AdamGateUp : quiescent_AdamGateUp := fun m ρ _ => Cert.AdamGateUp.Gen.frame m ρ
theorem frame_AdamGateUpIdeal : quiescent_AdamGateUpIdeal := fun m ρ _ => Cert.AdamGateUpIdeal.Gen.frame m ρ
theorem frame_AdamGateUpReferenceIdeal : quiescent_AdamGateUpReferenceIdeal := fun m ρ _ =>
  (θ_run Cert.AdamGateUpReferenceIdeal.defs _ _).mono (fun r h => ⟨fun c => (h c).2.2.2.2, sem_eq_zero_of_no_sems (by rfl) _⟩)
    (AdamGateUpReferenceIdeal.Value.run (F := Ideal) m ρ)

theorem preserves_AdamGateUp : preserves_AdamGateUp_AdamGateUpIdeal :=
  ⟨IdealRules.named_const.statement _ _ _ _ _ rfl, IdealRules.named_const.statement _ _ _ _ _ rfl⟩

theorem algebraic_AdamGateUp : algebraic_AdamGateUpIdeal_AdamGateUpReferenceIdeal := fun m g m' g' _ hA =>
  ⟨_, _, _, _,
    (θ_run Cert.AdamGateUpIdeal.defs _ _).mono
      (fun _ h c => Step.kernel_ends rfl rfl (AdamGateUpIdeal.Whole.finals m c) (h c))
      (AdamGateUpIdeal.Value.run_blocks (F := Ideal) m g),
    (θ_run Cert.AdamGateUpReferenceIdeal.defs _ _).mono (fun _ h c => Step.reference_ends (f := Step.flat) (Step.flat_eq _ _) (hA c) (h c))
      (AdamGateUpReferenceIdeal.Value.run (F := Ideal) m' g')⟩

end Cert

end
-- ==== Proof.AdamDownValue.lean ====
/-
  The optimiser's step on `w_down`: what the kernel leaves, block by block, is the step on the whole arrays.
-/
module

public import proofs.«01_k».proof.Defs
public import proofs.«01_k».proof.Proof.Step
public import proofs.«01_k».proof.Proof.Gen.AdamDown.Frame
public import proofs.«01_k».proof.Proof.Gen.AdamDownIdeal.Value
public import proofs.«01_k».proof.Proof.Gen.AdamDownReferenceIdeal.Run
public import Idealize.ShloMosaic.Lib.Pipeline.ValueKit
public import Idealize.ShloMosaic.Lib.Quiescent

@[expose] public section

set_option maxRecDepth 16384

noncomputable section

namespace Cert.AdamDownIdeal.Whole

open Idealize.ShloMosaic Idealize.ShloMosaic.TcCoe Idealize.ShloMosaic.ValueIdx Idealize.SL.Sem
open Cert.AdamDownIdeal Cert.AdamDownIdeal.Gen

variable {F : FTy → Type} [FloatOps F] [Named F]
variable (m : (ℓ : Loc nD τ sig) → Buf (Elt F) ℓ) (c : Dev nD)

/-- The gradient. -/
abbrev grad : FVec F S704x1024 .f32 := Step.flat (m ((c : Thread nD τ).loc main_arg0))

/-- Where the blocks of the windows stand. -/
theorem place : ∀ t : Fin cfg0.N, win0_0.index t = ![0, t.1, 0] ∧ win0_1.index t = ![t.1, 0] ∧ win0_2.index t = ![t.1, 0] ∧ win0_3.index t = ![t.1, 0]
    ∧ win0_4.index t = ![t.1, 0] ∧ win0_5.index t = ![t.1, 0] ∧ win0_6.index t = ![t.1, 0] ∧ win0_7.index t = ![t.1, 0] :=
  (by decide +kernel : ∀ t : Fin grid0.N, _)

/-- The blocks a step reads are rows of the arguments. -/
theorem rows (t : Fin cfg0.N) : Step.Rows (t.1 * 176) (k0_pay1 (iblk m c 0 t)) (grad m c)
    ∧ Step.Rows (t.1 * 176) (iblk m c 1 t) (m ((c : Thread nD τ).loc main_arg1))
    ∧ Step.Rows (t.1 * 176) (iblk m c 2 t) (m ((c : Thread nD τ).loc main_arg2))
    ∧ Step.Rows (t.1 * 176) (iblk m c 3 t) (m ((c : Thread nD τ).loc main_arg3)) := by
  refine ⟨Step.RowsFlat.cast _ fun y i h h' => ?_, ?_⟩
  · blk_ext [iblk, V, place t]
  · refine ⟨fun y i h h' => ?_, fun y i h h' => ?_, fun y i h h' => ?_⟩ <;> blk_ext [iblk, V, place t]

/-- The whole arrays after the last block. -/
theorem finals : (dats m 0 c).arrAt 4 cfg0.N = grad m c
    ∧ (dats m 0 c).arrAt 5 cfg0.N = Step.change (Named.named κ "c1" 0x3FC48605#32) (Named.named κ "c2" 0x42C8E6D3#32) (grad m c)
        (m ((c : Thread nD τ).loc main_arg1)) (m ((c : Thread nD τ).loc main_arg2)) (m ((c : Thread nD τ).loc main_arg3))
    ∧ (dats m 0 c).arrAt 6 cfg0.N = Step.mean (grad m c) (m ((c : Thread nD τ).loc main_arg2))
    ∧ (dats m 0 c).arrAt 7 cfg0.N = Step.square (grad m c) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
    <;> obtain ⟨hg, hw, hm, hv⟩ := rows m c t
  · rw [after0_4]; frame_out
    exact hg _ _ (by blk_simp [place t]) (by blk_simp [place t])
  · rw [after0_5]; frame_out
    exact hg.change hw hm hv _ _ (by blk_simp [place t]) (by blk_simp [place t])
  · rw [after0_6]; frame_out
    exact hg.mean hm _ _ (by blk_simp [place t]) (by blk_simp [place t])
  · rw [after0_7]; frame_out
    exact hg.square hv _ _ (by blk_simp [place t]) (by blk_simp [place t])

end Cert.AdamDownIdeal.Whole

namespace Cert

open Idealize.ShloMosaic Idealize.SL.Sem

theorem frame_AdamDown : quiescent_AdamDown := fun m ρ _ => Cert.AdamDown.Gen.frame m ρ
theorem frame_AdamDownIdeal : quiescent_AdamDownIdeal := fun m ρ _ => Cert.AdamDownIdeal.Gen.frame m ρ
theorem frame_AdamDownReferenceIdeal : quiescent_AdamDownReferenceIdeal := fun m ρ _ =>
  (θ_run Cert.AdamDownReferenceIdeal.defs _ _).mono (fun r h => ⟨fun c => (h c).2.2.2.2, sem_eq_zero_of_no_sems (by rfl) _⟩)
    (AdamDownReferenceIdeal.Value.run (F := Ideal) m ρ)

theorem preserves_AdamDown : preserves_AdamDown_AdamDownIdeal :=
  ⟨IdealRules.named_const.statement _ _ _ _ _ rfl, IdealRules.named_const.statement _ _ _ _ _ rfl⟩

theorem algebraic_AdamDown : algebraic_AdamDownIdeal_AdamDownReferenceIdeal := fun m g m' g' _ hA =>
  ⟨_, _, _, _,
    (θ_run Cert.AdamDownIdeal.defs _ _).mono
      (fun _ h c => Step.kernel_ends rfl rfl (AdamDownIdeal.Whole.finals m c) (h c))
      (AdamDownIdeal.Value.run_blocks (F := Ideal) m g),
    (θ_run Cert.AdamDownReferenceIdeal.defs _ _).mono (fun _ h c => Step.reference_ends (f := Step.flat) (Step.flat_eq _ _) (hA c) (h c))
      (AdamDownReferenceIdeal.Value.run (F := Ideal) m' g')⟩

end Cert

end
-- ==== Proof.AdamPleValue.lean ====
/-
  The optimiser's step on `w_ple`: what the kernel leaves, block by block, is the step on the whole arrays.
-/
module

public import proofs.«01_k».proof.Defs
public import proofs.«01_k».proof.Proof.Step
public import proofs.«01_k».proof.Proof.Gen.AdamPle.Frame
public import proofs.«01_k».proof.Proof.Gen.AdamPleIdeal.Value
public import proofs.«01_k».proof.Proof.Gen.AdamPleReferenceIdeal.Run
public import Idealize.ShloMosaic.Lib.Pipeline.ValueKit
public import Idealize.ShloMosaic.Lib.Quiescent

@[expose] public section

set_option maxRecDepth 16384

noncomputable section

namespace Cert.AdamPleIdeal.Whole

open Idealize.ShloMosaic Idealize.ShloMosaic.TcCoe Idealize.ShloMosaic.ValueIdx Idealize.SL.Sem
open Cert.AdamPleIdeal Cert.AdamPleIdeal.Gen

variable {F : FTy → Type} [FloatOps F] [Named F]
variable (m : (ℓ : Loc nD τ sig) → Buf (Elt F) ℓ) (c : Dev nD)

/-- The gradient. -/
abbrev grad : FVec F S512x128 .f32 := Step.flat (m ((c : Thread nD τ).loc main_arg0))

/-- Where the blocks of the windows stand. -/
theorem place : ∀ t : Fin cfg0.N, win0_0.index t = ![0, t.1, 0] ∧ win0_1.index t = ![t.1, 0] ∧ win0_2.index t = ![t.1, 0] ∧ win0_3.index t = ![t.1, 0]
    ∧ win0_4.index t = ![t.1, 0] ∧ win0_5.index t = ![t.1, 0] ∧ win0_6.index t = ![t.1, 0] ∧ win0_7.index t = ![t.1, 0] :=
  (by decide +kernel : ∀ t : Fin grid0.N, _)

/-- The blocks a step reads are rows of the arguments. -/
theorem rows (t : Fin cfg0.N) : Step.Rows (t.1 * 256) (k0_pay1 (iblk m c 0 t)) (grad m c)
    ∧ Step.Rows (t.1 * 256) (iblk m c 1 t) (m ((c : Thread nD τ).loc main_arg1))
    ∧ Step.Rows (t.1 * 256) (iblk m c 2 t) (m ((c : Thread nD τ).loc main_arg2))
    ∧ Step.Rows (t.1 * 256) (iblk m c 3 t) (m ((c : Thread nD τ).loc main_arg3)) := by
  refine ⟨Step.RowsFlat.cast _ fun y i h h' => ?_, ?_⟩
  · blk_ext [iblk, V, place t]
  · refine ⟨fun y i h h' => ?_, fun y i h h' => ?_, fun y i h h' => ?_⟩ <;> blk_ext [iblk, V, place t]

/-- The whole arrays after the last block. -/
theorem finals : (dats m 0 c).arrAt 4 cfg0.N = grad m c
    ∧ (dats m 0 c).arrAt 5 cfg0.N = Step.change (Named.named κ "c1" 0x3FC48605#32) (Named.named κ "c2" 0x42C8E6D3#32) (grad m c)
        (m ((c : Thread nD τ).loc main_arg1)) (m ((c : Thread nD τ).loc main_arg2)) (m ((c : Thread nD τ).loc main_arg3))
    ∧ (dats m 0 c).arrAt 6 cfg0.N = Step.mean (grad m c) (m ((c : Thread nD τ).loc main_arg2))
    ∧ (dats m 0 c).arrAt 7 cfg0.N = Step.square (grad m c) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
    <;> obtain ⟨hg, hw, hm, hv⟩ := rows m c t
  · rw [after0_4]; frame_out
    exact hg _ _ (by blk_simp [place t]) (by blk_simp [place t])
  · rw [after0_5]; frame_out
    exact hg.change hw hm hv _ _ (by blk_simp [place t]) (by blk_simp [place t])
  · rw [after0_6]; frame_out
    exact hg.mean hm _ _ (by blk_simp [place t]) (by blk_simp [place t])
  · rw [after0_7]; frame_out
    exact hg.square hv _ _ (by blk_simp [place t]) (by blk_simp [place t])

end Cert.AdamPleIdeal.Whole

namespace Cert

open Idealize.ShloMosaic Idealize.SL.Sem

theorem frame_AdamPle : quiescent_AdamPle := fun m ρ _ => Cert.AdamPle.Gen.frame m ρ
theorem frame_AdamPleIdeal : quiescent_AdamPleIdeal := fun m ρ _ => Cert.AdamPleIdeal.Gen.frame m ρ
theorem frame_AdamPleReferenceIdeal : quiescent_AdamPleReferenceIdeal := fun m ρ _ =>
  (θ_run Cert.AdamPleReferenceIdeal.defs _ _).mono (fun r h => ⟨fun c => (h c).2.2.2.2, sem_eq_zero_of_no_sems (by rfl) _⟩)
    (AdamPleReferenceIdeal.Value.run (F := Ideal) m ρ)

theorem preserves_AdamPle : preserves_AdamPle_AdamPleIdeal :=
  ⟨IdealRules.named_const.statement _ _ _ _ _ rfl, IdealRules.named_const.statement _ _ _ _ _ rfl⟩

theorem algebraic_AdamPle : algebraic_AdamPleIdeal_AdamPleReferenceIdeal := fun m g m' g' _ hA =>
  ⟨_, _, _, _,
    (θ_run Cert.AdamPleIdeal.defs _ _).mono
      (fun _ h c => Step.kernel_ends rfl rfl (AdamPleIdeal.Whole.finals m c) (h c))
      (AdamPleIdeal.Value.run_blocks (F := Ideal) m g),
    (θ_run Cert.AdamPleReferenceIdeal.defs _ _).mono (fun _ h c => Step.reference_ends (f := Step.flat) (Step.flat_eq _ _) (hA c) (h c))
      (AdamPleReferenceIdeal.Value.run (F := Ideal) m' g')⟩

end Cert

end
-- ==== Proof.AdamSmallsValue.lean ====
/-
  The optimiser's step on the small weights, packed into one array: the gradient is the sum of the eight devices' parts, and what the kernel
  leaves is the step on the whole arrays.
-/
module

public import proofs.«01_k».proof.Defs
public import proofs.«01_k».proof.Proof.SlotSum
public import proofs.«01_k».proof.Proof.Gen.AdamSmalls.Frame
public import proofs.«01_k».proof.Proof.Gen.AdamSmallsIdeal.Value
public import proofs.«01_k».proof.Proof.Gen.AdamSmallsReferenceIdeal.Run
public import Idealize.ShloMosaic.Lib.Pipeline.ValueKit
public import Idealize.ShloMosaic.Lib.Quiescent

@[expose] public section

set_option maxRecDepth 16384

noncomputable section

namespace Cert.AdamSmallsIdeal.Whole

open Idealize.ShloMosaic Idealize.ShloMosaic.TcCoe Idealize.ShloMosaic.ValueIdx Idealize.SL.Sem
open Cert.AdamSmallsIdeal Cert.AdamSmallsIdeal.Gen

variable (m : (ℓ : Loc nD τ sig) → Buf (Elt Ideal) ℓ) (c : Dev nD)

/-- The gradient. -/
abbrev grad : FVec Ideal S232x128 .f32 := Step.total (m ((c : Thread nD τ).loc main_arg0))

/-- Where the blocks of the windows stand. -/
theorem place : ∀ t : Fin cfg0.N, win0_0.index t = ![0, t.1, 0] ∧ win0_1.index t = ![t.1, 0] ∧ win0_2.index t = ![t.1, 0] ∧ win0_3.index t = ![t.1, 0]
    ∧ win0_4.index t = ![t.1, 0] ∧ win0_5.index t = ![t.1, 0] ∧ win0_6.index t = ![t.1, 0] ∧ win0_7.index t = ![t.1, 0] :=
  (by decide +kernel : ∀ t : Fin grid0.N, _)

/-- The eight slots of the stack added up. -/
theorem block_total (X : Vec Ideal S8x232x128 .f32) (w m v : Vec Ideal S232x128 .f32) : k0_pay5 X w m v = Step.total X := by
  funext y
  refine Eq.trans ?_ (Fin.sum_univ_eight _).symm
  exact congrArg₂ (· + ·) (congrArg₂ (· + ·) (congrArg₂ (· + ·) (congrArg₂ (· + ·) (congrArg₂ (· + ·) (congrArg₂ (· + ·) (congrArg₂ (· + ·)
    (Step.slot X 0 _ _ y) (Step.slot X 1 _ _ y)) (Step.slot X 2 _ _ y)) (Step.slot X 3 _ _ y)) (Step.slot X 4 _ _ y)) (Step.slot X 5 _ _ y))
    (Step.slot X 6 _ _ y)) (Step.slot X 7 _ _ y)

/-- The new mean of a block. -/
theorem block_mean (X : Vec Ideal S8x232x128 .f32) (w m v : Vec Ideal S232x128 .f32) : k0_pay6 X w m v = Step.mean (Step.total X) m := by
  rw [← block_total X w m v]
  exact congrArg (Step.mean (k0_pay5 X w m v)) (View.ld_unit_zero (by decide) _ m)

/-- The blocks a step reads are rows of the arguments. -/
theorem rows (t : Fin cfg0.N) : Step.Rows (t.1 * 232) (Step.total (iblk m c 0 t)) (grad m c)
    ∧ Step.Rows (t.1 * 232) (iblk m c 1 t) (m ((c : Thread nD τ).loc main_arg1))
    ∧ Step.Rows (t.1 * 232) (iblk m c 2 t) (m ((c : Thread nD τ).loc main_arg2))
    ∧ Step.Rows (t.1 * 232) (iblk m c 3 t) (m ((c : Thread nD τ).loc main_arg3)) := by
  refine ⟨Step.total_rows fun p q h0 h1 h2 => ?_, ?_⟩
  · have h0' : (q 0 : ℕ) = p 0 := congrArg Fin.val h0
    blk_ext [iblk, V, place t]
  · refine ⟨fun y i h h' => ?_, fun y i h h' => ?_, fun y i h h' => ?_⟩ <;> blk_ext [iblk, V, place t]

/-- The whole arrays after the last block. -/
theorem finals : (dats m 0 c).arrAt 4 cfg0.N = grad m c
    ∧ (dats m 0 c).arrAt 5 cfg0.N = Step.change (Named.named κ "c1" 0x3FC48605#32) (Named.named κ "c2" 0x42C8E6D3#32) (grad m c)
        (m ((c : Thread nD τ).loc main_arg1)) (m ((c : Thread nD τ).loc main_arg2)) (m ((c : Thread nD τ).loc main_arg3))
    ∧ (dats m 0 c).arrAt 6 cfg0.N = Step.mean (grad m c) (m ((c : Thread nD τ).loc main_arg2))
    ∧ (dats m 0 c).arrAt 7 cfg0.N = Step.square (grad m c) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
    <;> obtain ⟨hg, hw, hm, hv⟩ := rows m c t
  · rw [after0_4]; frame_out
    rw [block_total]
    exact hg _ _ (by blk_simp [place t]) (by blk_simp [place t])
  · rw [after0_5]; frame_out
    rw [block_total, block_mean]
    exact hg.change hw hm hv _ _ (by blk_simp [place t]) (by blk_simp [place t])
  · rw [after0_6]; frame_out
    rw [block_mean]
    exact hg.mean hm _ _ (by blk_simp [place t]) (by blk_simp [place t])
  · rw [after0_7]; frame_out
    rw [block_total]
    exact hg.square hv _ _ (by blk_simp [place t]) (by blk_simp [place t])

end Cert.AdamSmallsIdeal.Whole

namespace Cert

open Idealize.ShloMosaic Idealize.SL.Sem

theorem frame_AdamSmalls : quiescent_AdamSmalls := fun m ρ _ => Cert.AdamSmalls.Gen.frame m ρ
theorem frame_AdamSmallsIdeal : quiescent_AdamSmallsIdeal := fun m ρ _ => Cert.AdamSmallsIdeal.Gen.frame m ρ
theorem frame_AdamSmallsReferenceIdeal : quiescent_AdamSmallsReferenceIdeal := fun m ρ _ =>
  (θ_run Cert.AdamSmallsReferenceIdeal.defs _ _).mono (fun r h => ⟨fun c => (h c).2.2.2.2, sem_eq_zero_of_no_sems (by rfl) _⟩)
    (AdamSmallsReferenceIdeal.Value.run (F := Ideal) m ρ)

theorem preserves_AdamSmalls : preserves_AdamSmalls_AdamSmallsIdeal :=
  ⟨IdealRules.named_const.statement _ _ _ _ _ rfl, IdealRules.named_const.statement _ _ _ _ _ rfl⟩

theorem algebraic_AdamSmalls : algebraic_AdamSmallsIdeal_AdamSmallsReferenceIdeal := fun m g m' g' _ hA =>
  ⟨_, _, _, _,
    (θ_run Cert.AdamSmallsIdeal.defs _ _).mono
      (fun _ h c => Step.kernel_ends rfl rfl (AdamSmallsIdeal.Whole.finals m c) (h c))
      (AdamSmallsIdeal.Value.run_blocks (F := Ideal) m g),
    (θ_run Cert.AdamSmallsReferenceIdeal.defs _ _).mono (fun _ h c => Step.reference_ends (f := Step.total) (Step.reduce_eq _ _ _) (hA c) (h c))
      (AdamSmallsReferenceIdeal.Value.run (F := Ideal) m' g')⟩

end Cert

end
-- ==== Proof.Rows.lean ====
/-
  Functions of the rows of a matrix over the extended reals: the logistic gate, the normalisation of a row, the scaling by a row of
  weights. For each: how a kernel writes it, how the reference writes it, and that a block of rows of the result is the function
  of the block of rows.
-/
module

public import proofs.«01_k».proof.Proof.Product
public import Idealize.ShloMosaic.Lib.Pointwise

@[expose] public section

noncomputable section

namespace Cert.Rows

open Idealize.ShloMosaic hiding ix1 ix2 eq_ix1 eq_ix2
open Idealize.ShloMosaic.ValueIdx (ix1 ix2 eq_ix2)
open Cert.Product (Reads)

/-- A matrix of extended reals. -/
abbrev Mat (r w : ℕ) : Type := (⟨2, ![r, w]⟩ : Shape).Idx → EReal

variable {r R w W : ℕ}

/-! ### Entry by entry -/

/-- The logistic function of a number. -/
def logistic (x : EReal) : EReal :=
  Ideal.div (Ideal.ofBits .f32 0x3F800000#32) (Ideal.ofBits .f32 0x3F800000#32 + Ideal.exp (-x))

/-- A number times its logistic function. -/
def silu (x : EReal) : EReal := x * logistic x

/-- How a kernel writes the logistic function: with zero minus the number. -/
theorem kernel_logistic (x : Mat r w) :
    divf (F := Ideal) (φ := .f32) (broadcast ⟨2, ![r, w]⟩ (Scalar.ofBits .f32 0x3F800000#32)) (addf (broadcast ⟨2, ![r, w]⟩ (Scalar.ofBits .f32 0x3F800000#32))
      (exp (subf (F := Ideal) (φ := .f32) (broadcast ⟨2, ![r, w]⟩ (Scalar.ofBits .f32 0x00000000#32)) x))) = fun i => logistic (x i) := by
  funext i
  refine congrArg (fun z => Ideal.div (Ideal.ofBits .f32 0x3F800000#32) (Ideal.ofBits .f32 0x3F800000#32 + Ideal.exp z)) ?_
  exact (congrArg (· - x i) Ideal.ofBits_zero_f32).trans (zero_sub (x i))

/-- A block of a function of two matrices is the function of their blocks. -/
theorem both {x : Mat r w} {X : Mat R W} {y : Mat r w} {Y : Mat R W} {o z : ℕ} (f : EReal → EReal → EReal) (hx : Reads x X o z) (hy : Reads y Y o z) :
    Reads (fun p => f (x p) (y p)) (fun i => f (X i) (Y i)) o z := fun p => by
  obtain ⟨q, e, h0, h1⟩ := hx p
  exact ⟨q, congrArg₂ f e (hy.apply h0 h1), h0, h1⟩

/-- A block of a function of a matrix and a row is the function of the block and the row. -/
theorem withRow {x : Mat r w} {X : Mat R w} {g G : Mat 1 w} {o : ℕ} (f : EReal → EReal → EReal) (hx : Reads x X o 0) (hg : Reads g G 0 0) :
    Reads (fun p => f (x p) (g (ix2 0 (p 1)))) (fun i => f (X i) (G (ix2 0 (i 1)))) o 0 := fun p => by
  obtain ⟨q, e, h0, h1⟩ := hx p
  exact ⟨q, congrArg₂ f e (hg.apply rfl h1), h0, h1⟩

/-- A row repeated, as a kernel writes it. -/
theorem kernel_row (g : Mat 1 w) (h : (⟨2, ![1, w]⟩ : Shape).Broadcasts ⟨2, ![r, w]⟩) : broadcastTo ⟨2, ![r, w]⟩ g h = fun i => g (ix2 0 (i 1)) :=
  funext fun i => broadcastTo_apply g h i _ fun a => by
    match a with
    | ⟨0, _⟩ => rfl
    | ⟨1, _⟩ =>
      show (i 1 : ℕ) = if w = 1 then 0 else (i 1 : ℕ)
      have : (i 1 : ℕ) < w := (i 1).isLt
      split <;> omega

/-- A row repeated, as the reference writes it. -/
theorem reference_row (g : Mat 1 w) (h : (⟨2, ![1, w]⟩ : Shape).BroadcastsInDim ⟨2, ![R, w]⟩ ![0, 1]) :
    broadcastInDim ⟨2, ![R, w]⟩ ![0, 1] h g = fun i => g (ix2 0 (i 1)) :=
  funext fun i => broadcastInDim_apply _ h g i _ fun a => by
    match a with
    | ⟨0, _⟩ => rfl
    | ⟨1, _⟩ =>
      show (i 1 : ℕ) = if w = 1 then 0 else (i 1 : ℕ)
      have : (i 1 : ℕ) < w := (i 1).isLt
      split <;> omega

/-! ### Columns -/

/-- The columns of a matrix from column `z` on. -/
def columns (w z : ℕ) (h : z + w ≤ W) (P : Mat R W) : Mat R w :=
  fun i => P (ix2 (i 0) ⟨z + (i 1 : ℕ), lt_of_lt_of_le (Nat.add_lt_add_left (i 1).isLt z) h⟩)

/-- A block that stands at column `z` is a block of the columns from there. -/
theorem reads_columns {x : Mat r w} {P : Mat R W} {o z : ℕ} (h : z + w ≤ W) (hx : Reads x P o z) : Reads x (columns w z h P) o 0 := fun p => by
  obtain ⟨q, e, h0, h1⟩ := hx p
  refine ⟨ix2 (q 0) (p 1), e.trans (congrArg P (funext fun a => Fin.ext ?_)), h0, (Nat.zero_add _).symm⟩
  match a with
  | ⟨0, _⟩ => rfl
  | ⟨1, _⟩ => exact h1

/-- Columns, as the reference takes them. -/
theorem slice_eq {z : ℕ} (P : Mat R W) (h : (⟨2, ![R, W]⟩ : Shape).Slices ![0, z] ⟨2, ![R, w]⟩) (hz : z + w ≤ W) :
    extractStridedSlice ⟨2, ![R, w]⟩ ![0, z] P h = columns w z hz P :=
  funext fun i => extractStridedSlice_apply _ _ _ _ _ fun a => by
    match a with
    | ⟨0, _⟩ => exact (Nat.zero_add _).symm
    | ⟨1, _⟩ => rfl

/-- Columns of columns. -/
theorem slice_slice_eq {v z z' : ℕ} (P : Mat R W) (h : (⟨2, ![R, W]⟩ : Shape).Slices ![0, z] ⟨2, ![R, v]⟩)
    (h' : (⟨2, ![R, v]⟩ : Shape).Slices ![0, z'] ⟨2, ![R, w]⟩) (hv : z + v ≤ W) (hw : z' + w ≤ v) (hz : z + z' + w ≤ W) :
    extractStridedSlice ⟨2, ![R, w]⟩ ![0, z'] (extractStridedSlice ⟨2, ![R, v]⟩ ![0, z] P h) h' = columns w (z + z') hz P := by
  rw [slice_eq P h hv, slice_eq _ h' hw]
  funext i
  exact congrArg P (congrArg (ix2 (i 0)) (Fin.ext (Nat.add_assoc z z' (i 1)).symm))

/-! ### The mean of a row -/

/-- The mean of a row: its sum over the number that the word `d` denotes. -/
def mean (d : BitVec 32) (x : Mat r w) (p : Fin r) : EReal := Ideal.div (∑ k, x (ix2 p k)) (Ideal.ofBits .f32 d)

/-- A matrix less the mean of its row. -/
def centre (d : BitVec 32) (x : Mat r w) : Mat r w := fun i => x i - mean d x (i 0)

/-- A matrix over the root of the mean square of its row, with a small number `e` added under the root. -/
def scale (d e : BitVec 32) (x : Mat r w) : Mat r w :=
  fun i => x i * Ideal.rsqrt (mean d (fun j => x j * x j) (i 0) + Ideal.ofBits .f32 e)

/-- The normalisation of a row: centred, scaled, times the weights `g`, plus `b`. -/
def layer (d e : BitVec 32) (x : Mat r w) (g b : Mat 1 w) : Mat r w :=
  fun i => scale d e (centre d x) i * g (ix2 0 (i 1)) + b (ix2 0 (i 1))

/-- The mean of a row of a block is the row's mean. -/
theorem mean_block {x : Mat r w} {X : Mat R w} {o : ℕ} (d : BitVec 32) (hx : Reads x X o 0) {p : Fin r} {q : Fin R} (h : (q : ℕ) = o + p) :
    mean d x p = mean d X q :=
  congrArg (Ideal.div · _) (Finset.sum_congr rfl fun k _ => hx.apply (p := ix2 p k) (i := ix2 q k) h (Nat.zero_add _).symm)

/-- A block of a centred matrix. -/
theorem centre_block {x : Mat r w} {X : Mat R w} {o : ℕ} (d : BitVec 32) (hx : Reads x X o 0) : Reads (centre d x) (centre d X) o 0 := fun p => by
  obtain ⟨q, e, h0, h1⟩ := hx p
  exact ⟨q, congrArg₂ (· - ·) e (mean_block d hx h0), h0, h1⟩

/-- A block of a scaled matrix. -/
theorem scale_block {x : Mat r w} {X : Mat R w} {o : ℕ} (d e : BitVec 32) (hx : Reads x X o 0) : Reads (scale d e x) (scale d e X) o 0 := fun p => by
  obtain ⟨q, h, h0, h1⟩ := hx p
  exact ⟨q, congrArg₂ (fun a b => a * Ideal.rsqrt (b + _)) h (mean_block d (both (· * ·) hx hx) h0), h0, h1⟩

/-- A block of a normalised matrix. -/
theorem layer_block {x : Mat r w} {X : Mat R w} {g b G B : Mat 1 w} {o : ℕ} (d e : BitVec 32) (hx : Reads x X o 0) (hg : Reads g G 0 0)
    (hb : Reads b B 0 0) : Reads (layer d e x g b) (layer d e X G B) o 0 :=
  withRow (· + ·) (withRow (· * ·) (scale_block d e (centre_block d hx)) hg) hb

section kernel

variable (d e : BitVec 32) (x : FVec Ideal ⟨2, ![r, w]⟩ .f32) (hr : (⟨2, ![r, w]⟩ : Shape).Reduces [1] ⟨1, ![r]⟩)
  (hc : (⟨1, ![r]⟩ : Shape).ShapeCasts ⟨2, ![r, 1]⟩) (hb : (⟨2, ![r, 1]⟩ : Shape).Broadcasts ⟨2, ![r, w]⟩)

/-- The means of the rows, as a kernel writes them. -/
theorem kernel_mean (hk hf) : divf (shapeCast ⟨2, ![r, 1]⟩ (multiReduction .add [1] ⟨1, ![r]⟩ x 0x00000000#32 hr hk hf) hc)
    (broadcast ⟨2, ![r, 1]⟩ (Scalar.ofBits .f32 d)) = fun j => mean d x (j 0) := by
  funext j
  refine congrArg (Ideal.div · _) ((shapeCast_apply (k := ix1 (j 0)) _ _ _ (by
    have h1 : (j 1 : ℕ) < 1 := (j 1).isLt
    rw [Shape.rowMajor_val_one, Shape.rowMajor_val_two]
    show (j 0 : ℕ) = (j 0 : ℕ) * 1 + (j 1 : ℕ)
    omega)).trans ?_)
  exact Ideal.reduceAdd_r2_a1 _ _ _

/-- A column repeated, as a kernel writes it. -/
theorem kernel_column (f : Fin r → EReal) : broadcastTo ⟨2, ![r, w]⟩ (fun j : (⟨2, ![r, 1]⟩ : Shape).Idx => f (j 0)) hb = fun i => f (i 0) :=
  funext fun i => broadcastTo_apply _ hb i (ix2 (i 0) 0) fun a => by
    match a with
    | ⟨0, _⟩ =>
      show (i 0 : ℕ) = if r = 1 then 0 else (i 0 : ℕ)
      have : (i 0 : ℕ) < r := (i 0).isLt
      split <;> omega
    | ⟨1, _⟩ => rfl

/-- A centred matrix, as a kernel writes it. -/
theorem kernel_centre (hk hf) : subf x (broadcastTo ⟨2, ![r, w]⟩ (divf (shapeCast ⟨2, ![r, 1]⟩ (multiReduction .add [1] ⟨1, ![r]⟩ x 0x00000000#32 hr hk hf) hc)
    (broadcast ⟨2, ![r, 1]⟩ (Scalar.ofBits .f32 d))) hb) = centre d x := by
  rw [kernel_mean, kernel_column hb (mean d x)]
  rfl

/-- A scaled matrix, as a kernel writes it. -/
theorem kernel_scale (hk hf) : mulf x (broadcastTo ⟨2, ![r, w]⟩ (rsqrt (addf (divf (shapeCast ⟨2, ![r, 1]⟩
    (multiReduction .add [1] ⟨1, ![r]⟩ (mulf x x) 0x00000000#32 hr hk hf) hc) (broadcast ⟨2, ![r, 1]⟩ (Scalar.ofBits .f32 d)))
    (broadcast ⟨2, ![r, 1]⟩ (Scalar.ofBits .f32 e)))) hb) = scale d e x := by
  rw [kernel_mean]
  exact congrArg (mulf x) (kernel_column hb fun p => Ideal.rsqrt (mean d (mulf x x) p + Ideal.ofBits .f32 e))

/-- A normalised matrix, as a kernel writes it. -/
theorem kernel_layer (g b : Mat 1 w) (hg : (⟨2, ![1, w]⟩ : Shape).Broadcasts ⟨2, ![r, w]⟩) (hk hf) :
    have y := subf x (broadcastTo ⟨2, ![r, w]⟩ (divf (shapeCast ⟨2, ![r, 1]⟩ (multiReduction .add [1] ⟨1, ![r]⟩ x 0x00000000#32 hr hk hf) hc)
      (broadcast ⟨2, ![r, 1]⟩ (Scalar.ofBits .f32 d))) hb)
    addf (F := Ideal) (φ := .f32) (mulf (F := Ideal) (φ := .f32) (mulf y (broadcastTo ⟨2, ![r, w]⟩ (rsqrt (addf (divf (shapeCast ⟨2, ![r, 1]⟩
      (multiReduction .add [1] ⟨1, ![r]⟩ (mulf y y) 0x00000000#32 hr hk hf) hc) (broadcast ⟨2, ![r, 1]⟩ (Scalar.ofBits .f32 d)))
      (broadcast ⟨2, ![r, 1]⟩ (Scalar.ofBits .f32 e)))) hb)) (broadcastTo ⟨2, ![r, w]⟩ g hg)) (broadcastTo ⟨2, ![r, w]⟩ b hg) = layer d e x g b := by
  intro y
  rw [kernel_scale, kernel_row, kernel_row, show y = centre d x from kernel_centre d x hr hc hb hk hf]
  rfl

end kernel

section reference

variable (d e : BitVec 32) (x : FVec Ideal ⟨2, ![R, w]⟩ .f32) (hr : (⟨2, ![R, w]⟩ : Shape).ReducesTo [1] ⟨1, ![R]⟩)
  (hc : (⟨1, ![R]⟩ : Shape).BroadcastsInDim ⟨2, ![R, 1]⟩ ![0]) (hb : (⟨2, ![R, 1]⟩ : Shape).BroadcastsInDim ⟨2, ![R, w]⟩ ![0, 1])
  (hd : (⟨0, ![]⟩ : Shape).BroadcastsInDim ⟨2, ![R, 1]⟩ ![]) (h0 : 0 < (⟨0, ![]⟩ : Shape).numel)

/-- The means of the rows, as the reference writes them. -/
theorem reference_mean : Host.divf (broadcastInDim ⟨2, ![R, 1]⟩ ![0] hc (Host.reduceAdd x (constant ⟨0, ![]⟩ .f32 0x00000000#32) hr h0))
    (broadcastInDim ⟨2, ![R, 1]⟩ ![] hd (constant ⟨0, ![]⟩ .f32 d)) = fun j => mean d x (j 0) := by
  funext j
  refine congrArg (Ideal.div · _) ((broadcastInDim_apply _ hc _ j (ix1 (j 0)) fun a => by
    match a with
    | ⟨0, _⟩ =>
      show (j 0 : ℕ) = if R = 1 then 0 else (j 0 : ℕ)
      have : (j 0 : ℕ) < R := (j 0).isLt
      split <;> omega).trans ?_)
  refine (Host.reduceAdd_apply ..).trans ((Ideal.hostReduceAdd_r2_a1 _ _ _ _).trans ?_)
  exact (congrArg (· + _) Ideal.ofBits_zero_f32).trans (zero_add _)

/-- A column repeated, as the reference writes it. -/
theorem reference_column (f : Fin R → EReal) :
    broadcastInDim ⟨2, ![R, w]⟩ ![0, 1] hb (fun j : (⟨2, ![R, 1]⟩ : Shape).Idx => f (j 0)) = fun i => f (i 0) :=
  funext fun i => broadcastInDim_apply _ hb _ i (ix2 (i 0) 0) fun a => by
    match a with
    | ⟨0, _⟩ =>
      show (i 0 : ℕ) = if R = 1 then 0 else (i 0 : ℕ)
      have : (i 0 : ℕ) < R := (i 0).isLt
      split <;> omega
    | ⟨1, _⟩ => rfl

/-- A centred matrix, as the reference writes it. -/
theorem reference_centre : subf x (broadcastInDim ⟨2, ![R, w]⟩ ![0, 1] hb (Host.divf (broadcastInDim ⟨2, ![R, 1]⟩ ![0] hc
    (Host.reduceAdd x (constant ⟨0, ![]⟩ .f32 0x00000000#32) hr h0)) (broadcastInDim ⟨2, ![R, 1]⟩ ![] hd (constant ⟨0, ![]⟩ .f32 d)))) = centre d x := by
  rw [reference_mean, reference_column hb (mean d x)]
  rfl

/-- A scaled matrix, as the reference writes it. -/
theorem reference_scale : mulf x (broadcastInDim ⟨2, ![R, w]⟩ ![0, 1] hb (Host.rsqrt (addf (Host.divf (broadcastInDim ⟨2, ![R, 1]⟩ ![0] hc
    (Host.reduceAdd (mulf x x) (constant ⟨0, ![]⟩ .f32 0x00000000#32) hr h0)) (broadcastInDim ⟨2, ![R, 1]⟩ ![] hd (constant ⟨0, ![]⟩ .f32 d)))
    (broadcastInDim ⟨2, ![R, 1]⟩ ![] hd (constant ⟨0, ![]⟩ .f32 e))))) = scale d e x := by
  rw [reference_mean]
  exact congrArg (mulf x) (reference_column hb fun p => Ideal.rsqrt (mean d (mulf x x) p + Ideal.ofBits .f32 e))

/-- A number's logistic function, as the reference writes it. -/
theorem reference_logistic (y : Mat R w) (hd : (⟨0, ![]⟩ : Shape).BroadcastsInDim ⟨2, ![R, w]⟩ ![]) :
    Host.divf (F := Ideal) (φ := .f32) (broadcastInDim ⟨2, ![R, w]⟩ ![] hd (constant ⟨0, ![]⟩ .f32 0x3F800000#32))
      (addf (broadcastInDim ⟨2, ![R, w]⟩ ![] hd (constant ⟨0, ![]⟩ .f32 0x3F800000#32)) (Host.exp (Host.negf (F := Ideal) (φ := .f32) y))) = fun i => logistic (y i) := rfl

end reference

end Cert.Rows

end
-- ==== Proof.RowCalls.lean ====
/-
  The calls of the forward pass that work row by row, each on blocks of 256 rows: where the blocks stand, and so, by the lemmas of
  `Rows`, what each call leaves.
-/
module

public import proofs.«01_k».proof.Defs
public import proofs.«01_k».proof.Proof.Rows
public import proofs.«01_k».proof.Proof.Gen.Glu.Frame
public import proofs.«01_k».proof.Proof.Gen.GluIdeal.Value
public import proofs.«01_k».proof.Proof.Gen.GluReferenceIdeal.Run
public import proofs.«01_k».proof.Proof.Gen.LnSilu.Frame
public import proofs.«01_k».proof.Proof.Gen.LnSiluIdeal.Value
public import proofs.«01_k».proof.Proof.Gen.LnSiluReferenceIdeal.Run
public import proofs.«01_k».proof.Proof.Gen.Merge.Frame
public import proofs.«01_k».proof.Proof.Gen.MergeIdeal.Value
public import proofs.«01_k».proof.Proof.Gen.MergeReferenceIdeal.Run
public import proofs.«01_k».proof.Proof.Gen.ResLn.Frame
public import proofs.«01_k».proof.Proof.Gen.ResLnIdeal.Value
public import proofs.«01_k».proof.Proof.Gen.ResLnReferenceIdeal.Run
public import proofs.«01_k».proof.Proof.Gen.SwiGlu.Frame
public import proofs.«01_k».proof.Proof.Gen.SwiGluIdeal.Value
public import proofs.«01_k».proof.Proof.Gen.SwiGluReferenceIdeal.Run
public import proofs.«01_k».proof.Proof.Gen.PleOut.Frame
public import proofs.«01_k».proof.Proof.Gen.PleOutIdeal.Value
public import proofs.«01_k».proof.Proof.Gen.PleOutReferenceIdeal.Run
public import Idealize.ShloMosaic.Lib.Pipeline.ValueKit
public import Idealize.ShloMosaic.Lib.Quiescent
public import Idealize.ShloMosaic.Lib.Claim

@[expose] public section

set_option maxRecDepth 16384

noncomputable section

namespace Cert.GluIdeal.Whole

open Idealize.ShloMosaic hiding ix1 ix2
open Idealize.ShloMosaic.TcCoe Idealize.SL.Sem
open Idealize.ShloMosaic.ValueIdx (ix1 ix2)
open Cert.GluIdeal Cert.GluIdeal.Gen
open Cert.Rows
open Cert.Product (Reads)

variable (m : (ℓ : Loc nD τ sig) → Buf (Elt Ideal) ℓ) (c : Dev nD)

theorem place : ∀ t : Fin cfg0.N, win0_0.index t = ![t.1, 0] ∧ win0_1.index t = ![t.1, 1] ∧ win0_2.index t = ![t.1, 0] :=
  (by decide +kernel : ∀ t : Fin grid0.N, _)

/-- The first half times the logistic function of the second. -/
def glu {r w : ℕ} (a b : Mat r w) : Mat r w := fun i => a i * logistic (b i)

theorem glu_block {r R w : ℕ} {a b : Mat r w} {A B : Mat R w} {o : ℕ} (ha : Reads a A o 0) (hb : Reads b B o 0) : Reads (glu a b) (glu A B) o 0 :=
  both (fun a b => a * logistic b) ha hb

theorem payload (a b : Mat 256 1024) : k0_pay1 (F := Ideal) a b = glu a b := congrArg (mulf (F := Ideal) (φ := .f32) a) (kernel_logistic b)

theorem final : (dats m 0 c).arrAt 2 cfg0.N = glu (columns 1024 0 (by decide) (m ((c : Thread nD τ).loc main_arg0))) (columns 1024 1024 (by decide) (m ((c : Thread nD τ).loc main_arg0))) := by
  refine (dats m 0 c).arrAt_eq_of_covers 2 _ (by decide +kernel) fun t _ y => ?_
  have h0 : Reads (r := 256) (k := 1024) (M := 16384) (K := 10368) (X0_0 m c t) (m ((c : Thread nD τ).loc main_arg0)) (t.1 * 256) 0 :=
    fun p => ⟨_, dif_pos (moved0_0 t p), by blk_simp [place t], by blk_simp [place t]⟩
  have h1 : Reads (r := 256) (k := 1024) (M := 16384) (K := 10368) (X0_1 m c t) (m ((c : Thread nD τ).loc main_arg0)) (t.1 * 256) 1024 :=
    fun p => ⟨_, dif_pos (moved0_1 t p), by blk_simp [place t], by blk_simp [place t]⟩
  rw [after0_2]; unfold outsAt0; frame_out
  refine (congrFun (payload ..) y).trans ?_
  have h := glu_block (reads_columns (by decide) h0) (reads_columns (by decide) h1)
  exact h.apply (by blk_simp [place t]) (by blk_simp [place t])

end Cert.GluIdeal.Whole

namespace Cert.LnSiluIdeal.Whole

open Idealize.ShloMosaic hiding ix1 ix2
open Idealize.ShloMosaic.TcCoe Idealize.SL.Sem
open Idealize.ShloMosaic.ValueIdx (ix1 ix2)
open Cert.LnSiluIdeal Cert.LnSiluIdeal.Gen
open Cert.Rows
open Cert.Product (Reads)

variable (m : (ℓ : Loc nD τ sig) → Buf (Elt Ideal) ℓ) (c : Dev nD)

theorem place : ∀ t : Fin cfg0.N, win0_0.index t = ![t.1, 0] ∧ win0_1.index t = ![0, 0] ∧ win0_2.index t = ![0, 0] ∧ win0_3.index t = ![t.1, 0] :=
  (by decide +kernel : ∀ t : Fin grid0.N, _)

/-- The normalised row, times its logistic function. -/
def lnSilu {r w : ℕ} (x : Mat r w) (g b : Mat 1 w) : Mat r w := fun i => silu (layer 0x44800000#32 0x3727C5AC#32 x g b i)

theorem lnSilu_block {r R w : ℕ} {x : Mat r w} {X : Mat R w} {g b G B : Mat 1 w} {o : ℕ} (hx : Reads x X o 0) (hg : Reads g G 0 0) (hb : Reads b B 0 0) : Reads (lnSilu x g b) (lnSilu X G B) o 0 :=
  have h := layer_block 0x44800000#32 0x3727C5AC#32 hx hg hb
  both (fun a _ => silu a) h h

theorem payload (x : Mat 256 1024) (g b : Mat 1 1024) : k0_pay1 (F := Ideal) x g b = lnSilu x g b :=
  (congrArg (fun n : FVec Ideal S256x1024 .f32 => mulf n (divf (broadcast S256x1024 (Scalar.ofBits .f32 0x3F800000#32))
    (addf (broadcast S256x1024 (Scalar.ofBits .f32 0x3F800000#32)) (exp (subf (broadcast S256x1024 (Scalar.ofBits .f32 0x00000000#32)) n)))))
    (kernel_layer 0x44800000#32 0x3727C5AC#32 x reduces_S256x1024_S256 shapeCasts_S256_S256x1 broadcasts_S256x1_S256x1024 g b
    broadcasts_S1x1024_S256x1024 (.inl rfl) rfl)).trans (congrArg (mulf (F := Ideal) (φ := .f32) _) (kernel_logistic _))

theorem final : (dats m 0 c).arrAt 3 cfg0.N = lnSilu (m ((c : Thread nD τ).loc main_arg0)) (m ((c : Thread nD τ).loc main_arg1)) (m ((c : Thread nD τ).loc main_arg2)) := by
  refine (dats m 0 c).arrAt_eq_of_covers 3 _ (by decide +kernel) fun t _ y => ?_
  have h0 : Reads (r := 256) (k := 1024) (M := 16384) (K := 1024) (iblk m c 0 t) (m ((c : Thread nD τ).loc main_arg0)) (t.1 * 256) 0 :=
    fun p => ⟨_, rfl, by blk_simp [place t], by blk_simp [place t]⟩
  have h1 : Reads (r := 1) (k := 1024) (M := 1) (K := 1024) (iblk m c 1 t) (m ((c : Thread nD τ).loc main_arg1)) 0 0 :=
    fun p => ⟨_, rfl, by blk_simp [place t], by blk_simp [place t]⟩
  have h2 : Reads (r := 1) (k := 1024) (M := 1) (K := 1024) (iblk m c 2 t) (m ((c : Thread nD τ).loc main_arg2)) 0 0 :=
    fun p => ⟨_, rfl, by blk_simp [place t], by blk_simp [place t]⟩
  rw [after0_3]; frame_out
  refine (congrFun (payload ..) y).trans ?_
  have h := lnSilu_block h0 h1 h2
  exact h.apply (by blk_simp [place t]) (by blk_simp [place t])

end Cert.LnSiluIdeal.Whole

namespace Cert.MergeIdeal.Whole

open Idealize.ShloMosaic hiding ix1 ix2
open Idealize.ShloMosaic.TcCoe Idealize.SL.Sem
open Idealize.ShloMosaic.ValueIdx (ix1 ix2)
open Cert.MergeIdeal Cert.MergeIdeal.Gen
open Cert.Rows
open Cert.Product (Reads)

variable (m : (ℓ : Loc nD τ sig) → Buf (Elt Ideal) ℓ) (c : Dev nD)

theorem place : ∀ t : Fin cfg0.N, win0_0.index t = ![t.1, 2] ∧ win0_1.index t = ![t.1, 3] ∧ win0_2.index t = ![t.1, 0] ∧ win0_3.index t = ![t.1, 0] ∧ win0_4.index t = ![t.1, 0] :=
  (by decide +kernel : ∀ t : Fin grid0.N, _)

/-- The two branches, each times the logistic function of its gate. -/
def merge {r w : ℕ} (a b x y : Mat r w) : Mat r w := fun i => logistic (a i) * x i + logistic (b i) * y i

theorem merge_block {r R w : ℕ} {a b x y : Mat r w} {A B X Y : Mat R w} {o : ℕ} (ha : Reads a A o 0) (hb : Reads b B o 0) (hx : Reads x X o 0)
    (hy : Reads y Y o 0) : Reads (merge a b x y) (merge A B X Y) o 0 :=
  both (· + ·) (both (fun a x => logistic a * x) ha hx) (both (fun b y => logistic b * y) hb hy)

theorem payload (a b x y : Mat 256 1024) : k0_pay1 (F := Ideal) a b x y = merge a b x y :=
  congrArg₂ (fun g h => addf (F := Ideal) (φ := .f32) (mulf (F := Ideal) (φ := .f32) g x) (mulf (F := Ideal) (φ := .f32) h y)) (kernel_logistic a) (kernel_logistic b)

theorem final : (dats m 0 c).arrAt 4 cfg0.N = merge (columns 1024 2048 (by decide) (m ((c : Thread nD τ).loc main_arg0))) (columns 1024 3072 (by decide) (m ((c : Thread nD τ).loc main_arg0))) (m ((c : Thread nD τ).loc main_arg1)) (m ((c : Thread nD τ).loc main_arg2)) := by
  refine (dats m 0 c).arrAt_eq_of_covers 4 _ (by decide +kernel) fun t _ y => ?_
  have h0 : Reads (r := 256) (k := 1024) (M := 16384) (K := 10368) (X0_0 m c t) (m ((c : Thread nD τ).loc main_arg0)) (t.1 * 256) 2048 :=
    fun p => ⟨_, dif_pos (moved0_0 t p), by blk_simp [place t], by blk_simp [place t]⟩
  have h1 : Reads (r := 256) (k := 1024) (M := 16384) (K := 10368) (X0_1 m c t) (m ((c : Thread nD τ).loc main_arg0)) (t.1 * 256) 3072 :=
    fun p => ⟨_, dif_pos (moved0_1 t p), by blk_simp [place t], by blk_simp [place t]⟩
  have h2 : Reads (r := 256) (k := 1024) (M := 16384) (K := 1024) (iblk m c 2 t) (m ((c : Thread nD τ).loc main_arg1)) (t.1 * 256) 0 :=
    fun p => ⟨_, rfl, by blk_simp [place t], by blk_simp [place t]⟩
  have h3 : Reads (r := 256) (k := 1024) (M := 16384) (K := 1024) (iblk m c 3 t) (m ((c : Thread nD τ).loc main_arg2)) (t.1 * 256) 0 :=
    fun p => ⟨_, rfl, by blk_simp [place t], by blk_simp [place t]⟩
  rw [after0_4]; unfold outsAt0; frame_out
  refine (congrFun (payload ..) y).trans ?_
  have h := merge_block (reads_columns (by decide) h0) (reads_columns (by decide) h1) h2 h3
  exact h.apply (by blk_simp [place t]) (by blk_simp [place t])

end Cert.MergeIdeal.Whole

namespace Cert.ResLnIdeal.Whole

open Idealize.ShloMosaic hiding ix1 ix2
open Idealize.ShloMosaic.TcCoe Idealize.SL.Sem
open Idealize.ShloMosaic.ValueIdx (ix1 ix2)
open Cert.ResLnIdeal Cert.ResLnIdeal.Gen
open Cert.Rows
open Cert.Product (Reads)

variable (m : (ℓ : Loc nD τ sig) → Buf (Elt Ideal) ℓ) (c : Dev nD)

theorem place : ∀ t : Fin cfg0.N, win0_0.index t = ![t.1, 0] ∧ win0_1.index t = ![t.1, 0] ∧ win0_2.index t = ![0, 0] ∧ win0_3.index t = ![0, 0] ∧ win0_4.index t = ![t.1, 0] :=
  (by decide +kernel : ∀ t : Fin grid0.N, _)

/-- The weighted sum of a row and what its block of the layer added. -/
def residual {r w : ℕ} (x y : Mat r w) : Mat r w := fun i => Ideal.ofBits .f32 0x3FB504F3#32 * x i + y i

theorem residual_block {r R w : ℕ} {x y : Mat r w} {X Y : Mat R w} {o : ℕ} (hx : Reads x X o 0) (hy : Reads y Y o 0) : Reads (residual x y) (residual X Y) o 0 :=
  both (fun x y => Ideal.ofBits .f32 0x3FB504F3#32 * x + y) hx hy

theorem payload (x y : Mat 256 1024) (g b : Mat 1 1024) : k0_pay1 (F := Ideal) x y g b = layer 0x44800000#32 0x3727C5AC#32 (residual x y) g b :=
  kernel_layer 0x44800000#32 0x3727C5AC#32 (residual x y) reduces_S256x1024_S256 shapeCasts_S256_S256x1 broadcasts_S256x1_S256x1024 g b
    broadcasts_S1x1024_S256x1024 (.inl rfl) rfl

theorem final : (dats m 0 c).arrAt 4 cfg0.N = layer 0x44800000#32 0x3727C5AC#32 (residual (m ((c : Thread nD τ).loc main_arg0)) (m ((c : Thread nD τ).loc main_arg1))) (m ((c : Thread nD τ).loc main_arg2)) (m ((c : Thread nD τ).loc main_arg3)) := by
  refine (dats m 0 c).arrAt_eq_of_covers 4 _ (by decide +kernel) fun t _ y => ?_
  have h0 : Reads (r := 256) (k := 1024) (M := 16384) (K := 1024) (iblk m c 0 t) (m ((c : Thread nD τ).loc main_arg0)) (t.1 * 256) 0 :=
    fun p => ⟨_, rfl, by blk_simp [place t], by blk_simp [place t]⟩
  have h1 : Reads (r := 256) (k := 1024) (M := 16384) (K := 1024) (iblk m c 1 t) (m ((c : Thread nD τ).loc main_arg1)) (t.1 * 256) 0 :=
    fun p => ⟨_, rfl, by blk_simp [place t], by blk_simp [place t]⟩
  have h2 : Reads (r := 1) (k := 1024) (M := 1) (K := 1024) (iblk m c 2 t) (m ((c : Thread nD τ).loc main_arg2)) 0 0 :=
    fun p => ⟨_, rfl, by blk_simp [place t], by blk_simp [place t]⟩
  have h3 : Reads (r := 1) (k := 1024) (M := 1) (K := 1024) (iblk m c 3 t) (m ((c : Thread nD τ).loc main_arg3)) 0 0 :=
    fun p => ⟨_, rfl, by blk_simp [place t], by blk_simp [place t]⟩
  rw [after0_4]; frame_out
  refine (congrFun (payload ..) y).trans ?_
  have h := layer_block 0x44800000#32 0x3727C5AC#32 (residual_block h0 h1) h2 h3
  exact h.apply (by blk_simp [place t]) (by blk_simp [place t])

end Cert.ResLnIdeal.Whole

namespace Cert.SwiGluIdeal.Whole

open Idealize.ShloMosaic hiding ix1 ix2
open Idealize.ShloMosaic.TcCoe Idealize.SL.Sem
open Idealize.ShloMosaic.ValueIdx (ix1 ix2)
open Cert.SwiGluIdeal Cert.SwiGluIdeal.Gen
open Cert.Rows
open Cert.Product (Reads)

variable (m : (ℓ : Loc nD τ sig) → Buf (Elt Ideal) ℓ) (c : Dev nD)

theorem place : ∀ t : Fin cfg0.N, win0_0.index t = ![t.1, 0] ∧ win0_1.index t = ![t.1, 1] ∧ win0_2.index t = ![t.1, 0] :=
  (by decide +kernel : ∀ t : Fin grid0.N, _)

/-- The first half times its logistic function, times the second half. -/
def swiGlu {r w : ℕ} (a b : Mat r w) : Mat r w := fun i => silu (a i) * b i

theorem swiGlu_block {r R w : ℕ} {a b : Mat r w} {A B : Mat R w} {o : ℕ} (ha : Reads a A o 0) (hb : Reads b B o 0) : Reads (swiGlu a b) (swiGlu A B) o 0 :=
  both (fun a b => silu a * b) ha hb

theorem payload (a b : Mat 256 2816) : k0_pay1 (F := Ideal) a b = swiGlu a b :=
  congrArg (fun s => mulf (F := Ideal) (φ := .f32) (mulf (F := Ideal) (φ := .f32) a s) b) (kernel_logistic a)

theorem final : (dats m 0 c).arrAt 2 cfg0.N = swiGlu (columns 2816 0 (by decide) (m ((c : Thread nD τ).loc main_arg0))) (columns 2816 2816 (by decide) (m ((c : Thread nD τ).loc main_arg0))) := by
  refine (dats m 0 c).arrAt_eq_of_covers 2 _ (by decide +kernel) fun t _ y => ?_
  have h0 : Reads (r := 256) (k := 2816) (M := 16384) (K := 5632) (iblk m c 0 t) (m ((c : Thread nD τ).loc main_arg0)) (t.1 * 256) 0 :=
    fun p => ⟨_, rfl, by blk_simp [place t], by blk_simp [place t]⟩
  have h1 : Reads (r := 256) (k := 2816) (M := 16384) (K := 5632) (iblk m c 1 t) (m ((c : Thread nD τ).loc main_arg0)) (t.1 * 256) 2816 :=
    fun p => ⟨_, rfl, by blk_simp [place t], by blk_simp [place t]⟩
  rw [after0_2]; frame_out
  refine (congrFun (payload ..) y).trans ?_
  have h := swiGlu_block (reads_columns (by decide) h0) (reads_columns (by decide) h1)
  exact h.apply (by blk_simp [place t]) (by blk_simp [place t])

end Cert.SwiGluIdeal.Whole

namespace Cert.PleOutIdeal.Whole

open Idealize.ShloMosaic hiding ix1 ix2
open Idealize.ShloMosaic.TcCoe Idealize.SL.Sem
open Idealize.ShloMosaic.ValueIdx (ix1 ix2)
open Cert.PleOutIdeal Cert.PleOutIdeal.Gen
open Cert.Rows
open Cert.Product (Reads)

variable (m : (ℓ : Loc nD τ sig) → Buf (Elt Ideal) ℓ) (c : Dev nD)

theorem place : ∀ t : Fin cfg0.N, win0_0.index t = ![t.1, 0] ∧ win0_1.index t = ![t.1, 0] ∧ win0_2.index t = ![t.1, 0] ∧ win0_3.index t = ![0, 0] ∧ win0_4.index t = ![t.1, 0] :=
  (by decide +kernel : ∀ t : Fin grid0.N, _)

/-- A row, plus the scaled row of the embedding times its weights and the logistic function of its gate. -/
def ple {r w : ℕ} (x e a : Mat r w) (g : Mat 1 w) : Mat r w :=
  fun i => x i + scale 0x44800000#32 0x358637BD#32 e i * g (ix2 0 (i 1)) * logistic (a i)

theorem ple_block {r R w : ℕ} {x e a : Mat r w} {X E A : Mat R w} {g G : Mat 1 w} {o : ℕ} (hx : Reads x X o 0) (he : Reads e E o 0) (ha : Reads a A o 0)
    (hg : Reads g G 0 0) : Reads (ple x e a g) (ple X E A G) o 0 :=
  both (· + ·) hx (both (fun e a => e * logistic a) (withRow (· * ·) (scale_block _ _ he) hg) ha)

theorem payload (x e a : Mat 256 1024) (g : Mat 1 1024) : k0_pay1 (F := Ideal) x e a g = ple x e a g :=
  (congrArg₂ (fun s l : FVec Ideal S256x1024 .f32 => addf (F := Ideal) (φ := .f32) x (mulf (mulf s (broadcastTo S256x1024 g broadcasts_S1x1024_S256x1024)) l))
    (kernel_scale 0x44800000#32 0x358637BD#32 e reduces_S256x1024_S256 shapeCasts_S256_S256x1 broadcasts_S256x1_S256x1024 (.inl rfl) rfl)
    (kernel_logistic a)).trans
    (congrArg (fun k : FVec Ideal S256x1024 .f32 => addf (F := Ideal) (φ := .f32) x (mulf (mulf (scale 0x44800000#32 0x358637BD#32 e) k) fun i => logistic (a i)))
      (kernel_row g broadcasts_S1x1024_S256x1024))

theorem final : (dats m 0 c).arrAt 4 cfg0.N = ple (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have h0 : Reads (r := 256) (k := 1024) (M := 16384) (K := 1024) (iblk m c 0 t) (m ((c : Thread nD τ).loc main_arg0)) (t.1 * 256) 0 :=
    fun p => ⟨_, rfl, by blk_simp [place t], by blk_simp [place t]⟩
  have h1 : Reads (r := 256) (k := 1024) (M := 16384) (K := 1024) (iblk m c 1 t) (m ((c : Thread nD τ).loc main_arg1)) (t.1 * 256) 0 :=
    fun p => ⟨_, rfl, by blk_simp [place t], by blk_simp [place t]⟩
  have h2 : Reads (r := 256) (k := 1024) (M := 16384) (K := 1024) (iblk m c 2 t) (m ((c : Thread nD τ).loc main_arg2)) (t.1 * 256) 0 :=
    fun p => ⟨_, rfl, by blk_simp [place t], by blk_simp [place t]⟩
  have h3 : Reads (r := 1) (k := 1024) (M := 1) (K := 1024) (iblk m c 3 t) (m ((c : Thread nD τ).loc main_arg3)) 0 0 :=
    fun p => ⟨_, rfl, by blk_simp [place t], by blk_simp [place t]⟩
  rw [after0_4]; frame_out
  refine (congrFun (payload ..) y).trans ?_
  have h := ple_block h0 h1 h2 h3
  exact h.apply (by blk_simp [place t]) (by blk_simp [place t])

end Cert.PleOutIdeal.Whole

namespace Cert

open Idealize.ShloMosaic Idealize.ShloMosaic.TcCoe Idealize.SL.Sem
open Rows

theorem frame_Glu : quiescent_Glu := fun m ρ _ => Glu.Gen.frame m ρ
theorem frame_GluIdeal : quiescent_GluIdeal := fun m ρ _ => GluIdeal.Gen.frame m ρ
theorem frame_GluReferenceIdeal : quiescent_GluReferenceIdeal := fun m ρ _ =>
  (θ_run GluReferenceIdeal.defs _ _).mono (fun _ h => ⟨fun c => (h c).2, sem_eq_zero_of_no_sems (by rfl) _⟩)
    (GluReferenceIdeal.Value.run (F := Ideal) m ρ)

theorem algebraic_Glu : algebraic_GluIdeal_GluReferenceIdeal := fun m g m' g' _ hA =>
  ⟨_,
    (θ_run GluIdeal.defs _ _).mono (fun _ h c => ⟨(h c).1.trans (GluIdeal.Whole.final m c), (h c).2⟩)
      (GluIdeal.Value.run_blocks (F := Ideal) m g),
    (θ_run GluReferenceIdeal.defs _ _).mono (fun _ h c => by
      refine ⟨(h c).1.trans ?_, (h c).2⟩
      rw [(hA c)]
      refine congrArg₂ (fun a b : Mat 16384 1024 => GluIdeal.Whole.glu a b) ?_ ?_
      · exact slice_slice_eq (z := 0) (z' := 0) _ GluReferenceIdeal.Gen.slices_S16384x10368_S16384x2048_0_0
          GluReferenceIdeal.Gen.slices_S16384x2048_S16384x1024_0_0 (by decide) (by decide) (by decide)
      · exact slice_slice_eq (z := 0) (z' := 1024) _ GluReferenceIdeal.Gen.slices_S16384x10368_S16384x2048_0_0
          GluReferenceIdeal.Gen.slices_S16384x2048_S16384x1024_0_1024 (by decide) (by decide) (by decide))
      (GluReferenceIdeal.Value.run (F := Ideal) m' g')⟩

theorem frame_LnSilu : quiescent_LnSilu := fun m ρ _ => LnSilu.Gen.frame m ρ
theorem frame_LnSiluIdeal : quiescent_LnSiluIdeal := fun m ρ _ => LnSiluIdeal.Gen.frame m ρ
theorem frame_LnSiluReferenceIdeal : quiescent_LnSiluReferenceIdeal := fun m ρ _ =>
  (θ_run LnSiluReferenceIdeal.defs _ _).mono (fun _ h => ⟨fun c => (h c).2, sem_eq_zero_of_no_sems (by rfl) _⟩)
    (LnSiluReferenceIdeal.Value.run (F := Ideal) m ρ)

theorem algebraic_LnSilu : algebraic_LnSiluIdeal_LnSiluReferenceIdeal := fun m g m' g' _ hA =>
  ⟨_,
    (θ_run LnSiluIdeal.defs _ _).mono (fun _ h c => ⟨(h c).1.trans (LnSiluIdeal.Whole.final m c), (h c).2⟩)
      (LnSiluIdeal.Value.run_blocks (F := Ideal) m g),
    (θ_run LnSiluReferenceIdeal.defs _ _).mono (fun _ h c => by
      refine ⟨(h c).1.trans ?_, (h c).2⟩
      rw [(hA c).1, (hA c).2.1, (hA c).2.2]
      rw [reference_centre, reference_scale, reference_row, reference_row, reference_logistic]
      rfl)
      (LnSiluReferenceIdeal.Value.run (F := Ideal) m' g')⟩

theorem frame_Merge : quiescent_Merge := fun m ρ _ => Merge.Gen.frame m ρ
theorem frame_MergeIdeal : quiescent_MergeIdeal := fun m ρ _ => MergeIdeal.Gen.frame m ρ
theorem frame_MergeReferenceIdeal : quiescent_MergeReferenceIdeal := fun m ρ _ =>
  (θ_run MergeReferenceIdeal.defs _ _).mono (fun _ h => ⟨fun c => (h c).2, sem_eq_zero_of_no_sems (by rfl) _⟩)
    (MergeReferenceIdeal.Value.run (F := Ideal) m ρ)

theorem algebraic_Merge : algebraic_MergeIdeal_MergeReferenceIdeal := fun m g m' g' _ hA =>
  ⟨_,
    (θ_run MergeIdeal.defs _ _).mono (fun _ h c => ⟨(h c).1.trans (MergeIdeal.Whole.final m c), (h c).2⟩)
      (MergeIdeal.Value.run_blocks (F := Ideal) m g),
    (θ_run MergeReferenceIdeal.defs _ _).mono (fun _ h c => by
      refine ⟨(h c).1.trans ?_, (h c).2⟩
      rw [(hA c).1, (hA c).2.1, (hA c).2.2]
      refine congrArg₂ (fun a b : Mat 16384 1024 => MergeIdeal.Whole.merge a b _ _) ?_ ?_
      · exact slice_slice_eq (z := 2048) (z' := 0) _ MergeReferenceIdeal.Gen.slices_S16384x10368_S16384x2048_0_2048
          MergeReferenceIdeal.Gen.slices_S16384x2048_S16384x1024_0_0 (by decide) (by decide) (by decide)
      · exact slice_slice_eq (z := 2048) (z' := 1024) _ MergeReferenceIdeal.Gen.slices_S16384x10368_S16384x2048_0_2048
          MergeReferenceIdeal.Gen.slices_S16384x2048_S16384x1024_0_1024 (by decide) (by decide) (by decide))
      (MergeReferenceIdeal.Value.run (F := Ideal) m' g')⟩

theorem frame_ResLn : quiescent_ResLn := fun m ρ _ => ResLn.Gen.frame m ρ
theorem frame_ResLnIdeal : quiescent_ResLnIdeal := fun m ρ _ => ResLnIdeal.Gen.frame m ρ
theorem frame_ResLnReferenceIdeal : quiescent_ResLnReferenceIdeal := fun m ρ _ =>
  (θ_run ResLnReferenceIdeal.defs _ _).mono (fun _ h => ⟨fun c => (h c).2, sem_eq_zero_of_no_sems (by rfl) _⟩)
    (ResLnReferenceIdeal.Value.run (F := Ideal) m ρ)

theorem algebraic_ResLn : algebraic_ResLnIdeal_ResLnReferenceIdeal := fun m g m' g' _ hA =>
  ⟨_,
    (θ_run ResLnIdeal.defs _ _).mono (fun _ h c => ⟨(h c).1.trans (ResLnIdeal.Whole.final m c), (h c).2⟩)
      (ResLnIdeal.Value.run_blocks (F := Ideal) m g),
    (θ_run ResLnReferenceIdeal.defs _ _).mono (fun _ h c => by
      refine ⟨(h c).1.trans ?_, (h c).2⟩
      rw [(hA c).1, (hA c).2.1, (hA c).2.2.1, (hA c).2.2.2]
      rw [reference_centre, reference_scale, reference_row, reference_row]
      rfl)
      (ResLnReferenceIdeal.Value.run (F := Ideal) m' g')⟩

theorem frame_SwiGlu : quiescent_SwiGlu := fun m ρ _ => SwiGlu.Gen.frame m ρ
theorem frame_SwiGluIdeal : quiescent_SwiGluIdeal := fun m ρ _ => SwiGluIdeal.Gen.frame m ρ
theorem frame_SwiGluReferenceIdeal : quiescent_SwiGluReferenceIdeal := fun m ρ _ =>
  (θ_run SwiGluReferenceIdeal.defs _ _).mono (fun _ h => ⟨fun c => (h c).2, sem_eq_zero_of_no_sems (by rfl) _⟩)
    (SwiGluReferenceIdeal.Value.run (F := Ideal) m ρ)

theorem algebraic_SwiGlu : algebraic_SwiGluIdeal_SwiGluReferenceIdeal := fun m g m' g' _ hA =>
  ⟨_,
    (θ_run SwiGluIdeal.defs _ _).mono (fun _ h c => ⟨(h c).1.trans (SwiGluIdeal.Whole.final m c), (h c).2⟩)
      (SwiGluIdeal.Value.run_blocks (F := Ideal) m g),
    (θ_run SwiGluReferenceIdeal.defs _ _).mono (fun _ h c => by
      refine ⟨(h c).1.trans ?_, (h c).2⟩
      rw [(hA c)]
      refine congrArg₂ (fun a b : Mat 16384 2816 => SwiGluIdeal.Whole.swiGlu a b) ?_ ?_
      · exact slice_eq (z := 0) _ _ (by decide)
      · exact slice_eq (z := 2816) _ _ (by decide))
      (SwiGluReferenceIdeal.Value.run (F := Ideal) m' g')⟩

theorem frame_PleOut : quiescent_PleOut := fun m ρ _ => PleOut.Gen.frame m ρ
theorem frame_PleOutIdeal : quiescent_PleOutIdeal := fun m ρ _ => PleOutIdeal.Gen.frame m ρ
theorem frame_PleOutReferenceIdeal : quiescent_PleOutReferenceIdeal := fun m ρ _ =>
  (θ_run PleOutReferenceIdeal.defs _ _).mono (fun _ h => ⟨fun c => (h c).2, sem_eq_zero_of_no_sems (by rfl) _⟩)
    (PleOutReferenceIdeal.Value.run (F := Ideal) m ρ)

theorem algebraic_PleOut : algebraic_PleOutIdeal_PleOutReferenceIdeal := fun m g m' g' _ hA =>
  ⟨_,
    (θ_run PleOutIdeal.defs _ _).mono (fun _ h c => ⟨(h c).1.trans (PleOutIdeal.Whole.final m c), (h c).2⟩)
      (PleOutIdeal.Value.run_blocks (F := Ideal) m g),
    (θ_run PleOutReferenceIdeal.defs _ _).mono (fun _ h c => by
      refine ⟨(h c).1.trans ?_, (h c).2⟩
      rw [(hA c).1, (hA c).2.1, (hA c).2.2.1, (hA c).2.2.2]
      rw [reference_scale, reference_row, reference_logistic]
      rfl)
      (PleOutReferenceIdeal.Value.run (F := Ideal) m' g')⟩

end Cert

end
-- ==== Proof.Groups.lean ====
/-
  The norm over groups of columns, as functions of whole arrays over the extended reals: 2048 columns in eight groups of 256. How a
  kernel writes it, group by group, with the eight pieces joined; how the reference writes it, with the groups as an axis of their
  own; and that a block of rows of the result is the function of the block of rows.
-/
module

public import proofs.«01_k».proof.Proof.Rows

@[expose] public section

noncomputable section

namespace Cert.Rows

open Idealize.ShloMosaic hiding ix1 ix2 ix3 eq_ix1 eq_ix2
open Idealize.ShloMosaic.ValueIdx (ix1 ix2 ix3 eq_ix2)
open Cert.Product (Reads)

variable {r R : ℕ}

/-- The sum of two matrices and a third one's SiLU times a row, all times the SiLU of a fourth. -/
def gated {w : ℕ} (a b x z : Mat r w) (d : Mat 1 w) : Mat r w :=
  fun i => (a i + b i + silu (x i) * d (ix2 0 (i 1))) * silu (z i)

/-- The column `k` of the group that column `q` is in. -/
def fellow (q : Fin 2048) (k : Fin 256) : Fin 2048 := ⟨256 * ((q : ℕ) / 256) + k, by omega⟩

/-- A matrix over the root of the mean square of its row in the column's group, with a small number `e` added under the root. -/
def groups (d e : BitVec 32) (y : Mat r 2048) : Mat r 2048 :=
  fun i => y i * Ideal.rsqrt (Ideal.div (∑ k, y (ix2 (i 0) (fellow (i 1) k)) * y (ix2 (i 0) (fellow (i 1) k))) (Ideal.ofBits .f32 d) + Ideal.ofBits .f32 e)

/-- The norm over groups of a gated sum, times the weights `g`. -/
def groupNorm (d e : BitVec 32) (a b x z : Mat r 2048) (v g : Mat 1 2048) : Mat r 2048 :=
  fun i => groups d e (gated a b x z v) i * g (ix2 0 (i 1))

/-- A block of a gated sum. -/
theorem gated_block {w o : ℕ} {a b x z : Mat r w} {A B X Z : Mat R w} {v V : Mat 1 w} (ha : Reads a A o 0) (hb : Reads b B o 0)
    (hx : Reads x X o 0) (hz : Reads z Z o 0) (hv : Reads v V 0 0) : Reads (gated a b x z v) (gated A B X Z V) o 0 :=
  both (fun p q => p * silu q) (both (· + ·) (both (· + ·) ha hb) (withRow (fun p q => silu p * q) hx hv)) hz

/-- A block of a matrix scaled by groups. -/
theorem groups_block {o : ℕ} (d e : BitVec 32) {y : Mat r 2048} {Y : Mat R 2048} (h : Reads y Y o 0) :
    Reads (groups d e y) (groups d e Y) o 0 := fun p => by
  obtain ⟨q, hq, h0, h1⟩ := h p
  have hk (k : Fin 256) : y (ix2 (p 0) (fellow (p 1) k)) = Y (ix2 (q 0) (fellow (q 1) k)) :=
    h.apply (p := ix2 (p 0) (fellow (p 1) k)) (i := ix2 (q 0) (fellow (q 1) k)) h0 (by
      have : (q 1 : ℕ) = 0 + (p 1 : ℕ) := h1
      show 256 * ((q 1 : ℕ) / 256) + (k : ℕ) = 0 + (256 * ((p 1 : ℕ) / 256) + (k : ℕ))
      rw [this, Nat.zero_add, Nat.zero_add])
  refine ⟨q, congrArg₂ (fun u s => u * Ideal.rsqrt (Ideal.div s _ + _)) hq (Finset.sum_congr rfl fun k _ => ?_), h0, h1⟩
  rw [hk k]

/-- A block of a norm over groups. -/
theorem groupNorm_block {o : ℕ} (d e : BitVec 32) {a b x z : Mat r 2048} {A B X Z : Mat R 2048} {v V g G : Mat 1 2048} (ha : Reads a A o 0)
    (hb : Reads b B o 0) (hx : Reads x X o 0) (hz : Reads z Z o 0) (hv : Reads v V 0 0) (hg : Reads g G 0 0) :
    Reads (groupNorm d e a b x z v g) (groupNorm d e A B X Z V G) o 0 :=
  withRow (· * ·) (groups_block d e (gated_block ha hb hx hz hv)) hg

/-- A gated sum, as a kernel writes it. -/
theorem kernel_gated {w : ℕ} (a b x z : Mat r w) (v : Mat 1 w) (h : (⟨2, ![1, w]⟩ : Shape).Broadcasts ⟨2, ![r, w]⟩) :
    mulf (F := Ideal) (φ := .f32) (addf (addf a b) (mulf (mulf x (divf (broadcast ⟨2, ![r, w]⟩ (Scalar.ofBits .f32 0x3F800000#32))
      (addf (broadcast ⟨2, ![r, w]⟩ (Scalar.ofBits .f32 0x3F800000#32)) (exp (subf (broadcast ⟨2, ![r, w]⟩ (Scalar.ofBits .f32 0x00000000#32)) x)))))
      (broadcastTo ⟨2, ![r, w]⟩ v h))) (mulf z (divf (broadcast ⟨2, ![r, w]⟩ (Scalar.ofBits .f32 0x3F800000#32))
      (addf (broadcast ⟨2, ![r, w]⟩ (Scalar.ofBits .f32 0x3F800000#32)) (exp (subf (broadcast ⟨2, ![r, w]⟩ (Scalar.ofBits .f32 0x00000000#32)) z))))) =
    gated a b x z v := by
  rw [kernel_logistic, kernel_logistic, kernel_row]
  rfl

/-- A gated sum, as the reference writes it. -/
theorem reference_gated {w : ℕ} (a b x z : Mat R w) (v : Mat 1 w) (h : (⟨2, ![1, w]⟩ : Shape).BroadcastsInDim ⟨2, ![R, w]⟩ ![0, 1])
    (hd : (⟨0, ![]⟩ : Shape).BroadcastsInDim ⟨2, ![R, w]⟩ ![]) :
    mulf (F := Ideal) (φ := .f32) (addf (addf a b) (mulf (mulf x (Host.divf (broadcastInDim ⟨2, ![R, w]⟩ ![] hd (constant ⟨0, ![]⟩ .f32 0x3F800000#32))
      (addf (broadcastInDim ⟨2, ![R, w]⟩ ![] hd (constant ⟨0, ![]⟩ .f32 0x3F800000#32)) (Host.exp (Host.negf (F := Ideal) (φ := .f32) x)))))
      (broadcastInDim ⟨2, ![R, w]⟩ ![0, 1] h v))) (mulf z (Host.divf (broadcastInDim ⟨2, ![R, w]⟩ ![] hd (constant ⟨0, ![]⟩ .f32 0x3F800000#32))
      (addf (broadcastInDim ⟨2, ![R, w]⟩ ![] hd (constant ⟨0, ![]⟩ .f32 0x3F800000#32)) (Host.exp (Host.negf (F := Ideal) (φ := .f32) z))))) =
    gated a b x z v := by
  rw [reference_row, reference_logistic, reference_logistic]
  rfl

/-- One group: the columns of a norm over groups from column `256 * n` on. -/
theorem group_apply (d e : BitVec 32) (a b x z : Mat r 2048) (v g : Mat 1 2048) (n : ℕ) (hn : 256 * n + 256 ≤ 2048) (y : (⟨2, ![r, 2048]⟩ : Shape).Idx)
    (i : (⟨2, ![r, 256]⟩ : Shape).Idx) (h0 : (y 0 : ℕ) = i 0) (h1 : (y 1 : ℕ) = 256 * n + i 1) :
    scale d e (gated (columns 256 (256 * n) hn a) (columns 256 (256 * n) hn b) (columns 256 (256 * n) hn x) (columns 256 (256 * n) hn z)
      (columns 256 (256 * n) hn v)) i * columns 256 (256 * n) hn g (ix2 0 (i 1)) = groupNorm d e a b x z v g y := by
  have hi : (i 1 : ℕ) < 256 := (i 1).isLt
  have hy0 : y 0 = i 0 := Fin.ext h0
  have hy1 : y 1 = (⟨256 * n + (i 1 : ℕ), by omega⟩ : Fin 2048) := Fin.ext h1
  have hf (k : Fin 256) : fellow (y 1) k = ⟨256 * n + (k : ℕ), by omega⟩ := Fin.ext (by
    show 256 * ((y 1 : ℕ) / 256) + (k : ℕ) = 256 * n + (k : ℕ)
    rw [h1]
    omega)
  have hy : y = ix2 (i 0) (⟨256 * n + (i 1 : ℕ), by omega⟩ : Fin 2048) := by
    rw [eq_ix2 y, ← hy1, ← hy0]
    rfl
  have hs : (∑ k, gated a b x z v (ix2 (y 0) (fellow (y 1) k)) * gated a b x z v (ix2 (y 0) (fellow (y 1) k))) =
      ∑ k : Fin 256, gated a b x z v (ix2 (i 0) ⟨256 * n + (k : ℕ), by omega⟩) * gated a b x z v (ix2 (i 0) ⟨256 * n + (k : ℕ), by omega⟩) :=
    Finset.sum_congr rfl fun k _ => by rw [hf k, hy0]
  show _ = gated a b x z v y * Ideal.rsqrt (Ideal.div (∑ k, gated a b x z v (ix2 (y 0) (fellow (y 1) k)) * gated a b x z v (ix2 (y 0) (fellow (y 1) k))) _ + _) *
    g (ix2 0 (y 1))
  rw [hs, hy]
  rfl

section reference

variable (d e : BitVec 32) (y : FVec Ideal ⟨2, ![R, 2048]⟩ .f32) (hs : (⟨2, ![R, 2048]⟩ : Shape).ShapeCasts ⟨3, ![R, 8, 256]⟩)
  (hs' : (⟨3, ![R, 8, 256]⟩ : Shape).ShapeCasts ⟨2, ![R, 2048]⟩) (hr : (⟨3, ![R, 8, 256]⟩ : Shape).ReducesTo [2] ⟨2, ![R, 8]⟩)
  (hc : (⟨2, ![R, 8]⟩ : Shape).BroadcastsInDim ⟨3, ![R, 8, 1]⟩ ![0, 1]) (hb : (⟨3, ![R, 8, 1]⟩ : Shape).BroadcastsInDim ⟨3, ![R, 8, 256]⟩ ![0, 1, 2])
  (hd : (⟨0, ![]⟩ : Shape).BroadcastsInDim ⟨3, ![R, 8, 1]⟩ ![]) (h0 : 0 < (⟨0, ![]⟩ : Shape).numel)

/-- The groups as an axis of their own. -/
theorem split_apply (j : (⟨3, ![R, 8, 256]⟩ : Shape).Idx) (q : Fin 2048) (h : (q : ℕ) = 256 * (j 1 : ℕ) + (j 2 : ℕ)) :
    shapeCast ⟨3, ![R, 8, 256]⟩ y hs j = y (ix2 (j 0) q) :=
  shapeCast_apply _ _ _ _ (by
    rw [Shape.rowMajor_val_three, Shape.rowMajor_val_two]
    show (j 0 : ℕ) * 2048 + (q : ℕ) = ((j 0 : ℕ) * 8 + (j 1 : ℕ)) * 256 + (j 2 : ℕ)
    omega)

/-- A matrix scaled by groups, as the reference writes it. -/
theorem reference_groups : shapeCast ⟨2, ![R, 2048]⟩ (mulf (shapeCast ⟨3, ![R, 8, 256]⟩ y hs) (broadcastInDim ⟨3, ![R, 8, 256]⟩ ![0, 1, 2] hb
    (Host.rsqrt (addf (Host.divf (broadcastInDim ⟨3, ![R, 8, 1]⟩ ![0, 1] hc (Host.reduceAdd (mulf (shapeCast ⟨3, ![R, 8, 256]⟩ y hs)
    (shapeCast ⟨3, ![R, 8, 256]⟩ y hs)) (constant ⟨0, ![]⟩ .f32 0x00000000#32) hr h0)) (broadcastInDim ⟨3, ![R, 8, 1]⟩ ![] hd (constant ⟨0, ![]⟩ .f32 d)))
    (broadcastInDim ⟨3, ![R, 8, 1]⟩ ![] hd (constant ⟨0, ![]⟩ .f32 e)))))) hs' = groups d e y := by
  funext i
  have hi : (i 1 : ℕ) < 2048 := (i 1).isLt
  refine (shapeCast_apply (k := ix3 (i 0) (⟨(i 1 : ℕ) / 256, by omega⟩ : Fin 8) (⟨(i 1 : ℕ) % 256, by omega⟩ : Fin 256)) _ _ _ (by
    rw [Shape.rowMajor_val_three, Shape.rowMajor_val_two]
    show ((i 0 : ℕ) * 8 + (i 1 : ℕ) / 256) * 256 + (i 1 : ℕ) % 256 = (i 0 : ℕ) * 2048 + (i 1 : ℕ)
    omega)).trans ?_
  refine congrArg₂ (· * ·) ((split_apply y hs _ (i 1) (Nat.div_add_mod _ _).symm).trans (congrArg y (eq_ix2 i).symm)) ?_
  refine (broadcastInDim_apply _ hb _ _ (ix3 (i 0) (⟨(i 1 : ℕ) / 256, by omega⟩ : Fin 8) (0 : Fin 1)) fun a => by
    match a with
    | ⟨0, _⟩ =>
      show (i 0 : ℕ) = if R = 1 then 0 else (i 0 : ℕ)
      have : (i 0 : ℕ) < R := (i 0).isLt
      split <;> omega
    | ⟨1, _⟩ => rfl
    | ⟨2, _⟩ => rfl).trans ?_
  refine congrArg (fun s => Ideal.rsqrt (Ideal.div s _ + _)) ?_
  refine (broadcastInDim_apply _ hc _ _ (ix2 (i 0) (⟨(i 1 : ℕ) / 256, by omega⟩ : Fin 8)) fun a => by
    match a with
    | ⟨0, _⟩ =>
      show (i 0 : ℕ) = if R = 1 then 0 else (i 0 : ℕ)
      have : (i 0 : ℕ) < R := (i 0).isLt
      split <;> omega
    | ⟨1, _⟩ => rfl).trans ?_
  refine (Host.reduceAdd_apply ..).trans ((Ideal.hostReduceAdd_r3_a2 _ _ _ _).trans ?_)
  refine (congrArg (· + _) Ideal.ofBits_zero_f32).trans ((zero_add _).trans (Finset.sum_congr rfl fun k _ => ?_))
  have h := split_apply y hs (ix3 (i 0) (⟨(i 1 : ℕ) / 256, by omega⟩ : Fin 8) k) (fellow (i 1) k) rfl
  exact congrArg₂ (· * ·) h h

end reference

end Cert.Rows

end
-- ==== Proof.GroupNorm.lean ====
/-
  The norm over groups of columns of the forward pass, on blocks of 256 rows: where the blocks stand, what the kernel writes into its
  block, and so, by the lemmas of `Groups`, what the call leaves.
-/
module

public import proofs.«01_k».proof.Defs
public import proofs.«01_k».proof.Proof.Groups
public import proofs.«01_k».proof.Proof.Gen.GNorm.Frame
public import proofs.«01_k».proof.Proof.Gen.GNormIdeal.Value
public import proofs.«01_k».proof.Proof.Gen.GNormReferenceIdeal.Run
public import Idealize.ShloMosaic.Lib.Pipeline.ValueKit
public import Idealize.ShloMosaic.Lib.Quiescent
public import Idealize.ShloMosaic.Lib.Claim

@[expose] public section

set_option maxRecDepth 16384

noncomputable section

namespace Cert.GNormIdeal.Whole

open Idealize.ShloMosaic hiding ix1 ix2
open Idealize.ShloMosaic.TcCoe Idealize.SL.Sem
open Idealize.ShloMosaic.ValueIdx (ix1 ix2 eq_ix2)
open Cert.GNormIdeal Cert.GNormIdeal.Gen
open Cert.Rows
open Cert.Product (Reads)

variable (m : (ℓ : Loc nD τ sig) → Buf (Elt Ideal) ℓ) (c : Dev nD)

/-- Where the blocks of a point stand. -/
theorem place : ∀ t : Fin cfg0.N, win0_0.index t = ![t.1, 0] ∧ win0_1.index t = ![t.1, 0] ∧ win0_2.index t = ![t.1, 0] ∧ win0_3.index t = ![t.1, 2] ∧
    win0_4.index t = ![0, 0] ∧ win0_5.index t = ![0, 0] ∧ win0_6.index t = ![t.1, 0] :=
  (by decide +kernel : ∀ t : Fin grid0.N, _)

/-- One group, as the kernel writes it. -/
theorem piece (a b x z : Mat 256 256) (v g : Mat 1 256) :
    k0_pay58 (F := Ideal) a b x z v g = fun i => scale 0x43800000#32 0x358637BD#32 (gated a b x z v) i * g (ix2 0 (i 1)) :=
  (congrArg₂ (fun y k : FVec Ideal S256x256 .f32 => mulf (mulf y (broadcastTo S256x256 (rsqrt (addf (divf (shapeCast S256x1
    (multiReduction .add [1] S256 (mulf y y) 0x00000000#32 reduces_S256x256_S256 (.inl rfl) rfl) shapeCasts_S256_S256x1)
    (broadcast S256x1 (Scalar.ofBits .f32 0x43800000#32))) (broadcast S256x1 (Scalar.ofBits .f32 0x358637BD#32)))) broadcasts_S256x1_S256x256)) k)
    (kernel_gated a b x z v broadcasts_S1x256_S256x256) (kernel_row g broadcasts_S1x256_S256x256)).trans
    (congrArg (fun s : FVec Ideal S256x256 .f32 => mulf s (fun i => g (ix2 0 (i 1))))
      (kernel_scale 0x43800000#32 0x358637BD#32 (gated a b x z v) reduces_S256x256_S256 shapeCasts_S256_S256x1 broadcasts_S256x1_S256x256 (.inl rfl) rfl))

/-- The eight groups joined. -/
theorem pieces (p : Fin 8 → Mat 256 256) (a b x z : Mat 256 2048) (v g : Mat 1 2048)
    (hs : ∀ n : Fin 8, (⟨2, ![256, 2048]⟩ : Shape).Slices ![0, 256 * n.1] ⟨2, ![256, 256]⟩)
    (hv : ∀ n : Fin 8, (⟨2, ![1, 2048]⟩ : Shape).Slices ![0, 256 * n.1] ⟨2, ![1, 256]⟩)
    (hp : ∀ n : Fin 8, p n = k0_pay58 (F := Ideal) (extractStridedSlice S256x256 ![0, 256 * n.1] a (hs n))
      (extractStridedSlice S256x256 ![0, 256 * n.1] b (hs n)) (extractStridedSlice S256x256 ![0, 256 * n.1] x (hs n))
      (extractStridedSlice S256x256 ![0, 256 * n.1] z (hs n)) (extractStridedSlice S1x256 ![0, 256 * n.1] v (hv n))
      (extractStridedSlice S1x256 ![0, 256 * n.1] g (hv n))) (hc) :
    concatenate S256x2048 1 [(⟨S256x256, p 0⟩ : (s : Shape) × (s.Idx → EReal)), ⟨S256x256, p 1⟩, ⟨S256x256, p 2⟩, ⟨S256x256, p 3⟩, ⟨S256x256, p 4⟩,
      ⟨S256x256, p 5⟩, ⟨S256x256, p 6⟩, ⟨S256x256, p 7⟩] hc = groupNorm 0x43800000#32 0x358637BD#32 a b x z v g := by
  funext y
  have hy : (y 1 : ℕ) < 2048 := (y 1).isLt
  refine (concatenate_ofFn_apply (s₁ := S256x256) 1 p hc rfl 256 rfl y (⟨(y 1 : ℕ) / 256, by omega⟩ : Fin 8) rfl
    (ix2 (y 0) (⟨(y 1 : ℕ) % 256, by omega⟩ : Fin 256)) rfl (fun k hk => by
      match k with
      | ⟨0, _⟩ => rfl
      | ⟨1, _⟩ => exact absurd rfl hk)).trans ?_
  have hz : 256 * ((y 1 : ℕ) / 256) + 256 ≤ 2048 := by omega
  refine (congrFun ((hp _).trans (piece ..)) _).trans ?_
  rw [slice_eq a _ hz, slice_eq b _ hz, slice_eq x _ hz, slice_eq z _ hz, slice_eq v _ hz, slice_eq g _ hz]
  exact group_apply _ _ a b x z v g _ hz y _ rfl (Nat.div_add_mod _ _).symm

/-- The groups are columns of a block. -/
theorem rows_slices : ∀ n : Fin 8, (⟨2, ![256, 2048]⟩ : Shape).Slices ![0, 256 * n.1] ⟨2, ![256, 256]⟩ := by decide

/-- The groups are columns of a row. -/
theorem row_slices : ∀ n : Fin 8, (⟨2, ![1, 2048]⟩ : Shape).Slices ![0, 256 * n.1] ⟨2, ![1, 256]⟩ := by decide

/-- The group `n` of a block. -/
def pieceOf (n : Fin 8) (a b x z : Mat 256 2048) (v g : Mat 1 2048) : Mat 256 256 :=
  k0_pay58 (F := Ideal) (extractStridedSlice S256x256 ![0, 256 * n.1] a (rows_slices n))
      (extractStridedSlice S256x256 ![0, 256 * n.1] b (rows_slices n)) (extractStridedSlice S256x256 ![0, 256 * n.1] x (rows_slices n))
      (extractStridedSlice S256x256 ![0, 256 * n.1] z (rows_slices n)) (extractStridedSlice S1x256 ![0, 256 * n.1] v (row_slices n))
      (extractStridedSlice S1x256 ![0, 256 * n.1] g (row_slices n))

variable (a b x z : Mat 256 2048) (v g : Mat 1 2048)

/-! The payloads of the pieces 0 to 5, and the joining of them with the pieces 6 and 7: the pieces differ in which columns they take. -/

theorem piece0 : k0_pay50 (F := Ideal) (k0_pay2 a) (k0_pay10 b) (k0_pay18 x) (k0_pay27 z) (k0_pay35 v) g = pieceOf 0 a b x z v g := rfl

theorem piece1 : k0_pay54 (F := Ideal) (k0_pay19 x) (k0_pay28 z) (k0_pay36 v) (k0_pay43 g) (k0_pay51 (k0_pay3 a) (k0_pay11 b)) (k0_pay52 (k0_pay19 x)) k0_pay53 =
    pieceOf 1 a b x z v g := rfl

theorem piece2 : k0_pay57 (F := Ideal) (k0_pay44 g) (k0_pay55 (k0_pay4 a) (k0_pay12 b) (k0_pay20 x) (k0_pay29 z) (k0_pay37 v))
        (k0_pay56 (k0_pay4 a) (k0_pay12 b) (k0_pay20 x) (k0_pay29 z) (k0_pay37 v)) = pieceOf 2 a b x z v g := rfl

theorem piece3 : k0_pay58 (F := Ideal) (k0_pay5 a) (k0_pay13 b) (k0_pay21 x) (k0_pay30 z) (k0_pay38 v) (k0_pay45 g) = pieceOf 3 a b x z v g := rfl

theorem piece4 : k0_pay61 (F := Ideal) (k0_pay22 x) (k0_pay31 z) (k0_pay39 v) (k0_pay46 g) (k0_pay59 (k0_pay6 a) (k0_pay14 b)) (k0_pay60 (k0_pay22 x)) =
    pieceOf 4 a b x z v g := rfl

theorem piece5 : k0_pay64 (F := Ideal) (k0_pay32 z) (k0_pay47 g) (k0_pay62 (k0_pay7 a) (k0_pay15 b) (k0_pay23 x) (k0_pay40 v)) (k0_pay63 (k0_pay32 z)) =
    pieceOf 5 a b x z v g := rfl

theorem last (p0 p1 p2 p3 p4 p5 : Mat 256 256) : k0_pay1 (F := Ideal) (k0_pay9 a) (k0_pay17 b) (k0_pay25 x) (k0_pay34 z) (k0_pay42 v) (k0_pay48 g) (k0_pay49 g)
    p0 p1 p2 p3 p4 p5 (k0_pay65 (k0_pay8 a) (k0_pay16 b) (k0_pay24 x) (k0_pay33 z) (k0_pay41 v)) =
    concatenate S256x2048 1 [(⟨S256x256, p0⟩ : (s : Shape) × (s.Idx → EReal)), ⟨S256x256, p1⟩, ⟨S256x256, p2⟩, ⟨S256x256, p3⟩, ⟨S256x256, p4⟩,
      ⟨S256x256, p5⟩, ⟨S256x256, pieceOf 6 a b x z v g⟩, ⟨S256x256, pieceOf 7 a b x z v g⟩]
      concatenates_S256x256_S256x256_S256x256_S256x256_S256x256_S256x256_S256x256_S256x256_S256x2048_d1 := rfl

/-- What the kernel writes into its block. -/
theorem payload :
    k0_pay1 (F := Ideal) (k0_pay9 a) (k0_pay17 b) (k0_pay25 x) (k0_pay34 z) (k0_pay42 v) (k0_pay48 g) (k0_pay49 g)
      (k0_pay50 (k0_pay2 a) (k0_pay10 b) (k0_pay18 x) (k0_pay27 z) (k0_pay35 v) g)
      (k0_pay54 (k0_pay19 x) (k0_pay28 z) (k0_pay36 v) (k0_pay43 g) (k0_pay51 (k0_pay3 a) (k0_pay11 b)) (k0_pay52 (k0_pay19 x)) k0_pay53)
      (k0_pay57 (k0_pay44 g) (k0_pay55 (k0_pay4 a) (k0_pay12 b) (k0_pay20 x) (k0_pay29 z) (k0_pay37 v))
        (k0_pay56 (k0_pay4 a) (k0_pay12 b) (k0_pay20 x) (k0_pay29 z) (k0_pay37 v)))
      (k0_pay58 (k0_pay5 a) (k0_pay13 b) (k0_pay21 x) (k0_pay30 z) (k0_pay38 v) (k0_pay45 g))
      (k0_pay61 (k0_pay22 x) (k0_pay31 z) (k0_pay39 v) (k0_pay46 g) (k0_pay59 (k0_pay6 a) (k0_pay14 b)) (k0_pay60 (k0_pay22 x)))
      (k0_pay64 (k0_pay32 z) (k0_pay47 g) (k0_pay62 (k0_pay7 a) (k0_pay15 b) (k0_pay23 x) (k0_pay40 v)) (k0_pay63 (k0_pay32 z)))
      (k0_pay65 (k0_pay8 a) (k0_pay16 b) (k0_pay24 x) (k0_pay33 z) (k0_pay41 v)) =
    groupNorm 0x43800000#32 0x358637BD#32 a b x z v g := by
  rw [piece0, piece1, piece2, piece3, piece4, piece5, last]
  exact pieces (fun n => pieceOf n a b x z v g) a b x z v g rows_slices row_slices (fun _ => rfl) _

/-- What the call leaves. -/
theorem final : (dats m 0 c).arrAt 6 cfg0.N = groupNorm 0x43800000#32 0x358637BD#32 (m ((c : Thread nD τ).loc main_arg0)) (m ((c : Thread nD τ).loc main_arg1))
    (columns 2048 0 (by decide) (m ((c : Thread nD τ).loc main_arg2))) (columns 2048 4096 (by decide) (m ((c : Thread nD τ).loc main_arg3)))
    (m ((c : Thread nD τ).loc main_arg4)) (m ((c : Thread nD τ).loc main_arg5)) := by
  refine (dats m 0 c).arrAt_eq_of_covers 6 _ (by decide +kernel) fun t _ y => ?_
  have h0 : Reads (r := 256) (k := 2048) (M := 16384) (K := 2048) (iblk m c 0 t) (m ((c : Thread nD τ).loc main_arg0)) (t.1 * 256) 0 :=
    fun p => ⟨_, rfl, by blk_simp [place t], by blk_simp [place t]⟩
  have h1 : Reads (r := 256) (k := 2048) (M := 16384) (K := 2048) (iblk m c 1 t) (m ((c : Thread nD τ).loc main_arg1)) (t.1 * 256) 0 :=
    fun p => ⟨_, rfl, by blk_simp [place t], by blk_simp [place t]⟩
  have h2 : Reads (r := 256) (k := 2048) (M := 16384) (K := 4096) (iblk m c 2 t) (m ((c : Thread nD τ).loc main_arg2)) (t.1 * 256) 0 :=
    fun p => ⟨_, rfl, by blk_simp [place t], by blk_simp [place t]⟩
  have h3 : Reads (r := 256) (k := 2048) (M := 16384) (K := 10368) (X0_3 m c t) (m ((c : Thread nD τ).loc main_arg3)) (t.1 * 256) 4096 :=
    fun p => ⟨_, dif_pos (moved0_3 t p), by blk_simp [place t], by blk_simp [place t]⟩
  have h4 : Reads (r := 1) (k := 2048) (M := 1) (K := 2048) (iblk m c 4 t) (m ((c : Thread nD τ).loc main_arg4)) 0 0 :=
    fun p => ⟨_, rfl, by blk_simp [place t], by blk_simp [place t]⟩
  have h5 : Reads (r := 1) (k := 2048) (M := 1) (K := 2048) (iblk m c 5 t) (m ((c : Thread nD τ).loc main_arg5)) 0 0 :=
    fun p => ⟨_, rfl, by blk_simp [place t], by blk_simp [place t]⟩
  rw [after0_6]; unfold outsAt0; frame_out
  refine (congrFun (payload ..) y).trans ?_
  have h := groupNorm_block 0x43800000#32 0x358637BD#32 h0 h1 (reads_columns (by decide) h2) (reads_columns (by decide) h3) h4 h5
  exact h.apply (by blk_simp [place t]) (by blk_simp [place t])

end Cert.GNormIdeal.Whole

namespace Cert

open Idealize.ShloMosaic Idealize.ShloMosaic.TcCoe Idealize.SL.Sem
open Rows

theorem frame_GNorm : quiescent_GNorm := fun m ρ _ => GNorm.Gen.frame m ρ
theorem frame_GNormIdeal : quiescent_GNormIdeal := fun m ρ _ => GNormIdeal.Gen.frame m ρ
theorem frame_GNormReferenceIdeal : quiescent_GNormReferenceIdeal := fun m ρ _ =>
  (θ_run GNormReferenceIdeal.defs _ _).mono (fun _ h => ⟨fun c => (h c).2, sem_eq_zero_of_no_sems (by rfl) _⟩)
    (GNormReferenceIdeal.Value.run (F := Ideal) m ρ)

theorem algebraic_GNorm : algebraic_GNormIdeal_GNormReferenceIdeal := fun m g m' g' _ hA =>
  ⟨_,
    (θ_run GNormIdeal.defs _ _).mono (fun _ h c => ⟨(h c).1.trans (GNormIdeal.Whole.final m c), (h c).2⟩)
      (GNormIdeal.Value.run_blocks (F := Ideal) m g),
    (θ_run GNormReferenceIdeal.defs _ _).mono (fun _ h c => by
      refine ⟨(h c).1.trans ?_, (h c).2⟩
      unfold GNormReferenceIdeal.Value.res_main_v24
      rw [(hA c).1, (hA c).2.1, (hA c).2.2.1, (hA c).2.2.2.1, (hA c).2.2.2.2.1, (hA c).2.2.2.2.2]
      refine (congrArg₂ (fun p q : FVec Ideal ⟨2, ![16384, 2048]⟩ .f32 => mulf p q) (reference_groups 0x43800000#32 0x358637BD#32 _ _ _ _ _ _ _ _)
        (reference_row _ _)).trans ?_
      refine congrArg (fun y : Mat 16384 2048 => fun i => groups 0x43800000#32 0x358637BD#32 y i * m ((c.tc : Thread _ _).loc GNormIdeal.main_arg5) (ValueIdx.ix2 0 (i 1))) ?_
      refine (reference_gated _ _ _ _ _ _ _).trans ?_
      exact congrArg₂ (fun x z : Mat 16384 2048 => gated (m ((c.tc : Thread _ _).loc GNormIdeal.main_arg0)) (m ((c.tc : Thread _ _).loc GNormIdeal.main_arg1)) x z
        (m ((c.tc : Thread _ _).loc GNormIdeal.main_arg4))) (slice_eq (z := 0) _ GNormReferenceIdeal.Gen.slices_S16384x4096_S16384x2048_0_0 (by decide))
        (slice_eq (z := 4096) _ GNormReferenceIdeal.Gen.slices_S16384x10368_S16384x2048_0_4096 (by decide)))
      (GNormReferenceIdeal.Value.run (F := Ideal) m' g')⟩

end Cert

end
-- ==== Proof.lean ====
/-
  The certificate. Of the five calls that exchange data between the devices: each terminates without fault, leaves its argument
  as it was and every semaphore at zero, and leaves on every device the part of the reference's array that is the device's, over
  the extended reals and bit for bit. Of the call that sums the stacked pieces of the gradients, of the calls that step the weights,
  of the loss, of the products of the forward and the backward pass and of the calls of the forward pass that work row by row: the
  same on one device, over the extended reals.
-/
module

public import proofs.«01_k».proof.Defs
public import proofs.«01_k».proof.Proof.Gen.Weights
public import proofs.«01_k».proof.Proof.Gen.WeightsIdeal
public import proofs.«01_k».proof.Proof.Gen.WeightsReferenceIdeal
public import proofs.«01_k».proof.Proof.Gen.WeightsReference
public import proofs.«01_k».proof.Proof.Gen.Conv
public import proofs.«01_k».proof.Proof.Gen.ConvIdeal
public import proofs.«01_k».proof.Proof.Gen.ConvReferenceIdeal
public import proofs.«01_k».proof.Proof.Gen.ConvReference
public import proofs.«01_k».proof.Proof.Gen.Small
public import proofs.«01_k».proof.Proof.Gen.SmallIdeal
public import proofs.«01_k».proof.Proof.Gen.SmallReferenceIdeal
public import proofs.«01_k».proof.Proof.Gen.SmallReference
public import proofs.«01_k».proof.Proof.Gen.Sibling
public import proofs.«01_k».proof.Proof.Gen.SiblingIdeal
public import proofs.«01_k».proof.Proof.Gen.SiblingReferenceIdeal
public import proofs.«01_k».proof.Proof.Gen.SiblingReference
public import proofs.«01_k».proof.Proof.Gen.Chips
public import proofs.«01_k».proof.Proof.Gen.ChipsIdeal
public import proofs.«01_k».proof.Proof.Gen.ChipsReferenceIdeal
public import proofs.«01_k».proof.Proof.Gen.ChipsReference
public import proofs.«01_k».proof.Proof.WeightsValue
public import proofs.«01_k».proof.Proof.ConvValue
public import proofs.«01_k».proof.Proof.SmallValue
public import proofs.«01_k».proof.Proof.SiblingValue
public import proofs.«01_k».proof.Proof.ChipsValue
public import proofs.«01_k».proof.Proof.Gen.Pieces
public import proofs.«01_k».proof.Proof.Gen.PiecesIdeal
public import proofs.«01_k».proof.Proof.Gen.PiecesReferenceIdeal
public import proofs.«01_k».proof.Proof.Gen.AdamIn
public import proofs.«01_k».proof.Proof.Gen.AdamInIdeal
public import proofs.«01_k».proof.Proof.Gen.AdamInReferenceIdeal
public import proofs.«01_k».proof.Proof.Gen.AdamConvA
public import proofs.«01_k».proof.Proof.Gen.AdamConvAIdeal
public import proofs.«01_k».proof.Proof.Gen.AdamConvAReferenceIdeal
public import proofs.«01_k».proof.Proof.Gen.AdamOut
public import proofs.«01_k».proof.Proof.Gen.AdamOutIdeal
public import proofs.«01_k».proof.Proof.Gen.AdamOutReferenceIdeal
public import proofs.«01_k».proof.Proof.Gen.AdamSsmConv
public import proofs.«01_k».proof.Proof.Gen.AdamSsmConvIdeal
public import proofs.«01_k».proof.Proof.Gen.AdamSsmConvReferenceIdeal
public import proofs.«01_k».proof.Proof.Gen.AdamBOut
public import proofs.«01_k».proof.Proof.Gen.AdamBOutIdeal
public import proofs.«01_k».proof.Proof.Gen.AdamBOutReferenceIdeal
public import proofs.«01_k».proof.Proof.Gen.AdamGateUp
public import proofs.«01_k».proof.Proof.Gen.AdamGateUpIdeal
public import proofs.«01_k».proof.Proof.Gen.AdamGateUpReferenceIdeal
public import proofs.«01_k».proof.Proof.Gen.AdamDown
public import proofs.«01_k».proof.Proof.Gen.AdamDownIdeal
public import proofs.«01_k».proof.Proof.Gen.AdamDownReferenceIdeal
public import proofs.«01_k».proof.Proof.Gen.AdamPle
public import proofs.«01_k».proof.Proof.Gen.AdamPleIdeal
public import proofs.«01_k».proof.Proof.Gen.AdamPleReferenceIdeal
public import proofs.«01_k».proof.Proof.Gen.AdamSmalls
public import proofs.«01_k».proof.Proof.Gen.AdamSmallsIdeal
public import proofs.«01_k».proof.Proof.Gen.AdamSmallsReferenceIdeal
public import proofs.«01_k».proof.Proof.PiecesValue
public import proofs.«01_k».proof.Proof.Gen.Loss
public import proofs.«01_k».proof.Proof.Gen.LossIdeal
public import proofs.«01_k».proof.Proof.Gen.LossReferenceIdeal
public import proofs.«01_k».proof.Proof.LossValue
public import proofs.«01_k».proof.Proof.Gen.GradX
public import proofs.«01_k».proof.Proof.Gen.GradXIdeal
public import proofs.«01_k».proof.Proof.Gen.GradXReferenceIdeal
public import proofs.«01_k».proof.Proof.ForwardProducts
public import proofs.«01_k».proof.Proof.BackwardProducts
public import proofs.«01_k».proof.Proof.WeightProducts
public import proofs.«01_k».proof.Proof.Gen.InProj
public import proofs.«01_k».proof.Proof.Gen.InProjIdeal
public import proofs.«01_k».proof.Proof.Gen.InProjReferenceIdeal
public import proofs.«01_k».proof.Proof.Gen.DtProj
public import proofs.«01_k».proof.Proof.Gen.DtProjIdeal
public import proofs.«01_k».proof.Proof.Gen.DtProjReferenceIdeal
public import proofs.«01_k».proof.Proof.Gen.AOut
public import proofs.«01_k».proof.Proof.Gen.AOutIdeal
public import proofs.«01_k».proof.Proof.Gen.AOutReferenceIdeal
public import proofs.«01_k».proof.Proof.Gen.BOut
public import proofs.«01_k».proof.Proof.Gen.BOutIdeal
public import proofs.«01_k».proof.Proof.Gen.BOutReferenceIdeal
public import proofs.«01_k».proof.Proof.Gen.GateUp
public import proofs.«01_k».proof.Proof.Gen.GateUpIdeal
public import proofs.«01_k».proof.Proof.Gen.GateUpReferenceIdeal
public import proofs.«01_k».proof.Proof.Gen.Down
public import proofs.«01_k».proof.Proof.Gen.DownIdeal
public import proofs.«01_k».proof.Proof.Gen.DownReferenceIdeal
public import proofs.«01_k».proof.Proof.Gen.Ple
public import proofs.«01_k».proof.Proof.Gen.PleIdeal
public import proofs.«01_k».proof.Proof.Gen.PleReferenceIdeal
public import proofs.«01_k».proof.Proof.Gen.Gate
public import proofs.«01_k».proof.Proof.Gen.GateIdeal
public import proofs.«01_k».proof.Proof.Gen.GateReferenceIdeal
public import proofs.«01_k».proof.Proof.Gen.GateX
public import proofs.«01_k».proof.Proof.Gen.GateXIdeal
public import proofs.«01_k».proof.Proof.Gen.GateXReferenceIdeal
public import proofs.«01_k».proof.Proof.Gen.DownX
public import proofs.«01_k».proof.Proof.Gen.DownXIdeal
public import proofs.«01_k».proof.Proof.Gen.DownXReferenceIdeal
public import proofs.«01_k».proof.Proof.Gen.GateUpX
public import proofs.«01_k».proof.Proof.Gen.GateUpXIdeal
public import proofs.«01_k».proof.Proof.Gen.GateUpXReferenceIdeal
public import proofs.«01_k».proof.Proof.Gen.OutX
public import proofs.«01_k».proof.Proof.Gen.OutXIdeal
public import proofs.«01_k».proof.Proof.Gen.OutXReferenceIdeal
public import proofs.«01_k».proof.Proof.Gen.BOutX
public import proofs.«01_k».proof.Proof.Gen.BOutXIdeal
public import proofs.«01_k».proof.Proof.Gen.BOutXReferenceIdeal
public import proofs.«01_k».proof.Proof.Gen.GateW
public import proofs.«01_k».proof.Proof.Gen.GateWIdeal
public import proofs.«01_k».proof.Proof.Gen.GateWReferenceIdeal
public import proofs.«01_k».proof.Proof.Gen.PleW
public import proofs.«01_k».proof.Proof.Gen.PleWIdeal
public import proofs.«01_k».proof.Proof.Gen.PleWReferenceIdeal
public import proofs.«01_k».proof.Proof.Gen.DownW
public import proofs.«01_k».proof.Proof.Gen.DownWIdeal
public import proofs.«01_k».proof.Proof.Gen.DownWReferenceIdeal
public import proofs.«01_k».proof.Proof.Gen.GateUpW
public import proofs.«01_k».proof.Proof.Gen.GateUpWIdeal
public import proofs.«01_k».proof.Proof.Gen.GateUpWReferenceIdeal
public import proofs.«01_k».proof.Proof.Gen.OutW
public import proofs.«01_k».proof.Proof.Gen.OutWIdeal
public import proofs.«01_k».proof.Proof.Gen.OutWReferenceIdeal
public import proofs.«01_k».proof.Proof.Gen.BOutW
public import proofs.«01_k».proof.Proof.Gen.BOutWIdeal
public import proofs.«01_k».proof.Proof.Gen.BOutWReferenceIdeal
public import proofs.«01_k».proof.Proof.Gen.InW
public import proofs.«01_k».proof.Proof.Gen.InWIdeal
public import proofs.«01_k».proof.Proof.Gen.InWReferenceIdeal
public import proofs.«01_k».proof.Proof.AdamInValue
public import proofs.«01_k».proof.Proof.AdamConvAValue
public import proofs.«01_k».proof.Proof.AdamOutValue
public import proofs.«01_k».proof.Proof.AdamSsmConvValue
public import proofs.«01_k».proof.Proof.AdamBOutValue
public import proofs.«01_k».proof.Proof.AdamGateUpValue
public import proofs.«01_k».proof.Proof.AdamDownValue
public import proofs.«01_k».proof.Proof.AdamPleValue
public import proofs.«01_k».proof.Proof.AdamSmallsValue
public import proofs.«01_k».proof.Proof.Gen.Glu
public import proofs.«01_k».proof.Proof.Gen.GluIdeal
public import proofs.«01_k».proof.Proof.Gen.GluReferenceIdeal
public import proofs.«01_k».proof.Proof.Gen.LnSilu
public import proofs.«01_k».proof.Proof.Gen.LnSiluIdeal
public import proofs.«01_k».proof.Proof.Gen.LnSiluReferenceIdeal
public import proofs.«01_k».proof.Proof.Gen.GNorm
public import proofs.«01_k».proof.Proof.Gen.GNormIdeal
public import proofs.«01_k».proof.Proof.Gen.GNormReferenceIdeal
public import proofs.«01_k».proof.Proof.Gen.Merge
public import proofs.«01_k».proof.Proof.Gen.MergeIdeal
public import proofs.«01_k».proof.Proof.Gen.MergeReferenceIdeal
public import proofs.«01_k».proof.Proof.Gen.ResLn
public import proofs.«01_k».proof.Proof.Gen.ResLnIdeal
public import proofs.«01_k».proof.Proof.Gen.ResLnReferenceIdeal
public import proofs.«01_k».proof.Proof.Gen.SwiGlu
public import proofs.«01_k».proof.Proof.Gen.SwiGluIdeal
public import proofs.«01_k».proof.Proof.Gen.SwiGluReferenceIdeal
public import proofs.«01_k».proof.Proof.Gen.PleOut
public import proofs.«01_k».proof.Proof.Gen.PleOutIdeal
public import proofs.«01_k».proof.Proof.Gen.PleOutReferenceIdeal
public import proofs.«01_k».proof.Proof.RowCalls
public import proofs.«01_k».proof.Proof.GroupNorm

@[expose] public section

noncomputable section

namespace Cert.Proof

open Idealize.ShloMosaic Idealize.SL.Sem

/-- Everything claimed. -/
theorem claim : Cert.Claim :=
  ⟨Cert.Weights.Gen.facts, Cert.WeightsIdeal.Gen.facts, Cert.WeightsReferenceIdeal.Gen.facts, Cert.WeightsReference.Gen.facts,
    Cert.Conv.Gen.facts, Cert.ConvIdeal.Gen.facts, Cert.ConvReferenceIdeal.Gen.facts, Cert.ConvReference.Gen.facts,
    Cert.Small.Gen.facts, Cert.SmallIdeal.Gen.facts, Cert.SmallReferenceIdeal.Gen.facts, Cert.SmallReference.Gen.facts,
    Cert.Sibling.Gen.facts, Cert.SiblingIdeal.Gen.facts, Cert.SiblingReferenceIdeal.Gen.facts, Cert.SiblingReference.Gen.facts,
    Cert.Chips.Gen.facts, Cert.ChipsIdeal.Gen.facts, Cert.ChipsReferenceIdeal.Gen.facts, Cert.ChipsReference.Gen.facts,
    Cert.Pieces.Gen.facts, Cert.PiecesIdeal.Gen.facts, Cert.PiecesReferenceIdeal.Gen.facts,
    Cert.AdamIn.Gen.facts, Cert.AdamInIdeal.Gen.facts, Cert.AdamInReferenceIdeal.Gen.facts,
    Cert.AdamConvA.Gen.facts, Cert.AdamConvAIdeal.Gen.facts, Cert.AdamConvAReferenceIdeal.Gen.facts,
    Cert.AdamOut.Gen.facts, Cert.AdamOutIdeal.Gen.facts, Cert.AdamOutReferenceIdeal.Gen.facts,
    Cert.AdamSsmConv.Gen.facts, Cert.AdamSsmConvIdeal.Gen.facts, Cert.AdamSsmConvReferenceIdeal.Gen.facts,
    Cert.AdamBOut.Gen.facts, Cert.AdamBOutIdeal.Gen.facts, Cert.AdamBOutReferenceIdeal.Gen.facts,
    Cert.AdamGateUp.Gen.facts, Cert.AdamGateUpIdeal.Gen.facts, Cert.AdamGateUpReferenceIdeal.Gen.facts,
    Cert.AdamDown.Gen.facts, Cert.AdamDownIdeal.Gen.facts, Cert.AdamDownReferenceIdeal.Gen.facts,
    Cert.AdamPle.Gen.facts, Cert.AdamPleIdeal.Gen.facts, Cert.AdamPleReferenceIdeal.Gen.facts,
    Cert.AdamSmalls.Gen.facts, Cert.AdamSmallsIdeal.Gen.facts, Cert.AdamSmallsReferenceIdeal.Gen.facts,
    Cert.Loss.Gen.facts, Cert.LossIdeal.Gen.facts, Cert.LossReferenceIdeal.Gen.facts,
    Cert.GradX.Gen.facts, Cert.GradXIdeal.Gen.facts, Cert.GradXReferenceIdeal.Gen.facts,
    Cert.InProj.Gen.facts, Cert.InProjIdeal.Gen.facts, Cert.InProjReferenceIdeal.Gen.facts,
    Cert.DtProj.Gen.facts, Cert.DtProjIdeal.Gen.facts, Cert.DtProjReferenceIdeal.Gen.facts,
    Cert.AOut.Gen.facts, Cert.AOutIdeal.Gen.facts, Cert.AOutReferenceIdeal.Gen.facts,
    Cert.BOut.Gen.facts, Cert.BOutIdeal.Gen.facts, Cert.BOutReferenceIdeal.Gen.facts,
    Cert.GateUp.Gen.facts, Cert.GateUpIdeal.Gen.facts, Cert.GateUpReferenceIdeal.Gen.facts,
    Cert.Down.Gen.facts, Cert.DownIdeal.Gen.facts, Cert.DownReferenceIdeal.Gen.facts,
    Cert.Ple.Gen.facts, Cert.PleIdeal.Gen.facts, Cert.PleReferenceIdeal.Gen.facts,
    Cert.Gate.Gen.facts, Cert.GateIdeal.Gen.facts, Cert.GateReferenceIdeal.Gen.facts,
    Cert.GateX.Gen.facts, Cert.GateXIdeal.Gen.facts, Cert.GateXReferenceIdeal.Gen.facts,
    Cert.DownX.Gen.facts, Cert.DownXIdeal.Gen.facts, Cert.DownXReferenceIdeal.Gen.facts,
    Cert.GateUpX.Gen.facts, Cert.GateUpXIdeal.Gen.facts, Cert.GateUpXReferenceIdeal.Gen.facts,
    Cert.OutX.Gen.facts, Cert.OutXIdeal.Gen.facts, Cert.OutXReferenceIdeal.Gen.facts,
    Cert.BOutX.Gen.facts, Cert.BOutXIdeal.Gen.facts, Cert.BOutXReferenceIdeal.Gen.facts,
    Cert.GateW.Gen.facts, Cert.GateWIdeal.Gen.facts, Cert.GateWReferenceIdeal.Gen.facts,
    Cert.PleW.Gen.facts, Cert.PleWIdeal.Gen.facts, Cert.PleWReferenceIdeal.Gen.facts,
    Cert.DownW.Gen.facts, Cert.DownWIdeal.Gen.facts, Cert.DownWReferenceIdeal.Gen.facts,
    Cert.GateUpW.Gen.facts, Cert.GateUpWIdeal.Gen.facts, Cert.GateUpWReferenceIdeal.Gen.facts,
    Cert.OutW.Gen.facts, Cert.OutWIdeal.Gen.facts, Cert.OutWReferenceIdeal.Gen.facts,
    Cert.BOutW.Gen.facts, Cert.BOutWIdeal.Gen.facts, Cert.BOutWReferenceIdeal.Gen.facts,
    Cert.InW.Gen.facts, Cert.InWIdeal.Gen.facts, Cert.InWReferenceIdeal.Gen.facts,
    Cert.Glu.Gen.facts, Cert.GluIdeal.Gen.facts, Cert.GluReferenceIdeal.Gen.facts,
    Cert.LnSilu.Gen.facts, Cert.LnSiluIdeal.Gen.facts, Cert.LnSiluReferenceIdeal.Gen.facts,
    Cert.GNorm.Gen.facts, Cert.GNormIdeal.Gen.facts, Cert.GNormReferenceIdeal.Gen.facts,
    Cert.Merge.Gen.facts, Cert.MergeIdeal.Gen.facts, Cert.MergeReferenceIdeal.Gen.facts,
    Cert.ResLn.Gen.facts, Cert.ResLnIdeal.Gen.facts, Cert.ResLnReferenceIdeal.Gen.facts,
    Cert.SwiGlu.Gen.facts, Cert.SwiGluIdeal.Gen.facts, Cert.SwiGluReferenceIdeal.Gen.facts,
    Cert.PleOut.Gen.facts, Cert.PleOutIdeal.Gen.facts, Cert.PleOutReferenceIdeal.Gen.facts,
    frame_Weights, frame_WeightsIdeal, frame_WeightsReferenceIdeal, frame_WeightsReference,
    frame_Conv, frame_ConvIdeal, frame_ConvReferenceIdeal, frame_ConvReference,
    frame_Small, frame_SmallIdeal, frame_SmallReferenceIdeal, frame_SmallReference,
    frame_Sibling, frame_SiblingIdeal, frame_SiblingReferenceIdeal, frame_SiblingReference,
    frame_Chips, frame_ChipsIdeal, frame_ChipsReferenceIdeal, frame_ChipsReference,
    frame_Pieces, frame_PiecesIdeal, frame_PiecesReferenceIdeal,
    frame_AdamIn, frame_AdamInIdeal, frame_AdamInReferenceIdeal,
    frame_AdamConvA, frame_AdamConvAIdeal, frame_AdamConvAReferenceIdeal,
    frame_AdamOut, frame_AdamOutIdeal, frame_AdamOutReferenceIdeal,
    frame_AdamSsmConv, frame_AdamSsmConvIdeal, frame_AdamSsmConvReferenceIdeal,
    frame_AdamBOut, frame_AdamBOutIdeal, frame_AdamBOutReferenceIdeal,
    frame_AdamGateUp, frame_AdamGateUpIdeal, frame_AdamGateUpReferenceIdeal,
    frame_AdamDown, frame_AdamDownIdeal, frame_AdamDownReferenceIdeal,
    frame_AdamPle, frame_AdamPleIdeal, frame_AdamPleReferenceIdeal,
    frame_AdamSmalls, frame_AdamSmallsIdeal, frame_AdamSmallsReferenceIdeal,
    frame_Loss, frame_LossIdeal, frame_LossReferenceIdeal,
    frame_GradX, frame_GradXIdeal, frame_GradXReferenceIdeal,
    frame_InProj, frame_InProjIdeal, frame_InProjReferenceIdeal,
    frame_DtProj, frame_DtProjIdeal, frame_DtProjReferenceIdeal,
    frame_AOut, frame_AOutIdeal, frame_AOutReferenceIdeal,
    frame_BOut, frame_BOutIdeal, frame_BOutReferenceIdeal,
    frame_GateUp, frame_GateUpIdeal, frame_GateUpReferenceIdeal,
    frame_Down, frame_DownIdeal, frame_DownReferenceIdeal,
    frame_Ple, frame_PleIdeal, frame_PleReferenceIdeal,
    frame_Gate, frame_GateIdeal, frame_GateReferenceIdeal,
    frame_GateX, frame_GateXIdeal, frame_GateXReferenceIdeal,
    frame_DownX, frame_DownXIdeal, frame_DownXReferenceIdeal,
    frame_GateUpX, frame_GateUpXIdeal, frame_GateUpXReferenceIdeal,
    frame_OutX, frame_OutXIdeal, frame_OutXReferenceIdeal,
    frame_BOutX, frame_BOutXIdeal, frame_BOutXReferenceIdeal,
    frame_GateW, frame_GateWIdeal, frame_GateWReferenceIdeal,
    frame_PleW, frame_PleWIdeal, frame_PleWReferenceIdeal,
    frame_DownW, frame_DownWIdeal, frame_DownWReferenceIdeal,
    frame_GateUpW, frame_GateUpWIdeal, frame_GateUpWReferenceIdeal,
    frame_OutW, frame_OutWIdeal, frame_OutWReferenceIdeal,
    frame_BOutW, frame_BOutWIdeal, frame_BOutWReferenceIdeal,
    frame_InW, frame_InWIdeal, frame_InWReferenceIdeal,
    frame_Glu, frame_GluIdeal, frame_GluReferenceIdeal,
    frame_LnSilu, frame_LnSiluIdeal, frame_LnSiluReferenceIdeal,
    frame_GNorm, frame_GNormIdeal, frame_GNormReferenceIdeal,
    frame_Merge, frame_MergeIdeal, frame_MergeReferenceIdeal,
    frame_ResLn, frame_ResLnIdeal, frame_ResLnReferenceIdeal,
    frame_SwiGlu, frame_SwiGluIdeal, frame_SwiGluReferenceIdeal,
    frame_PleOut, frame_PleOutIdeal, frame_PleOutReferenceIdeal,
    trivial, algebraic_Weights, bitexact_Weights,
    trivial, algebraic_Conv, bitexact_Conv,
    trivial, algebraic_Small, bitexact_Small,
    trivial, algebraic_Sibling, bitexact_Sibling,
    trivial, algebraic_Chips, bitexact_Chips,
    trivial, algebraic_Pieces,
    preserves_AdamIn, algebraic_AdamIn,
    preserves_AdamConvA, algebraic_AdamConvA,
    preserves_AdamOut, algebraic_AdamOut,
    preserves_AdamSsmConv, algebraic_AdamSsmConv,
    preserves_AdamBOut, algebraic_AdamBOut,
    preserves_AdamGateUp, algebraic_AdamGateUp,
    preserves_AdamDown, algebraic_AdamDown,
    preserves_AdamPle, algebraic_AdamPle,
    preserves_AdamSmalls, algebraic_AdamSmalls,
    trivial, algebraic_Loss,
    trivial, algebraic_GradX,
    trivial, algebraic_InProj,
    trivial, algebraic_DtProj,
    trivial, algebraic_AOut,
    trivial, algebraic_BOut,
    trivial, algebraic_GateUp,
    trivial, algebraic_Down,
    trivial, algebraic_Ple,
    trivial, algebraic_Gate,
    trivial, algebraic_GateX,
    trivial, algebraic_DownX,
    trivial, algebraic_GateUpX,
    trivial, algebraic_OutX,
    trivial, algebraic_BOutX,
    trivial, algebraic_GateW,
    trivial, algebraic_PleW,
    trivial, algebraic_DownW,
    trivial, algebraic_GateUpW,
    trivial, algebraic_OutW,
    trivial, algebraic_BOutW,
    trivial, algebraic_InW,
    trivial, algebraic_Glu,
    trivial, algebraic_LnSilu,
    trivial, algebraic_GNorm,
    trivial, algebraic_Merge,
    trivial, algebraic_ResLn,
    trivial, algebraic_SwiGlu,
    trivial, algebraic_PleOut⟩

end Cert.Proof

end
